-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_finite_sgu [hPre_finite_sgu : Cert.Pre_finite_sgu.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))).2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))).2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2 = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnf [hPre_finite_attnf : Cert.Pre_finite_attnf.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnf [hPre_finite_attnf : Cert.Pre_finite_attnf.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MmCols (m : (ℓ : Loc Cert.MmCols.nD Cert.MmCols.τ Cert.MmCols.sig) → Buf (Elt Bits) ℓ) : Prop :=
  True

def Pre_MmColsIdeal (m : (ℓ : Loc Cert.MmColsIdeal.nD Cert.MmColsIdeal.τ Cert.MmColsIdeal.sig) → Buf (Elt Ideal) ℓ) : Prop :=
  True

def Pre_MmColsRefIdeal (m : (ℓ : Loc Cert.MmColsRefIdeal.nD Cert.MmColsRefIdeal.τ Cert.MmColsRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmNtCols (m : (ℓ : Loc Cert.MmNtCols.nD Cert.MmNtCols.τ Cert.MmNtCols.sig) → Buf (Elt Bits) ℓ) : Prop :=
  True

def Pre_MmNtColsIdeal (m : (ℓ : Loc Cert.MmNtColsIdeal.nD Cert.MmNtColsIdeal.τ Cert.MmNtColsIdeal.sig) → Buf (Elt Ideal) ℓ) : Prop :=
  True

def Pre_MmNtColsRefIdeal (m : (ℓ : Loc Cert.MmNtColsRefIdeal.nD Cert.MmNtColsRefIdeal.τ Cert.MmNtColsRefIdeal.sig) → Buf (Elt Ideal) ℓ) : Prop :=
  True

def Pre_MmTnCols (m : (ℓ : Loc Cert.MmTnCols.nD Cert.MmTnCols.τ Cert.MmTnCols.sig) → Buf (Elt Bits) ℓ) : Prop :=
  True

def Pre_MmTnColsIdeal (m : (ℓ : Loc Cert.MmTnColsIdeal.nD Cert.MmTnColsIdeal.τ Cert.MmTnColsIdeal.sig) → Buf (Elt Ideal) ℓ) : Prop :=
  True

def Pre_MmTnColsRefIdeal (m : (ℓ : Loc Cert.MmTnColsRefIdeal.nD Cert.MmTnColsRefIdeal.τ Cert.MmTnColsRefIdeal.sig) → Buf (Elt Ideal) ℓ) : Prop :=
  True

def Pre_MmTnRows (m : (ℓ : Loc Cert.MmTnRows.nD Cert.MmTnRows.τ Cert.MmTnRows.sig) → Buf (Elt Bits) ℓ) : Prop :=
  True

def Pre_MmTnRowsIdeal (m : (ℓ : Loc Cert.MmTnRowsIdeal.nD Cert.MmTnRowsIdeal.τ Cert.MmTnRowsIdeal.sig) → Buf (Elt Ideal) ℓ) : Prop :=
  True

def Pre_MmTnRowsRefIdeal (m : (ℓ : Loc Cert.MmTnRowsRefIdeal.nD Cert.MmTnRowsRefIdeal.τ Cert.MmTnRowsRefIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwgu (m : (ℓ : Loc Cert.FfnDwgu.nD Cert.FfnDwgu.τ Cert.FfnDwgu.sig) → Buf (Elt Bits) ℓ) : Prop :=
  True

def Pre_FfnDwguIdeal (m : (ℓ : Loc Cert.FfnDwguIdeal.nD Cert.FfnDwguIdeal.τ Cert.FfnDwguIdeal.sig) → Buf (Elt Ideal) ℓ) : Prop :=
  True

def Pre_FfnDwguRefIdeal (m : (ℓ : Loc Cert.FfnDwguRefIdeal.nD Cert.FfnDwguRefIdeal.τ Cert.FfnDwguRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamBig (m : (ℓ : Loc Cert.AdamBig.nD Cert.AdamBig.τ Cert.AdamBig.sig) → Buf (Elt Bits) ℓ) : Prop :=
  True

def Pre_AdamBigIdeal (m : (ℓ : Loc Cert.AdamBigIdeal.nD Cert.AdamBigIdeal.τ Cert.AdamBigIdeal.sig) → Buf (Elt Ideal) ℓ) : Prop :=
  True

def Pre_AdamBigRefIdeal (m : (ℓ : Loc Cert.AdamBigRefIdeal.nD Cert.AdamBigRefIdeal.τ Cert.AdamBigRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_finite_sgu [hSguBwdIdeal : Cert.SguBwdIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_finite_sgu m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_attnf [hAttnFwdIdeal : Cert.AttnFwdIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnf m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_attnf [hAttnFwdRefIdeal : Cert.AttnFwdRefIdeal.Facts] [hPre_finite_attnf : Cert.Pre_finite_attnf.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnf m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_MmCols [hMmCols : Cert.MmCols.Facts] : Prop :=
  ∀ (m : (ℓ : Loc Cert.MmCols.nD Cert.MmCols.τ Cert.MmCols.sig) → Buf (Elt Bits) ℓ) (g : Dev Cert.MmCols.nD → PrngReg), Pre_MmCols m →
    θ_run (Cert.MmCols.defs (F := Bits)) (onTc (τ := Cert.MmCols.τ) (Cert.MmCols.main (F := Bits))) ⟨m, fun _ => 0, g⟩ (fun r => (∀ c : Dev Cert.MmCols.nD,
      r.2.mem ((c.tc : Thread Cert.MmCols.nD Cert.MmCols.τ).loc Cert.MmCols.main_arg0) = m ((c.tc : Thread Cert.MmCols.nD Cert.MmCols.τ).loc Cert.MmCols.main_arg0)
      ∧ r.2.mem ((c.tc : Thread Cert.MmCols.nD Cert.MmCols.τ).loc Cert.MmCols.main_arg1) = m ((c.tc : Thread Cert.MmCols.nD Cert.MmCols.τ).loc Cert.MmCols.main_arg1))
      ∧ r.2.sem = fun _ => 0)

def quiescent_MmColsIdeal [hMmColsIdeal : Cert.MmColsIdeal.Facts] : Prop :=
  ∀ (m : (ℓ : Loc Cert.MmColsIdeal.nD Cert.MmColsIdeal.τ Cert.MmColsIdeal.sig) → Buf (Elt Ideal) ℓ) (g : Dev Cert.MmColsIdeal.nD → PrngReg), Pre_MmColsIdeal m →
    θ_run (Cert.MmColsIdeal.defs (F := Ideal)) (onTc (τ := Cert.MmColsIdeal.τ) (Cert.MmColsIdeal.main (F := Ideal))) ⟨m, fun _ => 0, g⟩ (fun r => (∀ c : Dev Cert.MmColsIdeal.nD,
      r.2.mem ((c.tc : Thread Cert.MmColsIdeal.nD Cert.MmColsIdeal.τ).loc Cert.MmColsIdeal.main_arg0) = m ((c.tc : Thread Cert.MmColsIdeal.nD Cert.MmColsIdeal.τ).loc Cert.MmColsIdeal.main_arg0)
      ∧ r.2.mem ((c.tc : Thread Cert.MmColsIdeal.nD Cert.MmColsIdeal.τ).loc Cert.MmColsIdeal.main_arg1) = m ((c.tc : Thread Cert.MmColsIdeal.nD Cert.MmColsIdeal.τ).loc Cert.MmColsIdeal.main_arg1))
      ∧ r.2.sem = fun _ => 0)

def quiescent_MmColsRefIdeal [hMmColsRefIdeal : Cert.MmColsRefIdeal.Facts] : Prop :=
  ∀ (m : (ℓ : Loc Cert.MmColsRefIdeal.nD Cert.MmColsRefIdeal.τ Cert.MmColsRefIdeal.sig) → Buf (Elt Ideal) ℓ) (g : Dev Cert.MmColsRefIdeal.nD → PrngReg), Pre_MmColsRefIdeal m →
    θ_run (Cert.MmColsRefIdeal.defs (F := Ideal)) (onTc (τ := Cert.MmColsRefIdeal.τ) (Cert.MmColsRefIdeal.main (F := Ideal))) ⟨m, fun _ => 0, g⟩ (fun r => (∀ c : Dev Cert.MmColsRefIdeal.nD,
      r.2.mem ((c.tc : Thread Cert.MmColsRefIdeal.nD Cert.MmColsRefIdeal.τ).loc Cert.MmColsRefIdeal.main_arg0) = m ((c.tc : Thread Cert.MmColsRefIdeal.nD Cert.MmColsRefIdeal.τ).loc Cert.MmColsRefIdeal.main_arg0)
      ∧ r.2.mem ((c.tc : Thread Cert.MmColsRefIdeal.nD Cert.MmColsRefIdeal.τ).loc Cert.MmColsRefIdeal.main_arg1) = m ((c.tc : Thread Cert.MmColsRefIdeal.nD Cert.MmColsRefIdeal.τ).loc Cert.MmColsRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmNtCols [hMmNtCols : Cert.MmNtCols.Facts] : Prop :=
  ∀ (m : (ℓ : Loc Cert.MmNtCols.nD Cert.MmNtCols.τ Cert.MmNtCols.sig) → Buf (Elt Bits) ℓ) (g : Dev Cert.MmNtCols.nD → PrngReg), Pre_MmNtCols m →
    θ_run (Cert.MmNtCols.defs (F := Bits)) (onTc (τ := Cert.MmNtCols.τ) (Cert.MmNtCols.main (F := Bits))) ⟨m, fun _ => 0, g⟩ (fun r => (∀ c : Dev Cert.MmNtCols.nD,
      r.2.mem ((c.tc : Thread Cert.MmNtCols.nD Cert.MmNtCols.τ).loc Cert.MmNtCols.main_arg0) = m ((c.tc : Thread Cert.MmNtCols.nD Cert.MmNtCols.τ).loc Cert.MmNtCols.main_arg0)
      ∧ r.2.mem ((c.tc : Thread Cert.MmNtCols.nD Cert.MmNtCols.τ).loc Cert.MmNtCols.main_arg1) = m ((c.tc : Thread Cert.MmNtCols.nD Cert.MmNtCols.τ).loc Cert.MmNtCols.main_arg1))
      ∧ r.2.sem = fun _ => 0)

def quiescent_MmNtColsIdeal [hMmNtColsIdeal : Cert.MmNtColsIdeal.Facts] : Prop :=
  ∀ (m : (ℓ : Loc Cert.MmNtColsIdeal.nD Cert.MmNtColsIdeal.τ Cert.MmNtColsIdeal.sig) → Buf (Elt Ideal) ℓ) (g : Dev Cert.MmNtColsIdeal.nD → PrngReg), Pre_MmNtColsIdeal m →
    θ_run (Cert.MmNtColsIdeal.defs (F := Ideal)) (onTc (τ := Cert.MmNtColsIdeal.τ) (Cert.MmNtColsIdeal.main (F := Ideal))) ⟨m, fun _ => 0, g⟩ (fun r => (∀ c : Dev Cert.MmNtColsIdeal.nD,
      r.2.mem ((c.tc : Thread Cert.MmNtColsIdeal.nD Cert.MmNtColsIdeal.τ).loc Cert.MmNtColsIdeal.main_arg0) = m ((c.tc : Thread Cert.MmNtColsIdeal.nD Cert.MmNtColsIdeal.τ).loc Cert.MmNtColsIdeal.main_arg0)
      ∧ r.2.mem ((c.tc : Thread Cert.MmNtColsIdeal.nD Cert.MmNtColsIdeal.τ).loc Cert.MmNtColsIdeal.main_arg1) = m ((c.tc : Thread Cert.MmNtColsIdeal.nD Cert.MmNtColsIdeal.τ).loc Cert.MmNtColsIdeal.main_arg1))
      ∧ r.2.sem = fun _ => 0)

def quiescent_MmNtColsRefIdeal [hMmNtColsRefIdeal : Cert.MmNtColsRefIdeal.Facts] : Prop :=
  ∀ (m : (ℓ : Loc Cert.MmNtColsRefIdeal.nD Cert.MmNtColsRefIdeal.τ Cert.MmNtColsRefIdeal.sig) → Buf (Elt Ideal) ℓ) (g : Dev Cert.MmNtColsRefIdeal.nD → PrngReg), Pre_MmNtColsRefIdeal m →
    θ_run (Cert.MmNtColsRefIdeal.defs (F := Ideal)) (onTc (τ := Cert.MmNtColsRefIdeal.τ) (Cert.MmNtColsRefIdeal.main (F := Ideal))) ⟨m, fun _ => 0, g⟩ (fun r => (∀ c : Dev Cert.MmNtColsRefIdeal.nD,
      r.2.mem ((c.tc : Thread Cert.MmNtColsRefIdeal.nD Cert.MmNtColsRefIdeal.τ).loc Cert.MmNtColsRefIdeal.main_arg0) = m ((c.tc : Thread Cert.MmNtColsRefIdeal.nD Cert.MmNtColsRefIdeal.τ).loc Cert.MmNtColsRefIdeal.main_arg0)
      ∧ r.2.mem ((c.tc : Thread Cert.MmNtColsRefIdeal.nD Cert.MmNtColsRefIdeal.τ).loc Cert.MmNtColsRefIdeal.main_arg1) = m ((c.tc : Thread Cert.MmNtColsRefIdeal.nD Cert.MmNtColsRefIdeal.τ).loc Cert.MmNtColsRefIdeal.main_arg1))
      ∧ r.2.sem = fun _ => 0)

def quiescent_MmTnCols [hMmTnCols : Cert.MmTnCols.Facts] : Prop :=
  ∀ (m : (ℓ : Loc Cert.MmTnCols.nD Cert.MmTnCols.τ Cert.MmTnCols.sig) → Buf (Elt Bits) ℓ) (g : Dev Cert.MmTnCols.nD → PrngReg), Pre_MmTnCols m →
    θ_run (Cert.MmTnCols.defs (F := Bits)) (onTc (τ := Cert.MmTnCols.τ) (Cert.MmTnCols.main (F := Bits))) ⟨m, fun _ => 0, g⟩ (fun r => (∀ c : Dev Cert.MmTnCols.nD,
      r.2.mem ((c.tc : Thread Cert.MmTnCols.nD Cert.MmTnCols.τ).loc Cert.MmTnCols.main_arg0) = m ((c.tc : Thread Cert.MmTnCols.nD Cert.MmTnCols.τ).loc Cert.MmTnCols.main_arg0)
      ∧ r.2.mem ((c.tc : Thread Cert.MmTnCols.nD Cert.MmTnCols.τ).loc Cert.MmTnCols.main_arg1) = m ((c.tc : Thread Cert.MmTnCols.nD Cert.MmTnCols.τ).loc Cert.MmTnCols.main_arg1))
      ∧ r.2.sem = fun _ => 0)

def quiescent_MmTnColsIdeal [hMmTnColsIdeal : Cert.MmTnColsIdeal.Facts] : Prop :=
  ∀ (m : (ℓ : Loc Cert.MmTnColsIdeal.nD Cert.MmTnColsIdeal.τ Cert.MmTnColsIdeal.sig) → Buf (Elt Ideal) ℓ) (g : Dev Cert.MmTnColsIdeal.nD → PrngReg), Pre_MmTnColsIdeal m →
    θ_run (Cert.MmTnColsIdeal.defs (F := Ideal)) (onTc (τ := Cert.MmTnColsIdeal.τ) (Cert.MmTnColsIdeal.main (F := Ideal))) ⟨m, fun _ => 0, g⟩ (fun r => (∀ c : Dev Cert.MmTnColsIdeal.nD,
      r.2.mem ((c.tc : Thread Cert.MmTnColsIdeal.nD Cert.MmTnColsIdeal.τ).loc Cert.MmTnColsIdeal.main_arg0) = m ((c.tc : Thread Cert.MmTnColsIdeal.nD Cert.MmTnColsIdeal.τ).loc Cert.MmTnColsIdeal.main_arg0)
      ∧ r.2.mem ((c.tc : Thread Cert.MmTnColsIdeal.nD Cert.MmTnColsIdeal.τ).loc Cert.MmTnColsIdeal.main_arg1) = m ((c.tc : Thread Cert.MmTnColsIdeal.nD Cert.MmTnColsIdeal.τ).loc Cert.MmTnColsIdeal.main_arg1))
      ∧ r.2.sem = fun _ => 0)

def quiescent_MmTnColsRefIdeal [hMmTnColsRefIdeal : Cert.MmTnColsRefIdeal.Facts] : Prop :=
  ∀ (m : (ℓ : Loc Cert.MmTnColsRefIdeal.nD Cert.MmTnColsRefIdeal.τ Cert.MmTnColsRefIdeal.sig) → Buf (Elt Ideal) ℓ) (g : Dev Cert.MmTnColsRefIdeal.nD → PrngReg), Pre_MmTnColsRefIdeal m →
    θ_run (Cert.MmTnColsRefIdeal.defs (F := Ideal)) (onTc (τ := Cert.MmTnColsRefIdeal.τ) (Cert.MmTnColsRefIdeal.main (F := Ideal))) ⟨m, fun _ => 0, g⟩ (fun r => (∀ c : Dev Cert.MmTnColsRefIdeal.nD,
      r.2.mem ((c.tc : Thread Cert.MmTnColsRefIdeal.nD Cert.MmTnColsRefIdeal.τ).loc Cert.MmTnColsRefIdeal.main_arg0) = m ((c.tc : Thread Cert.MmTnColsRefIdeal.nD Cert.MmTnColsRefIdeal.τ).loc Cert.MmTnColsRefIdeal.main_arg0)
      ∧ r.2.mem ((c.tc : Thread Cert.MmTnColsRefIdeal.nD Cert.MmTnColsRefIdeal.τ).loc Cert.MmTnColsRefIdeal.main_arg1) = m ((c.tc : Thread Cert.MmTnColsRefIdeal.nD Cert.MmTnColsRefIdeal.τ).loc Cert.MmTnColsRefIdeal.main_arg1))
      ∧ r.2.sem = fun _ => 0)

def quiescent_MmTnRows [hMmTnRows : Cert.MmTnRows.Facts] : Prop :=
  ∀ (m : (ℓ : Loc Cert.MmTnRows.nD Cert.MmTnRows.τ Cert.MmTnRows.sig) → Buf (Elt Bits) ℓ) (g : Dev Cert.MmTnRows.nD → PrngReg), Pre_MmTnRows m →
    θ_run (Cert.MmTnRows.defs (F := Bits)) (onTc (τ := Cert.MmTnRows.τ) (Cert.MmTnRows.main (F := Bits))) ⟨m, fun _ => 0, g⟩ (fun r => (∀ c : Dev Cert.MmTnRows.nD,
      r.2.mem ((c.tc : Thread Cert.MmTnRows.nD Cert.MmTnRows.τ).loc Cert.MmTnRows.main_arg0) = m ((c.tc : Thread Cert.MmTnRows.nD Cert.MmTnRows.τ).loc Cert.MmTnRows.main_arg0)
      ∧ r.2.mem ((c.tc : Thread Cert.MmTnRows.nD Cert.MmTnRows.τ).loc Cert.MmTnRows.main_arg1) = m ((c.tc : Thread Cert.MmTnRows.nD Cert.MmTnRows.τ).loc Cert.MmTnRows.main_arg1))
      ∧ r.2.sem = fun _ => 0)

def quiescent_MmTnRowsIdeal [hMmTnRowsIdeal : Cert.MmTnRowsIdeal.Facts] : Prop :=
  ∀ (m : (ℓ : Loc Cert.MmTnRowsIdeal.nD Cert.MmTnRowsIdeal.τ Cert.MmTnRowsIdeal.sig) → Buf (Elt Ideal) ℓ) (g : Dev Cert.MmTnRowsIdeal.nD → PrngReg), Pre_MmTnRowsIdeal m →
    θ_run (Cert.MmTnRowsIdeal.defs (F := Ideal)) (onTc (τ := Cert.MmTnRowsIdeal.τ) (Cert.MmTnRowsIdeal.main (F := Ideal))) ⟨m, fun _ => 0, g⟩ (fun r => (∀ c : Dev Cert.MmTnRowsIdeal.nD,
      r.2.mem ((c.tc : Thread Cert.MmTnRowsIdeal.nD Cert.MmTnRowsIdeal.τ).loc Cert.MmTnRowsIdeal.main_arg0) = m ((c.tc : Thread Cert.MmTnRowsIdeal.nD Cert.MmTnRowsIdeal.τ).loc Cert.MmTnRowsIdeal.main_arg0)
      ∧ r.2.mem ((c.tc : Thread Cert.MmTnRowsIdeal.nD Cert.MmTnRowsIdeal.τ).loc Cert.MmTnRowsIdeal.main_arg1) = m ((c.tc : Thread Cert.MmTnRowsIdeal.nD Cert.MmTnRowsIdeal.τ).loc Cert.MmTnRowsIdeal.main_arg1))
      ∧ r.2.sem = fun _ => 0)

def quiescent_MmTnRowsRefIdeal [hMmTnRowsRefIdeal : Cert.MmTnRowsRefIdeal.Facts] : Prop :=
  ∀ (m : (ℓ : Loc Cert.MmTnRowsRefIdeal.nD Cert.MmTnRowsRefIdeal.τ Cert.MmTnRowsRefIdeal.sig) → Buf (Elt Ideal) ℓ) (g : Dev Cert.MmTnRowsRefIdeal.nD → PrngReg), Pre_MmTnRowsRefIdeal m →
    θ_run (Cert.MmTnRowsRefIdeal.defs (F := Ideal)) (onTc (τ := Cert.MmTnRowsRefIdeal.τ) (Cert.MmTnRowsRefIdeal.main (F := Ideal))) ⟨m, fun _ => 0, g⟩ (fun r => (∀ c : Dev Cert.MmTnRowsRefIdeal.nD,
      r.2.mem ((c.tc : Thread Cert.MmTnRowsRefIdeal.nD Cert.MmTnRowsRefIdeal.τ).loc Cert.MmTnRowsRefIdeal.main_arg0) = m ((c.tc : Thread Cert.MmTnRowsRefIdeal.nD Cert.MmTnRowsRefIdeal.τ).loc Cert.MmTnRowsRefIdeal.main_arg0)
      ∧ r.2.mem ((c.tc : Thread Cert.MmTnRowsRefIdeal.nD Cert.MmTnRowsRefIdeal.τ).loc Cert.MmTnRowsRefIdeal.main_arg1) = m ((c.tc : Thread Cert.MmTnRowsRefIdeal.nD Cert.MmTnRowsRefIdeal.τ).loc Cert.MmTnRowsRefIdeal.main_arg1))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwgu [hFfnDwgu : Cert.FfnDwgu.Facts] : Prop :=
  ∀ (m : (ℓ : Loc Cert.FfnDwgu.nD Cert.FfnDwgu.τ Cert.FfnDwgu.sig) → Buf (Elt Bits) ℓ) (g : Dev Cert.FfnDwgu.nD → PrngReg), Pre_FfnDwgu m →
    θ_run (Cert.FfnDwgu.defs (F := Bits)) (onTc (τ := Cert.FfnDwgu.τ) (Cert.FfnDwgu.main (F := Bits))) ⟨m, fun _ => 0, g⟩ (fun r => (∀ c : Dev Cert.FfnDwgu.nD,
      r.2.mem ((c.tc : Thread Cert.FfnDwgu.nD Cert.FfnDwgu.τ).loc Cert.FfnDwgu.main_arg0) = m ((c.tc : Thread Cert.FfnDwgu.nD Cert.FfnDwgu.τ).loc Cert.FfnDwgu.main_arg0)
      ∧ r.2.mem ((c.tc : Thread Cert.FfnDwgu.nD Cert.FfnDwgu.τ).loc Cert.FfnDwgu.main_arg1) = m ((c.tc : Thread Cert.FfnDwgu.nD Cert.FfnDwgu.τ).loc Cert.FfnDwgu.main_arg1)
      ∧ r.2.mem ((c.tc : Thread Cert.FfnDwgu.nD Cert.FfnDwgu.τ).loc Cert.FfnDwgu.main_arg2) = m ((c.tc : Thread Cert.FfnDwgu.nD Cert.FfnDwgu.τ).loc Cert.FfnDwgu.main_arg2))
      ∧ r.2.sem = fun _ => 0)

def quiescent_FfnDwguIdeal [hFfnDwguIdeal : Cert.FfnDwguIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg), Pre_FfnDwguIdeal m →
    θ_run (Cert.FfnDwguIdeal.defs (F := Ideal)) (onTc (τ := Cert.FfnDwguIdeal.τ) (Cert.FfnDwguIdeal.main (F := Ideal))) ⟨m, fun _ => 0, g⟩ (fun r => (∀ c : Dev Cert.FfnDwguIdeal.nD,
      r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
      ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1)
      ∧ r.2.mem ((c.tc : Thread Cert.FfnDwguIdeal.nD Cert.FfnDwguIdeal.τ).loc Cert.FfnDwguIdeal.main_arg2) = m ((c.tc : Thread Cert.FfnDwguIdeal.nD Cert.FfnDwguIdeal.τ).loc Cert.FfnDwguIdeal.main_arg2))
      ∧ r.2.sem = fun _ => 0)

def quiescent_FfnDwguRefIdeal [hFfnDwguRefIdeal : Cert.FfnDwguRefIdeal.Facts] : Prop :=
  ∀ (m : (ℓ : Loc Cert.FfnDwguRefIdeal.nD Cert.FfnDwguRefIdeal.τ Cert.FfnDwguRefIdeal.sig) → Buf (Elt Ideal) ℓ) (g : Dev Cert.FfnDwguRefIdeal.nD → PrngReg), Pre_FfnDwguRefIdeal m →
    θ_run (Cert.FfnDwguRefIdeal.defs (F := Ideal)) (onTc (τ := Cert.FfnDwguRefIdeal.τ) (Cert.FfnDwguRefIdeal.main (F := Ideal))) ⟨m, fun _ => 0, g⟩ (fun r => (∀ c : Dev Cert.FfnDwguRefIdeal.nD,
      r.2.mem ((c.tc : Thread Cert.FfnDwguRefIdeal.nD Cert.FfnDwguRefIdeal.τ).loc Cert.FfnDwguRefIdeal.main_arg0) = m ((c.tc : Thread Cert.FfnDwguRefIdeal.nD Cert.FfnDwguRefIdeal.τ).loc Cert.FfnDwguRefIdeal.main_arg0)
      ∧ r.2.mem ((c.tc : Thread Cert.FfnDwguRefIdeal.nD Cert.FfnDwguRefIdeal.τ).loc Cert.FfnDwguRefIdeal.main_arg1) = m ((c.tc : Thread Cert.FfnDwguRefIdeal.nD Cert.FfnDwguRefIdeal.τ).loc Cert.FfnDwguRefIdeal.main_arg1)
      ∧ r.2.mem ((c.tc : Thread Cert.FfnDwguRefIdeal.nD Cert.FfnDwguRefIdeal.τ).loc Cert.FfnDwguRefIdeal.main_arg2) = m ((c.tc : Thread Cert.FfnDwguRefIdeal.nD Cert.FfnDwguRefIdeal.τ).loc Cert.FfnDwguRefIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamBig [hAdamBig : Cert.AdamBig.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4)
      ∧ r.2.mem ((c.tc : Thread Cert.AdamBig.nD Cert.AdamBig.τ).loc Cert.AdamBig.main_arg5) = m ((c.tc : Thread Cert.AdamBig.nD Cert.AdamBig.τ).loc Cert.AdamBig.main_arg5)
      ∧ r.2.mem ((c.tc : Thread Cert.AdamBig.nD Cert.AdamBig.τ).loc Cert.AdamBig.main_arg6) = m ((c.tc : Thread Cert.AdamBig.nD Cert.AdamBig.τ).loc Cert.AdamBig.main_arg6))
      ∧ r.2.sem = fun _ => 0)

def quiescent_AdamBigIdeal [hAdamBigIdeal : Cert.AdamBigIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
      ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5)
      ∧ r.2.mem ((c.tc : Thread Cert.AdamBigIdeal.nD Cert.AdamBigIdeal.τ).loc Cert.AdamBigIdeal.main_arg6) = m ((c.tc : Thread Cert.AdamBigIdeal.nD Cert.AdamBigIdeal.τ).loc Cert.AdamBigIdeal.main_arg6))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4)
      ∧ r.2.mem ((c.tc : Thread Cert.AdamBigRefIdeal.nD Cert.AdamBigRefIdeal.τ).loc Cert.AdamBigRefIdeal.main_arg5) = m ((c.tc : Thread Cert.AdamBigRefIdeal.nD Cert.AdamBigRefIdeal.τ).loc Cert.AdamBigRefIdeal.main_arg5)
      ∧ r.2.mem ((c.tc : Thread Cert.AdamBigRefIdeal.nD Cert.AdamBigRefIdeal.τ).loc Cert.AdamBigRefIdeal.main_arg6) = m ((c.tc : Thread Cert.AdamBigRefIdeal.nD Cert.AdamBigRefIdeal.τ).loc Cert.AdamBigRefIdeal.main_arg6))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v74) = v0 c
          ∧ r.2.mem ((c.tc : Thread Cert.ConvRefIdeal.nD Cert.ConvRefIdeal.τ).loc Cert.ConvRefIdeal.main_v76) = v1 c
          ∧ r.2.mem ((c.tc : Thread Cert.ConvRefIdeal.nD Cert.ConvRefIdeal.τ).loc Cert.ConvRefIdeal.main_v78) = v2 c
          ∧ r.2.mem ((c.tc : Thread Cert.ConvRefIdeal.nD Cert.ConvRefIdeal.τ).loc Cert.ConvRefIdeal.main_v68) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_AttnBwd_AttnBwdIdeal : Prop :=
  IdealRules.named_const.Statement Cert.AttnBwdIdeal.κ "mask" .f32 0xF149F2CA#32 ⊥

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v47_0)) (v1 : (c : Dev Cert.AttnBwdIdeal.nD) → Buf (Elt Ideal) ((c.tc : Thread Cert.AttnBwdIdeal.nD Cert.AttnBwdIdeal.τ).loc Cert.AttnBwdIdeal.main_v47_1)) (v2 : (c : Dev Cert.AttnBwdIdeal.nD) → Buf (Elt Ideal) ((c.tc : Thread Cert.AttnBwdIdeal.nD Cert.AttnBwdIdeal.τ).loc Cert.AttnBwdIdeal.main_v47_2)) (v3 : (c : Dev Cert.AttnBwdIdeal.nD) → Buf (Elt Ideal) ((c.tc : Thread Cert.AttnBwdIdeal.nD Cert.AttnBwdIdeal.τ).loc Cert.AttnBwdIdeal.main_v96)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v47_0) = v0 c
          ∧ r.2.mem ((c.tc : Thread Cert.AttnBwdIdeal.nD Cert.AttnBwdIdeal.τ).loc Cert.AttnBwdIdeal.main_v47_1) = v1 c
          ∧ r.2.mem ((c.tc : Thread Cert.AttnBwdIdeal.nD Cert.AttnBwdIdeal.τ).loc Cert.AttnBwdIdeal.main_v47_2) = v2 c
          ∧ r.2.mem ((c.tc : Thread Cert.AttnBwdIdeal.nD Cert.AttnBwdIdeal.τ).loc Cert.AttnBwdIdeal.main_v96) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v153) = v0 c
          ∧ r.2.mem ((c.tc : Thread Cert.AttnRefIdeal.nD Cert.AttnRefIdeal.τ).loc Cert.AttnRefIdeal.main_v155) = v1 c
          ∧ r.2.mem ((c.tc : Thread Cert.AttnRefIdeal.nD Cert.AttnRefIdeal.τ).loc Cert.AttnRefIdeal.main_v157) = v2 c
          ∧ r.2.mem ((c.tc : Thread Cert.AttnRefIdeal.nD Cert.AttnRefIdeal.τ).loc Cert.AttnRefIdeal.main_v132) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_SguBwd_SguBwdIdeal : Prop :=
  IdealRules.named_const.Statement Cert.SguBwdIdeal.κ "rsqrt2" .f32 0x3F3504F3#32 (((Real.sqrt 2)⁻¹ : ℝ) : EReal)
  ∧ IdealRules.named_const.Statement Cert.SguBwdIdeal.κ "rsqrt2pi" .f32 0x3ECC422A#32 (((Real.sqrt (2 * Real.pi))⁻¹ : ℝ) : EReal)

def algebraic_SguBwdIdeal_SguRefIdeal_pre_finite_sgu [hSguBwdIdeal : Cert.SguBwdIdeal.Facts] [hSguRefIdeal : Cert.SguRefIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal_finite_sgu m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v3_0)) (v1 : (c : Dev Cert.SguBwdIdeal.nD) → Buf (Elt Ideal) ((c.tc : Thread Cert.SguBwdIdeal.nD Cert.SguBwdIdeal.τ).loc Cert.SguBwdIdeal.main_v3_1)) (v2 : (c : Dev Cert.SguBwdIdeal.nD) → Buf (Elt Ideal) ((c.tc : Thread Cert.SguBwdIdeal.nD Cert.SguBwdIdeal.τ).loc Cert.SguBwdIdeal.main_v3_2)) (v3 : (c : Dev Cert.SguBwdIdeal.nD) → Buf (Elt Ideal) ((c.tc : Thread Cert.SguBwdIdeal.nD Cert.SguBwdIdeal.τ).loc Cert.SguBwdIdeal.main_v3_3)) (v4 : (c : Dev Cert.SguBwdIdeal.nD) → Buf (Elt Ideal) ((c.tc : Thread Cert.SguBwdIdeal.nD Cert.SguBwdIdeal.τ).loc Cert.SguBwdIdeal.main_v3_4)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v3_0) = v0 c
          ∧ r.2.mem ((c.tc : Thread Cert.SguBwdIdeal.nD Cert.SguBwdIdeal.τ).loc Cert.SguBwdIdeal.main_v3_1) = v1 c
          ∧ r.2.mem ((c.tc : Thread Cert.SguBwdIdeal.nD Cert.SguBwdIdeal.τ).loc Cert.SguBwdIdeal.main_v3_2) = v2 c
          ∧ r.2.mem ((c.tc : Thread Cert.SguBwdIdeal.nD Cert.SguBwdIdeal.τ).loc Cert.SguBwdIdeal.main_v3_3) = v3 c
          ∧ r.2.mem ((c.tc : Thread Cert.SguBwdIdeal.nD Cert.SguBwdIdeal.τ).loc Cert.SguBwdIdeal.main_v3_4) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v127) = v0 c
          ∧ r.2.mem ((c.tc : Thread Cert.SguRefIdeal.nD Cert.SguRefIdeal.τ).loc Cert.SguRefIdeal.main_v82) = v1 c
          ∧ r.2.mem ((c.tc : Thread Cert.SguRefIdeal.nD Cert.SguRefIdeal.τ).loc Cert.SguRefIdeal.main_v128) = v2 c
          ∧ r.2.mem ((c.tc : Thread Cert.SguRefIdeal.nD Cert.SguRefIdeal.τ).loc Cert.SguRefIdeal.main_v129) = v3 c
          ∧ r.2.mem ((c.tc : Thread Cert.SguRefIdeal.nD Cert.SguRefIdeal.τ).loc Cert.SguRefIdeal.main_v130) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v6_0)) (v1 : (c : Dev Cert.FfnBwdIdeal.nD) → Buf (Elt Ideal) ((c.tc : Thread Cert.FfnBwdIdeal.nD Cert.FfnBwdIdeal.τ).loc Cert.FfnBwdIdeal.main_v6_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v6_0) = v0 c
          ∧ r.2.mem ((c.tc : Thread Cert.FfnBwdIdeal.nD Cert.FfnBwdIdeal.τ).loc Cert.FfnBwdIdeal.main_v6_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_v15) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_RmsBwd_RmsBwdIdeal : Prop :=
  True

def algebraic_RmsBwdIdeal_RmsRefIdeal [hRmsBwdIdeal : Cert.RmsBwdIdeal.Facts] [hRmsRefIdeal : Cert.RmsRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v37) = v0 c
          ∧ r.2.mem ((c.tc : Thread Cert.RmsRefIdeal.nD Cert.RmsRefIdeal.τ).loc Cert.RmsRefIdeal.main_v38) = v1 c
          ∧ r.2.mem ((c.tc : Thread Cert.RmsRefIdeal.nD Cert.RmsRefIdeal.τ).loc Cert.RmsRefIdeal.main_v39) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_LossHead_LossHeadIdeal : Prop :=
  True

def algebraic_LossHeadIdeal_LossRefIdeal [hLossHeadIdeal : Cert.LossHeadIdeal.Facts] [hLossRefIdeal : Cert.LossRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v6_0)) (v1 : (c : Dev Cert.FfnInIdeal.nD) → Buf (Elt Ideal) ((c.tc : Thread Cert.FfnInIdeal.nD Cert.FfnInIdeal.τ).loc Cert.FfnInIdeal.main_v6_1)) (v2 : (c : Dev Cert.FfnInIdeal.nD) → Buf (Elt Ideal) ((c.tc : Thread Cert.FfnInIdeal.nD Cert.FfnInIdeal.τ).loc Cert.FfnInIdeal.main_v6_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v6_0) = v0 c
          ∧ r.2.mem ((c.tc : Thread Cert.FfnInIdeal.nD Cert.FfnInIdeal.τ).loc Cert.FfnInIdeal.main_v6_1) = v1 c
          ∧ r.2.mem ((c.tc : Thread Cert.FfnInIdeal.nD Cert.FfnInIdeal.τ).loc Cert.FfnInIdeal.main_v6_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v10) = v1 c
          ∧ r.2.mem ((c.tc : Thread Cert.FfnInRefIdeal.nD Cert.FfnInRefIdeal.τ).loc Cert.FfnInRefIdeal.main_v13) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_finite_attnf [hAttnFwdIdeal : Cert.AttnFwdIdeal.Facts] [hAttnFwdRefIdeal : Cert.AttnFwdRefIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnf m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v48)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v48) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v85) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_SguFwd_SguFwdIdeal : Prop :=
  IdealRules.named_const.Statement Cert.SguFwdIdeal.κ "rsqrt2" .f32 0x3F3504F3#32 (((Real.sqrt 2)⁻¹ : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v55) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v16) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v5_0)) (v1 : (c : Dev Cert.FfnDownIdeal.nD) → Buf (Elt Ideal) ((c.tc : Thread Cert.FfnDownIdeal.nD Cert.FfnDownIdeal.τ).loc Cert.FfnDownIdeal.main_v5_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5_0) = v0 c
          ∧ r.2.mem ((c.tc : Thread Cert.FfnDownIdeal.nD Cert.FfnDownIdeal.τ).loc Cert.FfnDownIdeal.main_v5_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_v16) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v35) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_MmCols_MmColsIdeal : Prop :=
  True

def algebraic_MmColsIdeal_MmColsRefIdeal [hMmColsIdeal : Cert.MmColsIdeal.Facts] [hMmColsRefIdeal : Cert.MmColsRefIdeal.Facts] : Prop :=
  ∀ (m : (ℓ : Loc Cert.MmColsIdeal.nD Cert.MmColsIdeal.τ Cert.MmColsIdeal.sig) → Buf (Elt Ideal) ℓ) (g : Dev Cert.MmColsIdeal.nD → PrngReg)
    (m' : (ℓ : Loc Cert.MmColsRefIdeal.nD Cert.MmColsRefIdeal.τ Cert.MmColsRefIdeal.sig) → Buf (Elt Ideal) ℓ) (g' : Dev Cert.MmColsRefIdeal.nD → PrngReg), Pre_MmColsIdeal m →
    (∀ c : Dev Cert.MmColsIdeal.nD,
      m' ((c.tc : Thread Cert.MmColsRefIdeal.nD Cert.MmColsRefIdeal.τ).loc Cert.MmColsRefIdeal.main_arg0) = m ((c.tc : Thread Cert.MmColsIdeal.nD Cert.MmColsIdeal.τ).loc Cert.MmColsIdeal.main_arg0)
      ∧ m' ((c.tc : Thread Cert.MmColsRefIdeal.nD Cert.MmColsRefIdeal.τ).loc Cert.MmColsRefIdeal.main_arg1) = m ((c.tc : Thread Cert.MmColsIdeal.nD Cert.MmColsIdeal.τ).loc Cert.MmColsIdeal.main_arg1)) →
    ∃ (v0 : (c : Dev Cert.MmColsIdeal.nD) → Buf (Elt Ideal) ((c.tc : Thread Cert.MmColsIdeal.nD Cert.MmColsIdeal.τ).loc Cert.MmColsIdeal.main_v3)),
      θ_run (Cert.MmColsIdeal.defs (F := Ideal)) (onTc (τ := Cert.MmColsIdeal.τ) (Cert.MmColsIdeal.main (F := Ideal))) ⟨m, fun _ => 0, g⟩ (fun r => ∀ c : Dev Cert.MmColsIdeal.nD,
          r.2.mem ((c.tc : Thread Cert.MmColsIdeal.nD Cert.MmColsIdeal.τ).loc Cert.MmColsIdeal.main_v3) = v0 c
          ∧ r.2.mem ((c.tc : Thread Cert.MmColsIdeal.nD Cert.MmColsIdeal.τ).loc Cert.MmColsIdeal.main_arg0) = m ((c.tc : Thread Cert.MmColsIdeal.nD Cert.MmColsIdeal.τ).loc Cert.MmColsIdeal.main_arg0)
          ∧ r.2.mem ((c.tc : Thread Cert.MmColsIdeal.nD Cert.MmColsIdeal.τ).loc Cert.MmColsIdeal.main_arg1) = m ((c.tc : Thread Cert.MmColsIdeal.nD Cert.MmColsIdeal.τ).loc Cert.MmColsIdeal.main_arg1))
      ∧ θ_run (Cert.MmColsRefIdeal.defs (F := Ideal)) (onTc (τ := Cert.MmColsRefIdeal.τ) (Cert.MmColsRefIdeal.main (F := Ideal))) ⟨m', fun _ => 0, g'⟩ (fun r => ∀ c : Dev Cert.MmColsRefIdeal.nD,
          r.2.mem ((c.tc : Thread Cert.MmColsRefIdeal.nD Cert.MmColsRefIdeal.τ).loc Cert.MmColsRefIdeal.main_v2) = v0 c
          ∧ r.2.mem ((c.tc : Thread Cert.MmColsRefIdeal.nD Cert.MmColsRefIdeal.τ).loc Cert.MmColsRefIdeal.main_arg0) = m' ((c.tc : Thread Cert.MmColsRefIdeal.nD Cert.MmColsRefIdeal.τ).loc Cert.MmColsRefIdeal.main_arg0)
          ∧ r.2.mem ((c.tc : Thread Cert.MmColsRefIdeal.nD Cert.MmColsRefIdeal.τ).loc Cert.MmColsRefIdeal.main_arg1) = m' ((c.tc : Thread Cert.MmColsRefIdeal.nD Cert.MmColsRefIdeal.τ).loc Cert.MmColsRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v1)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v1) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v4) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmNtCols_MmNtColsIdeal : Prop :=
  True

def algebraic_MmNtColsIdeal_MmNtColsRefIdeal [hMmNtColsIdeal : Cert.MmNtColsIdeal.Facts] [hMmNtColsRefIdeal : Cert.MmNtColsRefIdeal.Facts] : Prop :=
  ∀ (m : (ℓ : Loc Cert.MmNtColsIdeal.nD Cert.MmNtColsIdeal.τ Cert.MmNtColsIdeal.sig) → Buf (Elt Ideal) ℓ) (g : Dev Cert.MmNtColsIdeal.nD → PrngReg)
    (m' : (ℓ : Loc Cert.MmNtColsRefIdeal.nD Cert.MmNtColsRefIdeal.τ Cert.MmNtColsRefIdeal.sig) → Buf (Elt Ideal) ℓ) (g' : Dev Cert.MmNtColsRefIdeal.nD → PrngReg), Pre_MmNtColsIdeal m →
    (∀ c : Dev Cert.MmNtColsIdeal.nD,
      m' ((c.tc : Thread Cert.MmNtColsRefIdeal.nD Cert.MmNtColsRefIdeal.τ).loc Cert.MmNtColsRefIdeal.main_arg0) = m ((c.tc : Thread Cert.MmNtColsIdeal.nD Cert.MmNtColsIdeal.τ).loc Cert.MmNtColsIdeal.main_arg0)
      ∧ m' ((c.tc : Thread Cert.MmNtColsRefIdeal.nD Cert.MmNtColsRefIdeal.τ).loc Cert.MmNtColsRefIdeal.main_arg1) = m ((c.tc : Thread Cert.MmNtColsIdeal.nD Cert.MmNtColsIdeal.τ).loc Cert.MmNtColsIdeal.main_arg1)) →
    ∃ (v0 : (c : Dev Cert.MmNtColsIdeal.nD) → Buf (Elt Ideal) ((c.tc : Thread Cert.MmNtColsIdeal.nD Cert.MmNtColsIdeal.τ).loc Cert.MmNtColsIdeal.main_v3)),
      θ_run (Cert.MmNtColsIdeal.defs (F := Ideal)) (onTc (τ := Cert.MmNtColsIdeal.τ) (Cert.MmNtColsIdeal.main (F := Ideal))) ⟨m, fun _ => 0, g⟩ (fun r => ∀ c : Dev Cert.MmNtColsIdeal.nD,
          r.2.mem ((c.tc : Thread Cert.MmNtColsIdeal.nD Cert.MmNtColsIdeal.τ).loc Cert.MmNtColsIdeal.main_v3) = v0 c
          ∧ r.2.mem ((c.tc : Thread Cert.MmNtColsIdeal.nD Cert.MmNtColsIdeal.τ).loc Cert.MmNtColsIdeal.main_arg0) = m ((c.tc : Thread Cert.MmNtColsIdeal.nD Cert.MmNtColsIdeal.τ).loc Cert.MmNtColsIdeal.main_arg0)
          ∧ r.2.mem ((c.tc : Thread Cert.MmNtColsIdeal.nD Cert.MmNtColsIdeal.τ).loc Cert.MmNtColsIdeal.main_arg1) = m ((c.tc : Thread Cert.MmNtColsIdeal.nD Cert.MmNtColsIdeal.τ).loc Cert.MmNtColsIdeal.main_arg1))
      ∧ θ_run (Cert.MmNtColsRefIdeal.defs (F := Ideal)) (onTc (τ := Cert.MmNtColsRefIdeal.τ) (Cert.MmNtColsRefIdeal.main (F := Ideal))) ⟨m', fun _ => 0, g'⟩ (fun r => ∀ c : Dev Cert.MmNtColsRefIdeal.nD,
          r.2.mem ((c.tc : Thread Cert.MmNtColsRefIdeal.nD Cert.MmNtColsRefIdeal.τ).loc Cert.MmNtColsRefIdeal.main_v4) = v0 c
          ∧ r.2.mem ((c.tc : Thread Cert.MmNtColsRefIdeal.nD Cert.MmNtColsRefIdeal.τ).loc Cert.MmNtColsRefIdeal.main_arg0) = m' ((c.tc : Thread Cert.MmNtColsRefIdeal.nD Cert.MmNtColsRefIdeal.τ).loc Cert.MmNtColsRefIdeal.main_arg0)
          ∧ r.2.mem ((c.tc : Thread Cert.MmNtColsRefIdeal.nD Cert.MmNtColsRefIdeal.τ).loc Cert.MmNtColsRefIdeal.main_arg1) = m' ((c.tc : Thread Cert.MmNtColsRefIdeal.nD Cert.MmNtColsRefIdeal.τ).loc Cert.MmNtColsRefIdeal.main_arg1))

def preserves_MmTnCols_MmTnColsIdeal : Prop :=
  True

def algebraic_MmTnColsIdeal_MmTnColsRefIdeal [hMmTnColsIdeal : Cert.MmTnColsIdeal.Facts] [hMmTnColsRefIdeal : Cert.MmTnColsRefIdeal.Facts] : Prop :=
  ∀ (m : (ℓ : Loc Cert.MmTnColsIdeal.nD Cert.MmTnColsIdeal.τ Cert.MmTnColsIdeal.sig) → Buf (Elt Ideal) ℓ) (g : Dev Cert.MmTnColsIdeal.nD → PrngReg)
    (m' : (ℓ : Loc Cert.MmTnColsRefIdeal.nD Cert.MmTnColsRefIdeal.τ Cert.MmTnColsRefIdeal.sig) → Buf (Elt Ideal) ℓ) (g' : Dev Cert.MmTnColsRefIdeal.nD → PrngReg), Pre_MmTnColsIdeal m →
    (∀ c : Dev Cert.MmTnColsIdeal.nD,
      m' ((c.tc : Thread Cert.MmTnColsRefIdeal.nD Cert.MmTnColsRefIdeal.τ).loc Cert.MmTnColsRefIdeal.main_arg0) = m ((c.tc : Thread Cert.MmTnColsIdeal.nD Cert.MmTnColsIdeal.τ).loc Cert.MmTnColsIdeal.main_arg0)
      ∧ m' ((c.tc : Thread Cert.MmTnColsRefIdeal.nD Cert.MmTnColsRefIdeal.τ).loc Cert.MmTnColsRefIdeal.main_arg1) = m ((c.tc : Thread Cert.MmTnColsIdeal.nD Cert.MmTnColsIdeal.τ).loc Cert.MmTnColsIdeal.main_arg1)) →
    ∃ (v0 : (c : Dev Cert.MmTnColsIdeal.nD) → Buf (Elt Ideal) ((c.tc : Thread Cert.MmTnColsIdeal.nD Cert.MmTnColsIdeal.τ).loc Cert.MmTnColsIdeal.main_v0)),
      θ_run (Cert.MmTnColsIdeal.defs (F := Ideal)) (onTc (τ := Cert.MmTnColsIdeal.τ) (Cert.MmTnColsIdeal.main (F := Ideal))) ⟨m, fun _ => 0, g⟩ (fun r => ∀ c : Dev Cert.MmTnColsIdeal.nD,
          r.2.mem ((c.tc : Thread Cert.MmTnColsIdeal.nD Cert.MmTnColsIdeal.τ).loc Cert.MmTnColsIdeal.main_v0) = v0 c
          ∧ r.2.mem ((c.tc : Thread Cert.MmTnColsIdeal.nD Cert.MmTnColsIdeal.τ).loc Cert.MmTnColsIdeal.main_arg0) = m ((c.tc : Thread Cert.MmTnColsIdeal.nD Cert.MmTnColsIdeal.τ).loc Cert.MmTnColsIdeal.main_arg0)
          ∧ r.2.mem ((c.tc : Thread Cert.MmTnColsIdeal.nD Cert.MmTnColsIdeal.τ).loc Cert.MmTnColsIdeal.main_arg1) = m ((c.tc : Thread Cert.MmTnColsIdeal.nD Cert.MmTnColsIdeal.τ).loc Cert.MmTnColsIdeal.main_arg1))
      ∧ θ_run (Cert.MmTnColsRefIdeal.defs (F := Ideal)) (onTc (τ := Cert.MmTnColsRefIdeal.τ) (Cert.MmTnColsRefIdeal.main (F := Ideal))) ⟨m', fun _ => 0, g'⟩ (fun r => ∀ c : Dev Cert.MmTnColsRefIdeal.nD,
          r.2.mem ((c.tc : Thread Cert.MmTnColsRefIdeal.nD Cert.MmTnColsRefIdeal.τ).loc Cert.MmTnColsRefIdeal.main_v11) = v0 c
          ∧ r.2.mem ((c.tc : Thread Cert.MmTnColsRefIdeal.nD Cert.MmTnColsRefIdeal.τ).loc Cert.MmTnColsRefIdeal.main_arg0) = m' ((c.tc : Thread Cert.MmTnColsRefIdeal.nD Cert.MmTnColsRefIdeal.τ).loc Cert.MmTnColsRefIdeal.main_arg0)
          ∧ r.2.mem ((c.tc : Thread Cert.MmTnColsRefIdeal.nD Cert.MmTnColsRefIdeal.τ).loc Cert.MmTnColsRefIdeal.main_arg1) = m' ((c.tc : Thread Cert.MmTnColsRefIdeal.nD Cert.MmTnColsRefIdeal.τ).loc Cert.MmTnColsRefIdeal.main_arg1))

def preserves_MmTnRows_MmTnRowsIdeal : Prop :=
  True

def algebraic_MmTnRowsIdeal_MmTnRowsRefIdeal [hMmTnRowsIdeal : Cert.MmTnRowsIdeal.Facts] [hMmTnRowsRefIdeal : Cert.MmTnRowsRefIdeal.Facts] : Prop :=
  ∀ (m : (ℓ : Loc Cert.MmTnRowsIdeal.nD Cert.MmTnRowsIdeal.τ Cert.MmTnRowsIdeal.sig) → Buf (Elt Ideal) ℓ) (g : Dev Cert.MmTnRowsIdeal.nD → PrngReg)
    (m' : (ℓ : Loc Cert.MmTnRowsRefIdeal.nD Cert.MmTnRowsRefIdeal.τ Cert.MmTnRowsRefIdeal.sig) → Buf (Elt Ideal) ℓ) (g' : Dev Cert.MmTnRowsRefIdeal.nD → PrngReg), Pre_MmTnRowsIdeal m →
    (∀ c : Dev Cert.MmTnRowsIdeal.nD,
      m' ((c.tc : Thread Cert.MmTnRowsRefIdeal.nD Cert.MmTnRowsRefIdeal.τ).loc Cert.MmTnRowsRefIdeal.main_arg0) = m ((c.tc : Thread Cert.MmTnRowsIdeal.nD Cert.MmTnRowsIdeal.τ).loc Cert.MmTnRowsIdeal.main_arg0)
      ∧ m' ((c.tc : Thread Cert.MmTnRowsRefIdeal.nD Cert.MmTnRowsRefIdeal.τ).loc Cert.MmTnRowsRefIdeal.main_arg1) = m ((c.tc : Thread Cert.MmTnRowsIdeal.nD Cert.MmTnRowsIdeal.τ).loc Cert.MmTnRowsIdeal.main_arg1)) →
    ∃ (v0 : (c : Dev Cert.MmTnRowsIdeal.nD) → Buf (Elt Ideal) ((c.tc : Thread Cert.MmTnRowsIdeal.nD Cert.MmTnRowsIdeal.τ).loc Cert.MmTnRowsIdeal.main_v0)),
      θ_run (Cert.MmTnRowsIdeal.defs (F := Ideal)) (onTc (τ := Cert.MmTnRowsIdeal.τ) (Cert.MmTnRowsIdeal.main (F := Ideal))) ⟨m, fun _ => 0, g⟩ (fun r => ∀ c : Dev Cert.MmTnRowsIdeal.nD,
          r.2.mem ((c.tc : Thread Cert.MmTnRowsIdeal.nD Cert.MmTnRowsIdeal.τ).loc Cert.MmTnRowsIdeal.main_v0) = v0 c
          ∧ r.2.mem ((c.tc : Thread Cert.MmTnRowsIdeal.nD Cert.MmTnRowsIdeal.τ).loc Cert.MmTnRowsIdeal.main_arg0) = m ((c.tc : Thread Cert.MmTnRowsIdeal.nD Cert.MmTnRowsIdeal.τ).loc Cert.MmTnRowsIdeal.main_arg0)
          ∧ r.2.mem ((c.tc : Thread Cert.MmTnRowsIdeal.nD Cert.MmTnRowsIdeal.τ).loc Cert.MmTnRowsIdeal.main_arg1) = m ((c.tc : Thread Cert.MmTnRowsIdeal.nD Cert.MmTnRowsIdeal.τ).loc Cert.MmTnRowsIdeal.main_arg1))
      ∧ θ_run (Cert.MmTnRowsRefIdeal.defs (F := Ideal)) (onTc (τ := Cert.MmTnRowsRefIdeal.τ) (Cert.MmTnRowsRefIdeal.main (F := Ideal))) ⟨m', fun _ => 0, g'⟩ (fun r => ∀ c : Dev Cert.MmTnRowsRefIdeal.nD,
          r.2.mem ((c.tc : Thread Cert.MmTnRowsRefIdeal.nD Cert.MmTnRowsRefIdeal.τ).loc Cert.MmTnRowsRefIdeal.main_v10) = v0 c
          ∧ r.2.mem ((c.tc : Thread Cert.MmTnRowsRefIdeal.nD Cert.MmTnRowsRefIdeal.τ).loc Cert.MmTnRowsRefIdeal.main_arg0) = m' ((c.tc : Thread Cert.MmTnRowsRefIdeal.nD Cert.MmTnRowsRefIdeal.τ).loc Cert.MmTnRowsRefIdeal.main_arg0)
          ∧ r.2.mem ((c.tc : Thread Cert.MmTnRowsRefIdeal.nD Cert.MmTnRowsRefIdeal.τ).loc Cert.MmTnRowsRefIdeal.main_arg1) = m' ((c.tc : Thread Cert.MmTnRowsRefIdeal.nD Cert.MmTnRowsRefIdeal.τ).loc Cert.MmTnRowsRefIdeal.main_arg1))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v2)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v2) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v10) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwgu_FfnDwguIdeal : Prop :=
  True

def algebraic_FfnDwguIdeal_FfnDwguRefIdeal [hFfnDwguIdeal : Cert.FfnDwguIdeal.Facts] [hFfnDwguRefIdeal : Cert.FfnDwguRefIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg)
    (m' : (ℓ : Loc Cert.FfnDwguRefIdeal.nD Cert.FfnDwguRefIdeal.τ Cert.FfnDwguRefIdeal.sig) → Buf (Elt Ideal) ℓ) (g' : Dev Cert.FfnDwguRefIdeal.nD → PrngReg), Pre_FfnDwguIdeal m →
    (∀ c : Dev Cert.FfnDwguIdeal.nD,
      m' ((c.tc : Thread Cert.FfnDwguRefIdeal.nD Cert.FfnDwguRefIdeal.τ).loc Cert.FfnDwguRefIdeal.main_arg0) = m ((c.tc : Thread Cert.FfnDwguIdeal.nD Cert.FfnDwguIdeal.τ).loc Cert.FfnDwguIdeal.main_arg0)
      ∧ m' ((c.tc : Thread Cert.FfnDwguRefIdeal.nD Cert.FfnDwguRefIdeal.τ).loc Cert.FfnDwguRefIdeal.main_arg1) = m ((c.tc : Thread Cert.FfnDwguIdeal.nD Cert.FfnDwguIdeal.τ).loc Cert.FfnDwguIdeal.main_arg1)
      ∧ m' ((c.tc : Thread Cert.FfnDwguRefIdeal.nD Cert.FfnDwguRefIdeal.τ).loc Cert.FfnDwguRefIdeal.main_arg2) = m ((c.tc : Thread Cert.FfnDwguIdeal.nD Cert.FfnDwguIdeal.τ).loc Cert.FfnDwguIdeal.main_arg2)) →
    ∃ (v0 : (c : Dev Cert.FfnDwguIdeal.nD) → Buf (Elt Ideal) ((c.tc : Thread Cert.FfnDwguIdeal.nD Cert.FfnDwguIdeal.τ).loc Cert.FfnDwguIdeal.main_v4_0)) (v1 : (c : Dev Cert.FfnDwguIdeal.nD) → Buf (Elt Ideal) ((c.tc : Thread Cert.FfnDwguIdeal.nD Cert.FfnDwguIdeal.τ).loc Cert.FfnDwguIdeal.main_v4_1)),
      θ_run (Cert.FfnDwguIdeal.defs (F := Ideal)) (onTc (τ := Cert.FfnDwguIdeal.τ) (Cert.FfnDwguIdeal.main (F := Ideal))) ⟨m, fun _ => 0, g⟩ (fun r => ∀ c : Dev Cert.FfnDwguIdeal.nD,
          r.2.mem ((c.tc : Thread Cert.FfnDwguIdeal.nD Cert.FfnDwguIdeal.τ).loc Cert.FfnDwguIdeal.main_v4_0) = v0 c
          ∧ r.2.mem ((c.tc : Thread Cert.FfnDwguIdeal.nD Cert.FfnDwguIdeal.τ).loc Cert.FfnDwguIdeal.main_v4_1) = v1 c
          ∧ r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
          ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1)
          ∧ r.2.mem ((c.tc : Thread Cert.FfnDwguIdeal.nD Cert.FfnDwguIdeal.τ).loc Cert.FfnDwguIdeal.main_arg2) = m ((c.tc : Thread Cert.FfnDwguIdeal.nD Cert.FfnDwguIdeal.τ).loc Cert.FfnDwguIdeal.main_arg2))
      ∧ θ_run (Cert.FfnDwguRefIdeal.defs (F := Ideal)) (onTc (τ := Cert.FfnDwguRefIdeal.τ) (Cert.FfnDwguRefIdeal.main (F := Ideal))) ⟨m', fun _ => 0, g'⟩ (fun r => ∀ c : Dev Cert.FfnDwguRefIdeal.nD,
          r.2.mem ((c.tc : Thread Cert.FfnDwguRefIdeal.nD Cert.FfnDwguRefIdeal.τ).loc Cert.FfnDwguRefIdeal.main_v15) = v0 c
          ∧ r.2.mem ((c.tc : Thread Cert.FfnDwguRefIdeal.nD Cert.FfnDwguRefIdeal.τ).loc Cert.FfnDwguRefIdeal.main_v21) = v1 c
          ∧ r.2.mem ((c.tc : Thread Cert.FfnDwguRefIdeal.nD Cert.FfnDwguRefIdeal.τ).loc Cert.FfnDwguRefIdeal.main_arg0) = m' ((c.tc : Thread Cert.FfnDwguRefIdeal.nD Cert.FfnDwguRefIdeal.τ).loc Cert.FfnDwguRefIdeal.main_arg0)
          ∧ r.2.mem ((c.tc : Thread Cert.FfnDwguRefIdeal.nD Cert.FfnDwguRefIdeal.τ).loc Cert.FfnDwguRefIdeal.main_arg1) = m' ((c.tc : Thread Cert.FfnDwguRefIdeal.nD Cert.FfnDwguRefIdeal.τ).loc Cert.FfnDwguRefIdeal.main_arg1)
          ∧ r.2.mem ((c.tc : Thread Cert.FfnDwguRefIdeal.nD Cert.FfnDwguRefIdeal.τ).loc Cert.FfnDwguRefIdeal.main_arg2) = m' ((c.tc : Thread Cert.FfnDwguRefIdeal.nD Cert.FfnDwguRefIdeal.τ).loc Cert.FfnDwguRefIdeal.main_arg2))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v10)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v10) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v8) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamBig_AdamBigIdeal : Prop :=
  True

def algebraic_AdamBigIdeal_AdamBigRefIdeal [hAdamBigIdeal : Cert.AdamBigIdeal.Facts] [hAdamBigRefIdeal : Cert.AdamBigRefIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)
      ∧ m' ((c.tc : Thread Cert.AdamBigRefIdeal.nD Cert.AdamBigRefIdeal.τ).loc Cert.AdamBigRefIdeal.main_arg4) = m ((c.tc : Thread Cert.AdamBigIdeal.nD Cert.AdamBigIdeal.τ).loc Cert.AdamBigIdeal.main_arg4)
      ∧ m' ((c.tc : Thread Cert.AdamBigRefIdeal.nD Cert.AdamBigRefIdeal.τ).loc Cert.AdamBigRefIdeal.main_arg5) = m ((c.tc : Thread Cert.AdamBigIdeal.nD Cert.AdamBigIdeal.τ).loc Cert.AdamBigIdeal.main_arg5)
      ∧ m' ((c.tc : Thread Cert.AdamBigRefIdeal.nD Cert.AdamBigRefIdeal.τ).loc Cert.AdamBigRefIdeal.main_arg6) = m ((c.tc : Thread Cert.AdamBigIdeal.nD Cert.AdamBigIdeal.τ).loc Cert.AdamBigIdeal.main_arg6)) →
    ∃ (v0 : (c : Dev Cert.AdamBigIdeal.nD) → Buf (Elt Ideal) ((c.tc : Thread Cert.AdamBigIdeal.nD Cert.AdamBigIdeal.τ).loc Cert.AdamBigIdeal.main_v1_0)) (v1 : (c : Dev Cert.AdamBigIdeal.nD) → Buf (Elt Ideal) ((c.tc : Thread Cert.AdamBigIdeal.nD Cert.AdamBigIdeal.τ).loc Cert.AdamBigIdeal.main_v1_1)) (v2 : (c : Dev Cert.AdamBigIdeal.nD) → Buf (Elt Ideal) ((c.tc : Thread Cert.AdamBigIdeal.nD Cert.AdamBigIdeal.τ).loc Cert.AdamBigIdeal.main_v1_2)) (v3 : (c : Dev Cert.AdamBigIdeal.nD) → Buf (Elt Ideal) ((c.tc : Thread Cert.AdamBigIdeal.nD Cert.AdamBigIdeal.τ).loc Cert.AdamBigIdeal.main_v1_3)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v1_0) = v0 c
          ∧ r.2.mem ((c.tc : Thread Cert.AdamBigIdeal.nD Cert.AdamBigIdeal.τ).loc Cert.AdamBigIdeal.main_v1_1) = v1 c
          ∧ r.2.mem ((c.tc : Thread Cert.AdamBigIdeal.nD Cert.AdamBigIdeal.τ).loc Cert.AdamBigIdeal.main_v1_2) = v2 c
          ∧ r.2.mem ((c.tc : Thread Cert.AdamBigIdeal.nD Cert.AdamBigIdeal.τ).loc Cert.AdamBigIdeal.main_v1_3) = v3 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
          ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5)
          ∧ r.2.mem ((c.tc : Thread Cert.AdamBigIdeal.nD Cert.AdamBigIdeal.τ).loc Cert.AdamBigIdeal.main_arg6) = m ((c.tc : Thread Cert.AdamBigIdeal.nD Cert.AdamBigIdeal.τ).loc Cert.AdamBigIdeal.main_arg6))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v16) = v0 c
          ∧ r.2.mem ((c.tc : Thread Cert.AdamBigRefIdeal.nD Cert.AdamBigRefIdeal.τ).loc Cert.AdamBigRefIdeal.main_v40) = v1 c
          ∧ r.2.mem ((c.tc : Thread Cert.AdamBigRefIdeal.nD Cert.AdamBigRefIdeal.τ).loc Cert.AdamBigRefIdeal.main_v21) = v2 c
          ∧ r.2.mem ((c.tc : Thread Cert.AdamBigRefIdeal.nD Cert.AdamBigRefIdeal.τ).loc Cert.AdamBigRefIdeal.main_v27) = v3 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3)
          ∧ r.2.mem ((c.tc : Thread Cert.AdamBigRefIdeal.nD Cert.AdamBigRefIdeal.τ).loc Cert.AdamBigRefIdeal.main_arg4) = m' ((c.tc : Thread Cert.AdamBigRefIdeal.nD Cert.AdamBigRefIdeal.τ).loc Cert.AdamBigRefIdeal.main_arg4)
          ∧ r.2.mem ((c.tc : Thread Cert.AdamBigRefIdeal.nD Cert.AdamBigRefIdeal.τ).loc Cert.AdamBigRefIdeal.main_arg5) = m' ((c.tc : Thread Cert.AdamBigRefIdeal.nD Cert.AdamBigRefIdeal.τ).loc Cert.AdamBigRefIdeal.main_arg5)
          ∧ r.2.mem ((c.tc : Thread Cert.AdamBigRefIdeal.nD Cert.AdamBigRefIdeal.τ).loc Cert.AdamBigRefIdeal.main_arg6) = m' ((c.tc : Thread Cert.AdamBigRefIdeal.nD Cert.AdamBigRefIdeal.τ).loc Cert.AdamBigRefIdeal.main_arg6))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v4) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def Claim : Prop :=
  ∃ (hConvBwd : Cert.ConvBwd.Facts) (hConvBwdIdeal : Cert.ConvBwdIdeal.Facts) (hConvRefIdeal : Cert.ConvRefIdeal.Facts) (hAttnBwd : Cert.AttnBwd.Facts) (hAttnBwdIdeal : Cert.AttnBwdIdeal.Facts) (hAttnRefIdeal : Cert.AttnRefIdeal.Facts) (hSguBwd : Cert.SguBwd.Facts) (hSguBwdIdeal : Cert.SguBwdIdeal.Facts) (hSguRefIdeal : Cert.SguRefIdeal.Facts) (hFfnBwd : Cert.FfnBwd.Facts) (hFfnBwdIdeal : Cert.FfnBwdIdeal.Facts) (hFfnRefIdeal : Cert.FfnRefIdeal.Facts) (hRmsBwd : Cert.RmsBwd.Facts) (hRmsBwdIdeal : Cert.RmsBwdIdeal.Facts) (hRmsRefIdeal : Cert.RmsRefIdeal.Facts) (hLossHead : Cert.LossHead.Facts) (hLossHeadIdeal : Cert.LossHeadIdeal.Facts) (hLossRefIdeal : Cert.LossRefIdeal.Facts) (hFfnIn : Cert.FfnIn.Facts) (hFfnInIdeal : Cert.FfnInIdeal.Facts) (hFfnInRefIdeal : Cert.FfnInRefIdeal.Facts) (hAttnFwd : Cert.AttnFwd.Facts) (hAttnFwdIdeal : Cert.AttnFwdIdeal.Facts) (hAttnFwdRefIdeal : Cert.AttnFwdRefIdeal.Facts) (hSguFwd : Cert.SguFwd.Facts) (hSguFwdIdeal : Cert.SguFwdIdeal.Facts) (hSguFwdRefIdeal : Cert.SguFwdRefIdeal.Facts) (hMixOut : Cert.MixOut.Facts) (hMixOutIdeal : Cert.MixOutIdeal.Facts) (hMixOutRefIdeal : Cert.MixOutRefIdeal.Facts) (hFfnDown : Cert.FfnDown.Facts) (hFfnDownIdeal : Cert.FfnDownIdeal.Facts) (hFfnDownRefIdeal : Cert.FfnDownRefIdeal.Facts) (hRmsFwd : Cert.RmsFwd.Facts) (hRmsFwdIdeal : Cert.RmsFwdIdeal.Facts) (hRmsFwdRefIdeal : Cert.RmsFwdRefIdeal.Facts) (hConvFwd : Cert.ConvFwd.Facts) (hConvFwdIdeal : Cert.ConvFwdIdeal.Facts) (hConvFwdRefIdeal : Cert.ConvFwdRefIdeal.Facts) (hMmCols : Cert.MmCols.Facts) (hMmColsIdeal : Cert.MmColsIdeal.Facts) (hMmColsRefIdeal : Cert.MmColsRefIdeal.Facts) (hMmNt : Cert.MmNt.Facts) (hMmNtIdeal : Cert.MmNtIdeal.Facts) (hMmNtRefIdeal : Cert.MmNtRefIdeal.Facts) (hMmNtCols : Cert.MmNtCols.Facts) (hMmNtColsIdeal : Cert.MmNtColsIdeal.Facts) (hMmNtColsRefIdeal : Cert.MmNtColsRefIdeal.Facts) (hMmTnCols : Cert.MmTnCols.Facts) (hMmTnColsIdeal : Cert.MmTnColsIdeal.Facts) (hMmTnColsRefIdeal : Cert.MmTnColsRefIdeal.Facts) (hMmTnRows : Cert.MmTnRows.Facts) (hMmTnRowsIdeal : Cert.MmTnRowsIdeal.Facts) (hMmTnRowsRefIdeal : Cert.MmTnRowsRefIdeal.Facts) (hFfnDwd : Cert.FfnDwd.Facts) (hFfnDwdIdeal : Cert.FfnDwdIdeal.Facts) (hFfnDwdRefIdeal : Cert.FfnDwdRefIdeal.Facts) (hFfnDwgu : Cert.FfnDwgu.Facts) (hFfnDwguIdeal : Cert.FfnDwguIdeal.Facts) (hFfnDwguRefIdeal : Cert.FfnDwguRefIdeal.Facts) (hFfnDh : Cert.FfnDh.Facts) (hFfnDhIdeal : Cert.FfnDhIdeal.Facts) (hFfnDhRefIdeal : Cert.FfnDhRefIdeal.Facts) (hAdamSmall : Cert.AdamSmall.Facts) (hAdamSmallIdeal : Cert.AdamSmallIdeal.Facts) (hAdamSmallRefIdeal : Cert.AdamSmallRefIdeal.Facts) (hAdamBig : Cert.AdamBig.Facts) (hAdamBigIdeal : Cert.AdamBigIdeal.Facts) (hAdamBigRefIdeal : Cert.AdamBigRefIdeal.Facts) (hSumSlots : Cert.SumSlots.Facts) (hSumSlotsIdeal : Cert.SumSlotsIdeal.Facts) (hSumSlotsRefIdeal : Cert.SumSlotsRefIdeal.Facts) (hPairSum : Cert.PairSum.Facts) (hPairSumIdeal : Cert.PairSumIdeal.Facts) (hPairSumRefIdeal : Cert.PairSumRefIdeal.Facts) (hPre_finite_attn : Cert.Pre_finite_attn.Facts) (hPre_finite_sgu : Cert.Pre_finite_sgu.Facts) (hPre_finite_ffn : Cert.Pre_finite_ffn.Facts) (hPre_finite_attnf : Cert.Pre_finite_attnf.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_SguBwd (hSguBwd := hSguBwd)
    ∧ quiescent_SguBwdIdeal (hSguBwdIdeal := hSguBwdIdeal)
    ∧ quiescent_SguBwdIdeal_pre_finite_sgu (hSguBwdIdeal := hSguBwdIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_RmsBwd (hRmsBwd := hRmsBwd)
    ∧ quiescent_RmsBwdIdeal (hRmsBwdIdeal := hRmsBwdIdeal)
    ∧ quiescent_RmsRefIdeal (hRmsRefIdeal := hRmsRefIdeal)
    ∧ quiescent_LossHead (hLossHead := hLossHead)
    ∧ quiescent_LossHeadIdeal (hLossHeadIdeal := hLossHeadIdeal)
    ∧ quiescent_LossRefIdeal (hLossRefIdeal := hLossRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_AttnFwd (hAttnFwd := hAttnFwd)
    ∧ quiescent_AttnFwdIdeal (hAttnFwdIdeal := hAttnFwdIdeal)
    ∧ quiescent_AttnFwdIdeal_pre_finite_attnf (hAttnFwdIdeal := hAttnFwdIdeal) (hPre_finite_attnf := hPre_finite_attnf)
    ∧ quiescent_AttnFwdRefIdeal (hAttnFwdRefIdeal := hAttnFwdRefIdeal)
    ∧ quiescent_AttnFwdRefIdeal_pre_finite_attnf (hAttnFwdRefIdeal := hAttnFwdRefIdeal) (hPre_finite_attnf := hPre_finite_attnf)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MmCols (hMmCols := hMmCols)
    ∧ quiescent_MmColsIdeal (hMmColsIdeal := hMmColsIdeal)
    ∧ quiescent_MmColsRefIdeal (hMmColsRefIdeal := hMmColsRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmNtCols (hMmNtCols := hMmNtCols)
    ∧ quiescent_MmNtColsIdeal (hMmNtColsIdeal := hMmNtColsIdeal)
    ∧ quiescent_MmNtColsRefIdeal (hMmNtColsRefIdeal := hMmNtColsRefIdeal)
    ∧ quiescent_MmTnCols (hMmTnCols := hMmTnCols)
    ∧ quiescent_MmTnColsIdeal (hMmTnColsIdeal := hMmTnColsIdeal)
    ∧ quiescent_MmTnColsRefIdeal (hMmTnColsRefIdeal := hMmTnColsRefIdeal)
    ∧ quiescent_MmTnRows (hMmTnRows := hMmTnRows)
    ∧ quiescent_MmTnRowsIdeal (hMmTnRowsIdeal := hMmTnRowsIdeal)
    ∧ quiescent_MmTnRowsRefIdeal (hMmTnRowsRefIdeal := hMmTnRowsRefIdeal)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwgu (hFfnDwgu := hFfnDwgu)
    ∧ quiescent_FfnDwguIdeal (hFfnDwguIdeal := hFfnDwguIdeal)
    ∧ quiescent_FfnDwguRefIdeal (hFfnDwguRefIdeal := hFfnDwguRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamBig (hAdamBig := hAdamBig)
    ∧ quiescent_AdamBigIdeal (hAdamBigIdeal := hAdamBigIdeal)
    ∧ quiescent_AdamBigRefIdeal (hAdamBigRefIdeal := hAdamBigRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ preserves_ConvBwd_ConvBwdIdeal
    ∧ algebraic_ConvBwdIdeal_ConvRefIdeal (hConvBwdIdeal := hConvBwdIdeal) (hConvRefIdeal := hConvRefIdeal)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_SguBwd_SguBwdIdeal
    ∧ algebraic_SguBwdIdeal_SguRefIdeal_pre_finite_sgu (hSguBwdIdeal := hSguBwdIdeal) (hSguRefIdeal := hSguRefIdeal) (hPre_finite_sgu := hPre_finite_sgu)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_RmsBwd_RmsBwdIdeal
    ∧ algebraic_RmsBwdIdeal_RmsRefIdeal (hRmsBwdIdeal := hRmsBwdIdeal) (hRmsRefIdeal := hRmsRefIdeal)
    ∧ preserves_LossHead_LossHeadIdeal
    ∧ algebraic_LossHeadIdeal_LossRefIdeal (hLossHeadIdeal := hLossHeadIdeal) (hLossRefIdeal := hLossRefIdeal)
    ∧ preserves_FfnIn_FfnInIdeal
    ∧ algebraic_FfnInIdeal_FfnInRefIdeal (hFfnInIdeal := hFfnInIdeal) (hFfnInRefIdeal := hFfnInRefIdeal)
    ∧ preserves_AttnFwd_AttnFwdIdeal
    ∧ algebraic_AttnFwdIdeal_AttnFwdRefIdeal_pre_finite_attnf (hAttnFwdIdeal := hAttnFwdIdeal) (hAttnFwdRefIdeal := hAttnFwdRefIdeal) (hPre_finite_attnf := hPre_finite_attnf)
    ∧ preserves_SguFwd_SguFwdIdeal
    ∧ algebraic_SguFwdIdeal_SguFwdRefIdeal (hSguFwdIdeal := hSguFwdIdeal) (hSguFwdRefIdeal := hSguFwdRefIdeal)
    ∧ preserves_MixOut_MixOutIdeal
    ∧ algebraic_MixOutIdeal_MixOutRefIdeal (hMixOutIdeal := hMixOutIdeal) (hMixOutRefIdeal := hMixOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MmCols_MmColsIdeal
    ∧ algebraic_MmColsIdeal_MmColsRefIdeal (hMmColsIdeal := hMmColsIdeal) (hMmColsRefIdeal := hMmColsRefIdeal)
    ∧ preserves_MmNt_MmNtIdeal
    ∧ algebraic_MmNtIdeal_MmNtRefIdeal (hMmNtIdeal := hMmNtIdeal) (hMmNtRefIdeal := hMmNtRefIdeal)
    ∧ preserves_MmNtCols_MmNtColsIdeal
    ∧ algebraic_MmNtColsIdeal_MmNtColsRefIdeal (hMmNtColsIdeal := hMmNtColsIdeal) (hMmNtColsRefIdeal := hMmNtColsRefIdeal)
    ∧ preserves_MmTnCols_MmTnColsIdeal
    ∧ algebraic_MmTnColsIdeal_MmTnColsRefIdeal (hMmTnColsIdeal := hMmTnColsIdeal) (hMmTnColsRefIdeal := hMmTnColsRefIdeal)
    ∧ preserves_MmTnRows_MmTnRowsIdeal
    ∧ algebraic_MmTnRowsIdeal_MmTnRowsRefIdeal (hMmTnRowsIdeal := hMmTnRowsIdeal) (hMmTnRowsRefIdeal := hMmTnRowsRefIdeal)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwgu_FfnDwguIdeal
    ∧ algebraic_FfnDwguIdeal_FfnDwguRefIdeal (hFfnDwguIdeal := hFfnDwguIdeal) (hFfnDwguRefIdeal := hFfnDwguRefIdeal)
    ∧ preserves_FfnDh_FfnDhIdeal
    ∧ algebraic_FfnDhIdeal_FfnDhRefIdeal (hFfnDhIdeal := hFfnDhIdeal) (hFfnDhRefIdeal := hFfnDhRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamBig_AdamBigIdeal
    ∧ algebraic_AdamBigIdeal_AdamBigRefIdeal (hAdamBigIdeal := hAdamBigIdeal) (hAdamBigRefIdeal := hAdamBigRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_PairSum_PairSumIdeal
    ∧ algebraic_PairSumIdeal_PairSumRefIdeal (hPairSumIdeal := hPairSumIdeal) (hPairSumRefIdeal := hPairSumRefIdeal)
-- ==== Pre_finite_attn.lean ====
abbrev S2048x6144 : Shape := ⟨2, ![2048, 6144]⟩
abbrev S2048x2048 : Shape := ⟨2, ![2048, 2048]⟩
abbrev S8x513 : Shape := ⟨2, ![8, 513]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S2048x2048 : S_.BroadcastsInDim S2048x2048 (![] : Fin 0 → Fin S2048x2048.rank)
  bcast_S_S8x513 : S_.BroadcastsInDim S8x513 (![] : Fin 0 → Fin S8x513.rank)

variable [Facts]

def fn {F : FTy → Type} [FloatOps F] (main_arg0 : FVec F S2048x6144 .bf16) (main_arg1 : FVec F S2048x2048 .bf16) (main_arg2 : FVec F S8x513 .f32) : IVec S2048x6144 1 × IVec S2048x2048 1 × IVec S8x513 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S8x513 .f32 := Host.absf main_arg2
  let main_cst_1 : FVec F S_ .f32 := constant S_ .f32 0x7F800000#32
  let main_v9 : FVec F S8x513 .f32 := broadcastInDim S8x513 ![] bcast_S_S8x513 main_cst_1
  let main_v10 : IVec S8x513 1 := cmpf .olt main_v8 main_v9
  (main_v3, main_v7, main_v10)
-- ==== Pre_finite_attnf.lean ====
abbrev S2048x6144 : Shape := ⟨2, ![2048, 6144]⟩
abbrev S8x513 : Shape := ⟨2, ![8, 513]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S8x513 : S_.BroadcastsInDim S8x513 (![] : Fin 0 → Fin S8x513.rank)

variable [Facts]

def fn {F : FTy → Type} [FloatOps F] (main_arg0 : FVec F S2048x6144 .bf16) (main_arg1 : FVec F S8x513 .f32) : IVec S2048x6144 1 × IVec S8x513 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S8x513 .f32 := Host.absf main_arg1
  let main_cst_0 : FVec F S_ .f32 := constant S_ .f32 0x7F800000#32
  let main_v5 : FVec F S8x513 .f32 := broadcastInDim S8x513 ![] bcast_S_S8x513 main_cst_0
  let main_v6 : IVec S8x513 1 := cmpf .olt main_v4 main_v5
  (main_v3, main_v6)
-- ==== Pre_finite_ffn.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S5632x2048 .f32) (main_arg2 : FVec F S2048x5632 .bf16) (main_arg3 : FVec F S2048x5632 .bf16) : IVec S2048x2048 1 × IVec S5632x2048 1 × IVec S2048x5632 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S2048x5632 .f32 := (extf .f32 · bitsLt_bf16_f32) main_arg3
  let main_v8 : FVec F S2048x5632 .f32 := Host.absf main_v7
  let main_cst_1 : FVec F S_ .f32 := constant S_ .f32 0x7F800000#32
  let main_v9 : FVec F S2048x5632 .f32 := broadcastInDim S2048x5632 ![] bcast_S_S2048x5632 main_cst_1
  let main_v10 : IVec S2048x5632 1 := cmpf .olt main_v8 main_v9
  (main_v3, main_v6, main_v10)
-- ==== Pre_finite_sgu.lean ====
abbrev S2048x4096 : Shape := ⟨2, ![2048, 4096]⟩
abbrev S2048x2048 : Shape := ⟨2, ![2048, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2048x4096 : S_.BroadcastsInDim S2048x4096 (![] : Fin 0 → Fin S2048x4096.rank)
  bitsLt_bf16_f32 : FTy.bits .bf16 < FTy.bits .f32
  bcast_S_S2048x2048 : S_.BroadcastsInDim S2048x2048 (![] : Fin 0 → Fin S2048x2048.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v2 : IVec S2048x4096 1) (main_v6 : IVec S2048x2048 1) (main_v9 : IVec S2048 1) (main_v12 : IVec S2048 1) (main_v15 : IVec S8x128x128 1) (main_v16 : FVec F S8x128 .f32) (main_v17 : FVec F S8x128 .f32) : IVec S2048x4096 1 × IVec S2048x2048 1 × IVec S2048 1 × IVec S2048 1 × IVec S8x128x128 1 × IVec S8x128 1 :=
  let main_v18 : IVec S8x128 1 := cmpf .olt main_v16 main_v17
  (main_v2, main_v6, main_v9, main_v12, main_v15, main_v18)

def fn {F : FTy → Type} [FloatOps F] (main_arg0 : FVec F S2048x4096 .f32) (main_arg1 : FVec F S2048x2048 .bf16) (main_arg2 : FVec F S2048 .f32) (main_arg3 : FVec F S2048 .f32) (main_arg4 : FVec F S8x128x128 .f32) (main_arg5 : FVec F S8x128 .f32) : IVec S2048x4096 1 × IVec S2048x2048 1 × IVec S2048 1 × IVec S2048 1 × IVec S8x128x128 1 × IVec S8x128 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x2048 .f32 := (extf .f32 · bitsLt_bf16_f32) main_arg1
  let main_v4 : FVec F S2048x2048 .f32 := Host.absf main_v3
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : FVec F S2048 .f32 := Host.absf main_arg2
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S2048 .f32 := Host.absf main_arg3
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_v13 : FVec F S8x128x128 .f32 := Host.absf main_arg4
  let main_cst_3 : FVec F S_ .f32 := constant S_ .f32 0x7F800000#32
  let main_v14 : FVec F S8x128x128 .f32 := broadcastInDim S8x128x128 ![] bcast_S_S8x128x128 main_cst_3
  let main_v15 : IVec S8x128x128 1 := cmpf .olt main_v13 main_v14
  let main_v16 : FVec F S8x128 .f32 := Host.absf main_arg5
  let main_cst_4 : FVec F S_ .f32 := constant S_ .f32 0x7F800000#32
  let main_v17 : FVec F S8x128 .f32 := broadcastInDim S8x128 ![] bcast_S_S8x128 main_cst_4
  fn_part1 (F := F) main_v2 main_v6 main_v9 main_v12 main_v15 main_v16 main_v17
-- ==== ConvBwd.lean ====
abbrev S2048x6144 : Shape := ⟨2, ![2048, 6144]⟩
abbrev S2048x2048 : Shape := ⟨2, ![2048, 2048]⟩
abbrev S3x1024 : Shape := ⟨2, ![3, 1024]⟩
abbrev S2048x1024 : Shape := ⟨2, ![2048, 1024]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S3x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S2048x6144 : Shape := ⟨2, ![2048, 6144]⟩
abbrev S2048x2048 : Shape := ⟨2, ![2048, 2048]⟩
abbrev S3x1024 : Shape := ⟨2, ![3, 1024]⟩
abbrev S1x2048x6144 : Shape := ⟨3, ![1, 2048, 6144]⟩
abbrev S1x2048x1024 : Shape := ⟨3, ![1, 2048, 1024]⟩
abbrev S1x2048x2048 : Shape := ⟨3, ![1, 2048, 2048]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S3x1024, .f32⟩
  | .hbm, ⟨3, _⟩ => ⟨S2048x6144, .f32⟩
  | .hbm, ⟨4, _⟩ => ⟨S1x2048x6144, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S2048x2048, .f32⟩
  | .hbm, ⟨12, _⟩ => ⟨S1x2048x2048, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2x1024, .f32⟩
  | .hbm, ⟨17, _⟩ => ⟨S1x2050x1024, .f32⟩
  | .hbm, ⟨18, _⟩ => ⟨S_, .f32⟩
  | .hbm, ⟨19, _⟩ => ⟨S1x2x1024, .f32⟩
  | .hbm, ⟨20, _⟩ => ⟨S1x1024, .f32⟩
  | .hbm, ⟨21, _⟩ => ⟨S1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x1024, .f32⟩
  | .hbm, ⟨27, _⟩ => ⟨S1024, .f32⟩
  | .hbm, ⟨28, _⟩ => ⟨S1x2048x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x1024, .f32⟩
  | .hbm, ⟨34, _⟩ => ⟨S1024, .f32⟩
  | .hbm, ⟨35, _⟩ => ⟨S1x2048x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S1x2050x1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1x2050x1024, .f32⟩
  | .hbm, ⟨66, _⟩ => ⟨S1x2050x1024, .f32⟩
  | .hbm, ⟨67, _⟩ => ⟨S1x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S_, .f32⟩
  | .hbm, ⟨75, _⟩ => ⟨S1x1024, .f32⟩
  | .hbm, ⟨76, _⟩ => ⟨S1x1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S1x2050x1024, .f32⟩
  | .hbm, ⟨81, _⟩ => ⟨S1x2050x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S1x2x1024, .f32⟩
  | .hbm, ⟨87, _⟩ => ⟨S1x2048x1024, .f32⟩
  | .hbm, ⟨88, _⟩ => ⟨S1x2048x1024, .f32⟩
  | .hbm, ⟨89, _⟩ => ⟨S1x2048x1024, .f32⟩
  | .hbm, ⟨90, _⟩ => ⟨S2048x1024, .f32⟩
  | .hbm, ⟨91, _⟩ => ⟨S2048x1024, .bf16⟩
  | .hbm, ⟨92, _⟩ => ⟨S2048x1024, .f32⟩
  | .hbm, ⟨93, _⟩ => ⟨S2048x1024, .bf16⟩
  | .hbm, ⟨94, _⟩ => ⟨S2048x1024, .f32⟩
  | .hbm, ⟨95, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== AttnBwd.lean ====
abbrev S2048x6144 : Shape := ⟨2, ![2048, 6144]⟩
abbrev S2048x2048 : Shape := ⟨2, ![2048, 2048]⟩
abbrev S8x513 : Shape := ⟨2, ![8, 513]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S768 : Shape := ⟨1, ![768]⟩
abbrev S768x1 : Shape := ⟨2, ![768, 1]⟩
abbrev S513 : Shape := ⟨1, ![513]⟩
abbrev S1x513 : Shape := ⟨2, ![1, 513]⟩
abbrev S768x513 : Shape := ⟨2, ![768, 513]⟩
abbrev S1 : Shape := ⟨1, ![1]⟩
abbrev S1x1 : Shape := ⟨2, ![1, 1]⟩
abbrev S8x768 : Shape := ⟨2, ![8, 768]⟩
abbrev S8x641 : Shape := ⟨2, ![8, 641]⟩
abbrev S8x127 : Shape := ⟨2, ![8, 127]⟩
abbrev S8x1x768 : Shape := ⟨3, ![8, 1, 768]⟩
abbrev S8x128x768 : Shape := ⟨3, ![8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x128x640 : Shape := ⟨3, ![1, 128, 640]⟩
abbrev S2048x1024 : Shape := ⟨2, ![2048, 1024]⟩
abbrev S2048x128 : Shape := ⟨2, ![2048, 128]⟩
abbrev S2560x128 : Shape := ⟨2, ![2560, 128]⟩
abbrev S512x128 : Shape := ⟨2, ![512, 128]⟩
abbrev S128x128 : Shape := ⟨2, ![128, 128]⟩
abbrev S640x128 : Shape := ⟨2, ![640, 128]⟩
abbrev S8x128x896 : Shape := ⟨3, ![8, 128, 896]⟩
abbrev S8x114688 : Shape := ⟨2, ![8, 114688]⟩
abbrev S8x114816 : Shape := ⟨2, ![8, 114816]⟩
abbrev S8x128x897 : Shape := ⟨3, ![8, 128, 897]⟩
abbrev S8x897 : Shape := ⟨2, ![8, 897]⟩
abbrev S8x768x1 : Shape := ⟨3, ![8, 768, 1]⟩
abbrev S1x768x513 : Shape := ⟨3, ![1, 768, 513]⟩
abbrev S8x768x513 : Shape := ⟨3, ![8, 768, 513]⟩

abbrev nBuf : Space → Nat
  | .hbm => 247
  | .vmem => 22
  | .smem => 0
  | _ => 0

abbrev hbmTy0_0 (i : Nat) : BufTy := match i % 128 with
  | 0 => ⟨S2048x6144, .bf16⟩
  | 1 => ⟨S2048x2048, .bf16⟩
  | 2 => ⟨S8x513, .f32⟩
  | 3 => ⟨S128, .i32⟩
  | 4 => ⟨S128x1, .i32⟩
  | 5 => ⟨S640, .i32⟩
  | 6 => ⟨S1x640, .i32⟩
  | 7 => ⟨S_, .i32⟩
  | 8 => ⟨S128x1, .i32⟩
  | 9 => ⟨S128x1, .i32⟩
  | 10 => ⟨S128x640, .i32⟩
  | 11 => ⟨S128x640, .i32⟩
  | 12 => ⟨S128x640, .i32⟩
  | 13 => ⟨S_, .i32⟩
  | 14 => ⟨S_, .i32⟩
  | 15 => ⟨S_, .i32⟩
  | 16 => ⟨S128x640, .i32⟩
  | 17 => ⟨S128x640, .i32⟩
  | 18 => ⟨S_, .i32⟩
  | 19 => ⟨S128x640, .i32⟩
  | 20 => ⟨S128x640, .i32⟩
  | 21 => ⟨S_, .i32⟩
  | 22 => ⟨S128x640, .i32⟩
  | 23 => ⟨S128x640, .i32⟩
  | 24 => ⟨S_, .i32⟩
  | 25 => ⟨S_, .i32⟩
  | 26 => ⟨S1x640, .i32⟩
  | 27 => ⟨S1x640, .i32⟩
  | 28 => ⟨S1x640, .i32⟩
  | 29 => ⟨S_, .i32⟩
  | 30 => ⟨S1x640, .i32⟩
  | 31 => ⟨S1x640, .i1⟩
  | 32 => ⟨S1x640, .i32⟩
  | 33 => ⟨S1x640, .i32⟩
  | 34 => ⟨S_, .i32⟩
  | 35 => ⟨S1x640, .i32⟩
  | 36 => ⟨S1x640, .i1⟩
  | 37 => ⟨S1x640, .i1⟩
  | 38 => ⟨S_, .i32⟩
  | 39 => ⟨S1x640, .i32⟩
  | 40 => ⟨S1x640, .i32⟩
  | 41 => ⟨S1x640, .i32⟩
  | 42 => ⟨S_, .i32⟩
  | 43 => ⟨S_, .i32⟩
  | 44 => ⟨S128x1, .i32⟩
  | 45 => ⟨S128x1, .i32⟩
  | 46 => ⟨S128x1, .i32⟩
  | 47 => ⟨S_, .i32⟩
  | 48 => ⟨S128x1, .i32⟩
  | 49 => ⟨S128x1, .i1⟩
  | 50 => ⟨S128x1, .i32⟩
  | 51 => ⟨S128x1, .i32⟩
  | 52 => ⟨S_, .i32⟩
  | 53 => ⟨S128x1, .i32⟩
  | 54 => ⟨S128x1, .i1⟩
  | 55 => ⟨S128x1, .i1⟩
  | 56 => ⟨S_, .i32⟩
  | 57 => ⟨S128x1, .i32⟩
  | 58 => ⟨S128x1, .i32⟩
  | 59 => ⟨S128x1, .i32⟩
  | 60 => ⟨S128x640, .i32⟩
  | 61 => ⟨S128x640, .i32⟩
  | 62 => ⟨S128x640, .i32⟩
  | 63 => ⟨S_, .i32⟩
  | 64 => ⟨S128x640, .i32⟩
  | 65 => ⟨S128x640, .i1⟩
  | 66 => ⟨S_, .i32⟩
  | 67 => ⟨S128x640, .i32⟩
  | 68 => ⟨S128x640, .i1⟩
  | 69 => ⟨S128x640, .i1⟩
  | 70 => ⟨S768, .i32⟩
  | 71 => ⟨S_, .i32⟩
  | 72 => ⟨S768, .i32⟩
  | 73 => ⟨S768, .i32⟩
  | 74 => ⟨S_, .i32⟩
  | 75 => ⟨S768, .i32⟩
  | 76 => ⟨S768, .i32⟩
  | 77 => ⟨S_, .i32⟩
  | 78 => ⟨S_, .i32⟩
  | 79 => ⟨S_, .i32⟩
  | 80 => ⟨S768, .i32⟩
  | 81 => ⟨S768, .i32⟩
  | 82 => ⟨S_, .i32⟩
  | 83 => ⟨S768, .i32⟩
  | 84 => ⟨S768, .i32⟩
  | 85 => ⟨S_, .i32⟩
  | 86 => ⟨S768, .i32⟩
  | 87 => ⟨S768, .i32⟩
  | 88 => ⟨S768x1, .i32⟩
  | 89 => ⟨S513, .i32⟩
  | 90 => ⟨S1x513, .i32⟩
  | 91 => ⟨S768x513, .i32⟩
  | 92 => ⟨S768x513, .i32⟩
  | 93 => ⟨S768x513, .i1⟩
  | 94 => ⟨S768x513, .f32⟩
  | 95 => ⟨S_, .i32⟩
  | 96 => ⟨S768, .i32⟩
  | 97 => ⟨S768, .i1⟩
  | 98 => ⟨S_, .i32⟩
  | 99 => ⟨S768, .i32⟩
  | 100 => ⟨S768, .i32⟩
  | 101 => ⟨S768, .i32⟩
  | 102 => ⟨S768x1, .i32⟩
  | 103 => ⟨S1, .i32⟩
  | 104 => ⟨S_, .i32⟩
  | 105 => ⟨S768x1, .i32⟩
  | 106 => ⟨S768x1, .i1⟩
  | 107 => ⟨S1x1, .i32⟩
  | 108 => ⟨S768x1, .i32⟩
  | 109 => ⟨S768x1, .i1⟩
  | 110 => ⟨S768x1, .i1⟩
  | 111 => ⟨S_, .i1⟩
  | 112 => ⟨S768, .i1⟩
  | 113 => ⟨S8x768, .f32⟩
  | 114 => ⟨S8x768, .i1⟩
  | 115 => ⟨S_, .f32⟩
  | 116 => ⟨S8x768, .f32⟩
  | 117 => ⟨S8x768, .f32⟩
  | 118 => ⟨S8x641, .f32⟩
  | 119 => ⟨S8x127, .f32⟩
  | 120 => ⟨S8x768, .f32⟩
  | 121 => ⟨S8x1x768, .f32⟩
  | 122 => ⟨S8x128x768, .f32⟩
  | 123 => ⟨S8x98304, .f32⟩
  | 124 => ⟨S8x98176, .f32⟩
  | 125 => ⟨S8x128x767, .f32⟩
  | 126 => ⟨S8x128x640, .f32⟩
  | 127 => ⟨S1x128x640, .i1⟩
  | _ => ⟨S2048x6144, .bf16⟩

abbrev hbmTy0_1 (i : Nat) : BufTy := match i % 128 with
  | 0 => ⟨S_, .f32⟩
  | 1 => ⟨S_, .f32⟩
  | 2 => ⟨S8x128x640, .i1⟩
  | 3 => ⟨S8x128x640, .f32⟩
  | 4 => ⟨S8x128x640, .f32⟩
  | 5 => ⟨S2048x1024, .bf16⟩
  | 6 => ⟨S2048x1024, .bf16⟩
  | 7 => ⟨S2048x1024, .bf16⟩
  | 8 => ⟨S8x128x640, .f32⟩
  | 9 => ⟨S128, .i32⟩
  | 10 => ⟨S128x1, .i32⟩
  | 11 => ⟨S640, .i32⟩
  | 12 => ⟨S1x640, .i32⟩
  | 13 => ⟨S_, .i32⟩
  | 14 => ⟨S128x1, .i32⟩
  | 15 => ⟨S128x1, .i32⟩
  | 16 => ⟨S128x640, .i32⟩
  | 17 => ⟨S128x640, .i32⟩
  | 18 => ⟨S128x640, .i32⟩
  | 19 => ⟨S_, .i32⟩
  | 20 => ⟨S_, .i32⟩
  | 21 => ⟨S_, .i32⟩
  | 22 => ⟨S128x640, .i32⟩
  | 23 => ⟨S128x640, .i32⟩
  | 24 => ⟨S_, .i32⟩
  | 25 => ⟨S128x640, .i32⟩
  | 26 => ⟨S128x640, .i32⟩
  | 27 => ⟨S_, .i32⟩
  | 28 => ⟨S128x640, .i32⟩
  | 29 => ⟨S128x640, .i32⟩
  | 30 => ⟨S_, .i32⟩
  | 31 => ⟨S_, .i32⟩
  | 32 => ⟨S1x640, .i32⟩
  | 33 => ⟨S1x640, .i32⟩
  | 34 => ⟨S1x640, .i32⟩
  | 35 => ⟨S_, .i32⟩
  | 36 => ⟨S1x640, .i32⟩
  | 37 => ⟨S1x640, .i1⟩
  | 38 => ⟨S1x640, .i32⟩
  | 39 => ⟨S1x640, .i32⟩
  | 40 => ⟨S_, .i32⟩
  | 41 => ⟨S1x640, .i32⟩
  | 42 => ⟨S1x640, .i1⟩
  | 43 => ⟨S1x640, .i1⟩
  | 44 => ⟨S_, .i32⟩
  | 45 => ⟨S1x640, .i32⟩
  | 46 => ⟨S1x640, .i32⟩
  | 47 => ⟨S1x640, .i32⟩
  | 48 => ⟨S_, .i32⟩
  | 49 => ⟨S_, .i32⟩
  | 50 => ⟨S128x1, .i32⟩
  | 51 => ⟨S128x1, .i32⟩
  | 52 => ⟨S128x1, .i32⟩
  | 53 => ⟨S_, .i32⟩
  | 54 => ⟨S128x1, .i32⟩
  | 55 => ⟨S128x1, .i1⟩
  | 56 => ⟨S128x1, .i32⟩
  | 57 => ⟨S128x1, .i32⟩
  | 58 => ⟨S_, .i32⟩
  | 59 => ⟨S128x1, .i32⟩
  | 60 => ⟨S128x1, .i1⟩
  | 61 => ⟨S128x1, .i1⟩
  | 62 => ⟨S_, .i32⟩
  | 63 => ⟨S128x1, .i32⟩
  | 64 => ⟨S128x1, .i32⟩
  | 65 => ⟨S128x1, .i32⟩
  | 66 => ⟨S128x640, .i32⟩
  | 67 => ⟨S128x640, .i32⟩
  | 68 => ⟨S128x640, .i32⟩
  | 69 => ⟨S_, .i32⟩
  | 70 => ⟨S128x640, .i32⟩
  | 71 => ⟨S128x640, .i1⟩
  | 72 => ⟨S_, .i32⟩
  | 73 => ⟨S128x640, .i32⟩
  | 74 => ⟨S128x640, .i1⟩
  | 75 => ⟨S128x640, .i1⟩
  | 76 => ⟨S768, .i32⟩
  | 77 => ⟨S_, .i32⟩
  | 78 => ⟨S768, .i32⟩
  | 79 => ⟨S768, .i32⟩
  | 80 => ⟨S_, .i32⟩
  | 81 => ⟨S768, .i32⟩
  | 82 => ⟨S768, .i32⟩
  | 83 => ⟨S_, .i32⟩
  | 84 => ⟨S_, .i32⟩
  | 85 => ⟨S_, .i32⟩
  | 86 => ⟨S768, .i32⟩
  | 87 => ⟨S768, .i32⟩
  | 88 => ⟨S_, .i32⟩
  | 89 => ⟨S768, .i32⟩
  | 90 => ⟨S768, .i32⟩
  | 91 => ⟨S_, .i32⟩
  | 92 => ⟨S768, .i32⟩
  | 93 => ⟨S768, .i32⟩
  | 94 => ⟨S768x1, .i32⟩
  | 95 => ⟨S513, .i32⟩
  | 96 => ⟨S1x513, .i32⟩
  | 97 => ⟨S768x513, .i32⟩
  | 98 => ⟨S768x513, .i32⟩
  | 99 => ⟨S768x513, .i1⟩
  | 100 => ⟨S768x513, .f32⟩
  | 101 => ⟨S_, .i32⟩
  | 102 => ⟨S_, .f32⟩
  | 103 => ⟨S8x128x896, .f32⟩
  | 104 => ⟨S8x114688, .f32⟩
  | 105 => ⟨S_, .i32⟩
  | 106 => ⟨S_, .f32⟩
  | 107 => ⟨S8x114816, .f32⟩
  | 108 => ⟨S8x128x897, .f32⟩
  | 109 => ⟨S_, .f32⟩
  | 110 => ⟨S8x897, .f32⟩
  | 111 => ⟨S8x768, .f32⟩
  | 112 => ⟨S8x768x1, .f32⟩
  | 113 => ⟨S1x768x513, .f32⟩
  | 114 => ⟨S8x768x513, .f32⟩
  | 115 => ⟨S8x768x513, .f32⟩
  | 116 => ⟨S8x768x513, .f32⟩
  | 117 => ⟨S_, .f32⟩
  | 118 => ⟨S8x513, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x128x640, .f32⟩
  | .local _ .vmem, ⟨9, _⟩ => ⟨S1x128x640, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x128x640, .f32⟩
  | .local _ .vmem, ⟨17, _⟩ => ⟨S1x128x640, .f32⟩
  | .local _ .vmem, ⟨18, _⟩ => ⟨S2560x128, .bf16⟩
  | .local _ .vmem, ⟨19, _⟩ => ⟨S2560x128, .bf16⟩
  | .local _ .vmem, ⟨20, _⟩ => ⟨S2560x128, .f32⟩
  | .local _ .vmem, ⟨21, _⟩ => ⟨S2560x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v12 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_5 : Ref sig .tc := ⟨.hbm, 63, rfl⟩
abbrev main_v17 : Ref sig .tc := ⟨.hbm, 64, rfl⟩
abbrev main_v18 : Ref sig .tc := ⟨.hbm, 65, rfl⟩
abbrev main_c_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_c_7 : Ref sig .tc := ⟨.hbm, 71, rfl⟩
abbrev main_v23 : Ref sig .tc := ⟨.hbm, 72, rfl⟩
abbrev main_v24 : Ref sig .tc := ⟨.hbm, 73, rfl⟩
abbrev main_c_8 : Ref sig .tc := ⟨.hbm, 74, rfl⟩
abbrev main_v25 : Ref sig .tc := ⟨.hbm, 75, rfl⟩
abbrev main_v26 : Ref sig .tc := ⟨.hbm, 76, rfl⟩
abbrev main_c_9 : Ref sig .tc := ⟨.hbm, 77, rfl⟩
abbrev main_c_10 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v27 : Ref sig .tc := ⟨.hbm, 84, rfl⟩
abbrev main_c_11 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v37 : Ref sig .tc := ⟨.hbm, 117, rfl⟩
abbrev main_call5_v0 : Ref sig .tc := ⟨.hbm, 118, rfl⟩
abbrev main_call5_v1 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_cst : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v46 : Ref sig .tc := ⟨.hbm, 132, rfl⟩
abbrev main_v47_0 : Ref sig .tc := ⟨.hbm, 133, rfl⟩
abbrev main_v47_1 : Ref sig .tc := ⟨.hbm, 134, rfl⟩
abbrev main_v47_2 : Ref sig .tc := ⟨.hbm, 135, rfl⟩
abbrev main_v47_3 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_c_12 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_c_13 : Ref sig .tc := ⟨.hbm, 147, rfl⟩
abbrev main_c_14 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v57 : Ref sig .tc := ⟨.hbm, 154, rfl⟩
abbrev main_c_15 : Ref sig .tc := ⟨.hbm, 155, rfl⟩
abbrev main_v58 : Ref sig .tc := ⟨.hbm, 156, rfl⟩
abbrev main_v59 : Ref sig .tc := ⟨.hbm, 157, rfl⟩
abbrev main_c_16 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_call8_v5 : Ref sig .tc := ⟨.hbm, 164, rfl⟩
abbrev main_call8_v6 : Ref sig .tc := ⟨.hbm, 165, rfl⟩
abbrev main_call8_v7 : Ref sig .tc := ⟨.hbm, 166, rfl⟩
abbrev main_call8_v8 : Ref sig .tc := ⟨.hbm, 167, rfl⟩
abbrev main_call8_c : Ref sig .tc := ⟨.hbm, 168, rfl⟩
abbrev main_call8_v9 : Ref sig .tc := ⟨.hbm, 169, rfl⟩
abbrev main_call8_v10 : Ref sig .tc := ⟨.hbm, 170, rfl⟩
abbrev main_call8_v11 : Ref sig .tc := ⟨.hbm, 171, rfl⟩
abbrev main_call8_c_0 : Ref sig .tc := ⟨.hbm, 172, rfl⟩
abbrev main_call8_v12 : Ref sig .tc := ⟨.hbm, 173, rfl⟩
abbrev main_call8_v13 : Ref sig .tc := ⟨.hbm, 174, rfl⟩
abbrev main_v60 : Ref sig .tc := ⟨.hbm, 175, rfl⟩
abbrev main_c_17 : Ref sig .tc := ⟨.hbm, 176, rfl⟩
abbrev main_call9_v0 : Ref sig .tc := ⟨.hbm, 177, rfl⟩
abbrev main_call9_v1 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_v6 : Ref sig .tc := ⟨.hbm, 183, rfl⟩
abbrev main_call9_v7 : Ref sig .tc := ⟨.hbm, 184, rfl⟩
abbrev main_call9_v8 : Ref sig .tc := ⟨.hbm, 185, rfl⟩
abbrev main_call9_c : Ref sig .tc := ⟨.hbm, 186, rfl⟩
abbrev main_call9_v9 : Ref sig .tc := ⟨.hbm, 187, rfl⟩
abbrev main_call9_v10 : Ref sig .tc := ⟨.hbm, 188, rfl⟩
abbrev main_call9_v11 : Ref sig .tc := ⟨.hbm, 189, rfl⟩
abbrev main_call9_c_0 : Ref sig .tc := ⟨.hbm, 190, rfl⟩
abbrev main_call9_v12 : Ref sig .tc := ⟨.hbm, 191, rfl⟩
abbrev main_call9_v13 : Ref sig .tc := ⟨.hbm, 192, rfl⟩
abbrev main_v61 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_c_18 : Ref sig .tc := ⟨.hbm, 197, rfl⟩
abbrev main_v65 : Ref sig .tc := ⟨.hbm, 198, rfl⟩
abbrev main_v66 : Ref sig .tc := ⟨.hbm, 199, rfl⟩
abbrev main_c_19 : Ref sig .tc := ⟨.hbm, 200, rfl⟩
abbrev main_v67 : Ref sig .tc := ⟨.hbm, 201, rfl⟩
abbrev main_v68 : Ref sig .tc := ⟨.hbm, 202, rfl⟩
abbrev main_v69 : Ref sig .tc := ⟨.hbm, 203, rfl⟩
abbrev main_v70 : Ref sig .tc := ⟨.hbm, 204, rfl⟩
abbrev main_c_20 : Ref sig .tc := ⟨.hbm, 205, rfl⟩
abbrev main_v71 : Ref sig .tc := ⟨.hbm, 206, rfl⟩
abbrev main_v72 : Ref sig .tc := ⟨.hbm, 207, rfl⟩
abbrev main_c_21 : Ref sig .tc := ⟨.hbm, 208, rfl⟩
abbrev main_v73 : Ref sig .tc := ⟨.hbm, 209, rfl⟩
abbrev main_v74 : Ref sig .tc := ⟨.hbm, 210, rfl⟩
abbrev main_c_22 : Ref sig .tc := ⟨.hbm, 211, rfl⟩
abbrev main_c_23 : Ref sig .tc := ⟨.hbm, 212, rfl⟩
abbrev main_call10_v0 : Ref sig .tc := ⟨.hbm, 213, rfl⟩
abbrev main_call10_v1 : Ref sig .tc := ⟨.hbm, 214, rfl⟩
abbrev main_call10_v2 : Ref sig .tc := ⟨.hbm, 215, rfl⟩
abbrev main_call10_v3 : Ref sig .tc := ⟨.hbm, 216, rfl⟩
abbrev main_call10_v4 : Ref sig .tc := ⟨.hbm, 217, rfl⟩
abbrev main_v75 : Ref sig .tc := ⟨.hbm, 218, rfl⟩
abbrev main_c_24 : Ref sig .tc := ⟨.hbm, 219, rfl⟩
abbrev main_v76 : Ref sig .tc := ⟨.hbm, 220, rfl⟩
abbrev main_v77 : Ref sig .tc := ⟨.hbm, 221, rfl⟩
abbrev main_v78 : Ref sig .tc := ⟨.hbm, 222, rfl⟩
abbrev main_v79 : Ref sig .tc := ⟨.hbm, 223, rfl⟩
abbrev main_v80 : Ref sig .tc := ⟨.hbm, 224, rfl⟩
abbrev main_v81 : Ref sig .tc := ⟨.hbm, 225, rfl⟩
abbrev main_v82 : Ref sig .tc := ⟨.hbm, 226, rfl⟩
abbrev main_v83 : Ref sig .tc := ⟨.hbm, 227, rfl⟩
abbrev main_v84 : Ref sig .tc := ⟨.hbm, 228, rfl⟩
abbrev main_c_25 : Ref sig .tc := ⟨.hbm, 229, rfl⟩
abbrev main_call11_v0 : Ref sig .tc := ⟨.hbm, 230, rfl⟩
abbrev main_v85 : Ref sig .tc := ⟨.hbm, 231, rfl⟩
abbrev main_v86 : Ref sig .tc := ⟨.hbm, 232, rfl⟩
abbrev main_c_26 : Ref sig .tc := ⟨.hbm, 233, rfl⟩
abbrev main_call12_v0 : Ref sig .tc := ⟨.hbm, 234, rfl⟩
abbrev main_v87 : Ref sig .tc := ⟨.hbm, 235, rfl⟩
abbrev main_v88 : Ref sig .tc := ⟨.hbm, 236, rfl⟩
abbrev main_cst_27 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩
abbrev main_cst_28 : Ref sig .tc := ⟨.hbm, 245, rfl⟩
abbrev main_v96 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v27 : BitVec 32 := Scalar.addi c0_i32 c16_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  v34
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  let v35 : BitVec 32 := v34
  let v36 : Index := Scalar.indexCast v35
  let c0_29 : Index := 0#32
  ![v36.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  let v35 : BitVec 32 := v34
  let v38 : Index := Scalar.indexCast v35
  let c0_30 : Index := 0#32
  ![v38.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnBwdIdeal.lean ====
variable {F : FTy → Type} [FloatOps F] [Named F]
def κ : String → Option EReal := fun
  | "mask" => some ⊥
  | _ => none
-- ==== AttnRefIdeal.lean ====
abbrev S2048x6144 : Shape := ⟨2, ![2048, 6144]⟩
abbrev S2048x2048 : Shape := ⟨2, ![2048, 2048]⟩
abbrev S8x513 : Shape := ⟨2, ![8, 513]⟩
abbrev S1x2048x6144 : Shape := ⟨3, ![1, 2048, 6144]⟩
abbrev S1x2048x1024 : Shape := ⟨3, ![1, 2048, 1024]⟩
abbrev S1x2048x3072 : Shape := ⟨3, ![1, 2048, 3072]⟩
abbrev S1x2048x2048 : Shape := ⟨3, ![1, 2048, 2048]⟩
abbrev S1x2048x8x128 : Shape := ⟨4, ![1, 2048, 8, 128]⟩
abbrev S1x32x64x8x128 : Shape := ⟨5, ![1, 32, 64, 8, 128]⟩
abbrev S_ : Shape := ⟨0, ![]⟩
abbrev S1x512x8x128 : Shape := ⟨4, ![1, 512, 8, 128]⟩
abbrev S1x2560x8x128 : Shape := ⟨4, ![1, 2560, 8, 128]⟩
abbrev S1x40x64x8x128 : Shape := ⟨5, ![1, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S1x32x9x64x8x128 : Shape := ⟨6, ![1, 32, 9, 64, 8, 128]⟩
abbrev S1x32x576x8x128 : Shape := ⟨5, ![1, 32, 576, 8, 128]⟩
abbrev S1x8x32x64x576 : Shape := ⟨5, ![1, 8, 32, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x1x64x576 : Shape := ⟨4, ![8, 1, 64, 576]⟩
abbrev S1x8x1x64x576 : Shape := ⟨5, ![1, 8, 1, 64, 576]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x32x64 : Shape := ⟨4, ![1, 8, 32, 64]⟩
abbrev S1x8x32x64x1 : Shape := ⟨5, ![1, 8, 32, 64, 1]⟩
abbrev S1x32x8x128x64 : Shape := ⟨5, ![1, 32, 8, 128, 64]⟩
abbrev S1x32x8x64x576 : Shape := ⟨5, ![1, 32, 8, 64, 576]⟩
abbrev S1x32x8x128x576 : Shape := ⟨5, ![1, 32, 8, 128, 576]⟩
abbrev S8x32x64 : Shape := ⟨3, ![8, 32, 64]⟩
abbrev S1x8x64x576 : Shape := ⟨4, ![1, 8, 64, 576]⟩
abbrev S1x8x32x576x128 : Shape := ⟨5, ![1, 8, 32, 576, 128]⟩
abbrev S1x8x32x64x128 : Shape := ⟨5, ![1, 8, 32, 64, 128]⟩
abbrev S2048x1024 : Shape := ⟨2, ![2048, 1024]⟩

abbrev nBuf : Space → Nat
  | .hbm => 208
  | .vmem => 0
  | .smem => 0
  | _ => 0

abbrev hbmTy0_0 (i : Nat) : BufTy := match i % 128 with
  | 0 => ⟨S2048x6144, .bf16⟩
  | 1 => ⟨S2048x2048, .bf16⟩
  | 2 => ⟨S8x513, .f32⟩
  | 3 => ⟨S2048x6144, .f32⟩
  | 4 => ⟨S1x2048x6144, .f32⟩
  | 5 => ⟨S1x2048x1024, .f32⟩
  | 6 => ⟨S1x2048x1024, .f32⟩
  | 7 => ⟨S1x2048x1024, .f32⟩
  | 8 => ⟨S1x2048x3072, .f32⟩
  | 9 => ⟨S2048x2048, .f32⟩
  | 10 => ⟨S1x2048x2048, .f32⟩
  | 11 => ⟨S1x2048x1024, .f32⟩
  | 12 => ⟨S1x2048x8x128, .f32⟩
  | 13 => ⟨S1x2048x8x128, .f32⟩
  | 14 => ⟨S1x2048x8x128, .f32⟩
  | 15 => ⟨S1x32x64x8x128, .f32⟩
  | 16 => ⟨S_, .f32⟩
  | 17 => ⟨S1x512x8x128, .f32⟩
  | 18 => ⟨S1x2560x8x128, .f32⟩
  | 19 => ⟨S_, .f32⟩
  | 20 => ⟨S1x512x8x128, .f32⟩
  | 21 => ⟨S1x40x64x8x128, .f32⟩
  | 22 => ⟨S1x2560x8x128, .f32⟩
  | 23 => ⟨S_, .f32⟩
  | 24 => ⟨S1x512x8x128, .f32⟩
  | 25 => ⟨S1x40x64x8x128, .f32⟩
  | 26 => ⟨S32, .i32⟩
  | 27 => ⟨S32x1, .i32⟩
  | 28 => ⟨S9, .i32⟩
  | 29 => ⟨S1x9, .i32⟩
  | 30 => ⟨S32x9, .i32⟩
  | 31 => ⟨S32x9, .i32⟩
  | 32 => ⟨S32x9, .i32⟩
  | 33 => ⟨S_, .i32⟩
  | 34 => ⟨S32x9, .i32⟩
  | 35 => ⟨S32x9, .i1⟩
  | 36 => ⟨S_, .i32⟩
  | 37 => ⟨S32x9, .i32⟩
  | 38 => ⟨S32x9, .i32⟩
  | 39 => ⟨S32x9, .i32⟩
  | 40 => ⟨S32x9x1, .i32⟩
  | 41 => ⟨S1x32x9x64x8x128, .f32⟩
  | 42 => ⟨S1x32x576x8x128, .f32⟩
  | 43 => ⟨S_, .i32⟩
  | 44 => ⟨S32x9, .i32⟩
  | 45 => ⟨S32x9, .i1⟩
  | 46 => ⟨S_, .i32⟩
  | 47 => ⟨S32x9, .i32⟩
  | 48 => ⟨S32x9, .i32⟩
  | 49 => ⟨S32x9, .i32⟩
  | 50 => ⟨S32x9x1, .i32⟩
  | 51 => ⟨S1x32x9x64x8x128, .f32⟩
  | 52 => ⟨S1x32x576x8x128, .f32⟩
  | 53 => ⟨S1x8x32x64x576, .f32⟩
  | 54 => ⟨S_, .f32⟩
  | 55 => ⟨S1x8x32x64x576, .f32⟩
  | 56 => ⟨S1x8x32x64x576, .f32⟩
  | 57 => ⟨S64, .i32⟩
  | 58 => ⟨S64x1, .i32⟩
  | 59 => ⟨S_, .i32⟩
  | 60 => ⟨S64x1, .i32⟩
  | 61 => ⟨S64x1, .i32⟩
  | 62 => ⟨S576, .i32⟩
  | 63 => ⟨S1x576, .i32⟩
  | 64 => ⟨S64x576, .i32⟩
  | 65 => ⟨S64x576, .i32⟩
  | 66 => ⟨S64x576, .i32⟩
  | 67 => ⟨S_, .i32⟩
  | 68 => ⟨S_, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S_, .i32⟩
  | 76 => ⟨S64x576, .i32⟩
  | 77 => ⟨S64x576, .i32⟩
  | 78 => ⟨S_, .i32⟩
  | 79 => ⟨S64x576, .i32⟩
  | 80 => ⟨S64x576, .i1⟩
  | 81 => ⟨S_, .i32⟩
  | 82 => ⟨S64x576, .i32⟩
  | 83 => ⟨S64x576, .i32⟩
  | 84 => ⟨S64x576, .i32⟩
  | 85 => ⟨S64x576x1, .i32⟩
  | 86 => ⟨S8x64x576, .f32⟩
  | 87 => ⟨S8x1x64x576, .f32⟩
  | 88 => ⟨S1x8x1x64x576, .f32⟩
  | 89 => ⟨S1x8x32x64x576, .f32⟩
  | 90 => ⟨S1x8x32x64x576, .f32⟩
  | 91 => ⟨S_, .i32⟩
  | 92 => ⟨S32x9, .i32⟩
  | 93 => ⟨S32x9, .i1⟩
  | 94 => ⟨S32x9x64, .i1⟩
  | 95 => ⟨S32x576, .i1⟩
  | 96 => ⟨S1x1x32x1x576, .i1⟩
  | 97 => ⟨S_, .f32⟩
  | 98 => ⟨S_, .f32⟩
  | 99 => ⟨S1x8x32x64x576, .i1⟩
  | 100 => ⟨S1x8x32x64x576, .f32⟩
  | 101 => ⟨S1x8x32x64x576, .f32⟩
  | 102 => ⟨S_, .f32⟩
  | 103 => ⟨S1x8x32x64x576, .f32⟩
  | 104 => ⟨S_, .f32⟩
  | 105 => ⟨S1x8x32x64, .f32⟩
  | 106 => ⟨S1x8x32x64x1, .f32⟩
  | 107 => ⟨S1x8x32x64x576, .f32⟩
  | 108 => ⟨S1x8x32x64x576, .i1⟩
  | 109 => ⟨S1x8x32x64x576, .f32⟩
  | 110 => ⟨S_, .f32⟩
  | 111 => ⟨S1x8x32x64, .f32⟩
  | 112 => ⟨S_, .f32⟩
  | 113 => ⟨S1x8x32x64, .f32⟩
  | 114 => ⟨S1x8x32x64, .f32⟩
  | 115 => ⟨S_, .f32⟩
  | 116 => ⟨S1x8x32x64, .f32⟩
  | 117 => ⟨S1x8x32x64, .i1⟩
  | 118 => ⟨S_, .f32⟩
  | 119 => ⟨S1x8x32x64, .f32⟩
  | 120 => ⟨S1x8x32x64, .i1⟩
  | 121 => ⟨S_, .f32⟩
  | 122 => ⟨S1x8x32x64, .f32⟩
  | 123 => ⟨S_, .f32⟩
  | 124 => ⟨S1x8x32x64, .f32⟩
  | 125 => ⟨S_, .f32⟩
  | 126 => ⟨S1x8x32x64, .f32⟩
  | 127 => ⟨S1x8x32x64, .f32⟩
  | _ => ⟨S2048x6144, .bf16⟩

abbrev hbmTy0_1 (i : Nat) : BufTy := match i % 128 with
  | 0 => ⟨S1x8x32x64, .f32⟩
  | 1 => ⟨S1x8x32x64x1, .f32⟩
  | 2 => ⟨S1x8x32x64x576, .f32⟩
  | 3 => ⟨S1x8x32x64x576, .f32⟩
  | 4 => ⟨S1x8x32x64x576, .f32⟩
  | 5 => ⟨S_, .f32⟩
  | 6 => ⟨S1x8x32x64, .f32⟩
  | 7 => ⟨S1x8x32x64x1, .f32⟩
  | 8 => ⟨S1x8x32x64x576, .f32⟩
  | 9 => ⟨S1x8x32x64x576, .f32⟩
  | 10 => ⟨S1x8x32x64x1, .f32⟩
  | 11 => ⟨S_, .f32⟩
  | 12 => ⟨S1x8x32x64x1, .f32⟩
  | 13 => ⟨S1x8x32x64x1, .f32⟩
  | 14 => ⟨S1x32x8x128x64, .f32⟩
  | 15 => ⟨S1x32x64x8x128, .f32⟩
  | 16 => ⟨S1x2048x1024, .f32⟩
  | 17 => ⟨S1x32x64x8x128, .f32⟩
  | 18 => ⟨S1x32x8x128x64, .f32⟩
  | 19 => ⟨S1x32x8x64x576, .f32⟩
  | 20 => ⟨S1x8x32x64x576, .f32⟩
  | 21 => ⟨S1x32x8x128x576, .f32⟩
  | 22 => ⟨S1x32x576x8x128, .f32⟩
  | 23 => ⟨S1x8x32x64x576, .f32⟩
  | 24 => ⟨S1x8x32x64x576, .f32⟩
  | 25 => ⟨S1x8x32x64x576, .f32⟩
  | 26 => ⟨S_, .f32⟩
  | 27 => ⟨S1x8x32x64, .f32⟩
  | 28 => ⟨S1x8x32x64x1, .f32⟩
  | 29 => ⟨S1x8x32x64x1, .f32⟩
  | 30 => ⟨S1x8x32x64x576, .f32⟩
  | 31 => ⟨S1x8x32x64x576, .f32⟩
  | 32 => ⟨S_, .f32⟩
  | 33 => ⟨S8x32x64, .f32⟩
  | 34 => ⟨S1x8x32x64, .f32⟩
  | 35 => ⟨S1x8x32x64x576, .f32⟩
  | 36 => ⟨S1x8x32x64x576, .f32⟩
  | 37 => ⟨S1x8x32x64x576, .f32⟩
  | 38 => ⟨S_, .f32⟩
  | 39 => ⟨S1x8x32x64x576, .f32⟩
  | 40 => ⟨S1x8x32x64x576, .f32⟩
  | 41 => ⟨S_, .f32⟩
  | 42 => ⟨S1x8x64x576, .f32⟩
  | 43 => ⟨S1x8x1x64x576, .f32⟩
  | 44 => ⟨S_, .f32⟩
  | 45 => ⟨S8x64x576, .f32⟩
  | 46 => ⟨S8x1x64x576, .f32⟩
  | 47 => ⟨S_, .f32⟩
  | 48 => ⟨S8x64x576, .f32⟩
  | 49 => ⟨S_, .f32⟩
  | 50 => ⟨S8x513, .f32⟩
  | 51 => ⟨S8x513, .f32⟩
  | 52 => ⟨S_, .f32⟩
  | 53 => ⟨S1x8x32x64x576, .f32⟩
  | 54 => ⟨S1x8x32x64x576, .f32⟩
  | 55 => ⟨S1x8x32x576x128, .f32⟩
  | 56 => ⟨S1x32x576x8x128, .f32⟩
  | 57 => ⟨S1x8x32x64x128, .f32⟩
  | 58 => ⟨S1x32x64x8x128, .f32⟩
  | 59 => ⟨S1x32x9x64x8x128, .f32⟩
  | 60 => ⟨S_, .f32⟩
  | 61 => ⟨S1x40x64x8x128, .f32⟩
  | 62 => ⟨S1x40x64x8x128, .f32⟩
  | 63 => ⟨S1x32x9x64x8x128, .f32⟩
  | 64 => ⟨S_, .f32⟩
  | 65 => ⟨S1x40x64x8x128, .f32⟩
  | 66 => ⟨S1x40x64x8x128, .f32⟩
  | 67 => ⟨S1x2560x8x128, .f32⟩
  | 68 => ⟨S1x512x8x128, .f32⟩
  | 69 => ⟨S1x2048x8x128, .f32⟩
  | 70 => ⟨S1x2560x8x128, .f32⟩
  | 71 => ⟨S1x512x8x128, .f32⟩
  | 72 => ⟨S1x2048x8x128, .f32⟩
  | 73 => ⟨S1x2048x8x128, .f32⟩
  | 74 => ⟨S2048x1024, .f32⟩
  | 75 => ⟨S2048x1024, .bf16⟩
  | 76 => ⟨S2048x1024, .f32⟩
  | 77 => ⟨S2048x1024, .bf16⟩
  | 78 => ⟨S2048x1024, .f32⟩
  | 79 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_7 : Ref sig .tc := ⟨.hbm, 67, rfl⟩
abbrev main_c_8 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_call1_v0 : Ref sig .tc := ⟨.hbm, 98, rfl⟩
abbrev main_v74_1 : Ref sig .tc := ⟨.hbm, 99, rfl⟩
abbrev main_call1_v2 : Ref sig .tc := ⟨.hbm, 100, rfl⟩
abbrev main_v74_0 : Ref sig .tc := ⟨.hbm, 101, rfl⟩
abbrev main_call1_cst : Ref sig .tc := ⟨.hbm, 102, rfl⟩
abbrev main_v74_2 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_25 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_call2_cst : Ref sig .tc := ⟨.hbm, 166, rfl⟩
abbrev main_call2_v0 : Ref sig .tc := ⟨.hbm, 167, rfl⟩
abbrev main_v125 : Ref sig .tc := ⟨.hbm, 168, rfl⟩
abbrev main_cst_26 : Ref sig .tc := ⟨.hbm, 169, rfl⟩
abbrev main_v126 : Ref sig .tc := ⟨.hbm, 170, rfl⟩
abbrev main_v127 : Ref sig .tc := ⟨.hbm, 171, rfl⟩
abbrev main_cst_27 : Ref sig .tc := ⟨.hbm, 172, rfl⟩
abbrev main_v128 : Ref sig .tc := ⟨.hbm, 173, rfl⟩
abbrev main_v129 : Ref sig .tc := ⟨.hbm, 174, rfl⟩
abbrev main_cst_28 : Ref sig .tc := ⟨.hbm, 175, rfl⟩
abbrev main_v130 : Ref sig .tc := ⟨.hbm, 176, rfl⟩
abbrev main_cst_29 : Ref sig .tc := ⟨.hbm, 177, rfl⟩
abbrev main_v131 : Ref sig .tc := ⟨.hbm, 178, rfl⟩
abbrev main_v132 : Ref sig .tc := ⟨.hbm, 179, rfl⟩
abbrev main_cst_30 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_31 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_32 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩

abbrev nD : Nat := 1
abbrev τ : Topo := Topo.v7x

variable {F : FTy → Type} [FloatOps F]
-- ==== SguBwd.lean ====
abbrev S2048x4096 : Shape := ⟨2, ![2048, 4096]⟩
abbrev S2048x2048 : Shape := ⟨2, ![2048, 2048]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S1x2048 : Shape := ⟨2, ![1, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 14
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S2048x2048, .bf16⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S1x2048, .f32⟩
  | .hbm, ⟨8, _⟩ => ⟨S1x2048, .f32⟩
  | .hbm, ⟨9, _⟩ => ⟨S2048x4096, .bf16⟩
  | .hbm, ⟨10, _⟩ => ⟨S8x128x128, .f32⟩
  | .hbm, ⟨11, _⟩ => ⟨S128x8, .f32⟩
  | .hbm, ⟨12, _⟩ => ⟨S1x2048, .f32⟩
  | .hbm, ⟨13, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguBwdIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== SguRefIdeal.lean ====
abbrev S2048x4096 : Shape := ⟨2, ![2048, 4096]⟩
abbrev S2048x2048 : Shape := ⟨2, ![2048, 2048]⟩
abbrev S2048 : Shape := ⟨1, ![2048]⟩
abbrev S8x128x128 : Shape := ⟨3, ![8, 128, 128]⟩
abbrev S8x128 : Shape := ⟨2, ![8, 128]⟩
abbrev S1x2048x2048 : Shape := ⟨3, ![1, 2048, 2048]⟩
abbrev S1x2048x4096 : Shape := ⟨3, ![1, 2048, 4096]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S1x16x128x8x256 : Shape := ⟨5, ![1, 16, 128, 8, 256]⟩
abbrev S8x1x16x256x128 : Shape := ⟨5, ![8, 1, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩

abbrev nBuf : Space → Nat
  | .hbm => 203
  | .vmem => 0
  | .smem => 0
  | _ => 0

abbrev hbmTy0_0 (i : Nat) : BufTy := match i % 128 with
  | 0 => ⟨S2048x4096, .f32⟩
  | 1 => ⟨S2048x2048, .bf16⟩
  | 2 => ⟨S2048, .f32⟩
  | 3 => ⟨S2048, .f32⟩
  | 4 => ⟨S8x128x128, .f32⟩
  | 5 => ⟨S8x128, .f32⟩
  | 6 => ⟨S2048x2048, .f32⟩
  | 7 => ⟨S1x2048x2048, .f32⟩
  | 8 => ⟨S1x2048x4096, .f32⟩
  | 9 => ⟨S_, .f32⟩
  | 10 => ⟨S1x2048x4096, .f32⟩
  | 11 => ⟨S1x2048x4096, .f32⟩
  | 12 => ⟨S1x2048x4096, .f32⟩
  | 13 => ⟨S_, .f32⟩
  | 14 => ⟨S_, .f32⟩
  | 15 => ⟨S1x2048x4096, .f32⟩
  | 16 => ⟨S1x2048x4096, .f32⟩
  | 17 => ⟨S1x2048x4096, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S1x2048x4096, .f32⟩
  | 27 => ⟨S1x2048x4096, .f32⟩
  | 28 => ⟨S1x2048x4096, .f32⟩
  | 29 => ⟨S1x2048x4096, .f32⟩
  | 30 => ⟨S1x2048x4096, .f32⟩
  | 31 => ⟨S1x2048x4096, .f32⟩
  | 32 => ⟨S1x2048x2048, .f32⟩
  | 33 => ⟨S1x2048x2048, .f32⟩
  | 34 => ⟨S_, .f32⟩
  | 35 => ⟨S1x2048, .f32⟩
  | 36 => ⟨S1x2048x1, .f32⟩
  | 37 => ⟨S_, .f32⟩
  | 38 => ⟨S1x2048x1, .f32⟩
  | 39 => ⟨S1x2048x1, .f32⟩
  | 40 => ⟨S1x2048x2048, .f32⟩
  | 41 => ⟨S1x2048x2048, .f32⟩
  | 42 => ⟨S1x2048x2048, .f32⟩
  | 43 => ⟨S_, .f32⟩
  | 44 => ⟨S1x2048, .f32⟩
  | 45 => ⟨S1x2048x1, .f32⟩
  | 46 => ⟨S_, .f32⟩
  | 47 => ⟨S1x2048x1, .f32⟩
  | 48 => ⟨S1x2048x1, .f32⟩
  | 49 => ⟨S_, .f32⟩
  | 50 => ⟨S1x2048x1, .f32⟩
  | 51 => ⟨S1x2048x1, .f32⟩
  | 52 => ⟨S1x2048x1, .f32⟩
  | 53 => ⟨S1x2048x1, .f32⟩
  | 54 => ⟨S_, .f32⟩
  | 55 => ⟨S1x2048x1, .f32⟩
  | 56 => ⟨S1x2048x1, .f32⟩
  | 57 => ⟨S1x2048x2048, .f32⟩
  | 58 => ⟨S1x2048x2048, .f32⟩
  | 59 => ⟨S1x1x2048, .f32⟩
  | 60 => ⟨S1x2048x2048, .f32⟩
  | 61 => ⟨S1x2048x2048, .f32⟩
  | 62 => ⟨S1x1x2048, .f32⟩
  | 63 => ⟨S1x2048x2048, .f32⟩
  | 64 => ⟨S1x2048x2048, .f32⟩
  | 65 => ⟨S128, .i32⟩
  | 66 => ⟨S1x128, .i32⟩
  | 67 => ⟨S_, .i32⟩
  | 68 => ⟨S_, .i32⟩
  | 69 => ⟨S1x128, .i32⟩
  | 70 => ⟨S1x128, .i32⟩
  | 71 => ⟨S1x128, .i32⟩
  | 72 => ⟨S_, .i32⟩
  | 73 => ⟨S1x128, .i32⟩
  | 74 => ⟨S1x128, .i1⟩
  | 75 => ⟨S1x128, .i32⟩
  | 76 => ⟨S1x128, .i32⟩
  | 77 => ⟨S_, .i32⟩
  | 78 => ⟨S1x128, .i32⟩
  | 79 => ⟨S1x128, .i1⟩
  | 80 => ⟨S1x128, .i1⟩
  | 81 => ⟨S_, .i32⟩
  | 82 => ⟨S1x128, .i32⟩
  | 83 => ⟨S1x128, .i32⟩
  | 84 => ⟨S1x128, .i32⟩
  | 85 => ⟨S128x1, .i32⟩
  | 86 => ⟨S_, .i32⟩
  | 87 => ⟨S_, .i32⟩
  | 88 => ⟨S128x1, .i32⟩
  | 89 => ⟨S128x1, .i32⟩
  | 90 => ⟨S128x1, .i32⟩
  | 91 => ⟨S_, .i32⟩
  | 92 => ⟨S128x1, .i32⟩
  | 93 => ⟨S128x1, .i1⟩
  | 94 => ⟨S128x1, .i32⟩
  | 95 => ⟨S128x1, .i32⟩
  | 96 => ⟨S_, .i32⟩
  | 97 => ⟨S128x1, .i32⟩
  | 98 => ⟨S128x1, .i1⟩
  | 99 => ⟨S128x1, .i1⟩
  | 100 => ⟨S_, .i32⟩
  | 101 => ⟨S128x1, .i32⟩
  | 102 => ⟨S128x1, .i32⟩
  | 103 => ⟨S128x1, .i32⟩
  | 104 => ⟨S128x128, .i32⟩
  | 105 => ⟨S128x128, .i32⟩
  | 106 => ⟨S128x128, .i1⟩
  | 107 => ⟨S1x128x128, .i1⟩
  | 108 => ⟨S_, .f32⟩
  | 109 => ⟨S8x128x128, .f32⟩
  | 110 => ⟨S8x128x128, .i1⟩
  | 111 => ⟨S8x128x128, .f32⟩
  | 112 => ⟨S_, .f32⟩
  | 113 => ⟨S8x128x128, .f32⟩
  | 114 => ⟨S1x16x128x8x256, .f32⟩
  | 115 => ⟨S8x1x16x256x128, .f32⟩
  | 116 => ⟨S1x16x128x8x256, .f32⟩
  | 117 => ⟨S128x8, .f32⟩
  | 118 => ⟨S128x8x1, .f32⟩
  | 119 => ⟨S1x1x128x8x1, .f32⟩
  | 120 => ⟨S1x16x128x8x256, .f32⟩
  | 121 => ⟨S1x16x128x8x256, .f32⟩
  | 122 => ⟨S1x2048x2048, .f32⟩
  | 123 => ⟨S1x2048x2048, .f32⟩
  | 124 => ⟨S1x2048x2048, .f32⟩
  | 125 => ⟨S1x2048x2048, .f32⟩
  | 126 => ⟨S1x16x128x8x256, .f32⟩
  | 127 => ⟨S_, .f32⟩
  | _ => ⟨S2048x4096, .f32⟩

abbrev hbmTy0_1 (i : Nat) : BufTy := match i % 128 with
  | 0 => ⟨S1x128x8, .f32⟩
  | 1 => ⟨S1x1x128x8x1, .f32⟩
  | 2 => ⟨S_, .f32⟩
  | 3 => ⟨S128x8, .f32⟩
  | 4 => ⟨S128x8x1, .f32⟩
  | 5 => ⟨S_, .f32⟩
  | 6 => ⟨S128x8, .f32⟩
  | 7 => ⟨S8x128, .f32⟩
  | 8 => ⟨S8x1x16x256x128, .f32⟩
  | 9 => ⟨S8x128x128, .f32⟩
  | 10 => ⟨S8x1x16x256x128, .f32⟩
  | 11 => ⟨S1x16x128x8x256, .f32⟩
  | 12 => ⟨S1x2048x2048, .f32⟩
  | 13 => ⟨S_, .f32⟩
  | 14 => ⟨S8x128x128, .f32⟩
  | 15 => ⟨S8x128x128, .f32⟩
  | 16 => ⟨S_, .f32⟩
  | 17 => ⟨S1x2048, .f32⟩
  | 18 => ⟨S1x1x2048, .f32⟩
  | 19 => ⟨S_, .f32⟩
  | 20 => ⟨S2048, .f32⟩
  | 21 => ⟨S1x2048x2048, .f32⟩
  | 22 => ⟨S_, .f32⟩
  | 23 => ⟨S1x2048, .f32⟩
  | 24 => ⟨S1x1x2048, .f32⟩
  | 25 => ⟨S1x2048x2048, .f32⟩
  | 26 => ⟨S1x2048x2048, .f32⟩
  | 27 => ⟨S_, .f32⟩
  | 28 => ⟨S2048, .f32⟩
  | 29 => ⟨S1x2048x2048, .f32⟩
  | 30 => ⟨S_, .f32⟩
  | 31 => ⟨S1x2048, .f32⟩
  | 32 => ⟨S1x2048x1, .f32⟩
  | 33 => ⟨S1x2048x2048, .f32⟩
  | 34 => ⟨S1x2048x2048, .f32⟩
  | 35 => ⟨S1x2048x1, .f32⟩
  | 36 => ⟨S_, .f32⟩
  | 37 => ⟨S1x2048x1, .f32⟩
  | 38 => ⟨S1x2048x1, .f32⟩
  | 39 => ⟨S_, .f32⟩
  | 40 => ⟨S2048, .f32⟩
  | 41 => ⟨S1x2048, .f32⟩
  | 42 => ⟨S1x2048x2048, .f32⟩
  | 43 => ⟨S1x2048x2048, .f32⟩
  | 44 => ⟨S1x2048x2048, .f32⟩
  | 45 => ⟨S1x2048x2048, .f32⟩
  | 46 => ⟨S1x2048x2048, .f32⟩
  | 47 => ⟨S1x2048x2048, .f32⟩
  | 48 => ⟨S_, .f32⟩
  | 49 => ⟨S1x2048, .f32⟩
  | 50 => ⟨S1x2048x1, .f32⟩
  | 51 => ⟨S_, .f32⟩
  | 52 => ⟨S1x2048x1, .f32⟩
  | 53 => ⟨S1x2048x1, .f32⟩
  | 54 => ⟨S_, .f32⟩
  | 55 => ⟨S2048, .f32⟩
  | 56 => ⟨S1x2048, .f32⟩
  | 57 => ⟨S1x2048x2048, .f32⟩
  | 58 => ⟨S1x2048x2048, .f32⟩
  | 59 => ⟨S1x2048x4096, .f32⟩
  | 60 => ⟨S1x2048x4096, .f32⟩
  | 61 => ⟨S1x2048x4096, .f32⟩
  | 62 => ⟨S1x2048x4096, .f32⟩
  | 63 => ⟨S1x2048x4096, .f32⟩
  | 64 => ⟨S1x2048x4096, .f32⟩
  | 65 => ⟨S1x2048x4096, .f32⟩
  | 66 => ⟨S_, .f32⟩
  | 67 => ⟨S1x2048x4096, .f32⟩
  | 68 => ⟨S1x2048x4096, .f32⟩
  | 69 => ⟨S1x2048x4096, .f32⟩
  | 70 => ⟨S2048x4096, .f32⟩
  | 71 => ⟨S2048x4096, .bf16⟩
  | 72 => ⟨S128x8, .f32⟩
  | 73 => ⟨S1x2048, .f32⟩
  | 74 => ⟨S1x2048, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_12 : Ref sig .tc := ⟨.hbm, 108, rfl⟩
abbrev main_v56 : Ref sig .tc := ⟨.hbm, 109, rfl⟩
abbrev main_v57_1 : Ref sig .tc := ⟨.hbm, 110, rfl⟩
abbrev main_v57_0 : Ref sig .tc := ⟨.hbm, 111, rfl⟩
abbrev main_call2_cst : Ref sig .tc := ⟨.hbm, 112, rfl⟩
abbrev main_v57_2 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_13 : Ref sig .tc := ⟨.hbm, 127, rfl⟩
abbrev main_v71 : Ref sig .tc := ⟨.hbm, 128, rfl⟩
abbrev main_v72 : Ref sig .tc := ⟨.hbm, 129, rfl⟩
abbrev main_cst_14 : Ref sig .tc := ⟨.hbm, 130, rfl⟩
abbrev main_v73 : Ref sig .tc := ⟨.hbm, 131, rfl⟩
abbrev main_v74 : Ref sig .tc := ⟨.hbm, 132, rfl⟩
abbrev main_cst_15 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_call3_cst : Ref sig .tc := ⟨.hbm, 141, rfl⟩
abbrev main_call3_v0 : Ref sig .tc := ⟨.hbm, 142, rfl⟩
abbrev main_v82 : Ref sig .tc := ⟨.hbm, 143, rfl⟩
abbrev main_cst_16 : Ref sig .tc := ⟨.hbm, 144, rfl⟩
abbrev main_v83 : Ref sig .tc := ⟨.hbm, 145, rfl⟩
abbrev main_v84 : Ref sig .tc := ⟨.hbm, 146, rfl⟩
abbrev main_cst_17 : Ref sig .tc := ⟨.hbm, 147, rfl⟩
abbrev main_v85 : Ref sig .tc := ⟨.hbm, 148, rfl⟩
abbrev main_v86 : Ref sig .tc := ⟨.hbm, 149, rfl⟩
abbrev main_cst_18 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_19 : Ref sig .tc := ⟨.hbm, 155, rfl⟩
abbrev main_v91 : Ref sig .tc := ⟨.hbm, 156, rfl⟩
abbrev main_v92 : Ref sig .tc := ⟨.hbm, 157, rfl⟩
abbrev main_cst_20 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_21 : Ref sig .tc := ⟨.hbm, 164, rfl⟩
abbrev main_v98 : Ref sig .tc := ⟨.hbm, 165, rfl⟩
abbrev main_v99 : Ref sig .tc := ⟨.hbm, 166, rfl⟩
abbrev main_cst_22 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_cst_23 : Ref sig .tc := ⟨.hbm, 176, rfl⟩
abbrev main_v108 : Ref sig .tc := ⟨.hbm, 177, rfl⟩
abbrev main_v109 : Ref sig .tc := ⟨.hbm, 178, rfl⟩
abbrev main_cst_24 : Ref sig .tc := ⟨.hbm, 179, rfl⟩
abbrev main_v110 : Ref sig .tc := ⟨.hbm, 180, rfl⟩
abbrev main_v111 : Ref sig .tc := ⟨.hbm, 181, rfl⟩
abbrev main_cst_25 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_cst_26 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩

abbrev nD : Nat := 1
abbrev τ : Topo := Topo.v7x

variable {F : FTy → Type} [FloatOps F]
-- ==== FfnBwd.lean ====
abbrev S2048x2048 : Shape := ⟨2, ![2048, 2048]⟩
abbrev S5632x2048 : Shape := ⟨2, ![5632, 2048]⟩
abbrev S2048x5632 : Shape := ⟨2, ![2048, 5632]⟩
abbrev S8x704x2048 : Shape := ⟨3, ![8, 704, 2048]⟩
abbrev S2048x8x704 : Shape := ⟨3, ![2048, 8, 704]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S1x256x2048 : Shape := ⟨3, ![1, 256, 2048]⟩
abbrev S256x2048 : Shape := ⟨2, ![256, 2048]⟩
abbrev S1024x256 : Shape := ⟨2, ![1024, 256]⟩
abbrev S1x1024x256 : Shape := ⟨3, ![1, 1024, 256]⟩
abbrev S1x192x2048 : Shape := ⟨3, ![1, 192, 2048]⟩
abbrev S192x2048 : Shape := ⟨2, ![192, 2048]⟩
abbrev S1024x192 : Shape := ⟨2, ![1024, 192]⟩
abbrev S1x1024x192 : Shape := ⟨3, ![1, 1024, 192]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S8x704x2048, .f32⟩
  | .hbm, ⟨5, _⟩ => ⟨S8x704x2048, .bf16⟩
  | .hbm, ⟨6, _⟩ => ⟨S2048x8x704, .bf16⟩
  | .hbm, ⟨7, _⟩ => ⟨S8x2048x704, .bf16⟩
  | .hbm, ⟨8, _⟩ => ⟨S2048x8x704, .bf16⟩
  | .hbm, ⟨9, _⟩ => ⟨S8x2048x704, .bf16⟩
  | .hbm, ⟨10, _⟩ => ⟨S8x2048x704, .bf16⟩
  | .hbm, ⟨11, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S2048x8x704, .bf16⟩
  | .hbm, ⟨31, _⟩ => ⟨S8x2048x704, .bf16⟩
  | .hbm, ⟨32, _⟩ => ⟨S2048x5632, .bf16⟩
  | .hbm, ⟨33, _⟩ => ⟨S2048x8x704, .bf16⟩
  | .hbm, ⟨34, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== LossHead.lean ====
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S1x1, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S1x1, .f32⟩
  | .hbm, ⟨72, _⟩ => ⟨S2048x2048, .bf16⟩
  | .hbm, ⟨73, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== FfnIn.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S1x256x2048 : Shape := ⟨3, ![1, 256, 2048]⟩
abbrev S256x2048 : Shape := ⟨2, ![256, 2048]⟩
abbrev S1024x256 : Shape := ⟨2, ![1024, 256]⟩
abbrev S1x1024x256 : Shape := ⟨3, ![1, 1024, 256]⟩
abbrev S1x192x2048 : Shape := ⟨3, ![1, 192, 2048]⟩
abbrev S192x2048 : Shape := ⟨2, ![192, 2048]⟩
abbrev S1024x192 : Shape := ⟨2, ![1024, 192]⟩
abbrev S1x1024x192 : Shape := ⟨3, ![1, 1024, 192]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8x704x2048, .f32⟩
  | .hbm, ⟨5, _⟩ => ⟨S8x704x2048, .bf16⟩
  | .hbm, ⟨6, _⟩ => ⟨S5632x2048, .f32⟩
  | .hbm, ⟨7, _⟩ => ⟨S8x704x2048, .f32⟩
  | .hbm, ⟨8, _⟩ => ⟨S8x704x2048, .bf16⟩
  | .hbm, ⟨9, _⟩ => ⟨S8x2048x704, .bf16⟩
  | .hbm, ⟨10, _⟩ => ⟨S8x2048x704, .bf16⟩
  | .hbm, ⟨11, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnInRefIdeal.lean ====
abbrev S2048x2048 : Shape := ⟨2, ![2048, 2048]⟩
abbrev S2048x5632 : Shape := ⟨2, ![2048, 5632]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .bf16⟩
  | .hbm, ⟨17, _⟩ => ⟨S2048x8x704, .bf16⟩
  | .hbm, ⟨18, _⟩ => ⟨S8x2048x704, .bf16⟩
  | .hbm, ⟨19, _⟩ => ⟨S2048x5632, .bf16⟩
  | .hbm, ⟨20, _⟩ => ⟨S2048x8x704, .bf16⟩
  | .hbm, ⟨21, _⟩ => ⟨S8x2048x704, .bf16⟩
  | .hbm, ⟨22, _⟩ => ⟨S2048x5632, .bf16⟩
  | .hbm, ⟨23, _⟩ => ⟨S2048x8x704, .bf16⟩
  | .hbm, ⟨24, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== AttnFwd.lean ====
abbrev S2048x6144 : Shape := ⟨2, ![2048, 6144]⟩
abbrev S8x513 : Shape := ⟨2, ![8, 513]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S768 : Shape := ⟨1, ![768]⟩
abbrev S768x1 : Shape := ⟨2, ![768, 1]⟩
abbrev S513 : Shape := ⟨1, ![513]⟩
abbrev S1x513 : Shape := ⟨2, ![1, 513]⟩
abbrev S768x513 : Shape := ⟨2, ![768, 513]⟩
abbrev S1 : Shape := ⟨1, ![1]⟩
abbrev S1x1 : Shape := ⟨2, ![1, 1]⟩
abbrev S8x768 : Shape := ⟨2, ![8, 768]⟩
abbrev S8x641 : Shape := ⟨2, ![8, 641]⟩
abbrev S8x127 : Shape := ⟨2, ![8, 127]⟩
abbrev S8x1x768 : Shape := ⟨3, ![8, 1, 768]⟩
abbrev S8x128x768 : Shape := ⟨3, ![8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x128x640 : Shape := ⟨3, ![1, 128, 640]⟩
abbrev S2048x2048 : Shape := ⟨2, ![2048, 2048]⟩
abbrev S2048x128 : Shape := ⟨2, ![2048, 128]⟩
abbrev S2560x128 : Shape := ⟨2, ![2560, 128]⟩
abbrev S512x128 : Shape := ⟨2, ![512, 128]⟩
abbrev S128x128 : Shape := ⟨2, ![128, 128]⟩
abbrev S640x128 : Shape := ⟨2, ![640, 128]⟩
abbrev S2048x1024 : Shape := ⟨2, ![2048, 1024]⟩

abbrev nBuf : Space → Nat
  | .hbm => 134
  | .vmem => 12
  | .smem => 0
  | _ => 0

abbrev hbmTy0_0 (i : Nat) : BufTy := match i % 128 with
  | 0 => ⟨S2048x6144, .bf16⟩
  | 1 => ⟨S8x513, .f32⟩
  | 2 => ⟨S128, .i32⟩
  | 3 => ⟨S128x1, .i32⟩
  | 4 => ⟨S640, .i32⟩
  | 5 => ⟨S1x640, .i32⟩
  | 6 => ⟨S_, .i32⟩
  | 7 => ⟨S128x1, .i32⟩
  | 8 => ⟨S128x1, .i32⟩
  | 9 => ⟨S128x640, .i32⟩
  | 10 => ⟨S128x640, .i32⟩
  | 11 => ⟨S128x640, .i32⟩
  | 12 => ⟨S_, .i32⟩
  | 13 => ⟨S_, .i32⟩
  | 14 => ⟨S_, .i32⟩
  | 15 => ⟨S128x640, .i32⟩
  | 16 => ⟨S128x640, .i32⟩
  | 17 => ⟨S_, .i32⟩
  | 18 => ⟨S128x640, .i32⟩
  | 19 => ⟨S128x640, .i32⟩
  | 20 => ⟨S_, .i32⟩
  | 21 => ⟨S128x640, .i32⟩
  | 22 => ⟨S128x640, .i32⟩
  | 23 => ⟨S_, .i32⟩
  | 24 => ⟨S_, .i32⟩
  | 25 => ⟨S1x640, .i32⟩
  | 26 => ⟨S1x640, .i32⟩
  | 27 => ⟨S1x640, .i32⟩
  | 28 => ⟨S_, .i32⟩
  | 29 => ⟨S1x640, .i32⟩
  | 30 => ⟨S1x640, .i1⟩
  | 31 => ⟨S1x640, .i32⟩
  | 32 => ⟨S1x640, .i32⟩
  | 33 => ⟨S_, .i32⟩
  | 34 => ⟨S1x640, .i32⟩
  | 35 => ⟨S1x640, .i1⟩
  | 36 => ⟨S1x640, .i1⟩
  | 37 => ⟨S_, .i32⟩
  | 38 => ⟨S1x640, .i32⟩
  | 39 => ⟨S1x640, .i32⟩
  | 40 => ⟨S1x640, .i32⟩
  | 41 => ⟨S_, .i32⟩
  | 42 => ⟨S_, .i32⟩
  | 43 => ⟨S128x1, .i32⟩
  | 44 => ⟨S128x1, .i32⟩
  | 45 => ⟨S128x1, .i32⟩
  | 46 => ⟨S_, .i32⟩
  | 47 => ⟨S128x1, .i32⟩
  | 48 => ⟨S128x1, .i1⟩
  | 49 => ⟨S128x1, .i32⟩
  | 50 => ⟨S128x1, .i32⟩
  | 51 => ⟨S_, .i32⟩
  | 52 => ⟨S128x1, .i32⟩
  | 53 => ⟨S128x1, .i1⟩
  | 54 => ⟨S128x1, .i1⟩
  | 55 => ⟨S_, .i32⟩
  | 56 => ⟨S128x1, .i32⟩
  | 57 => ⟨S128x1, .i32⟩
  | 58 => ⟨S128x1, .i32⟩
  | 59 => ⟨S128x640, .i32⟩
  | 60 => ⟨S128x640, .i32⟩
  | 61 => ⟨S128x640, .i32⟩
  | 62 => ⟨S_, .i32⟩
  | 63 => ⟨S128x640, .i32⟩
  | 64 => ⟨S128x640, .i1⟩
  | 65 => ⟨S_, .i32⟩
  | 66 => ⟨S128x640, .i32⟩
  | 67 => ⟨S128x640, .i1⟩
  | 68 => ⟨S128x640, .i1⟩
  | 69 => ⟨S768, .i32⟩
  | 70 => ⟨S_, .i32⟩
  | 71 => ⟨S768, .i32⟩
  | 72 => ⟨S768, .i32⟩
  | 73 => ⟨S_, .i32⟩
  | 74 => ⟨S768, .i32⟩
  | 75 => ⟨S768, .i32⟩
  | 76 => ⟨S_, .i32⟩
  | 77 => ⟨S_, .i32⟩
  | 78 => ⟨S_, .i32⟩
  | 79 => ⟨S768, .i32⟩
  | 80 => ⟨S768, .i32⟩
  | 81 => ⟨S_, .i32⟩
  | 82 => ⟨S768, .i32⟩
  | 83 => ⟨S768, .i32⟩
  | 84 => ⟨S_, .i32⟩
  | 85 => ⟨S768, .i32⟩
  | 86 => ⟨S768, .i32⟩
  | 87 => ⟨S768x1, .i32⟩
  | 88 => ⟨S513, .i32⟩
  | 89 => ⟨S1x513, .i32⟩
  | 90 => ⟨S768x513, .i32⟩
  | 91 => ⟨S768x513, .i32⟩
  | 92 => ⟨S768x513, .i1⟩
  | 93 => ⟨S768x513, .f32⟩
  | 94 => ⟨S_, .i32⟩
  | 95 => ⟨S768, .i32⟩
  | 96 => ⟨S768, .i1⟩
  | 97 => ⟨S_, .i32⟩
  | 98 => ⟨S768, .i32⟩
  | 99 => ⟨S768, .i32⟩
  | 100 => ⟨S768, .i32⟩
  | 101 => ⟨S768x1, .i32⟩
  | 102 => ⟨S1, .i32⟩
  | 103 => ⟨S_, .i32⟩
  | 104 => ⟨S768x1, .i32⟩
  | 105 => ⟨S768x1, .i1⟩
  | 106 => ⟨S1x1, .i32⟩
  | 107 => ⟨S768x1, .i32⟩
  | 108 => ⟨S768x1, .i1⟩
  | 109 => ⟨S768x1, .i1⟩
  | 110 => ⟨S_, .i1⟩
  | 111 => ⟨S768, .i1⟩
  | 112 => ⟨S8x768, .f32⟩
  | 113 => ⟨S8x768, .i1⟩
  | 114 => ⟨S_, .f32⟩
  | 115 => ⟨S8x768, .f32⟩
  | 116 => ⟨S8x768, .f32⟩
  | 117 => ⟨S8x641, .f32⟩
  | 118 => ⟨S8x127, .f32⟩
  | 119 => ⟨S8x768, .f32⟩
  | 120 => ⟨S8x1x768, .f32⟩
  | 121 => ⟨S8x128x768, .f32⟩
  | 122 => ⟨S8x98304, .f32⟩
  | 123 => ⟨S8x98176, .f32⟩
  | 124 => ⟨S8x128x767, .f32⟩
  | 125 => ⟨S8x128x640, .f32⟩
  | 126 => ⟨S1x128x640, .i1⟩
  | 127 => ⟨S_, .f32⟩
  | _ => ⟨S2048x6144, .bf16⟩

abbrev hbmTy0_1 (i : Nat) : BufTy := match i % 128 with
  | 0 => ⟨S_, .f32⟩
  | 1 => ⟨S8x128x640, .i1⟩
  | 2 => ⟨S8x128x640, .f32⟩
  | 3 => ⟨S8x128x640, .f32⟩
  | 4 => ⟨S2048x2048, .bf16⟩
  | 5 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128x640, .f32⟩
  | .local _ .vmem, ⟨7, _⟩ => ⟨S1x128x640, .f32⟩
  | .local _ .vmem, ⟨8, _⟩ => ⟨S2048x128, .bf16⟩
  | .local _ .vmem, ⟨9, _⟩ => ⟨S2048x128, .bf16⟩
  | .local _ .vmem, ⟨10, _⟩ => ⟨S2560x128, .bf16⟩
  | .local _ .vmem, ⟨11, _⟩ => ⟨S2560x128, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v12 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c_5 : Ref sig .tc := ⟨.hbm, 62, rfl⟩
abbrev main_v17 : Ref sig .tc := ⟨.hbm, 63, rfl⟩
abbrev main_v18 : Ref sig .tc := ⟨.hbm, 64, rfl⟩
abbrev main_c_6 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_c_7 : Ref sig .tc := ⟨.hbm, 70, rfl⟩
abbrev main_v23 : Ref sig .tc := ⟨.hbm, 71, rfl⟩
abbrev main_v24 : Ref sig .tc := ⟨.hbm, 72, rfl⟩
abbrev main_c_8 : Ref sig .tc := ⟨.hbm, 73, rfl⟩
abbrev main_v25 : Ref sig .tc := ⟨.hbm, 74, rfl⟩
abbrev main_v26 : Ref sig .tc := ⟨.hbm, 75, rfl⟩
abbrev main_c_9 : Ref sig .tc := ⟨.hbm, 76, rfl⟩
abbrev main_c_10 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v27 : Ref sig .tc := ⟨.hbm, 83, rfl⟩
abbrev main_c_11 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_c_1 : Ref sig .tc := ⟨.hbm, 102, rfl⟩
abbrev main_call4_c_2 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_3 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_call4_cst : Ref sig .tc := ⟨.hbm, 114, rfl⟩
abbrev main_call4_v15 : Ref sig .tc := ⟨.hbm, 115, rfl⟩
abbrev main_v37 : Ref sig .tc := ⟨.hbm, 116, rfl⟩
abbrev main_call5_v0 : Ref sig .tc := ⟨.hbm, 117, rfl⟩
abbrev main_call5_v1 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v16 : BitVec 32 := Scalar.muli arg8 c128_i32
  v16
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v16 : BitVec 32 := Scalar.muli arg8 c128_i32
  let v17 : BitVec 32 := v16
  let v18 : Index := Scalar.indexCast v17
  let c0_11 : Index := 0#32
  ![v18.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v16 : BitVec 32 := Scalar.muli arg8 c128_i32
  let v17 : BitVec 32 := v16
  let v20 : Index := Scalar.indexCast v17
  let c0_12 : Index := 0#32
  ![v20.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x6144 : Shape := ⟨2, ![2048, 6144]⟩
abbrev S8x513 : Shape := ⟨2, ![8, 513]⟩
abbrev S1x2048x6144 : Shape := ⟨3, ![1, 2048, 6144]⟩
abbrev S1x2048x1024 : Shape := ⟨3, ![1, 2048, 1024]⟩
abbrev S1x2048x3072 : Shape := ⟨3, ![1, 2048, 3072]⟩
abbrev S1x2048x8x128 : Shape := ⟨4, ![1, 2048, 8, 128]⟩
abbrev S1x32x64x8x128 : Shape := ⟨5, ![1, 32, 64, 8, 128]⟩
abbrev S_ : Shape := ⟨0, ![]⟩
abbrev S1x512x8x128 : Shape := ⟨4, ![1, 512, 8, 128]⟩
abbrev S1x2560x8x128 : Shape := ⟨4, ![1, 2560, 8, 128]⟩
abbrev S1x40x64x8x128 : Shape := ⟨5, ![1, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S1x32x9x64x8x128 : Shape := ⟨6, ![1, 32, 9, 64, 8, 128]⟩
abbrev S1x32x576x8x128 : Shape := ⟨5, ![1, 32, 576, 8, 128]⟩
abbrev S1x8x32x64x576 : Shape := ⟨5, ![1, 8, 32, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x1x64x576 : Shape := ⟨4, ![8, 1, 64, 576]⟩
abbrev S1x8x1x64x576 : Shape := ⟨5, ![1, 8, 1, 64, 576]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x32x64 : Shape := ⟨4, ![1, 8, 32, 64]⟩
abbrev S1x8x32x64x1 : Shape := ⟨5, ![1, 8, 32, 64, 1]⟩
abbrev S1x32x8x128x64 : Shape := ⟨5, ![1, 32, 8, 128, 64]⟩
abbrev S2048x1024 : Shape := ⟨2, ![2048, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x513, .f32⟩
  | .hbm, ⟨2, _⟩ => ⟨S2048x6144, .f32⟩
  | .hbm, ⟨3, _⟩ => ⟨S1x2048x6144, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x3072, .f32⟩
  | .hbm, ⟨8, _⟩ => ⟨S1x2048x8x128, .f32⟩
  | .hbm, ⟨9, _⟩ => ⟨S1x2048x8x128, .f32⟩
  | .hbm, ⟨10, _⟩ => ⟨S1x2048x8x128, .f32⟩
  | .hbm, ⟨11, _⟩ => ⟨S1x32x64x8x128, .f32⟩
  | .hbm, ⟨12, _⟩ => ⟨S_, .f32⟩
  | .hbm, ⟨13, _⟩ => ⟨S1x512x8x128, .f32⟩
  | .hbm, ⟨14, _⟩ => ⟨S1x2560x8x128, .f32⟩
  | .hbm, ⟨15, _⟩ => ⟨S1x40x64x8x128, .f32⟩
  | .hbm, ⟨16, _⟩ => ⟨S1x2560x8x128, .f32⟩
  | .hbm, ⟨17, _⟩ => ⟨S1x40x64x8x128, .f32⟩
  | .hbm, ⟨18, _⟩ => ⟨S32, .i32⟩
  | .hbm, ⟨19, _⟩ => ⟨S32x1, .i32⟩
  | .hbm, ⟨20, _⟩ => ⟨S9, .i32⟩
  | .hbm, ⟨21, _⟩ => ⟨S1x9, .i32⟩
  | .hbm, ⟨22, _⟩ => ⟨S32x9, .i32⟩
  | .hbm, ⟨23, _⟩ => ⟨S32x9, .i32⟩
  | .hbm, ⟨24, _⟩ => ⟨S32x9, .i32⟩
  | .hbm, ⟨25, _⟩ => ⟨S_, .i32⟩
  | .hbm, ⟨26, _⟩ => ⟨S32x9, .i32⟩
  | .hbm, ⟨27, _⟩ => ⟨S32x9, .i1⟩
  | .hbm, ⟨28, _⟩ => ⟨S_, .i32⟩
  | .hbm, ⟨29, _⟩ => ⟨S32x9, .i32⟩
  | .hbm, ⟨30, _⟩ => ⟨S32x9, .i32⟩
  | .hbm, ⟨31, _⟩ => ⟨S32x9, .i32⟩
  | .hbm, ⟨32, _⟩ => ⟨S32x9x1, .i32⟩
  | .hbm, ⟨33, _⟩ => ⟨S1x32x9x64x8x128, .f32⟩
  | .hbm, ⟨34, _⟩ => ⟨S1x32x576x8x128, .f32⟩
  | .hbm, ⟨35, _⟩ => ⟨S_, .i32⟩
  | .hbm, ⟨36, _⟩ => ⟨S32x9, .i32⟩
  | .hbm, ⟨37, _⟩ => ⟨S32x9, .i1⟩
  | .hbm, ⟨38, _⟩ => ⟨S_, .i32⟩
  | .hbm, ⟨39, _⟩ => ⟨S32x9, .i32⟩
  | .hbm, ⟨40, _⟩ => ⟨S32x9, .i32⟩
  | .hbm, ⟨41, _⟩ => ⟨S32x9, .i32⟩
  | .hbm, ⟨42, _⟩ => ⟨S32x9x1, .i32⟩
  | .hbm, ⟨43, _⟩ => ⟨S1x32x9x64x8x128, .f32⟩
  | .hbm, ⟨44, _⟩ => ⟨S1x32x576x8x128, .f32⟩
  | .hbm, ⟨45, _⟩ => ⟨S1x8x32x64x576, .f32⟩
  | .hbm, ⟨46, _⟩ => ⟨S_, .f32⟩
  | .hbm, ⟨47, _⟩ => ⟨S1x8x32x64x576, .f32⟩
  | .hbm, ⟨48, _⟩ => ⟨S1x8x32x64x576, .f32⟩
  | .hbm, ⟨49, _⟩ => ⟨S64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S576, .i32⟩
  | .hbm, ⟨55, _⟩ => ⟨S1x576, .i32⟩
  | .hbm, ⟨56, _⟩ => ⟨S64x576, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S64x576, .i32⟩
  | .hbm, ⟨69, _⟩ => ⟨S64x576, .i32⟩
  | .hbm, ⟨70, _⟩ => ⟨S_, .i32⟩
  | .hbm, ⟨71, _⟩ => ⟨S64x576, .i32⟩
  | .hbm, ⟨72, _⟩ => ⟨S64x576, .i1⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S64x576, .i32⟩
  | .hbm, ⟨77, _⟩ => ⟨S64x576x1, .i32⟩
  | .hbm, ⟨78, _⟩ => ⟨S8x64x576, .f32⟩
  | .hbm, ⟨79, _⟩ => ⟨S8x1x64x576, .f32⟩
  | .hbm, ⟨80, _⟩ => ⟨S1x8x1x64x576, .f32⟩
  | .hbm, ⟨81, _⟩ => ⟨S1x8x32x64x576, .f32⟩
  | .hbm, ⟨82, _⟩ => ⟨S1x8x32x64x576, .f32⟩
  | .hbm, ⟨83, _⟩ => ⟨S_, .i32⟩
  | .hbm, ⟨84, _⟩ => ⟨S32x9, .i32⟩
  | .hbm, ⟨85, _⟩ => ⟨S32x9, .i1⟩
  | .hbm, ⟨86, _⟩ => ⟨S32x9x64, .i1⟩
  | .hbm, ⟨87, _⟩ => ⟨S32x576, .i1⟩
  | .hbm, ⟨88, _⟩ => ⟨S1x1x32x1x576, .i1⟩
  | .hbm, ⟨89, _⟩ => ⟨S_, .f32⟩
  | .hbm, ⟨90, _⟩ => ⟨S_, .f32⟩
  | .hbm, ⟨91, _⟩ => ⟨S1x8x32x64x576, .i1⟩
  | .hbm, ⟨92, _⟩ => ⟨S1x8x32x64x576, .f32⟩
  | .hbm, ⟨93, _⟩ => ⟨S1x8x32x64x576, .f32⟩
  | .hbm, ⟨94, _⟩ => ⟨S_, .f32⟩
  | .hbm, ⟨95, _⟩ => ⟨S1x8x32x64, .f32⟩
  | .hbm, ⟨96, _⟩ => ⟨S_, .f32⟩
  | .hbm, ⟨97, _⟩ => ⟨S1x8x32x64, .f32⟩
  | .hbm, ⟨98, _⟩ => ⟨S1x8x32x64, .f32⟩
  | .hbm, ⟨99, _⟩ => ⟨S1x8x32x64x1, .f32⟩
  | .hbm, ⟨100, _⟩ => ⟨S1x8x32x64x576, .f32⟩
  | .hbm, ⟨101, _⟩ => ⟨S1x8x32x64x576, .f32⟩
  | .hbm, ⟨102, _⟩ => ⟨S1x8x32x64x576, .f32⟩
  | .hbm, ⟨103, _⟩ => ⟨S_, .f32⟩
  | .hbm, ⟨104, _⟩ => ⟨S1x8x32x64, .f32⟩
  | .hbm, ⟨105, _⟩ => ⟨S1x8x32x64x1, .f32⟩
  | .hbm, ⟨106, _⟩ => ⟨S1x8x32x64x576, .f32⟩
  | .hbm, ⟨107, _⟩ => ⟨S1x8x32x64x576, .f32⟩
  | .hbm, ⟨108, _⟩ => ⟨S1x32x8x128x64, .f32⟩
  | .hbm, ⟨109, _⟩ => ⟨S1x32x64x8x128, .f32⟩
  | .hbm, ⟨110, _⟩ => ⟨S1x2048x1024, .f32⟩
  | .hbm, ⟨111, _⟩ => ⟨S2048x1024, .f32⟩
  | .hbm, ⟨112, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_1 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_c_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== SguFwd.lean ====
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S1x2048 : Shape := ⟨2, ![1, 2048]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 9
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S1x2048, .f32⟩
  | .hbm, ⟨7, _⟩ => ⟨S1x2048, .f32⟩
  | .hbm, ⟨8, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== SguFwdRefIdeal.lean ====
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S1x2048x4096 : Shape := ⟨3, ![1, 2048, 4096]⟩
abbrev S_ : Shape := ⟨0, ![]⟩
abbrev S1x2048x2048 : Shape := ⟨3, ![1, 2048, 2048]⟩
abbrev S1x2048 : Shape := ⟨2, ![1, 2048]⟩
abbrev S1x2048x1 : Shape := ⟨3, ![1, 2048, 1]⟩
abbrev S1x1x2048 : Shape := ⟨3, ![1, 1, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S1x16x128x8x256 : Shape := ⟨5, ![1, 16, 128, 8, 256]⟩
abbrev S8x1x16x256x128 : Shape := ⟨5, ![8, 1, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2048x2048 : Shape := ⟨2, ![2048, 2048]⟩

abbrev nBuf : Space → Nat
  | .hbm => 104
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S1x2048x4096, .f32⟩
  | .hbm, ⟨6, _⟩ => ⟨S_, .f32⟩
  | .hbm, ⟨7, _⟩ => ⟨S1x2048x4096, .f32⟩
  | .hbm, ⟨8, _⟩ => ⟨S1x2048x4096, .f32⟩
  | .hbm, ⟨9, _⟩ => ⟨S1x2048x4096, .f32⟩
  | .hbm, ⟨10, _⟩ => ⟨S_, .f32⟩
  | .hbm, ⟨11, _⟩ => ⟨S_, .f32⟩
  | .hbm, ⟨12, _⟩ => ⟨S1x2048x4096, .f32⟩
  | .hbm, ⟨13, _⟩ => ⟨S1x2048x4096, .f32⟩
  | .hbm, ⟨14, _⟩ => ⟨S1x2048x4096, .f32⟩
  | .hbm, ⟨15, _⟩ => ⟨S1x2048x4096, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S1x2048x2048, .f32⟩
  | .hbm, ⟨38, _⟩ => ⟨S1x2048x2048, .f32⟩
  | .hbm, ⟨39, _⟩ => ⟨S1x1x2048, .f32⟩
  | .hbm, ⟨40, _⟩ => ⟨S1x2048x2048, .f32⟩
  | .hbm, ⟨41, _⟩ => ⟨S1x2048x2048, .f32⟩
  | .hbm, ⟨42, _⟩ => ⟨S1x1x2048, .f32⟩
  | .hbm, ⟨43, _⟩ => ⟨S1x2048x2048, .f32⟩
  | .hbm, ⟨44, _⟩ => ⟨S1x2048x2048, .f32⟩
  | .hbm, ⟨45, _⟩ => ⟨S128, .i32⟩
  | .hbm, ⟨46, _⟩ => ⟨S1x128, .i32⟩
  | .hbm, ⟨47, _⟩ => ⟨S_, .i32⟩
  | .hbm, ⟨48, _⟩ => ⟨S_, .i32⟩
  | .hbm, ⟨49, _⟩ => ⟨S1x128, .i32⟩
  | .hbm, ⟨50, _⟩ => ⟨S1x128, .i32⟩
  | .hbm, ⟨51, _⟩ => ⟨S1x128, .i32⟩
  | .hbm, ⟨52, _⟩ => ⟨S_, .i32⟩
  | .hbm, ⟨53, _⟩ => ⟨S1x128, .i32⟩
  | .hbm, ⟨54, _⟩ => ⟨S1x128, .i1⟩
  | .hbm, ⟨55, _⟩ => ⟨S1x128, .i32⟩
  | .hbm, ⟨56, _⟩ => ⟨S1x128, .i32⟩
  | .hbm, ⟨57, _⟩ => ⟨S_, .i32⟩
  | .hbm, ⟨58, _⟩ => ⟨S1x128, .i32⟩
  | .hbm, ⟨59, _⟩ => ⟨S1x128, .i1⟩
  | .hbm, ⟨60, _⟩ => ⟨S1x128, .i1⟩
  | .hbm, ⟨61, _⟩ => ⟨S_, .i32⟩
  | .hbm, ⟨62, _⟩ => ⟨S1x128, .i32⟩
  | .hbm, ⟨63, _⟩ => ⟨S1x128, .i32⟩
  | .hbm, ⟨64, _⟩ => ⟨S1x128, .i32⟩
  | .hbm, ⟨65, _⟩ => ⟨S128x1, .i32⟩
  | .hbm, ⟨66, _⟩ => ⟨S_, .i32⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S128x1, .i32⟩
  | .hbm, ⟨71, _⟩ => ⟨S_, .i32⟩
  | .hbm, ⟨72, _⟩ => ⟨S128x1, .i32⟩
  | .hbm, ⟨73, _⟩ => ⟨S128x1, .i1⟩
  | .hbm, ⟨74, _⟩ => ⟨S128x1, .i32⟩
  | .hbm, ⟨75, _⟩ => ⟨S128x1, .i32⟩
  | .hbm, ⟨76, _⟩ => ⟨S_, .i32⟩
  | .hbm, ⟨77, _⟩ => ⟨S128x1, .i32⟩
  | .hbm, ⟨78, _⟩ => ⟨S128x1, .i1⟩
  | .hbm, ⟨79, _⟩ => ⟨S128x1, .i1⟩
  | .hbm, ⟨80, _⟩ => ⟨S_, .i32⟩
  | .hbm, ⟨81, _⟩ => ⟨S128x1, .i32⟩
  | .hbm, ⟨82, _⟩ => ⟨S128x1, .i32⟩
  | .hbm, ⟨83, _⟩ => ⟨S128x1, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S1x128x128, .i1⟩
  | .hbm, ⟨88, _⟩ => ⟨S_, .f32⟩
  | .hbm, ⟨89, _⟩ => ⟨S8x128x128, .f32⟩
  | .hbm, ⟨90, _⟩ => ⟨S8x128x128, .i1⟩
  | .hbm, ⟨91, _⟩ => ⟨S8x128x128, .f32⟩
  | .hbm, ⟨92, _⟩ => ⟨S1x16x128x8x256, .f32⟩
  | .hbm, ⟨93, _⟩ => ⟨S8x1x16x256x128, .f32⟩
  | .hbm, ⟨94, _⟩ => ⟨S1x16x128x8x256, .f32⟩
  | .hbm, ⟨95, _⟩ => ⟨S128x8, .f32⟩
  | .hbm, ⟨96, _⟩ => ⟨S128x8x1, .f32⟩
  | .hbm, ⟨97, _⟩ => ⟨S1x1x128x8x1, .f32⟩
  | .hbm, ⟨98, _⟩ => ⟨S1x16x128x8x256, .f32⟩
  | .hbm, ⟨99, _⟩ => ⟨S1x16x128x8x256, .f32⟩
  | .hbm, ⟨100, _⟩ => ⟨S1x2048x2048, .f32⟩
  | .hbm, ⟨101, _⟩ => ⟨S1x2048x2048, .f32⟩
  | .hbm, ⟨102, _⟩ => ⟨S2048x2048, .f32⟩
  | .hbm, ⟨103, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v35 : Ref sig .tc := ⟨.hbm, 64, rfl⟩
abbrev main_v36 : Ref sig .tc := ⟨.hbm, 65, rfl⟩
abbrev main_c_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_call2_v0 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩

abbrev nD : Nat := 1
abbrev τ : Topo := Topo.v7x

variable {F : FTy → Type} [FloatOps F]
-- ==== MixOut.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixOutRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S2048 : Shape := ⟨1, ![2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S2048, .f32⟩
  | .hbm, ⟨4, _⟩ => ⟨S2048x8x704, .bf16⟩
  | .hbm, ⟨5, _⟩ => ⟨S8x2048x704, .bf16⟩
  | .hbm, ⟨6, _⟩ => ⟨S8x704x2048, .f32⟩
  | .hbm, ⟨7, _⟩ => ⟨S8x704x2048, .bf16⟩
  | .hbm, ⟨8, _⟩ => ⟨S1x2048, .f32⟩
  | .hbm, ⟨9, _⟩ => ⟨S2048x2048, .f32⟩
  | .hbm, ⟨10, _⟩ => ⟨S2048x2048, .bf16⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S2048x6144 : Shape := ⟨2, ![2048, 6144]⟩
abbrev S3x1024 : Shape := ⟨2, ![3, 1024]⟩
abbrev S2048x2048 : Shape := ⟨2, ![2048, 2048]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S2048x6144 : Shape := ⟨2, ![2048, 6144]⟩
abbrev S3x1024 : Shape := ⟨2, ![3, 1024]⟩
abbrev S2048x2048 : Shape := ⟨2, ![2048, 2048]⟩
abbrev S1x2048x6144 : Shape := ⟨3, ![1, 2048, 6144]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x6144, .f32⟩
  | .hbm, ⟨4, _⟩ => ⟨S1x2048x6144, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2x1024, .f32⟩
  | .hbm, ⟨14, _⟩ => ⟨S1x2050x1024, .f32⟩
  | .hbm, ⟨15, _⟩ => ⟨S1x1024, .f32⟩
  | .hbm, ⟨16, _⟩ => ⟨S1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x1024, .f32⟩
  | .hbm, ⟨22, _⟩ => ⟨S1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x1024, .f32⟩
  | .hbm, ⟨29, _⟩ => ⟨S1024, .f32⟩
  | .hbm, ⟨30, _⟩ => ⟨S1x2048x1024, .f32⟩
  | .hbm, ⟨31, _⟩ => ⟨S1x1x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S2048x1024, .bf16⟩
  | .hbm, ⟨37, _⟩ => ⟨S2048x1024, .f32⟩
  | .hbm, ⟨38, _⟩ => ⟨S2048x1024, .bf16⟩
  | .hbm, ⟨39, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== MmCols.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1x2048x768 : Shape := ⟨3, ![1, 2048, 768]⟩
abbrev S2048x768 : Shape := ⟨2, ![2048, 768]⟩
abbrev S1x2048x256 : Shape := ⟨3, ![1, 2048, 256]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x8x768, .f32⟩
  | .hbm, ⟨3, _⟩ => ⟨S8x2048x768, .f32⟩
  | .hbm, ⟨4, _⟩ => ⟨S8x2048x768, .bf16⟩
  | .hbm, ⟨5, _⟩ => ⟨S2048x6144, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmColsRefIdeal.lean ====
abbrev S2048x2048 : Shape := ⟨2, ![2048, 2048]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x2048, .f32⟩
  | .hbm, ⟨3, _⟩ => ⟨S2048x6144, .f32⟩
  | .hbm, ⟨4, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmNt.lean ====
abbrev S2048x2048 : Shape := ⟨2, ![2048, 2048]⟩
abbrev S1024x2048 : Shape := ⟨2, ![1024, 2048]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmNtCols.lean ====
abbrev S2048x6144 : Shape := ⟨2, ![2048, 6144]⟩
abbrev S2048x8x768 : Shape := ⟨3, ![2048, 8, 768]⟩
abbrev S8x2048x768 : Shape := ⟨3, ![8, 2048, 768]⟩
abbrev S2048x2048 : Shape := ⟨2, ![2048, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x8x768, .f32⟩
  | .hbm, ⟨3, _⟩ => ⟨S8x2048x768, .f32⟩
  | .hbm, ⟨4, _⟩ => ⟨S8x2048x768, .bf16⟩
  | .hbm, ⟨5, _⟩ => ⟨S2048x2048, .bf16⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmNtColsRefIdeal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x2048, .f32⟩
  | .hbm, ⟨7, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmTnCols.lean ====
abbrev S2048x2048 : Shape := ⟨2, ![2048, 2048]⟩
abbrev S2048x6144 : Shape := ⟨2, ![2048, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnColsRefIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩
abbrev S4x2x2048x768 : Shape := ⟨4, ![4, 2, 2048, 768]⟩
abbrev S2x4x2048x768 : Shape := ⟨4, ![2, 4, 2048, 768]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S4x2x2048x768, .f32⟩
  | .hbm, ⟨12, _⟩ => ⟨S2x4x2048x768, .f32⟩
  | .hbm, ⟨13, _⟩ => ⟨S8x2048x768, .f32⟩
  | .hbm, ⟨14, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MmTnRows.lean ====
abbrev S2048x2048 : Shape := ⟨2, ![2048, 2048]⟩
abbrev S8x256x2048 : Shape := ⟨3, ![8, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmTnRowsRefIdeal.lean ====
abbrev S2048x2048 : Shape := ⟨2, ![2048, 2048]⟩
abbrev S_ : Shape := ⟨0, ![]⟩
abbrev S8x256x2048 : Shape := ⟨3, ![8, 256, 2048]⟩
abbrev S4x2x256x2048 : Shape := ⟨4, ![4, 2, 256, 2048]⟩
abbrev S2x4x256x2048 : Shape := ⟨4, ![2, 4, 256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S4x2x256x2048, .f32⟩
  | .hbm, ⟨11, _⟩ => ⟨S2x4x256x2048, .f32⟩
  | .hbm, ⟨12, _⟩ => ⟨S8x256x2048, .f32⟩
  | .hbm, ⟨13, _⟩ => ⟨S8x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDwd.lean ====
abbrev S2048x5632 : Shape := ⟨2, ![2048, 5632]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x8x704, .bf16⟩
  | .hbm, ⟨3, _⟩ => ⟨S8x2048x704, .bf16⟩
  | .hbm, ⟨4, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnDwdRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩
abbrev S4x2x704x2048 : Shape := ⟨4, ![4, 2, 704, 2048]⟩
abbrev S2x4x704x2048 : Shape := ⟨4, ![2, 4, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S4x2x704x2048, .f32⟩
  | .hbm, ⟨11, _⟩ => ⟨S2x4x704x2048, .f32⟩
  | .hbm, ⟨12, _⟩ => ⟨S8x704x2048, .f32⟩
  | .hbm, ⟨13, _⟩ => ⟨S8x704x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDwgu.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x8x704, .bf16⟩
  | .hbm, ⟨4, _⟩ => ⟨S8x2048x704, .bf16⟩
  | .hbm, ⟨5, _⟩ => ⟨S2048x8x704, .bf16⟩
  | .hbm, ⟨6, _⟩ => ⟨S8x2048x704, .bf16⟩
  | .hbm, ⟨7, _⟩ => ⟨S8x704x2048, .bf16⟩
  | .hbm, ⟨8, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S2048x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDwguRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S8x704x2048 : Shape := ⟨3, ![8, 704, 2048]⟩
abbrev S4x2x704x2048 : Shape := ⟨4, ![4, 2, 704, 2048]⟩
abbrev S2x4x704x2048 : Shape := ⟨4, ![2, 4, 704, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S8x704x2048, .f32⟩
  | .hbm, ⟨16, _⟩ => ⟨S4x2x704x2048, .f32⟩
  | .hbm, ⟨17, _⟩ => ⟨S2x4x704x2048, .f32⟩
  | .hbm, ⟨18, _⟩ => ⟨S8x704x2048, .f32⟩
  | .hbm, ⟨19, _⟩ => ⟨S8x704x2048, .bf16⟩
  | .hbm, ⟨20, _⟩ => ⟨S5632x2048, .f32⟩
  | .hbm, ⟨21, _⟩ => ⟨S8x704x2048, .f32⟩
  | .hbm, ⟨22, _⟩ => ⟨S4x2x704x2048, .f32⟩
  | .hbm, ⟨23, _⟩ => ⟨S2x4x704x2048, .f32⟩
  | .hbm, ⟨24, _⟩ => ⟨S8x704x2048, .f32⟩
  | .hbm, ⟨25, _⟩ => ⟨S8x704x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== FfnDh.lean ====
abbrev S2048x5632 : Shape := ⟨2, ![2048, 5632]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 15
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S2048x8x704, .bf16⟩
  | .hbm, ⟨5, _⟩ => ⟨S8x2048x704, .bf16⟩
  | .hbm, ⟨6, _⟩ => ⟨S2048x8x704, .bf16⟩
  | .hbm, ⟨7, _⟩ => ⟨S8x2048x704, .bf16⟩
  | .hbm, ⟨8, _⟩ => ⟨S5632x2048, .f32⟩
  | .hbm, ⟨9, _⟩ => ⟨S8x704x2048, .f32⟩
  | .hbm, ⟨10, _⟩ => ⟨S8x704x2048, .bf16⟩
  | .hbm, ⟨11, _⟩ => ⟨S5632x2048, .f32⟩
  | .hbm, ⟨12, _⟩ => ⟨S8x704x2048, .f32⟩
  | .hbm, ⟨13, _⟩ => ⟨S8x704x2048, .bf16⟩
  | .hbm, ⟨14, _⟩ => ⟨S2048x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== FfnDhRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== AdamSmall.lean ====
abbrev S2288x128 : Shape := ⟨2, ![2288, 128]⟩

abbrev nBuf : Space → Nat
  | .hbm => 7
  | .vmem => 7
  | .smem => 0
  | _ => 0

abbrev bufTy : (tb : Table) → Fin (tcTables nBuf tb) → BufTy
  | .hbm, ⟨0, _⟩ => ⟨S2288x128, .f32⟩
  | .hbm, ⟨1, _⟩ => ⟨S2288x128, .f32⟩
  | .hbm, ⟨2, _⟩ => ⟨S2288x128, .f32⟩
  | .hbm, ⟨3, _⟩ => ⟨S2288x128, .f32⟩
  | .hbm, ⟨4, _⟩ => ⟨S2288x128, .f32⟩
  | .hbm, ⟨5, _⟩ => ⟨S2288x128, .f32⟩
  | .hbm, ⟨6, _⟩ => ⟨S2288x128, .f32⟩
  | .local _ .vmem, ⟨0, _⟩ => ⟨S2288x128, .f32⟩
  | .local _ .vmem, ⟨1, _⟩ => ⟨S2288x128, .f32⟩
  | .local _ .vmem, ⟨2, _⟩ => ⟨S2288x128, .f32⟩
  | .local _ .vmem, ⟨3, _⟩ => ⟨S2288x128, .f32⟩
  | .local _ .vmem, ⟨4, _⟩ => ⟨S2288x128, .f32⟩
  | .local _ .vmem, ⟨5, _⟩ => ⟨S2288x128, .f32⟩
  | .local _ .vmem, ⟨6, _⟩ => ⟨S2288x128, .f32⟩
  | _, _ => ⟨S2288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S2288x128 : Shape := ⟨2, ![2288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2288x128, .f32⟩
  | .hbm, ⟨1, _⟩ => ⟨S2288x128, .f32⟩
  | .hbm, ⟨2, _⟩ => ⟨S2288x128, .f32⟩
  | .hbm, ⟨3, _⟩ => ⟨S2288x128, .f32⟩
  | .hbm, ⟨4, _⟩ => ⟨S_, .f32⟩
  | .hbm, ⟨5, _⟩ => ⟨S2288x128, .f32⟩
  | .hbm, ⟨6, _⟩ => ⟨S2288x128, .f32⟩
  | .hbm, ⟨7, _⟩ => ⟨S_, .f32⟩
  | .hbm, ⟨8, _⟩ => ⟨S2288x128, .f32⟩
  | .hbm, ⟨9, _⟩ => ⟨S2288x128, .f32⟩
  | .hbm, ⟨10, _⟩ => ⟨S2288x128, .f32⟩
  | .hbm, ⟨11, _⟩ => ⟨S_, .f32⟩
  | .hbm, ⟨12, _⟩ => ⟨S2288x128, .f32⟩
  | .hbm, ⟨13, _⟩ => ⟨S2288x128, .f32⟩
  | .hbm, ⟨14, _⟩ => ⟨S2288x128, .f32⟩
  | .hbm, ⟨15, _⟩ => ⟨S_, .f32⟩
  | .hbm, ⟨16, _⟩ => ⟨S2288x128, .f32⟩
  | .hbm, ⟨17, _⟩ => ⟨S2288x128, .f32⟩
  | .hbm, ⟨18, _⟩ => ⟨S2288x128, .f32⟩
  | .hbm, ⟨19, _⟩ => ⟨S_, .f32⟩
  | .hbm, ⟨20, _⟩ => ⟨S2288x128, .f32⟩
  | .hbm, ⟨21, _⟩ => ⟨S2288x128, .f32⟩
  | .hbm, ⟨22, _⟩ => ⟨S_, .f32⟩
  | .hbm, ⟨23, _⟩ => ⟨S2288x128, .f32⟩
  | .hbm, ⟨24, _⟩ => ⟨S2288x128, .f32⟩
  | .hbm, ⟨25, _⟩ => ⟨S2288x128, .f32⟩
  | .hbm, ⟨26, _⟩ => ⟨S_, .f32⟩
  | .hbm, ⟨27, _⟩ => ⟨S2288x128, .f32⟩
  | .hbm, ⟨28, _⟩ => ⟨S2288x128, .f32⟩
  | .hbm, ⟨29, _⟩ => ⟨S2288x128, .f32⟩
  | .hbm, ⟨30, _⟩ => ⟨S_, .f32⟩
  | .hbm, ⟨31, _⟩ => ⟨S2288x128, .f32⟩
  | .hbm, ⟨32, _⟩ => ⟨S2288x128, .f32⟩
  | .hbm, ⟨33, _⟩ => ⟨S2288x128, .f32⟩
  | .hbm, ⟨34, _⟩ => ⟨S_, .f32⟩
  | .hbm, ⟨35, _⟩ => ⟨S2288x128, .f32⟩
  | .hbm, ⟨36, _⟩ => ⟨S2288x128, .f32⟩
  | _, _ => ⟨S2288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBig.lean ====
abbrev S2x2048x768 : Shape := ⟨3, ![2, 2048, 768]⟩
abbrev S4x2048x768 : Shape := ⟨3, ![4, 2048, 768]⟩
abbrev S_ : Shape := ⟨0, ![]⟩
abbrev S8x128 : Shape := ⟨2, ![8, 128]⟩
abbrev S1x512x768 : Shape := ⟨3, ![1, 512, 768]⟩
abbrev S512x768 : Shape := ⟨2, ![512, 768]⟩

abbrev nBuf : Space → Nat
  | .hbm => 13
  | .vmem => 30
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S4x2048x768, .bf16⟩
  | .hbm, ⟨5, _⟩ => ⟨S4x2048x768, .bf16⟩
  | .hbm, ⟨6, _⟩ => ⟨S4x2048x768, .bf16⟩
  | .hbm, ⟨7, _⟩ => ⟨S_, .f32⟩
  | .hbm, ⟨8, _⟩ => ⟨S8x128, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .hbm, ⟨12, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x768, .bf16⟩
  | .local _ .vmem, ⟨11, _⟩ => ⟨S1x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x768, .bf16⟩
  | .local _ .vmem, ⟨21, _⟩ => ⟨S1x512x768, .bf16⟩
  | .local _ .vmem, ⟨22, _⟩ => ⟨S1x512x768, .f32⟩
  | .local _ .vmem, ⟨23, _⟩ => ⟨S1x512x768, .f32⟩
  | .local _ .vmem, ⟨24, _⟩ => ⟨S1x512x768, .f32⟩
  | .local _ .vmem, ⟨25, _⟩ => ⟨S1x512x768, .f32⟩
  | .local _ .vmem, ⟨26, _⟩ => ⟨S1x512x768, .f32⟩
  | .local _ .vmem, ⟨27, _⟩ => ⟨S1x512x768, .f32⟩
  | .local _ .vmem, ⟨28, _⟩ => ⟨S1x512x768, .f32⟩
  | .local _ .vmem, ⟨29, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c1_i32 : BitVec 32 := 1#32
  let c0_i32_1 : BitVec 32 := 0#32
  let c0_i32_2 : BitVec 32 := 0#32
  ![c1_i32.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c2_i32 : BitVec 32 := 2#32
  let c0_i32_1 : BitVec 32 := 0#32
  let c0_i32_2 : BitVec 32 := 0#32
  ![c2_i32.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c3_i32 : BitVec 32 := 3#32
  let c0_i32_1 : BitVec 32 := 0#32
  let c0_i32_2 : BitVec 32 := 0#32
  ![c3_i32.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let c0_i32_1 : BitVec 32 := 0#32
  let c0_i32_2 : BitVec 32 := 0#32
  ![c1_i32_0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c2_i32 : BitVec 32 := 2#32
  let c0_i32_0 : BitVec 32 := 0#32
  let c0_i32_1 : BitVec 32 := 0#32
  ![c2_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c3_i32 : BitVec 32 := 3#32
  let c0_i32_0 : BitVec 32 := 0#32
  let c0_i32_1 : BitVec 32 := 0#32
  ![c3_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AdamBigRefIdeal.lean ====
abbrev S2x2048x768 : Shape := ⟨3, ![2, 2048, 768]⟩
abbrev S4x2048x768 : Shape := ⟨3, ![4, 2048, 768]⟩
abbrev S1x2048x768 : Shape := ⟨3, ![1, 2048, 768]⟩
abbrev S2048x768 : Shape := ⟨2, ![2048, 768]⟩
abbrev S3x2048x768 : Shape := ⟨3, ![3, 2048, 768]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S4x2048x768, .bf16⟩
  | .hbm, ⟨5, _⟩ => ⟨S4x2048x768, .bf16⟩
  | .hbm, ⟨6, _⟩ => ⟨S4x2048x768, .bf16⟩
  | .hbm, ⟨7, _⟩ => ⟨S1x2048x768, .bf16⟩
  | .hbm, ⟨8, _⟩ => ⟨S2048x768, .bf16⟩
  | .hbm, ⟨9, _⟩ => ⟨S2048x768, .f32⟩
  | .hbm, ⟨10, _⟩ => ⟨S3x2048x768, .bf16⟩
  | .hbm, ⟨11, _⟩ => ⟨S3x2048x768, .f32⟩
  | .hbm, ⟨12, _⟩ => ⟨S_, .f32⟩
  | .hbm, ⟨13, _⟩ => ⟨S2048x768, .f32⟩
  | .hbm, ⟨14, _⟩ => ⟨S2048x768, .f32⟩
  | .hbm, ⟨15, _⟩ => ⟨S1x2048x768, .bf16⟩
  | .hbm, ⟨16, _⟩ => ⟨S2048x768, .bf16⟩
  | .hbm, ⟨17, _⟩ => ⟨S2048x768, .f32⟩
  | .hbm, ⟨18, _⟩ => ⟨S3x2048x768, .bf16⟩
  | .hbm, ⟨19, _⟩ => ⟨S3x2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S1x2048x768, .f32⟩
  | .hbm, ⟨24, _⟩ => ⟨S1x2048x768, .f32⟩
  | .hbm, ⟨25, _⟩ => ⟨S2x2048x768, .f32⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S_, .f32⟩
  | .hbm, ⟨30, _⟩ => ⟨S2x2048x768, .f32⟩
  | .hbm, ⟨31, _⟩ => ⟨S2x2048x768, .f32⟩
  | .hbm, ⟨32, _⟩ => ⟨S2x2048x768, .f32⟩
  | .hbm, ⟨33, _⟩ => ⟨S_, .f32⟩
  | .hbm, ⟨34, _⟩ => ⟨S2x2048x768, .f32⟩
  | .hbm, ⟨35, _⟩ => ⟨S2x2048x768, .f32⟩
  | .hbm, ⟨36, _⟩ => ⟨S2x2048x768, .f32⟩
  | .hbm, ⟨37, _⟩ => ⟨S_, .f32⟩
  | .hbm, ⟨38, _⟩ => ⟨S2x2048x768, .f32⟩
  | .hbm, ⟨39, _⟩ => ⟨S2x2048x768, .f32⟩
  | .hbm, ⟨40, _⟩ => ⟨S2x2048x768, .f32⟩
  | .hbm, ⟨41, _⟩ => ⟨S_, .f32⟩
  | .hbm, ⟨42, _⟩ => ⟨S2x2048x768, .f32⟩
  | .hbm, ⟨43, _⟩ => ⟨S2x2048x768, .f32⟩
  | .hbm, ⟨44, _⟩ => ⟨S_, .f32⟩
  | .hbm, ⟨45, _⟩ => ⟨S2x2048x768, .f32⟩
  | .hbm, ⟨46, _⟩ => ⟨S2x2048x768, .f32⟩
  | .hbm, ⟨47, _⟩ => ⟨S2x2048x768, .f32⟩
  | .hbm, ⟨48, _⟩ => ⟨S_, .f32⟩
  | .hbm, ⟨49, _⟩ => ⟨S2x2048x768, .f32⟩
  | .hbm, ⟨50, _⟩ => ⟨S2x2048x768, .f32⟩
  | .hbm, ⟨51, _⟩ => ⟨S2x2048x768, .f32⟩
  | .hbm, ⟨52, _⟩ => ⟨S_, .f32⟩
  | .hbm, ⟨53, _⟩ => ⟨S2x2048x768, .f32⟩
  | .hbm, ⟨54, _⟩ => ⟨S2x2048x768, .f32⟩
  | .hbm, ⟨55, _⟩ => ⟨S2x2048x768, .f32⟩
  | .hbm, ⟨56, _⟩ => ⟨S_, .f32⟩
  | .hbm, ⟨57, _⟩ => ⟨S2x2048x768, .f32⟩
  | .hbm, ⟨58, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== SumSlots.lean ====
abbrev S8x2392x128 : Shape := ⟨3, ![8, 2392, 128]⟩
abbrev S2392x128 : Shape := ⟨2, ![2392, 128]⟩
abbrev S1x2392x128 : Shape := ⟨3, ![1, 2392, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2392x128, .f32⟩
  | .hbm, ⟨1, _⟩ => ⟨S2392x128, .f32⟩
  | .local _ .vmem, ⟨0, _⟩ => ⟨S8x2392x128, .f32⟩
  | .local _ .vmem, ⟨1, _⟩ => ⟨S2392x128, .f32⟩
  | _, _ => ⟨S8x2392x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2392x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2392x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSlotsRefIdeal.lean ====
abbrev S8x2392x128 : Shape := ⟨3, ![8, 2392, 128]⟩
abbrev S_ : Shape := ⟨0, ![]⟩
abbrev S2392x128 : Shape := ⟨2, ![2392, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2392x128, .f32⟩
  | .hbm, ⟨1, _⟩ => ⟨S_, .f32⟩
  | .hbm, ⟨2, _⟩ => ⟨S2392x128, .f32⟩
  | _, _ => ⟨S8x2392x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSum.lean ====
abbrev S8x2048x768 : Shape := ⟨3, ![8, 2048, 768]⟩
abbrev S4x2048x768 : Shape := ⟨3, ![4, 2048, 768]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x768, .bf16⟩
  | .hbm, ⟨1, _⟩ => ⟨S4x2048x768, .bf16⟩
  | .hbm, ⟨2, _⟩ => ⟨S4x2048x768, .bf16⟩
  | .local _ .vmem, ⟨0, _⟩ => ⟨S1x2048x768, .bf16⟩
  | .local _ .vmem, ⟨1, _⟩ => ⟨S1x2048x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .bf16⟩
  | .local _ .vmem, ⟨5, _⟩ => ⟨S1x2048x768, .bf16⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S8x2048x768 : Shape := ⟨3, ![8, 2048, 768]⟩
abbrev S4x2048x768 : Shape := ⟨3, ![4, 2048, 768]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S4x2048x768, .bf16⟩
  | .hbm, ⟨2, _⟩ => ⟨S4x2048x768, .bf16⟩
  | .hbm, ⟨3, _⟩ => ⟨S4x2048x768, .f32⟩
  | .hbm, ⟨4, _⟩ => ⟨S4x2048x768, .f32⟩
  | .hbm, ⟨5, _⟩ => ⟨S4x2048x768, .f32⟩
  | .hbm, ⟨6, _⟩ => ⟨S4x2048x768, .bf16⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.ConvMath.lean ====
/- The gated short convolution's gradients, one column at a time: the mathematics both programs are brought to.
   A column holds the 2048 positions of one channel; the filter has the three taps `w0 w1 w2` of that channel. -/
module

public import Idealize.ShloMosaic.Lib.Pointwise

@[expose] public section

noncomputable section
open Idealize.ShloMosaic

namespace Cert.Conv

/-- A column of one channel: a value per position. -/
abbrev Col := Fin 2048 → EReal

/-- The column moved `k` positions later, zeros coming in at the front. -/
def later (k : Nat) (z : Col) : Col := fun r => if _h : r.val < k then 0 else z ⟨r.val - k, by omega⟩

/-- The column moved `k` positions earlier, zeros coming in at the end. -/
def earlier (k : Nat) (z : Col) : Col := fun r => if h : r.val + k < 2048 then z ⟨r.val + k, h⟩ else 0

/-- The element-wise product of two columns. -/
def prod (a b : Col) : Col := fun r => a r * b r

/-- The filtered product under its gate: the forward value. -/
def gated (w0 w1 w2 : EReal) (b c h : Col) : Col := fun r =>
  b r * (w0 * later 2 (prod c h) r + w1 * later 1 (prod c h) r + w2 * prod c h r)

/-- The gradient for the gate: the output's gradient times the filtered product. -/
def gradB (w0 w1 w2 : EReal) (c h d : Col) : Col := fun r =>
  d r * (w0 * later 2 (prod c h) r + w1 * later 1 (prod c h) r + w2 * prod c h r)

/-- The gradient for the product the filter reads. -/
def gradZ (w0 w1 w2 : EReal) (b d : Col) : Col := fun r =>
  w2 * prod d b r + w1 * earlier 1 (prod d b) r + w0 * earlier 2 (prod d b) r

/-- The gradient for tap `k` of the filter (tap 0 reads two positions back, tap 2 the position itself). -/
def gradW (k : Fin 3) (b c h d : Col) : EReal := ∑ r : Fin 2048, prod d b r * later (2 - k.val) (prod c h) r

/-- Channel `l` of the array `x`, its channels starting at column `off`. -/
abbrev chan {n : Nat} (off : Nat) (hoff : off + 1024 ≤ n) (x : FVec Ideal ⟨2, ![2048, n]⟩ .bf16) (l : Fin 1024) : Col :=
  fun r => x (ix2 r ⟨off + l.val, by omega⟩)

variable (P : FVec Ideal ⟨2, ![2048, 6144]⟩ .bf16) (D : FVec Ideal ⟨2, ![2048, 2048]⟩ .bf16) (W : FVec Ideal ⟨2, ![3, 1024]⟩ .f32)

/-- The mixers' joined output: the columns of `T` (the attention's) up to 1024, then the gated convolution of the
    projections `P` with the filter `W`. -/
def arrMix (T : FVec Ideal ⟨2, ![2048, 2048]⟩ .bf16) : FVec Ideal ⟨2, ![2048, 2048]⟩ .bf16 := fun i =>
  if h : (i 1).val < 1024 then T i
  else
    have l : Fin 1024 := ⟨(i 1).val - 1024, by have : (i 1).val < 2048 := (i 1).isLt; omega⟩
    gated (W (ix2 0 l)) (W (ix2 1 l)) (W (ix2 2 l)) (chan 3072 (by omega) P l) (chan 4096 (by omega) P l) (chan 5120 (by omega) P l) (i 0)

theorem arrMix_left (T : FVec Ideal ⟨2, ![2048, 2048]⟩ .bf16) (r c : Fin 2048) (h : c.val < 1024) : arrMix P W T (ix2 r c) = T (ix2 r c) := dif_pos h

theorem arrMix_right (T : FVec Ideal ⟨2, ![2048, 2048]⟩ .bf16) (r c : Fin 2048) (l : Fin 1024) (h : c.val = 1024 + l.val) : arrMix P W T (ix2 r c)
    = gated (W (ix2 0 l)) (W (ix2 1 l)) (W (ix2 2 l)) (chan 3072 (by omega) P l) (chan 4096 (by omega) P l) (chan 5120 (by omega) P l) r := by
  unfold arrMix
  rw [dif_neg (show ¬((ix2 r c : (⟨2, ![2048, 2048]⟩ : Shape).Idx) 1).val < 1024 from by show ¬c.val < 1024; omega)]
  have e : (⟨((ix2 r c : (⟨2, ![2048, 2048]⟩ : Shape).Idx) 1).val - 1024, by show c.val - 1024 < 1024; omega⟩ : Fin 1024) = l := Fin.ext (by show c.val - 1024 = l.val; omega)
  exact congrArg (fun l : Fin 1024 => gated (W (ix2 0 l)) (W (ix2 1 l)) (W (ix2 2 l)) (chan 3072 (by omega) P l) (chan 4096 (by omega) P l) (chan 5120 (by omega) P l) r) e

/-- The gate's gradient, from the projections `P` (gate, then the two factors, from column 3072), the mixed output's
    gradient `D` (this part's channels from column 1024) and the filter `W`. -/
def arrB : FVec Ideal ⟨2, ![2048, 1024]⟩ .bf16 := fun i =>
  gradB (W (ix2 0 (i 1))) (W (ix2 1 (i 1))) (W (ix2 2 (i 1))) (chan 4096 (by omega) P (i 1)) (chan 5120 (by omega) P (i 1))
    (chan 1024 (by omega) D (i 1)) (i 0)

/-- The first factor's gradient. -/
def arrC : FVec Ideal ⟨2, ![2048, 1024]⟩ .bf16 := fun i =>
  gradZ (W (ix2 0 (i 1))) (W (ix2 1 (i 1))) (W (ix2 2 (i 1))) (chan 3072 (by omega) P (i 1)) (chan 1024 (by omega) D (i 1)) (i 0)
    * chan 5120 (by omega) P (i 1) (i 0)

/-- The second factor's gradient. -/
def arrH : FVec Ideal ⟨2, ![2048, 1024]⟩ .bf16 := fun i =>
  gradZ (W (ix2 0 (i 1))) (W (ix2 1 (i 1))) (W (ix2 2 (i 1))) (chan 3072 (by omega) P (i 1)) (chan 1024 (by omega) D (i 1)) (i 0)
    * chan 4096 (by omega) P (i 1) (i 0)

/-- The filter's gradient. -/
def arrW : FVec Ideal ⟨2, ![3, 1024]⟩ .f32 := fun i =>
  gradW (i 0) (chan 3072 (by omega) P (i 1)) (chan 4096 (by omega) P (i 1)) (chan 5120 (by omega) P (i 1)) (chan 1024 (by omega) D (i 1))

end Cert.Conv
-- ==== Proof.ConvBlock.lean ====
/- What one grid point of the kernel writes: the column gradients of its 128 channels. -/
module

public import proofs.«01_k».proof.Proof.Gen.ConvBwdIdeal.Value
public import Idealize.ShloMosaic.Lib.Pipeline.ValueKit
public import Idealize.ShloMosaic.Lib.Pointwise
public import proofs.«01_k».proof.Proof.ConvMath

@[expose] public section

set_option maxRecDepth 16384
noncomputable section
open Idealize.ShloMosaic Idealize.ShloMosaic.TcCoe Idealize.SL.Sem

namespace Cert.ConvBwdIdeal.Value
open Cert.ConvBwdIdeal Cert.ConvBwdIdeal.Gen Cert.Conv

/-- A column of a block. -/
abbrev colOf {n : Nat} {φ : FTy} (x : FVec Ideal ⟨2, ![2048, n]⟩ φ) (l : Fin n) : Col := fun r => x (ix2 r l)

variable (b c h d : FVec Ideal S2048x128 .bf16) (w : FVec Ideal S3x128 .f32)

/-- A product under the row test is the tap times the column moved `k` positions later. -/
theorem select_later (k : Nat) (hk : k < 2048) (r : Fin 2048) (z : Col) (w : EReal) (p : ((r.val + 2048 - k) % 2048) < 2048) :
    Scalar.select (IntOp.cmpi CmpIPredicate.sge (BitVec.ofNat 32 r.val) (BitVec.ofNat 32 k)) (w * z ⟨(r.val + 2048 - k) % 2048, p⟩) (0 : EReal)
      = w * later k z r := by
  have hr := r.isLt
  unfold later
  by_cases hlt : r.val < k
  · have e : IntOp.cmpi CmpIPredicate.sge (BitVec.ofNat 32 r.val) (BitVec.ofNat 32 k) = 0#1 := by word_cmp
    rw [e]; simp [Scalar.select, hlt]
  · have e : IntOp.cmpi CmpIPredicate.sge (BitVec.ofNat 32 r.val) (BitVec.ofNat 32 k) = 1#1 := by word_cmp
    have ei : (r.val + 2048 - k) % 2048 = r.val - k := by omega
    rw [e]; simp [Scalar.select, hlt, ei]

/-- A product under the row test is the tap times the column moved `k` positions earlier. -/
theorem select_earlier (k q : Nat) (hk : k < 2048) (hq : q = 2048 - k) (r : Fin 2048) (z : Col) (w : EReal)
    (p : ((r.val + 2048 - q) % 2048) < 2048) :
    Scalar.select (IntOp.cmpi CmpIPredicate.slt (BitVec.ofNat 32 r.val) (BitVec.ofNat 32 q)) (w * z ⟨(r.val + 2048 - q) % 2048, p⟩) (0 : EReal)
      = w * earlier k z r := by
  have hr := r.isLt
  unfold earlier
  by_cases hlt : r.val + k < 2048
  · have e : IntOp.cmpi CmpIPredicate.slt (BitVec.ofNat 32 r.val) (BitVec.ofNat 32 q) = 1#1 := by word_cmp
    have ei : (r.val + 2048 - q) % 2048 = r.val + k := by omega
    rw [e]; simp [Scalar.select, hlt, ei]
  · have e : IntOp.cmpi CmpIPredicate.slt (BitVec.ofNat 32 r.val) (BitVec.ofNat 32 q) = 0#1 := by word_cmp
    rw [e]; simp [Scalar.select, hlt]

/-- The gate's gradient block. -/
theorem block_b (r : Fin 2048) (l : Fin 128) :
    out0_5 (F := Ideal) b c h d w (ix2 r l)
      = gradB (w (ix2 0 l)) (w (ix2 1 l)) (w (ix2 2 l)) (colOf c l) (colOf h l) (colOf d l) r := by
  frame_out
  unfold_payloads
  pointwise
  have h1 := select_later 1 (by omega) r (prod (colOf c l) (colOf h l)) (w (ix2 1 l)) (Nat.mod_lt _ (by omega))
  have h2 := select_later 2 (by omega) r (prod (colOf c l) (colOf h l)) (w (ix2 0 l)) (Nat.mod_lt _ (by omega))
  unfold gradB
  rw [← h1, ← h2]
  rfl

/-- The filtered product's gradient, the factor of two of the outputs. -/
theorem block_z (f : EReal) (r : Fin 2048) (l : Fin 128) :
    (w (ix2 2 l) * (d (ix2 r l) * b (ix2 r l)) +
          Scalar.select (IntOp.cmpi CmpIPredicate.slt (BitVec.ofNat 32 r.val) 2047#32)
            (w (ix2 1 l) * (d (ix2 ⟨(r.val + 2048 - 2047) % 2048, Nat.mod_lt _ (by omega)⟩ l) * b (ix2 ⟨(r.val + 2048 - 2047) % 2048, Nat.mod_lt _ (by omega)⟩ l))) 0 +
        Scalar.select (IntOp.cmpi CmpIPredicate.slt (BitVec.ofNat 32 r.val) 2046#32)
          (w (ix2 0 l) * (d (ix2 ⟨(r.val + 2048 - 2046) % 2048, Nat.mod_lt _ (by omega)⟩ l) * b (ix2 ⟨(r.val + 2048 - 2046) % 2048, Nat.mod_lt _ (by omega)⟩ l))) 0) * f
      = gradZ (w (ix2 0 l)) (w (ix2 1 l)) (w (ix2 2 l)) (colOf b l) (colOf d l) r * f := by
  have h1 := select_earlier 1 2047 (by omega) (by omega) r (prod (colOf d l) (colOf b l)) (w (ix2 1 l)) (Nat.mod_lt _ (by omega))
  have h2 := select_earlier 2 2046 (by omega) (by omega) r (prod (colOf d l) (colOf b l)) (w (ix2 0 l)) (Nat.mod_lt _ (by omega))
  unfold gradZ
  rw [← h1, ← h2]
  rfl

/-- The gradient block of the product's first factor. -/
theorem block_c (r : Fin 2048) (l : Fin 128) :
    out0_6 (F := Ideal) b c h d w (ix2 r l)
      = gradZ (w (ix2 0 l)) (w (ix2 1 l)) (w (ix2 2 l)) (colOf b l) (colOf d l) r * h (ix2 r l) := by
  frame_out
  unfold_payloads
  pointwise
  exact block_z b d w _ r l

/-- The gradient block of the product's second factor. -/
theorem block_h (r : Fin 2048) (l : Fin 128) :
    out0_7 (F := Ideal) b c h d w (ix2 r l)
      = gradZ (w (ix2 0 l)) (w (ix2 1 l)) (w (ix2 2 l)) (colOf b l) (colOf d l) r * c (ix2 r l) := by
  frame_out
  unfold_payloads
  pointwise
  exact block_z b d w _ r l

/-- The gradient block of the filter's taps. -/
theorem block_w (k : Fin 3) (l : Fin 128) :
    out0_8 (F := Ideal) b c h d w (ix2 k l)
      = gradW k (colOf b l) (colOf c l) (colOf h l) (colOf d l) := by
  frame_out
  canon_tiles x hx
  all_goals (unfold_payloads; pointwise)
  all_goals
    obtain rfl : l = x 1 := Fin.ext hx1
    unfold gradW
    refine Finset.sum_congr rfl fun r _ => ?_
  · obtain rfl : k = 2 := Fin.ext (by have : (k : Nat) = 2 + ↑(x 0) := hx0; simp; omega)
    simp [later, prod]
  · obtain rfl : k = 1 := Fin.ext (by have : (k : Nat) = 1 + ↑(x 0) := hx0; simp; omega)
    exact select_later 1 (by omega) r (prod (colOf c (x 1)) (colOf h (x 1))) (d (ix2 r (x 1)) * b (ix2 r (x 1))) (Nat.mod_lt _ (by omega))
  · obtain rfl : k = 0 := Fin.ext (by have : (k : Nat) = ↑(x 0) := hx0; simp; omega)
    exact select_later 2 (by omega) r (prod (colOf c (x 1)) (colOf h (x 1))) (d (ix2 r (x 1)) * b (ix2 r (x 1))) (Nat.mod_lt _ (by omega))

end Cert.ConvBwdIdeal.Value
-- ==== Proof.ConvArrays.lean ====
/- The kernel's result arrays after the run: each is the gradient array of the mathematics. -/
module

public import proofs.«01_k».proof.Proof.ConvBlock

@[expose] public section

set_option maxRecDepth 16384
noncomputable section
open Idealize.ShloMosaic Idealize.ShloMosaic.TcCoe Idealize.SL.Sem
open Idealize.ShloMosaic.Pipeline (Dat)

namespace Cert.ConvBwdIdeal.Value
open Cert.ConvBwdIdeal Cert.ConvBwdIdeal.Gen Cert.Conv

variable (m : (ℓ : Loc nD τ sig) → Buf (Elt Ideal) ℓ)

/-- Where every window's block sits at each grid point. -/
theorem places : ∀ t : Fin cfg0.N, win0_0.index t = ![0, 24 + t.val] ∧ win0_1.index t = ![0, 32 + t.val]
    ∧ win0_2.index t = ![0, 40 + t.val] ∧ win0_3.index t = ![0, 8 + t.val] ∧ win0_4.index t = ![0, t.val]
    ∧ win0_5.index t = ![0, t.val] ∧ win0_6.index t = ![0, t.val] ∧ win0_7.index t = ![0, t.val] ∧ win0_8.index t = ![0, t.val] :=
  (by decide +kernel : ∀ t : Fin grid0.N, _)

/-- The projections, the mixed output's gradient and the filter as the run starts. -/
abbrev argP (c : Dev nD) : FVec Ideal S2048x6144 .bf16 := m ((c : Thread nD τ).loc main_arg0)
abbrev argD (c : Dev nD) : FVec Ideal S2048x2048 .bf16 := m ((c : Thread nD τ).loc main_arg1)
abbrev argW (c : Dev nD) : FVec Ideal S3x1024 .f32 := m ((c : Thread nD τ).loc main_arg2)

/-- A channel of this grid point's 128. -/
abbrev ch (t : Fin cfg0.N) (l : Fin 128) : Fin 1024 := ⟨t.val * 128 + l.val, by have := t.isLt; have := lt_of_lt_of_eq t.isLt N_0; omega⟩

/-! The blocks of a grid point, and what they read: channels of the arguments. -/

abbrev blk_b (c : Dev nD) (t : Fin cfg0.N) : FVec Ideal S2048x128 .bf16 := iblk m c 0 t
abbrev blk_c (c : Dev nD) (t : Fin cfg0.N) : FVec Ideal S2048x128 .bf16 := iblk m c 1 t
abbrev blk_h (c : Dev nD) (t : Fin cfg0.N) : FVec Ideal S2048x128 .bf16 := iblk m c 2 t
abbrev blk_d (c : Dev nD) (t : Fin cfg0.N) : FVec Ideal S2048x128 .bf16 := iblk m c 3 t
abbrev blk_w (c : Dev nD) (t : Fin cfg0.N) : FVec Ideal S3x128 .f32 := iblk m c 4 t

theorem read_b (c : Dev nD) (t : Fin cfg0.N) (l : Fin 128) : colOf (blk_b m c t) l = chan 3072 (by omega) (argP m c) (ch t l) := by
  funext r
  show (iblk m c 0 t : FVec Ideal S2048x128 .bf16) (ix2 r l) = m ((c : Thread nD τ).loc main_arg0) (ix2 r ⟨3072 + (t.val * 128 + l.val), _⟩)
  blk_ext [iblk, V, places t]

theorem read_c (c : Dev nD) (t : Fin cfg0.N) (l : Fin 128) : colOf (blk_c m c t) l = chan 4096 (by omega) (argP m c) (ch t l) := by
  funext r
  show (iblk m c 1 t : FVec Ideal S2048x128 .bf16) (ix2 r l) = m ((c : Thread nD τ).loc main_arg0) (ix2 r ⟨4096 + (t.val * 128 + l.val), _⟩)
  blk_ext [iblk, V, places t]

theorem read_h (c : Dev nD) (t : Fin cfg0.N) (l : Fin 128) : colOf (blk_h m c t) l = chan 5120 (by omega) (argP m c) (ch t l) := by
  funext r
  show (iblk m c 2 t : FVec Ideal S2048x128 .bf16) (ix2 r l) = m ((c : Thread nD τ).loc main_arg0) (ix2 r ⟨5120 + (t.val * 128 + l.val), _⟩)
  blk_ext [iblk, V, places t]

theorem read_d (c : Dev nD) (t : Fin cfg0.N) (l : Fin 128) : colOf (blk_d m c t) l = chan 1024 (by omega) (argD m c) (ch t l) := by
  funext r
  show (iblk m c 3 t : FVec Ideal S2048x128 .bf16) (ix2 r l) = m ((c : Thread nD τ).loc main_arg1) (ix2 r ⟨1024 + (t.val * 128 + l.val), _⟩)
  blk_ext [iblk, V, places t]

theorem read_w (c : Dev nD) (t : Fin cfg0.N) (k : Fin 3) (l : Fin 128) : blk_w m c t (ix2 k l) = argW m c (ix2 k (ch t l)) := by
  show (iblk m c 4 t : FVec Ideal S3x128 .f32) (ix2 k l) = m ((c : Thread nD τ).loc main_arg2) (ix2 k ⟨t.val * 128 + l.val, _⟩)
  blk_ext [iblk, V, places t]

/-! The result arrays. -/

theorem final_b (c : Dev nD) : (dats m 0 c).arrAt 5 (cfgs 0).N = arrB (argP m c) (argD m c) (argW m c) := by
  have point : ∀ (t : Fin cfg0.N) (r : Fin 2048) (l : Fin 128),
      out0_5 (F := Ideal) (blk_b m c t) (blk_c m c t) (blk_h m c t) (blk_d m c t) (blk_w m c t) (ix2 r l) = arrB (argP m c) (argD m c) (argW m c) (ix2 r (ch t l)) := by
    intro t r l
    rw [block_b, read_w, read_w, read_w, read_c, read_h, read_d]
    rfl
  refine (dats m 0 c).arrAt_eq_of_covers 5 _ (by decide +kernel) fun t _ y => ?_
  blk_simp
  rw [after0_5]
  have ey : (win0_5.blk t).view.emb y = ix2 (y 0) (ch t (y 1)) := by blk_ext [places t]
  rw [ey, eq_ix2 y]
  exact point t (y 0) (y 1)

theorem final_c (c : Dev nD) : (dats m 0 c).arrAt 6 (cfgs 0).N = arrC (argP m c) (argD m c) (argW m c) := by
  have point : ∀ (t : Fin cfg0.N) (r : Fin 2048) (l : Fin 128),
      out0_6 (F := Ideal) (blk_b m c t) (blk_c m c t) (blk_h m c t) (blk_d m c t) (blk_w m c t) (ix2 r l) = arrC (argP m c) (argD m c) (argW m c) (ix2 r (ch t l)) := by
    intro t r l
    rw [block_c, read_w, read_w, read_w, read_b, read_d, show blk_h m c t (ix2 r l) = chan 5120 (by omega) (argP m c) (ch t l) r from congrFun (read_h m c t l) r]
    rfl
  refine (dats m 0 c).arrAt_eq_of_covers 6 _ (by decide +kernel) fun t _ y => ?_
  blk_simp
  rw [after0_6]
  have ey : (win0_6.blk t).view.emb y = ix2 (y 0) (ch t (y 1)) := by blk_ext [places t]
  rw [ey, eq_ix2 y]
  exact point t (y 0) (y 1)

theorem final_h (c : Dev nD) : (dats m 0 c).arrAt 7 (cfgs 0).N = arrH (argP m c) (argD m c) (argW m c) := by
  have point : ∀ (t : Fin cfg0.N) (r : Fin 2048) (l : Fin 128),
      out0_7 (F := Ideal) (blk_b m c t) (blk_c m c t) (blk_h m c t) (blk_d m c t) (blk_w m c t) (ix2 r l) = arrH (argP m c) (argD m c) (argW m c) (ix2 r (ch t l)) := by
    intro t r l
    rw [block_h, read_w, read_w, read_w, read_b, read_d, show blk_c m c t (ix2 r l) = chan 4096 (by omega) (argP m c) (ch t l) r from congrFun (read_c m c t l) r]
    rfl
  refine (dats m 0 c).arrAt_eq_of_covers 7 _ (by decide +kernel) fun t _ y => ?_
  blk_simp
  rw [after0_7]
  have ey : (win0_7.blk t).view.emb y = ix2 (y 0) (ch t (y 1)) := by blk_ext [places t]
  rw [ey, eq_ix2 y]
  exact point t (y 0) (y 1)

theorem final_w (c : Dev nD) : (dats m 0 c).arrAt 8 (cfgs 0).N = arrW (argP m c) (argD m c) := by
  have point : ∀ (t : Fin cfg0.N) (r : Fin 3) (l : Fin 128),
      out0_8 (F := Ideal) (blk_b m c t) (blk_c m c t) (blk_h m c t) (blk_d m c t) (blk_w m c t) (ix2 r l) = arrW (argP m c) (argD m c) (ix2 r (ch t l)) := by
    intro t r l
    rw [block_w, read_b, read_c, read_h, read_d]
    rfl
  refine (dats m 0 c).arrAt_eq_of_covers 8 _ (by decide +kernel) fun t _ y => ?_
  blk_simp
  rw [after0_8]
  have ey : (win0_8.blk t).view.emb y = ix2 (y 0) (ch t (y 1)) := by blk_ext [places t]
  rw [ey, eq_ix2 y]
  exact point t (y 0) (y 1)

/-- The kernel's run: its results are the gradient arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0_0) = arrB (argP m c) (argD m c) (argW m c)
      ∧ r.2.mem ((c : Thread nD τ).loc main_v0_1) = arrC (argP m c) (argD m c) (argW m c)
      ∧ r.2.mem ((c : Thread nD τ).loc main_v0_2) = arrH (argP m c) (argD m c) (argW m c)
      ∧ r.2.mem ((c : Thread nD τ).loc main_v0_3) = arrW (argP m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final_b m c), (h c).2.1.trans (final_c m c), (h c).2.2.1.trans (final_h m c),
    (h c).2.2.2.1.trans (final_w m c), (h c).2.2.2.2⟩) (run_blocks m g)

end Cert.ConvBwdIdeal.Value
-- ==== Proof.ConvRefValue.lean ====
/- What the reference computes, one channel at a time: the column gradients. -/
module

public import proofs.«01_k».proof.Proof.Gen.ConvRefIdeal.Run
public import proofs.«01_k».proof.Proof.Gen.ConvRefIdeal.Read
public import Idealize.ShloMosaic.Lib.Pointwise
public import proofs.«01_k».proof.Proof.ConvMath

@[expose] public section

set_option maxRecDepth 16384
noncomputable section
open Idealize.ShloMosaic Idealize.ShloMosaic.TcCoe Idealize.SL.Sem

namespace Cert.ConvRefIdeal.Value
open Cert.ConvRefIdeal Cert.ConvRefIdeal.Gen Cert.ConvRefIdeal.Read Cert.Conv

/-- A host sum over two axes of one element each is that element. -/
theorem reduce_ones {N : Nat} (hr : (⟨3, ![1, 1, N]⟩ : Shape).ReducesTo [0, 1] ⟨1, ![N]⟩) (x : (⟨3, ![1, 1, N]⟩ : Shape).Idx → EReal) (init : EReal)
    (l : Fin N) : Ideal.hostReduceAdd hr x init (ix1 l) = init + x (ix3 0 0 l) := by
  unfold Ideal.hostReduceAdd
  congr 1
  refine Finset.sum_eq_single (ix3 0 0 l) (fun i hi hne => ?_) (fun hn => ?_)
  · exfalso; apply hne
    have h2 : hr.drop i 0 = l := congrFun (Finset.mem_filter.mp hi).2 0
    funext a
    fin_cases a
    · exact Fin.ext (by have := (i 0).isLt; simp at this ⊢; omega)
    · exact Fin.ext (by have := (i 1).isLt; simp at this ⊢; omega)
    · rw [← h2]; rfl
  · exfalso; apply hn
    rw [Finset.mem_filter]
    refine ⟨Finset.mem_univ _, ?_⟩
    funext a
    obtain rfl : a = 0 := Subsingleton.elim (α := Fin 1) _ _
    have h2 : hr.drop (ix3 0 0 l) 0 = l := rfl
    exact h2

variable (P : FVec Ideal S2048x6144 .bf16) (D : FVec Ideal S2048x2048 .bf16) (W : FVec Ideal S3x1024 .f32)

/-- The gate's gradient. -/
theorem ref_b (r : Fin 2048) (l : Fin 1024) :
    (val_main_v74 (F := Ideal) P D W : FVec Ideal S2048x1024 .bf16) (ix2 r l)
      = gradB (W (ix2 0 l)) (W (ix2 1 l)) (W (ix2 2 l)) (chan 4096 (by omega) P l) (chan 5120 (by omega) P l) (chan 1024 (by omega) D l) r := by
  pointwise [val_main_v74, val_main_v73, val_main_v37, val_main_v34, val_main_v33, val_main_v30, val_main_v32, val_main_v31, val_main_v29, val_main_v28, val_main_v27, val_main_v26, val_main_v23, val_main_v25, val_main_v24, val_main_v22, val_main_v21, val_main_v20, val_main_v17, val_main_v13, val_main_v11, val_main_v7, val_main_v6, val_main_v1, val_main_v0, val_main_v12, val_main_cst, val_main_v19, val_main_v18, val_main_v16, val_main_v15, val_main_v10, val_main_v9, val_main_v8]
  have e : (val_main_cst (F := Ideal) ix0 : EReal) = 0 := by pointwise [val_main_cst]
  simp only [gradB, prod, later, e, show ∀ r : Nat, (1 + r < 2) = (r < 1) from fun r => by simp <;> omega,
     show ∀ r : Nat, 1 + r - 2 = r - 1 from fun r => by omega]

/-- The gradient of the product's first factor. -/
theorem ref_c (r : Fin 2048) (l : Fin 1024) :
    (val_main_v76 (F := Ideal) P D W : FVec Ideal S2048x1024 .bf16) (ix2 r l)
      = gradZ (W (ix2 0 l)) (W (ix2 1 l)) (W (ix2 2 l)) (chan 3072 (by omega) P l) (chan 1024 (by omega) D l) r * chan 5120 (by omega) P l r := by
  pointwise [val_main_v76, val_main_v75, val_main_v72, val_main_v7, val_main_v70, val_main_v65, val_main_v64, val_main_cst_11, val_main_v59, val_main_v58, val_main_v18, val_main_v16, val_main_v15, val_main_v54, val_main_v53, val_main_cst_7, val_main_v48, val_main_v47, val_main_v24, val_main_v22, val_main_v21, val_main_v44, val_main_cst_3, val_main_v39, val_main_v36, val_main_v10, val_main_v9, val_main_v8, val_main_v5, val_main_v1, val_main_v0, val_main_v38, val_main_v31, val_main_v29, val_main_v28]
  have e1 : ∀ r : Nat, (1 ≤ 2 + r ∧ r + 1 < 2048) = (r + 1 < 2048) := fun r => by simp only [eq_iff_iff]; omega
  have e2 : ∀ r : Nat, 2 + r - 1 = r + 1 := fun r => by omega
  have e3 : ∀ r : Nat, 2 + r = r + 2 := fun r => by omega
  simp only [e2, e1]
  simp only [e3, gradZ, prod, earlier, chan, mul_comm (D _) (P _), mul_dite, mul_zero]

/-- The gradient of the product's second factor. -/
theorem ref_h (r : Fin 2048) (l : Fin 1024) :
    (val_main_v78 (F := Ideal) P D W : FVec Ideal S2048x1024 .bf16) (ix2 r l)
      = gradZ (W (ix2 0 l)) (W (ix2 1 l)) (W (ix2 2 l)) (chan 3072 (by omega) P l) (chan 1024 (by omega) D l) r * chan 4096 (by omega) P l r := by
  pointwise [val_main_v78, val_main_v77, val_main_v71, val_main_v70, val_main_v65, val_main_v64, val_main_cst_11, val_main_v59, val_main_v58, val_main_v18, val_main_v16, val_main_v15, val_main_v54, val_main_v53, val_main_cst_7, val_main_v48, val_main_v47, val_main_v24, val_main_v22, val_main_v21, val_main_v44, val_main_cst_3, val_main_v39, val_main_v36, val_main_v10, val_main_v9, val_main_v8, val_main_v5, val_main_v38, val_main_v31, val_main_v29, val_main_v28, val_main_v6, val_main_v1, val_main_v0]
  have e1 : ∀ r : Nat, (1 ≤ 2 + r ∧ r + 1 < 2048) = (r + 1 < 2048) := fun r => by simp only [eq_iff_iff]; omega
  have e2 : ∀ r : Nat, 2 + r - 1 = r + 1 := fun r => by omega
  have e3 : ∀ r : Nat, 2 + r = r + 2 := fun r => by omega
  rw [mul_comm]
  simp only [e2, e1]
  simp only [e3, gradZ, prod, earlier, chan, mul_comm (D _) (P _), mul_dite, mul_zero]

/-- The gradient of the filter's taps. -/
theorem ref_w (k : Fin 3) (l : Fin 1024) :
    (val_main_v68 (F := Ideal) P D : FVec Ideal S3x1024 .f32) (ix2 k l)
      = gradW k (chan 3072 (by omega) P l) (chan 4096 (by omega) P l) (chan 5120 (by omega) P l) (chan 1024 (by omega) D l) := by
  pointwise [val_main_v68, val_main_v67, val_main_cst_12, val_main_v66, val_main_v63, val_main_cst_10, val_main_v62, val_main_v61, val_main_cst_9, val_main_v60, val_main_v17, val_main_v57, val_main_v56, val_main_cst_8, val_main_v55, val_main_v52, val_main_cst_6, val_main_v51, val_main_v50, val_main_cst_5, val_main_v49, val_main_v23, val_main_v46, val_main_cst_4, val_main_v45, val_main_v43, val_main_cst_2, val_main_v42, val_main_v41, val_main_cst_1, val_main_v40, val_main_v30, val_main_v13, val_main_v11, val_main_v7, val_main_v6, val_main_v12, val_main_cst, val_main_v36, val_main_v10, val_main_v9, val_main_v8, val_main_v5, val_main_v1, val_main_v0]
  simp only [reduce_ones]
  pointwise
  unfold gradW
  have hk : k = 0 ∨ k = 1 ∨ k = 2 := by omega
  rcases hk with rfl | rfl | rfl
  · have hsplit := Fin.sum_univ_add (a := 2) (b := 2046) fun r : Fin 2048 => prod (chan 1024 (by omega) D l) (chan 3072 (by omega) P l) r
      * later 2 (prod (chan 4096 (by omega) P l) (chan 5120 (by omega) P l)) r
    have h0 : 2 - ((0 : Fin 3) : Nat) = 2 := rfl
    rw [h0]
    refine Eq.trans ?_ hsplit.symm
    simp [prod, later, chan, Fin.natAdd, mul_comm (D _) (P _), show ∀ x : Nat, ¬(2 + x ≤ 1) from fun x => by omega]
  · simp [prod, later, mul_comm (D _) (P _), show ∀ r : Nat, (1 + r < 2) = (r = 0) from fun r => by simp only [eq_iff_iff]; omega,
      show ∀ r : Nat, 1 + r - 2 = r - 1 from fun r => by omega]
  · simp [prod, later, mul_comm (D _) (P _)]

/-- The reference's four results are the gradient arrays. -/
theorem ref_arrays : (val_main_v74 (F := Ideal) P D W : FVec Ideal S2048x1024 .bf16) = arrB P D W
    ∧ (val_main_v76 (F := Ideal) P D W : FVec Ideal S2048x1024 .bf16) = arrC P D W
    ∧ (val_main_v78 (F := Ideal) P D W : FVec Ideal S2048x1024 .bf16) = arrH P D W
    ∧ (val_main_v68 (F := Ideal) P D : FVec Ideal S3x1024 .f32) = arrW P D := by
  refine ⟨funext fun i => ?_, funext fun i => ?_, funext fun i => ?_, funext fun i => ?_⟩
  · rw [eq_ix2 i]; exact ref_b P D W (i 0) (i 1)
  · rw [eq_ix2 i]; exact ref_c P D W (i 0) (i 1)
  · rw [eq_ix2 i]; exact ref_h P D W (i 0) (i 1)
  · rw [eq_ix2 i]; exact ref_w P D (i 0) (i 1)

variable (m : (ℓ : Loc nD τ sig) → Buf (Elt Ideal) ℓ)

/-- The projections, the mixed output's gradient and the filter as the run starts. -/
abbrev argP (c : Dev nD) : FVec Ideal S2048x6144 .bf16 := m ((c : Thread nD τ).loc main_arg0)
abbrev argD (c : Dev nD) : FVec Ideal S2048x2048 .bf16 := m ((c : Thread nD τ).loc main_arg1)
abbrev argW (c : Dev nD) : FVec Ideal S3x1024 .f32 := m ((c : Thread nD τ).loc main_arg2)

/-- The reference's run: its results are the gradient arrays of its arguments, which end unchanged; and its frame (it has
    no semaphore). -/
theorem run_arrays (g : Dev nD → PrngReg) :
    (θ_run (defs (F := Ideal)) (onTc (τ := τ) (main (F := Ideal))) ⟨m, fun _ => 0, g⟩ fun r => ∀ c : Dev nD,
    r.2.mem ((c : Thread nD τ).loc main_v74) = arrB (argP m c) (argD m c) (argW m c)
      ∧ r.2.mem ((c : Thread nD τ).loc main_v76) = arrC (argP m c) (argD m c) (argW m c)
      ∧ r.2.mem ((c : Thread nD τ).loc main_v78) = arrH (argP m c) (argD m c) (argW m c)
      ∧ r.2.mem ((c : Thread nD τ).loc main_v68) = arrW (argP m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ θ_run (defs (F := Ideal)) (onTc (τ := τ) (main (F := Ideal))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  ⟨(θ_run _ _ _).mono (fun _ h c =>
      have a := ref_arrays (argP m c) (argD m c) (argW m c)
      ⟨(h c).1.trans a.1, (h c).2.1.trans a.2.1, (h c).2.2.1.trans a.2.2.1,
        (h c).2.2.2.1.trans ((val_main_v68_eq m c).trans a.2.2.2), (h c).2.2.2.2⟩) (run m g),
    (θ_run _ _ _).mono (fun _ h => ⟨fun c => (h c).2.2.2.2, funext fun x => by rcases x with ⟨_, s | s⟩ <;> exact s.elim0⟩) (run m g)⟩

end Cert.ConvRefIdeal.Value
-- ==== Proof.AttnLoop.lean ====
/-
  The counted loop of the attention backward kernel, one tile of 128 queries to a trip: what one trip does to the four
  buffers it writes, what they hold after any number of trips, and the loop's invariant.
-/
module

public import proofs.«01_k».proof.Proof.Gen.AttnBwdIdeal.Loops
public import Idealize.ShloMosaic.Lib.VecWindow
public import Idealize.ShloMosaic.Lib.Pipeline.FrameBody

@[expose] public section
noncomputable section

namespace Cert.AttnBwdIdeal.Hand

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- The rows of a tile's queries. -/
abbrev rectQ (k : Fin k0_t1_loop.trips) : Rect S2048x128 := Rect.unit (s := S2048x128) (k0_off1 k) S128x128.size (k0_off1_inb k)
/-- The rows of a tile's window of keys. -/
abbrev rectK (k : Fin k0_t1_loop.trips) : Rect S2560x128 := Rect.unit (s := S2560x128) (k0_off2 k) S640x128.size (k0_off2_inb k)

/-- The probabilities of tile `k`. -/
def prob (k : Fin k0_t1_loop.trips) (x0 : Vec F S2048x128 .bf16) (kp : Vec F S2560x128 .bf16) (x4 : Vec F S1x128x640 .f32) : FVec F S128x640 .f32 :=
  k0_pay8 0#32 1#32 k (View.ld (Val := Elt F) x0 (rectQ k)) (View.ld (Val := Elt F) kp (rectK k)) x4
/-- The gradient of the scores of tile `k`. -/
def dscore (k : Fin k0_t1_loop.trips) (x0 : Vec F S2048x128 .bf16) (kp vp : Vec F S2560x128 .bf16) (x3 : Vec F S2048x128 .bf16) (x4 : Vec F S1x128x640 .f32) : FVec F S128x640 .f32 :=
  k0_pay9 0#32 1#32 k (View.ld (Val := Elt F) x0 (rectQ k)) (View.ld (Val := Elt F) kp (rectK k)) x4 (View.ld (Val := Elt F) x3 (rectQ k)) (View.ld (Val := Elt F) vp (rectK k))

/-- The gradient of the queries after `n` tiles, from `g`. -/
def stQ (x0 : Vec F S2048x128 .bf16) (kp vp : Vec F S2560x128 .bf16) (x3 : Vec F S2048x128 .bf16) (x4 : Vec F S1x128x640 .f32) (g : Vec F S2048x128 .bf16) : ℕ → Vec F S2048x128 .bf16
  | 0 => g
  | n + 1 => if h : n < k0_t1_loop.trips then
      (rectQ ⟨n, h⟩).overlay (stQ x0 kp vp x3 x4 g n) (k0_pay3 (View.ld (Val := Elt F) kp (rectK ⟨n, h⟩)) (dscore ⟨n, h⟩ x0 kp vp x3 x4))
    else stQ x0 kp vp x3 x4 g n
/-- The gradient of the bias table after `n` tiles, from `g`. -/
def stT (x0 : Vec F S2048x128 .bf16) (kp vp : Vec F S2560x128 .bf16) (x3 : Vec F S2048x128 .bf16) (x4 : Vec F S1x128x640 .f32) (g : Vec F S1x128x640 .f32) : ℕ → Vec F S1x128x640 .f32
  | 0 => g
  | n + 1 => if h : n < k0_t1_loop.trips then k0_pay1 (dscore ⟨n, h⟩ x0 kp vp x3 x4) (stT x0 kp vp x3 x4 g n) else stT x0 kp vp x3 x4 g n
/-- The gradient of the padded keys after `n` tiles, from `g`. -/
def stK (x0 : Vec F S2048x128 .bf16) (kp vp : Vec F S2560x128 .bf16) (x3 : Vec F S2048x128 .bf16) (x4 : Vec F S1x128x640 .f32) (g : Vec F S2560x128 .f32) : ℕ → Vec F S2560x128 .f32
  | 0 => g
  | n + 1 => if h : n < k0_t1_loop.trips then
      (rectK ⟨n, h⟩).overlay (stK x0 kp vp x3 x4 g n)
        (k0_pay4 (View.ld (Val := Elt F) x0 (rectQ ⟨n, h⟩)) (dscore ⟨n, h⟩ x0 kp vp x3 x4) (View.ld (Val := Elt F) (stK x0 kp vp x3 x4 g n) (rectK ⟨n, h⟩)))
    else stK x0 kp vp x3 x4 g n
/-- The gradient of the padded values after `n` tiles, from `g`. -/
def stV (x0 : Vec F S2048x128 .bf16) (kp : Vec F S2560x128 .bf16) (x3 : Vec F S2048x128 .bf16) (x4 : Vec F S1x128x640 .f32) (g : Vec F S2560x128 .f32) : ℕ → Vec F S2560x128 .f32
  | 0 => g
  | n + 1 => if h : n < k0_t1_loop.trips then
      (rectK ⟨n, h⟩).overlay (stV x0 kp x3 x4 g n)
        (k0_pay5 (prob ⟨n, h⟩ x0 kp x4) (View.ld (Val := Elt F) x3 (rectQ ⟨n, h⟩)) (View.ld (Val := Elt F) (stV x0 kp x3 x4 g n) (rectK ⟨n, h⟩)))
    else stV x0 kp x3 x4 g n

variable (𝒱 : Variants) (c : Dev nD) (bd : Option 𝒱.V) (E : Set ℕ) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S1x128x640 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S1x128x640 .f32) (harg9 : arg9.IsWhole)
  (arg10 : Memref sig .tc .vmem S2560x128 .bf16) (harg10 : arg10.IsWhole)
  (arg11 : Memref sig .tc .vmem S2560x128 .bf16) (harg11 : arg11.IsWhole)
  (arg12 : Memref sig .tc .vmem S2560x128 .f32) (harg12 : arg12.IsWhole)
  (arg13 : Memref sig .tc .vmem S2560x128 .f32) (harg13 : arg13.IsWhole)

/-- What the loop holds: the buffers a trip reads at their contents, those it writes at theirs. -/
abbrev Held (X1 : BufTy.Contents (Elt F) arg1.view.ty) (X4 : BufTy.Contents (Elt F) arg4.view.ty) (X5 : BufTy.Contents (Elt F) arg5.view.ty) (X10 : BufTy.Contents (Elt F) arg10.view.ty) (X11 : BufTy.Contents (Elt F) arg11.view.ty) (f6 : BufTy.Contents (Elt F) arg6.view.ty) (f9 : BufTy.Contents (Elt F) arg9.view.ty) (f12 : BufTy.Contents (Elt F) arg12.view.ty) (f13 : BufTy.Contents (Elt F) arg13.view.ty) : sProp 𝕄G :=
  iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg6.view.loc (c : Thread nD τ) ↦[arg6.view.set]{fullShare} f6) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13))

set_option maxHeartbeats 1000000 in
/-- One trip: the four stores it makes, the loads as the run reads them. -/
theorem trip_raw (X1 : BufTy.Contents (Elt F) arg1.view.ty) (X4 : BufTy.Contents (Elt F) arg4.view.ty) (X5 : BufTy.Contents (Elt F) arg5.view.ty) (X10 : BufTy.Contents (Elt F) arg10.view.ty) (X11 : BufTy.Contents (Elt F) arg11.view.ty) (k : Fin k0_t1_loop.trips) (f6 : BufTy.Contents (Elt F) arg6.view.ty) (f9 : BufTy.Contents (Elt F) arg9.view.ty) (f12 : BufTy.Contents (Elt F) arg12.view.ty) (f13 : BufTy.Contents (Elt F) arg13.view.ty) :
    Held (F := F) c arg1 arg4 arg5 arg6 arg9 arg10 arg11 arg12 arg13 X1 X4 X5 X10 X11 f6 f9 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 0#32 k PUnit.unit)
          (fun _ => Held (F := F) c arg1 arg4 arg5 arg6 arg9 arg10 arg11 arg12 arg13 X1 X4 X5 X10 X11
            (arg6.view.writes (Elt F) f6 [⟨rectQ k, k0_pay3 (arg10.view.readAt (Elt F) (rectK k).toLoadRect X10) (k0_pay9 0#32 1#32 k (arg1.view.readAt (Elt F) (rectQ k).toLoadRect X1) (arg10.view.readAt (Elt F) (rectK k).toLoadRect X10) (arg5.view.readAt (Elt F) (Rect.unit (s := S1x128x640) ![0, 0, 0] S1x128x640.size inb_S1x128x640_S1x128x640_0_0_0).toLoadRect X5) (arg4.view.readAt (Elt F) (rectQ k).toLoadRect X4) (arg11.view.readAt (Elt F) (rectK k).toLoadRect X11))⟩])
            (arg9.view.writes (Elt F) f9 [⟨Rect.unit (s := S1x128x640) ![0, 0, 0] S1x128x640.size inb_S1x128x640_S1x128x640_0_0_0, k0_pay1 (k0_pay9 0#32 1#32 k (arg1.view.readAt (Elt F) (rectQ k).toLoadRect X1) (arg10.view.readAt (Elt F) (rectK k).toLoadRect X10) (arg5.view.readAt (Elt F) (Rect.unit (s := S1x128x640) ![0, 0, 0] S1x128x640.size inb_S1x128x640_S1x128x640_0_0_0).toLoadRect X5) (arg4.view.readAt (Elt F) (rectQ k).toLoadRect X4) (arg11.view.readAt (Elt F) (rectK k).toLoadRect X11)) (arg9.view.readAt (Elt F) (Rect.unit (s := S1x128x640) ![0, 0, 0] S1x128x640.size inb_S1x128x640_S1x128x640_0_0_0).toLoadRect f9)⟩])
            (arg12.view.writes (Elt F) f12 [⟨rectK k, k0_pay4 (arg1.view.readAt (Elt F) (rectQ k).toLoadRect X1) (k0_pay9 0#32 1#32 k (arg1.view.readAt (Elt F) (rectQ k).toLoadRect X1) (arg10.view.readAt (Elt F) (rectK k).toLoadRect X10) (arg5.view.readAt (Elt F) (Rect.unit (s := S1x128x640) ![0, 0, 0] S1x128x640.size inb_S1x128x640_S1x128x640_0_0_0).toLoadRect X5) (arg4.view.readAt (Elt F) (rectQ k).toLoadRect X4) (arg11.view.readAt (Elt F) (rectK k).toLoadRect X11)) (arg12.view.readAt (Elt F) (rectK k).toLoadRect f12)⟩])
            (arg13.view.writes (Elt F) f13 [⟨rectK k, k0_pay5 (k0_pay8 0#32 1#32 k (arg1.view.readAt (Elt F) (rectQ k).toLoadRect X1) (arg10.view.readAt (Elt F) (rectK k).toLoadRect X10) (arg5.view.readAt (Elt F) (Rect.unit (s := S1x128x640) ![0, 0, 0] S1x128x640.size inb_S1x128x640_S1x128x640_0_0_0).toLoadRect X5)) (arg4.view.readAt (Elt F) (rectQ k).toLoadRect X4) (arg13.view.readAt (Elt F) (rectK k).toLoadRect f13)⟩])) := by
  have hk : k.val < 16 := Nat.lt_of_lt_of_le k.isLt k0_t1_abs.2.1
  unfold k0_t1_body
  iintro ⟨H1, H4, H5, H10, H11, H6, H9, H12, H13⟩
  sl_exec
  sl_step
  sl_close

/-- One trip, over what the buffers read. -/
theorem trip (X1 : BufTy.Contents (Elt F) arg1.view.ty) (X4 : BufTy.Contents (Elt F) arg4.view.ty) (X5 : BufTy.Contents (Elt F) arg5.view.ty) (X10 : BufTy.Contents (Elt F) arg10.view.ty) (X11 : BufTy.Contents (Elt F) arg11.view.ty) (k : Fin k0_t1_loop.trips) (f6 : BufTy.Contents (Elt F) arg6.view.ty) (f9 : BufTy.Contents (Elt F) arg9.view.ty) (f12 : BufTy.Contents (Elt F) arg12.view.ty) (f13 : BufTy.Contents (Elt F) arg13.view.ty) :
    Held (F := F) c arg1 arg4 arg5 arg6 arg9 arg10 arg11 arg12 arg13 X1 X4 X5 X10 X11 f6 f9 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 0#32 k PUnit.unit)
          (fun _ => Held (F := F) c arg1 arg4 arg5 arg6 arg9 arg10 arg11 arg12 arg13 X1 X4 X5 X10 X11
            (arg6.view.writes (Elt F) f6 [⟨rectQ k, k0_pay3 (View.ld (arg10.view.read (Elt F) X10) (rectK k)) (dscore k (arg1.view.read (Elt F) X1) (arg10.view.read (Elt F) X10) (arg11.view.read (Elt F) X11) (arg4.view.read (Elt F) X4) (arg5.view.read (Elt F) X5))⟩])
            (arg9.view.writes (Elt F) f9 [⟨Rect.unit (s := S1x128x640) ![0, 0, 0] S1x128x640.size inb_S1x128x640_S1x128x640_0_0_0, k0_pay1 (dscore k (arg1.view.read (Elt F) X1) (arg10.view.read (Elt F) X10) (arg11.view.read (Elt F) X11) (arg4.view.read (Elt F) X4) (arg5.view.read (Elt F) X5)) (arg9.view.read (Elt F) f9)⟩])
            (arg12.view.writes (Elt F) f12 [⟨rectK k, k0_pay4 (View.ld (arg1.view.read (Elt F) X1) (rectQ k)) (dscore k (arg1.view.read (Elt F) X1) (arg10.view.read (Elt F) X10) (arg11.view.read (Elt F) X11) (arg4.view.read (Elt F) X4) (arg5.view.read (Elt F) X5)) (View.ld (arg12.view.read (Elt F) f12) (rectK k))⟩])
            (arg13.view.writes (Elt F) f13 [⟨rectK k, k0_pay5 (prob k (arg1.view.read (Elt F) X1) (arg10.view.read (Elt F) X10) (arg5.view.read (Elt F) X5)) (View.ld (arg4.view.read (Elt F) X4) (rectQ k)) (View.ld (arg13.view.read (Elt F) f13) (rectK k))⟩])) := by
  have h := trip_raw (F := F) 𝒱 c bd E i arg1 harg1 arg2 harg2 arg3 harg3 arg4 harg4 arg5 harg5 arg6 harg6 arg7 harg7 arg8 harg8 arg9 harg9 arg10 harg10 arg11 harg11 arg12 harg12 arg13 harg13 X1 X4 X5 X10 X11 k f6 f9 f12 f13
  rw [View.readAt_full, View.readAt_full] at h
  exact h

/-- The loop's invariant: what a trip reads stands as the loop found it, and the four buffers it writes read the
    states after the trips so far. -/
abbrev inv (X1 : BufTy.Contents (Elt F) arg1.view.ty) (X4 : BufTy.Contents (Elt F) arg4.view.ty) (X5 : BufTy.Contents (Elt F) arg5.view.ty) (X10 : BufTy.Contents (Elt F) arg10.view.ty) (X11 : BufTy.Contents (Elt F) arg11.view.ty) (G6 : BufTy.Contents (Elt F) arg6.view.ty) (G9 : BufTy.Contents (Elt F) arg9.view.ty) (G12 : BufTy.Contents (Elt F) arg12.view.ty) (G13 : BufTy.Contents (Elt F) arg13.view.ty) (n : ℕ) (_ : Unit) : sProp 𝕄G :=
  iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11)
    ∗ (∃ f, (arg6.view.loc (c : Thread nD τ) ↦[arg6.view.set]{fullShare} f) ∗ ⌜arg6.view.read (Elt F) f = stQ (arg1.view.read (Elt F) X1) (arg10.view.read (Elt F) X10) (arg11.view.read (Elt F) X11) (arg4.view.read (Elt F) X4) (arg5.view.read (Elt F) X5) (arg6.view.read (Elt F) G6) n⌝)
    ∗ (∃ f, (arg9.view.loc (c : Thread nD τ) ↦[arg9.view.set]{fullShare} f) ∗ ⌜arg9.view.read (Elt F) f = stT (arg1.view.read (Elt F) X1) (arg10.view.read (Elt F) X10) (arg11.view.read (Elt F) X11) (arg4.view.read (Elt F) X4) (arg5.view.read (Elt F) X5) (arg9.view.read (Elt F) G9) n⌝)
    ∗ (∃ f, (arg12.view.loc (c : Thread nD τ) ↦[arg12.view.set]{fullShare} f) ∗ ⌜arg12.view.read (Elt F) f = stK (arg1.view.read (Elt F) X1) (arg10.view.read (Elt F) X10) (arg11.view.read (Elt F) X11) (arg4.view.read (Elt F) X4) (arg5.view.read (Elt F) X5) (arg12.view.read (Elt F) G12) n⌝)
    ∗ (∃ f, (arg13.view.loc (c : Thread nD τ) ↦[arg13.view.set]{fullShare} f) ∗ ⌜arg13.view.read (Elt F) f = stV (arg1.view.read (Elt F) X1) (arg10.view.read (Elt F) X10) (arg4.view.read (Elt F) X4) (arg5.view.read (Elt F) X5) (arg13.view.read (Elt F) G13) n⌝))

/-- A store at a rectangle lays the payload over what the view read. -/
theorem read_store {sp : Space} {s : Shape} {e : EltTy} (v : View sig .tc sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, r.overlay_emb]
  · rw [r.overlay_of_not_mem _ _ hy, View.read_writes_cons_miss _ _ ⟨r, w⟩ _ _ hy, View.writes_nil]

set_option warn.classDefReducibility false in
/-- The loop goes by the invariant. -/
@[sl_loop] def loopInv (X1 : BufTy.Contents (Elt F) arg1.view.ty) (X4 : BufTy.Contents (Elt F) arg4.view.ty) (X5 : BufTy.Contents (Elt F) arg5.view.ty) (X10 : BufTy.Contents (Elt F) arg10.view.ty) (X11 : BufTy.Contents (Elt F) arg11.view.ty) (G6 : BufTy.Contents (Elt F) arg6.view.ty) (G9 : BufTy.Contents (Elt F) arg9.view.ty) (G12 : BufTy.Contents (Elt F) arg12.view.ty) (G13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 0#32 where
  inv := inv (F := F) c arg1 arg4 arg5 arg6 arg9 arg10 arg11 arg12 arg13 X1 X4 X5 X10 X11 G6 G9 G12 G13
  step k acc := by
    iintro ⟨H1, H4, H5, H10, H11, ⟨%f6, H6, %h6⟩, ⟨%f9, H9, %h9⟩, ⟨%f12, H12, %h12⟩, ⟨%f13, H13, %h13⟩⟩
    iapply (wp_wand_r Idealize.ShloMosaic.frame (wpE (defs₀ (F := F)) 𝒱 (c : Thread nD τ) bd) E)
    isplitl [H1 H4 H5 H10 H11 H6 H9 H12 H13]
    · iapply (trip (F := F) 𝒱 c bd E i arg1 harg1 arg2 harg2 arg3 harg3 arg4 harg4 arg5 harg5 arg6 harg6 arg7 harg7 arg8 harg8 arg9 harg9 arg10 harg10 arg11 harg11 arg12 harg12 arg13 harg13 X1 X4 X5 X10 X11 k f6 f9 f12 f13)
      isplitl [H1]; · iexact H1
      isplitl [H4]; · iexact H4
      isplitl [H5]; · iexact H5
      isplitl [H10]; · iexact H10
      isplitl [H11]; · iexact H11
      isplitl [H6]; · iexact H6
      isplitl [H9]; · iexact H9
      isplitl [H12]; · iexact H12
      iexact H13
    · iintro %_ ⟨H1, H4, H5, H10, H11, H6, H9, H12, H13⟩
      isplitl [H1]; · iexact H1
      isplitl [H4]; · iexact H4
      isplitl [H5]; · iexact H5
      isplitl [H10]; · iexact H10
      isplitl [H11]; · iexact H11
      isplitl [H6]
      · iexists _; isplitl [H6]; · iexact H6
        ipureintro; rw [read_store, h6, stQ, dif_pos k.isLt]
      isplitl [H9]
      · iexists _; isplitl [H9]; · iexact H9
        ipureintro; rw [View.read_writes_full, h9, stT, dif_pos k.isLt]
      isplitl [H12]
      · iexists _; isplitl [H12]; · iexact H12
        ipureintro; rw [read_store, h12, stK, dif_pos k.isLt]
      iexists _; isplitl [H13]; · iexact H13
      ipureintro; rw [read_store, h13, stV, dif_pos k.isLt]

end Cert.AttnBwdIdeal.Hand
end
-- ==== Proof.AttnRun.lean ====
/-
  The whole body of the attention backward kernel: the padded keys and values it lays out, the loop over the tiles by its
  invariant, and what the four results hold at the end.
-/
module

public import proofs.«01_k».proof.Proof.AttnLoop
public import proofs.«01_k».proof.Proof.Gen.AttnBwdIdeal.Frame

@[expose] public section
set_option maxRecDepth 16384
noncomputable section

namespace Cert.AttnBwdIdeal.Hand

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- A padded operand: 512 rows of zeros, then the operand's. -/
def padded (x : Vec F S2048x128 .bf16) : Vec F S2560x128 .bf16 :=
  View.canon (Val := Elt F) [⟨Rect.unit (s := S2560x128) ![512, 0] S2048x128.size inb_S2560x128_S2048x128_512_0, k0_pay13 x⟩,
    ⟨Rect.unit (s := S2560x128) ![0, 0] S512x128.size inb_S2560x128_S512x128_0_0, k0_pay11 (F := F)⟩]

/-- Rows 512 to 2560 of an accumulator. -/
abbrev rectTail : Rect S2560x128 := Rect.unit (s := S2560x128) ![512, 0] S2048x128.size inb_S2560x128_S2048x128_512_0

/-- The gradient of the queries. -/
def outQ (x0 x1 x2 x3 : Vec F S2048x128 .bf16) (x4 : Vec F S1x128x640 .f32) : Vec F S2048x128 .bf16 :=
  stQ x0 (padded x1) (padded x2) x3 x4 x0 k0_t1_loop.trips
/-- The gradient of the keys. -/
def outK (x0 x1 x2 x3 : Vec F S2048x128 .bf16) (x4 : Vec F S1x128x640 .f32) : Vec F S2048x128 .bf16 :=
  k0_pay6 (View.ld (Val := Elt F) (stK x0 (padded x1) (padded x2) x3 x4 (k0_pay15 (F := F)) k0_t1_loop.trips) rectTail)
/-- The gradient of the values. -/
def outV (x0 x1 x3 : Vec F S2048x128 .bf16) (x4 : Vec F S1x128x640 .f32) : Vec F S2048x128 .bf16 :=
  k0_pay7 (View.ld (Val := Elt F) (stV x0 (padded x1) x3 x4 (k0_pay16 (F := F)) k0_t1_loop.trips) rectTail)
/-- The gradient of the bias table. -/
def outT (x0 x1 x2 x3 : Vec F S2048x128 .bf16) (x4 : Vec F S1x128x640 .f32) : Vec F S1x128x640 .f32 :=
  stT x0 (padded x1) (padded x2) x3 x4 (k0_pay17 (F := F)) k0_t1_loop.trips

theorem trips_eq : k0_t1_loop.trips = 16 := by decide

/-- Tile `k` starts at row `128 k`, of the queries and of the padded keys. -/
theorem off1_eq (k : Fin k0_t1_loop.trips) : k0_off1 k = ![128 * k.val, 0] := by
  have hk : k.val < 16 := Nat.lt_of_lt_of_le k.isLt k0_t1_abs.2.1
  have key : ∀ n : Fin 16, k0_off1 ⟨n.val, by rw [trips_eq]; exact n.isLt⟩ = ![128 * n.val, 0] := by decide
  exact key ⟨k.val, hk⟩
theorem off2_eq (k : Fin k0_t1_loop.trips) : k0_off2 k = ![128 * k.val, 0] := by
  have hk : k.val < 16 := Nat.lt_of_lt_of_le k.isLt k0_t1_abs.2.1
  have key : ∀ n : Fin 16, k0_off2 ⟨n.val, by rw [trips_eq]; exact n.isLt⟩ = ![128 * n.val, 0] := by decide
  exact key ⟨k.val, hk⟩

/-- Every row of the queries' gradient lies in a tile: after the loop nothing is left of what the buffer held. -/
theorem stQ_rows (x0 : Vec F S2048x128 .bf16) (kp vp : Vec F S2560x128 .bf16) (x3 : Vec F S2048x128 .bf16) (x4 : Vec F S1x128x640 .f32)
    (g g' : Vec F S2048x128 .bf16) (n : ℕ) (hn : n ≤ k0_t1_loop.trips) (y : S2048x128.Idx) (hy : (y 0).val < 128 * n) :
    stQ x0 kp vp x3 x4 g n y = stQ x0 kp vp x3 x4 g' n y := by
  induction n with
  | zero => omega
  | succ n ih =>
    have h : n < k0_t1_loop.trips := hn
    have h16 : n < 16 := Nat.lt_of_lt_of_le h k0_t1_abs.2.1
    unfold stQ
    rw [dif_pos h, dif_pos h]
    by_cases hm : y ∈ (rectQ ⟨n, h⟩).set
    · obtain ⟨x, rfl⟩ : ∃ x, (rectQ ⟨n, h⟩).emb x = y := (rectQ ⟨n, h⟩).exists_idx_of_mem hm
      rw [Rect.overlay_emb, Rect.overlay_emb]
    · rw [Rect.overlay_of_not_mem _ _ _ hm, Rect.overlay_of_not_mem _ _ _ hm]
      refine ih (by omega) ?_
      by_contra hc
      refine hm ((Rect.mem_set_unit).2 fun a => ?_)
      rw [off1_eq]
      match a with
      | ⟨0, h0⟩ => exact ⟨(by show 128 * n ≤ (y 0).val; omega), (by show (y 0).val < 128 * n + 128; omega)⟩
      | ⟨1, _⟩ => exact ⟨Nat.zero_le _, (by have := (y 1).isLt; simpa using this)⟩

theorem stQ_eq (x0 : Vec F S2048x128 .bf16) (kp vp : Vec F S2560x128 .bf16) (x3 : Vec F S2048x128 .bf16) (x4 : Vec F S1x128x640 .f32)
    (g g' : Vec F S2048x128 .bf16) : stQ x0 kp vp x3 x4 g k0_t1_loop.trips = stQ x0 kp vp x3 x4 g' k0_t1_loop.trips := by
  funext y
  refine stQ_rows x0 kp vp x3 x4 g g' _ le_rfl y ?_
  have h : k0_t1_loop.trips = 16 := by decide
  have := (y 0).isLt
  rw [h]
  exact this

/-- A padded buffer reads the padded operand, whatever it held. -/
theorem read_padded (v : View sig .tc .vmem S2560x128 .bf16) (f : v.ty.Contents (Elt F)) (x : Vec F S2048x128 .bf16) :
    v.read (Elt F) (v.writes (Elt F) f [⟨Rect.unit (s := S2560x128) ![512, 0] S2048x128.size inb_S2560x128_S2048x128_512_0, k0_pay13 x⟩,
      ⟨Rect.unit (s := S2560x128) ![0, 0] S512x128.size inb_S2560x128_S512x128_0_0, k0_pay11 (F := F)⟩]) = padded x :=
  View.read_writes_eq_canon v f _ fun y => by
    by_cases h : (y 0).val < 512
    · have hm : y ∈ (Rect.unit (s := S2560x128) ![0, 0] S512x128.size inb_S2560x128_S512x128_0_0).set := by
        refine Rect.mem_set_unit.2 fun a => ?_
        match a with
        | ⟨0, _⟩ => exact ⟨Nat.zero_le _, (by simpa using h)⟩
        | ⟨1, _⟩ => exact ⟨Nat.zero_le _, (by have := (y 1).isLt; simpa using this)⟩
      exact ⟨_, List.mem_cons_of_mem _ List.mem_cons_self, hm⟩
    · have hm : y ∈ (Rect.unit (s := S2560x128) ![512, 0] S2048x128.size inb_S2560x128_S2048x128_512_0).set := by
        refine Rect.mem_set_unit.2 fun a => ?_
        match a with
        | ⟨0, _⟩ => exact ⟨(by show 512 ≤ (y 0).val; omega), (by show (y 0).val < 512 + 2048; have := (y 0).isLt; exact this)⟩
        | ⟨1, _⟩ => exact ⟨Nat.zero_le _, (by have := (y 1).isLt; simpa using this)⟩
      exact ⟨_, List.mem_cons_self, hm⟩

/-- The same of the values' buffer. -/
theorem read_padded' (v : View sig .tc .vmem S2560x128 .bf16) (f : v.ty.Contents (Elt F)) (x : Vec F S2048x128 .bf16) :
    v.read (Elt F) (v.writes (Elt F) f [⟨Rect.unit (s := S2560x128) ![512, 0] S2048x128.size inb_S2560x128_S2048x128_512_0, k0_pay14 x⟩,
      ⟨Rect.unit (s := S2560x128) ![0, 0] S512x128.size inb_S2560x128_S512x128_0_0, k0_pay12 (F := F)⟩]) = padded x := read_padded v f x

set_option maxHeartbeats 2000000 in
/-- The body: what it finds and what it leaves. -/
theorem body_run (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128x640 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128x640 .f32) (harg9 : arg9.IsWhole) (arg10 : Memref sig .tc .vmem S2560x128 .bf16) (harg10 : arg10.IsWhole) (arg11 : Memref sig .tc .vmem S2560x128 .bf16) (harg11 : arg11.IsWhole) (arg12 : Memref sig .tc .vmem S2560x128 .f32) (harg12 : arg12.IsWhole) (arg13 : Memref sig .tc .vmem S2560x128 .f32) (harg13 : arg13.IsWhole)
    (x0 x1 x2 x3 : Vec F S2048x128 .bf16) (x4 : Vec F S1x128x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outQ x0 x1 x2 x3 x4) ∗ owns (c : Thread nD τ) arg7 fullShare (outK x0 x1 x2 x3 x4) ∗ owns (c : Thread nD τ) arg8 fullShare (outV x0 x1 x3 x4) ∗ owns (c : Thread nD τ) arg9 fullShare (outT x0 x1 x2 x3 x4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  sl_exec
  sl_step
  unfold body_run.sl.HS0_2 body_run.sl.HS1_2 at hL6 hL8 hL10
  unfold body_run.sl.HS0_2 at hL12
  unfold body_run.sl.H8_1 at hL8
  unfold body_run.sl.HS2_1 at hL10
  unfold body_run.sl.HS3_1 at hL12
  rw [View.readAt_full, View.readAt_full, read_padded, read_padded'] at hL6
  rw [View.readAt_full, View.readAt_full, read_padded, read_padded', View.read_writes_full] at hL8
  rw [View.readAt_full, View.readAt_full, read_padded, read_padded', View.read_writes_full] at hL10
  rw [View.readAt_full, read_padded, View.read_writes_full] at hL12
  iapply Hk
  isplitl [H0]; · iexists _; isplitr; swap; · iexact H0
                  ipureintro; first | exact hf0 | rfl
  isplitl [H1]; · iexists _; isplitr; swap; · iexact H1
                  ipureintro; first | exact hf1 | rfl
  isplitl [H2]; · iexists _; isplitr; swap; · iexact H2
                  ipureintro; first | exact hf2 | rfl
  isplitl [H3]; · iexists _; isplitr; swap; · iexact H3
                  ipureintro; first | exact hf3 | rfl
  isplitl [H4]; · iexists _; isplitr; swap; · iexact H4
                  ipureintro; first | exact hf4 | rfl
  subst hf0 hf1 hf2 hf3 hf4
  isplitl [H5]
  · iexists _; isplitr; swap; · iexact H5
    ipureintro
    exact hL6.trans (stQ_eq _ _ _ _ _ _ _)
  isplitl [H6]
  · iexists _; isplitr; swap; · iexact H6
    ipureintro
    rw [View.read_writes_full]
    exact congrArg (fun z => k0_pay6 (View.ld (Val := Elt F) z rectTail)) hL10
  isplitl [H7]
  · iexists _; isplitr; swap; · iexact H7
    ipureintro
    rw [View.read_writes_full]
    exact congrArg (fun z => k0_pay7 (View.ld (Val := Elt F) z rectTail)) hL12
  isplitl [H8]
  · iexists _; isplitr; swap; · iexact H8
    ipureintro
    exact hL8
  isplitl [HS0]; · iexists _, _; isplitr; swap; · iexact HS0
                   ipureintro; rfl
  isplitl [HS1]; · iexists _, _; isplitr; swap; · iexact HS1
                   ipureintro; rfl
  isplitl [HS2]; · iexists _, _; isplitr; swap; · iexact HS2
                   ipureintro; rfl
  iexists _, _; isplitr; swap; · iexact HS3
  ipureintro; rfl

end Cert.AttnBwdIdeal.Hand
end
-- ==== Proof.AttnFrame.lean ====
/-
  The frame of the attention backward kernel: the four results of a head from its body's run (`body_run`), the pipeline's
  data, and the run of the whole program.
-/
module

public import proofs.«01_k».proof.Proof.AttnRun
public import Idealize.ShloMosaic.Lib.Claim

@[expose] public section
set_option maxRecDepth 16384
noncomputable section

namespace Cert.AttnBwdIdeal.Hand

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The host code after the region. -/
abbrev sfx : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- The data of the one pipeline: an input's buffer stays at its block, a result's holds what the body leaves of the
    head's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (iblk m c 0 t) (iblk m c 1 t) (iblk m c 2 t) (iblk m c 3 t) (iblk m c 4 t)
    | ⟨6, _⟩ => outK (iblk m c 0 t) (iblk m c 1 t) (iblk m c 2 t) (iblk m c 3 t) (iblk m c 4 t)
    | ⟨7, _⟩ => outV (iblk m c 0 t) (iblk m c 1 t) (iblk m c 3 t) (iblk m c 4 t)
    | ⟨8, _⟩ => outT (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outQ (iblk m c 0 t) (iblk m c 1 t) (iblk m c 2 t) (iblk m c 3 t) (iblk m c 4 t) := by dsimp only [dats]
theorem after0_6 (c : Dev nD) (t : Fin cfg0.N) : (dats m 0 c).after 6 t = outK (iblk m c 0 t) (iblk m c 1 t) (iblk m c 2 t) (iblk m c 3 t) (iblk m c 4 t) := by dsimp only [dats]
theorem after0_7 (c : Dev nD) (t : Fin cfg0.N) : (dats m 0 c).after 7 t = outV (iblk m c 0 t) (iblk m c 1 t) (iblk m c 3 t) (iblk m c 4 t) := by dsimp only [dats]
theorem after0_8 (c : Dev nD) (t : Fin cfg0.N) : (dats m 0 c).after 8 t = outT (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The buffers the body is called with at a head. -/
abbrev stg0 (t : Fin cfg0.N) : Memref sig .tc .vmem S2048x128 .bf16 := win0_0.stage (cfg0.slots t 0)
abbrev stg1 (t : Fin cfg0.N) : Memref sig .tc .vmem S2048x128 .bf16 := win0_1.stage (cfg0.slots t 1)
abbrev stg2 (t : Fin cfg0.N) : Memref sig .tc .vmem S2048x128 .bf16 := win0_2.stage (cfg0.slots t 2)
abbrev stg3 (t : Fin cfg0.N) : Memref sig .tc .vmem S2048x128 .bf16 := win0_3.stage (cfg0.slots t 3)
abbrev stg4 (t : Fin cfg0.N) : Memref sig .tc .vmem S1x128x640 .f32 := win0_4.stage (cfg0.slots t 4)
abbrev stg5 (t : Fin cfg0.N) : Memref sig .tc .vmem S2048x128 .bf16 := win0_5.stage (cfg0.slots t 5)
abbrev stg6 (t : Fin cfg0.N) : Memref sig .tc .vmem S2048x128 .bf16 := win0_6.stage (cfg0.slots t 6)
abbrev stg7 (t : Fin cfg0.N) : Memref sig .tc .vmem S2048x128 .bf16 := win0_7.stage (cfg0.slots t 7)
abbrev stg8 (t : Fin cfg0.N) : Memref sig .tc .vmem S1x128x640 .f32 := win0_8.stage (cfg0.slots t 8)
abbrev scr0 : Memref sig .tc .vmem S2560x128 .bf16 := Memref.whole cc0_scratch0
abbrev scr1 : Memref sig .tc .vmem S2560x128 .bf16 := Memref.whole cc0_scratch1
abbrev scr2 : Memref sig .tc .vmem S2560x128 .f32 := Memref.whole cc0_scratch2
abbrev scr3 : Memref sig .tc .vmem S2560x128 .f32 := Memref.whole cc0_scratch3

/-- The invariant holds the scratch buffers at any contents, and the generator's register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- What the body is called with at a head, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

set_option maxHeartbeats 1200000 in
/-- The body at a head: its run at the head's blocks, the scratch buffers at any contents before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row is the body. -/
theorem defs₀_row (t : Fin cfg0.N) :
    defs₀ (F := F) .tc cfg0.body (cfg0.bodyArgs t (cfg0.slots t)) = bodyAt0 t := by
  unfold defs₀; rw [Defs.onTc_tc]

/-- The obligation of the pipeline, at every head. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the whole program, with every semaphore at zero at the end. -/
theorem run_main_quiescent : θ_run defs (onTc (τ := τ) (main (F := F))) (s₀ m ρ) (fun r => (Pipeline.FramePost cfgs (dats m) 0 (Pipeline.afterTail₀ cfgs (dats m) 0 (V0 m) sfx)) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The run of the whole program. -/
theorem run_main : θ_run defs (onTc (τ := τ) (main (F := F))) (s₀ m ρ) (Pipeline.FramePost cfgs (dats m) 0 (Pipeline.afterTail₀ cfgs (dats m) 0 (V0 m) sfx)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttnBwdIdeal.Hand
end
-- ==== Proof.AttnBits.lean ====
/-
  The frame of the attention backward kernel as it rounds. Its program is the idealized one with the literal in place of
  the named mask, so its frame is that of the idealized program where every name stands for its literal.
-/
module

public import proofs.«01_k».proof.Proof.AttnFrame
public import proofs.«01_k».proof.Proof.Gen.AttnBwd

@[expose] public section
set_option maxRecDepth 16384
noncomputable section

namespace Cert.AttnBwd.Hand

open Idealize.ShloMosaic Idealize.ShloMosaic.TcCoe Idealize.SL.Sem

variable {F : FTy → Type} [FloatOps F]

/-- Every name stands for its literal. -/
abbrev literal : Named F := ⟨fun _ _ _ bits => Scalar.ofBits _ bits⟩

/-- The kernels' bodies are the same. -/
theorem bodies_eq : @defs₀ F _ _ = @AttnBwdIdeal.defs₀ F _ literal _ := by
  refine congrArg Defs.onTc (funext fun l => funext fun a => ?_)
  obtain ⟨_ | n, h⟩ := l
  · obtain ⟨t, s⟩ := a
    rfl
  · exact absurd h (Nat.not_lt.2 (Nat.le_add_left _ _))

/-- The tables of bodies and pipelines are the same. -/
theorem defs_eq : @defs F _ _ = @AttnBwdIdeal.defs F _ literal _ :=
  congrArg (Pipeline.defs pcfgs) bodies_eq

set_option backward.isDefEq.respectTransparency false in
set_option backward.isDefEq.respectTransparency.types false in
set_option maxHeartbeats 4000000 in
/-- The programs are the same. -/
theorem main_eq : @main F _ _ = @AttnBwdIdeal.main F _ _ := rfl

variable (m : (ℓ : Loc nD τ sig) → Buf (Elt F) ℓ) (ρ : Dev nD → PrngReg)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact @AttnBwdIdeal.Hand.frame F _ literal m ρ

end Cert.AttnBwd.Hand
end
-- ==== Proof.Reals.lean ====
/- Extended reals that are real numbers: what the preconditions say, and what sums, products and
   differences of such values are. -/
module

public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.Reals

/-- The value is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals, as one real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type} (s : Finset ι) {f : ι → EReal} (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

theorem isReal_of_lt {x : EReal} (h : max x (-x) < ⊤) : IsReal x := by
  induction x with
  | bot => simp at h
  | top => simp at h
  | coe r => exact ⟨r, rfl⟩

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- Every element passes the test `|x| < ∞`: every element is a real number. -/
theorem isReal_of_test {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) (i : s.Idx) : IsReal (x i) := by
  have h : BitVec.ofBool (decide (max (x i) (-x i) < Ideal.ofBits .f32 0x7F800000#32)) = 1#1 := congrFun h i
  rw [ofBits_inf] at h
  refine isReal_of_lt ?_
  by_contra hn
  rw [decide_eq_false hn] at h
  exact absurd h (by decide)

/-- An index whose first axis has one place. -/
theorem eq_ix3_zero {a b : Nat} (y : (⟨3, ![1, a, b]⟩ : Shape).Idx) : y = ix3 0 (y 1) (y 2) := by
  have h0 : ∀ z : Fin 1, z = 0 := fun z => Subsingleton.elim z 0
  exact (eq_ix3 y).trans (congrArg (fun z : Fin 1 => ix3 z (y 1) (y 2)) (h0 (y 0)))

theorem eq_ix2_zero {a : Nat} (y : (⟨2, ![1, a]⟩ : Shape).Idx) : y = ix2 0 (y 1) := by
  have h0 : ∀ z : Fin 1, z = 0 := fun z => Subsingleton.elim z 0
  exact (eq_ix2 y).trans (congrArg (fun z : Fin 1 => ix2 z (y 1)) (h0 (y 0)))

theorem eq_ix2_one (y : (⟨2, ![1, 1]⟩ : Shape).Idx) : y = ix2 0 0 := by
  have h0 : ∀ z : Fin 1, z = 0 := fun z => Subsingleton.elim z 0
  exact (eq_ix2_zero y).trans (congrArg (fun z : Fin 1 => ix2 0 z) (h0 (y 1)))

/-- A family of reals is the coercion of a real family. -/
theorem lift {ι : Type} {f : ι → EReal} (h : ∀ i, IsReal (f i)) : ∃ g : ι → ℝ, f = fun i => (g i : EReal) :=
  ⟨fun i => (h i).choose, funext fun i => (h i).choose_spec⟩

end Cert.Reals
-- ==== Proof.AttnMath.lean ====
/-
  The mathematics of one attention head: the band a query sees, the row of probabilities, and the gradients of the
  queries, keys, values and relative biases, over real numbers. Rows of keys and values are counted with the 512 rows of
  padding in front.
-/
module

public import proofs.«01_k».proof.Proof.Reals

@[expose] public section
set_option maxRecDepth 16384
noncomputable section

namespace Cert.Attn

open Idealize.ShloMosaic Cert.Reals

/-- Query `s` sees padded row `p`: the row is none of the padding and lies in the query's chunk or the eight before. -/
def Sees (s p : ℕ) : Prop := 512 ≤ p ∧ s / 64 ≤ p / 64 ∧ p / 64 ≤ s / 64 + 8

instance (s p : ℕ) : Decidable (Sees s p) := inferInstanceAs (Decidable (_ ∧ _ ∧ _))

/-- The place of the pair's distance in the table of relative biases. -/
def rel (s p : ℕ) : ℕ := min (s + 768 - p) 512

/-- The scale `1/√128`, as rounded. -/
def scale : ℝ := 11863283 * (2 ^ 27 : ℝ)⁻¹

theorem ofBits_scale : Ideal.ofBits .f32 0x3DB504F3#32 = (scale : EReal) := by
  unfold scale
  rw [EReal.coe_mul]
  simp [Ideal.ofBits, Ideal.ieee]

/-- A matrix of 2048 rows, its rows counted by natural numbers. -/
def rows (x : Fin 2048 → Fin 128 → ℝ) : ℕ → Fin 128 → ℝ := fun s l => if h : s < 2048 then x ⟨s, h⟩ l else 0
/-- The same behind 512 rows of zeros. -/
def padRows (x : Fin 2048 → Fin 128 → ℝ) : ℕ → Fin 128 → ℝ := fun p l => if h : 512 ≤ p ∧ p < 2560 then x ⟨p - 512, by omega⟩ l else 0
/-- A head's relative biases, counted by natural numbers. -/
def biases (b : Fin 513 → ℝ) : ℕ → ℝ := fun i => if h : i < 513 then b ⟨i, h⟩ else 0

theorem rows_apply (x : Fin 2048 → Fin 128 → ℝ) (s : Fin 2048) (l : Fin 128) : rows x s l = x s l := dif_pos s.isLt

section Head
variable (Q K V D : ℕ → Fin 128 → ℝ) (B : ℕ → ℝ)

/-- The score of a query and a key. -/
def score (s p : ℕ) : ℝ := (∑ d, Q s d * K p d) * scale + B (rel s p)
/-- The row's normaliser. -/
def total (s : ℕ) : ℝ := ∑ p ∈ Finset.range 2560, if Sees s p then Real.exp (score Q K B s p) else 0
/-- The probability of a key. -/
def pr (s p : ℕ) : ℝ := if Sees s p then Real.exp (score Q K B s p) / total Q K B s else 0
/-- The gradient of a probability. -/
def dpr (s p : ℕ) : ℝ := ∑ d, D s d * V p d
/-- The mean of the row's gradient under its probabilities. -/
def mean (s : ℕ) : ℝ := ∑ p ∈ Finset.range 2560, pr Q K B s p * dpr V D s p
/-- The gradient of a score. -/
def ds (s p : ℕ) : ℝ := pr Q K B s p * (dpr V D s p - mean Q K V D B s)
/-- The gradient of a query. -/
def gradQ (s : ℕ) (d : Fin 128) : ℝ := (∑ p ∈ Finset.range 2560, ds Q K V D B s p * K p d) * scale
/-- The gradient of a key. -/
def gradK (p : ℕ) (d : Fin 128) : ℝ := (∑ s ∈ Finset.range 2048, ds Q K V D B s p * Q s d) * scale
/-- The gradient of a value. -/
def gradV (p : ℕ) (d : Fin 128) : ℝ := ∑ s ∈ Finset.range 2048, pr Q K B s p * D s d
/-- The gradient of a relative bias. -/
def gradB (b : ℕ) : ℝ := ∑ s ∈ Finset.range 2048, ∑ p ∈ Finset.range 2560, if rel s p = b then ds Q K V D B s p else 0

theorem pr_of_not {s p : ℕ} (h : ¬ Sees s p) : pr Q K B s p = 0 := if_neg h
theorem ds_of_not {s p : ℕ} (h : ¬ Sees s p) : ds Q K V D B s p = 0 := by
  unfold ds; rw [pr_of_not _ _ _ h, zero_mul]

end Head

/-- A sum over a window of the padded rows, of a function that is zero outside the window, is the sum over all rows. -/
theorem sum_window (f : ℕ → ℝ) (o w : ℕ) (h : o + w ≤ 2560) (hz : ∀ p, p < o ∨ o + w ≤ p → f p = 0) :
    ∑ c : Fin w, f (o + c.val) = ∑ p ∈ Finset.range 2560, f p := by
  rw [Fin.sum_univ_eq_sum_range (fun c => f (o + c)) w, show w = o + w - o by omega, ← Finset.sum_Ico_eq_sum_range f o (o + w)]
  refine Finset.sum_subset (fun p hp => ?_) (fun p _ hp => hz p ?_)
  · rw [Finset.mem_Ico] at hp; exact Finset.mem_range.2 (by omega)
  · rw [Finset.mem_Ico] at hp; omega

/-- A query always sees the key at its own place. -/
theorem sees_self (s : ℕ) : Sees s (s + 512) := ⟨by omega, by omega, by omega⟩

/-- The greatest of a row of scores, some masked to −∞ and one at least not, is a real number. -/
theorem fold_max_real {n : ℕ} (x : Fin n → EReal) (a : Fin n → Prop) [DecidablePred a] (r : Fin n → ℝ)
    (hx : ∀ j, x j = if a j then (r j : EReal) else ⊥) (j0 : Fin n) (h0 : a j0) :
    ∃ M : ℝ, Finset.fold max (⊥ : EReal) x Finset.univ = (M : EReal) := by
  have hs : Finset.fold max (⊥ : EReal) x Finset.univ = Finset.univ.sup x := rfl
  rw [hs]
  have hne : Finset.univ.sup x ≠ ⊥ := by
    intro h
    have : x j0 ≤ ⊥ := h ▸ Finset.le_sup (Finset.mem_univ j0)
    rw [hx, if_pos h0] at this
    exact absurd this (by simp)
  have hnt : Finset.univ.sup x ≠ ⊤ := by
    refine ne_of_lt ((Finset.sup_lt_iff bot_lt_top).2 fun j _ => ?_)
    rw [hx]
    split
    · exact EReal.coe_lt_top _
    · exact bot_lt_top
  exact ⟨_, (EReal.coe_toReal hnt hne).symm⟩

/-- The exponential of a score less the greatest: real, zero where masked. -/
theorem exp_shift (a : Prop) [Decidable a] (r M : ℝ) :
    Ideal.exp ((if a then (r : EReal) else ⊥) - (M : EReal)) = ((if a then Real.exp (r - M) else 0 : ℝ) : EReal) := by
  by_cases h : a
  · rw [if_pos h, if_pos h, ← EReal.coe_sub, Ideal.exp_coe]
  · rw [if_neg h, if_neg h]; simp

/-- A quotient of reals. -/
theorem div_real (x y : ℝ) (h : y ≠ 0) : Ideal.div (x : EReal) (y : EReal) = ((x / y : ℝ) : EReal) := by
  rw [Ideal.div_coe h, ← EReal.coe_mul, mul_one_div]

section Row
variable {n : ℕ} (a : Fin n → Prop) [DecidablePred a] (r : Fin n → ℝ) (M : ℝ)

theorem shifted_sum : (∑ j, if a j then Real.exp (r j - M) else 0) = (∑ j, if a j then Real.exp (r j) else 0) * Real.exp (-M) := by
  rw [Finset.sum_mul]
  refine Finset.sum_congr rfl fun j _ => ?_
  split
  · rw [← Real.exp_add]; rfl
  · rw [zero_mul]

theorem sum_pos (j0 : Fin n) (h0 : a j0) : 0 < ∑ j, if a j then Real.exp (r j) else 0 :=
  Finset.sum_pos' (fun j _ => by split <;> positivity) ⟨j0, Finset.mem_univ _, by rw [if_pos h0]; positivity⟩

theorem shifted_pos (j0 : Fin n) (h0 : a j0) : 0 < ∑ j, if a j then Real.exp (r j - M) else 0 := by
  rw [shifted_sum]; exact mul_pos (sum_pos a r j0 h0) (Real.exp_pos _)

/-- The shift cancels in the quotient. -/
theorem shifted_div (j0 : Fin n) (h0 : a j0) (j : Fin n) :
    (if a j then Real.exp (r j - M) else 0) / (∑ j, if a j then Real.exp (r j - M) else 0)
      = if a j then Real.exp (r j) / ∑ j, (if a j then Real.exp (r j) else 0) else 0 := by
  have hp := sum_pos a r j0 h0
  rw [shifted_sum]
  by_cases h : a j
  · rw [if_pos h, if_pos h, sub_eq_add_neg, Real.exp_add, mul_div_mul_right _ _ (Real.exp_pos _).ne']
  · rw [if_neg h, if_neg h, zero_div]

end Row

/-- The softmax of a row, some scores masked to −∞ and one at least not: real, and the shift by the greatest cancels. -/
theorem softmax_row {n : ℕ} (x : Fin n → EReal) (a : Fin n → Prop) [DecidablePred a] (r : Fin n → ℝ)
    (hx : ∀ j, x j = if a j then (r j : EReal) else ⊥) (j0 : Fin n) (h0 : a j0) (j : Fin n) :
    Ideal.div (Ideal.exp (x j - Finset.fold max (⊥ : EReal) x Finset.univ))
        (∑ k, Ideal.exp (x k - Finset.fold max (⊥ : EReal) x Finset.univ))
      = ((if a j then Real.exp (r j) / ∑ j, (if a j then Real.exp (r j) else 0) else 0 : ℝ) : EReal) := by
  obtain ⟨M, hM⟩ := fold_max_real x a r hx j0 h0
  have he : ∀ k, Ideal.exp (x k - (M : EReal)) = ((if a k then Real.exp (r k - M) else 0 : ℝ) : EReal) := fun k => by
    rw [hx, exp_shift]
  rw [hM, he, Finset.sum_congr rfl fun k _ => he k, coe_sum, div_real _ _ (shifted_pos a r M j0 h0).ne', shifted_div a r M j0 h0]

end Cert.Attn
end
-- ==== Proof.AttnSpec.lean ====
/-
  The banded attention's gradients over all eight heads, as arrays of real numbers.
-/
module

public import proofs.«01_k».proof.Proof.AttnMath

@[expose] public section
noncomputable section

namespace Cert.Attn

open Idealize.ShloMosaic Cert.Reals

/-- A sum over blocks of a sum inside the block is the sum over all. -/
theorem sum_blocks (f : ℕ → ℝ) (n w : ℕ) : ∑ i ∈ Finset.range n, ∑ r ∈ Finset.range w, f (w * i + r) = ∑ s ∈ Finset.range (w * n), f s := by
  induction n with
  | zero => simp
  | succ n ih => rw [Finset.sum_range_succ, ih, Nat.mul_succ, Finset.sum_range_add]

/-- A column of the projections or of the outgoing gradient: part `g` (queries 0, keys 1, values 2), head `h`, coordinate `l`. -/
theorem col_lt {n : ℕ} (g : ℕ) (h : Fin 8) (l : Fin 128) (hg : 1024 * g + 1024 ≤ n) : 1024 * g + 128 * h.val + l.val < n := by omega

variable (A : Fin 2048 → Fin 6144 → ℝ) (D : Fin 2048 → Fin 2048 → ℝ) (B : Fin 8 → Fin 513 → ℝ)

/-- A head's queries, keys, values, outgoing gradient and relative biases. -/
def headQ (h : Fin 8) : Fin 2048 → Fin 128 → ℝ := fun s l => A s ⟨1024 * 0 + 128 * h.val + l.val, col_lt 0 h l (by norm_num)⟩
def headK (h : Fin 8) : Fin 2048 → Fin 128 → ℝ := fun s l => A s ⟨1024 * 1 + 128 * h.val + l.val, col_lt 1 h l (by norm_num)⟩
def headV (h : Fin 8) : Fin 2048 → Fin 128 → ℝ := fun s l => A s ⟨1024 * 2 + 128 * h.val + l.val, col_lt 2 h l (by norm_num)⟩
def headD (h : Fin 8) : Fin 2048 → Fin 128 → ℝ := fun s l => D s ⟨1024 * 0 + 128 * h.val + l.val, col_lt 0 h l (by norm_num)⟩

/-- A head and a coordinate inside it of a column of the results. -/
abbrev hd (j : Fin 1024) : Fin 8 := ⟨j.val / 128, by omega⟩
abbrev co (j : Fin 1024) : Fin 128 := ⟨j.val % 128, by omega⟩

/-- The gradients of the queries, keys, values and relative biases. -/
def resQ (s : Fin 2048) (j : Fin 1024) : ℝ :=
  gradQ (rows (headQ A (hd j))) (padRows (headK A (hd j))) (padRows (headV A (hd j))) (rows (headD D (hd j))) (biases (B (hd j))) s (co j)
def resK (s : Fin 2048) (j : Fin 1024) : ℝ :=
  gradK (rows (headQ A (hd j))) (padRows (headK A (hd j))) (padRows (headV A (hd j))) (rows (headD D (hd j))) (biases (B (hd j))) (s.val + 512) (co j)
def resV (s : Fin 2048) (j : Fin 1024) : ℝ :=
  gradV (rows (headQ A (hd j))) (padRows (headK A (hd j))) (rows (headD D (hd j))) (biases (B (hd j))) (s.val + 512) (co j)
def resB (h : Fin 8) (b : Fin 513) : ℝ :=
  gradB (rows (headQ A h)) (padRows (headK A h)) (padRows (headV A h)) (rows (headD D h)) (biases (B h)) b

end Cert.Attn
end
-- ==== Proof.AttnRefRows.lean ====
/-
  The attention backward reference, first part: its rows, their chunks and the relative biases.
-/
module

public import proofs.«01_k».proof.Proof.AttnSpec
public import proofs.«01_k».proof.Proof.Gen.AttnRefIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.AttnRefIdeal.Value
open Cert.AttnRefIdeal Cert.AttnRefIdeal.Gen Cert.AttnRefIdeal.Read Cert.Attn Cert.Reals

variable {x0 : FVec Ideal S2048x6144 .bf16} {x1 : FVec Ideal S2048x2048 .bf16} {x2 : FVec Ideal S8x513 .f32}
variable {A : Fin 2048 → Fin 6144 → ℝ} {D : Fin 2048 → Fin 2048 → ℝ} {B : Fin 8 → Fin 513 → ℝ}
  (hA : ∀ r k, x0 (ix2 r k) = (A r k : EReal)) (hD : ∀ r k, x1 (ix2 r k) = (D r k : EReal))
  (hB : ∀ h b, x2 (ix2 h b) = (B h b : EReal))

theorem at_congr {p q : ℕ} {X : Fin p → Fin q → ℝ} {r r' : Fin p} {k k' : Fin q} (hr : r.val = r'.val) (hk : k.val = k'.val) :
    ((X r k : ℝ) : EReal) = ((X r' k' : ℝ) : EReal) := by rw [Fin.ext hr, Fin.ext hk]

include hA in
theorem v12 (n : Fin 32) (r : Fin 64) (h : Fin 8) (d : Fin 128) :
    val_main_v12 (F := Ideal) x0 (ix5 0 n r h d) = ((rows (headQ A h) (64 * n.val + r.val) d : ℝ) : EReal) := by
  pointwise [val_main_v12, val_main_v9, val_main_v2, val_main_v1, val_main_v0]
  rw [hA]
  unfold rows headQ
  rw [dif_pos (by omega)]
  exact at_congr (by dsimp only; omega) (by dsimp only; omega)

include hD in
theorem v107 (n : Fin 32) (r : Fin 64) (h : Fin 8) (d : Fin 128) :
    val_main_v107 (F := Ideal) x1 (ix5 0 n h d r) = ((rows (headD D h) (64 * n.val + r.val) d : ℝ) : EReal) := by
  pointwise [val_main_v107, val_main_v106, val_main_v8, val_main_v7, val_main_v6]
  rw [hD]
  unfold rows headD
  rw [dif_pos (by omega)]
  exact at_congr (by dsimp only; omega) (by dsimp only; omega)

include hA in
theorem v16 (n : Fin 40) (r : Fin 64) (h : Fin 8) (d : Fin 128) :
    val_main_v16 (F := Ideal) x0 (ix5 0 n r h d) = ((padRows (headK A h) (64 * n.val + r.val) d : ℝ) : EReal) := by
  pointwise [val_main_v16, val_main_v14, val_main_v13, val_main_cst, val_main_v10, val_main_v3, val_main_v1, val_main_v0]
  unfold padRows headK
  by_cases hp : n.val * 64 + r.val < 512
  · rw [dif_pos hp, dif_neg (by omega)]
    exact EReal.coe_zero.symm
  · rw [dif_neg hp, hA, dif_pos (by omega)]
    exact at_congr (by dsimp only; omega) (by dsimp only; omega)

include hA in
theorem v19 (n : Fin 40) (r : Fin 64) (h : Fin 8) (d : Fin 128) :
    val_main_v19 (F := Ideal) x0 (ix5 0 n r h d) = ((padRows (headV A h) (64 * n.val + r.val) d : ℝ) : EReal) := by
  pointwise [val_main_v19, val_main_v17, val_main_v13, val_main_cst, val_main_v11, val_main_v4, val_main_v1, val_main_v0]
  unfold padRows headV
  by_cases hp : n.val * 64 + r.val < 512
  · rw [dif_pos hp, dif_neg (by omega)]
    exact EReal.coe_zero.symm
  · rw [dif_neg hp, hA, dif_pos (by omega)]
    exact at_congr (by dsimp only; omega) (by dsimp only; omega)

theorem w31 (n : Fin 32) (j : Fin 9) : val_main_v31 (F := Ideal) (ix2 n j) = BitVec.ofNat 32 (n.val + j.val) := by
  pointwise [val_main_v31, val_main_v28, val_main_v30, val_main_v26, val_main_v27, val_main_v29, val_main_v24, val_main_v25, val_main_v21, val_main_v23, val_main_v20, val_main_v22, val_main_c, val_main_c_2]
  revert n j
  decide +kernel

theorem w32 (n : Fin 32) (j : Fin 9) : val_main_v32 (F := Ideal) (ix3 n j 0) = BitVec.ofNat 32 (n.val + j.val) := by
  refine Eq.trans ?_ (w31 n j)
  pointwise [val_main_v32]

theorem w40 (n : Fin 32) (j : Fin 9) : val_main_v40 (F := Ideal) (ix3 n j 0) = BitVec.ofNat 32 (n.val + j.val) := w32 n j

/-- A chunk's number as a word, read as the gather reads it. -/
theorem chunk_word : ∀ (n : Fin 32) (j : Fin 9), min (BitVec.ofNat 32 (n.val + j.val)).toInt.toNat 39 = n.val + j.val := by decide +kernel

/-- The gather of chunks: band member `j` of chunk `n` is padded chunk `n + j`. -/
theorem gather_chunk (x : FVec Ideal S1x40x64x8x128 .f32) (i : IVec S32x9x1 32) (n : Fin 32) (j : Fin 9) (r : Fin 64) (h : Fin 8) (d : Fin 128)
    (hi : i (ix3 n j 0) = BitVec.ofNat 32 (n.val + j.val)) :
    Host.gather gather_S1x40x64x8x128_S32x9x1_S1x32x9x64x8x128_0345_1_n_n_1_2_11648128 x i (ix6 0 n j r h d) = x (ix5 0 ⟨n.val + j.val, by omega⟩ r h d) := by
  show x _ = x _
  congr 1
  funext a
  match a with
  | ⟨0, _⟩ => exact Fin.ext (Nat.zero_add _)
  | ⟨1, _⟩ =>
    apply Fin.ext
    refine (Nat.add_zero _).trans ?_
    refine Eq.trans ?_ (chunk_word n j)
    rw [← hi]
    show min (i _).toInt.toNat 39 = min (i _).toInt.toNat 39
    congr 4
    funext b
    match b with
    | ⟨0, _⟩ => rfl
    | ⟨1, _⟩ => rfl
    | ⟨2, _⟩ => rfl
  | ⟨2, _⟩ => exact Fin.ext (Nat.zero_add _)
  | ⟨3, _⟩ => exact Fin.ext (Nat.zero_add _)
  | ⟨4, _⟩ => exact Fin.ext (Nat.zero_add _)

include hA in
/-- A chunk's band of keys: row `k` of chunk `n`'s band is padded row `64 n + k`. -/
theorem v34 (n : Fin 32) (k : Fin 576) (h : Fin 8) (d : Fin 128) :
    val_main_v34 (F := Ideal) x0 (ix5 0 n k h d) = ((padRows (headK A h) (64 * n.val + k.val) d : ℝ) : EReal) := by
  pointwise [val_main_v34, val_main_v33]
  rw [gather_chunk _ _ n ⟨k.val / 64, by omega⟩ _ _ _ (w32 n _), v16 hA]
  congr 2
  dsimp only
  omega

include hA in
/-- The band of values. -/
theorem v42 (n : Fin 32) (k : Fin 576) (h : Fin 8) (d : Fin 128) :
    val_main_v42 (F := Ideal) x0 (ix5 0 n k h d) = ((padRows (headV A h) (64 * n.val + k.val) d : ℝ) : EReal) := by
  pointwise [val_main_v42, val_main_v41]
  rw [gather_chunk _ _ n ⟨k.val / 64, by omega⟩ _ _ _ (w40 n _), v19 hA]
  congr 2
  dsimp only
  omega

theorem w62 (r : Fin 64) (k : Fin 576) : val_main_v62 (F := Ideal) (ix2 r k) = BitVec.ofNat 32 (rel r.val k.val) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46,
    val_main_call0_v4, val_main_call0_v3, val_main_call0_v2, val_main_call0_v1, val_main_call0_v0, val_main_c_6, val_main_c_7, val_main_c_8, val_main_c_9, val_main_c_10, val_main_c_11]
  revert r k
  decide +kernel

theorem w63 (r : Fin 64) (k : Fin 576) : val_main_v63 (F := Ideal) (ix3 r k 0) = BitVec.ofNat 32 (rel r.val k.val) := by
  refine Eq.trans ?_ (w62 r k)
  pointwise [val_main_v63]

theorem rel_lt (s p : ℕ) : rel s p < 513 := by unfold rel; omega

theorem bias_word : ∀ n : Fin 513, min (BitVec.ofNat 32 n.val).toInt.toNat 512 = n.val := by decide +kernel

/-- The gather of biases: the one the index names. -/
theorem gather_bias (x : FVec Ideal S8x513 .f32) (i : IVec S64x576x1 32) (h : Fin 8) (r : Fin 64) (k : Fin 576) (n : Fin 513)
    (hn : i (ix3 r k 0) = BitVec.ofNat 32 n) : Host.gather gather_S8x513_S64x576x1_S8x64x576_0_1_n_n_1_2_81 x i (ix3 h r k) = x (ix2 h n) := by
  show x _ = x _
  congr 1
  funext a
  match a with
  | ⟨0, _⟩ => exact Fin.ext (Nat.zero_add _)
  | ⟨1, _⟩ =>
    apply Fin.ext
    refine (Nat.add_zero _).trans ?_
    refine Eq.trans ?_ (bias_word n)
    rw [← hn]
    show min (i _).toInt.toNat 512 = min (i _).toInt.toNat 512
    congr 4
    funext b
    match b with
    | ⟨0, _⟩ => rfl
    | ⟨1, _⟩ => rfl
    | ⟨2, _⟩ => rfl

include hB in
/-- The relative bias of query row `r` and band row `k`. -/
theorem v64 (h : Fin 8) (r : Fin 64) (k : Fin 576) :
    val_main_v64 (F := Ideal) x2 (ix3 h r k) = ((biases (B h) (rel r.val k.val) : ℝ) : EReal) := by
  unfold biases
  rw [dif_pos (rel_lt _ _), ← hB]
  unfold val_main_v64
  exact gather_bias _ _ h r k ⟨rel r.val k.val, rel_lt _ _⟩ (w63 r k)

/-- A band row is masked when it is padding. -/
theorem w73 (n : Fin 32) (k : Fin 576) : val_main_v73 (F := Ideal) (ix5 0 0 n 0 k) = if 8 ≤ n.val + k.val / 64 then 1#1 else 0#1 := by
  pointwise [val_main_v73, val_main_v72, val_main_v71, val_main_v70, val_main_v69, val_main_v26, val_main_v24, val_main_v25, val_main_v21, val_main_v23, val_main_v20, val_main_v22, val_main_c_12]
  have e : ∀ (n : Fin 32) (j : Fin 9), IntOp.cmpi CmpIPredicate.sge (IntOp.addi (BitVec.ofNat 32 n.val) (BitVec.ofNat 32 j.val)) 8#32
    = if 8 ≤ n.val + j.val then 1#1 else 0#1 := by decide +kernel
  exact e n ⟨k.val / 64, by omega⟩

/-- Chunk `n`'s query row `r` sees its band's row `k` exactly when that row is no padding. -/
theorem sees_iff (n : Fin 32) (r : Fin 64) (k : Fin 576) : Sees (64 * n.val + r.val) (64 * n.val + k.val) ↔ 8 ≤ n.val + k.val / 64 := by
  unfold Sees
  omega

theorem rel_shift (n r k : ℕ) : rel (64 * n + r) (64 * n + k) = rel r k := by unfold rel; omega

end Cert.AttnRefIdeal.Value
end
-- ==== Proof.AttnRefSoft.lean ====
/-
  The attention backward reference, second part: the softmax of a band and the gradient of its scores.
-/
module

public import proofs.«01_k».proof.Proof.AttnRefRows

@[expose] public section

set_option maxRecDepth 16384
noncomputable section
open Idealize.ShloMosaic Idealize.ShloMosaic.TcCoe Idealize.SL.Sem

namespace Cert.AttnRefIdeal.Value
open Cert.AttnRefIdeal Cert.AttnRefIdeal.Gen Cert.AttnRefIdeal.Read Cert.Attn Cert.Reals

/-- The gradient of a softmax, as the derivative of a quotient and as the probabilities' own formula. -/
theorem quotient_grad {n : ℕ} (e g : Fin n → ℝ) (Z : ℝ) (hZ : Z ≠ 0) (k : Fin n) :
    (g k / Z + -(∑ j, g j * (1 / (Z * Z)) * e j)) * e k = e k / Z * (g k - ∑ j, e j / Z * g j) := by
  have h : ∑ j, g j * (1 / (Z * Z)) * e j = (∑ j, e j / Z * g j) / Z := by
    rw [Finset.sum_div]
    refine Finset.sum_congr rfl fun j _ => ?_
    field_simp
  rw [h]
  field_simp
  ring

variable {x0 : FVec Ideal S2048x6144 .bf16} {x1 : FVec Ideal S2048x2048 .bf16} {x2 : FVec Ideal S8x513 .f32}
variable {A : Fin 2048 → Fin 6144 → ℝ} {D : Fin 2048 → Fin 2048 → ℝ} {B : Fin 8 → Fin 513 → ℝ}
  (hA : ∀ r k, x0 (ix2 r k) = (A r k : EReal)) (hD : ∀ r k, x1 (ix2 r k) = (D r k : EReal))
  (hB : ∀ h b, x2 (ix2 h b) = (B h b : EReal))

/-- The greatest element of a band. -/
theorem max_band (x : FVec Ideal S1x8x32x64x576 .f32) (z : FVec Ideal S_ .f32) (hz : ∀ i, z i = (⊥ : EReal)) (h : Fin 8) (n : Fin 32) (r : Fin 64) :
    Host.reduce FloatOps.maximumf x z reducesTo_S1x8x32x64x576_S1x8x32x64_d4 h_S_ (ix4 0 h n r) = Finset.fold max (⊥ : EReal) (fun k => x (ix5 0 h n r k)) Finset.univ := by
  pointwise []
  rw [hz]

theorem ofBits_bot : Ideal.ofBits .f32 0xFF800000#32 = ⊥ := by simp [Ideal.ofBits, Ideal.ieee]

/-- The sum over two axes of size one. -/
theorem sum_ones (x : FVec Ideal S1x8x32x64x1 .f32) (h : Fin 8) (n : Fin 32) (r : Fin 64) :
    Ideal.hostReduceAdd reducesTo_S1x8x32x64x1_S8x32x64_d0_4 x 0 (ix3 h n r) = x (ix5 0 h n r 0) := by
  show (0 : EReal) + _ = _
  rw [zero_add]
  refine (Finset.sum_filter_eq_sum_of_fiber (κ := Unit) _ (fun _ => ix5 0 h n r 0) (fun _ _ _ => rfl) (fun i => ?_) x).trans (Fintype.sum_unique _)
  constructor
  · intro e
    refine ⟨(), ?_⟩
    have e0 : i 1 = h := Fin.ext ((Shape.ReducesTo.drop_apply_val_of_eq reducesTo_S1x8x32x64x1_S8x32x64_d0_4 i 0 1).symm.trans (congrArg (fun j : S8x32x64.Idx => (j 0).val) e))
    have e1 : i 2 = n := Fin.ext ((Shape.ReducesTo.drop_apply_val_of_eq reducesTo_S1x8x32x64x1_S8x32x64_d0_4 i 1 2).symm.trans (congrArg (fun j : S8x32x64.Idx => (j 1).val) e))
    have e2 : i 3 = r := Fin.ext ((Shape.ReducesTo.drop_apply_val_of_eq reducesTo_S1x8x32x64x1_S8x32x64_d0_4 i 2 3).symm.trans (congrArg (fun j : S8x32x64.Idx => (j 2).val) e))
    rw [eq_ix5 i, e0, e1, e2, show i 0 = (0 : Fin 1) from Subsingleton.elim (α := Fin 1) _ _, show i 4 = (0 : Fin 1) from Subsingleton.elim (α := Fin 1) _ _]
  · rintro ⟨_, rfl⟩
    funext b
    match b with
    | ⟨0, _⟩ => exact Fin.ext (Shape.ReducesTo.drop_apply_val_of_eq reducesTo_S1x8x32x64x1_S8x32x64_d0_4 _ 0 1)
    | ⟨1, _⟩ => exact Fin.ext (Shape.ReducesTo.drop_apply_val_of_eq reducesTo_S1x8x32x64x1_S8x32x64_d0_4 _ 1 2)
    | ⟨2, _⟩ => exact Fin.ext (Shape.ReducesTo.drop_apply_val_of_eq reducesTo_S1x8x32x64x1_S8x32x64_d0_4 _ 2 3)

include hA hB in
/-- A score. -/
theorem v68 (h : Fin 8) (n : Fin 32) (r : Fin 64) (k : Fin 576) : val_main_v68 (F := Ideal) x0 x2 (ix5 0 h n r k)
    = ((score (rows (headQ A h)) (padRows (headK A h)) (biases (B h)) (64 * n.val + r.val) (64 * n.val + k.val) : ℝ) : EReal) := by
  pointwise [val_main_v68, val_main_v67, val_main_v66, val_main_v65, val_main_v45, val_main_v44, val_main_cst_5, val_main_v43]
  unfold score
  rw [v64 hB, ofBits_scale, rel_shift, Finset.sum_congr (M := EReal) rfl fun d _ => by rw [v12 hA, v34 hA, ← EReal.coe_mul], coe_sum, ← EReal.coe_mul, ← EReal.coe_add]

include hA hB in
/-- A masked score. -/
theorem v74 (h : Fin 8) (n : Fin 32) (r : Fin 64) (k : Fin 576) : val_main_v74_0 (F := Ideal) x0 x2 (ix5 0 h n r k)
    = if Sees (64 * n.val + r.val) (64 * n.val + k.val) then (score (rows (headQ A h)) (padRows (headK A h)) (biases (B h)) (64 * n.val + r.val) (64 * n.val + k.val) : EReal) else ⊥ := by
  have e : val_main_call1_v0 (F := Ideal) ix0 = (⊥ : EReal) := ofBits_bot
  pointwise [val_main_v74_0, val_main_v74_1, val_main_call1_v2]
  rw [e, w73, v68 hA hB]
  by_cases hs : 8 ≤ n.val + k.val / 64
  · rw [if_pos hs, if_pos ((sees_iff n r k).2 hs)]
    rfl
  · rw [if_neg hs, if_neg (fun e => hs ((sees_iff n r k).1 e))]
    rfl

theorem v75 (h : Fin 8) (n : Fin 32) (r : Fin 64) : val_main_v75 (F := Ideal) x0 x2 (ix4 0 h n r)
    = Finset.fold max (⊥ : EReal) (fun k => val_main_v74_0 (F := Ideal) x0 x2 (ix5 0 h n r k)) Finset.univ := by
  unfold val_main_v75
  exact max_band _ _ (fun _ => ofBits_bot) h n r

theorem v93 (h : Fin 8) (n : Fin 32) (r : Fin 64) (k : Fin 576) : val_main_v93 (F := Ideal) x0 x2 (ix5 0 h n r k) = val_main_v82 (F := Ideal) x0 x2 (ix4 0 h n r) := by
  unfold val_main_v93 val_main_v92
  generalize val_main_v82 (F := Ideal) x0 x2 = y
  pointwise []

theorem v81 (h : Fin 8) (n : Fin 32) (r : Fin 64) : val_main_v81 (F := Ideal) (ix4 0 h n r) = (⊥ : EReal) := by
  unfold val_main_v81
  refine Eq.trans ?_ (show val_main_cst_16 (F := Ideal) ix0 = (⊥ : EReal) from ofBits_bot)
  generalize val_main_cst_16 (F := Ideal) = y
  pointwise []

theorem max_bot (y : EReal) : FloatOps.maximumf (F := Ideal) (φ := .f32) (⊥ : EReal) y = y := by
  rw [Ideal.maximumf_eq_max]
  exact max_eq_right bot_le

theorem v82 (h : Fin 8) (n : Fin 32) (r : Fin 64) : val_main_v82 (F := Ideal) x0 x2 (ix4 0 h n r) = val_main_v75 (F := Ideal) x0 x2 (ix4 0 h n r) := by
  rw [val_main_v82_apply, v81]
  exact max_bot _

theorem v95_sub (i : S1x8x32x64x576.Idx) : val_main_v95 (F := Ideal) x0 x2 i = Ideal.exp ((val_main_v74_0 (F := Ideal) x0 x2 i : EReal) - (val_main_v93 (F := Ideal) x0 x2 i : EReal)) := by
  rw [val_main_v95_apply, val_main_v94_apply]
  generalize val_main_v74_0 (F := Ideal) x0 x2 i = y
  generalize val_main_v93 (F := Ideal) x0 x2 i = w
  rfl

theorem v95 (h : Fin 8) (n : Fin 32) (r : Fin 64) (k : Fin 576) : val_main_v95 (F := Ideal) x0 x2 (ix5 0 h n r k)
    = Ideal.exp (val_main_v74_0 (F := Ideal) x0 x2 (ix5 0 h n r k) - Finset.fold max (⊥ : EReal) (fun k => val_main_v74_0 (F := Ideal) x0 x2 (ix5 0 h n r k)) Finset.univ) := by
  rw [v95_sub, v93, v82, v75]

theorem v96 (h : Fin 8) (n : Fin 32) (r : Fin 64) : val_main_v96 (F := Ideal) x0 x2 (ix4 0 h n r)
    = ∑ k : Fin 576, (val_main_v95 (F := Ideal) x0 x2 (ix5 0 h n r k) : EReal) := by
  pointwise [val_main_v96, val_main_cst_22]

theorem v99 (h : Fin 8) (n : Fin 32) (r : Fin 64) (k : Fin 576) : val_main_v99 (F := Ideal) x0 x2 (ix5 0 h n r k)
    = Ideal.div (val_main_v95 (F := Ideal) x0 x2 (ix5 0 h n r k)) (val_main_v96 (F := Ideal) x0 x2 (ix4 0 h n r)) := by
  pointwise [val_main_v99, val_main_v98, val_main_v97]

include hA hD in
theorem v109 (h : Fin 8) (n : Fin 32) (r : Fin 64) (k : Fin 576) : val_main_v109 (F := Ideal) x0 x1 (ix5 0 h n r k)
    = ((dpr (padRows (headV A h)) (rows (headD D h)) (64 * n.val + r.val) (64 * n.val + k.val) : ℝ) : EReal) := by
  pointwise [val_main_v109, val_main_v108]
  unfold dpr
  rw [Finset.sum_congr (M := EReal) rfl fun d _ => by rw [v107 hD, v42 hA, ← EReal.coe_mul], coe_sum]

theorem v117 (h : Fin 8) (n : Fin 32) (r : Fin 64) : val_main_v117 (F := Ideal) x0 x1 x2 (ix5 0 h n r 0)
    = -(∑ k : Fin 576, ((val_main_v109 (F := Ideal) x0 x1 (ix5 0 h n r k) : EReal) * Ideal.div ((1 : ℝ) : EReal) ((val_main_v96 (F := Ideal) x0 x2 (ix4 0 h n r) : EReal) * val_main_v96 (F := Ideal) x0 x2 (ix4 0 h n r)) * (val_main_v95 (F := Ideal) x0 x2 (ix5 0 h n r k) : EReal))) := by
  pointwise [val_main_v117, val_main_v116, val_main_v115, val_main_cst_24, val_main_v114, val_main_v113, val_main_v112, val_main_v102, val_main_v101, val_main_v100, val_main_cst_23, val_main_v97]
  rw [EReal.coe_one]

theorem v124 (h : Fin 8) (n : Fin 32) (r : Fin 64) (k : Fin 576) : val_main_v124 (F := Ideal) x0 x1 x2 (ix5 0 h n r k)
    = (Ideal.div (val_main_v109 (F := Ideal) x0 x1 (ix5 0 h n r k)) (val_main_v96 (F := Ideal) x0 x2 (ix4 0 h n r)) + (val_main_v117 (F := Ideal) x0 x1 x2 (ix5 0 h n r 0) : EReal)) * (val_main_v95 (F := Ideal) x0 x2 (ix5 0 h n r k) : EReal) := by
  pointwise [val_main_v124, val_main_v123, val_main_v122, val_main_v121, val_main_v120, val_main_cst_25, val_main_v119, val_main_v118, val_main_v97]
  rw [sum_ones]

include hA hB in
/-- A row's exponentials, less its greatest score: real numbers of positive sum, whose quotients are the probabilities. -/
theorem row_real (h : Fin 8) (n : Fin 32) (r : Fin 64) : ∃ (e : Fin 576 → ℝ) (Z : ℝ), Z ≠ 0
    ∧ (∀ k, val_main_v95 (F := Ideal) x0 x2 (ix5 0 h n r k) = (e k : EReal)) ∧ val_main_v96 (F := Ideal) x0 x2 (ix4 0 h n r) = (Z : EReal)
    ∧ ∀ k : Fin 576, e k / Z = pr (rows (headQ A h)) (padRows (headK A h)) (biases (B h)) (64 * n.val + r.val) (64 * n.val + k.val) := by
  have hs0 : Sees (64 * n.val + r.val) (64 * n.val + (⟨r.val + 512, by omega⟩ : Fin 576).val) := by unfold Sees; dsimp only; omega
  have hx := fun k => v74 hA hB h n r k
  obtain ⟨M, hM⟩ := fold_max_real (fun k => val_main_v74_0 (F := Ideal) x0 x2 (ix5 0 h n r k)) (fun k : Fin 576 => Sees (64 * n.val + r.val) (64 * n.val + k.val)) _ hx _ hs0
  have he : ∀ k : Fin 576, val_main_v95 (F := Ideal) x0 x2 (ix5 0 h n r k)
      = ((if Sees (64 * n.val + r.val) (64 * n.val + k.val) then Real.exp (score (rows (headQ A h)) (padRows (headK A h)) (biases (B h)) (64 * n.val + r.val) (64 * n.val + k.val) - M) else 0 : ℝ) : EReal) :=
    fun k => by rw [v95, hM, hx, exp_shift]
  refine ⟨fun k => _, _, ne_of_gt (shifted_pos (fun k : Fin 576 => Sees (64 * n.val + r.val) (64 * n.val + k.val)) (fun k : Fin 576 => score (rows (headQ A h)) (padRows (headK A h)) (biases (B h)) (64 * n.val + r.val) (64 * n.val + k.val)) M _ hs0), he, ?_, fun k => ?_⟩
  · rw [v96, Finset.sum_congr (M := EReal) rfl fun k _ => he k, coe_sum]
  · rw [shifted_div (fun k : Fin 576 => Sees (64 * n.val + r.val) (64 * n.val + k.val)) (fun k : Fin 576 => score (rows (headQ A h)) (padRows (headK A h)) (biases (B h)) (64 * n.val + r.val) (64 * n.val + k.val)) M _ hs0 k]
    unfold pr total
    rw [← sum_window _ (64 * n.val) 576 (by omega) fun p hp => if_neg (by unfold Sees; omega)]

include hA hB in
/-- A probability. -/
theorem v99_real (h : Fin 8) (n : Fin 32) (r : Fin 64) (k : Fin 576) : val_main_v99 (F := Ideal) x0 x2 (ix5 0 h n r k)
    = ((pr (rows (headQ A h)) (padRows (headK A h)) (biases (B h)) (64 * n.val + r.val) (64 * n.val + k.val) : ℝ) : EReal) := by
  obtain ⟨e, Z, hZ, h95, h96, hp⟩ := row_real hA hB h n r
  rw [v99, h95, h96, div_real _ _ hZ, hp]

include hA hB hD in
/-- The gradient of a score. -/
theorem v125 (h : Fin 8) (n : Fin 32) (r : Fin 64) (k : Fin 576) : val_main_v125 (F := Ideal) x0 x1 x2 (ix5 0 h n r k)
    = ((ds (rows (headQ A h)) (padRows (headK A h)) (padRows (headV A h)) (rows (headD D h)) (biases (B h)) (64 * n.val + r.val) (64 * n.val + k.val) : ℝ) : EReal) := by
  obtain ⟨e, Z, hZ, h95, h96, hp⟩ := row_real hA hB h n r
  have h117 : val_main_v117 (F := Ideal) x0 x1 x2 (ix5 0 h n r 0) = ((-(∑ j : Fin 576, dpr (padRows (headV A h)) (rows (headD D h)) (64 * n.val + r.val) (64 * n.val + j.val) * (1 / (Z * Z)) * e j) : ℝ) : EReal) := by
    rw [v117, h96, ← EReal.coe_mul, div_real _ _ (mul_ne_zero hZ hZ),
      Finset.sum_congr (M := EReal) rfl fun j _ => by rw [v109 hA hD, h95, ← EReal.coe_mul, ← EReal.coe_mul], coe_sum, ← EReal.coe_neg]
  have h124 := v124 (x0 := x0) (x1 := x1) (x2 := x2) h n r k
  rw [h117, h96, h95, v109 hA hD, div_real _ _ hZ, ← EReal.coe_add, ← EReal.coe_mul,
    quotient_grad e (fun j : Fin 576 => dpr (padRows (headV A h)) (rows (headD D h)) (64 * n.val + r.val) (64 * n.val + j.val)) Z hZ k] at h124
  simp only [hp] at h124
  have hm : ∑ j : Fin 576, pr (rows (headQ A h)) (padRows (headK A h)) (biases (B h)) (64 * n.val + r.val) (64 * n.val + j.val) * dpr (padRows (headV A h)) (rows (headD D h)) (64 * n.val + r.val) (64 * n.val + j.val)
      = mean (rows (headQ A h)) (padRows (headK A h)) (padRows (headV A h)) (rows (headD D h)) (biases (B h)) (64 * n.val + r.val) := by
    unfold mean
    exact sum_window (fun p => pr (rows (headQ A h)) (padRows (headK A h)) (biases (B h)) (64 * n.val + r.val) p * dpr (padRows (headV A h)) (rows (headD D h)) (64 * n.val + r.val) p) (64 * n.val) 576 (by omega)
      fun p hp => by rw [pr_of_not _ _ _ (by unfold Sees; omega), zero_mul]
  rw [hm] at h124
  have z : val_main_call2_cst (F := Ideal) ix0 = ((0 : ℝ) : EReal) := by pointwise [val_main_call2_cst]; exact EReal.coe_zero.symm
  pointwise [val_main_v125, val_main_call2_v0, val_main_v74_1]
  rw [w73, h124, z]
  by_cases hs : 8 ≤ n.val + k.val / 64
  · rw [if_pos hs]
    rfl
  · rw [if_neg hs, ds_of_not _ _ _ _ _ (fun e => hs ((sees_iff n r k).1 e))]
    rfl

end Cert.AttnRefIdeal.Value
end
-- ==== Proof.AttnRefGrads.lean ====
/-
  The attention backward reference, last part: its four results are the attention's gradients, over the real numbers.
-/
module

public import proofs.«01_k».proof.Proof.AttnRefSoft
public import Idealize.ShloMosaic.Lib.Routing.OpsPair

@[expose] public section

set_option maxRecDepth 16384
noncomputable section
open Idealize.ShloMosaic Idealize.ShloMosaic.TcCoe Idealize.SL.Sem

namespace Cert.AttnRefIdeal.Value
open Cert.AttnRefIdeal Cert.AttnRefIdeal.Gen Cert.AttnRefIdeal.Read Cert.Attn Cert.Reals

/-- A row of the padded keys, gathered over the chunks whose bands hold it: the sum over every query. -/
theorem chunk_sum (f : ℕ → ℝ) (c : Fin 40) (r : Fin 64) (hz : ∀ s, ¬ Sees s (64 * c.val + r.val) → f s = 0) :
    (∑ n : Fin 32, ∑ j : Fin 9, if n.val + j.val = c.val then ∑ x : Fin 64, f (64 * n.val + x.val) else 0) = ∑ s ∈ Finset.range 2048, f s := by
  have hn : ∀ n : Fin 32, (∑ j : Fin 9, if n.val + j.val = c.val then ∑ x : Fin 64, f (64 * n.val + x.val) else 0) = ∑ x ∈ Finset.range 64, f (64 * n.val + x) := by
    intro n
    rw [← Fin.sum_univ_eq_sum_range (fun x => f (64 * n.val + x)) 64]
    by_cases hc : n.val ≤ c.val ∧ c.val ≤ n.val + 8
    · rw [Finset.sum_eq_single (⟨c.val - n.val, by omega⟩ : Fin 9) (fun j _ hj => if_neg fun e => hj (Fin.ext (by dsimp only; omega))) (fun h => absurd (Finset.mem_univ _) h),
        if_pos (by dsimp only; omega)]
    · rw [Finset.sum_eq_zero fun j _ => if_neg (by omega)]
      exact (Finset.sum_eq_zero fun x _ => hz _ (by unfold Sees; omega)).symm
  rw [Finset.sum_congr rfl fun n _ => hn n, Fin.sum_univ_eq_sum_range (fun n => ∑ x ∈ Finset.range 64, f (64 * n + x)) 32]
  exact sum_blocks f 32 64

/-- The pairs of a place of the relative biases, inside the bands of all chunks. -/
theorem place_sum (Q K V D : ℕ → Fin 128 → ℝ) (B : ℕ → ℝ) (b : ℕ) :
    (∑ r : Fin 64, ∑ k : Fin 576, if rel r k = b then ∑ n : Fin 32, ds Q K V D B (64 * n.val + r.val) (64 * n.val + k.val) else 0) = gradB Q K V D B b := by
  have h1 : ∀ (r : Fin 64) (k : Fin 576), (if rel r k = b then ∑ n : Fin 32, ds Q K V D B (64 * n.val + r.val) (64 * n.val + k.val) else 0)
      = ∑ n : Fin 32, if rel (64 * n.val + r) (64 * n.val + k) = b then ds Q K V D B (64 * n.val + r) (64 * n.val + k) else 0 := by
    intro r k
    simp only [rel_shift]
    split
    · rfl
    · rw [Finset.sum_const_zero]
  simp only [h1]
  rw [Finset.sum_congr rfl fun r _ => Finset.sum_comm, Finset.sum_comm]
  unfold gradB
  have h2 : ∀ (n : Fin 32) (r : Fin 64), (∑ k : Fin 576, if rel (64 * n.val + r) (64 * n.val + k) = b then ds Q K V D B (64 * n.val + r) (64 * n.val + k) else 0)
        = ∑ p ∈ Finset.range 2560, if rel (64 * n.val + r) p = b then ds Q K V D B (64 * n.val + r) p else 0 := by
    intro n r
    refine sum_window (fun p => if rel (64 * n.val + r) p = b then ds Q K V D B (64 * n.val + r) p else 0) (64 * n.val) 576 (by omega) fun p hp => ?_
    have hs : ¬ Sees (64 * n.val + r) p := by unfold Sees; omega
    simp only [ds_of_not _ _ _ _ _ hs, ite_self]
  rw [Finset.sum_congr rfl fun n _ => Finset.sum_congr rfl fun r _ => h2 n r]
  rw [Finset.sum_congr rfl fun (n : Fin 32) _ => Fin.sum_univ_eq_sum_range (fun r => ∑ p ∈ Finset.range 2560, if rel (64 * n.val + r) p = b then ds Q K V D B (64 * n.val + r) p else 0) 64,
    Fin.sum_univ_eq_sum_range (fun n => ∑ r ∈ Finset.range 64, ∑ p ∈ Finset.range 2560, if rel (64 * n + r) p = b then ds Q K V D B (64 * n + r) p else 0) 32]
  exact sum_blocks (fun s => ∑ p ∈ Finset.range 2560, if rel s p = b then ds Q K V D B s p else 0) 32 64

/-- A small word, read as an integer. -/
theorem word_int : ∀ n : Fin 513, (BitVec.ofNat 32 n.val).toInt = n.val := by decide +kernel

/-- A sum over the pairs of a condition. -/
theorem sum_pairs {ι : Type} [Fintype ι] [DecidableEq ι] {a b : ℕ} (p : ι → Prop) [DecidablePred p] (q : Fin a → Fin b → Prop) [∀ x y, Decidable (q x y)]
    (g : Fin a → Fin b → ι) (hg : ∀ x y x' y', g x y = g x' y' → x = x' ∧ y = y') (hp : ∀ i, p i ↔ ∃ x y, q x y ∧ g x y = i) (v : ι → EReal) :
    ∑ i ∈ Finset.univ.filter p, v i = ∑ x, ∑ y, if q x y then v (g x y) else 0 := by
  rw [Finset.sum_filter_eq_sum_of_fiber (κ := {z : Fin a × Fin b // q z.1 z.2}) p (fun z => g z.1.1 z.1.2)
    (fun z z' e => Subtype.ext (Prod.ext (hg _ _ _ _ e).1 (hg _ _ _ _ e).2))
    (fun i => (hp i).trans ⟨fun ⟨x, y, h, e⟩ => ⟨⟨(x, y), h⟩, e⟩, fun ⟨z, e⟩ => ⟨z.1.1, z.1.2, z.2, e⟩⟩)]
  rw [← Finset.sum_subtype (Finset.univ.filter fun z : Fin a × Fin b => q z.1 z.2) (fun z => by simp) (fun z : Fin a × Fin b => v (g z.1 z.2)),
    Finset.sum_filter, Fintype.sum_prod_type]

/-- Adding the bands back: a padded row gathers every band's row that is it. -/
theorem scatter_chunk (x : FVec Ideal S1x40x64x8x128 .f32) (i : IVec S32x9x1 32) (u : FVec Ideal S1x32x9x64x8x128 .f32)
    (hi : ∀ n j, i (ix3 n j 0) = BitVec.ofNat 32 (n.val + j.val)) (c : Fin 40) (r : Fin 64) (h : Fin 8) (d : Fin 128) :
    (Ideal.hostScatterAdd scatter_S1x40x64x8x128_S32x9x1_S1x32x9x64x8x128_0345_1_1_2 x i u (ix5 0 c r h d) : EReal)
      = x (ix5 0 c r h d) + ∑ n : Fin 32, ∑ j : Fin 9, if n.val + j.val = c.val then (u (ix6 0 n j r h d) : EReal) else 0 := by
  refine congrArg (fun z : EReal => x (ix5 0 c r h d) + z) (sum_pairs _ (fun n j => n.val + j.val = c.val) (fun n j => ix6 (0 : Fin 1) n j r h d) (fun (n : Fin 32) (j : Fin 9) (n' : Fin 32) (j' : Fin 9) e => ⟨show n = n' from congrFun e 1, show j = j' from congrFun e 2⟩) (fun k => ?_) u)
  rw [Routing.resultIdx?_eq_some]
  have hidx : ∀ n j, (i (ix3 n j 0)).toInt = ((n.val + j.val : ℕ) : Int) := fun n j => by rw [hi]; exact word_int ⟨n.val + j.val, by omega⟩
  have e1 : scatter_S1x40x64x8x128_S32x9x1_S1x32x9x64x8x128_0345_1_1_2.start k i 1 = (((k 1).val + (k 2).val : ℕ) : Int) := by
    rw [← hidx (k 1) (k 2)]
    show (i _).toInt = (i _).toInt
    congr 2
    funext b
    match b with
    | ⟨0, _⟩ => rfl
    | ⟨1, _⟩ => rfl
    | ⟨2, _⟩ => rfl
  constructor
  · intro q
    have q1 : scatter_S1x40x64x8x128_S32x9x1_S1x32x9x64x8x128_0345_1_1_2.start k i 1 + ((0 : ℕ) : Int) = (c.val : Int) := q 1
    have q2 : (0 : Int) + ((k 3).val : Int) = (r.val : Int) := q 2
    have q3 : (0 : Int) + ((k 4).val : Int) = (h.val : Int) := q 3
    have q4 : (0 : Int) + ((k 5).val : Int) = (d.val : Int) := q 4
    rw [e1] at q1
    refine ⟨k 1, k 2, by omega, ?_⟩
    rw [eq_ix6 k, show k 0 = (0 : Fin 1) from Subsingleton.elim (α := Fin 1) _ _, show k 3 = r from Fin.ext (by omega), show k 4 = h from Fin.ext (by omega), show k 5 = d from Fin.ext (by omega)]
    rfl
  · rintro ⟨n, j, hc, rfl⟩ a
    match a with
    | ⟨0, _⟩ => rfl
    | ⟨1, _⟩ =>
      show scatter_S1x40x64x8x128_S32x9x1_S1x32x9x64x8x128_0345_1_1_2.start _ i 1 + ((0 : ℕ) : Int) = (c.val : Int)
      rw [e1, ← hc]
      exact Int.add_zero _
    | ⟨2, _⟩ => exact Int.zero_add _
    | ⟨3, _⟩ => exact Int.zero_add _
    | ⟨4, _⟩ => exact Int.zero_add _

/-- Adding the score gradients up by the bias they used. -/
theorem scatter_bias (x : FVec Ideal S8x513 .f32) (i : IVec S64x576x1 32) (u : FVec Ideal S8x64x576 .f32)
    (hi : ∀ r k, i (ix3 r k 0) = BitVec.ofNat 32 (rel r.val k.val)) (h : Fin 8) (b : Fin 513) :
    (Ideal.hostScatterAdd scatter_S8x513_S64x576x1_S8x64x576_0_1_1_2 x i u (ix2 h b) : EReal)
      = x (ix2 h b) + ∑ r : Fin 64, ∑ k : Fin 576, if rel r.val k.val = b.val then (u (ix3 h r k) : EReal) else 0 := by
  refine congrArg (fun z : EReal => x (ix2 h b) + z) (sum_pairs _ (fun r k => rel r.val k.val = b.val) (fun r k => ix3 h r k) (fun (n : Fin 64) (j : Fin 576) (n' : Fin 64) (j' : Fin 576) e => ⟨show n = n' from congrFun e 1, show j = j' from congrFun e 2⟩) (fun k => ?_) u)
  rw [Routing.resultIdx?_eq_some]
  have hidx : ∀ r k, (i (ix3 r k 0)).toInt = (rel r.val k.val : Int) := fun r k => by rw [hi]; exact word_int ⟨rel r.val k.val, rel_lt _ _⟩
  have e1 : scatter_S8x513_S64x576x1_S8x64x576_0_1_1_2.start k i 1 = (rel (k 1).val (k 2).val : Int) := by
    rw [← hidx (k 1) (k 2)]
    show (i _).toInt = (i _).toInt
    congr 2
    funext b
    match b with
    | ⟨0, _⟩ => rfl
    | ⟨1, _⟩ => rfl
    | ⟨2, _⟩ => rfl
  constructor
  · intro q
    have q1 : scatter_S8x513_S64x576x1_S8x64x576_0_1_1_2.start k i 1 + ((0 : ℕ) : Int) = (b.val : Int) := q 1
    have q0 : (0 : Int) + ((k 0).val : Int) = (h.val : Int) := q 0
    rw [e1] at q1
    refine ⟨k 1, k 2, by omega, ?_⟩
    rw [eq_ix3 k, show k 0 = h from Fin.ext (by omega)]
    rfl
  · rintro ⟨r, k, hc, rfl⟩ a
    match a with
    | ⟨0, _⟩ => exact Int.zero_add _
    | ⟨1, _⟩ =>
      show scatter_S8x513_S64x576x1_S8x64x576_0_1_1_2.start _ i 1 + ((0 : ℕ) : Int) = (b.val : Int)
      rw [e1, ← hc]
      exact Int.add_zero _

/-- The sum over two axes of size one. -/
theorem sum_ones2 (x : FVec Ideal S1x8x1x64x576 .f32) (h : Fin 8) (r : Fin 64) (k : Fin 576) :
    Ideal.hostReduceAdd reducesTo_S1x8x1x64x576_S8x64x576_d0_2 x 0 (ix3 h r k) = x (ix5 0 h 0 r k) := by
  show (0 : EReal) + _ = _
  rw [zero_add]
  refine (Finset.sum_filter_eq_sum_of_fiber (κ := Unit) _ (fun _ => ix5 0 h 0 r k) (fun _ _ _ => rfl) (fun i => ?_) x).trans (Fintype.sum_unique _)
  constructor
  · intro e
    refine ⟨(), ?_⟩
    have e0 : i 1 = h := Fin.ext ((Shape.ReducesTo.drop_apply_val_of_eq reducesTo_S1x8x1x64x576_S8x64x576_d0_2 i 0 1).symm.trans (congrArg (fun j : S8x64x576.Idx => (j 0).val) e))
    have e1 : i 3 = r := Fin.ext ((Shape.ReducesTo.drop_apply_val_of_eq reducesTo_S1x8x1x64x576_S8x64x576_d0_2 i 1 3).symm.trans (congrArg (fun j : S8x64x576.Idx => (j 1).val) e))
    have e2 : i 4 = k := Fin.ext ((Shape.ReducesTo.drop_apply_val_of_eq reducesTo_S1x8x1x64x576_S8x64x576_d0_2 i 2 4).symm.trans (congrArg (fun j : S8x64x576.Idx => (j 2).val) e))
    rw [eq_ix5 i, e0, e1, e2, show i 0 = (0 : Fin 1) from Subsingleton.elim (α := Fin 1) _ _, show i 2 = (0 : Fin 1) from Subsingleton.elim (α := Fin 1) _ _]
  · rintro ⟨_, rfl⟩
    funext b
    match b with
    | ⟨0, _⟩ => exact Fin.ext (Shape.ReducesTo.drop_apply_val_of_eq reducesTo_S1x8x1x64x576_S8x64x576_d0_2 _ 0 1)
    | ⟨1, _⟩ => exact Fin.ext (Shape.ReducesTo.drop_apply_val_of_eq reducesTo_S1x8x1x64x576_S8x64x576_d0_2 _ 1 3)
    | ⟨2, _⟩ => exact Fin.ext (Shape.ReducesTo.drop_apply_val_of_eq reducesTo_S1x8x1x64x576_S8x64x576_d0_2 _ 2 4)

variable {x0 : FVec Ideal S2048x6144 .bf16} {x1 : FVec Ideal S2048x2048 .bf16} {x2 : FVec Ideal S8x513 .f32}
variable {A : Fin 2048 → Fin 6144 → ℝ} {D : Fin 2048 → Fin 2048 → ℝ} {B : Fin 8 → Fin 513 → ℝ}
  (hA : ∀ r k, x0 (ix2 r k) = (A r k : EReal)) (hD : ∀ r k, x1 (ix2 r k) = (D r k : EReal))
  (hB : ∀ h b, x2 (ix2 h b) = (B h b : EReal))
include hA hB hD

/-- A band's gradient of the values. -/
theorem v111 (n : Fin 32) (k : Fin 576) (h : Fin 8) (d : Fin 128) : val_main_v111 (F := Ideal) x0 x1 x2 (ix5 0 n k h d)
    = ((∑ x : Fin 64, pr (rows (headQ A h)) (padRows (headK A h)) (biases (B h)) (64 * n.val + x.val) (64 * n.val + k.val) * rows (headD D h) (64 * n.val + x.val) d : ℝ) : EReal) := by
  pointwise [val_main_v111, val_main_v110]
  rw [Finset.sum_congr (M := EReal) rfl fun x _ => by rw [v107 hD, v99_real hA hB, ← EReal.coe_mul, mul_comm], coe_sum]

/-- A band's gradient of the keys. -/
theorem v136 (n : Fin 32) (k : Fin 576) (h : Fin 8) (d : Fin 128) : val_main_v136 (F := Ideal) x0 x1 x2 (ix5 0 n k h d)
    = ((∑ x : Fin 64, ds (rows (headQ A h)) (padRows (headK A h)) (padRows (headV A h)) (rows (headD D h)) (biases (B h)) (64 * n.val + x.val) (64 * n.val + k.val) * scale * rows (headQ A h) (64 * n.val + x.val) d : ℝ) : EReal) := by
  pointwise [val_main_v136, val_main_v135, val_main_v134, val_main_v133, val_main_cst_30]
  rw [Finset.sum_congr (M := EReal) rfl fun x _ => by rw [v125 hA hD hB, v12 hA, ofBits_scale, ← EReal.coe_mul, ← EReal.coe_mul], coe_sum]

/-- The gradient of the queries. -/
theorem v153 (s : Fin 2048) (j : Fin 1024) : val_main_v153 (F := Ideal) x0 x1 x2 (ix2 s j) = ((resQ A D B s j : ℝ) : EReal) := by
  pointwise [val_main_v153, val_main_v152, val_main_v151, val_main_v138, val_main_v137, val_main_v134, val_main_v133, val_main_cst_30]
  rw [Finset.sum_congr (M := EReal) rfl fun x _ => by rw [v125 hA hD hB, v34 hA, ofBits_scale, ← EReal.coe_mul, ← EReal.coe_mul], coe_sum]
  have es : 64 * (s.val / 64) + s.val % 64 = s.val := by omega
  unfold resQ gradQ
  rw [← sum_window _ (64 * (s.val / 64)) 576 (by omega) fun p hp => by rw [ds_of_not _ _ _ _ _ (by unfold Sees; omega), zero_mul], Finset.sum_mul]
  dsimp only
  rw [es]
  exact congrArg _ (Finset.sum_congr rfl fun k _ => by ring)

/-- The padded keys' gradient. -/
theorem v144 (c : Fin 40) (r : Fin 64) (h : Fin 8) (d : Fin 128) : val_main_v144 (F := Ideal) x0 x1 x2 (ix5 0 c r h d)
    = ((gradK (rows (headQ A h)) (padRows (headK A h)) (padRows (headV A h)) (rows (headD D h)) (biases (B h)) (64 * c.val + r.val) d : ℝ) : EReal) := by
  have z : val_main_v143 (F := Ideal) (ix5 0 c r h d) = (0 : EReal) := by pointwise [val_main_v143, val_main_cst_32]
  have u : ∀ (n : Fin 32) (j : Fin 9), val_main_v142 (F := Ideal) x0 x1 x2 (ix6 0 n j r h d) = val_main_v136 (F := Ideal) x0 x1 x2 (ix5 0 n ⟨j.val * 64 + r.val, by omega⟩ h d) := by
    intro n j
    pointwise [val_main_v142]
  refine (scatter_chunk (val_main_v143 (F := Ideal)) (val_main_v32 (F := Ideal)) (val_main_v142 (F := Ideal) x0 x1 x2) w32 c r h d).trans ?_
  rw [z, zero_add]
  unfold gradK
  rw [Finset.sum_mul, ← chunk_sum _ c r fun s hs => by rw [ds_of_not _ _ _ _ _ hs, zero_mul, zero_mul]]
  rw [← coe_sum]
  refine Finset.sum_congr (M := EReal) rfl fun n _ => ?_
  rw [← coe_sum]
  refine Finset.sum_congr (M := EReal) rfl fun j _ => ?_
  rw [u, v136 hA hD hB]
  split
  · next e =>
    refine congrArg _ (Finset.sum_congr rfl fun x _ => ?_)
    rw [show 64 * n.val + (j.val * 64 + r.val) = 64 * c.val + r.val by omega]
    ring
  · rfl

/-- The padded values' gradient. -/
theorem v141 (c : Fin 40) (r : Fin 64) (h : Fin 8) (d : Fin 128) : val_main_v141 (F := Ideal) x0 x1 x2 (ix5 0 c r h d)
    = ((gradV (rows (headQ A h)) (padRows (headK A h)) (rows (headD D h)) (biases (B h)) (64 * c.val + r.val) d : ℝ) : EReal) := by
  have z : val_main_v140 (F := Ideal) (ix5 0 c r h d) = (0 : EReal) := by pointwise [val_main_v140, val_main_cst_31]
  have u : ∀ (n : Fin 32) (j : Fin 9), val_main_v139 (F := Ideal) x0 x1 x2 (ix6 0 n j r h d) = val_main_v111 (F := Ideal) x0 x1 x2 (ix5 0 n ⟨j.val * 64 + r.val, by omega⟩ h d) := by
    intro n j
    pointwise [val_main_v139]
  refine (scatter_chunk (val_main_v140 (F := Ideal)) (val_main_v40 (F := Ideal)) (val_main_v139 (F := Ideal) x0 x1 x2) w40 c r h d).trans ?_
  rw [z, zero_add]
  unfold gradV
  rw [← chunk_sum _ c r fun s hs => by rw [pr_of_not _ _ _ hs, zero_mul]]
  rw [← coe_sum]
  refine Finset.sum_congr (M := EReal) rfl fun n _ => ?_
  rw [← coe_sum]
  refine Finset.sum_congr (M := EReal) rfl fun j _ => ?_
  rw [u, v111 hA hD hB]
  split
  · next e =>
    refine congrArg _ (Finset.sum_congr rfl fun x _ => ?_)
    rw [show 64 * n.val + (j.val * 64 + r.val) = 64 * c.val + r.val by omega]
  · rfl

/-- The gradient of the keys. -/
theorem v155 (s : Fin 2048) (j : Fin 1024) : val_main_v155 (F := Ideal) x0 x1 x2 (ix2 s j) = ((resK A D B s j : ℝ) : EReal) := by
  pointwise [val_main_v155, val_main_v154, val_main_v150, val_main_v148]
  rw [v144 hA hD hB]
  unfold resK
  dsimp only
  rw [show 64 * ((512 + s.val) / 64) + (512 + s.val) % 64 = s.val + 512 by omega]

/-- The gradient of the values. -/
theorem v157 (s : Fin 2048) (j : Fin 1024) : val_main_v157 (F := Ideal) x0 x1 x2 (ix2 s j) = ((resV A D B s j : ℝ) : EReal) := by
  pointwise [val_main_v157, val_main_v156, val_main_v147, val_main_v145]
  rw [v141 hA hD hB]
  unfold resV
  dsimp only
  rw [show 64 * ((512 + s.val) / 64) + (512 + s.val) % 64 = s.val + 512 by omega]

/-- The score gradients, added up over the chunks. -/
theorem v130 (h : Fin 8) (r : Fin 64) (k : Fin 576) : val_main_v130 (F := Ideal) x0 x1 x2 (ix3 h r k)
    = ((∑ n : Fin 32, ds (rows (headQ A h)) (padRows (headK A h)) (padRows (headV A h)) (rows (headD D h)) (biases (B h)) (64 * n.val + r.val) (64 * n.val + k.val) : ℝ) : EReal) := by
  pointwise [val_main_v130, val_main_v129, val_main_cst_28, val_main_v128, val_main_cst_27]
  rw [Fin.sum_univ_one, sum_ones2]
  pointwise [val_main_v127, val_main_v126, val_main_cst_26]
  rw [Finset.sum_congr (M := EReal) rfl fun x _ => by rw [v125 hA hD hB], coe_sum]

/-- The gradient of the relative biases. -/
theorem v132 (h : Fin 8) (b : Fin 513) : val_main_v132 (F := Ideal) x0 x1 x2 (ix2 h b) = ((resB A D B h b : ℝ) : EReal) := by
  have z : val_main_v131 (F := Ideal) (ix2 h b) = (0 : EReal) := by pointwise [val_main_v131, val_main_cst_29]
  refine (scatter_bias (val_main_v131 (F := Ideal)) (val_main_v63 (F := Ideal)) (val_main_v130 (F := Ideal) x0 x1 x2) w63 h b).trans ?_
  rw [z, zero_add]
  unfold resB
  rw [← place_sum]
  rw [← coe_sum]
  refine Finset.sum_congr (M := EReal) rfl fun r _ => ?_
  rw [← coe_sum]
  refine Finset.sum_congr (M := EReal) rfl fun k _ => ?_
  rw [v130 hA hD hB]
  split <;> rfl

/-- The results as arrays. -/
theorem arr153 : (val_main_v153 (F := Ideal) x0 x1 x2 : S2048x1024.Idx → EReal) = fun i => ((resQ A D B (i 0) (i 1) : ℝ) : EReal) :=
  funext fun i => (congrArg (val_main_v153 (F := Ideal) x0 x1 x2) (eq_ix2 i)).trans (v153 hA hD hB (i 0) (i 1))

theorem arr155 : (val_main_v155 (F := Ideal) x0 x1 x2 : S2048x1024.Idx → EReal) = fun i => ((resK A D B (i 0) (i 1) : ℝ) : EReal) :=
  funext fun i => (congrArg (val_main_v155 (F := Ideal) x0 x1 x2) (eq_ix2 i)).trans (v155 hA hD hB (i 0) (i 1))

theorem arr157 : (val_main_v157 (F := Ideal) x0 x1 x2 : S2048x1024.Idx → EReal) = fun i => ((resV A D B (i 0) (i 1) : ℝ) : EReal) :=
  funext fun i => (congrArg (val_main_v157 (F := Ideal) x0 x1 x2) (eq_ix2 i)).trans (v157 hA hD hB (i 0) (i 1))

theorem arr132 : (val_main_v132 (F := Ideal) x0 x1 x2 : S8x513.Idx → EReal) = fun i => ((resB A D B (i 0) (i 1) : ℝ) : EReal) :=
  funext fun i => (congrArg (val_main_v132 (F := Ideal) x0 x1 x2) (eq_ix2 i)).trans (v132 hA hD hB (i 0) (i 1))

omit hA hD hB

variable (m : (ℓ : Loc nD τ sig) → Buf (Elt Ideal) ℓ)

/-- The arguments of a device. -/
abbrev argA (c : Dev nD) : FVec Ideal S2048x6144 .bf16 := m ((c : Thread nD τ).loc main_arg0)
abbrev argD (c : Dev nD) : FVec Ideal S2048x2048 .bf16 := m ((c : Thread nD τ).loc main_arg1)
abbrev argB (c : Dev nD) : FVec Ideal S8x513 .f32 := m ((c : Thread nD τ).loc main_arg2)

/-- The reference's run, its results under their names. -/
theorem run_named (g : Dev nD → PrngReg) : θ_run (defs (F := Ideal)) (onTc (τ := τ) (main (F := Ideal))) ⟨m, fun _ => 0, g⟩ fun r => ∀ c : Dev nD,
    r.2.mem ((c : Thread nD τ).loc main_v153) = val_main_v153 (F := Ideal) (argA m c) (argD m c) (argB m c)
      ∧ r.2.mem ((c : Thread nD τ).loc main_v155) = val_main_v155 (F := Ideal) (argA m c) (argD m c) (argB m c)
      ∧ r.2.mem ((c : Thread nD τ).loc main_v157) = val_main_v157 (F := Ideal) (argA m c) (argD m c) (argB m c)
      ∧ r.2.mem ((c : Thread nD τ).loc main_v132) = val_main_v132 (F := Ideal) (argA m c) (argD m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run m g

end Cert.AttnRefIdeal.Value
end
-- ==== Proof.NormMath.lean ====
/- The derivative of root-mean-square normalisation: the closed form and the product rule agree. -/
module

public import proofs.«01_k».proof.Proof.Reals

@[expose] public section

set_option maxRecDepth 16384
noncomputable section
open Idealize.ShloMosaic Idealize.ShloMosaic.TcCoe Idealize.SL.Sem

namespace Cert.Norm
open Cert.Reals

abbrev Rows : Shape := ⟨2, ![2048, 2048]⟩
abbrev Chans : Shape := ⟨1, ![2048]⟩
abbrev ChanRow : Shape := ⟨2, ![1, 2048]⟩

/-- The row length 2048 and the small number under the root. -/
abbrev len : EReal := Ideal.ofBits FTy.f32 1157627904#32
abbrev tiny : EReal := Ideal.ofBits FTy.f32 897988541#32
abbrev minusHalf : EReal := Ideal.ofBits FTy.f32 3204448256#32

theorem len_eq : len = ((2048 : ℝ) : EReal) := by
  simp [len, Ideal.ofBits, Ideal.ieee]
  rw [← EReal.coe_mul]; norm_num
theorem minusHalf_eq : minusHalf = ((-(1 / 2) : ℝ) : EReal) := by
  simp [minusHalf, Ideal.ofBits, Ideal.ieee]
  rw [← EReal.coe_mul]; norm_num
theorem tiny_pos : ∃ e : ℝ, 0 < e ∧ tiny = (e : EReal) := by
  refine ⟨_, ?_, by simp [tiny, Ideal.ofBits, Ideal.ieee]; rfl⟩
  norm_num

/-- The reciprocal of a row's root mean square, from the row's sum of squares. -/
def recip (q : EReal) : EReal := Ideal.rsqrt (Ideal.div q len + tiny)

theorem sum_sq_nonneg {n : Nat} (f : Fin n → EReal) : 0 ≤ ∑ k, f k * f k :=
  Finset.sum_nonneg fun k _ => by
    rcases le_total 0 (f k) with h | h
    · exact mul_nonneg h h
    · exact EReal.mul_nonneg_iff.mpr (Or.inr ⟨h, h⟩)

theorem add_self (y : EReal) : y + y = y * ((2 : ℝ) : EReal) := by
  induction y with
  | bot => rw [EReal.bot_mul_coe_of_pos (by norm_num)]; rfl
  | top => rw [EReal.top_mul_coe_of_pos (by norm_num)]; rfl
  | coe y => norm_cast; ring

/-- What reaches an element through the mean of squares: twice the element times the mean's gradient, which is the
    closed form. -/
theorem norm_rule {q : EReal} (hq : 0 ≤ q) (d a x s : EReal) :
    d + a * recip q + x * Ideal.div (s * (minusHalf * Ideal.div (recip q) (Ideal.div q len + tiny))) len
        + Ideal.div (s * (minusHalf * Ideal.div (recip q) (Ideal.div q len + tiny))) len * x
      = d + recip q * a - x * (recip q * recip q * recip q * Ideal.div s len) := by
  obtain ⟨e, he, hte⟩ := tiny_pos
  have hdiv : ∀ z : EReal, Ideal.div z len = z * ((1 / 2048 : ℝ) : EReal) := fun z => by
    rw [len_eq]; exact Ideal.div_coe (by norm_num) z
  simp only [hdiv]
  have hassoc : ∀ u v w : EReal, d + u + v + w = d + u + (v + w) := fun u v w => add_assoc _ _ _
  rw [hassoc, sub_eq_add_neg, mul_comm a]
  congr 1
  unfold recip
  rw [hdiv]
  rcases eq_or_ne q ⊤ with rfl | hq'
  · rw [EReal.top_mul_coe_of_pos (by norm_num), hte, EReal.top_add_coe, Ideal.rsqrt_top]
    simp [Ideal.div]
  · lift q to ℝ using ⟨hq', fun h => by simp [h] at hq⟩
    have hq0 : 0 ≤ q := by exact_mod_cast hq
    have hv : 0 < q * (1 / 2048) + e := by positivity
    rw [hte, ← EReal.coe_mul, ← EReal.coe_add]
    generalize q * (1 / 2048) + e = v at hv
    rw [Ideal.rsqrt_coe, if_neg (not_lt.mpr hv.le), if_neg hv.ne', Ideal.div_coe hv.ne', minusHalf_eq]
    have hr : 0 < (Real.sqrt v)⁻¹ := inv_pos.mpr (Real.sqrt_pos.mpr hv)
    have hrr : 1 / v = (Real.sqrt v)⁻¹ * (Real.sqrt v)⁻¹ := by
      rw [← mul_inv, Real.mul_self_sqrt hv.le, one_div]
    rw [hrr]
    generalize (Real.sqrt v)⁻¹ = ρ at hr
    have hc : ((-(1 / 2) : ℝ) : EReal) * ((ρ : EReal) * ((ρ * ρ : ℝ) : EReal)) * ((1 / 2048 : ℝ) : EReal) = ((-(ρ * ρ * ρ / 4096) : ℝ) : EReal) := by
      norm_cast; ring
    have hk : (ρ : EReal) * (ρ : EReal) * (ρ : EReal) * (s * ((1 / 2048 : ℝ) : EReal)) = s * ((ρ * ρ * ρ / 2048 : ℝ) : EReal) := by
      rw [mul_left_comm]; congr 1; norm_cast; ring
    rw [mul_assoc s, hc, hk]
    rw [mul_comm (s * _) x, add_self, ← mul_neg, ← mul_neg, ← EReal.coe_neg, mul_assoc, mul_assoc]
    congr 2
    norm_cast; ring

/-- The reciprocal of row `r`'s root mean square. -/
def scale (X : FVec Ideal Rows .f32) (r : Fin 2048) : EReal := recip (∑ k : Fin 2048, X (ix2 r k) * X (ix2 r k))

/-- The gradient of the normalised array's input at row `r`, channel `l`: `d` reaches the input beside the norm, `y` is
    the gradient of the normalised row. -/
def normGrad (X : FVec Ideal Rows .f32) (y : Fin 2048 → Fin 2048 → EReal) (d : EReal) (r l : Fin 2048) : EReal :=
  d + scale X r * y r l - X (ix2 r l) * (scale X r * scale X r * scale X r * Ideal.div (∑ k : Fin 2048, X (ix2 r k) * y r k) len)

/-- The gain's gradient: over the rows, the outgoing gradient times the normalised row. -/
def gainGrad (X : FVec Ideal Rows .f32) (y : Fin 2048 → Fin 2048 → EReal) (l : Fin 2048) : EReal :=
  ∑ r : Fin 2048, y r l * (X (ix2 r l) * scale X r)

/-- The norm's input gradient, the residual stream's gradient added. -/
def arrX (X : FVec Ideal Rows .f32) (G : FVec Ideal Chans .f32) (D : FVec Ideal Rows .bf16) (R : FVec Ideal Rows .f32) : FVec Ideal Rows .f32 := fun i =>
  normGrad X (fun r l => D (ix2 r l) * G (ix1 l)) (R (ix2 (i 0) (i 1))) (i 0) (i 1)

/-- The gain's gradient as a row. -/
def arrG (X : FVec Ideal Rows .f32) (D : FVec Ideal Rows .bf16) : FVec Ideal ChanRow .f32 := fun i => gainGrad X (fun r l => D (ix2 r l)) (i 1)

/-- The loss head's error: the normalised row times the gain, less the target. -/
def err (X : FVec Ideal Rows .f32) (G : FVec Ideal Chans .f32) (T : FVec Ideal Rows .f32) (r l : Fin 2048) : EReal :=
  X (ix2 r l) * scale X r * G (ix1 l) - T (ix2 r l)

/-- The numbers 1/2048, one half and two. -/
abbrev invLen : EReal := Ideal.ofBits FTy.f32 973078528#32
abbrev half : EReal := Ideal.ofBits FTy.f32 1056964608#32
abbrev two : EReal := Ideal.ofBits FTy.f32 1073741824#32

theorem invLen_eq : invLen = ((1 / 2048 : ℝ) : EReal) := by
  simp [invLen, Ideal.ofBits, Ideal.ieee]
  rw [← EReal.coe_mul]; norm_num
theorem half_eq : half = ((1 / 2 : ℝ) : EReal) := by
  simp [half, Ideal.ofBits, Ideal.ieee]
  rw [← EReal.coe_mul]; norm_num
theorem two_eq : two = ((2 : ℝ) : EReal) := by
  simp [two, Ideal.ofBits, Ideal.ieee]
  rw [← EReal.coe_mul]; norm_num

theorem div_len (z : EReal) : Ideal.div z len = z * invLen := by
  rw [len_eq, invLen_eq]; exact Ideal.div_coe (by norm_num) z

/-- The derivative of half the squared error's mean is the error over the row length. -/
theorem err_rule (e : EReal) : Ideal.div half len * (two * e) = e * invLen := by
  rw [div_len, half_eq, two_eq, invLen_eq, ← mul_assoc, mul_comm _ e]
  congr 1
  norm_cast; norm_num

/-- The loss head's gradient of its input. -/
def arrLossX (X : FVec Ideal Rows .f32) (G : FVec Ideal Chans .f32) (T : FVec Ideal Rows .f32) : FVec Ideal Rows .f32 := fun i =>
  normGrad X (fun r l => err X G T r l * invLen * G (ix1 l)) 0 (i 0) (i 1)

/-- The loss head's gradient of its gain. -/
def arrLossG (X : FVec Ideal Rows .f32) (G : FVec Ideal Chans .f32) (T : FVec Ideal Rows .f32) : FVec Ideal ChanRow .f32 := fun i =>
  gainGrad X (fun r l => err X G T r l * invLen) (i 1)

abbrev One : Shape := ⟨2, ![1, 1]⟩

/-- The loss: half the mean squared error of every row, summed. -/
def arrLoss (X : FVec Ideal Rows .f32) (G : FVec Ideal Chans .f32) (T : FVec Ideal Rows .f32) : FVec Ideal One .f32 := fun _ =>
  ∑ r : Fin 2048, half * ((∑ k : Fin 2048, err X G T r k * err X G T r k) * invLen)

/-- One half distributes over any sum. -/
theorem half_sum {n : Nat} (f : Fin n → EReal) : half * ∑ r, f r = ∑ r, half * f r := by
  rw [half_eq]
  have h : ∀ a b : EReal, ((1 / 2 : ℝ) : EReal) * (a + b) = ((1 / 2 : ℝ) : EReal) * a + ((1 / 2 : ℝ) : EReal) * b :=
    fun a b => EReal.left_distrib_of_nonneg_of_ne_top (by exact_mod_cast (by norm_num : (0 : ℝ) ≤ 1 / 2)) (EReal.coe_ne_top _) a b
  classical
  induction (Finset.univ : Finset (Fin n)) using Finset.induction_on with
  | empty => simp
  | insert a s ha ih => rw [Finset.sum_insert ha, Finset.sum_insert ha, h, ih]

end Cert.Norm
-- ==== Proof.SguMath.lean ====
/- The gradients of the gated spatial mixing, over the real numbers, for the 128 positions of one block. -/
module

public import Idealize.ShloMosaic.Lib.Pipeline.ValueKit
public import Idealize.ShloMosaic.Lib.Pointwise
public import proofs.«01_k».proof.Proof.Reals
public import proofs.«01_k».proof.Proof.NormMath

@[expose] public section

set_option maxRecDepth 16384
noncomputable section
open Idealize.ShloMosaic Idealize.ShloMosaic.TcCoe Idealize.SL.Sem

namespace Cert.Sgu

/-- The error function on the reals. -/
def erfR (r : ℝ) : ℝ := 2 / Real.sqrt Real.pi * ∫ t in (0 : ℝ)..r, Real.exp (-(t ^ 2))

theorem erf_coe (r : ℝ) : Ideal.erf (r : EReal) = (erfR r : EReal) := rfl

/-- The Gaussian error linear unit and its derivative. -/
def gelu (x : ℝ) : ℝ := 1 / 2 * x * (1 + erfR (x * (Real.sqrt 2)⁻¹))
def geluD (x : ℝ) : ℝ := 1 / 2 * (1 + erfR (x * (Real.sqrt 2)⁻¹)) + x * Real.exp (-(1 / 2) * x * x) * (Real.sqrt (2 * Real.pi))⁻¹

/-- The small number under the root. -/
def eps : ℝ := Cert.Norm.tiny_pos.choose
theorem eps_pos : 0 < eps := Cert.Norm.tiny_pos.choose_spec.1
theorem tiny_eq : Ideal.ofBits FTy.f32 897988541#32 = (eps : EReal) := Cert.Norm.tiny_pos.choose_spec.2

/-- The first and the second half of a row of 4096, and the group of a channel. -/
abbrev lo (d : Fin 2048) : Fin 4096 := ⟨d.val, by omega⟩
abbrev hi (d : Fin 2048) : Fin 4096 := ⟨2048 + d.val, by omega⟩
abbrev grp (d : Fin 2048) : Fin 8 := ⟨d.val / 256, by omega⟩
abbrev chan (g : Fin 8) (l : Fin 256) : Fin 2048 := ⟨g.val * 256 + l.val, by omega⟩

section
variable (A : Fin 128 → Fin 4096 → ℝ) (D : Fin 128 → Fin 2048 → ℝ) (lg lb : Fin 2048 → ℝ)
  (W : Fin 8 → Fin 128 → Fin 128 → ℝ) (B : Fin 8 → Fin 128 → ℝ)

/-- The gating half, and the mixed half with its mean, its centred values and its length's inverse. -/
def u (t : Fin 128) (d : Fin 2048) : ℝ := gelu (A t (lo d))
def v (t : Fin 128) (d : Fin 2048) : ℝ := gelu (A t (hi d))
def mean (f : Fin 2048 → ℝ) : ℝ := (∑ d, f d) * (1 / 2048)
def xc (t : Fin 128) (d : Fin 2048) : ℝ := v A t d - mean (v A t)
def var (t : Fin 128) : ℝ := mean (fun d => xc A t d * xc A t d) + eps
def rs (t : Fin 128) : ℝ := (Real.sqrt (var A t))⁻¹
def xh (t : Fin 128) (d : Fin 2048) : ℝ := xc A t d * rs A t
/-- The normalised half, the masked weights, and the mixed half. -/
def vl (t : Fin 128) (d : Fin 2048) : ℝ := xh A t d * lg d + lb d
def wm (g : Fin 8) (t s : Fin 128) : ℝ := if s.val / 64 ≤ t.val / 64 then W g t s else 0
def sp (t : Fin 128) (d : Fin 2048) : ℝ := (∑ s, wm W (grp d) t s * vl A lg lb s d) + B (grp d) t
/-- The gradient reaching the mixed half. -/
def ds (t : Fin 128) (d : Fin 2048) : ℝ := D t d * u A t d
def dv (s : Fin 128) (d : Fin 2048) : ℝ := ∑ t, wm W (grp d) t s * ds A D t d
def dxh (t : Fin 128) (d : Fin 2048) : ℝ := dv A D W t d * lg d
/-- The gradients of the two halves of the input. -/
def daU (t : Fin 128) (d : Fin 2048) : ℝ := D t d * sp A lg lb W B t d * geluD (A t (lo d))
def dvv (t : Fin 128) (d : Fin 2048) : ℝ :=
  rs A t * (dxh A D lg W t d - mean (dxh A D lg W t) - xh A t d * mean (fun k => dxh A D lg W t k * xh A t k))
def daV (t : Fin 128) (d : Fin 2048) : ℝ := dvv A D lg W t d * geluD (A t (hi d))
/-- This block's part of the gradients of the weights, the biases, the gain and the offset. -/
def dws (g : Fin 8) (t s : Fin 128) : ℝ := if s.val / 64 ≤ t.val / 64 then ∑ l : Fin 256, ds A D t (chan g l) * vl A lg lb s (chan g l) else 0
def dbs (t : Fin 128) (g : Fin 8) : ℝ := ∑ l : Fin 256, ds A D t (chan g l)
def dlg (d : Fin 2048) : ℝ := ∑ t, dv A D W t d * xh A t d
def dlb (d : Fin 2048) : ℝ := ∑ t, dv A D W t d

theorem var_pos (t : Fin 128) : 0 < var A t := by
  unfold var mean
  have h := eps_pos
  have : 0 ≤ ∑ d, xc A t d * xc A t d := Finset.sum_nonneg fun d _ => mul_self_nonneg _
  positivity

theorem rs_sq (t : Fin 128) : rs A t * rs A t = (var A t)⁻¹ := by
  unfold rs
  rw [← mul_inv, Real.mul_self_sqrt (var_pos A t).le]

theorem sum_xc (t : Fin 128) : ∑ d, xc A t d = 0 := by
  unfold xc mean
  rw [Finset.sum_sub_distrib]
  simp
  ring

/-- The gradient through the mean and the mean of squares, as the product rule writes it, is the closed form. -/
theorem norm_rule (t : Fin 128) (d : Fin 2048) (P : ℝ) (hP : P = ∑ k, xc A t k * dxh A D lg W t k) (q : ℝ)
    (hq : q = P * (-(1 / 2) * (rs A t * (1 / var A t))) * (1 / 2048)) :
    dxh A D lg W t d * rs A t + xc A t d * q + q * xc A t d
        + (∑ k, -(dxh A D lg W t k * rs A t + xc A t k * q + q * xc A t k)) * (1 / 2048)
      = dvv A D lg W t d := by
  have hs : ∑ k, -(dxh A D lg W t k * rs A t + xc A t k * q + q * xc A t k) = -((∑ k, dxh A D lg W t k) * rs A t) := by
    have : ∀ k, -(dxh A D lg W t k * rs A t + xc A t k * q + q * xc A t k) = -(dxh A D lg W t k * rs A t) - xc A t k * (2 * q) := fun k => by ring
    simp only [this, Finset.sum_sub_distrib, ← Finset.sum_mul, sum_xc, Finset.sum_neg_distrib]
    ring
  have hp : (∑ k, dxh A D lg W t k * xh A t k) = P * rs A t := by
    rw [hP, Finset.sum_mul]
    exact Finset.sum_congr rfl fun k _ => by unfold xh; ring
  have h1 := rs_sq A t
  rw [hs]
  unfold dvv mean
  rw [hp, hq, one_div (var A t), ← h1]
  unfold xh
  ring

end

/-- The derivative as the product rule writes it. -/
theorem gelu_rule (ct x : ℝ) :
    -(1 / 2 * x * ct * (-2 * (1 / Real.sqrt (4 * (Real.pi / 4))) * Real.exp (-(-x * (1 / Real.sqrt 2)) * (-x * (1 / Real.sqrt 2)))) * (1 / Real.sqrt 2))
      + 1 / 2 * (ct * (1 + erfR (x * (Real.sqrt 2)⁻¹))) = ct * geluD x := by
  have h2 : (Real.sqrt 2)⁻¹ * (Real.sqrt 2)⁻¹ = 1 / 2 := by
    rw [← mul_inv, Real.mul_self_sqrt (by norm_num)]; norm_num
  have he : -(-x * (1 / Real.sqrt 2)) * (-x * (1 / Real.sqrt 2)) = -(1 / 2) * x * x := by
    rw [one_div]; linear_combination (-x * x) * h2
  have hp : 4 * (Real.pi / 4) = Real.pi := by ring
  rw [he, hp, geluD, Real.sqrt_mul (by norm_num), mul_inv]
  ring

theorem half_eq : Ideal.ofBits FTy.f32 1056964608#32 = ((1 / 2 : ℝ) : EReal) := by
  simp [Ideal.ofBits, Ideal.ieee]
  rw [← EReal.coe_mul]; norm_num

theorem mean_coe (f : Fin 2048 → ℝ) : Ideal.div (∑ d, (f d : EReal)) (Ideal.ofBits FTy.f32 1157627904#32) = (mean f : EReal) := by
  rw [show Ideal.ofBits FTy.f32 1157627904#32 = ((2048 : ℝ) : EReal) from Cert.Norm.len_eq, Ideal.div_coe (by norm_num), Cert.Reals.coe_sum, ← EReal.coe_mul]
  rfl

/-! The result arrays of the whole sequence: sixteen blocks of 128 positions. -/

/-- Position `r` of block `n`, and a block's rows. -/
abbrev pos (n : Fin 16) (r : Fin 128) : Fin 2048 := ⟨n.val * 128 + r.val, by omega⟩
def rows {K : Nat} (f : Fin 2048 → Fin K → ℝ) (n : Fin 16) : Fin 128 → Fin K → ℝ := fun r => f (pos n r)

section
variable (A : Fin 2048 → Fin 4096 → ℝ) (D : Fin 2048 → Fin 2048 → ℝ) (lg lb : Fin 2048 → ℝ)
  (W : Fin 8 → Fin 128 → Fin 128 → ℝ) (B : Fin 8 → Fin 128 → ℝ)

/-- The input's gradient. -/
def arrA : FVec Ideal ⟨2, ![2048, 4096]⟩ .bf16 := fun j =>
  let n : Fin 16 := ⟨(j 0).val / 128, by have : (j 0).val < 2048 := (j 0).isLt; omega⟩
  let r : Fin 128 := ⟨(j 0).val % 128, by omega⟩
  if h : (j 1).val < 2048 then (daU (rows A n) (rows D n) lg lb W B r ⟨(j 1).val, h⟩ : EReal)
  else (daV (rows A n) (rows D n) lg W r ⟨(j 1).val - 2048, by have : (j 1).val < 4096 := (j 1).isLt; omega⟩ : EReal)
/-- The gradients of the weights, the biases, the gain and the offset: sums over the blocks. -/
def arrW : FVec Ideal ⟨3, ![8, 128, 128]⟩ .f32 := fun j => ∑ n : Fin 16, (dws (rows A n) (rows D n) lg lb (j 0) (j 1) (j 2) : EReal)
def arrB : FVec Ideal ⟨2, ![128, 8]⟩ .f32 := fun j => ∑ n : Fin 16, (dbs (rows A n) (rows D n) (j 0) (j 1) : EReal)
def arrG : FVec Ideal ⟨2, ![1, 2048]⟩ .f32 := fun j => ∑ n : Fin 16, (dlg (rows A n) (rows D n) W (j 1) : EReal)
def arrL : FVec Ideal ⟨2, ![1, 2048]⟩ .f32 := fun j => ∑ n : Fin 16, (dlb (rows A n) (rows D n) W (j 1) : EReal)

theorem arrA_lo (n : Fin 16) (r : Fin 128) (d : Fin 2048) : arrA A D lg lb W B (ix2 (pos n r) (lo d)) = (daU (rows A n) (rows D n) lg lb W B r d : EReal) := by
  have hn : (⟨(n.val * 128 + r.val) / 128, by omega⟩ : Fin 16) = n := Fin.ext (by dsimp only; omega)
  have hr : (⟨(n.val * 128 + r.val) % 128, by omega⟩ : Fin 128) = r := Fin.ext (by dsimp only; omega)
  refine (dif_pos d.isLt).trans ?_
  exact congrArg₂ (fun n r => ((daU (rows A n) (rows D n) lg lb W B r d : ℝ) : EReal)) hn hr

theorem arrA_hi (n : Fin 16) (r : Fin 128) (d : Fin 2048) : arrA A D lg lb W B (ix2 (pos n r) (hi d)) = (daV (rows A n) (rows D n) lg W r d : EReal) := by
  have hn : (⟨(n.val * 128 + r.val) / 128, by omega⟩ : Fin 16) = n := Fin.ext (by dsimp only; omega)
  have hr : (⟨(n.val * 128 + r.val) % 128, by omega⟩ : Fin 128) = r := Fin.ext (by dsimp only; omega)
  have hd : (⟨2048 + d.val - 2048, by omega⟩ : Fin 2048) = d := Fin.ext (by dsimp only; omega)
  refine (dif_neg (show ¬ 2048 + d.val < 2048 by omega)).trans ?_
  refine (congrArg₂ (fun n r => ((daV (rows A n) (rows D n) lg W r ⟨2048 + d.val - 2048, by omega⟩ : ℝ) : EReal)) hn hr).trans ?_
  rw [hd]
end

end Cert.Sgu
-- ==== Proof.SguBlock.lean ====
/- What one grid point of the kernel computes, over the real numbers, before its groups are taken apart. -/
module

public import proofs.«01_k».proof.Proof.Gen.SguBwdIdeal.Value
public import Idealize.ShloMosaic.Lib.Pipeline.ValueKit
public import Idealize.ShloMosaic.Lib.Pointwise
public import proofs.«01_k».proof.Proof.SguMath

@[expose] public section

set_option maxRecDepth 16384
noncomputable section
open Idealize.ShloMosaic Idealize.ShloMosaic.TcCoe Idealize.SL.Sem
open Idealize.ShloMosaic.Pipeline (Dat)

namespace Cert.SguBwdIdeal.Value
open Cert.SguBwdIdeal Cert.SguBwdIdeal.Gen Cert.Sgu

/-- The constants of the kernel. -/
theorem root_eq : (Named.named κ "rsqrt2" 1060439283#32 : Ideal .f32) = (((Real.sqrt 2)⁻¹ : ℝ) : EReal) := by
  simp [Named.named, κ]
theorem dens_eq : (Named.named κ "rsqrt2pi" 1053573674#32 : Ideal .f32) = (((Real.sqrt (2 * Real.pi))⁻¹ : ℝ) : EReal) := by
  simp [Named.named, κ]

theorem gelu_coe (x : ℝ) : Ideal.ofBits FTy.f32 1056964608#32 * (x : EReal)
    * (1 + FloatOps.erf (F := Ideal) ((x : EReal) * (Named.named κ "rsqrt2" 1060439283#32 : Ideal .f32))) = (gelu x : EReal) := by
  rw [half_eq, root_eq, ← EReal.coe_mul, ← EReal.coe_mul, Ideal.erf_def, erf_coe, ← EReal.coe_one, ← EReal.coe_add, ← EReal.coe_mul]
  rfl

section
variable {A : Vec Ideal S128x4096 .f32} {a : Fin 128 → Fin 4096 → ℝ} (hA : ∀ r k, A (ix2 r k) = (a r k : EReal))
include hA

/-- The gating half. -/
theorem p5 (r : Fin 128) (d : Fin 2048) : k0_pay5 (F := Ideal) A (ix2 r d) = (u a r d : EReal) := by
  pointwise [k0_pay5]
  simp only [hA, gelu_coe]
  rfl
/-- The centred mixed half. -/
theorem p6 (r : Fin 128) (d : Fin 2048) : k0_pay6 (F := Ideal) A (ix2 r d) = (xc a r d : EReal) := by
  pointwise [k0_pay6]
  simp only [hA, gelu_coe, mean_coe, ← EReal.coe_sub]
  rfl
/-- The inverse of its length. -/
theorem p7 (r : Fin 128) (z : Fin 1) : k0_pay7 (F := Ideal) A (ix2 r z) = (rs a r : EReal) := by
  pointwise [k0_pay7]
  simp only [p6 hA, ← EReal.coe_mul, mean_coe, tiny_eq, ← EReal.coe_add]
  rw [show (mean fun d => xc a r d * xc a r d) + eps = var a r from rfl, Ideal.rsqrt_coe, if_neg (var_pos a r).le.not_gt, if_neg (var_pos a r).ne']
  rfl
/-- The normalised half. -/
theorem p8 (r : Fin 128) (d : Fin 2048) : k0_pay8 (F := Ideal) A (ix2 r d) = (xh a r d : EReal) := by
  pointwise [k0_pay8]
  simp only [p6 hA, p7 hA, ← EReal.coe_mul]
  rfl
/-- The normalised half with its gain and offset. -/
theorem p10 {G L : Vec Ideal S1x2048 .f32} {lg lb : Fin 2048 → ℝ} (hG : ∀ d, G (ix2 0 d) = (lg d : EReal)) (hL : ∀ d, L (ix2 0 d) = (lb d : EReal))
    (r : Fin 128) (d : Fin 2048) : k0_pay10 (F := Ideal) (k0_pay8 A) (k0_pay9 G) L (ix2 r d) = (vl a lg lb r d : EReal) := by
  pointwise [k0_pay10, k0_pay9]
  simp only [p8 hA, hG, hL, ← EReal.coe_mul, ← EReal.coe_add]
  rfl
end

/-- The mask: position `s` is seen from position `t` when its chunk is not later. -/
theorem p15 (t s : Fin 128) : k0_pay15 k0_pay11 (iota Kind.tc S128x128 32 ([(1 : Fin S128x128.rank)] : List (Fin 2)) iota_S128x128_d1_w32) (64#32) k0_pay12 k0_pay13 k0_pay14 (ix2 t s)
    = if s.val / 64 ≤ t.val / 64 then 1#1 else 0#1 := by
  pointwise [k0_pay15, k0_pay11, k0_pay12, k0_pay13, k0_pay14]
  revert t s
  decide +kernel

end Cert.SguBwdIdeal.Value
-- ==== Proof.SguClose.lean ====
/- The parts of one grid point's results, each as the real number it is. -/
module

public import proofs.«01_k».proof.Proof.SguBlock

@[expose] public section

set_option maxRecDepth 16384
noncomputable section
open Idealize.ShloMosaic Idealize.ShloMosaic.TcCoe Idealize.SL.Sem
open Idealize.ShloMosaic.Pipeline (Dat)

namespace Cert.SguBwdIdeal.Value
open Cert.SguBwdIdeal Cert.SguBwdIdeal.Gen Cert.Sgu

theorem wm_coe (W : Fin 8 → Fin 128 → Fin 128 → ℝ) (g : Fin 8) (r k : Fin 128) (z : EReal) :
    Scalar.select (if k.val / 64 ≤ r.val / 64 then 1#1 else 0#1) ((W g r k : EReal) * z) 0 = (wm W g r k : EReal) * z := by
  unfold wm
  split
  · rfl
  · rw [EReal.coe_zero, zero_mul]; rfl

theorem geluD_coe (x : ℝ) : Ideal.ofBits FTy.f32 1056964608#32
      * (1 + FloatOps.erf (F := Ideal) ((x : EReal) * (Named.named κ "rsqrt2" 1060439283#32 : Ideal .f32)))
      + (x : EReal) * Ideal.exp (Ideal.ofBits FTy.f32 3204448256#32 * (x : EReal) * (x : EReal)) * (Named.named κ "rsqrt2pi" 1053573674#32 : Ideal .f32)
    = (geluD x : EReal) := by
  rw [half_eq, root_eq, dens_eq, show Ideal.ofBits FTy.f32 3204448256#32 = ((-(1 / 2) : ℝ) : EReal) from Cert.Norm.minusHalf_eq,
    ← EReal.coe_mul, ← EReal.coe_mul, ← EReal.coe_mul, Ideal.exp_coe, Ideal.erf_def, erf_coe, ← EReal.coe_one, ← EReal.coe_add, ← EReal.coe_mul,
    ← EReal.coe_mul, ← EReal.coe_mul, ← EReal.coe_add]
  rfl

section
variable {a : Fin 128 → Fin 4096 → ℝ} {D : Fin 128 → Fin 2048 → ℝ} {lg lb : Fin 2048 → ℝ}
  {W : Fin 8 → Fin 128 → Fin 128 → ℝ} {B : Fin 8 → Fin 128 → ℝ}

theorem dv_close (s : Fin 128) (d : Fin 2048) (g : Fin 8) (hg : grp d = g) :
    ∑ r, (wm W g r s : EReal) * ((D r d : EReal) * (u a r d : EReal)) = (dv a D W s d : EReal) := by
  simp only [← EReal.coe_mul, Cert.Reals.coe_sum]
  rw [dv, hg]
  rfl

theorem sp_close (r : Fin 128) (d : Fin 2048) (g : Fin 8) (hg : grp d = g) :
    (∑ s, (wm W g r s : EReal) * (vl a lg lb s d : EReal)) + (B g r : EReal) = (sp a lg lb W B r d : EReal) := by
  simp only [← EReal.coe_mul, Cert.Reals.coe_sum, ← EReal.coe_add]
  rw [sp, hg]

theorem dws_close (g : Fin 8) (r k : Fin 128) (q : Fin 256 → Fin 2048) (hq : ∀ l, q l = chan g l) :
    Scalar.select (if k.val / 64 ≤ r.val / 64 then 1#1 else 0#1)
      (∑ l, (D r (q l) : EReal) * (u a r (q l) : EReal) * (vl a lg lb k (q l) : EReal)) 0 = (dws a D lg lb g r k : EReal) := by
  simp only [← EReal.coe_mul, Cert.Reals.coe_sum]
  unfold dws
  split
  · simp only [← hq]
    rfl
  · rfl

theorem dbs_close (g : Fin 8) (r : Fin 128) (q : Fin 256 → Fin 2048) (hq : ∀ l, q l = chan g l) :
    ∑ l, (D r (q l) : EReal) * (u a r (q l) : EReal) = (dbs a D r g : EReal) := by
  simp only [← EReal.coe_mul, Cert.Reals.coe_sum]
  unfold dbs ds
  simp only [← hq]

theorem pick (g : Fin 8) (f : Fin 8 → EReal) {x0 x1 x2 x3 x4 x5 x6 x7 : EReal} (h0 : x0 = f 0) (h1 : x1 = f 1) (h2 : x2 = f 2) (h3 : x3 = f 3)
    (h4 : x4 = f 4) (h5 : x5 = f 5) (h6 : x6 = f 6) (h7 : x7 = f 7) :
    Scalar.select (IntOp.cmpi .eq (BitVec.ofNat 32 g) 0#32) x0 0 + Scalar.select (IntOp.cmpi .eq (BitVec.ofNat 32 g) 1#32) x1 0
      + Scalar.select (IntOp.cmpi .eq (BitVec.ofNat 32 g) 2#32) x2 0 + Scalar.select (IntOp.cmpi .eq (BitVec.ofNat 32 g) 3#32) x3 0
      + Scalar.select (IntOp.cmpi .eq (BitVec.ofNat 32 g) 4#32) x4 0 + Scalar.select (IntOp.cmpi .eq (BitVec.ofNat 32 g) 5#32) x5 0
      + Scalar.select (IntOp.cmpi .eq (BitVec.ofNat 32 g) 6#32) x6 0 + Scalar.select (IntOp.cmpi .eq (BitVec.ofNat 32 g) 7#32) x7 0 = f g := by
  subst h0 h1 h2 h3 h4 h5 h6 h7
  fin_cases g <;> simp [Scalar.select, IntOp.cmpi]

theorem p103 {A : Vec Ideal S128x4096 .f32} (hA : ∀ r k, A (ix2 r k) = (a r k : EReal)) {G : Vec Ideal S1x2048 .f32}
    (hG : ∀ d, G (ix2 0 d) = (lg d : EReal)) {X : Vec Ideal S128x2048 .f32} (hX : ∀ s d, X (ix2 s d) = (dv a D W s d : EReal)) (r : Fin 128) (d : Fin 2048) :
    k0_pay103 (F := Ideal) A (k0_pay7 A) (k0_pay8 A) X G (ix2 r d) = (daV a D lg W r d : EReal) := by
  pointwise [k0_pay103]
  simp only [p7 hA, p8 hA, hA, hG, hX, geluD_coe, ← EReal.coe_mul, mean_coe, ← EReal.coe_sub]
  rfl
end

theorem whole_idx (s : Fin 128) (d : Fin 2048) : (Rect.unit (s := S128x2048) ![0, 0] ![128, 2048] inb_S128x2048_S128x2048_0_0).idx (ix2 s d) = (ix2 s d : S128x2048.Idx) := by
  funext k
  fin_cases k <;> exact Fin.ext (by simp [LoadRect.idx, Rect.unit, ix2])

variable (m : (ℓ : Loc nD τ sig) → Buf (Elt Ideal) ℓ) (c : Dev nD) (t : Fin cfg0.N)

/-- Pieces that cover an index decide it, whatever was stored before them. -/
theorem canon_append_cover {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by simp at h
  | p :: L, h => by
    by_cases hy : y ∈ p.1.set
    · obtain ⟨x, rfl⟩ := p.1.exists_idx_of_mem hy
      exact (View.canon_cons_emb p.1 p.2 (L ++ L') x).trans (View.canon_cons_emb p.1 p.2 L x).symm
    · rw [List.cons_append, View.canon_cons_of_not_mem _ _ hy, View.canon_cons_of_not_mem _ _ hy]
      refine canon_append_cover L' y L ?_
      obtain ⟨q, hq, hm⟩ := h
      rcases List.mem_cons.mp hq with rfl | hq
      · exact absurd hm hy
      · exact ⟨q, hq, hm⟩

/-- What the first grid point starts the accumulated outputs from, and what every other one finds there. -/
def start7 : Vec Ideal S8x128x128 .f32 := if t.val % 16 = 0 then k0_pay1 (F := Ideal) else (outsAt0 m c (t.val - 1) (by have := t.isLt; omega)).2.1
def start8 : Vec Ideal S128x8 .f32 := if t.val % 16 = 0 then k0_pay2 (F := Ideal) else (outsAt0 m c (t.val - 1) (by have := t.isLt; omega)).2.2.1
def start9 : Vec Ideal S1x2048 .f32 := if t.val % 16 = 0 then k0_pay3 (F := Ideal) else (outsAt0 m c (t.val - 1) (by have := t.isLt; omega)).2.2.2.1
def start10 : Vec Ideal S1x2048 .f32 := if t.val % 16 = 0 then k0_pay4 (F := Ideal) else (outsAt0 m c (t.val - 1) (by have := t.isLt; omega)).2.2.2.2
end Cert.SguBwdIdeal.Value
-- ==== Proof.SguPointA.lean ====
/- One grid point of the kernel: what the normalised half contributes. -/
module

public import proofs.«01_k».proof.Proof.SguClose

@[expose] public section

set_option maxRecDepth 16384
noncomputable section
open Idealize.ShloMosaic Idealize.ShloMosaic.TcCoe Idealize.SL.Sem
open Idealize.ShloMosaic.Pipeline (Dat)

namespace Cert.SguBwdIdeal.Value
open Cert.SguBwdIdeal Cert.SguBwdIdeal.Gen Cert.Sgu

variable (m : (ℓ : Loc nD τ sig) → Buf (Elt Ideal) ℓ) (c : Dev nD) (t : Fin cfg0.N)
  {a : Fin 128 → Fin 4096 → ℝ} {D : Fin 128 → Fin 2048 → ℝ} {lg lb : Fin 2048 → ℝ}
  {W : Fin 8 → Fin 128 → Fin 128 → ℝ} {B : Fin 8 → Fin 128 → ℝ}
  (hA : ∀ r k, (iblk m c 0 t : Vec Ideal S128x4096 .f32) (ix2 r k) = (a r k : EReal))
  (hD : ∀ r k, (iblk m c 1 t : Vec Ideal S128x2048 .bf16) (ix2 r k) = (D r k : EReal))
  (hW : ∀ g r k, (iblk m c 4 t : Vec Ideal S8x128x128 .f32) (ix3 g r k) = (W g r k : EReal))
  (hG : ∀ d, (iblk m c 2 t : Vec Ideal S1x2048 .f32) (ix2 0 d) = (lg d : EReal))
  (hL : ∀ d, (iblk m c 3 t : Vec Ideal S1x2048 .f32) (ix2 0 d) = (lb d : EReal))
  (hB : ∀ g r, (iblk m c 5 t : Vec Ideal S128x8 .f32) (ix2 r g) = (B g r : EReal))

include hA hD hW in
set_option maxHeartbeats 2000000 in
/-- The gradient of the mixed half is `X`; from it come the gain's, the offset's and the second half of the input's gradient. -/
theorem at_point : ∃ X : Vec Ideal S128x2048 .f32, (∀ s d, X (ix2 s d) = (dv a D W s d : EReal))
    ∧ (outsAt0 m c t.val t.isLt).2.2.2.1 = k0_pay101 (k0_pay8 (iblk m c 0 t)) X (start9 m c t)
    ∧ (outsAt0 m c t.val t.isLt).2.2.2.2 = k0_pay102 X (start10 m c t)
    ∧ ∀ (r : Fin 128) (d : Fin 2048), ((outsAt0 m c t.val t.isLt).1 : Vec Ideal S128x4096 .bf16) (ix2 r (hi d)) = k0_pay103 (iblk m c 0 t) (k0_pay7 (iblk m c 0 t)) (k0_pay8 (iblk m c 0 t)) X (iblk m c 2 t) (ix2 r d) := by
  unfold start9 start10
  by_cases h : t.val % 16 = 0
  · rw [outsAt0_A m c t h, if_pos h, if_pos h]
    frame_out
    clear h
    generalize hX : View.readCov (Val := Elt Ideal) (View.whole cc0_scratch0) _ _ = X
    refine ⟨X, fun s d => ?_, rfl, rfl, fun r d => ?_⟩
    · rw [← hX, View.readCov_eq_canon']
      dsimp only
      rw [whole_idx]
      canon_tiles x hx
      all_goals
        change s.val = (x 0).val at hx0
        change d.val = _ at hx1
        pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
        simp only [show x 0 = s from (Fin.ext hx0).symm, ← hx1, p5 hA, p15, hD, hW, wm_coe]
        refine dv_close _ _ _ (Fin.ext ?_)
        simp only [Fin.val_ofNat] at *
        omega
    · clear hX
      canon_tiles x hx using View.cover_of_tiledBy _ ![1, 256] (by sl_kernel_rfl) _
      all_goals
        change r.val = (x 0).val at hx0
        change 2048 + d.val = _ at hx1
        first
          | (exfalso; clear hx0; omega)
          | (rw [show (ix2 r d : S128x2048.Idx) = x from funext fun i => by
              fin_cases i
              · exact Fin.ext hx0
              · exact Fin.ext (show d.val = (x 1).val by omega)])
  · rw [outsAt0_B m c t h, if_neg h, if_neg h]
    frame_out
    clear h
    generalize hX : View.readCov (Val := Elt Ideal) (View.whole cc0_scratch0) _ _ = X
    refine ⟨X, fun s d => ?_, rfl, rfl, fun r d => ?_⟩
    · rw [← hX, View.readCov_eq_canon']
      dsimp only
      rw [whole_idx]
      canon_tiles x hx
      all_goals
        change s.val = (x 0).val at hx0
        change d.val = _ at hx1
        pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
        simp only [show x 0 = s from (Fin.ext hx0).symm, ← hx1, p5 hA, p15, hD, hW, wm_coe]
        refine dv_close _ _ _ (Fin.ext ?_)
        simp only [Fin.val_ofNat] at *
        omega
    · clear hX
      canon_tiles x hx using View.cover_of_tiledBy _ ![1, 256] (by sl_kernel_rfl) _
      all_goals
        change r.val = (x 0).val at hx0
        change 2048 + d.val = _ at hx1
        first
          | (exfalso; clear hx0; omega)
          | (rw [show (ix2 r d : S128x2048.Idx) = x from funext fun i => by
              fin_cases i
              · exact Fin.ext hx0
              · exact Fin.ext (show d.val = (x 1).val by omega)])
end Cert.SguBwdIdeal.Value
-- ==== Proof.SguPointB.lean ====
/- One grid point of the kernel: the gating half, the weights and the biases. -/
module

public import proofs.«01_k».proof.Proof.SguClose

@[expose] public section

set_option maxRecDepth 16384
noncomputable section
open Idealize.ShloMosaic Idealize.ShloMosaic.TcCoe Idealize.SL.Sem
open Idealize.ShloMosaic.Pipeline (Dat)

namespace Cert.SguBwdIdeal.Value
open Cert.SguBwdIdeal Cert.SguBwdIdeal.Gen Cert.Sgu

/-- An index inside one block lies in no block apart from it along the first axis. -/
theorem apart {off size off' size' : Fin 3 → Nat} {inb'}
    (inb) (y : (Rect.unit (s := S8x128x128) off' size' inb').shape.Idx)
    (h : off 0 + size 0 ≤ off' 0 ∨ off' 0 + size' 0 ≤ off 0) :
    (Rect.unit (s := S8x128x128) off' size' inb').idx y ∉ (Rect.unit (s := S8x128x128) off size inb).set :=
  fun hm => Finset.disjoint_left.mp (Rect.unit_disjoint 0 h) hm (LoadRect.idx_mem _ y)

variable (m : (ℓ : Loc nD τ sig) → Buf (Elt Ideal) ℓ) (c : Dev nD) (t : Fin cfg0.N)
  {a : Fin 128 → Fin 4096 → ℝ} {D : Fin 128 → Fin 2048 → ℝ} {lg lb : Fin 2048 → ℝ}
  {W : Fin 8 → Fin 128 → Fin 128 → ℝ} {B : Fin 8 → Fin 128 → ℝ}
  (hA : ∀ r k, (iblk m c 0 t : Vec Ideal S128x4096 .f32) (ix2 r k) = (a r k : EReal))
  (hD : ∀ r k, (iblk m c 1 t : Vec Ideal S128x2048 .bf16) (ix2 r k) = (D r k : EReal))
  (hW : ∀ g r k, (iblk m c 4 t : Vec Ideal S8x128x128 .f32) (ix3 g r k) = (W g r k : EReal))
  (hG : ∀ d, (iblk m c 2 t : Vec Ideal S1x2048 .f32) (ix2 0 d) = (lg d : EReal))
  (hL : ∀ d, (iblk m c 3 t : Vec Ideal S1x2048 .f32) (ix2 0 d) = (lb d : EReal))
  (hB : ∀ g r, (iblk m c 5 t : Vec Ideal S128x8 .f32) (ix2 r g) = (B g r : EReal))

include hA hD hW hG hL hB in
set_option maxHeartbeats 2000000 in
/-- The first half of the input's gradient at a grid point. -/
theorem lo_point (r : Fin 128) (d : Fin 2048) : ((outsAt0 m c t.val t.isLt).1 : Vec Ideal S128x4096 .bf16) (ix2 r (lo d)) = (daU a D lg lb W B r d : EReal) := by
  by_cases h : t.val % 16 = 0
  · rw [outsAt0_A m c t h]
    frame_out
    clear h
    canon_tiles x hx using View.cover_of_tiledBy _ ![1, 256] (by sl_kernel_rfl) _
    · exact absurd (show d.val = 2048 + (x 1).val from hx1) (by omega)
    all_goals
      change r.val = (x 0).val at hx0
      change d.val = _ at hx1
      pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
      simp only [show x 0 = r from (Fin.ext hx0).symm, ← hx1, p5 hA, p10 hA hG hL, p15, hA, hD, hW, hB, wm_coe, geluD_coe]
      rw [sp_close r ⟨d.val, d.isLt⟩ _ (Fin.ext (by simp only [Fin.val_ofNat]; omega)), ← EReal.coe_mul, ← EReal.coe_mul]
      rfl
  · rw [outsAt0_B m c t h]
    frame_out
    clear h
    canon_tiles x hx using View.cover_of_tiledBy _ ![1, 256] (by sl_kernel_rfl) _
    · exact absurd (show d.val = 2048 + (x 1).val from hx1) (by omega)
    all_goals
      change r.val = (x 0).val at hx0
      change d.val = _ at hx1
      pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
      simp only [show x 0 = r from (Fin.ext hx0).symm, ← hx1, p5 hA, p10 hA hG hL, p15, hA, hD, hW, hB, wm_coe, geluD_coe]
      rw [sp_close r ⟨d.val, d.isLt⟩ _ (Fin.ext (by simp only [Fin.val_ofNat]; omega)), ← EReal.coe_mul, ← EReal.coe_mul]
      rfl

include hA hD hG hL in
set_option maxHeartbeats 2000000 in
/-- The weights' gradient: what was there and this block's part. -/
theorem dws_point (g : Fin 8) (r k : Fin 128) : ((outsAt0 m c t.val t.isLt).2.1 : Vec Ideal S8x128x128 .f32) (ix3 g r k)
    = start7 m c t (ix3 g r k) + (dws a D lg lb g r k : EReal) := by
  unfold start7
  by_cases h : t.val % 16 = 0
  · rw [outsAt0_A m c t h, if_pos h]
    frame_out
    clear h
    refine (canon_append_cover [_] (ix3 g r k) [_, _, _, _, _, _, _, _] (View.cover_of_tiledBy _ ![1, 128, 128] (by sl_kernel_rfl) _)).trans ?_
    canon_tiles x hx
    all_goals
      change g.val = _ at hx0
      change r.val = (x 1).val at hx1
      change k.val = (x 2).val at hx2
      generalize hz : View.readCov (Val := Elt Ideal) _ _ _ = z
      have hz0 : ∀ y, z y = (0 : EReal) := fun y => by
        rw [← hz, View.readCov_eq_canon']
        dsimp only
        iterate 7
          try
            refine (View.canon_cons_of_not_mem _ _ fun hm => ?_).trans ?_
            · refine absurd hm (apart ?_ _ ?_) <;> decide
        rw [View.canon_cons_unit_lit' _ _ _ (by decide)]
        pointwise [k0_pay1]
      pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
      simp only [show x 1 = r from (Fin.ext hx1).symm, show x 2 = k from (Fin.ext hx2).symm, p5 hA, p10 hA hG hL, p15, hD]
      rw [hz0, zero_add]
      refine dws_close g r k _ fun l => Fin.ext ?_
      dsimp only
      omega
  · rw [outsAt0_B m c t h, if_neg h]
    frame_out
    clear h
    canon_tiles x hx
    all_goals
      change g.val = _ at hx0
      change r.val = (x 1).val at hx1
      change k.val = (x 2).val at hx2
      pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
      simp only [show x 1 = r from (Fin.ext hx1).symm, show x 2 = k from (Fin.ext hx2).symm, p5 hA, p10 hA hG hL, p15, hD]
      refine congrArg₂ (· + ·) (congrArg _ (congrArg (fun z => ix3 z r k) (Fin.ext ?_))) (dws_close g r k _ fun l => Fin.ext ?_)
      · first | (simp only [Fin.val_ofNat]; omega) | (change 1 = _; omega) | (change 0 = _; omega)
      · dsimp only
        omega

include hA hD in
/-- The biases' gradient: what was there and this block's part. -/
theorem dbs_point (g : Fin 8) (r : Fin 128) : ((outsAt0 m c t.val t.isLt).2.2.1 : Vec Ideal S128x8 .f32) (ix2 r g)
    = start8 m c t (ix2 r g) + (dbs a D r g : EReal) := by
  unfold start8
  by_cases h : t.val % 16 = 0
  · rw [outsAt0_A m c t h, if_pos h]
    frame_out
    pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
    simp only [p5 hA, hD]
    exact pick g (fun i => (dbs a D r i : EReal)) (dbs_close 0 r _ fun l => Fin.ext (by simp)) (dbs_close 1 r _ fun l => Fin.ext (by simp))
        (dbs_close 2 r _ fun l => Fin.ext (by simp)) (dbs_close 3 r _ fun l => Fin.ext (by simp)) (dbs_close 4 r _ fun l => Fin.ext (by simp))
        (dbs_close 5 r _ fun l => Fin.ext (by simp)) (dbs_close 6 r _ fun l => Fin.ext (by simp)) (dbs_close 7 r _ fun l => Fin.ext (by simp))
  · rw [outsAt0_B m c t h, if_neg h]
    frame_out
    pointwise [k0_pay1, k0_pay2, k0_pay3, k0_pay4, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
    simp only [p5 hA, hD]
    exact congrArg _ (pick g (fun i => (dbs a D r i : EReal)) (dbs_close 0 r _ fun l => Fin.ext (by simp)) (dbs_close 1 r _ fun l => Fin.ext (by simp))
        (dbs_close 2 r _ fun l => Fin.ext (by simp)) (dbs_close 3 r _ fun l => Fin.ext (by simp)) (dbs_close 4 r _ fun l => Fin.ext (by simp))
        (dbs_close 5 r _ fun l => Fin.ext (by simp)) (dbs_close 6 r _ fun l => Fin.ext (by simp)) (dbs_close 7 r _ fun l => Fin.ext (by simp)))
end Cert.SguBwdIdeal.Value
-- ==== Proof.SguArrays.lean ====
/- The gated spatial mixing's backward kernel: its result arrays are the gradients, over the real numbers. -/
module

public import proofs.«01_k».proof.Proof.SguPointA
public import proofs.«01_k».proof.Proof.SguPointB

@[expose] public section

set_option maxRecDepth 16384
noncomputable section
open Idealize.ShloMosaic Idealize.ShloMosaic.TcCoe Idealize.SL.Sem
open Idealize.ShloMosaic.Pipeline (Dat)

namespace Cert.SguBwdIdeal.Value
open Cert.SguBwdIdeal Cert.SguBwdIdeal.Gen Cert.Sgu

variable (m : (ℓ : Loc nD τ sig) → Buf (Elt Ideal) ℓ)

/-- Where every window's block sits at each grid point. -/
theorem places : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ win0_7.index t = ![0, 0, 0]
    ∧ win0_8.index t = ![0, 0] ∧ win0_9.index t = ![0, 0] ∧ win0_10.index t = ![0, 0] :=
  (by decide +kernel : ∀ t : Fin grid0.N, _)

/-- The projections, the outgoing gradient, the norm's gain and offset, the mixing weights and biases as the run starts. -/
abbrev argA (c : Dev nD) : FVec Ideal S2048x4096 .f32 := m ((c : Thread nD τ).loc main_arg0)
abbrev argD (c : Dev nD) : FVec Ideal S2048x2048 .bf16 := m ((c : Thread nD τ).loc main_arg1)
abbrev argG (c : Dev nD) : FVec Ideal S2048 .f32 := m ((c : Thread nD τ).loc main_arg2)
abbrev argL (c : Dev nD) : FVec Ideal S2048 .f32 := m ((c : Thread nD τ).loc main_arg3)
abbrev argW (c : Dev nD) : FVec Ideal S8x128x128 .f32 := m ((c : Thread nD τ).loc main_arg4)
abbrev argB (c : Dev nD) : FVec Ideal S8x128 .f32 := m ((c : Thread nD τ).loc main_arg5)

/-- The block of a grid point. -/
abbrev bn (t : Fin cfg0.N) : Fin 16 := ⟨t.val, lt_of_lt_of_eq t.isLt N_0⟩

/-! What the blocks of a grid point read. -/

theorem readA (c : Dev nD) (t : Fin cfg0.N) (r : Fin 128) (k : Fin 4096) : (iblk m c 0 t : Vec Ideal S128x4096 .f32) (ix2 r k) = argA m c (ix2 (pos (bn t) r) k) := by
  show (V m c main_arg0 : FVec Ideal S2048x4096 .f32) _ = _
  rw [V_main_arg0]
  blk_ext [places t]

theorem readD (c : Dev nD) (t : Fin cfg0.N) (r : Fin 128) (k : Fin 2048) : (iblk m c 1 t : Vec Ideal S128x2048 .bf16) (ix2 r k) = argD m c (ix2 (pos (bn t) r) k) := by
  show (V m c main_arg1 : FVec Ideal S2048x2048 .bf16) _ = _
  rw [V_main_arg1]
  blk_ext [places t]

theorem prepG (c : Dev nD) (k : Fin 2048) : (V m c main_v1 : FVec Ideal S1x2048 .f32) (ix2 0 k) = argG m c (ix1 k) := by
  unfold V
  after_results
  pointwise []

theorem readG (c : Dev nD) (t : Fin cfg0.N) (k : Fin 2048) : (iblk m c 2 t : Vec Ideal S1x2048 .f32) (ix2 0 k) = argG m c (ix1 k) := by
  rw [← prepG]
  show (V m c main_v1 : FVec Ideal S1x2048 .f32) _ = (V m c main_v1 : FVec Ideal S1x2048 .f32) _
  blk_ext [places t]

theorem prepL (c : Dev nD) (k : Fin 2048) : (V m c main_v2 : FVec Ideal S1x2048 .f32) (ix2 0 k) = argL m c (ix1 k) := by
  unfold V
  after_results
  pointwise []

theorem readL (c : Dev nD) (t : Fin cfg0.N) (k : Fin 2048) : (iblk m c 3 t : Vec Ideal S1x2048 .f32) (ix2 0 k) = argL m c (ix1 k) := by
  rw [← prepL]
  show (V m c main_v2 : FVec Ideal S1x2048 .f32) _ = (V m c main_v2 : FVec Ideal S1x2048 .f32) _
  blk_ext [places t]

theorem readW (c : Dev nD) (t : Fin cfg0.N) (g : Fin 8) (r k : Fin 128) : (iblk m c 4 t : Vec Ideal S8x128x128 .f32) (ix3 g r k) = argW m c (ix3 g r k) := by
  show (V m c main_arg4 : FVec Ideal S8x128x128 .f32) _ = _
  rw [V_main_arg4]
  blk_ext [places t]

theorem prepB (c : Dev nD) (r : Fin 128) (g : Fin 8) : (V m c main_v0 : FVec Ideal S128x8 .f32) (ix2 r g) = argB m c (ix2 g r) := by
  unfold V
  after_results
  pointwise []

theorem readB (c : Dev nD) (t : Fin cfg0.N) (g : Fin 8) (r : Fin 128) : (iblk m c 5 t : Vec Ideal S128x8 .f32) (ix2 r g) = argB m c (ix2 g r) := by
  rw [← prepB]
  show (V m c main_v0 : FVec Ideal S128x8 .f32) _ = (V m c main_v0 : FVec Ideal S128x8 .f32) _
  blk_ext [places t]

theorem ix3_split (j : S8x128x128.Idx) : j = ix3 (j 0) (j 1) (j 2) := by
  funext i
  fin_cases i <;> rfl

variable (c : Dev nD) {A : Fin 2048 → Fin 4096 → ℝ} {D : Fin 2048 → Fin 2048 → ℝ} {lg lb : Fin 2048 → ℝ}
  {W : Fin 8 → Fin 128 → Fin 128 → ℝ} {B : Fin 8 → Fin 128 → ℝ}
  (hA : ∀ r k, argA m c (ix2 r k) = (A r k : EReal)) (hD : ∀ r k, argD m c (ix2 r k) = (D r k : EReal))
  (hG : ∀ d, argG m c (ix1 d) = (lg d : EReal)) (hL : ∀ d, argL m c (ix1 d) = (lb d : EReal))
  (hW : ∀ g r k, argW m c (ix3 g r k) = (W g r k : EReal)) (hB : ∀ g r, argB m c (ix2 g r) = (B g r : EReal))

include hA hD hW in
theorem at_block (t : Fin cfg0.N) : ∃ X : Vec Ideal S128x2048 .f32, (∀ s d, X (ix2 s d) = (dv (rows A (bn t)) (rows D (bn t)) W s d : EReal))
    ∧ (outsAt0 m c t.val t.isLt).2.2.2.1 = k0_pay101 (k0_pay8 (iblk m c 0 t)) X (start9 m c t)
    ∧ (outsAt0 m c t.val t.isLt).2.2.2.2 = k0_pay102 X (start10 m c t)
    ∧ ∀ (r : Fin 128) (d : Fin 2048), ((outsAt0 m c t.val t.isLt).1 : Vec Ideal S128x4096 .bf16) (ix2 r (hi d)) = k0_pay103 (iblk m c 0 t) (k0_pay7 (iblk m c 0 t)) (k0_pay8 (iblk m c 0 t)) X (iblk m c 2 t) (ix2 r d) :=
  at_point m c t (a := rows A (bn t)) (D := rows D (bn t)) (W := W)
  (fun r k => (readA m c t r k).trans (hA _ _)) (fun r k => (readD m c t r k).trans (hD _ _)) (fun g r k => (readW m c t g r k).trans (hW _ _ _))

include hA hD hG hL hW hB in
theorem final_a : (dats m 0 c).arrAt 6 (cfgs 0).N = arrA A D lg lb W B := by
  have point : ∀ (t : Fin cfg0.N) (r : Fin 128) (l : Fin 4096), ((outsAt0 m c t.val t.isLt).1 : FVec Ideal S128x4096 .bf16) (ix2 r l) = arrA A D lg lb W B (ix2 (pos (bn t) r) l) := by
    intro t r l
    by_cases h : l.val < 2048
    · obtain ⟨d, rfl⟩ : ∃ d : Fin 2048, l = lo d := ⟨⟨l.val, h⟩, rfl⟩
      rw [arrA_lo]
      exact lo_point m c t (fun r k => (readA m c t r k).trans (hA _ _)) (fun r k => (readD m c t r k).trans (hD _ _)) (fun g r k => (readW m c t g r k).trans (hW _ _ _))
        (fun d => (readG m c t d).trans (hG _)) (fun d => (readL m c t d).trans (hL _)) (fun g r => (readB m c t g r).trans (hB _ _)) r d
    · obtain ⟨d, rfl⟩ : ∃ d : Fin 2048, l = hi d := ⟨⟨l.val - 2048, by omega⟩, Fin.ext (by show l.val = 2048 + (l.val - 2048); omega)⟩
      obtain ⟨X, hX, -, -, h6⟩ := at_block m c hA hD hW t
      rw [arrA_hi, h6]
      exact p103 (fun r k => (readA m c t r k).trans (hA _ _)) (fun d => (readG m c t d).trans (hG _)) hX r d
  refine (dats m 0 c).arrAt_eq_of_covers 6 _ (by decide +kernel) fun t _ y => ?_
  blk_simp
  rw [after0_6]
  have ey : (win0_6.blk t).view.emb y = ix2 (pos (bn t) (y 0)) (y 1) := by blk_ext [places t]
  rw [ey, eq_ix2 y]
  exact point t (y 0) (y 1)

include hA hD hG hL in
theorem final_w : (dats m 0 c).arrAt 7 (cfgs 0).N = arrW A D lg lb := by
  have point := fun (t : Fin cfg0.N) (j : S8x128x128.Idx) => dws_point m c t (fun r k => (readA m c t r k).trans (hA _ _)) (fun r k => (readD m c t r k).trans (hD _ _))
      (fun d => (readG m c t d).trans (hG _)) (fun d => (readL m c t d).trans (hL _)) (j 0) (j 1) (j 2)
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) (fun t j => (dws (rows A (bn t)) (rows D (bn t)) lg lb (j 0) (j 1) (j 2) : EReal))
    (fun t h j => by
      have e := point t j
      unfold start7 at e
      rw [if_pos h] at e
      refine (congrArg _ (ix3_split j)).trans (e.trans ?_)
      congr 1
      pointwise [k0_pay1])
    (fun t h j => by
      have e := point t j
      unfold start7 at e
      rw [if_neg h] at e
      rw [ix3_split j]
      exact e)
    (le_of_eq N_0) t0_15 rfl j, zero_add]
  rfl

include hA hD in
theorem final_b : (dats m 0 c).arrAt 8 (cfgs 0).N = arrB A D := by
  have point := fun (t : Fin cfg0.N) (j : S128x8.Idx) => dbs_point m c t (fun r k => (readA m c t r k).trans (hA _ _)) (fun r k => (readD m c t r k).trans (hD _ _)) (j 1) (j 0)
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) (fun t j => (dbs (rows A (bn t)) (rows D (bn t)) (j 0) (j 1) : EReal))
    (fun t h j => by
      have e := point t j
      unfold start8 at e
      rw [if_pos h] at e
      refine (congrArg _ (eq_ix2 j)).trans (e.trans ?_)
      congr 1
      pointwise [k0_pay2])
    (fun t h j => by
      have e := point t j
      unfold start8 at e
      rw [if_neg h] at e
      rw [eq_ix2 j]
      exact e)
    (le_of_eq N_0) t0_15 rfl j, zero_add]
  rfl

theorem p101 {a : Fin 128 → Fin 4096 → ℝ} {d : Fin 128 → Fin 2048 → ℝ} {W : Fin 8 → Fin 128 → Fin 128 → ℝ} {Y : Vec Ideal S128x4096 .f32} (hY : ∀ r k, Y (ix2 r k) = (a r k : EReal))
    {X : Vec Ideal S128x2048 .f32} (hX : ∀ s k, X (ix2 s k) = (dv a d W s k : EReal)) (S : Vec Ideal S1x2048 .f32) (k : Fin 2048) :
    k0_pay101 (F := Ideal) (k0_pay8 Y) X S (ix2 0 k) = S (ix2 0 k) + (dlg a d W k : EReal) := by
  pointwise [k0_pay101]
  simp only [p8 hY, hX, ← EReal.coe_mul, Cert.Reals.coe_sum]
  rfl

theorem p102 {a : Fin 128 → Fin 4096 → ℝ} {d : Fin 128 → Fin 2048 → ℝ} {W : Fin 8 → Fin 128 → Fin 128 → ℝ}
    {X : Vec Ideal S128x2048 .f32} (hX : ∀ s k, X (ix2 s k) = (dv a d W s k : EReal)) (S : Vec Ideal S1x2048 .f32) (k : Fin 2048) :
    k0_pay102 (F := Ideal) X S (ix2 0 k) = S (ix2 0 k) + (dlb a d W k : EReal) := by
  pointwise [k0_pay102]
  simp only [hX, Cert.Reals.coe_sum]
  rfl

include hA hD hW in
theorem final_g : (dats m 0 c).arrAt 9 (cfgs 0).N = arrG A D W := by
  have point : ∀ (t : Fin cfg0.N) (k : Fin 2048), ((outsAt0 m c t.val t.isLt).2.2.2.1 : Vec Ideal S1x2048 .f32) (ix2 0 k) = start9 m c t (ix2 0 k) + (dlg (rows A (bn t)) (rows D (bn t)) W k : EReal) := fun t k => by
    obtain ⟨X, hX, h9, -, -⟩ := at_block m c hA hD hW t
    rw [h9]
    exact p101 (fun r k => (readA m c t r k).trans (hA _ _)) hX _ k
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) (fun t j => (dlg (rows A (bn t)) (rows D (bn t)) W (j 1) : EReal))
    (fun t h j => by
      have e := point t (j 1)
      unfold start9 at e
      rw [if_pos h] at e
      refine (congrArg _ (Cert.Reals.eq_ix2_zero j)).trans (e.trans ?_)
      congr 1
      pointwise [k0_pay3])
    (fun t h j => by
      have e := point t (j 1)
      unfold start9 at e
      rw [if_neg h] at e
      rw [Cert.Reals.eq_ix2_zero j]
      exact e)
    (le_of_eq N_0) t0_15 rfl j, zero_add]
  rfl

include hA hD hW in
theorem final_l : (dats m 0 c).arrAt 10 (cfgs 0).N = arrL A D W := by
  have point : ∀ (t : Fin cfg0.N) (k : Fin 2048), ((outsAt0 m c t.val t.isLt).2.2.2.2 : Vec Ideal S1x2048 .f32) (ix2 0 k) = start10 m c t (ix2 0 k) + (dlb (rows A (bn t)) (rows D (bn t)) W k : EReal) := fun t k => by
    obtain ⟨X, hX, -, h10, -⟩ := at_block m c hA hD hW t
    rw [h10]
    exact p102 hX _ k
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) (fun t j => (dlb (rows A (bn t)) (rows D (bn t)) W (j 1) : EReal))
    (fun t h j => by
      have e := point t (j 1)
      unfold start10 at e
      rw [if_pos h] at e
      refine (congrArg _ (Cert.Reals.eq_ix2_zero j)).trans (e.trans ?_)
      congr 1
      pointwise [k0_pay4])
    (fun t h j => by
      have e := point t (j 1)
      unfold start10 at e
      rw [if_neg h] at e
      rw [Cert.Reals.eq_ix2_zero j]
      exact e)
    (le_of_eq N_0) t0_15 rfl j, zero_add]
  rfl

/-- The kernel's run from arguments that are real numbers: its results are the gradient arrays, and its arguments end unchanged. -/
theorem run_arrays (g : Dev nD → PrngReg) : θ_run (defs (F := Ideal)) (onTc (τ := τ) (main (F := Ideal))) ⟨m, fun _ => 0, g⟩ fun r => ∀ c : Dev nD,
    (∀ (A : Fin 2048 → Fin 4096 → ℝ) (D : Fin 2048 → Fin 2048 → ℝ) (lg lb : Fin 2048 → ℝ) (W : Fin 8 → Fin 128 → Fin 128 → ℝ) (B : Fin 8 → Fin 128 → ℝ),
      (∀ r k, argA m c (ix2 r k) = (A r k : EReal)) → (∀ r k, argD m c (ix2 r k) = (D r k : EReal)) → (∀ d, argG m c (ix1 d) = (lg d : EReal)) →
      (∀ d, argL m c (ix1 d) = (lb d : EReal)) → (∀ g r k, argW m c (ix3 g r k) = (W g r k : EReal)) → (∀ g r, argB m c (ix2 g r) = (B g r : EReal)) →
      r.2.mem ((c : Thread nD τ).loc main_v3_0) = arrA A D lg lb W B ∧ r.2.mem ((c : Thread nD τ).loc main_v3_1) = arrW A D lg lb
        ∧ r.2.mem ((c : Thread nD τ).loc main_v3_2) = arrB A D ∧ r.2.mem ((c : Thread nD τ).loc main_v3_3) = arrG A D W
        ∧ r.2.mem ((c : Thread nD τ).loc main_v3_4) = arrL A D W)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ h c => ⟨fun A D lg lb W B hA hD hG hL hW hB =>
    ⟨(h c).1.trans (final_a m c hA hD hG hL hW hB), (h c).2.1.trans (final_w m c hA hD hG hL), (h c).2.2.1.trans (final_b m c hA hD),
      (h c).2.2.2.1.trans (final_g m c hA hD hW), (h c).2.2.2.2.1.trans (final_l m c hA hD hW)⟩, (h c).2.2.2.2.2⟩) (run_blocks m g)

end Cert.SguBwdIdeal.Value
-- ==== Proof.SguRefForward.lean ====
/- What the gated mixing's reference computes, up to the mixed half. -/
module

public import proofs.«01_k».proof.Proof.Gen.SguRefIdeal.Run
public import proofs.«01_k».proof.Proof.Gen.SguRefIdeal.Read
public import Idealize.ShloMosaic.Lib.Pipeline.ValueKit
public import Idealize.ShloMosaic.Lib.Pointwise
public import proofs.«01_k».proof.Proof.SguMath

@[expose] public section

set_option maxRecDepth 16384
noncomputable section
open Idealize.ShloMosaic Idealize.ShloMosaic.TcCoe Idealize.SL.Sem

namespace Cert.SguRefIdeal.Value
open Cert.SguRefIdeal Cert.SguRefIdeal.Gen Cert.SguRefIdeal.Read Cert.Sgu

variable {A : FVec Ideal S2048x4096 .f32} {D : FVec Ideal S2048x2048 .bf16} {G L : FVec Ideal S2048 .f32} {W : FVec Ideal S8x128x128 .f32} {B : FVec Ideal S8x128 .f32}
  {a : Fin 2048 → Fin 4096 → ℝ} {e : Fin 2048 → Fin 2048 → ℝ} {lg lb : Fin 2048 → ℝ} {w : Fin 8 → Fin 128 → Fin 128 → ℝ} {b : Fin 8 → Fin 128 → ℝ}
  (hA : ∀ r k, A (ix2 r k) = (a r k : EReal)) (hD : ∀ r k, D (ix2 r k) = (e r k : EReal)) (hG : ∀ d, G (ix1 d) = (lg d : EReal))
  (hL : ∀ d, L (ix1 d) = (lb d : EReal)) (hW : ∀ g r k, W (ix3 g r k) = (w g r k : EReal)) (hB : ∀ g r, B (ix2 g r) = (b g r : EReal))

theorem two_eq : Ideal.ofBits FTy.f32 1073741824#32 = ((2 : ℝ) : EReal) := by
  simp [Ideal.ofBits, Ideal.ieee]
  rw [← EReal.coe_mul]; norm_num
theorem four_eq : Ideal.ofBits FTy.f32 1082130432#32 = ((4 : ℝ) : EReal) := by
  simp [Ideal.ofBits, Ideal.ieee]
  rw [← EReal.coe_mul]; norm_num
theorem minusTwo_eq : Ideal.ofBits FTy.f32 3221225472#32 = ((-2 : ℝ) : EReal) := by
  simp [Ideal.ofBits, Ideal.ieee]
  rw [← EReal.coe_mul]; norm_num
theorem root_coe : Ideal.sqrt (Ideal.ofBits FTy.f32 1073741824#32) = (Real.sqrt 2 : EReal) := by
  rw [two_eq, Ideal.sqrt_coe, if_neg (by norm_num)]
theorem by_root (x : ℝ) : Ideal.div (-(x : EReal)) (Ideal.sqrt (Ideal.ofBits FTy.f32 1073741824#32)) = ((-x * (1 / Real.sqrt 2) : ℝ) : EReal) := by
  rw [root_coe, Ideal.div_coe (by positivity), ← EReal.coe_neg, ← EReal.coe_mul]
theorem erfc_coe (x : ℝ) : Ideal.erfc ((-x * (1 / Real.sqrt 2) : ℝ) : EReal) = ((1 + erfR (x * (Real.sqrt 2)⁻¹) : ℝ) : EReal) := by
  rw [neg_mul, EReal.coe_neg, Ideal.erfc_neg, one_div, erf_coe, ← EReal.coe_one, ← EReal.coe_add]
theorem quarter_coe : Ideal.atan2 1 1 = ((Real.pi / 4 : ℝ) : EReal) := by
  rw [← EReal.coe_one]
  show (((if (0 : ℝ) < 1 then Real.arctan (1 / 1) else _ : ℝ)) : EReal) = _
  rw [if_pos one_pos, div_one, Real.arctan_one]
theorem dens_coe : Ideal.div (Ideal.ofBits FTy.f32 3221225472#32) (Ideal.sqrt (Ideal.ofBits FTy.f32 1082130432#32 * Ideal.atan2 1 1))
    = ((-2 * (1 / Real.sqrt (4 * (Real.pi / 4))) : ℝ) : EReal) := by
  have h : 0 < 4 * (Real.pi / 4) := by positivity
  rw [quarter_coe, four_eq, ← EReal.coe_mul, Ideal.sqrt_coe, if_neg h.le.not_gt, Ideal.div_coe (by positivity), minusTwo_eq, ← EReal.coe_mul]

/-! Positions and channels, from their numbers. -/

theorem pos_div (n : Fin 16) (r : Fin 128) (h) : (⟨(n.val * 128 + r.val) / 128, h⟩ : Fin 16) = n := Fin.ext (by dsimp only; omega)
theorem pos_mod (n : Fin 16) (r : Fin 128) (h) : (⟨(n.val * 128 + r.val) % 128, h⟩ : Fin 128) = r := Fin.ext (by dsimp only; omega)
theorem chan_eq (d : Fin 2048) (h h' h'') : (⟨(⟨d.val / 256, h⟩ : Fin 8).val * 256 + (⟨d.val % 256, h'⟩ : Fin 256).val, h''⟩ : Fin 2048) = d := Fin.ext (by dsimp only; omega)

include hA in
theorem r9 (r : Fin 2048) (k : Fin 4096) : val_main_v9 (F := Ideal) A (ix3 0 r k) = ((1 + erfR (a r k * (Real.sqrt 2)⁻¹) : ℝ) : EReal) := by
  pointwise [val_main_v9, val_main_v8, val_main_v7, val_main_v6, val_main_cst_0, val_main_v5, val_main_v2]
  rw [hA, by_root, erfc_coe]

include hA in
/-- The linear unit. -/
theorem r19 (r : Fin 2048) (k : Fin 4096) : val_main_v19 (F := Ideal) A (ix3 0 r k) = (gelu (a r k) : EReal) := by
  pointwise [val_main_v19, val_main_v4, val_main_v2, val_main_v3, val_main_cst]
  rw [r9 hA, hA, half_eq, ← EReal.coe_mul, ← EReal.coe_mul]
  rfl

include hA in
/-- The derivative of the complementary error function. -/
theorem r18 (r : Fin 2048) (k : Fin 4096) : val_main_v18 (F := Ideal) A (ix3 0 r k) = ((-2 * (1 / Real.sqrt (4 * (Real.pi / 4))) * Real.exp (-(-a r k * (1 / Real.sqrt 2)) * (-a r k * (1 / Real.sqrt 2))) : ℝ) : EReal) := by
  pointwise [val_main_v18, val_main_v16, val_main_v15, val_main_v14, val_main_v8, val_main_v7, val_main_v6, val_main_cst_0, val_main_v5, val_main_v2, val_main_v17, val_main_v13, val_main_v12, val_main_v11, val_main_v10, val_main_cst_2, val_main_cst_1, val_main_cst_3, val_main_cst_4]
  rw [hA, by_root, ← EReal.coe_neg, ← EReal.coe_mul, Ideal.exp_coe, dens_coe, ← EReal.coe_mul]

include hA in
/-- The gating half. -/
theorem r20 (n : Fin 16) (r : Fin 128) (d : Fin 2048) : val_main_v20 (F := Ideal) A (ix3 0 (pos n r) d) = (u (rows a n) r d : EReal) := by
  pointwise [val_main_v20]
  rw [r19 hA]
  rfl

include hA in
/-- The centred mixed half. -/
theorem r27 (n : Fin 16) (r : Fin 128) (d : Fin 2048) : val_main_v27 (F := Ideal) A (ix3 0 (pos n r) d) = (xc (rows a n) r d : EReal) := by
  pointwise [val_main_v27, val_main_v26, val_main_v25, val_main_v24, val_main_cst_6, val_main_v23, val_main_v22, val_main_cst_5, val_main_v21]
  simp only [r19 hA, mean_coe, ← EReal.coe_sub]
  rfl

include hA in
theorem r34 (n : Fin 16) (r : Fin 128) (z : Fin 1) : val_main_v34 (F := Ideal) A (ix3 0 (pos n r) z) = (var (rows a n) r : EReal) := by
  pointwise [val_main_v34, val_main_v33, val_main_cst_9, val_main_v32, val_main_v31, val_main_cst_8, val_main_v30, val_main_v29, val_main_cst_7, val_main_v28]
  simp only [r27 hA, ← EReal.coe_mul, mean_coe, tiny_eq, ← EReal.coe_add]
  rfl

include hA in
theorem r35 (n : Fin 16) (r : Fin 128) (z : Fin 1) : val_main_v35 (F := Ideal) A (ix3 0 (pos n r) z) = (rs (rows a n) r : EReal) := by
  pointwise [val_main_v35]
  rw [r34 hA, Ideal.rsqrt_coe, if_neg (var_pos _ r).le.not_gt, if_neg (var_pos _ r).ne']
  rfl

include hA in
/-- The derivative of the inverse root. -/
theorem r38 (n : Fin 16) (r : Fin 128) (z : Fin 1) : val_main_v38 (F := Ideal) A (ix3 0 (pos n r) z) = ((-(1 / 2) * (rs (rows a n) r * (1 / var (rows a n) r)) : ℝ) : EReal) := by
  pointwise [val_main_v38, val_main_v36, val_main_v37, val_main_cst_10]
  rw [r34 hA, r35 hA, Ideal.div_coe (var_pos _ r).ne', show Ideal.ofBits FTy.f32 3204448256#32 = _ from Cert.Norm.minusHalf_eq, ← EReal.coe_mul, ← EReal.coe_mul]

include hA in
/-- The normalised half. -/
theorem r40 (n : Fin 16) (r : Fin 128) (d : Fin 2048) : val_main_v40 (F := Ideal) A (ix3 0 (pos n r) d) = (xh (rows a n) r d : EReal) := by
  pointwise [val_main_v40, val_main_v39]
  rw [r27 hA, r35 hA, ← EReal.coe_mul]
  rfl

include hA hG hL in
theorem r46 (n : Fin 16) (r : Fin 128) (d : Fin 2048) : val_main_v46 (F := Ideal) A G L (ix3 0 (pos n r) d) = (vl (rows a n) lg lb r d : EReal) := by
  pointwise [val_main_v46, val_main_v45, val_main_v44, val_main_v43, val_main_v42, val_main_v41]
  rw [r40 hA, hG, hL, ← EReal.coe_mul, ← EReal.coe_add]
  rfl

include hA hG hL in
theorem r58 (n : Fin 16) (r : Fin 128) (g : Fin 8) (l : Fin 256) : val_main_v58 (F := Ideal) A G L (ix5 0 n r g l) = (vl (rows a n) lg lb r (chan g l) : EReal) := by
  pointwise [val_main_v58]
  exact r46 hA hG hL n r (chan g l)

/-- The mask. -/
theorem r54 (t s : Fin 128) : val_main_v54 (F := Ideal) (ix2 t s) = if s.val / 64 ≤ t.val / 64 then 1#1 else 0#1 := by
  pointwise [val_main_v54, val_main_v53, val_main_v51, val_main_call1_v13, val_main_call1_v12, val_main_call1_c_0, val_main_call1_v2, val_main_call1_v1, val_main_call1_v11, val_main_call1_v10, val_main_call1_v9, val_main_call1_c, val_main_call1_v8, val_main_call1_v7, val_main_call1_v6, val_main_call1_v5, val_main_call1_v4, val_main_call1_v0, val_main_c_11, val_main_call1_v3, val_main_v50, val_main_v52, val_main_v49, val_main_call0_v13, val_main_call0_v12, val_main_call0_c_0, val_main_call0_v2, val_main_call0_v1, val_main_call0_v11, val_main_call0_v10, val_main_call0_v9, val_main_call0_c, val_main_call0_v8, val_main_call0_v7, val_main_call0_v6, val_main_call0_v5, val_main_call0_v4, val_main_call0_v0, val_main_c, val_main_call0_v3, val_main_v48, val_main_v47]
  revert t s
  decide +kernel

include hW in
/-- The masked weights. -/
theorem r57 (g : Fin 8) (t s : Fin 128) : val_main_v57_0 (F := Ideal) W (ix3 g t s) = (wm w g t s : EReal) := by
  pointwise [val_main_v57_0, val_main_v56, val_main_cst_12, val_main_v57_1, val_main_v55]
  rw [r54, hW]
  unfold wm
  split <;> simp [Scalar.select]

include hA hG hL hW in
theorem r60 (n : Fin 16) (r : Fin 128) (g : Fin 8) (l : Fin 256) : val_main_v60 (F := Ideal) A G L W (ix5 0 n r g l) = ((∑ s, wm w g r s * vl (rows a n) lg lb s (chan g l) : ℝ) : EReal) := by
  pointwise [val_main_v60, val_main_v59]
  simp only [r58 hA hG hL, r57 hW, ← EReal.coe_mul, Cert.Reals.coe_sum, mul_comm]

include hA hG hL hW hB in
/-- The mixed half. -/
theorem r66 (n : Fin 16) (r : Fin 128) (d : Fin 2048) : val_main_v66 (F := Ideal) A G L W B (ix3 0 (pos n r) d) = (sp (rows a n) lg lb w b r d : EReal) := by
  pointwise [val_main_v66, val_main_v65, val_main_v64, val_main_v63, val_main_v62, val_main_v61]
  simp only [pos_div, pos_mod]
  rw [r60 hA hG hL hW, hB, ← EReal.coe_add]
  simp only [chan_eq]
  rfl
end Cert.SguRefIdeal.Value
-- ==== Proof.SguRefSums.lean ====
/- The sums over several axes at once of the gated mixing's reference. -/
module

public import proofs.«01_k».proof.Proof.Gen.SguRefIdeal.Run
public import proofs.«01_k».proof.Proof.Gen.SguRefIdeal.Read
public import Idealize.ShloMosaic.Lib.Pipeline.ValueKit
public import Idealize.ShloMosaic.Lib.Pointwise
public import proofs.«01_k».proof.Proof.SguMath
public import proofs.«01_k».proof.Proof.SguRefForward

@[expose] public section

set_option maxRecDepth 16384
noncomputable section
open Idealize.ShloMosaic Idealize.ShloMosaic.TcCoe Idealize.SL.Sem

namespace Cert.SguRefIdeal.Value
open Cert.SguRefIdeal Cert.SguRefIdeal.Gen Cert.SguRefIdeal.Read Cert.Sgu

/-- A sum over several axes, listed by the positions `g k` that fall onto `j`. -/
theorem reduce_by {s t u : Shape} {axes : List (Fin s.rank)} (h : s.ReducesTo axes t) (hu : 0 < u.numel) (x : FVec Ideal s .f32) (init : FVec Ideal u .f32)
    {κ : Type} [Fintype κ] (g : κ → s.Idx) (f : s.Idx → κ) (j : t.Idx) (hi : init (Shape.Idx.first hu) = 0)
    (hj : ∀ k, h.drop (g k) = j) (hf : ∀ k, f (g k) = k) (hg : ∀ i, h.drop i = j → g (f i) = i) :
    Host.reduceAdd x init h hu j = ∑ k, x (g k) := by
  show init (Shape.Idx.first hu) + ∑ i ∈ Finset.univ.filter (fun i => h.drop i = j), x i = _
  rw [hi, zero_add]
  refine Finset.sum_filter_eq_sum_of_fiber _ g (fun a b e => ?_) (fun i => ⟨fun e => ⟨f i, hg i e⟩, ?_⟩) _
  · rw [← hf a, ← hf b, e]
  · rintro ⟨k, rfl⟩
    exact hj k

theorem zero_first (x : FVec Ideal S_ .f32) (hx : x = constant S_ .f32 0x00000000#32) (h : 0 < S_.numel) : x (Shape.Idx.first h) = 0 := by
  subst hx
  exact (by simp [Ideal.ofBits, Ideal.ieee] : Ideal.ofBits FTy.f32 0#32 = 0)

theorem sum_both (x : FVec Ideal S1x16x128x8x256 .f32) (init) (hi : init = constant S_ .f32 0x00000000#32) (r : Fin 128) (g : Fin 8) :
    Host.reduceAdd x init reducesTo_S1x16x128x8x256_S1x128x8_d1_4 h_S_ (ix3 0 r g) = ∑ k : Fin 16 × Fin 256, x (ix5 0 k.1 r g k.2) := by
  refine reduce_by _ _ x init (fun k : Fin 16 × Fin 256 => ix5 0 k.1 r g k.2) (fun i => (i 1, i 4)) _ (zero_first _ hi _) (fun k => ?_) (fun k => rfl) (fun i h => ?_)
  · funext p
    fin_cases p <;> rfl
  · have h1 := congrFun h 1
    have h2 := congrFun h 2
    funext p
    fin_cases p
    · exact Subsingleton.elim (α := Fin 1) _ _
    · rfl
    · exact h1.symm
    · exact h2.symm
    · rfl

theorem sum_ones (x : FVec Ideal S1x1x128x8x1 .f32) (init) (hi : init = constant S_ .f32 0x00000000#32) (r : Fin 128) (g : Fin 8) :
    Host.reduceAdd x init reducesTo_S1x1x128x8x1_S128x8_d0_1_4 h_S_ (ix2 r g) = x (ix5 0 0 r g 0) := by
  refine (reduce_by _ _ x init (fun _ : Fin 1 => ix5 0 0 r g 0) (fun _ => 0) _ (zero_first _ hi _) (fun k => ?_) (fun k => (Subsingleton.elim _ _)) (fun i h => ?_)).trans (Fin.sum_univ_one _)
  · funext p
    fin_cases p <;> rfl
  · have h1 := congrFun h 0
    have h2 := congrFun h 1
    funext p
    fin_cases p
    · exact Subsingleton.elim (α := Fin 1) _ _
    · exact Subsingleton.elim (α := Fin 1) _ _
    · exact h1.symm
    · exact h2.symm
    · exact Subsingleton.elim (α := Fin 1) _ _

theorem sum_row (x : FVec Ideal S1x1x2048 .f32) (init) (hi : init = constant S_ .f32 0x00000000#32) (d : Fin 2048) :
    Host.reduceAdd x init reducesTo_S1x1x2048_S2048_d0_1 h_S_ (ix1 d) = x (ix3 0 0 d) := by
  refine (reduce_by _ _ x init (fun _ : Fin 1 => ix3 0 0 d) (fun _ => 0) _ (zero_first _ hi _) (fun k => ?_) (fun k => (Subsingleton.elim _ _)) (fun i h => ?_)).trans (Fin.sum_univ_one _)
  · funext p
    fin_cases p
    rfl
  · have h1 := congrFun h 0
    funext p
    fin_cases p
    · exact Subsingleton.elim (α := Fin 1) _ _
    · exact Subsingleton.elim (α := Fin 1) _ _
    · exact h1.symm

theorem sum_col (x : FVec Ideal S1x2048x1 .f32) (init) (hi : init = constant S_ .f32 0x00000000#32) (d : Fin 2048) :
    Host.reduceAdd x init reducesTo_S1x2048x1_S2048_d0_2 h_S_ (ix1 d) = x (ix3 0 d 0) := by
  refine (reduce_by _ _ x init (fun _ : Fin 1 => ix3 0 d 0) (fun _ => 0) _ (zero_first _ hi _) (fun k => ?_) (fun k => (Subsingleton.elim _ _)) (fun i h => ?_)).trans (Fin.sum_univ_one _)
  · funext p
    fin_cases p
    rfl
  · have h1 := congrFun h 0
    funext p
    fin_cases p
    · exact Subsingleton.elim (α := Fin 1) _ _
    · exact h1.symm
    · exact Subsingleton.elim (α := Fin 1) _ _

/-- The product over blocks and channels, as a sum over both. -/
theorem dot_both (x : FVec Ideal S8x1x16x256x128 .f32) (y : FVec Ideal S1x16x128x8x256 .f32) (g : Fin 8) (t s : Fin 128) :
    Host.dotGeneral dot_S8x1x16x256x128_S1x16x128x8x256_S8x128x128_123_014_4_2_0_3 none x y (ix3 g t s)
      = ∑ k : Fin 16 × Fin 256, x (ix5 g 0 k.1 k.2 t) * y (ix5 0 k.1 s g k.2) := by
  let c (k : Fin 16 × Fin 256) : dot_S8x1x16x256x128_S1x16x128x8x256_S8x128x128_123_014_4_2_0_3.contr.Idx := fun p => match p with
    | ⟨0, _⟩ => (0 : Fin 1) | ⟨1, _⟩ => k.1 | ⟨2, _⟩ => k.2
  have hl (k) : DotDims.lhsIdx _ (ix3 g t s) (c k) = ix5 g 0 k.1 k.2 t := by
    funext p
    fin_cases p <;> rfl
  have hr (k) : DotDims.rhsIdx _ (ix3 g t s) (c k) = ix5 0 k.1 s g k.2 := by
    funext p
    fin_cases p <;> rfl
  refine Eq.trans (b := (0 : EReal) + ∑ k : dot_S8x1x16x256x128_S1x16x128x8x256_S8x128x128_123_014_4_2_0_3.contr.Idx, x (DotDims.lhsIdx _ (ix3 g t s) k) * y (DotDims.rhsIdx _ (ix3 g t s) k)) rfl ?_
  rw [zero_add]
  refine (Fintype.sum_bijective c ⟨fun a b e => Prod.ext (congrFun e (1 : Fin 3)) (congrFun e (2 : Fin 3)), fun i => ⟨(i (1 : Fin 3), i (2 : Fin 3)), ?_⟩⟩ _ _ fun k => ?_).symm
  · funext p
    fin_cases p
    · exact Subsingleton.elim (α := Fin 1) _ _
    · rfl
    · rfl
  · rw [hl, hr]
end Cert.SguRefIdeal.Value
-- ==== Proof.SguRefValue.lean ====
/- What the gated mixing's reference computes: the gradients. -/
module

public import proofs.«01_k».proof.Proof.Gen.SguRefIdeal.Run
public import proofs.«01_k».proof.Proof.Gen.SguRefIdeal.Read
public import Idealize.ShloMosaic.Lib.Pipeline.ValueKit
public import Idealize.ShloMosaic.Lib.Pointwise
public import proofs.«01_k».proof.Proof.SguMath
public import proofs.«01_k».proof.Proof.SguRefForward
public import proofs.«01_k».proof.Proof.SguRefSums

@[expose] public section

set_option maxRecDepth 16384
noncomputable section
open Idealize.ShloMosaic Idealize.ShloMosaic.TcCoe Idealize.SL.Sem

namespace Cert.SguRefIdeal.Value
open Cert.SguRefIdeal Cert.SguRefIdeal.Gen Cert.SguRefIdeal.Read Cert.Sgu

variable {A : FVec Ideal S2048x4096 .f32} {D : FVec Ideal S2048x2048 .bf16} {G L : FVec Ideal S2048 .f32} {W : FVec Ideal S8x128x128 .f32} {B : FVec Ideal S8x128 .f32}
  {a : Fin 2048 → Fin 4096 → ℝ} {e : Fin 2048 → Fin 2048 → ℝ} {lg lb : Fin 2048 → ℝ} {w : Fin 8 → Fin 128 → Fin 128 → ℝ} {b : Fin 8 → Fin 128 → ℝ}
  (hA : ∀ r k, A (ix2 r k) = (a r k : EReal)) (hD : ∀ r k, D (ix2 r k) = (e r k : EReal)) (hG : ∀ d, G (ix1 d) = (lg d : EReal))
  (hL : ∀ d, L (ix1 d) = (lb d : EReal)) (hW : ∀ g r k, W (ix3 g r k) = (w g r k : EReal)) (hB : ∀ g r, B (ix2 g r) = (b g r : EReal))

theorem sum_pos (f : Fin 2048 → EReal) : ∑ x, f x = ∑ n, ∑ r, f (pos n r) := by
  rw [← (finProdFinEquiv (m := 16) (n := 128)).sum_comp f, Fintype.sum_prod_type]
  refine Finset.sum_congr rfl fun n _ => Finset.sum_congr rfl fun r _ => congrArg f (Fin.ext ?_)
  simp [finProdFinEquiv]
  omega
theorem grp_chan (g : Fin 8) (l : Fin 256) : grp (chan g l) = g := Fin.ext (by simp only [grp, chan]; omega)
theorem split_eq (d : Fin 2048) (h) : (⟨d.val / 256 * 256 + d.val % 256, h⟩ : Fin 2048) = d := Fin.ext (by dsimp only; omega)
theorem eq_pos (r : Fin 2048) : r = pos ⟨r.val / 128, by omega⟩ ⟨r.val % 128, by omega⟩ := Fin.ext (by dsimp only; omega)

include hA hD in
/-- The gradient reaching the mixed half. -/
theorem r68 (n : Fin 16) (r : Fin 128)(d : Fin 2048) : val_main_v68 (F := Ideal) A D (ix3 0 (pos n r) d) = (ds (rows a n) (rows e n) r d : EReal) := by
  pointwise [val_main_v68, val_main_v1, val_main_v0]
  rw [r20 hA, hD, ← EReal.coe_mul, mul_comm]
  rfl

include hA hD in
theorem r70 (n : Fin 16) (r : Fin 128)(g : Fin 8) (l : Fin 256) : val_main_v70 (F := Ideal) A D (ix5 0 n r g l) = (ds (rows a n) (rows e n) r (chan g l) : EReal) := by
  pointwise [val_main_v70]
  exact r68 hA hD n r (chan g l)

include hA hD in
theorem r77 (n : Fin 16) (r : Fin 128)(g : Fin 8) (l : Fin 256) : val_main_v77 (F := Ideal) A D (ix5 g 0 n l r) = (ds (rows a n) (rows e n) r (chan g l) : EReal) := by
  pointwise [val_main_v77]
  exact r70 hA hD n r g l

include hA hD hW in
theorem r80 (n : Fin 16) (r : Fin 128)(g : Fin 8) (l : Fin 256) : val_main_v80 (F := Ideal) A D W (ix5 0 n r g l) = ((∑ t, wm w g t r * ds (rows a n) (rows e n) t (chan g l) : ℝ) : EReal) := by
  pointwise [val_main_v80, val_main_v79]
  simp only [r77 hA hD, r57 hW, ← EReal.coe_mul, Cert.Reals.coe_sum, mul_comm]

include hA hD hW in
/-- The gradient of the values. -/
theorem r81 (n : Fin 16) (r : Fin 128)(d : Fin 2048) : val_main_v81 (F := Ideal) A D W (ix3 0 (pos n r) d) = (dv (rows a n) (rows e n) w r d : EReal) := by
  pointwise [val_main_v81]
  simp only [pos_div, pos_mod]
  rw [r80 hA hD hW]
  simp only [chan, split_eq]
  rfl

include hA hD hG hW in
theorem r90 (n : Fin 16) (r : Fin 128)(d : Fin 2048) : val_main_v90 (F := Ideal) A D G W (ix3 0 (pos n r) d) = (dxh (rows a n) (rows e n) lg w r d : EReal) := by
  pointwise [val_main_v90, val_main_v89, val_main_v41]
  rw [r81 hA hD hW, hG, ← EReal.coe_mul]
  rfl

include hA hD hG hW in
theorem r96 (n : Fin 16) (r : Fin 128)(d : Fin 2048) : val_main_v96 (F := Ideal) A D G W (ix3 0 (pos n r) d) = ((dxh (rows a n) (rows e n) lg w r d * rs (rows a n) r : ℝ) : EReal) := by
  pointwise [val_main_v96, val_main_v95]
  rw [r90 hA hD hG hW, r35 hA, ← EReal.coe_mul]

/-- What the variance hands to every channel. -/
def pull (A : Fin 128 → Fin 4096 → ℝ) (D : Fin 128 → Fin 2048 → ℝ) (lg : Fin 2048 → ℝ) (W : Fin 8 → Fin 128 → Fin 128 → ℝ) (t : Fin 128) : ℝ :=
  (∑ k, xc A t k * dxh A D lg W t k) * (-(1 / 2) * (rs A t * (1 / var A t))) * (1 / 2048)

include hA hD hG hW in
theorem r99 (n : Fin 16) (r : Fin 128)(z : Fin 1) : val_main_v99 (F := Ideal) A D G W (ix3 0 (pos n r) z) = (pull (rows a n) (rows e n) lg w r : EReal) := by
  pointwise [val_main_v99, val_main_v98, val_main_cst_21, val_main_v97, val_main_v94, val_main_v93, val_main_cst_20, val_main_v92]
  simp only [r27 hA, r90 hA hD hG hW, r38 hA, ← EReal.coe_mul, Cert.Reals.coe_sum]
  rw [show Ideal.ofBits FTy.f32 1157627904#32 = _ from Cert.Norm.len_eq, Ideal.div_coe (by norm_num), ← EReal.coe_mul]
  rfl

include hA hD hG hW in
theorem r100 (n : Fin 16) (r : Fin 128) : val_main_v100 (F := Ideal) A D G W (ix1 (pos n r)) = (pull (rows a n) (rows e n) lg w r : EReal) :=
  (sum_col _ _ rfl _).trans (r99 hA hD hG hW n r 0)

include hA hD hG hW in
theorem r106 (n : Fin 16) (r : Fin 128)(d : Fin 2048) : val_main_v106 (F := Ideal) A D G W (ix3 0 (pos n r) d) = ((dxh (rows a n) (rows e n) lg w r d * rs (rows a n) r + xc (rows a n) r d * pull (rows a n) (rows e n) lg w r + pull (rows a n) (rows e n) lg w r * xc (rows a n) r d : ℝ) : EReal) := by
  pointwise [val_main_v106, val_main_v105, val_main_v104, val_main_v103, val_main_v102, val_main_v101]
  rw [r96 hA hD hG hW, r27 hA, r100 hA hD hG hW, ← EReal.coe_mul, ← EReal.coe_mul, ← EReal.coe_add, ← EReal.coe_add]

include hA hD hG hW in
theorem r111 (n : Fin 16) (r : Fin 128)(z : Fin 1) : val_main_v111 (F := Ideal) A D G W (ix3 0 (pos n r) z) = (((∑ k, -(dxh (rows a n) (rows e n) lg w r k * rs (rows a n) r + xc (rows a n) r k * pull (rows a n) (rows e n) lg w r + pull (rows a n) (rows e n) lg w r * xc (rows a n) r k)) * (1 / 2048) : ℝ) : EReal) := by
  pointwise [val_main_v111, val_main_v110, val_main_cst_24, val_main_v109, val_main_v108, val_main_cst_23, val_main_v107]
  simp only [r106 hA hD hG hW, ← EReal.coe_neg, Cert.Reals.coe_sum]
  rw [show Ideal.ofBits FTy.f32 1157627904#32 = _ from Cert.Norm.len_eq, Ideal.div_coe (by norm_num), ← EReal.coe_mul]

include hA hD hG hW in
theorem r112 (n : Fin 16) (r : Fin 128) : val_main_v112 (F := Ideal) A D G W (ix1 (pos n r)) = (((∑ k, -(dxh (rows a n) (rows e n) lg w r k * rs (rows a n) r + xc (rows a n) r k * pull (rows a n) (rows e n) lg w r + pull (rows a n) (rows e n) lg w r * xc (rows a n) r k)) * (1 / 2048) : ℝ) : EReal) :=
  (sum_col _ _ rfl _).trans (r111 hA hD hG hW n r 0)

include hA hD hG hW in
/-- The gradient through the norm. -/
theorem r115 (n : Fin 16) (r : Fin 128)(d : Fin 2048) : val_main_v115 (F := Ideal) A D G W (ix3 0 (pos n r) d) = (dvv (rows a n) (rows e n) lg w r d : EReal) := by
  pointwise [val_main_v115, val_main_v114, val_main_v113]
  rw [r106 hA hD hG hW, r112 hA hD hG hW, ← EReal.coe_add]
  exact congrArg _ (norm_rule _ _ _ _ r d _ rfl _ rfl)

include hA hD hG hL hW hB in
/-- The gradient of the gating half. -/
theorem r69 (n : Fin 16) (r : Fin 128)(d : Fin 2048) : val_main_v69 (F := Ideal) A D G L W B (ix3 0 (pos n r) d) = ((rows e n r d * sp (rows a n) lg lb w b r d : ℝ) : EReal) := by
  pointwise [val_main_v69, val_main_v1, val_main_v0]
  rw [r66 hA hG hL hW hB, hD, ← EReal.coe_mul]
  rfl

theorem r116l (r d : Fin 2048) : val_main_v116 (F := Ideal) A D G L W B (ix3 0 r (lo d)) = val_main_v69 A D G L W B (ix3 0 r d) := by
  pointwise [val_main_v116]

theorem r116h (r d : Fin 2048) : val_main_v116 (F := Ideal) A D G L W B (ix3 0 r (hi d)) = val_main_v115 A D G W (ix3 0 r d) := by
  pointwise [val_main_v116]

include hA in
theorem r127 (r : Fin 2048) (k : Fin 4096) (y : ℝ) (hy : val_main_v116 (F := Ideal) A D G L W B (ix3 0 r k) = (y : EReal)) : val_main_v127 (F := Ideal) A D G L W B (ix2 r k) = ((y * geluD (a r k) : ℝ) : EReal) := by
  pointwise [val_main_v127, val_main_v126, val_main_v125, val_main_v124, val_main_v118, val_main_v123, val_main_cst_26, val_main_v122, val_main_v121, val_main_v120, val_main_v6, val_main_cst_0, val_main_v119, val_main_v117, val_main_v4, val_main_v2, val_main_v3, val_main_cst]
  rw [hy, r9 hA, r18 hA, hA, half_eq, root_coe, Ideal.div_coe (by positivity)]
  simp only [← EReal.coe_mul, ← EReal.coe_neg, ← EReal.coe_add]
  exact congrArg _ (gelu_rule y (a r k))

include hA hD hG hL hW hB in
/-- The gradient of the input. -/
theorem v127 : val_main_v127 (F := Ideal) A D G L W B = arrA a e lg lb w b := by
  have key : ∀ (r : Fin 2048) (k : Fin 4096), val_main_v127 (F := Ideal) A D G L W B (ix2 r k) = arrA a e lg lb w b (ix2 r k) := fun r k => by
    obtain ⟨n, r', rfl⟩ : ∃ n r', r = pos n r' := ⟨_, _, eq_pos r⟩
    by_cases h : k.val < 2048
    · obtain ⟨d, rfl⟩ : ∃ d, k = lo d := ⟨⟨k.val, h⟩, rfl⟩
      rw [r127 hA _ _ _ ((r116l _ _).trans (r69 hA hD hG hL hW hB n r' _)), arrA_lo]
      rfl
    · obtain ⟨d, rfl⟩ : ∃ d, k = hi d := ⟨⟨k.val - 2048, by omega⟩, Fin.ext (by simp only [hi]; omega)⟩
      rw [r127 hA _ _ _ ((r116h _ _).trans (r115 hA hD hG hW n r' _)), arrA_hi]
      rfl
  refine funext fun i => ?_
  rw [show i = ix2 (i 0) (i 1) from funext fun p => by fin_cases p <;> rfl]
  exact key (i 0) (i 1)

include hA hD hG hL in
theorem r78 (g : Fin 8) (t s : Fin 128) : val_main_v78 (F := Ideal) A D G L (ix3 g t s)
    = ∑ n, ((∑ l, ds (rows a n) (rows e n) t (chan g l) * vl (rows a n) lg lb s (chan g l) : ℝ) : EReal) := by
  refine (dot_both _ _ g t s).trans ?_
  rw [Fintype.sum_prod_type]
  simp only [r77 hA hD, r58 hA hG hL, ← EReal.coe_mul, Cert.Reals.coe_sum]

theorem r82 (g : Fin 8) (t s : Fin 128) : val_main_v82 (F := Ideal) A D G L (ix3 g t s) = if s.val / 64 ≤ t.val / 64 then val_main_v78 A D G L (ix3 g t s) else 0 := by
  pointwise [val_main_v82, val_main_call3_v0, val_main_call3_cst, val_main_v57_1, val_main_v55]
  rw [r54]
  split <;> simp [Scalar.select]

theorem r72 (r : Fin 128) (g : Fin 8) : val_main_v72 (F := Ideal) A D (ix5 0 0 r g 0) = val_main_v71 A D (ix3 0 r g) := by
  pointwise [val_main_v72]

theorem r128 (r : Fin 128) (g : Fin 8) : val_main_v128 (F := Ideal) A D (ix2 r g) = val_main_v73 A D (ix2 r g) := by
  pointwise [val_main_v128, val_main_v76, val_main_v75, val_main_cst_15, val_main_v74]
  exact Fin.sum_univ_one _

theorem r129 (d : Fin 2048) : val_main_v129 (F := Ideal) A D W (ix2 0 d) = val_main_v91 A D W (ix1 d) := by
  pointwise [val_main_v129]

theorem r130 (d : Fin 2048) : val_main_v130 (F := Ideal) A D W (ix2 0 d) = val_main_v85 A D W (ix1 d) := by
  pointwise [val_main_v130]

include hA hD hW in
theorem r84 (d : Fin 2048) : val_main_v84 (F := Ideal) A D W (ix3 0 0 d) = ∑ n, (dlb (rows a n) (rows e n) w d : EReal) := by
  pointwise [val_main_v84, val_main_v83, val_main_cst_16]
  rw [sum_pos]
  simp only [r81 hA hD hW, Cert.Reals.coe_sum]
  rfl

include hA hD hW in
theorem r88 (d : Fin 2048) : val_main_v88 (F := Ideal) A D W (ix3 0 0 d) = ∑ n, (dlg (rows a n) (rows e n) w d : EReal) := by
  pointwise [val_main_v88, val_main_v87, val_main_cst_18, val_main_v86]
  rw [sum_pos]
  simp only [r81 hA hD hW, r40 hA, ← EReal.coe_mul, Cert.Reals.coe_sum, mul_comm]
  simp only [dlg, mul_comm]

include hA hD hG hL in
/-- The gradient of the weights. -/
theorem v82 : val_main_v82 (F := Ideal) A D G L = arrW a e lg lb := by
  refine funext fun i => ?_
  rw [show i = ix3 (i 0) (i 1) (i 2) from funext fun p => by fin_cases p <;> rfl]
  generalize i 0 = g
  generalize i 1 = t
  generalize i 2 = s
  refine (r82 g t s).trans ?_
  show _ = ∑ n : Fin 16, ((dws (rows a n) (rows e n) lg lb g t s : ℝ) : EReal)
  unfold dws
  split
  · exact r78 hA hD hG hL g t s
  · simp

include hA hD in
/-- The gradient of the biases. -/
theorem v128 : val_main_v128 (F := Ideal) A D = arrB a e := by
  refine funext fun i => ?_
  rw [show i = ix2 (i 0) (i 1) from funext fun p => by fin_cases p <;> rfl]
  obtain ⟨t, ht⟩ : ∃ t : Fin 128, i 0 = t := ⟨_, rfl⟩
  obtain ⟨g, hg⟩ : ∃ g : Fin 8, i 1 = g := ⟨_, rfl⟩
  rw [ht, hg]
  refine (r128 t g).trans ((sum_ones _ _ rfl t g).trans ((r72 t g).trans ((sum_both _ _ rfl t g).trans ?_)))
  rw [Fintype.sum_prod_type]
  simp only [r70 hA hD, Cert.Reals.coe_sum]
  rfl

include hA hD hW in
/-- The gradient of the gain. -/
theorem v129 : val_main_v129 (F := Ideal) A D W = arrG a e w := by
  refine funext fun i => ?_
  rw [show i = ix2 0 (i 1) from funext fun p => by
    fin_cases p
    · exact Subsingleton.elim (α := Fin 1) _ _
    · rfl]
  exact (r129 _).trans ((sum_row _ _ rfl _).trans (r88 hA hD hW _))

include hA hD hW in
/-- The gradient of the offset. -/
theorem v130 : val_main_v130 (F := Ideal) A D W = arrL a e w := by
  refine funext fun i => ?_
  rw [show i = ix2 0 (i 1) from funext fun p => by
    fin_cases p
    · exact Subsingleton.elim (α := Fin 1) _ _
    · rfl]
  exact (r130 _).trans ((sum_row _ _ rfl _).trans (r84 hA hD hW _))

variable (m : (ℓ : Loc nD τ sig) → Buf (Elt Ideal) ℓ)

abbrev argA (c : Dev nD) : FVec Ideal S2048x4096 .f32 := m ((c : Thread nD τ).loc main_arg0)
abbrev argD (c : Dev nD) : FVec Ideal S2048x2048 .bf16 := m ((c : Thread nD τ).loc main_arg1)
abbrev argG (c : Dev nD) : FVec Ideal S2048 .f32 := m ((c : Thread nD τ).loc main_arg2)
abbrev argL (c : Dev nD) : FVec Ideal S2048 .f32 := m ((c : Thread nD τ).loc main_arg3)
abbrev argW (c : Dev nD) : FVec Ideal S8x128x128 .f32 := m ((c : Thread nD τ).loc main_arg4)
abbrev argB (c : Dev nD) : FVec Ideal S8x128 .f32 := m ((c : Thread nD τ).loc main_arg5)

/-- The reference's run, its results under their names. -/
theorem run_named (g : Dev nD → PrngReg) : θ_run (defs (F := Ideal)) (onTc (τ := τ) (main (F := Ideal))) ⟨m, fun _ => 0, g⟩ fun r => ∀ c : Dev nD,
    r.2.mem ((c : Thread nD τ).loc main_v127) = val_main_v127 (F := Ideal) (argA m c) (argD m c) (argG m c) (argL m c) (argW m c) (argB m c)
      ∧ r.2.mem ((c : Thread nD τ).loc main_v82) = val_main_v82 (F := Ideal) (argA m c) (argD m c) (argG m c) (argL m c)
      ∧ r.2.mem ((c : Thread nD τ).loc main_v128) = val_main_v128 (F := Ideal) (argA m c) (argD m c)
      ∧ r.2.mem ((c : Thread nD τ).loc main_v129) = val_main_v129 (F := Ideal) (argA m c) (argD m c) (argW m c)
      ∧ r.2.mem ((c : Thread nD τ).loc main_v130) = val_main_v130 (F := Ideal) (argA m c) (argD m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  run m g

end Cert.SguRefIdeal.Value
-- ==== Proof.FfnMath.lean ====
/- The gradients of the gated feed-forward product `(silu(g) * u) @ w`: what both programs compute. -/
module

public import proofs.«01_k».proof.Proof.Reals

@[expose] public section

set_option maxRecDepth 16384
noncomputable section
open Idealize.ShloMosaic Idealize.ShloMosaic.TcCoe Idealize.SL.Sem

namespace Cert.Ffn
open Cert.Reals

abbrev Rows : Shape := ⟨2, ![2048, 2048]⟩
abbrev Weights : Shape := ⟨2, ![5632, 2048]⟩
abbrev Hidden : Shape := ⟨2, ![2048, 5632]⟩
abbrev Blocks : Shape := ⟨3, ![8, 2048, 704]⟩

/-- Unit `l` of block `j` among the 5632 hidden units. -/
abbrev unit (j : Fin 8) (l : Fin 704) : Fin 5632 := ⟨j.val * 704 + l.val, by omega⟩

/-- The gradient that reaches hidden unit `n` at row `r`. -/
def act (D : FVec Ideal Rows .bf16) (W : FVec Ideal Weights .f32) (r : Fin 2048) (n : Fin 5632) : EReal :=
  ∑ k : Fin 2048, D (ix2 r k) * W (ix2 n k)

/-- The gate's gradient from the incoming gradient, the gate's and the other branch's values. -/
def gateGrad (a g u : EReal) : EReal := a * u * (Ideal.logistic g * (1 + g * (1 - Ideal.logistic g)))

/-- The other branch's gradient. -/
def linGrad (a g : EReal) : EReal := a * (g * Ideal.logistic g)

/-- The gate's gradient, in blocks of hidden units. -/
def arrG (D : FVec Ideal Rows .bf16) (W : FVec Ideal Weights .f32) (G U : FVec Ideal Hidden .bf16) : FVec Ideal Blocks .bf16 := fun i =>
  gateGrad (act D W (i 1) (unit (i 0) (i 2))) (G (ix2 (i 1) (unit (i 0) (i 2)))) (U (ix2 (i 1) (unit (i 0) (i 2))))

/-- The other branch's gradient, in blocks of hidden units. -/
def arrU (D : FVec Ideal Rows .bf16) (W : FVec Ideal Weights .f32) (G : FVec Ideal Hidden .bf16) : FVec Ideal Blocks .bf16 := fun i =>
  linGrad (act D W (i 1) (unit (i 0) (i 2))) (G (ix2 (i 1) (unit (i 0) (i 2))))

/-- The derivative of `g * logistic g` by the product rule is the closed form, for a real incoming gradient. -/
theorem silu_rule {a : EReal} (ha : IsReal a) (g : EReal) :
    a * Ideal.logistic g + g * a * (Ideal.logistic g * (1 - Ideal.logistic g)) = a * (Ideal.logistic g * (1 + g * (1 - Ideal.logistic g))) := by
  obtain ⟨a, rfl⟩ := ha
  induction g with
  | bot => simp
  | top =>
    rw [Ideal.logistic_top, show (1 : EReal) - 1 = 0 by rw [← EReal.coe_one, ← EReal.coe_sub]; simp]
    simp
  | coe g =>
    rw [Ideal.logistic_coe]
    generalize (1 + Real.exp (-g))⁻¹ = s
    norm_cast
    ring

end Cert.Ffn
-- ==== Proof.FfnArrays.lean ====
/- The kernel's two result arrays: each block of rows and hidden units holds the gradients. -/
module

public import proofs.«01_k».proof.Proof.Gen.FfnBwdIdeal.Value
public import Idealize.ShloMosaic.Lib.Pipeline.ValueKit
public import Idealize.ShloMosaic.Lib.Pointwise
public import proofs.«01_k».proof.Proof.FfnMath

@[expose] public section

set_option maxRecDepth 16384
noncomputable section
open Idealize.ShloMosaic Idealize.ShloMosaic.TcCoe Idealize.SL.Sem
open Idealize.ShloMosaic.Pipeline (Dat)

namespace Cert.FfnBwdIdeal.Value
open Cert.FfnBwdIdeal Cert.FfnBwdIdeal.Gen Cert.Ffn

variable (m : (ℓ : Loc nD τ sig) → Buf (Elt Ideal) ℓ)

/-- What one grid point writes of the gate's gradient. -/
theorem block_g (c : Dev nD) (t : Fin cfg0.N) (x0 : FVec Ideal S1024x2048 .bf16) (x1 : FVec Ideal S1x704x2048 .bf16) (x2 x3 : FVec Ideal S1x1024x704 .bf16) (r : Fin 1024) (l : Fin 704) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 : FVec Ideal S1x1024x704 .bf16) (ix3 0 r l)
      = gateGrad (∑ k : Fin 2048, x0 (ix2 r k) * x1 (ix3 0 l k)) (x2 (ix3 0 r l)) (x3 (ix3 0 r l)) := by
  frame_out
  unfold_payloads
  canon_tiles x hx using View.cover_of_tiledBy _ ![1, 1024, 64] (by sl_kernel_rfl) _
  all_goals
    pointwise []
    obtain rfl : x 1 = r := Fin.ext hx1.symm
    first
      | (have hl : l.val = 512 + (x 2).val := hx2; simp only [← hl])
      | (have hl : l.val = 256 + (x 2).val := hx2; simp only [← hl])
      | (have hl : l.val = (x 2).val := hx2; simp only [← hl])
    rfl

/-- What one grid point writes of the other branch's gradient. -/
theorem block_u (c : Dev nD) (t : Fin cfg0.N) (x0 : FVec Ideal S1024x2048 .bf16) (x1 : FVec Ideal S1x704x2048 .bf16) (x2 x3 : FVec Ideal S1x1024x704 .bf16) (r : Fin 1024) (l : Fin 704) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 : FVec Ideal S1x1024x704 .bf16) (ix3 0 r l)
      = linGrad (∑ k : Fin 2048, x0 (ix2 r k) * x1 (ix3 0 l k)) (x2 (ix3 0 r l)) := by
  frame_out
  unfold_payloads
  canon_tiles x hx using View.cover_of_tiledBy _ ![1, 1024, 64] (by sl_kernel_rfl) _
  all_goals
    pointwise []
    obtain rfl : x 1 = r := Fin.ext hx1.symm
    first
      | (have hl : l.val = 512 + (x 2).val := hx2; simp only [← hl])
      | (have hl : l.val = 256 + (x 2).val := hx2; simp only [← hl])
      | (have hl : l.val = (x 2).val := hx2; simp only [← hl])
    rfl

/-- Where every window's block sits at each grid point. -/
theorem places : ∀ t : Fin cfg0.N, win0_0.index t = ![t.val / 8, 0] ∧ win0_1.index t = ![t.val % 8, 0, 0]
    ∧ win0_2.index t = ![t.val % 8, t.val / 8, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

/-- The incoming gradient, the weights, the gate's and the other branch's values as the run starts. -/
abbrev argD (c : Dev nD) : FVec Ideal S2048x2048 .bf16 := m ((c : Thread nD τ).loc main_arg0)
abbrev argW (c : Dev nD) : FVec Ideal S5632x2048 .f32 := m ((c : Thread nD τ).loc main_arg1)
abbrev argG (c : Dev nD) : FVec Ideal S2048x5632 .bf16 := m ((c : Thread nD τ).loc main_arg2)
abbrev argU (c : Dev nD) : FVec Ideal S2048x5632 .bf16 := m ((c : Thread nD τ).loc main_arg3)

/-- A row of this grid point's 1024, and its block of hidden units. -/
abbrev row (t : Fin cfg0.N) (r : Fin 1024) : Fin 2048 := ⟨t.val / 8 * 1024 + r.val, by have := lt_of_lt_of_eq t.isLt N_0; omega⟩
abbrev part (t : Fin cfg0.N) : Fin 8 := ⟨t.val % 8, by omega⟩

abbrev blk_d (c : Dev nD) (t : Fin cfg0.N) : FVec Ideal S1024x2048 .bf16 := iblk m c 0 t
abbrev blk_w (c : Dev nD) (t : Fin cfg0.N) : FVec Ideal S1x704x2048 .bf16 := iblk m c 1 t
abbrev blk_g (c : Dev nD) (t : Fin cfg0.N) : FVec Ideal S1x1024x704 .bf16 := iblk m c 2 t
abbrev blk_u (c : Dev nD) (t : Fin cfg0.N) : FVec Ideal S1x1024x704 .bf16 := iblk m c 3 t

/-- The prepared weights and hidden values: blocks of hidden units. -/
theorem prep_w (c : Dev nD) (j : Fin 8) (l : Fin 704) (k : Fin 2048) : (V m c main_v1 : FVec Ideal S8x704x2048 .bf16) (ix3 j l k) = argW m c (ix2 (unit j l) k) := by
  unfold V
  after_results
  pointwise []

theorem prep_g (c : Dev nD) (j : Fin 8) (r : Fin 2048) (l : Fin 704) : (V m c main_v3 : FVec Ideal S8x2048x704 .bf16) (ix3 j r l) = argG m c (ix2 r (unit j l)) := by
  unfold V
  after_results
  pointwise []

theorem prep_u (c : Dev nD) (j : Fin 8) (r : Fin 2048) (l : Fin 704) : (V m c main_v5 : FVec Ideal S8x2048x704 .bf16) (ix3 j r l) = argU m c (ix2 r (unit j l)) := by
  unfold V
  after_results
  pointwise []

theorem read_d (c : Dev nD) (t : Fin cfg0.N) (r : Fin 1024) (k : Fin 2048) : blk_d m c t (ix2 r k) = argD m c (ix2 (row t r) k) := by
  show (V m c main_arg0 : FVec Ideal S2048x2048 .bf16) _ = _
  rw [V_main_arg0]
  blk_ext [places t]

theorem read_w (c : Dev nD) (t : Fin cfg0.N) (l : Fin 704) (k : Fin 2048) : blk_w m c t (ix3 0 l k) = argW m c (ix2 (unit (part t) l) k) := by
  rw [← prep_w]
  show (V m c main_v1 : FVec Ideal S8x704x2048 .bf16) _ = (V m c main_v1 : FVec Ideal S8x704x2048 .bf16) _
  blk_ext [places t]

theorem read_g (c : Dev nD) (t : Fin cfg0.N) (r : Fin 1024) (l : Fin 704) : blk_g m c t (ix3 0 r l) = argG m c (ix2 (row t r) (unit (part t) l)) := by
  rw [← prep_g]
  show (V m c main_v3 : FVec Ideal S8x2048x704 .bf16) _ = (V m c main_v3 : FVec Ideal S8x2048x704 .bf16) _
  blk_ext [places t]

theorem read_u (c : Dev nD) (t : Fin cfg0.N) (r : Fin 1024) (l : Fin 704) : blk_u m c t (ix3 0 r l) = argU m c (ix2 (row t r) (unit (part t) l)) := by
  rw [← prep_u]
  show (V m c main_v5 : FVec Ideal S8x2048x704 .bf16) _ = (V m c main_v5 : FVec Ideal S8x2048x704 .bf16) _
  blk_ext [places t]

theorem final_g (c : Dev nD) : (dats m 0 c).arrAt 4 (cfgs 0).N = arrG (argD m c) (argW m c) (argG m c) (argU m c) := by
  have point : ∀ (t : Fin cfg0.N) (r : Fin 1024) (l : Fin 704),
      (outsAt0 m c t).1 (ix3 0 r l) = arrG (argD m c) (argW m c) (argG m c) (argU m c) (ix3 (part t) (row t r) l) := by
    intro t r l
    unfold outsAt0
    dsimp only
    refine (block_g c t (iblk m c 0 t) (iblk m c 1 t) (iblk m c 2 t) (iblk m c 3 t) r l).trans ?_
    simp only [read_d, read_w, read_g, read_u]
    rfl
  refine (dats m 0 c).arrAt_eq_of_covers 4 _ (by decide +kernel) fun t _ y => ?_
  blk_simp
  rw [after0_4]
  have ey : (win0_4.blk t).view.emb y = ix3 (part t) (row t (y 1)) (y 2) := by blk_ext [places t]
  rw [ey, show y = ix3 0 (y 1) (y 2) from Cert.Reals.eq_ix3_zero y]
  exact point t (y 1) (y 2)

theorem final_u (c : Dev nD) : (dats m 0 c).arrAt 5 (cfgs 0).N = arrU (argD m c) (argW m c) (argG m c) := by
  have point : ∀ (t : Fin cfg0.N) (r : Fin 1024) (l : Fin 704),
      (outsAt0 m c t).2 (ix3 0 r l) = arrU (argD m c) (argW m c) (argG m c) (ix3 (part t) (row t r) l) := by
    intro t r l
    unfold outsAt0
    dsimp only
    refine (block_u c t (iblk m c 0 t) (iblk m c 1 t) (iblk m c 2 t) (iblk m c 3 t) r l).trans ?_
    simp only [read_d, read_w, read_g]
    rfl
  refine (dats m 0 c).arrAt_eq_of_covers 5 _ (by decide +kernel) fun t _ y => ?_
  blk_simp
  rw [after0_5]
  have ey : (win0_5.blk t).view.emb y = ix3 (part t) (row t (y 1)) (y 2) := by blk_ext [places t]
  rw [ey, show y = ix3 0 (y 1) (y 2) from Cert.Reals.eq_ix3_zero y]
  exact point t (y 1) (y 2)

/-- The kernel's run: its results are the gradient arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v6_0) = arrG (argD m c) (argW m c) (argG m c) (argU m c)
      ∧ r.2.mem ((c : Thread nD τ).loc main_v6_1) = arrU (argD m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final_g m c), (h c).2.1.trans (final_u m c), (h c).2.2⟩) (run_blocks m g)

end Cert.FfnBwdIdeal.Value
-- ==== Proof.FfnRefValue.lean ====
/- What the reference computes: the gradients by the product rule, equal to the closed forms. -/
module

public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise
public import proofs.«01_k».proof.Proof.FfnMath

@[expose] public section

set_option maxRecDepth 16384
noncomputable section
open Idealize.ShloMosaic Idealize.ShloMosaic.TcCoe Idealize.SL.Sem

namespace Cert.FfnRefIdeal.Value
open Cert.FfnRefIdeal Cert.FfnRefIdeal.Gen Cert.FfnRefIdeal.Read Cert.Ffn Cert.Reals

variable (D : FVec Ideal S2048x2048 .bf16) (W : FVec Ideal S5632x2048 .f32) (G U : FVec Ideal S2048x5632 .bf16)

/-- The gate's gradient, for real incoming gradients, weights and other branch. -/
theorem ref_g (hD : ∀ i, IsReal (D i)) (hW : ∀ i, IsReal (W i)) (hU : ∀ i, IsReal (U i)) : (val_main_v12 (F := Ideal) D W G U : FVec Ideal S8x2048x704 .bf16) = arrG D W G U := by
  have point : ∀ (j : Fin 8) (r : Fin 2048) (l : Fin 704), (val_main_v12 (F := Ideal) D W G U : FVec Ideal S8x2048x704 .bf16) (ix3 j r l) = arrG D W G U (ix3 j r l) := by
    intro j r l
    pointwise [val_main_v12, val_main_v11, val_main_v10, val_main_v9, val_main_call1_v2, val_main_v2_1, val_main_call0_v7, val_main_call0_v6, val_main_call0_cst_1, val_main_call1_v0, val_main_call1_v1, val_main_v2_2, val_main_call0_v3, val_main_call0_v1, val_main_call0_v0, val_main_v0, val_main_call0_v2, val_main_call0_cst, val_main_call0_v4, val_main_call0_cst_0, val_main_v8, val_main_v1, val_main_v6, val_main_v5]
    have ha : IsReal (act D W r (unit j l) * U (ix2 r (unit j l))) := (isReal_sum _ fun k _ => (hD _).mul (hW _)).mul (hU _)
    exact silu_rule ha (G (ix2 r (unit j l)))
  funext i
  rw [eq_ix3 i]
  exact point (i 0) (i 1) (i 2)

/-- The other branch's gradient. -/
theorem ref_u : (val_main_v15 (F := Ideal) D W G : FVec Ideal S8x2048x704 .bf16) = arrU D W G := by
  have point : ∀ (j : Fin 8) (r : Fin 2048) (l : Fin 704), (val_main_v15 (F := Ideal) D W G : FVec Ideal S8x2048x704 .bf16) (ix3 j r l) = arrU D W G (ix3 j r l) := by
    intro j r l
    pointwise [val_main_v15, val_main_v14, val_main_v13, val_main_v7, val_main_v6, val_main_v5, val_main_v2_0, val_main_v2_2, val_main_call0_v3, val_main_call0_v1, val_main_call0_v0, val_main_call0_v2, val_main_call0_cst, val_main_call0_v4, val_main_call0_cst_0, val_main_v0]
    exact mul_comm _ _
  funext i
  rw [eq_ix3 i]
  exact point (i 0) (i 1) (i 2)

variable (m : (ℓ : Loc nD τ sig) → Buf (Elt Ideal) ℓ)

abbrev argD (c : Dev nD) : FVec Ideal S2048x2048 .bf16 := m ((c : Thread nD τ).loc main_arg0)
abbrev argW (c : Dev nD) : FVec Ideal S5632x2048 .f32 := m ((c : Thread nD τ).loc main_arg1)
abbrev argG (c : Dev nD) : FVec Ideal S2048x5632 .bf16 := m ((c : Thread nD τ).loc main_arg2)
abbrev argU (c : Dev nD) : FVec Ideal S2048x5632 .bf16 := m ((c : Thread nD τ).loc main_arg3)

/-- The reference's run, its results under their names. -/
theorem run_named (g : Dev nD → PrngReg) : θ_run (defs (F := Ideal)) (onTc (τ := τ) (main (F := Ideal))) ⟨m, fun _ => 0, g⟩ fun r => ∀ c : Dev nD,
    r.2.mem ((c : Thread nD τ).loc main_v12) = val_main_v12 (F := Ideal) (argD m c) (argW m c) (argG m c) (argU m c)
      ∧ r.2.mem ((c : Thread nD τ).loc main_v15) = val_main_v15 (F := Ideal) (argD m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  run m g

end Cert.FfnRefIdeal.Value
-- ==== Proof.RmsArrays.lean ====
/- The norm's backward kernel: its results are the gradients, in closed form. -/
module

public import proofs.«01_k».proof.Proof.Gen.RmsBwdIdeal.Value
public import Idealize.ShloMosaic.Lib.Pipeline.ValueKit
public import Idealize.ShloMosaic.Lib.Pointwise
public import proofs.«01_k».proof.Proof.NormMath

@[expose] public section

set_option maxRecDepth 16384
noncomputable section
open Idealize.ShloMosaic Idealize.ShloMosaic.TcCoe Idealize.SL.Sem
open Idealize.ShloMosaic.Pipeline (Dat)

namespace Cert.RmsBwdIdeal.Value
open Cert.RmsBwdIdeal Cert.RmsBwdIdeal.Gen Cert.Norm

variable (m : (ℓ : Loc nD τ sig) → Buf (Elt Ideal) ℓ)

theorem rowScale (x : FVec Ideal S512x2048 .f32) (r : Fin 512) :
    Ideal.rsqrt (Ideal.div (∑ k : Fin 2048, x (ix2 r k) * x (ix2 r k)) len + tiny) = recip (∑ k : Fin 2048, x (ix2 r k) * x (ix2 r k)) := rfl

/-- What one grid point writes of the input's gradient. -/
theorem block_x (x : FVec Ideal S512x2048 .f32) (dy : FVec Ideal S512x2048 .bf16) (g : FVec Ideal S1x2048 .f32) (dr : FVec Ideal S512x2048 .f32) (r : Fin 512) (l : Fin 2048) :
    k0_pay4 (F := Ideal) x dy g dr (ix2 r l)
      = dr (ix2 r l) + recip (∑ k : Fin 2048, x (ix2 r k) * x (ix2 r k)) * (dy (ix2 r l) * g (ix2 0 l))
        - x (ix2 r l) * (recip (∑ k : Fin 2048, x (ix2 r k) * x (ix2 r k)) * recip (∑ k : Fin 2048, x (ix2 r k) * x (ix2 r k)) * recip (∑ k : Fin 2048, x (ix2 r k) * x (ix2 r k))
          * Ideal.div (∑ k : Fin 2048, x (ix2 r k) * (dy (ix2 r k) * g (ix2 0 k))) len) := by
  unfold_payloads
  pointwise []
  rfl

/-- What one grid point adds to the gain's gradient. -/
theorem block_g (x : FVec Ideal S512x2048 .f32) (dy : FVec Ideal S512x2048 .bf16) (acc : FVec Ideal S1x2048 .f32) (j : S1x2048.Idx) :
    k0_pay1 (F := Ideal) x (k0_pay2 dy) (k0_pay3 x) acc j
      = acc j + ∑ r : Fin 512, dy (ix2 r (j 1)) * (x (ix2 r (j 1)) * recip (∑ k : Fin 2048, x (ix2 r k) * x (ix2 r k))) := by
  obtain ⟨l, rfl⟩ : ∃ l : Fin 2048, j = ix2 0 l := ⟨j 1, Cert.Reals.eq_ix2_zero j⟩
  unfold_payloads
  pointwise []
  simp only [mul_assoc]
  rfl

theorem zero_g (j : S1x2048.Idx) : k0_pay6 (F := Ideal) j = 0 := by
  unfold_payloads
  pointwise []

/-- Where every window's block sits at each grid point. -/
theorem places : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The residual stream, the gain, the outgoing gradient and the residual stream's gradient as the run starts. -/
abbrev argX (c : Dev nD) : FVec Ideal S2048x2048 .f32 := m ((c : Thread nD τ).loc main_arg0)
abbrev argG (c : Dev nD) : FVec Ideal S2048 .f32 := m ((c : Thread nD τ).loc main_arg1)
abbrev argD (c : Dev nD) : FVec Ideal S2048x2048 .bf16 := m ((c : Thread nD τ).loc main_arg2)
abbrev argR (c : Dev nD) : FVec Ideal S2048x2048 .f32 := m ((c : Thread nD τ).loc main_arg3)

/-- A row of this grid point's 512. -/
abbrev row (t : Fin cfg0.N) (r : Fin 512) : Fin 2048 := ⟨t.val * 512 + r.val, by have := lt_of_lt_of_eq t.isLt N_0; omega⟩

abbrev blkX (c : Dev nD) (t : Fin cfg0.N) : FVec Ideal S512x2048 .f32 := iblk m c 0 t

theorem readX (c : Dev nD) (t : Fin cfg0.N) (r : Fin 512) (k : Fin 2048) : blkX m c t (ix2 r k) = argX m c (ix2 (row t r) k) := by
  show (V m c main_arg0 : FVec Ideal S2048x2048 .f32) _ = _
  rw [V_main_arg0]
  blk_ext [places t]

abbrev blkD (c : Dev nD) (t : Fin cfg0.N) : FVec Ideal S512x2048 .bf16 := iblk m c 2 t

theorem readD (c : Dev nD) (t : Fin cfg0.N) (r : Fin 512) (k : Fin 2048) : blkD m c t (ix2 r k) = argD m c (ix2 (row t r) k) := by
  show (V m c main_arg2 : FVec Ideal S2048x2048 .bf16) _ = _
  rw [V_main_arg2]
  blk_ext [places t]

abbrev blkR (c : Dev nD) (t : Fin cfg0.N) : FVec Ideal S512x2048 .f32 := iblk m c 3 t

theorem readR (c : Dev nD) (t : Fin cfg0.N) (r : Fin 512) (k : Fin 2048) : blkR m c t (ix2 r k) = argR m c (ix2 (row t r) k) := by
  show (V m c main_arg3 : FVec Ideal S2048x2048 .f32) _ = _
  rw [V_main_arg3]
  blk_ext [places t]

abbrev blkG (c : Dev nD) (t : Fin cfg0.N) : FVec Ideal S1x2048 .f32 := iblk m c 1 t

/-- The gain, prepared as a row. -/
theorem prepG (c : Dev nD) (k : Fin 2048) : (V m c main_v0 : FVec Ideal S1x2048 .f32) (ix2 0 k) = argG m c (ix1 k) := by
  unfold V
  after_results
  pointwise []

theorem readG (c : Dev nD) (t : Fin cfg0.N) (k : Fin 2048) : blkG m c t (ix2 0 k) = argG m c (ix1 k) := by
  rw [← prepG]
  show (V m c main_v0 : FVec Ideal S1x2048 .f32) _ = (V m c main_v0 : FVec Ideal S1x2048 .f32) _
  blk_ext [places t]

theorem outs4 (c : Dev nD) (t : Fin cfg0.N) : (outsAt0 m c t.val t.isLt).1 = k0_pay4 (F := Ideal) (iblk m c 0 t) (iblk m c 2 t) (iblk m c 1 t) (iblk m c 3 t) := by
  by_cases h : t.val % 4 = 0
  · rw [outsAt0_A m c t h]
    frame_out
  · rw [outsAt0_B m c t h]
    frame_out

theorem final4 (c : Dev nD) : (dats m 0 c).arrAt 4 (cfgs 0).N = arrX (argX m c) (argG m c) (argD m c) (argR m c) := by
  have point : ∀ (t : Fin cfg0.N) (r : Fin 512) (l : Fin 2048), ((outsAt0 m c t.val t.isLt).1 : FVec Ideal S512x2048 .f32) (ix2 r l) = arrX (argX m c) (argG m c) (argD m c) (argR m c) (ix2 (row t r) l) := by
    intro t r l
    rw [outs4]
    refine (block_x (blkX m c t) (blkD m c t) (blkG m c t) (blkR m c t) r l).trans ?_
    simp only [readX, readD, readR, readG]
    rfl
  refine (dats m 0 c).arrAt_eq_of_covers 4 _ (by decide +kernel) fun t _ y => ?_
  blk_simp
  rw [after0_4]
  have ey : (win0_4.blk t).view.emb y = ix2 (row t (y 0)) (y 1) := by blk_ext [places t]
  rw [ey, eq_ix2 y]
  exact point t (y 0) (y 1)

theorem outs5 (c : Dev nD) (t : Fin cfg0.N) : (outsAt0 m c t.val t.isLt).2.1 = k0_pay5 (F := Ideal) (iblk m c 0 t) (iblk m c 2 t) (iblk m c 1 t) (iblk m c 3 t) := by
  by_cases h : t.val % 4 = 0
  · rw [outsAt0_A m c t h]
    frame_out
  · rw [outsAt0_B m c t h]
    frame_out

theorem final5 (c : Dev nD) : (dats m 0 c).arrAt 5 (cfgs 0).N = arrX (argX m c) (argG m c) (argD m c) (argR m c) := by
  have point : ∀ (t : Fin cfg0.N) (r : Fin 512) (l : Fin 2048), ((outsAt0 m c t.val t.isLt).2.1 : FVec Ideal S512x2048 .bf16) (ix2 r l) = arrX (argX m c) (argG m c) (argD m c) (argR m c) (ix2 (row t r) l) := by
    intro t r l
    rw [outs5]
    refine (block_x (blkX m c t) (blkD m c t) (blkG m c t) (blkR m c t) r l).trans ?_
    simp only [readX, readD, readR, readG]
    rfl
  refine (dats m 0 c).arrAt_eq_of_covers 5 _ (by decide +kernel) fun t _ y => ?_
  blk_simp
  rw [after0_5]
  have ey : (win0_5.blk t).view.emb y = ix2 (row t (y 0)) (y 1) := by blk_ext [places t]
  rw [ey, eq_ix2 y]
  exact point t (y 0) (y 1)

theorem final6 (c : Dev nD) : (dats m 0 c).arrAt 6 (cfgs 0).N = arrG (argX m c) (argD m c) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [block_g, zero_g])
    (fun t h j => by rw [outsAt0_B m c t h]; frame_out; rw [block_g])
    (le_of_eq N_0) t0_3 rfl j, zero_add]
  refine Fin.sum_mul_add_congr (S := 4) (n := 512) fun t r hl => ?_
  have part : ∀ (t : Fin cfg0.N) (l : Fin 2048), blkD m c t (ix2 r l) * (blkX m c t (ix2 r l) * recip (∑ k : Fin 2048, blkX m c t (ix2 r k) * blkX m c t (ix2 r k)))
      = argD m c (ix2 (row t r) l) * (argX m c (ix2 (row t r) l) * scale (argX m c) (row t r)) := fun t l => by
    simp only [readX, readD]
    rfl
  exact part t (j 1)

/-- The kernel's run: its results are the gradient arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v1_0) = arrX (argX m c) (argG m c) (argD m c) (argR m c)
      ∧ r.2.mem ((c : Thread nD τ).loc main_v1_1) = arrX (argX m c) (argG m c) (argD m c) (argR m c)
      ∧ r.2.mem ((c : Thread nD τ).loc main_v1_2) = arrG (argX m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final4 m c), (h c).2.1.trans (final5 m c), (h c).2.2.1.trans (final6 m c), (h c).2.2.2⟩) (run_blocks m g)

end Cert.RmsBwdIdeal.Value
-- ==== Proof.RmsRefValue.lean ====
/- What the norm's reference computes: the gradients by the product rule, equal to the closed forms. -/
module

public import proofs.«01_k».proof.Proof.Gen.RmsRefIdeal.Run
public import proofs.«01_k».proof.Proof.Gen.RmsRefIdeal.Read
public import Idealize.ShloMosaic.Lib.Pipeline.ValueKit
public import Idealize.ShloMosaic.Lib.Pointwise
public import proofs.«01_k».proof.Proof.NormMath

@[expose] public section

set_option maxRecDepth 16384
noncomputable section
open Idealize.ShloMosaic Idealize.ShloMosaic.TcCoe Idealize.SL.Sem
open Idealize.ShloMosaic.Pipeline (Dat)

namespace Cert.RmsRefIdeal.Value
open Cert.RmsRefIdeal Cert.RmsRefIdeal.Gen Cert.RmsRefIdeal.Read Cert.Norm

variable (X : FVec Ideal S2048x2048 .f32) (G : FVec Ideal S2048 .f32) (D : FVec Ideal S2048x2048 .bf16) (R : FVec Ideal S2048x2048 .f32)

theorem ref_x : (val_main_v37 (F := Ideal) X G D R : FVec Ideal S2048x2048 .f32) = arrX X G D R := by
  have point : ∀ r l : Fin 2048, (val_main_v37 (F := Ideal) X G D R : FVec Ideal S2048x2048 .f32) (ix2 r l) = arrX X G D R (ix2 r l) := by
    intro r l
    pointwise [val_main_v37, val_main_v36, val_main_v35, val_main_v34, val_main_v33, val_main_v32, val_main_cst_7, val_main_v31, val_main_v30, val_main_cst_6, val_main_v29, val_main_v10, val_main_v8, val_main_v9, val_main_cst_2, val_main_v25, val_main_v24, val_main_cst_5, val_main_v23, val_main_v28, val_main_v27, val_main_v26, val_main_v7, val_main_v6, val_main_v5, val_main_cst_1, val_main_v4, val_main_v3, val_main_cst_0, val_main_v2, val_main_v1, val_main_cst, val_main_v0, val_main_v21, val_main_v20, val_main_v13, val_main_v16]
    simp only [Finset.univ_unique, Finset.sum_singleton]
    exact norm_rule (sum_sq_nonneg fun k => X (ix2 r k)) (R (ix2 r l)) (D (ix2 r l) * G (ix1 l)) (X (ix2 r l)) (∑ k : Fin 2048, X (ix2 r k) * (D (ix2 r k) * G (ix1 k)))
  funext i
  rw [eq_ix2 i]
  exact point (i 0) (i 1)

theorem ref_g : (val_main_v39 (F := Ideal) X D : FVec Ideal S1x2048 .f32) = arrG X D := by
  have point : ∀ l : Fin 2048, (val_main_v39 (F := Ideal) X D : FVec Ideal S1x2048 .f32) (ix2 0 l) = arrG X D (ix2 0 l) := by
    intro l
    pointwise [val_main_v39, val_main_v22, val_main_cst_4, val_main_v19, val_main_v18, val_main_cst_3, val_main_v17, val_main_v16, val_main_v12, val_main_v11, val_main_v7, val_main_v6, val_main_v5, val_main_cst_1, val_main_v4, val_main_v3, val_main_cst_0, val_main_v2, val_main_v1, val_main_cst, val_main_v0]
    simp only [Finset.univ_unique, Finset.sum_singleton]
    exact Finset.sum_congr rfl fun r _ => mul_comm _ _
  funext i
  rw [Cert.Reals.eq_ix2_zero i]
  exact point (i 1)

variable (m : (ℓ : Loc nD τ sig) → Buf (Elt Ideal) ℓ)

/-- The residual stream, the gain, the outgoing gradient and the residual stream's gradient as the run starts. -/
abbrev argX (c : Dev nD) : FVec Ideal S2048x2048 .f32 := m ((c : Thread nD τ).loc main_arg0)
abbrev argG (c : Dev nD) : FVec Ideal S2048 .f32 := m ((c : Thread nD τ).loc main_arg1)
abbrev argD (c : Dev nD) : FVec Ideal S2048x2048 .bf16 := m ((c : Thread nD τ).loc main_arg2)
abbrev argR (c : Dev nD) : FVec Ideal S2048x2048 .f32 := m ((c : Thread nD τ).loc main_arg3)

/-- The reference's run: its results are the gradient arrays of its arguments, which end unchanged; no semaphore is left raised. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v37) = arrX (argX m c) (argG m c) (argD m c) (argR m c)
      ∧ r.2.mem ((c : Thread nD τ).loc main_v38) = arrX (argX m c) (argG m c) (argD m c) (argR m c)
      ∧ r.2.mem ((c : Thread nD τ).loc main_v39) = arrG (argX m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (ref_x _ _ _ _), (h c).2.1.trans ((val_main_v38_eq m c).trans (ref_x _ _ _ _)), (h c).2.2.1.trans (ref_g _ _), (h c).2.2.2⟩) (run m g)

end Cert.RmsRefIdeal.Value
-- ==== Proof.LossArrays.lean ====
/- The loss head's kernel: its results are the loss and the gradients, in closed form. -/
module

public import proofs.«01_k».proof.Proof.Gen.LossHeadIdeal.Value
public import Idealize.ShloMosaic.Lib.Pipeline.ValueKit
public import Idealize.ShloMosaic.Lib.Pointwise
public import proofs.«01_k».proof.Proof.NormMath

@[expose] public section

set_option maxRecDepth 16384
noncomputable section
open Idealize.ShloMosaic Idealize.ShloMosaic.TcCoe Idealize.SL.Sem
open Idealize.ShloMosaic.Pipeline (Dat)

namespace Cert.LossHeadIdeal.Value
open Cert.LossHeadIdeal Cert.LossHeadIdeal.Gen Cert.Norm

variable (m : (ℓ : Loc nD τ sig) → Buf (Elt Ideal) ℓ)

/-- A block's error at one element. -/
def blkErr (x : FVec Ideal S512x2048 .f32) (g : FVec Ideal S1x2048 .f32) (z : FVec Ideal S512x2048 .f32) (r : Fin 512) (l : Fin 2048) : EReal :=
  x (ix2 r l) * recip (∑ k : Fin 2048, x (ix2 r k) * x (ix2 r k)) * g (ix2 0 l) - z (ix2 r l)

/-- What one grid point writes of the input's gradient. -/
theorem block_x (x : FVec Ideal S512x2048 .f32) (g : FVec Ideal S1x2048 .f32) (z : FVec Ideal S512x2048 .f32) (r : Fin 512) (l : Fin 2048) :
    k0_pay9 (F := Ideal) x g z g (ix2 r l)
      = 0 + recip (∑ k : Fin 2048, x (ix2 r k) * x (ix2 r k)) * (blkErr x g z r l * invLen * g (ix2 0 l))
        - x (ix2 r l) * (recip (∑ k : Fin 2048, x (ix2 r k) * x (ix2 r k)) * recip (∑ k : Fin 2048, x (ix2 r k) * x (ix2 r k)) * recip (∑ k : Fin 2048, x (ix2 r k) * x (ix2 r k))
          * Ideal.div (∑ k : Fin 2048, x (ix2 r k) * (blkErr x g z r k * invLen * g (ix2 0 k))) len) := by
  rw [zero_add]
  unfold_payloads
  pointwise []
  rfl

/-- What one grid point adds to the gain's gradient. -/
theorem block_g (x : FVec Ideal S512x2048 .f32) (g : FVec Ideal S1x2048 .f32) (z : FVec Ideal S512x2048 .f32) (acc : FVec Ideal S1x2048 .f32) (j : S1x2048.Idx) :
    k0_pay3 (F := Ideal) (k0_pay6 x) (k0_pay8 x g z) acc j
      = acc j + ∑ r : Fin 512, blkErr x g z r (j 1) * invLen * (x (ix2 r (j 1)) * recip (∑ k : Fin 2048, x (ix2 r k) * x (ix2 r k))) := by
  obtain ⟨l, rfl⟩ : ∃ l : Fin 2048, j = ix2 0 l := ⟨j 1, Cert.Reals.eq_ix2_zero j⟩
  unfold_payloads
  pointwise []
  rfl

theorem zero_g (j : S1x2048.Idx) : k0_pay1 (F := Ideal) j = 0 := by
  unfold_payloads
  pointwise []

/-- What one grid point adds to the loss. -/
theorem block_l (x : FVec Ideal S512x2048 .f32) (g : FVec Ideal S1x2048 .f32) (z : FVec Ideal S512x2048 .f32) (acc : FVec Ideal S1x1 .f32) (j : S1x1.Idx) :
    k0_pay4 (F := Ideal) (k0_pay7 x g z) acc j
      = acc j + ∑ r : Fin 512, half * ((∑ k : Fin 2048, blkErr x g z r k * blkErr x g z r k) * invLen) := by
  rw [Cert.Reals.eq_ix2_one j, ← half_sum]
  unfold_payloads
  pointwise []
  rfl

theorem zero_l (j : S1x1.Idx) : k0_pay2 (F := Ideal) j = 0 := by
  unfold_payloads
  pointwise []

/-- Where every window's block sits at each grid point. -/
theorem places : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The residual stream, the gain and the target as the run starts. -/
abbrev argX (c : Dev nD) : FVec Ideal S2048x2048 .f32 := m ((c : Thread nD τ).loc main_arg0)
abbrev argG (c : Dev nD) : FVec Ideal S2048 .f32 := m ((c : Thread nD τ).loc main_arg1)
abbrev argT (c : Dev nD) : FVec Ideal S2048x2048 .f32 := m ((c : Thread nD τ).loc main_arg2)

/-- A row of this grid point's 512. -/
abbrev row (t : Fin cfg0.N) (r : Fin 512) : Fin 2048 := ⟨t.val * 512 + r.val, by have := lt_of_lt_of_eq t.isLt N_0; omega⟩

abbrev blkX (c : Dev nD) (t : Fin cfg0.N) : FVec Ideal S512x2048 .f32 := iblk m c 0 t

theorem readX (c : Dev nD) (t : Fin cfg0.N) (r : Fin 512) (k : Fin 2048) : blkX m c t (ix2 r k) = argX m c (ix2 (row t r) k) := by
  show (V m c main_arg0 : FVec Ideal S2048x2048 .f32) _ = _
  rw [V_main_arg0]
  blk_ext [places t]

abbrev blkT (c : Dev nD) (t : Fin cfg0.N) : FVec Ideal S512x2048 .f32 := iblk m c 2 t

theorem readT (c : Dev nD) (t : Fin cfg0.N) (r : Fin 512) (k : Fin 2048) : blkT m c t (ix2 r k) = argT m c (ix2 (row t r) k) := by
  show (V m c main_arg2 : FVec Ideal S2048x2048 .f32) _ = _
  rw [V_main_arg2]
  blk_ext [places t]

abbrev blkG (c : Dev nD) (t : Fin cfg0.N) : FVec Ideal S1x2048 .f32 := iblk m c 1 t

/-- The gain, prepared as a row. -/
theorem prepG (c : Dev nD) (k : Fin 2048) : (V m c main_v0 : FVec Ideal S1x2048 .f32) (ix2 0 k) = argG m c (ix1 k) := by
  unfold V
  after_results
  pointwise []

theorem readG (c : Dev nD) (t : Fin cfg0.N) (k : Fin 2048) : blkG m c t (ix2 0 k) = argG m c (ix1 k) := by
  rw [← prepG]
  show (V m c main_v0 : FVec Ideal S1x2048 .f32) _ = (V m c main_v0 : FVec Ideal S1x2048 .f32) _
  blk_ext [places t]

/-- A block's error is the array's. -/
theorem readErr (c : Dev nD) (t : Fin cfg0.N) (r : Fin 512) (k : Fin 2048) : blkErr (blkX m c t) (blkG m c t) (blkT m c t) r k = err (argX m c) (argG m c) (argT m c) (row t r) k := by
  unfold blkErr
  simp only [readX, readT, readG]
  rfl

theorem outs4 (c : Dev nD) (t : Fin cfg0.N) : (outsAt0 m c t.val t.isLt).2.1 = k0_pay9 (F := Ideal) (iblk m c 0 t) (iblk m c 1 t) (iblk m c 2 t) (iblk m c 1 t) := by
  by_cases h : t.val % 4 = 0
  · rw [outsAt0_A m c t h]
    frame_out
  · rw [outsAt0_B m c t h]
    frame_out

theorem final4 (c : Dev nD) : (dats m 0 c).arrAt 4 (cfgs 0).N = arrLossX (argX m c) (argG m c) (argT m c) := by
  have point : ∀ (t : Fin cfg0.N) (r : Fin 512) (l : Fin 2048), ((outsAt0 m c t.val t.isLt).2.1 : FVec Ideal S512x2048 .f32) (ix2 r l) = arrLossX (argX m c) (argG m c) (argT m c) (ix2 (row t r) l) := by
    intro t r l
    rw [outs4]
    refine (block_x (blkX m c t) (blkG m c t) (blkT m c t) r l).trans ?_
    simp only [readX, readErr, readG]
    rfl
  refine (dats m 0 c).arrAt_eq_of_covers 4 _ (by decide +kernel) fun t _ y => ?_
  blk_simp
  rw [after0_4]
  have ey : (win0_4.blk t).view.emb y = ix2 (row t (y 0)) (y 1) := by blk_ext [places t]
  rw [ey, eq_ix2 y]
  exact point t (y 0) (y 1)

theorem outs5 (c : Dev nD) (t : Fin cfg0.N) : (outsAt0 m c t.val t.isLt).2.2.1 = k0_pay10 (F := Ideal) (iblk m c 0 t) (iblk m c 1 t) (iblk m c 2 t) (iblk m c 1 t) := by
  by_cases h : t.val % 4 = 0
  · rw [outsAt0_A m c t h]
    frame_out
  · rw [outsAt0_B m c t h]
    frame_out

theorem final5 (c : Dev nD) : (dats m 0 c).arrAt 5 (cfgs 0).N = arrLossX (argX m c) (argG m c) (argT m c) := by
  have point : ∀ (t : Fin cfg0.N) (r : Fin 512) (l : Fin 2048), ((outsAt0 m c t.val t.isLt).2.2.1 : FVec Ideal S512x2048 .bf16) (ix2 r l) = arrLossX (argX m c) (argG m c) (argT m c) (ix2 (row t r) l) := by
    intro t r l
    rw [outs5]
    refine (block_x (blkX m c t) (blkG m c t) (blkT m c t) r l).trans ?_
    simp only [readX, readErr, readG]
    rfl
  refine (dats m 0 c).arrAt_eq_of_covers 5 _ (by decide +kernel) fun t _ y => ?_
  blk_simp
  rw [after0_5]
  have ey : (win0_5.blk t).view.emb y = ix2 (row t (y 0)) (y 1) := by blk_ext [places t]
  rw [ey, eq_ix2 y]
  exact point t (y 0) (y 1)

theorem final6 (c : Dev nD) : (dats m 0 c).arrAt 6 (cfgs 0).N = arrLossG (argX m c) (argG m c) (argT m c) := by
  refine (dats m 0 c).arrAt_eq_of_after_last 6 t0_3 (by decide +kernel) _ fun j => ?_
  blk_simp
  rw [after0_6, Pipeline.eq_sum_fin_of_reset_step_apply_last (fun n h => (outsAt0 m c n h).2.2.2) 4 (fun _ => 0) _
    (fun t h j => by rw [outsAt0_A m c t h]; frame_out; rw [block_g, zero_g])
    (fun t h j => by rw [outsAt0_B m c t h]; frame_out; rw [block_g])
    (le_of_eq N_0) t0_3 rfl j, zero_add]
  refine Fin.sum_mul_add_congr (S := 4) (n := 512) fun t r hl => ?_
  have part : ∀ (t : Fin cfg0.N) (l : Fin 2048), blkErr (blkX m c t) (blkG m c t) (blkT m c t) r l * invLen * (blkX m c t (ix2 r l) * recip (∑ k : Fin 2048, blkX m c t (ix2 r k) * blkX m c t (ix2 r k)))
      = err (argX m c) (argG m c) (argT m c) (row t r) l * invLen * (argX m c (ix2 (row t r) l) * scale (argX m c) (row t r)) := fun t l => by
    simp only [readX, readErr]
    rfl
  exact part t (j 1)

theorem final3 (c : Dev nD) : (dats m 0 c).arrAt 3 (cfgs 0).N = arrLoss (argX m c) (argG m c) (argT m c) := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0) _
    (fun t h j => by rw [outsAt0_A m c t h]; frame_out; rw [block_l, zero_l])
    (fun t h j => by rw [outsAt0_B m c t h]; frame_out; rw [block_l])
    (le_of_eq N_0) t0_3 rfl j, zero_add]
  refine Fin.sum_mul_add_congr (S := 4) (n := 512) fun t r hl => ?_
  have part : ∀ t : Fin cfg0.N, half * ((∑ k : Fin 2048, blkErr (blkX m c t) (blkG m c t) (blkT m c t) r k * blkErr (blkX m c t) (blkG m c t) (blkT m c t) r k) * invLen)
      = half * ((∑ k : Fin 2048, err (argX m c) (argG m c) (argT m c) (row t r) k * err (argX m c) (argG m c) (argT m c) (row t r) k) * invLen) := fun t => by
    simp only [readErr]
  exact part t

/-- The kernel's run: its results are the loss and the gradient arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v1_0) = arrLoss (argX m c) (argG m c) (argT m c)
      ∧ r.2.mem ((c : Thread nD τ).loc main_v1_1) = arrLossX (argX m c) (argG m c) (argT m c)
      ∧ r.2.mem ((c : Thread nD τ).loc main_v1_2) = arrLossX (argX m c) (argG m c) (argT m c)
      ∧ r.2.mem ((c : Thread nD τ).loc main_v1_3) = arrLossG (argX m c) (argG m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final3 m c), (h c).2.1.trans (final4 m c), (h c).2.2.1.trans (final5 m c), (h c).2.2.2.1.trans (final6 m c), (h c).2.2.2.2⟩) (run_blocks m g)

end Cert.LossHeadIdeal.Value
-- ==== Proof.LossRefValue.lean ====
/- What the loss head's reference computes: the loss, and the gradients by the product rule, equal to the closed forms. -/
module

public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import proofs.«01_k».proof.Proof.NormMath

@[expose] public section

set_option maxRecDepth 16384
noncomputable section
open Idealize.ShloMosaic Idealize.ShloMosaic.TcCoe Idealize.SL.Sem
open Idealize.ShloMosaic.Pipeline (Dat)

namespace Cert.LossRefIdeal.Value
open Cert.LossRefIdeal Cert.LossRefIdeal.Gen Cert.LossRefIdeal.Read Cert.Norm

variable (X : FVec Ideal S2048x2048 .f32) (G : FVec Ideal S2048 .f32) (T : FVec Ideal S2048x2048 .f32)

theorem ref_loss : (val_main_v51 (F := Ideal) X G T : FVec Ideal S1x1 .f32) = arrLoss X G T := by
  have point : (val_main_v51 (F := Ideal) X G T : FVec Ideal S1x1 .f32) (ix2 0 0) = arrLoss X G T (ix2 0 0) := by
    pointwise [val_main_v51, val_main_v24, val_main_v23, val_main_cst_6, val_main_v22, val_main_v21, val_main_cst_5, val_main_v20, val_main_cst_4, val_main_v17, val_main_v16, val_main_v15, val_main_v14, val_main_v13, val_main_v12, val_main_v11, val_main_v7, val_main_v6, val_main_v5, val_main_cst_1, val_main_v4, val_main_v3, val_main_cst_0, val_main_v2, val_main_v1, val_main_cst, val_main_v0, val_main_cst_7]
    rw [half_sum]
    exact Finset.sum_congr rfl fun r _ => congrArg (half * ·) (div_len _)
  funext i
  rw [Cert.Reals.eq_ix2_one i]
  exact point

theorem ref_x : (val_main_v50 (F := Ideal) X G T : FVec Ideal S2048x2048 .f32) = arrLossX X G T := by
  have point : ∀ r l : Fin 2048, (val_main_v50 (F := Ideal) X G T : FVec Ideal S2048x2048 .f32) (ix2 r l) = arrLossX X G T (ix2 r l) := by
    intro r l
    pointwise [val_main_v50, val_main_v49, val_main_v48, val_main_v47, val_main_v46, val_main_v45, val_main_cst_15, val_main_v44, val_main_v43, val_main_cst_14, val_main_v42, val_main_v10, val_main_v8, val_main_v9, val_main_cst_2, val_main_v39, val_main_v38, val_main_cst_13, val_main_v37, val_main_v41, val_main_v40, val_main_v35, val_main_v34, val_main_v30, val_main_v19, val_main_v16, val_main_v15, val_main_v14, val_main_v13, val_main_v12, val_main_v11, val_main_v7, val_main_v6, val_main_v5, val_main_cst_1, val_main_v4, val_main_v3, val_main_cst_0, val_main_v2, val_main_v1, val_main_cst, val_main_v0, val_main_v18, val_main_cst_3, val_main_v29, val_main_v28, val_main_v27, val_main_cst_10, val_main_v26, val_main_v25, val_main_cst_9, val_main_cst_8]
    simp only [Finset.univ_unique, Finset.sum_singleton, err_rule]
    have h := norm_rule (sum_sq_nonneg fun k => X (ix2 r k)) 0 (err X G T r l * invLen * G (ix1 l)) (X (ix2 r l)) (∑ k : Fin 2048, X (ix2 r k) * (err X G T r k * invLen * G (ix1 k)))
    rw [zero_add] at h
    exact h
  funext i
  rw [eq_ix2 i]
  exact point (i 0) (i 1)

theorem ref_g : (val_main_v53 (F := Ideal) X G T : FVec Ideal S1x2048 .f32) = arrLossG X G T := by
  have point : ∀ l : Fin 2048, (val_main_v53 (F := Ideal) X G T : FVec Ideal S1x2048 .f32) (ix2 0 l) = arrLossG X G T (ix2 0 l) := by
    intro l
    pointwise [val_main_v53, val_main_v36, val_main_cst_12, val_main_v33, val_main_v32, val_main_cst_11, val_main_v31, val_main_v30, val_main_v19, val_main_v16, val_main_v15, val_main_v14, val_main_v13, val_main_v18, val_main_cst_3, val_main_v29, val_main_v28, val_main_v27, val_main_cst_10, val_main_v26, val_main_v25, val_main_cst_9, val_main_cst_8, val_main_v12, val_main_v11, val_main_v7, val_main_v6, val_main_v5, val_main_cst_1, val_main_v4, val_main_v3, val_main_cst_0, val_main_v2, val_main_v1, val_main_cst, val_main_v0]
    simp only [Finset.univ_unique, Finset.sum_singleton, err_rule]
    exact Finset.sum_congr rfl fun r _ => mul_comm _ _
  funext i
  rw [Cert.Reals.eq_ix2_zero i]
  exact point (i 1)

variable (m : (ℓ : Loc nD τ sig) → Buf (Elt Ideal) ℓ)

/-- The residual stream, the gain and the target as the run starts. -/
abbrev argX (c : Dev nD) : FVec Ideal S2048x2048 .f32 := m ((c : Thread nD τ).loc main_arg0)
abbrev argG (c : Dev nD) : FVec Ideal S2048 .f32 := m ((c : Thread nD τ).loc main_arg1)
abbrev argT (c : Dev nD) : FVec Ideal S2048x2048 .f32 := m ((c : Thread nD τ).loc main_arg2)

/-- The reference's run: its results are the loss and the gradient arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v51) = arrLoss (argX m c) (argG m c) (argT m c)
      ∧ r.2.mem ((c : Thread nD τ).loc main_v50) = arrLossX (argX m c) (argG m c) (argT m c)
      ∧ r.2.mem ((c : Thread nD τ).loc main_v52) = arrLossX (argX m c) (argG m c) (argT m c)
      ∧ r.2.mem ((c : Thread nD τ).loc main_v53) = arrLossG (argX m c) (argG m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (ref_loss _ _ _), (h c).2.1.trans ((val_main_v50_eq m c).trans (ref_x _ _ _)), (h c).2.2.1.trans ((val_main_v52_eq m c).trans (ref_x _ _ _)), (h c).2.2.2.1.trans (ref_g _ _ _), (h c).2.2.2.2⟩) (run m g)

end Cert.LossRefIdeal.Value
-- ==== Proof.FfnInMath.lean ====
/- The gated feed-forward layer's first half: the two products of the normed rows and their gated product. -/
module

public import proofs.«01_k».proof.Proof.FfnMath

@[expose] public section

set_option maxRecDepth 16384
noncomputable section
open Idealize.ShloMosaic Idealize.ShloMosaic.TcCoe Idealize.SL.Sem

namespace Cert.FfnIn
open Cert.Ffn

abbrev Narrow : Shape := ⟨2, ![2048, 5632]⟩

/-- Row `r` of the normed rows times column `n` of a weight matrix. -/
def product (H : FVec Ideal Rows .bf16) (W : FVec Ideal Narrow .f32) (r : Fin 2048) (n : Fin 5632) : EReal :=
  ∑ k : Fin 2048, H (ix2 r k) * W (ix2 k n)

/-- The hidden unit's value: `g · logistic g · u`. -/
def gated (g u : EReal) : EReal := g * Ideal.logistic g * u

/-- The product with one weight matrix, in blocks of hidden units. -/
def arrP (H : FVec Ideal Rows .bf16) (W : FVec Ideal Narrow .f32) : FVec Ideal Blocks .bf16 := fun i =>
  product H W (i 1) (unit (i 0) (i 2))

/-- The gated product, in blocks of hidden units. -/
def arrA (H : FVec Ideal Rows .bf16) (W W' : FVec Ideal Narrow .f32) : FVec Ideal Blocks .bf16 := fun i =>
  gated (product H W (i 1) (unit (i 0) (i 2))) (product H W' (i 1) (unit (i 0) (i 2)))

end Cert.FfnIn
-- ==== Proof.FfnInArrays.lean ====
/- The kernel's three result arrays: each block of rows and hidden units holds the two products and their gated product. -/
module

public import proofs.«01_k».proof.Proof.Gen.FfnInIdeal.Value
public import Idealize.ShloMosaic.Lib.Pipeline.ValueKit
public import Idealize.ShloMosaic.Lib.Pointwise
public import proofs.«01_k».proof.Proof.FfnInMath

@[expose] public section

set_option maxRecDepth 16384
noncomputable section
open Idealize.ShloMosaic Idealize.ShloMosaic.TcCoe Idealize.SL.Sem
open Idealize.ShloMosaic.Pipeline (Dat)

namespace Cert.FfnInIdeal.Value
open Cert.FfnInIdeal Cert.FfnInIdeal.Gen Cert.Ffn Cert.FfnIn

variable (m : (ℓ : Loc nD τ sig) → Buf (Elt Ideal) ℓ)

/-- What one grid point writes of the gate's product. -/
theorem block_g (c : Dev nD) (t : Fin cfg0.N) (x0 : FVec Ideal S1024x2048 .bf16) (x1 x2 : FVec Ideal S1x704x2048 .bf16) (r : Fin 1024) (l : Fin 704) :
    (out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 : FVec Ideal S1x1024x704 .bf16) (ix3 0 r l)
      = ∑ k : Fin 2048, x0 (ix2 r k) * x1 (ix3 0 l k) := by
  frame_out
  unfold_payloads
  canon_tiles x hx using View.cover_of_tiledBy _ ![1, 1024, 64] (by sl_kernel_rfl) _
  all_goals
    pointwise []
    obtain rfl : x 1 = r := Fin.ext hx1.symm
    first
      | (have hl : l.val = 512 + (x 2).val := hx2; simp only [← hl])
      | (have hl : l.val = 256 + (x 2).val := hx2; simp only [← hl])
      | (have hl : l.val = (x 2).val := hx2; simp only [← hl])

/-- What one grid point writes of the other branch's product. -/
theorem block_u (c : Dev nD) (t : Fin cfg0.N) (x0 : FVec Ideal S1024x2048 .bf16) (x1 x2 : FVec Ideal S1x704x2048 .bf16) (r : Fin 1024) (l : Fin 704) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 : FVec Ideal S1x1024x704 .bf16) (ix3 0 r l)
      = ∑ k : Fin 2048, x0 (ix2 r k) * x2 (ix3 0 l k) := by
  frame_out
  unfold_payloads
  canon_tiles x hx using View.cover_of_tiledBy _ ![1, 1024, 64] (by sl_kernel_rfl) _
  all_goals
    pointwise []
    obtain rfl : x 1 = r := Fin.ext hx1.symm
    first
      | (have hl : l.val = 512 + (x 2).val := hx2; simp only [← hl])
      | (have hl : l.val = 256 + (x 2).val := hx2; simp only [← hl])
      | (have hl : l.val = (x 2).val := hx2; simp only [← hl])

/-- What one grid point writes of the gated product. -/
theorem block_a (c : Dev nD) (t : Fin cfg0.N) (x0 : FVec Ideal S1024x2048 .bf16) (x1 x2 : FVec Ideal S1x704x2048 .bf16) (r : Fin 1024) (l : Fin 704) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 : FVec Ideal S1x1024x704 .bf16) (ix3 0 r l)
      = gated (∑ k : Fin 2048, x0 (ix2 r k) * x1 (ix3 0 l k)) (∑ k : Fin 2048, x0 (ix2 r k) * x2 (ix3 0 l k)) := by
  frame_out
  unfold_payloads
  canon_tiles x hx using View.cover_of_tiledBy _ ![1, 1024, 64] (by sl_kernel_rfl) _
  all_goals
    pointwise []
    obtain rfl : x 1 = r := Fin.ext hx1.symm
    first
      | (have hl : l.val = 512 + (x 2).val := hx2; simp only [← hl])
      | (have hl : l.val = 256 + (x 2).val := hx2; simp only [← hl])
      | (have hl : l.val = (x 2).val := hx2; simp only [← hl])
    rfl

/-- Where every window's block sits at each grid point. -/
theorem places : ∀ t : Fin cfg0.N, win0_0.index t = ![t.val / 8, 0] ∧ win0_1.index t = ![t.val % 8, 0, 0]
    ∧ win0_2.index t = ![t.val % 8, 0, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

/-- The normed rows, the gate's and the other branch's weights as the run starts. -/
abbrev argH (c : Dev nD) : FVec Ideal S2048x2048 .bf16 := m ((c : Thread nD τ).loc main_arg0)
abbrev argG (c : Dev nD) : FVec Ideal S2048x5632 .f32 := m ((c : Thread nD τ).loc main_arg1)
abbrev argU (c : Dev nD) : FVec Ideal S2048x5632 .f32 := m ((c : Thread nD τ).loc main_arg2)

/-- A row of this grid point's 1024, and its block of hidden units. -/
abbrev row (t : Fin cfg0.N) (r : Fin 1024) : Fin 2048 := ⟨t.val / 8 * 1024 + r.val, by have := lt_of_lt_of_eq t.isLt N_0; omega⟩
abbrev part (t : Fin cfg0.N) : Fin 8 := ⟨t.val % 8, by omega⟩

abbrev blk_h (c : Dev nD) (t : Fin cfg0.N) : FVec Ideal S1024x2048 .bf16 := iblk m c 0 t
abbrev blk_g (c : Dev nD) (t : Fin cfg0.N) : FVec Ideal S1x704x2048 .bf16 := iblk m c 1 t
abbrev blk_u (c : Dev nD) (t : Fin cfg0.N) : FVec Ideal S1x704x2048 .bf16 := iblk m c 2 t

/-- The prepared weights: blocks of hidden units, one unit's weights per row. -/
theorem prep_g (c : Dev nD) (j : Fin 8) (l : Fin 704) (k : Fin 2048) : (V m c main_v2 : FVec Ideal S8x704x2048 .bf16) (ix3 j l k) = argG m c (ix2 k (unit j l)) := by
  unfold V
  after_results
  pointwise []

theorem prep_u (c : Dev nD) (j : Fin 8) (l : Fin 704) (k : Fin 2048) : (V m c main_v5 : FVec Ideal S8x704x2048 .bf16) (ix3 j l k) = argU m c (ix2 k (unit j l)) := by
  unfold V
  after_results
  pointwise []

theorem read_h (c : Dev nD) (t : Fin cfg0.N) (r : Fin 1024) (k : Fin 2048) : blk_h m c t (ix2 r k) = argH m c (ix2 (row t r) k) := by
  show (V m c main_arg0 : FVec Ideal S2048x2048 .bf16) _ = _
  rw [V_main_arg0]
  blk_ext [places t]

theorem read_g (c : Dev nD) (t : Fin cfg0.N) (l : Fin 704) (k : Fin 2048) : blk_g m c t (ix3 0 l k) = argG m c (ix2 k (unit (part t) l)) := by
  rw [← prep_g]
  show (V m c main_v2 : FVec Ideal S8x704x2048 .bf16) _ = (V m c main_v2 : FVec Ideal S8x704x2048 .bf16) _
  blk_ext [places t]

theorem read_u (c : Dev nD) (t : Fin cfg0.N) (l : Fin 704) (k : Fin 2048) : blk_u m c t (ix3 0 l k) = argU m c (ix2 k (unit (part t) l)) := by
  rw [← prep_u]
  show (V m c main_v5 : FVec Ideal S8x704x2048 .bf16) _ = (V m c main_v5 : FVec Ideal S8x704x2048 .bf16) _
  blk_ext [places t]

theorem final_g (c : Dev nD) : (dats m 0 c).arrAt 3 (cfgs 0).N = arrP (argH m c) (argG m c) := by
  have point : ∀ (t : Fin cfg0.N) (r : Fin 1024) (l : Fin 704),
      (outsAt0 m c t).1 (ix3 0 r l) = arrP (argH m c) (argG m c) (ix3 (part t) (row t r) l) := by
    intro t r l
    unfold outsAt0
    dsimp only
    refine (block_g c t (iblk m c 0 t) (iblk m c 1 t) (iblk m c 2 t) r l).trans ?_
    simp only [read_h, read_g]
    rfl
  refine (dats m 0 c).arrAt_eq_of_covers 3 _ (by decide +kernel) fun t _ y => ?_
  blk_simp
  rw [after0_3]
  have ey : (win0_3.blk t).view.emb y = ix3 (part t) (row t (y 1)) (y 2) := by blk_ext [places t]
  rw [ey, show y = ix3 0 (y 1) (y 2) from Cert.Reals.eq_ix3_zero y]
  exact point t (y 1) (y 2)

theorem final_u (c : Dev nD) : (dats m 0 c).arrAt 4 (cfgs 0).N = arrP (argH m c) (argU m c) := by
  have point : ∀ (t : Fin cfg0.N) (r : Fin 1024) (l : Fin 704),
      (outsAt0 m c t).2.1 (ix3 0 r l) = arrP (argH m c) (argU m c) (ix3 (part t) (row t r) l) := by
    intro t r l
    unfold outsAt0
    dsimp only
    refine (block_u c t (iblk m c 0 t) (iblk m c 1 t) (iblk m c 2 t) r l).trans ?_
    simp only [read_h, read_u]
    rfl
  refine (dats m 0 c).arrAt_eq_of_covers 4 _ (by decide +kernel) fun t _ y => ?_
  blk_simp
  rw [after0_4]
  have ey : (win0_4.blk t).view.emb y = ix3 (part t) (row t (y 1)) (y 2) := by blk_ext [places t]
  rw [ey, show y = ix3 0 (y 1) (y 2) from Cert.Reals.eq_ix3_zero y]
  exact point t (y 1) (y 2)

theorem final_a (c : Dev nD) : (dats m 0 c).arrAt 5 (cfgs 0).N = arrA (argH m c) (argG m c) (argU m c) := by
  have point : ∀ (t : Fin cfg0.N) (r : Fin 1024) (l : Fin 704),
      (outsAt0 m c t).2.2 (ix3 0 r l) = arrA (argH m c) (argG m c) (argU m c) (ix3 (part t) (row t r) l) := by
    intro t r l
    unfold outsAt0
    dsimp only
    refine (block_a c t (iblk m c 0 t) (iblk m c 1 t) (iblk m c 2 t) r l).trans ?_
    simp only [read_h, read_g, read_u]
    rfl
  refine (dats m 0 c).arrAt_eq_of_covers 5 _ (by decide +kernel) fun t _ y => ?_
  blk_simp
  rw [after0_5]
  have ey : (win0_5.blk t).view.emb y = ix3 (part t) (row t (y 1)) (y 2) := by blk_ext [places t]
  rw [ey, show y = ix3 0 (y 1) (y 2) from Cert.Reals.eq_ix3_zero y]
  exact point t (y 1) (y 2)

/-- The kernel's run: its results are the two products and the gated product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v6_0) = arrP (argH m c) (argG m c)
      ∧ r.2.mem ((c : Thread nD τ).loc main_v6_1) = arrP (argH m c) (argU m c)
      ∧ r.2.mem ((c : Thread nD τ).loc main_v6_2) = arrA (argH m c) (argG m c) (argU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final_g m c), (h c).2.1.trans (final_u m c), (h c).2.2.1.trans (final_a m c), (h c).2.2.2⟩) (run_blocks m g)

end Cert.FfnInIdeal.Value
-- ==== Proof.FfnInRefValue.lean ====
/- What the reference computes: the two products and the gated product. -/
module

public import proofs.«01_k».proof.Proof.Gen.FfnInRefIdeal.Run
public import proofs.«01_k».proof.Proof.Gen.FfnInRefIdeal.Read
public import Idealize.ShloMosaic.Lib.Pipeline.ValueKit
public import Idealize.ShloMosaic.Lib.Pointwise
public import proofs.«01_k».proof.Proof.FfnInMath

@[expose] public section

set_option maxRecDepth 16384
noncomputable section
open Idealize.ShloMosaic Idealize.ShloMosaic.TcCoe Idealize.SL.Sem

namespace Cert.FfnInRefIdeal.Value
open Cert.FfnInRefIdeal Cert.FfnInRefIdeal.Gen Cert.FfnInRefIdeal.Read Cert.Ffn Cert.FfnIn

variable (H : FVec Ideal S2048x2048 .bf16) (G U : FVec Ideal S2048x5632 .f32)

/-- The gate's product. -/
theorem ref_g : (val_main_v7 (F := Ideal) H G : FVec Ideal S8x2048x704 .bf16) = arrP H G := by
  have point : ∀ (j : Fin 8) (r : Fin 2048) (l : Fin 704), (val_main_v7 (F := Ideal) H G : FVec Ideal S8x2048x704 .bf16) (ix3 j r l) = arrP H G (ix3 j r l) := by
    intro j r l
    pointwise [val_main_v7, val_main_v6, val_main_v5, val_main_v1, val_main_v0]
    rfl
  funext i
  rw [eq_ix3 i]
  exact point (i 0) (i 1) (i 2)

/-- The other branch's product. -/
theorem ref_u : (val_main_v10 (F := Ideal) H U : FVec Ideal S8x2048x704 .bf16) = arrP H U := by
  have point : ∀ (j : Fin 8) (r : Fin 2048) (l : Fin 704), (val_main_v10 (F := Ideal) H U : FVec Ideal S8x2048x704 .bf16) (ix3 j r l) = arrP H U (ix3 j r l) := by
    intro j r l
    pointwise [val_main_v10, val_main_v9, val_main_v8, val_main_v2, val_main_v0]
    rfl
  funext i
  rw [eq_ix3 i]
  exact point (i 0) (i 1) (i 2)

/-- The gated product. -/
theorem ref_a : (val_main_v13 (F := Ideal) H G U : FVec Ideal S8x2048x704 .bf16) = arrA H G U := by
  have point : ∀ (j : Fin 8) (r : Fin 2048) (l : Fin 704), (val_main_v13 (F := Ideal) H G U : FVec Ideal S8x2048x704 .bf16) (ix3 j r l) = arrA H G U (ix3 j r l) := by
    intro j r l
    pointwise [val_main_v13, val_main_v12, val_main_v11, val_main_v4, val_main_v3, val_main_call0_v5, val_main_call0_v4, val_main_call0_cst_0, val_main_call0_v3, val_main_call0_v2, val_main_call0_cst, val_main_call0_v1, val_main_call0_v0, val_main_v2, val_main_v1, val_main_v0]
    rfl
  funext i
  rw [eq_ix3 i]
  exact point (i 0) (i 1) (i 2)

variable (m : (ℓ : Loc nD τ sig) → Buf (Elt Ideal) ℓ)

abbrev argH (c : Dev nD) : FVec Ideal S2048x2048 .bf16 := m ((c : Thread nD τ).loc main_arg0)
abbrev argG (c : Dev nD) : FVec Ideal S2048x5632 .f32 := m ((c : Thread nD τ).loc main_arg1)
abbrev argU (c : Dev nD) : FVec Ideal S2048x5632 .f32 := m ((c : Thread nD τ).loc main_arg2)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v7) = arrP (argH m c) (argG m c)
      ∧ r.2.mem ((c : Thread nD τ).loc main_v10) = arrP (argH m c) (argU m c)
      ∧ r.2.mem ((c : Thread nD τ).loc main_v13) = arrA (argH m c) (argG m c) (argU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (ref_g (argH m c) (argG m c)), (h c).2.1.trans (ref_u (argH m c) (argU m c)),
    (h c).2.2.1.trans (ref_a (argH m c) (argG m c) (argU m c)), (h c).2.2.2⟩) (run m g)

end Cert.FfnInRefIdeal.Value
-- ==== Proof.AttnFwdRefRows.lean ====
/-
  The attention forward reference, first part: its rows, its bands and the relative biases. The gathers and the words of
  the indices are those of the backward reference.
-/
module

public import proofs.«01_k».proof.Proof.AttnRefSoft
public import proofs.«01_k».proof.Proof.Gen.AttnFwdRefIdeal.Read

@[expose] public section

set_option maxRecDepth 16384
noncomputable section
open Idealize.ShloMosaic Idealize.ShloMosaic.TcCoe Idealize.SL.Sem

namespace Cert.AttnFwdRefIdeal.Value
open Cert.AttnFwdRefIdeal Cert.AttnFwdRefIdeal.Gen Cert.AttnFwdRefIdeal.Read Cert.Attn Cert.Reals
open Cert.AttnRefIdeal.Value (at_congr gather_chunk gather_bias rel_lt)

variable {x0 : FVec Ideal S2048x6144 .bf16} {x1 : FVec Ideal S8x513 .f32}
variable {A : Fin 2048 → Fin 6144 → ℝ} {B : Fin 8 → Fin 513 → ℝ}
  (hA : ∀ r k, x0 (ix2 r k) = (A r k : EReal)) (hB : ∀ h b, x1 (ix2 h b) = (B h b : EReal))

include hA in
theorem query (n : Fin 32) (r : Fin 64) (h : Fin 8) (d : Fin 128) :
    val_main_v9 (F := Ideal) x0 (ix5 0 n r h d) = ((rows (headQ A h) (64 * n.val + r.val) d : ℝ) : EReal) := by
  pointwise [val_main_v9, val_main_v6, val_main_v2, val_main_v1, val_main_v0]
  rw [hA]
  unfold rows headQ
  rw [dif_pos (by omega)]
  exact at_congr (by dsimp only; omega) (by dsimp only; omega)

include hA in
theorem chunk_k (n : Fin 40) (r : Fin 64) (h : Fin 8) (d : Fin 128) :
    val_main_v12 (F := Ideal) x0 (ix5 0 n r h d) = ((padRows (headK A h) (64 * n.val + r.val) d : ℝ) : EReal) := by
  pointwise [val_main_v12, val_main_v11, val_main_v10, val_main_cst, val_main_v7, val_main_v3, val_main_v1, val_main_v0]
  unfold padRows headK
  by_cases hp : n.val * 64 + r.val < 512
  · rw [dif_pos hp, dif_neg (by omega)]
    exact EReal.coe_zero.symm
  · rw [dif_neg hp, hA, dif_pos (by omega)]
    exact at_congr (by dsimp only; omega) (by dsimp only; omega)

include hA in
theorem chunk_v (n : Fin 40) (r : Fin 64) (h : Fin 8) (d : Fin 128) :
    val_main_v14 (F := Ideal) x0 (ix5 0 n r h d) = ((padRows (headV A h) (64 * n.val + r.val) d : ℝ) : EReal) := by
  pointwise [val_main_v14, val_main_v13, val_main_v10, val_main_cst, val_main_v8, val_main_v4, val_main_v1, val_main_v0]
  unfold padRows headV
  by_cases hp : n.val * 64 + r.val < 512
  · rw [dif_pos hp, dif_neg (by omega)]
    exact EReal.coe_zero.symm
  · rw [dif_neg hp, hA, dif_pos (by omega)]
    exact at_congr (by dsimp only; omega) (by dsimp only; omega)

theorem chunk_at (n : Fin 32) (j : Fin 9) : val_main_v27 (F := Ideal) (ix3 n j 0) = BitVec.ofNat 32 (n.val + j.val) := by
  pointwise [val_main_v27, val_main_v26, val_main_v25, val_main_v24, val_main_v23, val_main_v22, val_main_v21, val_main_v20, val_main_v19, val_main_v18, val_main_v17, val_main_v16, val_main_v15, val_main_c, val_main_c_0]
  revert n j
  decide +kernel

theorem chunk_at' (n : Fin 32) (j : Fin 9) : val_main_v35 (F := Ideal) (ix3 n j 0) = BitVec.ofNat 32 (n.val + j.val) := chunk_at n j

include hA in
/-- A chunk's band of keys: row `k` of chunk `n`'s band is padded row `64 n + k`. -/
theorem band_k (n : Fin 32) (k : Fin 576) (h : Fin 8) (d : Fin 128) :
    val_main_v29 (F := Ideal) x0 (ix5 0 n k h d) = ((padRows (headK A h) (64 * n.val + k.val) d : ℝ) : EReal) := by
  pointwise [val_main_v29, val_main_v28]
  refine (gather_chunk _ _ n ⟨k.val / 64, by omega⟩ _ _ _ (chunk_at n _)).trans ((chunk_k hA _ _ _ _).trans ?_)
  congr 2
  dsimp only
  omega

include hA in
/-- The band of values. -/
theorem band_v (n : Fin 32) (k : Fin 576) (h : Fin 8) (d : Fin 128) :
    val_main_v37 (F := Ideal) x0 (ix5 0 n k h d) = ((padRows (headV A h) (64 * n.val + k.val) d : ℝ) : EReal) := by
  pointwise [val_main_v37, val_main_v36]
  refine (gather_chunk _ _ n ⟨k.val / 64, by omega⟩ _ _ _ (chunk_at' n _)).trans ((chunk_v hA _ _ _ _).trans ?_)
  congr 2
  dsimp only
  omega

theorem bias_at (r : Fin 64) (k : Fin 576) : val_main_v58 (F := Ideal) (ix3 r k 0) = BitVec.ofNat 32 (rel r.val k.val) := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41,
    val_main_call0_v4, val_main_call0_v3, val_main_call0_v2, val_main_call0_v1, val_main_call0_v0, val_main_c_4, val_main_c_5, val_main_c_6, val_main_c_7, val_main_c_8, val_main_c_9]
  revert r k
  decide +kernel

include hB in
/-- The relative bias of query row `r` and band row `k`. -/
theorem bias (h : Fin 8) (r : Fin 64) (k : Fin 576) :
    val_main_v59 (F := Ideal) x1 (ix3 h r k) = ((biases (B h) (rel r.val k.val) : ℝ) : EReal) := by
  unfold biases
  rw [dif_pos (rel_lt _ _), ← hB]
  unfold val_main_v59
  exact gather_bias _ _ h r k ⟨rel r.val k.val, rel_lt _ _⟩ (bias_at r k)

/-- A band row is masked when it is padding. -/
theorem visible (n : Fin 32) (k : Fin 576) : val_main_v68 (F := Ideal) (ix5 0 0 n 0 k) = if 8 ≤ n.val + k.val / 64 then 1#1 else 0#1 := by
  refine Eq.trans ?_ (Cert.AttnRefIdeal.Value.w73 n k)
  pointwise [val_main_v68, val_main_v67, val_main_v66, val_main_v65, val_main_v64, val_main_v21, val_main_v19, val_main_v20, val_main_v16, val_main_v18, val_main_v15, val_main_v17, val_main_c_10,
    Cert.AttnRefIdeal.Read.val_main_v73, Cert.AttnRefIdeal.Read.val_main_v72, Cert.AttnRefIdeal.Read.val_main_v71, Cert.AttnRefIdeal.Read.val_main_v70, Cert.AttnRefIdeal.Read.val_main_v69, Cert.AttnRefIdeal.Read.val_main_v26,
    Cert.AttnRefIdeal.Read.val_main_v24, Cert.AttnRefIdeal.Read.val_main_v25, Cert.AttnRefIdeal.Read.val_main_v21, Cert.AttnRefIdeal.Read.val_main_v23, Cert.AttnRefIdeal.Read.val_main_v20, Cert.AttnRefIdeal.Read.val_main_v22,
    Cert.AttnRefIdeal.Read.val_main_c_12]

end Cert.AttnFwdRefIdeal.Value
end
-- ==== Proof.AttnTile.lean ====
/-
  One tile of the attention backward kernel: its probabilities and the gradient of its scores, read as the head's.
-/
module

public import proofs.«01_k».proof.Proof.AttnRun
public import proofs.«01_k».proof.Proof.AttnMath

@[expose] public section
set_option maxRecDepth 16384
noncomputable section

namespace Cert.AttnBwdIdeal.Hand

open Cert.AttnBwdIdeal.Gen Cert.Attn Cert.Reals
open Idealize.ShloMosaic Idealize.ShloMosaic.TcCoe Idealize.SL.Sem

theorem mask_eq : (Named.named (F := Ideal) (φ := .f32) κ "mask" 0xF149F2CA#32 : Ideal .f32) = (⊥ : EReal) := rfl

/-- The kernel's test of the padding. -/
theorem pad_test (k : Fin k0_t1_loop.trips) (c : Fin 640) (x y : EReal) :
    Scalar.select (IntOp.cmpi CmpIPredicate.sge (IntOp.addi (Scalar.muli (Scf.iv 0#32 1#32 k.val) 128#32) (BitVec.ofNat 32 c.val)) 512#32) x y
      = if 512 ≤ 128 * k.val + c.val then x else y := by
  have hk : k.val < 16 := Nat.lt_of_lt_of_le k.isLt k0_t1_abs.2.1
  have hc := c.isLt
  have e0 : IntOp.addi (Scalar.muli (Scf.iv 0#32 1#32 k.val) 128#32) (BitVec.ofNat 32 c.val) = BitVec.ofNat 32 (128 * k.val + c.val) := by
    apply BitVec.eq_of_toNat_eq
    simp [IntOp.addi, Scalar.muli, IntOp.muli, Scf.iv]
    omega
  rw [e0]
  by_cases h : 512 ≤ 128 * k.val + c.val
  · have e : IntOp.cmpi CmpIPredicate.sge (BitVec.ofNat 32 (128 * k.val + c.val)) 512#32 = 1#1 := by word_cmp
    rw [e, if_pos h]; rfl
  · have e : IntOp.cmpi CmpIPredicate.sge (BitVec.ofNat 32 (128 * k.val + c.val)) 512#32 = 0#1 := by word_cmp
    rw [e, if_neg h]; rfl

/-- Whether a tile's column lies in the band of a tile's row. -/
def InBand (r c : ℕ) : Prop := r / 64 ≤ c / 64 ∧ c / 64 ≤ r / 64 + 8
instance (r c : ℕ) : Decidable (InBand r c) := inferInstanceAs (Decidable (_ ∧ _))

theorem sees_tile (k r c : ℕ) : Sees (128 * k + r) (128 * k + c) ↔ 512 ≤ 128 * k + c ∧ InBand r c := by
  unfold Sees InBand; omega

theorem rel_tile (k r c : ℕ) : rel (128 * k + r) (128 * k + c) = rel r c := by unfold rel; omega

/-- The bias table of a head: the relative biases inside the band, −∞ outside. -/
def IsTable (t : Vec Ideal S1x128x640 .f32) (B : ℕ → ℝ) : Prop :=
  ∀ (r : Fin 128) (c : Fin 640), t (ix3 0 r c) = if InBand r c then (B (rel r c) : EReal) else ⊥

section
variable (k : Fin k0_t1_loop.trips) (a : Vec Ideal S128x128 .bf16) (b : Vec Ideal S640x128 .bf16) (t : Vec Ideal S1x128x640 .f32)
  (d : Vec Ideal S128x128 .bf16) (v : Vec Ideal S640x128 .bf16)
  (Q K V D : ℕ → Fin 128 → ℝ) (B : ℕ → ℝ)
  (ha : ∀ (r : Fin 128) (l : Fin 128), a (ix2 r l) = (Q (128 * k.val + r) l : EReal))
  (hb : ∀ (c : Fin 640) (l : Fin 128), b (ix2 c l) = (K (128 * k.val + c) l : EReal))
  (hd : ∀ (r : Fin 128) (l : Fin 128), d (ix2 r l) = (D (128 * k.val + r) l : EReal))
  (hv : ∀ (c : Fin 640) (l : Fin 128), v (ix2 c l) = (V (128 * k.val + c) l : EReal))
  (ht : IsTable t B)
include ha hb ht

/-- A masked score of the tile. -/
theorem tile_score (r : Fin 128) (c : Fin 640) :
    Scalar.select (IntOp.cmpi CmpIPredicate.sge (IntOp.addi (Scalar.muli (Scf.iv 0#32 1#32 k.val) 128#32) (BitVec.ofNat 32 c.val)) 512#32)
        ((∑ x, a (ix2 r x) * b (ix2 c x)) * Ideal.ofBits FTy.f32 0x3DB504F3#32 + t (ix3 0 r c)) (Named.named (F := Ideal) (φ := .f32) κ "mask" 0xF149F2CA#32)
      = if Sees (128 * k.val + r) (128 * k.val + c) then (score Q K B (128 * k.val + r) (128 * k.val + c) : EReal) else ⊥ := by
  rw [pad_test, mask_eq, ht, ofBits_scale]
  simp only [ha, hb, ← EReal.coe_mul, coe_sum]
  by_cases h1 : 512 ≤ 128 * k.val + c.val
  · by_cases h2 : InBand r c
    · rw [if_pos h1, if_pos h2, if_pos ((sees_tile _ _ _).2 ⟨h1, h2⟩), ← EReal.coe_add, score, rel_tile]
    · rw [if_pos h1, if_neg h2, if_neg (fun h => h2 ((sees_tile _ _ _).1 h).2), EReal.add_bot]
  · rw [if_neg h1, if_neg (fun h => h1 ((sees_tile _ _ _).1 h).1)]

/-- The tile's probabilities. -/
theorem tile_prob (r : Fin 128) (c : Fin 640) :
    k0_pay8 (F := Ideal) 0#32 1#32 k a b t (ix2 r c) = (pr Q K B (128 * k.val + r) (128 * k.val + c) : EReal) := by
  have hk : k.val < 16 := Nat.lt_of_lt_of_le k.isLt k0_t1_abs.2.1
  have hr := r.isLt
  pointwise [k0_pay8]
  rw [ofBits_neg_inf]
  rw [softmax_row _ (fun c : Fin 640 => Sees (128 * k.val + r) (128 * k.val + c)) (fun c : Fin 640 => score Q K B (128 * k.val + r) (128 * k.val + c))
    (fun c => tile_score k a b t Q K B ha hb ht r c) ⟨512 + r.val, by omega⟩ ⟨by show 512 ≤ 128 * k.val + (512 + r.val); omega, by show _ ≤ (128 * k.val + (512 + r.val)) / 64; omega, by show (128 * k.val + (512 + r.val)) / 64 ≤ _; omega⟩]
  rw [pr, total, ← sum_window _ (128 * k.val) 640 (by omega)]
  intro p hp
  rw [if_neg]
  intro h
  unfold Sees at h
  omega

include hd hv
/-- The gradient of the tile's scores. -/
theorem tile_dscore (r : Fin 128) (c : Fin 640) :
    k0_pay9 (F := Ideal) 0#32 1#32 k a b t d v (ix2 r c) = (ds Q K V D B (128 * k.val + r) (128 * k.val + c) : EReal) := by
  have hk : k.val < 16 := Nat.lt_of_lt_of_le k.isLt k0_t1_abs.2.1
  have hr := r.isLt
  have hp := tile_prob k a b t Q K B ha hb ht
  pointwise [k0_pay9]
  simp only [hp, hd, hv, ← EReal.coe_mul, coe_sum, ← EReal.coe_sub]
  rw [ds, mean, ← sum_window _ (128 * k.val) 640 (by omega)]
  · rfl
  intro p hp
  rw [pr_of_not, zero_mul]
  intro h
  unfold Sees at h
  omega

end
end Cert.AttnBwdIdeal.Hand
end
-- ==== Proof.AttnStates.lean ====
/-
  What the attention backward kernel's four results hold after its tiles: the head's gradients.
-/
module

public import proofs.«01_k».proof.Proof.AttnTile

@[expose] public section
set_option maxRecDepth 16384
noncomputable section

namespace Cert.AttnBwdIdeal.Hand

open Cert.AttnBwdIdeal.Gen Cert.Attn Cert.Reals
open Idealize.ShloMosaic Idealize.ShloMosaic.TcCoe Idealize.SL.Sem

theorem trip_lt (k : Fin k0_t1_loop.trips) : k.val < 16 := Nat.lt_of_lt_of_le k.isLt k0_t1_abs.2.1

theorem embQ (k : Fin k0_t1_loop.trips) (r l : Fin 128) :
    (rectQ k).emb (ix2 r l) = ix2 ⟨128 * k.val + r.val, by have := trip_lt k; omega⟩ l := by
  funext a
  match a with
  | ⟨0, _⟩ => exact Fin.ext (by show (k0_off1 k) 0 + 1 * r.val = _; rw [off1_eq]; show 128 * k.val + 1 * r.val = 128 * k.val + r.val; omega)
  | ⟨1, _⟩ => exact Fin.ext (by show (k0_off1 k) 1 + 1 * l.val = _; rw [off1_eq]; show 0 + 1 * l.val = l.val; omega)

theorem embK (k : Fin k0_t1_loop.trips) (c : Fin 640) (l : Fin 128) :
    (rectK k).emb (ix2 c l) = ix2 ⟨128 * k.val + c.val, by have := trip_lt k; omega⟩ l := by
  funext a
  match a with
  | ⟨0, _⟩ => exact Fin.ext (by show (k0_off2 k) 0 + 1 * c.val = _; rw [off2_eq]; show 128 * k.val + 1 * c.val = 128 * k.val + c.val; omega)
  | ⟨1, _⟩ => exact Fin.ext (by show (k0_off2 k) 1 + 1 * l.val = _; rw [off2_eq]; show 0 + 1 * l.val = l.val; omega)

theorem pay1_apply (d : FVec Ideal S128x640 .f32) (t : Vec Ideal S1x128x640 .f32) (r : Fin 128) (c : Fin 640) :
    k0_pay1 d t (ix3 0 r c) = t (ix3 0 r c) + d (ix2 r c) := by pointwise [k0_pay1]

theorem pay3_apply (w : Vec Ideal S640x128 .bf16) (d : FVec Ideal S128x640 .f32) (r l : Fin 128) :
    k0_pay3 w d (ix2 r l) = (∑ c, d (ix2 r c) * w (ix2 c l)) * Ideal.ofBits .f32 0x3DB504F3#32 := by pointwise [k0_pay3, k0_pay2]

theorem pay4_apply (q : Vec Ideal S128x128 .bf16) (d : FVec Ideal S128x640 .f32) (g : Vec Ideal S640x128 .f32) (c : Fin 640) (l : Fin 128) :
    k0_pay4 q d g (ix2 c l) = g (ix2 c l) + (∑ r, d (ix2 r c) * q (ix2 r l)) * Ideal.ofBits .f32 0x3DB504F3#32 := by pointwise [k0_pay4, k0_pay2]

theorem pay5_apply (p : FVec Ideal S128x640 .f32) (q : Vec Ideal S128x128 .bf16) (g : Vec Ideal S640x128 .f32) (c : Fin 640) (l : Fin 128) :
    k0_pay5 p q g (ix2 c l) = g (ix2 c l) + ∑ r, p (ix2 r c) * q (ix2 r l) := by pointwise [k0_pay5]

section
variable (x0 x3 : Vec Ideal S2048x128 .bf16) (kp vp : Vec Ideal S2560x128 .bf16) (x4 : Vec Ideal S1x128x640 .f32)
  (Q K V D : ℕ → Fin 128 → ℝ) (B : ℕ → ℝ)
  (h0 : ∀ (s : Fin 2048) (l : Fin 128), x0 (ix2 s l) = (Q s l : EReal))
  (h1 : ∀ (p : Fin 2560) (l : Fin 128), kp (ix2 p l) = (K p l : EReal))
  (h2 : ∀ (p : Fin 2560) (l : Fin 128), vp (ix2 p l) = (V p l : EReal))
  (h3 : ∀ (s : Fin 2048) (l : Fin 128), x3 (ix2 s l) = (D s l : EReal))
  (h4 : IsTable x4 B)

theorem ldQ (X : ℕ → Fin 128 → ℝ) (x : Vec Ideal S2048x128 .bf16) (h : ∀ (s : Fin 2048) (l : Fin 128), x (ix2 s l) = (X s l : EReal))
    (k : Fin k0_t1_loop.trips) (r l : Fin 128) : View.ld (Val := Elt Ideal) x (rectQ k) (ix2 r l) = (X (128 * k.val + r) l : EReal) := by
  show x ((rectQ k).emb (ix2 r l)) = _
  rw [embQ, h]
theorem ldK (X : ℕ → Fin 128 → ℝ) (x : Vec Ideal S2560x128 .bf16) (h : ∀ (s : Fin 2560) (l : Fin 128), x (ix2 s l) = (X s l : EReal))
    (k : Fin k0_t1_loop.trips) (r : Fin 640) (l : Fin 128) : View.ld (Val := Elt Ideal) x (rectK k) (ix2 r l) = (X (128 * k.val + r) l : EReal) := by
  show x ((rectK k).emb (ix2 r l)) = _
  rw [embK, h]

include h0 h1 h4
theorem prob_eq (k : Fin k0_t1_loop.trips) (r : Fin 128) (c : Fin 640) :
    prob k x0 kp x4 (ix2 r c) = (pr Q K B (128 * k.val + r) (128 * k.val + c) : EReal) :=
  tile_prob k _ _ _ Q K B (ldQ Q x0 h0 k) (ldK K kp h1 k) h4 r c

include h2 h3
theorem dscore_eq (k : Fin k0_t1_loop.trips) (r : Fin 128) (c : Fin 640) :
    dscore k x0 kp vp x3 x4 (ix2 r c) = (ds Q K V D B (128 * k.val + r) (128 * k.val + c) : EReal) :=
  tile_dscore k _ _ _ _ _ Q K V D B (ldQ Q x0 h0 k) (ldK K kp h1 k) (ldQ D x3 h3 k) (ldK V vp h2 k) h4 r c

/-- The queries' gradient: the rows of the tiles so far. -/
theorem stQ_val (g : Vec Ideal S2048x128 .bf16) (n : ℕ) (hn : n ≤ k0_t1_loop.trips) (s : Fin 2048) (l : Fin 128) (hs : s.val < 128 * n) :
    stQ x0 kp vp x3 x4 g n (ix2 s l) = (gradQ Q K V D B s l : EReal) := by
  induction n with
  | zero => omega
  | succ n ih =>
    have h : n < k0_t1_loop.trips := hn
    have hk : n < 16 := trip_lt ⟨n, h⟩
    unfold stQ
    rw [dif_pos h]
    by_cases hm : 128 * n ≤ s.val
    · obtain ⟨r, rfl⟩ : ∃ r : Fin 128, s = ⟨128 * n + r.val, by clear hm hs; omega⟩ := ⟨⟨s.val - 128 * n, by omega⟩, Fin.ext (by show _ = 128 * n + (s.val - 128 * n); omega)⟩
      rw [show (ix2 ⟨128 * n + r.val, _⟩ l : S2048x128.Idx) = (rectQ ⟨n, h⟩).emb (ix2 r l) from (embQ ⟨n, h⟩ r l).symm, Rect.overlay_emb, pay3_apply]
      simp only [dscore_eq x0 x3 kp vp x4 Q K V D B h0 h1 h2 h3 h4, ldK K kp h1, ofBits_scale, ← EReal.coe_mul, coe_sum]
      rw [gradQ, ← sum_window _ (128 * n) 640 (by omega)]
      intro p hp
      rw [ds_of_not, zero_mul]
      intro h
      unfold Sees at h
      have := r.isLt
      omega
    · rw [Rect.overlay_of_not_mem, ih (by omega) (by omega)]
      intro hc
      have := (Rect.mem_set_unit.1 hc 0).1
      rw [off1_eq] at this
      exact hm this

/-- The table's gradient: the tiles so far. -/
theorem stT_val (g : Vec Ideal S1x128x640 .f32) (hg : ∀ r c, g (ix3 0 r c) = (0 : EReal)) (n : ℕ) (hn : n ≤ k0_t1_loop.trips) (r : Fin 128) (c : Fin 640) :
    stT x0 kp vp x3 x4 g n (ix3 0 r c) = ((∑ i ∈ Finset.range n, ds Q K V D B (128 * i + r) (128 * i + c) : ℝ) : EReal) := by
  induction n with
  | zero => rw [stT, hg]; simp
  | succ n ih =>
    have h : n < k0_t1_loop.trips := hn
    unfold stT
    rw [dif_pos h]
    rw [pay1_apply, ih (by omega), dscore_eq x0 x3 kp vp x4 Q K V D B h0 h1 h2 h3 h4, ← EReal.coe_add, Finset.sum_range_succ]

/-- The keys' gradient: the queries of the tiles so far. -/
theorem stK_val (g : Vec Ideal S2560x128 .f32) (hg : ∀ p l, g (ix2 p l) = (0 : EReal)) (n : ℕ) (hn : n ≤ k0_t1_loop.trips) (p : Fin 2560) (l : Fin 128) :
    stK x0 kp vp x3 x4 g n (ix2 p l) = (((∑ s ∈ Finset.range (128 * n), ds Q K V D B s p * Q s l) * scale : ℝ) : EReal) := by
  induction n generalizing p l with
  | zero => rw [stK, hg]; simp
  | succ n ih =>
    have h : n < k0_t1_loop.trips := hn
    have hk : n < 16 := trip_lt ⟨n, h⟩
    unfold stK
    rw [dif_pos h, show 128 * (n + 1) = 128 * n + 128 by ring, Finset.sum_range_add, add_mul]
    by_cases hm : 128 * n ≤ p.val ∧ p.val < 128 * n + 640
    · obtain ⟨c, rfl⟩ : ∃ c : Fin 640, p = ⟨128 * n + c.val, by clear hm; omega⟩ := ⟨⟨p.val - 128 * n, by omega⟩, Fin.ext (by show _ = 128 * n + (p.val - 128 * n); omega)⟩
      rw [show (ix2 ⟨128 * n + c.val, _⟩ l : S2560x128.Idx) = (rectK ⟨n, h⟩).emb (ix2 c l) from (embK ⟨n, h⟩ c l).symm, Rect.overlay_emb, pay4_apply]
      simp only [dscore_eq x0 x3 kp vp x4 Q K V D B h0 h1 h2 h3 h4, ldQ Q x0 h0, ofBits_scale, ← EReal.coe_mul, coe_sum]
      rw [show View.ld (Val := Elt Ideal) (stK x0 kp vp x3 x4 g n) (rectK ⟨n, h⟩) (ix2 c l) = stK x0 kp vp x3 x4 g n ((rectK ⟨n, h⟩).emb (ix2 c l)) from rfl,
        embK, ih (by omega), ← EReal.coe_add]
      rw [Fin.sum_univ_eq_sum_range (fun i => ds Q K V D B (128 * n + i) (128 * n + c) * Q (128 * n + i) l) 128]
    · rw [Rect.overlay_of_not_mem, ih (by omega), Finset.sum_eq_zero (s := Finset.range 128), zero_mul, add_zero]
      · intro i hi
        rw [Finset.mem_range] at hi
        rw [ds_of_not, zero_mul]
        intro h
        unfold Sees at h
        omega
      · intro hc
        have := Rect.mem_set_unit.1 hc 0
        rw [off2_eq] at this
        exact hm this

omit h2 in
/-- The values' gradient: the queries of the tiles so far. -/
theorem stV_val (g : Vec Ideal S2560x128 .f32) (hg : ∀ p l, g (ix2 p l) = (0 : EReal)) (n : ℕ) (hn : n ≤ k0_t1_loop.trips) (p : Fin 2560) (l : Fin 128) :
    stV x0 kp x3 x4 g n (ix2 p l) = ((∑ s ∈ Finset.range (128 * n), pr Q K B s p * D s l : ℝ) : EReal) := by
  induction n generalizing p l with
  | zero => rw [stV, hg]; simp
  | succ n ih =>
    have h : n < k0_t1_loop.trips := hn
    have hk : n < 16 := trip_lt ⟨n, h⟩
    unfold stV
    rw [dif_pos h, show 128 * (n + 1) = 128 * n + 128 by ring, Finset.sum_range_add]
    by_cases hm : 128 * n ≤ p.val ∧ p.val < 128 * n + 640
    · obtain ⟨c, rfl⟩ : ∃ c : Fin 640, p = ⟨128 * n + c.val, by clear hm; omega⟩ := ⟨⟨p.val - 128 * n, by omega⟩, Fin.ext (by show _ = 128 * n + (p.val - 128 * n); omega)⟩
      rw [show (ix2 ⟨128 * n + c.val, _⟩ l : S2560x128.Idx) = (rectK ⟨n, h⟩).emb (ix2 c l) from (embK ⟨n, h⟩ c l).symm, Rect.overlay_emb, pay5_apply]
      simp only [prob_eq x0 kp x4 Q K B h0 h1 h4, ldQ D x3 h3, ← EReal.coe_mul, coe_sum]
      rw [show View.ld (Val := Elt Ideal) (stV x0 kp x3 x4 g n) (rectK ⟨n, h⟩) (ix2 c l) = stV x0 kp x3 x4 g n ((rectK ⟨n, h⟩).emb (ix2 c l)) from rfl,
        embK, ih (by omega), ← EReal.coe_add]
      rw [Fin.sum_univ_eq_sum_range (fun i => pr Q K B (128 * n + i) (128 * n + c) * D (128 * n + i) l) 128]
    · rw [Rect.overlay_of_not_mem, ih (by omega), Finset.sum_eq_zero (s := Finset.range 128), add_zero]
      · intro i hi
        rw [Finset.mem_range] at hi
        rw [pr_of_not, zero_mul]
        intro h
        unfold Sees at h
        omega
      · intro hc
        have := Rect.mem_set_unit.1 hc 0
        rw [off2_eq] at this
        exact hm this

end
end Cert.AttnBwdIdeal.Hand
end
-- ==== Proof.AttnBlock.lean ====
/-
  What the attention backward kernel leaves for one head, from the head's blocks: its gradients.
-/
module

public import proofs.«01_k».proof.Proof.AttnStates

@[expose] public section
set_option maxRecDepth 16384
noncomputable section

namespace Cert.AttnBwdIdeal.Hand

open Cert.AttnBwdIdeal.Gen Cert.Attn Cert.Reals
open Idealize.ShloMosaic Idealize.ShloMosaic.TcCoe Idealize.SL.Sem

theorem padded_apply (x : Vec Ideal S2048x128 .bf16) (X : Fin 2048 → Fin 128 → ℝ) (h : ∀ s l, x (ix2 s l) = (X s l : EReal))
    (p : Fin 2560) (l : Fin 128) : padded x (ix2 p l) = (padRows X p l : EReal) := by
  unfold padded padRows
  by_cases hp : 512 ≤ p.val
  · rw [dif_pos ⟨hp, p.isLt⟩]
    have e : (ix2 p l : S2560x128.Idx) = (Rect.unit (s := S2560x128) ![512, 0] S2048x128.size inb_S2560x128_S2048x128_512_0).emb (ix2 ⟨p.val - 512, by omega⟩ l) := by
      funext a
      match a with
      | ⟨0, _⟩ => exact Fin.ext (by show p.val = 512 + 1 * (p.val - 512); omega)
      | ⟨1, _⟩ => exact Fin.ext (by show l.val = 0 + 1 * l.val; omega)
    rw [e, View.canon_cons_emb]
    refine Eq.trans ?_ (h _ _)
    pointwise [k0_pay13]
  · rw [dif_neg (fun h => hp h.1)]
    have hn : (ix2 p l : S2560x128.Idx) ∉ (Rect.unit (s := S2560x128) ![512, 0] S2048x128.size inb_S2560x128_S2048x128_512_0).set := fun hc =>
      hp (Rect.mem_set_unit.1 hc 0).1
    have e : (ix2 p l : S2560x128.Idx) = (Rect.unit (s := S2560x128) ![0, 0] S512x128.size inb_S2560x128_S512x128_0_0).emb (ix2 ⟨p.val, by omega⟩ l) := by
      funext a
      match a with
      | ⟨0, _⟩ => exact Fin.ext (by show p.val = 0 + 1 * p.val; omega)
      | ⟨1, _⟩ => exact Fin.ext (by show l.val = 0 + 1 * l.val; omega)
    refine (View.canon_cons_of_not_mem (Val := Elt Ideal) (e := .bf16) ⟨Rect.unit (s := S2560x128) ![512, 0] S2048x128.size inb_S2560x128_S2048x128_512_0, k0_pay13 x⟩ _ hn).trans ?_
    rw [e, View.canon_cons_emb]
    pointwise [k0_pay11, k0_pay10]
    exact (by simp [Ideal.ofBits, Ideal.ieee])

theorem coe_rows (x : Vec Ideal S2048x128 .bf16) (X : Fin 2048 → Fin 128 → ℝ) (h : ∀ s l, x (ix2 s l) = (X s l : EReal))
    (s : Fin 2048) (l : Fin 128) : x (ix2 s l) = (rows X s l : EReal) := by rw [h, rows_apply]

theorem ld_tail (g : Vec Ideal S2560x128 .f32) (s : Fin 2048) (l : Fin 128) :
    View.ld (Val := Elt Ideal) g rectTail (ix2 s l) = g (ix2 ⟨s.val + 512, by omega⟩ l) := by
  show g ((rectTail).emb (ix2 s l)) = _
  congr 1
  funext a
  match a with
  | ⟨0, _⟩ => exact Fin.ext (by show 512 + 1 * s.val = s.val + 512; omega)
  | ⟨1, _⟩ => exact Fin.ext (by show 0 + 1 * l.val = l.val; omega)

theorem pay6_apply (g : Vec Ideal S2048x128 .f32) (s : Fin 2048) (l : Fin 128) : k0_pay6 g (ix2 s l) = g (ix2 s l) := by pointwise [k0_pay6]
theorem pay7_apply (g : Vec Ideal S2048x128 .f32) (s : Fin 2048) (l : Fin 128) : k0_pay7 g (ix2 s l) = g (ix2 s l) := by pointwise [k0_pay7]

section
variable (x0 x1 x2 x3 : Vec Ideal S2048x128 .bf16) (x4 : Vec Ideal S1x128x640 .f32)
  (q k v d : Fin 2048 → Fin 128 → ℝ) (b : Fin 513 → ℝ)
  (h0 : ∀ s l, x0 (ix2 s l) = (q s l : EReal)) (h1 : ∀ s l, x1 (ix2 s l) = (k s l : EReal))
  (h2 : ∀ s l, x2 (ix2 s l) = (v s l : EReal)) (h3 : ∀ s l, x3 (ix2 s l) = (d s l : EReal)) (h4 : IsTable x4 (biases b))
include h0 h1 h3 h4

theorem outV_val (s : Fin 2048) (l : Fin 128) :
    outV x0 x1 x3 x4 (ix2 s l) = (gradV (rows q) (padRows k) (rows d) (biases b) (s + 512) l : EReal) := by
  unfold outV
  rw [pay7_apply, ld_tail, stV_val x0 x3 (padded x1) x4 (rows q) (padRows k) (rows d) (biases b) (coe_rows x0 q h0) (padded_apply x1 k h1) (coe_rows x3 d h3) h4 _
    (fun p l => by pointwise [k0_pay16]) _ le_rfl, trips_eq]
  rfl

include h2
theorem outQ_val (s : Fin 2048) (l : Fin 128) :
    outQ x0 x1 x2 x3 x4 (ix2 s l) = (gradQ (rows q) (padRows k) (padRows v) (rows d) (biases b) s l : EReal) :=
  stQ_val x0 x3 (padded x1) (padded x2) x4 (rows q) (padRows k) (padRows v) (rows d) (biases b) (coe_rows x0 q h0) (padded_apply x1 k h1) (padded_apply x2 v h2)
    (coe_rows x3 d h3) h4 _ _ le_rfl s l (by rw [trips_eq]; exact s.isLt)

theorem outT_val (r : Fin 128) (c : Fin 640) :
    outT x0 x1 x2 x3 x4 (ix3 0 r c) = ((∑ i ∈ Finset.range 16, ds (rows q) (padRows k) (padRows v) (rows d) (biases b) (128 * i + r) (128 * i + c) : ℝ) : EReal) := by
  unfold outT
  rw [stT_val x0 x3 (padded x1) (padded x2) x4 (rows q) (padRows k) (padRows v) (rows d) (biases b) (coe_rows x0 q h0) (padded_apply x1 k h1) (padded_apply x2 v h2)
    (coe_rows x3 d h3) h4 _ (fun r c => by pointwise [k0_pay17]) _ le_rfl r c, trips_eq]

theorem outK_val (s : Fin 2048) (l : Fin 128) :
    outK x0 x1 x2 x3 x4 (ix2 s l) = (gradK (rows q) (padRows k) (padRows v) (rows d) (biases b) (s + 512) l : EReal) := by
  unfold outK
  rw [pay6_apply, ld_tail, stK_val x0 x3 (padded x1) (padded x2) x4 (rows q) (padRows k) (padRows v) (rows d) (biases b) (coe_rows x0 q h0) (padded_apply x1 k h1) (padded_apply x2 v h2) (coe_rows x3 d h3) h4 _
    (fun p l => by pointwise [k0_pay15]) _ le_rfl, trips_eq]
  rfl

end
end Cert.AttnBwdIdeal.Hand
end
-- ==== Proof.AttnFwdTile.lean ====
/-
  The attention itself, and one tile of the forward kernel: its 128 rows of the attention.
-/
module

public import proofs.«01_k».proof.Proof.AttnBlock
public import proofs.«01_k».proof.Proof.AttnSpec
public import proofs.«01_k».proof.Proof.Gen.AttnFwdIdeal.Frame

@[expose] public section
set_option maxRecDepth 16384
noncomputable section

namespace Cert.Attn
open Idealize.ShloMosaic Cert.Reals

/-- A row of the attention: the values weighted by the row's probabilities. -/
def attend (Q K V : ℕ → Fin 128 → ℝ) (B : ℕ → ℝ) (s : ℕ) (d : Fin 128) : ℝ := ∑ p ∈ Finset.range 2560, pr Q K B s p * V p d

/-- The attention over all eight heads. -/
def resO (A : Fin 2048 → Fin 6144 → ℝ) (B : Fin 8 → Fin 513 → ℝ) (s : Fin 2048) (j : Fin 1024) : ℝ :=
  attend (rows (headQ A (hd j))) (padRows (headK A (hd j))) (padRows (headV A (hd j))) (biases (B (hd j))) s (co j)

end Cert.Attn

namespace Cert.AttnFwdIdeal.Hand

open Cert.AttnFwdIdeal Cert.AttnFwdIdeal.Gen Cert.Attn Cert.Reals
open Idealize.ShloMosaic Idealize.ShloMosaic.TcCoe Idealize.SL.Sem
open Cert.AttnBwdIdeal.Hand (IsTable tile_score)

theorem mask_eq : (Named.named (F := Ideal) (φ := .f32) κ "mask" 0xF149F2CA#32 : Ideal .f32) = (⊥ : EReal) := rfl

theorem trip_lt (k : Fin k0_t1_loop.trips) : k.val < 16 := Nat.lt_of_lt_of_le k.isLt k0_t1_abs.2.1

/-- The same tile of the backward kernel, whose scores are the same. -/
abbrev same (k : Fin k0_t1_loop.trips) : Fin Cert.AttnBwdIdeal.k0_t1_loop.trips :=
  ⟨k.val, lt_of_lt_of_eq (trip_lt k) Cert.AttnBwdIdeal.Hand.trips_eq.symm⟩

/-- The tile's rows of the attention. -/
theorem tile_out (k : Fin k0_t1_loop.trips) (a : Vec Ideal S128x128 .bf16) (b : Vec Ideal S640x128 .bf16) (t : Vec Ideal S1x128x640 .f32)
    (v : Vec Ideal S640x128 .bf16) (Q K V : ℕ → Fin 128 → ℝ) (B : ℕ → ℝ)
    (ha : ∀ (r : Fin 128) (l : Fin 128), a (ix2 r l) = (Q (128 * k.val + r) l : EReal))
    (hb : ∀ (c : Fin 640) (l : Fin 128), b (ix2 c l) = (K (128 * k.val + c) l : EReal))
    (hv : ∀ (c : Fin 640) (l : Fin 128), v (ix2 c l) = (V (128 * k.val + c) l : EReal))
    (ht : IsTable t B) (r l : Fin 128) :
    k0_pay6 (F := Ideal) k a b t v (ix2 r l) = (attend Q K V B (128 * k.val + r) l : EReal) := by
  have hk := trip_lt k
  have hr := r.isLt
  have hs := fun c => (tile_score (same k) a b t Q K B ha hb ht r c)
  rw [Cert.AttnBwdIdeal.Hand.mask_eq] at hs
  pointwise [k0_pay6]
  rw [ofBits_neg_inf, mask_eq]
  have hp := fun c : Fin 640 => softmax_row _ (fun c : Fin 640 => Sees (128 * k.val + r) (128 * k.val + c)) (fun c : Fin 640 => score Q K B (128 * k.val + r) (128 * k.val + c))
    hs ⟨512 + r.val, by omega⟩ ⟨by show 512 ≤ 128 * k.val + (512 + r.val); omega, by show _ ≤ (128 * k.val + (512 + r.val)) / 64; omega, by show (128 * k.val + (512 + r.val)) / 64 ≤ _; omega⟩ c
  have hw : ∀ c : Fin 640, (if Sees (128 * k.val + r) (128 * k.val + c) then Real.exp (score Q K B (128 * k.val + r) (128 * k.val + c)) / ∑ j : Fin 640, (if Sees (128 * k.val + r) (128 * k.val + j) then Real.exp (score Q K B (128 * k.val + r) (128 * k.val + j)) else 0) else 0 : ℝ)
      = pr Q K B (128 * k.val + r) (128 * k.val + c) := by
    intro c
    rw [pr, total, ← sum_window _ (128 * k.val) 640 (by omega)]
    intro p hp
    rw [if_neg]
    intro h
    unfold Sees at h
    omega
  rw [Finset.sum_congr (M := EReal) rfl fun c _ => by rw [hv, show _ = _ from hp c, hw, ← EReal.coe_mul], coe_sum]
  rw [attend, ← sum_window _ (128 * k.val) 640 (by omega)]
  intro p hp
  rw [pr_of_not, zero_mul]
  intro h
  unfold Sees at h
  omega

end Cert.AttnFwdIdeal.Hand
end
-- ==== Proof.AttnFwdBlock.lean ====
/-
  What the attention forward kernel leaves for one head, from the head's blocks: the head's attention.
-/
module

public import proofs.«01_k».proof.Proof.AttnFwdTile

@[expose] public section
set_option maxRecDepth 16384
noncomputable section

namespace Cert.AttnFwdIdeal.Hand

open Cert.AttnFwdIdeal Cert.AttnFwdIdeal.Gen Cert.Attn Cert.Reals
open Idealize.ShloMosaic Idealize.ShloMosaic.TcCoe Idealize.SL.Sem
open Cert.AttnBwdIdeal.Hand (IsTable padded padded_apply coe_rows)

/-- The rows of a tile's queries and of its window of keys. -/
abbrev rectQ (k : Fin k0_t1_loop.trips) : Rect S2048x128 := Rect.unit (s := S2048x128) (k0_off1 k) S128x128.size (k0_off1_inb k)
abbrev rectK (k : Fin k0_t1_loop.trips) : Rect S2560x128 := Rect.unit (s := S2560x128) (k0_off2 k) S640x128.size (k0_off2_inb k)

theorem trips_eq : k0_t1_loop.trips = 16 := by decide

theorem off1_eq (k : Fin k0_t1_loop.trips) : k0_off1 k = ![128 * k.val, 0] := by
  have key : ∀ n : Fin 16, k0_off1 ⟨n.val, by rw [trips_eq]; exact n.isLt⟩ = ![128 * n.val, 0] := by decide
  exact key ⟨k.val, trip_lt k⟩
theorem off2_eq (k : Fin k0_t1_loop.trips) : k0_off2 k = ![128 * k.val, 0] := by
  have key : ∀ n : Fin 16, k0_off2 ⟨n.val, by rw [trips_eq]; exact n.isLt⟩ = ![128 * n.val, 0] := by decide
  exact key ⟨k.val, trip_lt k⟩

theorem embQ (k : Fin k0_t1_loop.trips) (r l : Fin 128) :
    (rectQ k).emb (ix2 r l) = ix2 ⟨128 * k.val + r.val, by have := trip_lt k; omega⟩ l := by
  funext a
  match a with
  | ⟨0, _⟩ => exact Fin.ext (by show (k0_off1 k) 0 + 1 * r.val = _; rw [off1_eq]; show 128 * k.val + 1 * r.val = 128 * k.val + r.val; omega)
  | ⟨1, _⟩ => exact Fin.ext (by show (k0_off1 k) 1 + 1 * l.val = _; rw [off1_eq]; show 0 + 1 * l.val = l.val; omega)

theorem embK (k : Fin k0_t1_loop.trips) (c : Fin 640) (l : Fin 128) :
    (rectK k).emb (ix2 c l) = ix2 ⟨128 * k.val + c.val, by have := trip_lt k; omega⟩ l := by
  funext a
  match a with
  | ⟨0, _⟩ => exact Fin.ext (by show (k0_off2 k) 0 + 1 * c.val = _; rw [off2_eq]; show 128 * k.val + 1 * c.val = 128 * k.val + c.val; omega)
  | ⟨1, _⟩ => exact Fin.ext (by show (k0_off2 k) 1 + 1 * l.val = _; rw [off2_eq]; show 0 + 1 * l.val = l.val; omega)

section
variable (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S1x128x640 .f32) (harg4 : arg4.IsWhole) (arg5 : Memref sig .tc .vmem S2048x128 .bf16) (harg5 : arg5.IsWhole) (arg6 : Memref sig .tc .vmem S2560x128 .bf16) (harg6 : arg6.IsWhole) (arg7 : Memref sig .tc .vmem S2560x128 .bf16) (harg7 : arg7.IsWhole)

/-- What one tile stores: its rows, from what the buffers read. -/
theorem tile_piece (X1 : BufTy.Contents (Elt Ideal) arg1.view.ty) (X4 : BufTy.Contents (Elt Ideal) arg4.view.ty) (X6 : BufTy.Contents (Elt Ideal) arg6.view.ty) (X7 : BufTy.Contents (Elt Ideal) arg7.view.ty) (k : Fin k0_t1_loop.trips) :
    tripL_k0_t1 (F := Ideal) Variants.none c none i arg1 harg1 arg2 harg2 arg3 harg3 arg4 harg4 arg5 harg5 arg6 harg6 arg7 harg7 X1 X4 X6 X7 k
      = [⟨rectQ k, k0_pay6 k (View.ld (arg1.view.read (Elt Ideal) X1) (rectQ k)) (View.ld (arg6.view.read (Elt Ideal) X6) (rectK k)) (arg4.view.read (Elt Ideal) X4)
          (View.ld (arg7.view.read (Elt Ideal) X7) (rectK k))⟩] := by
  unfold tripL_k0_t1 trip_k0_t1
  dsimp only
  rw [View.readAt_full]
  rfl

/-- The rows of the tiles so far, when every tile stores the rows of one array. -/
theorem rows_so_far (X1 : BufTy.Contents (Elt Ideal) arg1.view.ty) (X4 : BufTy.Contents (Elt Ideal) arg4.view.ty) (X6 : BufTy.Contents (Elt Ideal) arg6.view.ty) (X7 : BufTy.Contents (Elt Ideal) arg7.view.ty)
    (v : View sig .tc .vmem S2048x128 .bf16) (g : v.ty.Contents (Elt Ideal)) (f : ℕ → Fin 128 → EReal)
    (hf : ∀ (k : Fin k0_t1_loop.trips) (r l : Fin 128), k0_pay6 k (View.ld (arg1.view.read (Elt Ideal) X1) (rectQ k)) (View.ld (arg6.view.read (Elt Ideal) X6) (rectK k)) (arg4.view.read (Elt Ideal) X4)
          (View.ld (arg7.view.read (Elt Ideal) X7) (rectK k)) (ix2 r l) = f (128 * k.val + r) l)
    (n : ℕ) (hn : n ≤ k0_t1_loop.trips) (s : Fin 2048) (l : Fin 128) (hs : s.val < 128 * n) :
    v.read (Elt Ideal) (v.writes (Elt Ideal) g (pb_k0_t1 (F := Ideal) Variants.none c none i arg1 harg1 arg2 harg2 arg3 harg3 arg4 harg4 arg5 harg5 arg6 harg6 arg7 harg7 X1 X4 X6 X7 n)) (ix2 s l) = f s l := by
  induction n with
  | zero => omega
  | succ n ih =>
    have h : n < k0_t1_loop.trips := hn
    have hk : n < 16 := trip_lt ⟨n, h⟩
    rw [pb_k0_t1_succ Variants.none c none i arg1 harg1 arg2 harg2 arg3 harg3 arg4 harg4 arg5 harg5 arg6 harg6 arg7 harg7 X1 X4 X6 X7 ⟨n, h⟩, tile_piece]
    by_cases hm : 128 * n ≤ s.val
    · obtain ⟨r, rfl⟩ : ∃ r : Fin 128, s = ⟨128 * n + r.val, by clear hm hs; omega⟩ := ⟨⟨s.val - 128 * n, by omega⟩, Fin.ext (by show _ = 128 * n + (s.val - 128 * n); omega)⟩
      rw [show (ix2 ⟨128 * n + r.val, _⟩ l : S2048x128.Idx) = (rectQ ⟨n, h⟩).emb (ix2 r l) from (embQ ⟨n, h⟩ r l).symm]
      exact (View.read_writes_cons_emb ..).trans (hf ⟨n, h⟩ r l)
    · refine (View.read_writes_cons_miss _ _ _ _ _ fun hc => ?_).trans (ih (by omega) (by omega))
      have := ((Rect.mem_set_unit (inb := k0_off1_inb ⟨n, h⟩)).1 hc 0).1
      rw [off1_eq] at this
      exact hm this

end

/-- A padded buffer reads the padded operand, whatever it held. -/
theorem read_padded (v : View sig .tc .vmem S2560x128 .bf16) (f : v.ty.Contents (Elt Ideal)) (x : Vec Ideal S2048x128 .bf16) :
    v.read (Elt Ideal) (v.writes (Elt Ideal) f [⟨Rect.unit (s := S2560x128) ![512, 0] S2048x128.size inb_S2560x128_S2048x128_512_0, k0_pay4 x⟩,
      ⟨Rect.unit (s := S2560x128) ![0, 0] S512x128.size inb_S2560x128_S512x128_0_0, k0_pay2 (F := Ideal)⟩]) = padded x :=
  View.read_writes_eq_canon v f _ fun y => by
    by_cases h : (y 0).val < 512
    · have hm : y ∈ (Rect.unit (s := S2560x128) ![0, 0] S512x128.size inb_S2560x128_S512x128_0_0).set := by
        refine Rect.mem_set_unit.2 fun a => ?_
        match a with
        | ⟨0, _⟩ => exact ⟨Nat.zero_le _, (by simpa using h)⟩
        | ⟨1, _⟩ => exact ⟨Nat.zero_le _, (by have := (y 1).isLt; simpa using this)⟩
      exact ⟨_, List.mem_cons_of_mem _ List.mem_cons_self, hm⟩
    · have hm : y ∈ (Rect.unit (s := S2560x128) ![512, 0] S2048x128.size inb_S2560x128_S2048x128_512_0).set := by
        refine Rect.mem_set_unit.2 fun a => ?_
        match a with
        | ⟨0, _⟩ => exact ⟨(by show 512 ≤ (y 0).val; omega), (by show (y 0).val < 512 + 2048; have := (y 0).isLt; exact this)⟩
        | ⟨1, _⟩ => exact ⟨Nat.zero_le _, (by have := (y 1).isLt; simpa using this)⟩
      exact ⟨_, List.mem_cons_self, hm⟩

/-- The head's rows of the attention. -/
theorem out_val (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S1x128x640 .f32) (harg4 : arg4.IsWhole) (arg5 : Memref sig .tc .vmem S2048x128 .bf16) (harg5 : arg5.IsWhole) (arg6 : Memref sig .tc .vmem S2560x128 .bf16) (harg6 : arg6.IsWhole) (arg7 : Memref sig .tc .vmem S2560x128 .bf16) (harg7 : arg7.IsWhole)
    (x0 x1 x2 : Vec Ideal S2048x128 .bf16) (x3 : Vec Ideal S1x128x640 .f32)
    (q k v : Fin 2048 → Fin 128 → ℝ) (b : Fin 513 → ℝ)
    (h0 : ∀ s l, x0 (ix2 s l) = (q s l : EReal)) (h1 : ∀ s l, x1 (ix2 s l) = (k s l : EReal))
    (h2 : ∀ s l, x2 (ix2 s l) = (v s l : EReal)) (h3 : IsTable x3 (biases b)) (s : Fin 2048) (l : Fin 128) :
    out0_A_4 (F := Ideal) c i arg1 harg1 arg2 harg2 arg3 harg3 arg4 harg4 arg5 harg5 arg6 harg6 arg7 harg7 x0 x1 x2 x3 (ix2 s l)
      = (attend (rows q) (padRows k) (padRows v) (biases b) s l : EReal) := by
  unfold out0_A_4 kernelRun0_A
  refine rows_so_far c i arg1 harg1 arg2 harg2 arg3 harg3 arg4 harg4 arg5 harg5 arg6 harg6 arg7 harg7 _ _ _ _ VO0_4 _
    (fun s l => (attend (rows q) (padRows k) (padRows v) (biases b) s l : EReal)) ?_ _ le_rfl s l (by
      have := s.isLt
      show s.val < 128 * k0_t1_loop.trips
      rw [trips_eq]
      omega)
  intro n r l
  unfold kernelRun0_A.sl.HS0_2 kernelRun0_A.sl.HS1_2
  rw [harg1.read_unread, harg4.read_unread]
  rw [View.readAt_full, View.readAt_full, harg2.read_unread, harg3.read_unread]
  rw [read_padded, show (k0_pay5 x2 : Vec Ideal S2048x128 .bf16) = k0_pay4 x2 from rfl, show (k0_pay3 (F := Ideal)) = k0_pay2 (F := Ideal) from rfl, read_padded]
  refine tile_out n _ _ _ _ (rows q) (padRows k) (padRows v) (biases b) (fun r l => ?_) (fun r l => ?_) (fun r l => ?_) h3 r l
  · show x0 ((rectQ n).emb (ix2 r l)) = _
    rw [embQ]
    exact coe_rows x0 q h0 _ _
  · show padded x1 ((rectK n).emb (ix2 r l)) = _
    rw [embK]
    exact padded_apply x1 k h1 _ _
  · show padded x2 ((rectK n).emb (ix2 r l)) = _
    rw [embK]
    exact padded_apply x2 v h2 _ _

end Cert.AttnFwdIdeal.Hand
end
-- ==== Proof.AttnTable.lean ====
/-
  The bias table the host lays out for the attention backward kernel, read one operation group at a time.
-/
module
public import proofs.«01_k».proof.Proof.AttnBlock
public import Idealize.ShloMosaic.Lib.StableHlo.RunRead
public import Idealize.ShloMosaic.Lib.Pipeline.ValueKit
public import Idealize.ShloMosaic.Lib.Pointwise
@[expose] public section
set_option maxRecDepth 65536
noncomputable section
namespace Cert.AttnBwdIdeal.Hand
open Cert.AttnBwdIdeal.Gen Cert.Attn Cert.Reals
open Idealize.ShloMosaic Idealize.ShloMosaic.TcCoe Idealize.SL.Sem

section Words

/-- The sign of a word. -/
def signWord (x : BitVec 32) : BitVec 32 := if x = 0 then 0 else if x.msb = true then -1 else 1

/-- A whole-number quotient by 64 with the sign test of rounding down, as the host writes it. -/
def floorDiv (x y : BitVec 32) : BitVec 32 :=
  Scalar.select (IntOp.andi (IntOp.cmpi .ne (signWord x) (signWord y))
      (IntOp.cmpi .ne (IntOp.remsi .host x y) 0#32))
    (IntOp.subi (IntOp.divsi .host x y) 1#32) (IntOp.divsi .host x y)

theorem floorDiv_64 : ∀ n : Fin 640, floorDiv (BitVec.ofNat 32 n) 64#32 = BitVec.ofNat 32 (n.val / 64) := by
  decide +kernel

theorem clip_word : ∀ n : Fin 768, IntOp.addi (IntOp.minsi 256#32 (IntOp.maxsi 4294967040#32 (IntOp.subi 512#32 (IntOp.subi (BitVec.ofNat 32 n) 127#32)))) 256#32
    = BitVec.ofNat 32 (min (895 - n.val) 512) := by
  decide +kernel

theorem take_word : ∀ n : Fin 513, Scalar.select (IntOp.cmpi .slt (BitVec.ofNat 32 n) 0#32) (IntOp.addi (BitVec.ofNat 32 n) 513#32) (BitVec.ofNat 32 n) = BitVec.ofNat 32 n
    ∧ IntOp.andi (IntOp.cmpi .sge (BitVec.ofNat 32 n) 0#32) (IntOp.cmpi .sle (BitVec.ofNat 32 n) 512#32) = 1#1
    ∧ min (BitVec.ofNat 32 n).toInt.toNat 512 = n.val := by
  decide +kernel

theorem band_word : ∀ a : Fin 2, ∀ b : Fin 10, IntOp.andi (IntOp.cmpi .sge (IntOp.subi (BitVec.ofNat 32 b) (BitVec.ofNat 32 a)) 0#32)
    (IntOp.cmpi .sle (IntOp.subi (BitVec.ofNat 32 b) (BitVec.ofNat 32 a)) 8#32) = if a.val ≤ b.val ∧ b.val ≤ a.val + 8 then 1#1 else 0#1 := by
  decide +kernel

end Words

section Stages
variable (W : Valuation τ sig (Elt Ideal))

theorem keep1_v3 : StableHlo.after hostOps0_1 W (Proc.devRef .tc main_v3) = W (Proc.devRef .tc main_v3) := by unfold hostOps0_1; after_reads_simp
theorem keep2_v3 : StableHlo.after hostOps0_2 W (Proc.devRef .tc main_v3) = W (Proc.devRef .tc main_v3) := by unfold hostOps0_2; after_reads_simp
theorem keep1_v1 : StableHlo.after hostOps0_1 W (Proc.devRef .tc main_v1) = W (Proc.devRef .tc main_v1) := by unfold hostOps0_1; after_reads_simp
theorem keep2_v1 : StableHlo.after hostOps0_2 W (Proc.devRef .tc main_v1) = W (Proc.devRef .tc main_v1) := by unfold hostOps0_2; after_reads_simp
theorem keep3_v1 : StableHlo.after hostOps0_3 W (Proc.devRef .tc main_v1) = W (Proc.devRef .tc main_v1) := by unfold hostOps0_3; after_reads_simp
theorem keep4_v1 : StableHlo.after hostOps0_4 W (Proc.devRef .tc main_v1) = W (Proc.devRef .tc main_v1) := by unfold hostOps0_4; after_reads_simp
theorem keep4_v12 : StableHlo.after hostOps0_4 W (Proc.devRef .tc main_v12) = W (Proc.devRef .tc main_v12) := by unfold hostOps0_4; after_reads_simp
theorem keep5_v12 : StableHlo.after hostOps0_5 W (Proc.devRef .tc main_v12) = W (Proc.devRef .tc main_v12) := by unfold hostOps0_5; after_reads_simp
theorem keep7_v21 : StableHlo.after hostOps0_7 W (Proc.devRef .tc main_v21) = W (Proc.devRef .tc main_v21) := by unfold hostOps0_7; after_reads_simp
theorem keep8_v21 : StableHlo.after hostOps0_8 W (Proc.devRef .tc main_v21) = W (Proc.devRef .tc main_v21) := by unfold hostOps0_8; after_reads_simp
theorem keep9_v21 : StableHlo.after hostOps0_9 W (Proc.devRef .tc main_v21) = W (Proc.devRef .tc main_v21) := by unfold hostOps0_9; after_reads_simp
theorem keep10_v21 : StableHlo.after hostOps0_10 W (Proc.devRef .tc main_v21) = W (Proc.devRef .tc main_v21) := by unfold hostOps0_10; after_reads_simp
theorem keep0_arg2 : StableHlo.after hostOps0 W (Proc.devRef .tc main_arg2) = W (Proc.devRef .tc main_arg2) := by unfold hostOps0; after_reads_simp
theorem keep1_arg2 : StableHlo.after hostOps0_1 W (Proc.devRef .tc main_arg2) = W (Proc.devRef .tc main_arg2) := by unfold hostOps0_1; after_reads_simp
theorem keep2_arg2 : StableHlo.after hostOps0_2 W (Proc.devRef .tc main_arg2) = W (Proc.devRef .tc main_arg2) := by unfold hostOps0_2; after_reads_simp
theorem keep3_arg2 : StableHlo.after hostOps0_3 W (Proc.devRef .tc main_arg2) = W (Proc.devRef .tc main_arg2) := by unfold hostOps0_3; after_reads_simp
theorem keep4_arg2 : StableHlo.after hostOps0_4 W (Proc.devRef .tc main_arg2) = W (Proc.devRef .tc main_arg2) := by unfold hostOps0_4; after_reads_simp
theorem keep5_arg2 : StableHlo.after hostOps0_5 W (Proc.devRef .tc main_arg2) = W (Proc.devRef .tc main_arg2) := by unfold hostOps0_5; after_reads_simp
theorem keep6_arg2 : StableHlo.after hostOps0_6 W (Proc.devRef .tc main_arg2) = W (Proc.devRef .tc main_arg2) := by unfold hostOps0_6; after_reads_simp
theorem keep7_arg2 : StableHlo.after hostOps0_7 W (Proc.devRef .tc main_arg2) = W (Proc.devRef .tc main_arg2) := by unfold hostOps0_7; after_reads_simp
theorem keep8_arg2 : StableHlo.after hostOps0_8 W (Proc.devRef .tc main_arg2) = W (Proc.devRef .tc main_arg2) := by unfold hostOps0_8; after_reads_simp

theorem st0_v3 (j : Fin 640) : (StableHlo.after hostOps0 W (Proc.devRef .tc main_v3) : IVec S1x640 32) (ix2 0 j) = BitVec.ofNat 32 j := by
  unfold hostOps0
  after_reads_simp
  pointwise []

theorem st0_v1 (j : Fin 128) : (StableHlo.after hostOps0 W (Proc.devRef .tc main_v1) : IVec S128x1 32) (ix2 j 0) = BitVec.ofNat 32 j := by
  unfold hostOps0
  after_reads_simp
  pointwise []

theorem st2_c (j) : (StableHlo.after hostOps0_2 W (Proc.devRef .tc main_c_3) : IVec S_ 32) j = 64#32 := by
  unfold hostOps0_2
  after_reads_simp
  pointwise []

theorem st4_c (j) : (StableHlo.after hostOps0_4 W (Proc.devRef .tc main_c_4) : IVec S_ 32) j = 64#32 := by
  unfold hostOps0_4
  after_reads_simp
  pointwise []

theorem st3 (j : Fin 640) : (StableHlo.after hostOps0_3 W (Proc.devRef .tc main_v12) : IVec S1x640 32) (ix2 0 j)
    = floorDiv ((W (Proc.devRef .tc main_v3) : IVec S1x640 32) (ix2 0 j)) ((W (Proc.devRef .tc main_c_3) : IVec S_ 32) ix0) := by
  unfold hostOps0_3
  after_reads_simp
  simp only [StableHlo.TRef.ofBuf, StableHlo.TRef.toBuf, ValueKit.castRfl]
  pointwise []
  rfl

theorem st5 (j : Fin 128) : (StableHlo.after hostOps0_5 W (Proc.devRef .tc main_v13) : IVec S128x1 32) (ix2 j 0)
    = floorDiv ((W (Proc.devRef .tc main_v1) : IVec S128x1 32) (ix2 j 0)) ((W (Proc.devRef .tc main_c_4) : IVec S_ 32) ix0) := by
  unfold hostOps0_5
  after_reads_simp
  simp only [StableHlo.TRef.ofBuf, StableHlo.TRef.toBuf, ValueKit.castRfl]
  pointwise []
  rfl

theorem st6_v21 (r : Fin 128) (k : Fin 640) (a : Fin 2) (b : Fin 10)
    (ha : (W (Proc.devRef .tc main_v13) : IVec S128x1 32) (ix2 r 0) = BitVec.ofNat 32 a) (hb : (W (Proc.devRef .tc main_v12) : IVec S1x640 32) (ix2 0 k) = BitVec.ofNat 32 b) :
    (StableHlo.after hostOps0_6 W (Proc.devRef .tc main_v21) : IVec S128x640 1) (ix2 r k) = if a.val ≤ b.val ∧ b.val ≤ a.val + 8 then 1#1 else 0#1 := by
  unfold hostOps0_6
  after_reads_simp
  pointwise []
  rw [ha, hb]
  exact band_word a b

theorem st6_v26 (j : Fin 768) : (StableHlo.after hostOps0_6 W (Proc.devRef .tc main_v26) : IVec S768 32) (ix1 j)
    = IntOp.subi 512#32 (IntOp.subi (BitVec.ofNat 32 j) 127#32) := by
  unfold hostOps0_6
  after_reads_simp
  pointwise []

theorem st6_c9 (j) : (StableHlo.after hostOps0_6 W (Proc.devRef .tc main_c_9) : IVec S_ 32) j = 4294967040#32 := by
  unfold hostOps0_6
  after_reads_simp
  pointwise []

theorem st6_c10 (j) : (StableHlo.after hostOps0_6 W (Proc.devRef .tc main_c_10) : IVec S_ 32) j = 256#32 := by
  unfold hostOps0_6
  after_reads_simp
  pointwise []

theorem st7 (j : Fin 768) : (StableHlo.after hostOps0_7 W (Proc.devRef .tc main_v27) : IVec S768 32) (ix1 j)
    = IntOp.minsi ((W (Proc.devRef .tc main_c_10) : IVec S_ 32) ix0) (IntOp.maxsi ((W (Proc.devRef .tc main_c_9) : IVec S_ 32) ix0) ((W (Proc.devRef .tc main_v26) : IVec S768 32) (ix1 j))) := by
  unfold hostOps0_7
  after_reads_simp
  simp only [StableHlo.TRef.ofBuf, StableHlo.TRef.toBuf, ValueKit.castRfl]
  pointwise []
  rfl

theorem st8 (j : Fin 768) : (StableHlo.after hostOps0_8 W (Proc.devRef .tc main_v29) : IVec S768 32) (ix1 j)
    = IntOp.addi ((W (Proc.devRef .tc main_v27) : IVec S768 32) (ix1 j)) 256#32 := by
  unfold hostOps0_8
  after_reads_simp
  pointwise []

theorem gather_col (x : FVec Ideal S8x513 .f32) (i : IVec S768x1 32) (h : Fin 8) (j : Fin 768) (n : Fin 513)
    (hn : i (ix2 j 0) = BitVec.ofNat 32 n) : Host.gather gather_S8x513_S768x1_S8x768_0_1_n_n_1_1_81 x i (ix2 h j) = x (ix2 h n) := by
  show x _ = x _
  congr 1
  funext a
  match a with
  | ⟨0, _⟩ => exact Fin.ext (Nat.zero_add _)
  | ⟨1, _⟩ =>
    apply Fin.ext
    refine (Nat.add_zero _).trans ?_
    refine Eq.trans ?_ (take_word n).2.2
    rw [← hn]
    show min (i _).toInt.toNat 512 = min (i _).toInt.toNat 512
    congr 4
    funext b
    match b with
    | ⟨0, _⟩ => rfl
    | ⟨1, _⟩ => rfl

theorem st9 (h : Fin 8) (j : Fin 768) (n : Fin 513) (hn : (W (Proc.devRef .tc main_v29) : IVec S768 32) (ix1 j) = BitVec.ofNat 32 n) :
    (StableHlo.after hostOps0_9 W (Proc.devRef .tc main_v37) : FVec Ideal S8x768 .f32) (ix2 h j)
      = (W (Proc.devRef .tc main_arg2) : FVec Ideal S8x513 .f32) (ix2 h n) := by
  unfold hostOps0_9
  after_reads_simp
  simp only [StableHlo.TRef.ofBuf, StableHlo.TRef.toBuf, ValueKit.castRfl]
  pointwise []
  rw [gather_col _ _ h j n (by pointwise []; rw [hn]; exact (take_word n).1)]
  simp only [hn, (take_word n).1, (take_word n).2.1]
  rw [show Finset.fold IntOp.andi (1#1) (fun _ : Fin 1 => 1#1) Finset.univ = 1#1 by decide]
  rfl

theorem st10 (h : Fin 8) (j : Fin 768) :
    (StableHlo.after hostOps0_10 W (Proc.devRef .tc main_v38) : FVec Ideal S8x768 .f32) (ix2 h j)
      = (W (Proc.devRef .tc main_v37) : FVec Ideal S8x768 .f32) (ix2 h ⟨(j.val + 127) % 768, by omega⟩) := by
  unfold hostOps0_10
  after_reads_simp
  simp only [StableHlo.TRef.ofBuf, StableHlo.TRef.toBuf, ValueKit.castRfl]
  pointwise []
  after_reads_simp
  simp only [StableHlo.TRef.ofBuf, StableHlo.TRef.toBuf, ValueKit.castRfl]
  pointwise []
  by_cases hj : j.val < 641
  · rw [dif_pos hj]
    congr 2
    exact Fin.ext (by show 127 + j.val = (j.val + 127) % 768; omega)
  · rw [dif_neg hj]
    congr 2
    exact Fin.ext (by show j.val - 641 = (j.val + 127) % 768; omega)

theorem st11_v44 (h : Fin 8) (r : Fin 128) (k : Fin 640) :
    (StableHlo.after hostOps0_11 W (Proc.devRef .tc main_v44) : FVec Ideal S8x128x640 .f32) (ix3 h r k)
      = (W (Proc.devRef .tc main_v38) : FVec Ideal S8x768 .f32) (ix2 h ⟨(r.val * 767 + k.val) % 768, by omega⟩) := by
  unfold hostOps0_11
  after_reads_simp
  pointwise []

theorem st11_v45 (r : Fin 128) (k : Fin 640) :
    (StableHlo.after hostOps0_11 W (Proc.devRef .tc main_v45) : IVec S1x128x640 1) (ix3 0 r k) = (W (Proc.devRef .tc main_v21) : IVec S128x640 1) (ix2 r k) := by
  unfold hostOps0_11
  after_reads_simp
  pointwise []

theorem st11_cst (j) : (StableHlo.after hostOps0_11 W (Proc.devRef .tc main_cst) : FVec Ideal S_ .f32) j = Ideal.ofBits .f32 0xFF800000#32 := by
  unfold hostOps0_11
  after_reads_simp
  pointwise []

theorem st12 (h : Fin 8) (r : Fin 128) (k : Fin 640) :
    (StableHlo.after hostOps0_12 W (Proc.devRef .tc main_v46) : FVec Ideal S8x128x640 .f32) (ix3 h r k)
      = Scalar.select ((W (Proc.devRef .tc main_v45) : IVec S1x128x640 1) (ix3 0 r k)) ((W (Proc.devRef .tc main_v44) : FVec Ideal S8x128x640 .f32) (ix3 h r k))
        ((W (Proc.devRef .tc main_cst) : FVec Ideal S_ .f32) ix0) := by
  unfold hostOps0_12
  after_reads_simp
  simp only [StableHlo.TRef.ofBuf, StableHlo.TRef.toBuf, ValueKit.castRfl]
  pointwise []
  rfl

end Stages

variable (m : (ℓ : Loc nD τ sig) → Buf (Elt Ideal) ℓ) (c : Dev nD)

/-- The host's bias table: a head's bias by distance inside the band, −∞ outside it. -/
theorem table_apply (h : Fin 8) (r : Fin 128) (k : Fin 640) :
    (V m c main_v46 : FVec Ideal S8x128x640 .f32) (ix3 h r k)
      = if InBand r k then (m ((c : Thread nD τ).loc main_arg2) : FVec Ideal S8x513 .f32) (ix2 h ⟨rel r k, by unfold rel; omega⟩) else (⊥ : EReal) := by
  unfold V V0
  simp only [List.flatten_cons, List.flatten_nil, List.append_nil, StableHlo.after_append]
  rw [st12, st11_v45, st11_v44, st11_cst, st10, keep10_v21, keep9_v21, keep8_v21, keep7_v21]
  rw [st6_v21 _ r k ⟨r.val / 64, by omega⟩ ⟨k.val / 64, by omega⟩
    (by rw [st5, st4_c, keep4_v1, keep3_v1, keep2_v1, keep1_v1, st0_v1]; exact floorDiv_64 ⟨r.val, by omega⟩)
    (by rw [keep5_v12, keep4_v12, st3, st2_c, keep2_v3, keep1_v3, st0_v3]; exact floorDiv_64 k)]
  have hj : (⟨((r.val * 767 + k.val) % 768 + 127) % 768, by omega⟩ : Fin 768) = ⟨k.val + 127 - r.val, by omega⟩ := Fin.ext (by
    show ((r.val * 767 + k.val) % 768 + 127) % 768 = k.val + 127 - r.val
    omega)
  rw [hj, st9 _ h ⟨k.val + 127 - r.val, by omega⟩ ⟨rel r k, by unfold rel; omega⟩ (by
    rw [st8, st7, st6_c10, st6_c9, st6_v26, clip_word]
    congr 1
    unfold rel
    show min (895 - (k.val + 127 - r.val)) 512 = min (r.val + 768 - k.val) 512
    omega), keep8_arg2, keep7_arg2, keep6_arg2, keep5_arg2, keep4_arg2, keep3_arg2, keep2_arg2, keep1_arg2, keep0_arg2]
  by_cases hb : InBand r k
  · rw [if_pos hb, if_pos (show r.val / 64 ≤ k.val / 64 ∧ k.val / 64 ≤ r.val / 64 + 8 from hb)]
    rfl
  · rw [if_neg hb, if_neg (show ¬ (r.val / 64 ≤ k.val / 64 ∧ k.val / 64 ≤ r.val / 64 + 8) from hb)]
    show Ideal.ofBits .f32 0xFF800000#32 = ⊥
    exact (by simp [Ideal.ofBits, Ideal.ieee])

end Cert.AttnBwdIdeal.Hand
-- ==== Proof.AttnFwdTable.lean ====
/-
  The bias table the host lays out for the attention forward kernel, read one operation group at a time; the words are those of the
  backward kernel's table.
-/
module
public import proofs.«01_k».proof.Proof.AttnTable
public import proofs.«01_k».proof.Proof.Gen.AttnFwdIdeal.Frame
public import Idealize.ShloMosaic.Lib.StableHlo.RunRead
public import Idealize.ShloMosaic.Lib.Pipeline.ValueKit
public import Idealize.ShloMosaic.Lib.Pointwise
@[expose] public section
set_option maxRecDepth 65536
noncomputable section
namespace Cert.AttnFwdIdeal.Hand
open Cert.AttnFwdIdeal Cert.AttnFwdIdeal.Gen Cert.Attn Cert.Reals
open Cert.AttnBwdIdeal.Hand (InBand floorDiv floorDiv_64 clip_word take_word band_word)
open Idealize.ShloMosaic Idealize.ShloMosaic.TcCoe Idealize.SL.Sem

section Stages
variable (W : Valuation τ sig (Elt Ideal))

theorem keep1_v3 : StableHlo.after hostOps0_1 W (Proc.devRef .tc main_v3) = W (Proc.devRef .tc main_v3) := by unfold hostOps0_1; after_reads_simp
theorem keep2_v3 : StableHlo.after hostOps0_2 W (Proc.devRef .tc main_v3) = W (Proc.devRef .tc main_v3) := by unfold hostOps0_2; after_reads_simp
theorem keep1_v1 : StableHlo.after hostOps0_1 W (Proc.devRef .tc main_v1) = W (Proc.devRef .tc main_v1) := by unfold hostOps0_1; after_reads_simp
theorem keep2_v1 : StableHlo.after hostOps0_2 W (Proc.devRef .tc main_v1) = W (Proc.devRef .tc main_v1) := by unfold hostOps0_2; after_reads_simp
theorem keep3_v1 : StableHlo.after hostOps0_3 W (Proc.devRef .tc main_v1) = W (Proc.devRef .tc main_v1) := by unfold hostOps0_3; after_reads_simp
theorem keep4_v1 : StableHlo.after hostOps0_4 W (Proc.devRef .tc main_v1) = W (Proc.devRef .tc main_v1) := by unfold hostOps0_4; after_reads_simp
theorem keep4_v12 : StableHlo.after hostOps0_4 W (Proc.devRef .tc main_v12) = W (Proc.devRef .tc main_v12) := by unfold hostOps0_4; after_reads_simp
theorem keep5_v12 : StableHlo.after hostOps0_5 W (Proc.devRef .tc main_v12) = W (Proc.devRef .tc main_v12) := by unfold hostOps0_5; after_reads_simp
theorem keep7_v21 : StableHlo.after hostOps0_7 W (Proc.devRef .tc main_v21) = W (Proc.devRef .tc main_v21) := by unfold hostOps0_7; after_reads_simp
theorem keep8_v21 : StableHlo.after hostOps0_8 W (Proc.devRef .tc main_v21) = W (Proc.devRef .tc main_v21) := by unfold hostOps0_8; after_reads_simp
theorem keep9_v21 : StableHlo.after hostOps0_9 W (Proc.devRef .tc main_v21) = W (Proc.devRef .tc main_v21) := by unfold hostOps0_9; after_reads_simp
theorem keep10_v21 : StableHlo.after hostOps0_10 W (Proc.devRef .tc main_v21) = W (Proc.devRef .tc main_v21) := by unfold hostOps0_10; after_reads_simp
theorem keep0_arg1 : StableHlo.after hostOps0 W (Proc.devRef .tc main_arg1) = W (Proc.devRef .tc main_arg1) := by unfold hostOps0; after_reads_simp
theorem keep1_arg1 : StableHlo.after hostOps0_1 W (Proc.devRef .tc main_arg1) = W (Proc.devRef .tc main_arg1) := by unfold hostOps0_1; after_reads_simp
theorem keep2_arg1 : StableHlo.after hostOps0_2 W (Proc.devRef .tc main_arg1) = W (Proc.devRef .tc main_arg1) := by unfold hostOps0_2; after_reads_simp
theorem keep3_arg1 : StableHlo.after hostOps0_3 W (Proc.devRef .tc main_arg1) = W (Proc.devRef .tc main_arg1) := by unfold hostOps0_3; after_reads_simp
theorem keep4_arg1 : StableHlo.after hostOps0_4 W (Proc.devRef .tc main_arg1) = W (Proc.devRef .tc main_arg1) := by unfold hostOps0_4; after_reads_simp
theorem keep5_arg1 : StableHlo.after hostOps0_5 W (Proc.devRef .tc main_arg1) = W (Proc.devRef .tc main_arg1) := by unfold hostOps0_5; after_reads_simp
theorem keep6_arg1 : StableHlo.after hostOps0_6 W (Proc.devRef .tc main_arg1) = W (Proc.devRef .tc main_arg1) := by unfold hostOps0_6; after_reads_simp
theorem keep7_arg1 : StableHlo.after hostOps0_7 W (Proc.devRef .tc main_arg1) = W (Proc.devRef .tc main_arg1) := by unfold hostOps0_7; after_reads_simp
theorem keep8_arg1 : StableHlo.after hostOps0_8 W (Proc.devRef .tc main_arg1) = W (Proc.devRef .tc main_arg1) := by unfold hostOps0_8; after_reads_simp

theorem st0_v3 (j : Fin 640) : (StableHlo.after hostOps0 W (Proc.devRef .tc main_v3) : IVec S1x640 32) (ix2 0 j) = BitVec.ofNat 32 j := by
  unfold hostOps0
  after_reads_simp
  pointwise []

theorem st0_v1 (j : Fin 128) : (StableHlo.after hostOps0 W (Proc.devRef .tc main_v1) : IVec S128x1 32) (ix2 j 0) = BitVec.ofNat 32 j := by
  unfold hostOps0
  after_reads_simp
  pointwise []

theorem st2_c (j) : (StableHlo.after hostOps0_2 W (Proc.devRef .tc main_c_3) : IVec S_ 32) j = 64#32 := by
  unfold hostOps0_2
  after_reads_simp
  pointwise []

theorem st4_c (j) : (StableHlo.after hostOps0_4 W (Proc.devRef .tc main_c_4) : IVec S_ 32) j = 64#32 := by
  unfold hostOps0_4
  after_reads_simp
  pointwise []

theorem st3 (j : Fin 640) : (StableHlo.after hostOps0_3 W (Proc.devRef .tc main_v12) : IVec S1x640 32) (ix2 0 j)
    = floorDiv ((W (Proc.devRef .tc main_v3) : IVec S1x640 32) (ix2 0 j)) ((W (Proc.devRef .tc main_c_3) : IVec S_ 32) ix0) := by
  unfold hostOps0_3
  after_reads_simp
  simp only [StableHlo.TRef.ofBuf, StableHlo.TRef.toBuf, ValueKit.castRfl]
  pointwise []
  rfl

theorem st5 (j : Fin 128) : (StableHlo.after hostOps0_5 W (Proc.devRef .tc main_v13) : IVec S128x1 32) (ix2 j 0)
    = floorDiv ((W (Proc.devRef .tc main_v1) : IVec S128x1 32) (ix2 j 0)) ((W (Proc.devRef .tc main_c_4) : IVec S_ 32) ix0) := by
  unfold hostOps0_5
  after_reads_simp
  simp only [StableHlo.TRef.ofBuf, StableHlo.TRef.toBuf, ValueKit.castRfl]
  pointwise []
  rfl

theorem st6_v21 (r : Fin 128) (k : Fin 640) (a : Fin 2) (b : Fin 10)
    (ha : (W (Proc.devRef .tc main_v13) : IVec S128x1 32) (ix2 r 0) = BitVec.ofNat 32 a) (hb : (W (Proc.devRef .tc main_v12) : IVec S1x640 32) (ix2 0 k) = BitVec.ofNat 32 b) :
    (StableHlo.after hostOps0_6 W (Proc.devRef .tc main_v21) : IVec S128x640 1) (ix2 r k) = if a.val ≤ b.val ∧ b.val ≤ a.val + 8 then 1#1 else 0#1 := by
  unfold hostOps0_6
  after_reads_simp
  pointwise []
  rw [ha, hb]
  exact band_word a b

theorem st6_v26 (j : Fin 768) : (StableHlo.after hostOps0_6 W (Proc.devRef .tc main_v26) : IVec S768 32) (ix1 j)
    = IntOp.subi 512#32 (IntOp.subi (BitVec.ofNat 32 j) 127#32) := by
  unfold hostOps0_6
  after_reads_simp
  pointwise []

theorem st6_c9 (j) : (StableHlo.after hostOps0_6 W (Proc.devRef .tc main_c_9) : IVec S_ 32) j = 4294967040#32 := by
  unfold hostOps0_6
  after_reads_simp
  pointwise []

theorem st6_c10 (j) : (StableHlo.after hostOps0_6 W (Proc.devRef .tc main_c_10) : IVec S_ 32) j = 256#32 := by
  unfold hostOps0_6
  after_reads_simp
  pointwise []

theorem st7 (j : Fin 768) : (StableHlo.after hostOps0_7 W (Proc.devRef .tc main_v27) : IVec S768 32) (ix1 j)
    = IntOp.minsi ((W (Proc.devRef .tc main_c_10) : IVec S_ 32) ix0) (IntOp.maxsi ((W (Proc.devRef .tc main_c_9) : IVec S_ 32) ix0) ((W (Proc.devRef .tc main_v26) : IVec S768 32) (ix1 j))) := by
  unfold hostOps0_7
  after_reads_simp
  simp only [StableHlo.TRef.ofBuf, StableHlo.TRef.toBuf, ValueKit.castRfl]
  pointwise []
  rfl

theorem st8 (j : Fin 768) : (StableHlo.after hostOps0_8 W (Proc.devRef .tc main_v29) : IVec S768 32) (ix1 j)
    = IntOp.addi ((W (Proc.devRef .tc main_v27) : IVec S768 32) (ix1 j)) 256#32 := by
  unfold hostOps0_8
  after_reads_simp
  pointwise []

theorem gather_col (x : FVec Ideal S8x513 .f32) (i : IVec S768x1 32) (h : Fin 8) (j : Fin 768) (n : Fin 513)
    (hn : i (ix2 j 0) = BitVec.ofNat 32 n) : Host.gather gather_S8x513_S768x1_S8x768_0_1_n_n_1_1_81 x i (ix2 h j) = x (ix2 h n) := by
  show x _ = x _
  congr 1
  funext a
  match a with
  | ⟨0, _⟩ => exact Fin.ext (Nat.zero_add _)
  | ⟨1, _⟩ =>
    apply Fin.ext
    refine (Nat.add_zero _).trans ?_
    refine Eq.trans ?_ (take_word n).2.2
    rw [← hn]
    show min (i _).toInt.toNat 512 = min (i _).toInt.toNat 512
    congr 4
    funext b
    match b with
    | ⟨0, _⟩ => rfl
    | ⟨1, _⟩ => rfl

theorem st9 (h : Fin 8) (j : Fin 768) (n : Fin 513) (hn : (W (Proc.devRef .tc main_v29) : IVec S768 32) (ix1 j) = BitVec.ofNat 32 n) :
    (StableHlo.after hostOps0_9 W (Proc.devRef .tc main_v37) : FVec Ideal S8x768 .f32) (ix2 h j)
      = (W (Proc.devRef .tc main_arg1) : FVec Ideal S8x513 .f32) (ix2 h n) := by
  unfold hostOps0_9
  after_reads_simp
  simp only [StableHlo.TRef.ofBuf, StableHlo.TRef.toBuf, ValueKit.castRfl]
  pointwise []
  rw [gather_col _ _ h j n (by pointwise []; rw [hn]; exact (take_word n).1)]
  simp only [hn, (take_word n).1, (take_word n).2.1]
  rw [show Finset.fold IntOp.andi (1#1) (fun _ : Fin 1 => 1#1) Finset.univ = 1#1 by decide]
  rfl

theorem st10 (h : Fin 8) (j : Fin 768) :
    (StableHlo.after hostOps0_10 W (Proc.devRef .tc main_v38) : FVec Ideal S8x768 .f32) (ix2 h j)
      = (W (Proc.devRef .tc main_v37) : FVec Ideal S8x768 .f32) (ix2 h ⟨(j.val + 127) % 768, by omega⟩) := by
  unfold hostOps0_10
  after_reads_simp
  simp only [StableHlo.TRef.ofBuf, StableHlo.TRef.toBuf, ValueKit.castRfl]
  pointwise []
  after_reads_simp
  simp only [StableHlo.TRef.ofBuf, StableHlo.TRef.toBuf, ValueKit.castRfl]
  pointwise []
  by_cases hj : j.val < 641
  · rw [dif_pos hj]
    congr 2
    exact Fin.ext (by show 127 + j.val = (j.val + 127) % 768; omega)
  · rw [dif_neg hj]
    congr 2
    exact Fin.ext (by show j.val - 641 = (j.val + 127) % 768; omega)

theorem st11_v44 (h : Fin 8) (r : Fin 128) (k : Fin 640) :
    (StableHlo.after hostOps0_11 W (Proc.devRef .tc main_v44) : FVec Ideal S8x128x640 .f32) (ix3 h r k)
      = (W (Proc.devRef .tc main_v38) : FVec Ideal S8x768 .f32) (ix2 h ⟨(r.val * 767 + k.val) % 768, by omega⟩) := by
  unfold hostOps0_11
  after_reads_simp
  pointwise []

theorem st11_v45 (r : Fin 128) (k : Fin 640) :
    (StableHlo.after hostOps0_11 W (Proc.devRef .tc main_v45) : IVec S1x128x640 1) (ix3 0 r k) = (W (Proc.devRef .tc main_v21) : IVec S128x640 1) (ix2 r k) := by
  unfold hostOps0_11
  after_reads_simp
  pointwise []

theorem st11_cst (j) : (StableHlo.after hostOps0_11 W (Proc.devRef .tc main_cst) : FVec Ideal S_ .f32) j = Ideal.ofBits .f32 0xFF800000#32 := by
  unfold hostOps0_11
  after_reads_simp
  pointwise []

theorem st12 (h : Fin 8) (r : Fin 128) (k : Fin 640) :
    (StableHlo.after hostOps0_12 W (Proc.devRef .tc main_v46) : FVec Ideal S8x128x640 .f32) (ix3 h r k)
      = Scalar.select ((W (Proc.devRef .tc main_v45) : IVec S1x128x640 1) (ix3 0 r k)) ((W (Proc.devRef .tc main_v44) : FVec Ideal S8x128x640 .f32) (ix3 h r k))
        ((W (Proc.devRef .tc main_cst) : FVec Ideal S_ .f32) ix0) := by
  unfold hostOps0_12
  after_reads_simp
  simp only [StableHlo.TRef.ofBuf, StableHlo.TRef.toBuf, ValueKit.castRfl]
  pointwise []
  rfl

end Stages

variable (m : (ℓ : Loc nD τ sig) → Buf (Elt Ideal) ℓ) (c : Dev nD)

/-- The host's bias table: a head's bias by distance inside the band, −∞ outside it. -/
theorem table_apply (h : Fin 8) (r : Fin 128) (k : Fin 640) :
    (V m c main_v46 : FVec Ideal S8x128x640 .f32) (ix3 h r k)
      = if InBand r k then (m ((c : Thread nD τ).loc main_arg1) : FVec Ideal S8x513 .f32) (ix2 h ⟨rel r k, by unfold rel; omega⟩) else (⊥ : EReal) := by
  unfold V V0
  simp only [List.flatten_cons, List.flatten_nil, List.append_nil, StableHlo.after_append]
  rw [st12, st11_v45, st11_v44, st11_cst, st10, keep10_v21, keep9_v21, keep8_v21, keep7_v21]
  rw [st6_v21 _ r k ⟨r.val / 64, by omega⟩ ⟨k.val / 64, by omega⟩
    (by rw [st5, st4_c, keep4_v1, keep3_v1, keep2_v1, keep1_v1, st0_v1]; exact floorDiv_64 ⟨r.val, by omega⟩)
    (by rw [keep5_v12, keep4_v12, st3, st2_c, keep2_v3, keep1_v3, st0_v3]; exact floorDiv_64 k)]
  have hj : (⟨((r.val * 767 + k.val) % 768 + 127) % 768, by omega⟩ : Fin 768) = ⟨k.val + 127 - r.val, by omega⟩ := Fin.ext (by
    show ((r.val * 767 + k.val) % 768 + 127) % 768 = k.val + 127 - r.val
    omega)
  rw [hj, st9 _ h ⟨k.val + 127 - r.val, by omega⟩ ⟨rel r k, by unfold rel; omega⟩ (by
    rw [st8, st7, st6_c10, st6_c9, st6_v26, clip_word]
    congr 1
    unfold rel
    show min (895 - (k.val + 127 - r.val)) 512 = min (r.val + 768 - k.val) 512
    omega), keep8_arg1, keep7_arg1, keep6_arg1, keep5_arg1, keep4_arg1, keep3_arg1, keep2_arg1, keep1_arg1, keep0_arg1]
  by_cases hb : InBand r k
  · rw [if_pos hb, if_pos (show r.val / 64 ≤ k.val / 64 ∧ k.val / 64 ≤ r.val / 64 + 8 from hb)]
    rfl
  · rw [if_neg hb, if_neg (show ¬ (r.val / 64 ≤ k.val / 64 ∧ k.val / 64 ≤ r.val / 64 + 8) from hb)]
    show Ideal.ofBits .f32 0xFF800000#32 = ⊥
    exact (by simp [Ideal.ofBits, Ideal.ieee])

end Cert.AttnFwdIdeal.Hand
-- ==== Proof.AttnFold.lean ====
/-
  The host's sums after the attention backward kernel: a table of score gradients becomes the gradient of the relative biases.
-/
module
public import proofs.«01_k».proof.Proof.AttnTable
public import proofs.«01_k».proof.Proof.AttnSpec
public import proofs.«01_k».proof.Proof.AttnFrame
@[expose] public section
set_option maxRecDepth 65536
noncomputable section
namespace Cert.AttnBwdIdeal.Hand
open Cert.AttnBwdIdeal.Gen Cert.Attn Cert.Reals
open Idealize.ShloMosaic Idealize.ShloMosaic.TcCoe Idealize.SL.Sem

/-- The skewed sums of a table, gathered by the place of the distance, are its sums over the pairs of that place. -/
theorem fold_skew (T : ℕ → ℕ → ℝ) (b : ℕ) :
    ∑ x : Fin 768, (∑ r : Fin 128, if 127 ≤ r.val + x.val ∧ r.val + x.val < 767 then T r (r.val + x.val - 127) else 0) * (if min (895 - x.val) 512 = b then 1 else 0)
      = ∑ r : Fin 128, ∑ k : Fin 640, if rel r k = b then T r k else 0 := by
  simp only [Finset.sum_mul]
  rw [Finset.sum_comm]
  refine Finset.sum_congr rfl fun r _ => ?_
  have hr := r.isLt
  rw [Fin.sum_univ_eq_sum_range (fun x => (if 127 ≤ r.val + x ∧ r.val + x < 767 then T r (r.val + x - 127) else 0) * (if min (895 - x) 512 = b then 1 else 0)) 768,
    Fin.sum_univ_eq_sum_range (fun k => if rel r k = b then T r k else 0) 640]
  simp only [ite_mul, zero_mul]
  rw [← Finset.sum_filter]
  refine Finset.sum_nbij' (fun x => r.val + x - 127) (fun k => k + 127 - r.val) ?_ ?_ ?_ ?_ ?_
  · intro x hx; simp only [Finset.mem_filter, Finset.mem_range] at hx ⊢; omega
  · intro x hx; simp only [Finset.mem_filter, Finset.mem_range] at hx ⊢; omega
  · intro x hx; simp only [Finset.mem_filter, Finset.mem_range] at hx ⊢; omega
  · intro x hx; simp only [Finset.mem_range] at hx ⊢; omega
  · intro x hx
    simp only [Finset.mem_filter, Finset.mem_range] at hx
    have e : rel r (r.val + x - 127) = min (895 - x) 512 := by unfold rel; omega
    rw [e, mul_ite, mul_one, mul_zero]

/-- Summed over the blocks of 128 queries, a pair's gradient counted inside its block is the gradient of the biases. -/
theorem fold_blocks (Q K V D : ℕ → Fin 128 → ℝ) (B : ℕ → ℝ) (b : ℕ) :
    (∑ r : Fin 128, ∑ k : Fin 640, if rel r k = b then ∑ i ∈ Finset.range 16, ds Q K V D B (128 * i + r) (128 * i + k) else 0) = gradB Q K V D B b := by
  have h1 : ∀ (r : Fin 128) (k : Fin 640), (if rel r k = b then ∑ i ∈ Finset.range 16, ds Q K V D B (128 * i + r) (128 * i + k) else 0)
      = ∑ i ∈ Finset.range 16, if rel (128 * i + r) (128 * i + k) = b then ds Q K V D B (128 * i + r) (128 * i + k) else 0 := by
    intro r k
    have e : ∀ i, rel (128 * i + r) (128 * i + k) = rel r k := fun i => by unfold rel; omega
    simp only [e]
    split
    · rfl
    · rw [Finset.sum_const_zero]
  simp only [h1]
  rw [Finset.sum_congr rfl fun r _ => Finset.sum_comm, Finset.sum_comm]
  unfold gradB
  have h2 : ∀ i ∈ Finset.range 16, ∀ r : Fin 128,
      (∑ k : Fin 640, if rel (128 * i + r) (128 * i + k) = b then ds Q K V D B (128 * i + r) (128 * i + k) else 0)
        = ∑ p ∈ Finset.range 2560, if rel (128 * i + r) p = b then ds Q K V D B (128 * i + r) p else 0 := by
    intro i hi r
    rw [Finset.mem_range] at hi
    have hr := r.isLt
    refine sum_window (fun p => if rel (128 * i + r) p = b then ds Q K V D B (128 * i + r) p else 0) (128 * i) 640 (by omega) fun p hp => ?_
    have hs : ¬ Sees (128 * i + r) p := by unfold Sees; omega
    simp only [ds_of_not _ _ _ _ _ hs, ite_self]
  rw [Finset.sum_congr rfl fun i hi => Finset.sum_congr rfl fun r _ => h2 i hi r]
  rw [Finset.sum_congr rfl fun i _ => Fin.sum_univ_eq_sum_range (fun r => ∑ p ∈ Finset.range 2560, if rel (128 * i + r) p = b then ds Q K V D B (128 * i + r) p else 0) 128]
  exact sum_blocks (fun s => ∑ p ∈ Finset.range 2560, if rel s p = b then ds Q K V D B s p else 0) 16 128

section Stages
variable (W : Valuation τ sig (Elt Ideal))

theorem fo6_v74 (j : Fin 768) : (StableHlo.after hostOps1_6 W (Proc.devRef .tc main_v74) : IVec S768 32) (ix1 j)
    = IntOp.subi 512#32 (IntOp.subi (BitVec.ofNat 32 j) 127#32) := by
  unfold hostOps1_6
  after_reads_simp
  pointwise []

theorem fo6_c22 (j) : (StableHlo.after hostOps1_6 W (Proc.devRef .tc main_c_22) : IVec S_ 32) j = 4294967040#32 := by
  unfold hostOps1_6
  after_reads_simp
  pointwise []

theorem fo6_c23 (j) : (StableHlo.after hostOps1_6 W (Proc.devRef .tc main_c_23) : IVec S_ 32) j = 256#32 := by
  unfold hostOps1_6
  after_reads_simp
  pointwise []

theorem fo7 (j : Fin 768) : (StableHlo.after hostOps1_7 W (Proc.devRef .tc main_v75) : IVec S768 32) (ix1 j)
    = IntOp.minsi ((W (Proc.devRef .tc main_c_23) : IVec S_ 32) ix0) (IntOp.maxsi ((W (Proc.devRef .tc main_c_22) : IVec S_ 32) ix0) ((W (Proc.devRef .tc main_v74) : IVec S768 32) (ix1 j))) := by
  unfold hostOps1_7
  after_reads_simp
  simp only [StableHlo.TRef.ofBuf, StableHlo.TRef.toBuf, ValueKit.castRfl]
  pointwise []
  rfl

theorem fo8_v84 (j : Fin 768) (b : Fin 513) : (StableHlo.after hostOps1_8 W (Proc.devRef .tc main_v84) : FVec Ideal S768x513 .f32) (ix2 j b)
    = FloatOps.uitofp (F := Ideal) .f32 (IntOp.cmpi .eq (IntOp.addi ((W (Proc.devRef .tc main_v75) : IVec S768 32) (ix1 j)) 256#32) (BitVec.ofNat 32 b)) := by
  unfold hostOps1_8
  after_reads_simp
  pointwise []

theorem fo8_c25 (j) : (StableHlo.after hostOps1_8 W (Proc.devRef .tc main_c_25) : IVec S_ 32) j = 0#32 := by
  unfold hostOps1_8
  after_reads_simp
  pointwise []

theorem fo9 (h : Fin 8) (r : Fin 128) (x : Fin 896) : (StableHlo.after hostOps1_9 W (Proc.devRef .tc main_v85) : FVec Ideal S8x128x896 .f32) (ix3 h r x)
    = if hx : 127 ≤ x.val ∧ x.val - 127 < 640 then (W (Proc.devRef .tc main_v47_3) : FVec Ideal S8x128x640 .f32) (ix3 h r ⟨x.val - 127, hx.2⟩)
      else FloatOps.sitofp (F := Ideal) .f32 ((W (Proc.devRef .tc main_c_25) : IVec S_ 32) (Shape.Idx.first h_S_)) := by
  unfold hostOps1_9
  after_reads_simp
  simp only [StableHlo.TRef.ofBuf, StableHlo.TRef.toBuf, ValueKit.castRfl]
  pointwise []

theorem fo10 (h : Fin 8) (q : Fin 114688) : (StableHlo.after hostOps1_10 W (Proc.devRef .tc main_v86) : FVec Ideal S8x114688 .f32) (ix2 h q)
    = (W (Proc.devRef .tc main_v85) : FVec Ideal S8x128x896 .f32) (ix3 h ⟨q / 896, by omega⟩ ⟨q % 896, by omega⟩) := by
  unfold hostOps1_10
  after_reads_simp
  pointwise []

theorem fo10_c26 (j) : (StableHlo.after hostOps1_10 W (Proc.devRef .tc main_c_26) : IVec S_ 32) j = 0#32 := by
  unfold hostOps1_10
  after_reads_simp
  pointwise []

theorem fo11 (h : Fin 8) (q : Fin 114816) : (StableHlo.after hostOps1_11 W (Proc.devRef .tc main_v87) : FVec Ideal S8x114816 .f32) (ix2 h q)
    = if hq : q.val < 114688 then (W (Proc.devRef .tc main_v86) : FVec Ideal S8x114688 .f32) (ix2 h ⟨q, hq⟩)
      else FloatOps.sitofp (F := Ideal) .f32 ((W (Proc.devRef .tc main_c_26) : IVec S_ 32) (Shape.Idx.first h_S_)) := by
  unfold hostOps1_11
  after_reads_simp
  simp only [StableHlo.TRef.ofBuf, StableHlo.TRef.toBuf, ValueKit.castRfl]
  pointwise []

theorem fo12 (h : Fin 8) (b : Fin 513) (X : Fin 768 → Fin 128 → EReal) (Y : Fin 768 → EReal)
    (hX : ∀ (x : Fin 768) (r : Fin 128), (W (Proc.devRef .tc main_v87) : FVec Ideal S8x114816 .f32) (ix2 h ⟨r.val * 897 + x.val, by omega⟩) = X x r)
    (hY : ∀ x : Fin 768, (W (Proc.devRef .tc main_v84) : FVec Ideal S768x513 .f32) (ix2 x b) = Y x) :
    (StableHlo.after hostOps1_12 W (Proc.devRef .tc main_v96) : FVec Ideal S8x513 .f32) (ix2 h b) = ∑ x : Fin 768, (∑ r : Fin 128, X x r) * Y x := by
  unfold hostOps1_12
  after_reads_simp
  pointwise []
  refine Finset.sum_congr (M := EReal) rfl fun x _ => ?_
  rw [← hY]
  refine congrArg (· * _) (Finset.sum_congr (M := EReal) rfl fun r _ => hX x r)

theorem keepf9_v84 : StableHlo.after hostOps1_9 W (Proc.devRef .tc main_v84) = W (Proc.devRef .tc main_v84) := by unfold hostOps1_9; after_reads_simp
theorem keepf10_v84 : StableHlo.after hostOps1_10 W (Proc.devRef .tc main_v84) = W (Proc.devRef .tc main_v84) := by unfold hostOps1_10; after_reads_simp
theorem keepf11_v84 : StableHlo.after hostOps1_11 W (Proc.devRef .tc main_v84) = W (Proc.devRef .tc main_v84) := by unfold hostOps1_11; after_reads_simp
theorem keepf0_v47_3 : StableHlo.after hostOps1 W (Proc.devRef .tc main_v47_3) = W (Proc.devRef .tc main_v47_3) := by unfold hostOps1; after_reads_simp
theorem keepf1_v47_3 : StableHlo.after hostOps1_1 W (Proc.devRef .tc main_v47_3) = W (Proc.devRef .tc main_v47_3) := by unfold hostOps1_1; after_reads_simp
theorem keepf2_v47_3 : StableHlo.after hostOps1_2 W (Proc.devRef .tc main_v47_3) = W (Proc.devRef .tc main_v47_3) := by unfold hostOps1_2; after_reads_simp
theorem keepf3_v47_3 : StableHlo.after hostOps1_3 W (Proc.devRef .tc main_v47_3) = W (Proc.devRef .tc main_v47_3) := by unfold hostOps1_3; after_reads_simp
theorem keepf4_v47_3 : StableHlo.after hostOps1_4 W (Proc.devRef .tc main_v47_3) = W (Proc.devRef .tc main_v47_3) := by unfold hostOps1_4; after_reads_simp
theorem keepf5_v47_3 : StableHlo.after hostOps1_5 W (Proc.devRef .tc main_v47_3) = W (Proc.devRef .tc main_v47_3) := by unfold hostOps1_5; after_reads_simp
theorem keepf6_v47_3 : StableHlo.after hostOps1_6 W (Proc.devRef .tc main_v47_3) = W (Proc.devRef .tc main_v47_3) := by unfold hostOps1_6; after_reads_simp
theorem keepf7_v47_3 : StableHlo.after hostOps1_7 W (Proc.devRef .tc main_v47_3) = W (Proc.devRef .tc main_v47_3) := by unfold hostOps1_7; after_reads_simp
theorem keepf8_v47_3 : StableHlo.after hostOps1_8 W (Proc.devRef .tc main_v47_3) = W (Proc.devRef .tc main_v47_3) := by unfold hostOps1_8; after_reads_simp

/-- From the tables of score gradients the host forms the gradient of the relative biases. -/
theorem folded (T : Fin 8 → ℕ → ℕ → ℝ) (h : Fin 8) (b : Fin 513)
    (hT : ∀ (r : Fin 128) (k : Fin 640), (W (Proc.devRef .tc main_v47_3) : FVec Ideal S8x128x640 .f32) (ix3 h r k) = (T h r k : EReal)) :
    (StableHlo.after (sfx : List (List (HloOp τ sig (Elt Ideal)))).flatten W (Proc.devRef .tc main_v96) : FVec Ideal S8x513 .f32) (ix2 h b)
      = ((∑ r : Fin 128, ∑ k : Fin 640, if rel r k = b then T h r k else 0 : ℝ) : EReal) := by
  simp only [sfx, List.flatten_cons, List.flatten_nil, List.append_nil, StableHlo.after_append]
  refine (fo12 _ h b (fun x r => ((if 127 ≤ r.val + x.val ∧ r.val + x.val < 767 then T h r (r.val + x.val - 127) else 0 : ℝ) : EReal))
    (fun x => ((if min (895 - x.val) 512 = b.val then 1 else 0 : ℝ) : EReal)) (fun x r => ?_) fun x => ?_).trans ?_
  · rw [fo11, dif_pos (by show r.val * 897 + x.val < 114688; omega), fo10, fo9, keepf8_v47_3, keepf7_v47_3, keepf6_v47_3, keepf5_v47_3, keepf4_v47_3,
      keepf3_v47_3, keepf2_v47_3, keepf1_v47_3, keepf0_v47_3]
    have hr : (r.val * 897 + x.val) / 896 = r.val := by omega
    have hm : (r.val * 897 + x.val) % 896 = r.val + x.val := by omega
    by_cases hx : 127 ≤ r.val + x.val ∧ r.val + x.val < 767
    · rw [if_pos hx, dif_pos (by show 127 ≤ (r.val * 897 + x.val) % 896 ∧ (r.val * 897 + x.val) % 896 - 127 < 640; rw [hm]; omega)]
      refine Eq.trans ?_ (hT r ⟨r.val + x.val - 127, by omega⟩)
      congr 2
      · exact Fin.ext hr
      · exact Fin.ext (by show (r.val * 897 + x.val) % 896 - 127 = _; rw [hm])
    · rw [if_neg hx, dif_neg (by show ¬ (127 ≤ (r.val * 897 + x.val) % 896 ∧ (r.val * 897 + x.val) % 896 - 127 < 640); rw [hm]; omega)]
      rw [fo8_c25]
      show (((0#32 : BitVec 32).toInt : ℝ) : EReal) = _
      simp
  · rw [keepf11_v84, keepf10_v84, keepf9_v84, fo8_v84, fo7, fo6_c23, fo6_c22, fo6_v74, clip_word]
    show (((IntOp.cmpi .eq (BitVec.ofNat 32 (min (895 - x.val) 512)) (BitVec.ofNat 32 b)).toNat : ℝ) : EReal) = _
    have hb := b.isLt
    by_cases e : min (895 - x.val) 512 = b.val
    · rw [if_pos e, e, show IntOp.cmpi .eq (BitVec.ofNat 32 b.val) (BitVec.ofNat 32 b.val) = 1#1 by word_cmp]
      simp
    · rw [if_neg e, show IntOp.cmpi .eq (BitVec.ofNat 32 (min (895 - x.val) 512)) (BitVec.ofNat 32 b.val) = 0#1 by
        have : min (895 - x.val) 512 ≤ 512 := Nat.min_le_right _ _
        generalize min (895 - x.val) 512 = n at *
        word_cmp]
      simp
  · rw [← fold_skew, ← coe_sum]
    refine Finset.sum_congr (M := EReal) rfl fun x _ => ?_
    rw [EReal.coe_mul, ← coe_sum]

end Stages
end Cert.AttnBwdIdeal.Hand
-- ==== Proof.AttnArrays.lean ====
/-
  The attention backward kernel's result arrays are the attention's gradients, over the real numbers.
-/
module

public import proofs.«01_k».proof.Proof.AttnFold
public import proofs.«01_k».proof.Proof.AttnSpec

@[expose] public section

set_option maxRecDepth 16384
noncomputable section
open Idealize.ShloMosaic Idealize.ShloMosaic.TcCoe Idealize.SL.Sem
open Idealize.ShloMosaic.Pipeline (Dat)

namespace Cert.AttnBwdIdeal.Hand
open Cert.AttnBwdIdeal Cert.AttnBwdIdeal.Gen Cert.Attn Cert.Reals

variable (m : (ℓ : Loc nD τ sig) → Buf (Elt Ideal) ℓ)

/-- Where every window's block sits at each head. -/
theorem places : ∀ t : Fin cfg0.N, win0_0.index t = ![0, t.val] ∧ win0_1.index t = ![0, 8 + t.val] ∧ win0_2.index t = ![0, 16 + t.val] ∧ win0_3.index t = ![0, t.val]
    ∧ win0_4.index t = ![t.val, 0, 0] ∧ win0_5.index t = ![0, t.val] ∧ win0_6.index t = ![0, t.val] ∧ win0_7.index t = ![0, t.val]
    ∧ win0_8.index t = ![t.val, 0, 0] :=
  (by decide +kernel : ∀ t : Fin grid0.N, _)

/-- The projections, the outgoing gradient and the relative biases as the run starts. -/
abbrev argA (c : Dev nD) : FVec Ideal S2048x6144 .bf16 := m ((c : Thread nD τ).loc main_arg0)
abbrev argD (c : Dev nD) : FVec Ideal S2048x2048 .bf16 := m ((c : Thread nD τ).loc main_arg1)
abbrev argB (c : Dev nD) : FVec Ideal S8x513 .f32 := m ((c : Thread nD τ).loc main_arg2)

/-- The head of a grid point. -/
abbrev hn (t : Fin cfg0.N) : Fin 8 := ⟨t.val, lt_of_lt_of_eq t.isLt N_0⟩

theorem read0 (c : Dev nD) (t : Fin cfg0.N) (s : Fin 2048) (l : Fin 128) :
    (iblk m c 0 t : Vec Ideal S2048x128 .bf16) (ix2 s l) = argA m c (ix2 s ⟨1024 * 0 + 128 * (hn t).val + l.val, col_lt 0 _ l (by norm_num)⟩) := by
  show (V m c main_arg0 : FVec Ideal S2048x6144 .bf16) _ = _
  rw [V_main_arg0]
  blk_ext [places t]

theorem read1 (c : Dev nD) (t : Fin cfg0.N) (s : Fin 2048) (l : Fin 128) :
    (iblk m c 1 t : Vec Ideal S2048x128 .bf16) (ix2 s l) = argA m c (ix2 s ⟨1024 * 1 + 128 * (hn t).val + l.val, col_lt 1 _ l (by norm_num)⟩) := by
  show (V m c main_arg0 : FVec Ideal S2048x6144 .bf16) _ = _
  rw [V_main_arg0]
  blk_ext [places t]

theorem read2 (c : Dev nD) (t : Fin cfg0.N) (s : Fin 2048) (l : Fin 128) :
    (iblk m c 2 t : Vec Ideal S2048x128 .bf16) (ix2 s l) = argA m c (ix2 s ⟨1024 * 2 + 128 * (hn t).val + l.val, col_lt 2 _ l (by norm_num)⟩) := by
  show (V m c main_arg0 : FVec Ideal S2048x6144 .bf16) _ = _
  rw [V_main_arg0]
  blk_ext [places t]

theorem read3 (c : Dev nD) (t : Fin cfg0.N) (s : Fin 2048) (l : Fin 128) :
    (iblk m c 3 t : Vec Ideal S2048x128 .bf16) (ix2 s l) = argD m c (ix2 s ⟨1024 * 0 + 128 * (hn t).val + l.val, col_lt 0 _ l (by norm_num)⟩) := by
  show (V m c main_arg1 : FVec Ideal S2048x2048 .bf16) _ = _
  rw [V_main_arg1]
  blk_ext [places t]

theorem read4 (c : Dev nD) (t : Fin cfg0.N) (r : Fin 128) (k : Fin 640) :
    (iblk m c 4 t : Vec Ideal S1x128x640 .f32) (ix3 0 r k)
      = if InBand r k then (argB m c (ix2 (hn t) ⟨rel r k, by unfold rel; omega⟩) : EReal) else ⊥ := by
  refine Eq.trans ?_ (table_apply m c (hn t) r k)
  show (V m c main_v46 : FVec Ideal S8x128x640 .f32) _ = (V m c main_v46 : FVec Ideal S8x128x640 .f32) _
  blk_ext [places t]

variable (c : Dev nD) {A : Fin 2048 → Fin 6144 → ℝ} {D : Fin 2048 → Fin 2048 → ℝ} {B : Fin 8 → Fin 513 → ℝ}
  (hA : ∀ r k, argA m c (ix2 r k) = (A r k : EReal)) (hD : ∀ r k, argD m c (ix2 r k) = (D r k : EReal))
  (hB : ∀ h b, argB m c (ix2 h b) = (B h b : EReal))

include hB in
theorem table_real (t : Fin cfg0.N) : IsTable (iblk m c 4 t) (biases (B (hn t))) := by
  intro r k
  rw [read4]
  by_cases hb : InBand r k
  · rw [if_pos hb, if_pos hb, hB]
    unfold biases
    rw [dif_pos (by unfold rel; omega)]
  · rw [if_neg hb, if_neg hb]

/-- The column of a result that holds a head's coordinate. -/
def col (h : Fin 8) (l : Fin 128) : Fin 1024 := ⟨128 * h.val + l.val, by omega⟩
theorem hd_col (h : Fin 8) (l : Fin 128) : hd (col h l) = h := Fin.ext (by show (128 * h.val + l.val) / 128 = h.val; omega)
theorem co_col (h : Fin 8) (l : Fin 128) : co (col h l) = l := Fin.ext (by show (128 * h.val + l.val) % 128 = l.val; omega)

section
include hA hD hB

/-- What a head's blocks hold. -/
theorem point_q (t : Fin cfg0.N) (s : Fin 2048) (l : Fin 128) :
    outQ (iblk m c 0 t) (iblk m c 1 t) (iblk m c 2 t) (iblk m c 3 t) (iblk m c 4 t) (ix2 s l) = ((resQ A D B s (col (hn t) l) : ℝ) : EReal) := by
  unfold resQ
  rw [hd_col, co_col]
  exact outQ_val _ _ _ _ _ (headQ A (hn t)) (headK A (hn t)) (headV A (hn t)) (headD D (hn t)) (B (hn t)) (fun s l => (read0 m c t s l).trans (hA _ _))
    (fun s l => (read1 m c t s l).trans (hA _ _)) (fun s l => (read2 m c t s l).trans (hA _ _)) (fun s l => (read3 m c t s l).trans (hD _ _)) (table_real m c hB t) s l

theorem point_k (t : Fin cfg0.N) (s : Fin 2048) (l : Fin 128) :
    outK (iblk m c 0 t) (iblk m c 1 t) (iblk m c 2 t) (iblk m c 3 t) (iblk m c 4 t) (ix2 s l) = ((resK A D B s (col (hn t) l) : ℝ) : EReal) := by
  unfold resK
  rw [hd_col, co_col]
  exact outK_val _ _ _ _ _ (headQ A (hn t)) (headK A (hn t)) (headV A (hn t)) (headD D (hn t)) (B (hn t)) (fun s l => (read0 m c t s l).trans (hA _ _))
    (fun s l => (read1 m c t s l).trans (hA _ _)) (fun s l => (read2 m c t s l).trans (hA _ _)) (fun s l => (read3 m c t s l).trans (hD _ _)) (table_real m c hB t) s l

theorem point_v (t : Fin cfg0.N) (s : Fin 2048) (l : Fin 128) :
    outV (iblk m c 0 t) (iblk m c 1 t) (iblk m c 3 t) (iblk m c 4 t) (ix2 s l) = ((resV A D B s (col (hn t) l) : ℝ) : EReal) := by
  unfold resV
  rw [hd_col, co_col]
  exact outV_val _ _ _ _ (headQ A (hn t)) (headK A (hn t)) (headD D (hn t)) (B (hn t)) (fun s l => (read0 m c t s l).trans (hA _ _))
    (fun s l => (read1 m c t s l).trans (hA _ _)) (fun s l => (read3 m c t s l).trans (hD _ _)) (table_real m c hB t) s l

end

/-- The biases' score gradients a head hands to the host: row `r`, column `k` summed over the sixteen groups of queries. -/
def diag (A : Fin 2048 → Fin 6144 → ℝ) (D : Fin 2048 → Fin 2048 → ℝ) (B : Fin 8 → Fin 513 → ℝ) (h : Fin 8) (r k : ℕ) : ℝ :=
  ∑ i ∈ Finset.range 16, ds (rows (headQ A h)) (padRows (headK A h)) (padRows (headV A h)) (rows (headD D h)) (biases (B h)) (128 * i + r) (128 * i + k)

/-- The result arrays. -/
def arrQ (A : Fin 2048 → Fin 6144 → ℝ) (D : Fin 2048 → Fin 2048 → ℝ) (B : Fin 8 → Fin 513 → ℝ) : FVec Ideal S2048x1024 .bf16 := fun i => ((resQ A D B (i 0) (i 1) : ℝ) : EReal)
def arrK (A : Fin 2048 → Fin 6144 → ℝ) (D : Fin 2048 → Fin 2048 → ℝ) (B : Fin 8 → Fin 513 → ℝ) : FVec Ideal S2048x1024 .bf16 := fun i => ((resK A D B (i 0) (i 1) : ℝ) : EReal)
def arrV (A : Fin 2048 → Fin 6144 → ℝ) (D : Fin 2048 → Fin 2048 → ℝ) (B : Fin 8 → Fin 513 → ℝ) : FVec Ideal S2048x1024 .bf16 := fun i => ((resV A D B (i 0) (i 1) : ℝ) : EReal)
def arrT (A : Fin 2048 → Fin 6144 → ℝ) (D : Fin 2048 → Fin 2048 → ℝ) (B : Fin 8 → Fin 513 → ℝ) : FVec Ideal S8x128x640 .f32 := fun i => ((diag A D B (i 0) (i 1).val (i 2).val : ℝ) : EReal)
def arrB (A : Fin 2048 → Fin 6144 → ℝ) (D : Fin 2048 → Fin 2048 → ℝ) (B : Fin 8 → Fin 513 → ℝ) : FVec Ideal S8x513 .f32 := fun i => ((resB A D B (i 0) (i 1) : ℝ) : EReal)

section
include hA hD hB

theorem point_t (t : Fin cfg0.N) (r : Fin 128) (k : Fin 640) :
    outT (iblk m c 0 t) (iblk m c 1 t) (iblk m c 2 t) (iblk m c 3 t) (iblk m c 4 t) (ix3 0 r k) = ((diag A D B (hn t) r k : ℝ) : EReal) :=
  outT_val _ _ _ _ _ (headQ A (hn t)) (headK A (hn t)) (headV A (hn t)) (headD D (hn t)) (B (hn t)) (fun s l => (read0 m c t s l).trans (hA _ _))
    (fun s l => (read1 m c t s l).trans (hA _ _)) (fun s l => (read2 m c t s l).trans (hA _ _)) (fun s l => (read3 m c t s l).trans (hD _ _)) (table_real m c hB t) r k

theorem final_q : (dats m 0 c).arrAt 5 (cfgs 0).N = arrQ A D B := by
  refine (dats m 0 c).arrAt_eq_of_covers 5 _ (by decide +kernel) fun t _ y => ?_
  blk_simp
  rw [after0_5]
  have ey : (win0_5.blk t).view.emb y = ix2 (y 0) (col (hn t) (y 1)) := by blk_ext [places t, col]
  rw [ey]
  exact (congrArg _ (eq_ix2 y)).trans (point_q m c hA hD hB t (y 0) (y 1))

theorem final_k : (dats m 0 c).arrAt 6 (cfgs 0).N = arrK A D B := by
  refine (dats m 0 c).arrAt_eq_of_covers 6 _ (by decide +kernel) fun t _ y => ?_
  blk_simp
  rw [after0_6]
  have ey : (win0_6.blk t).view.emb y = ix2 (y 0) (col (hn t) (y 1)) := by blk_ext [places t, col]
  rw [ey]
  exact (congrArg _ (eq_ix2 y)).trans (point_k m c hA hD hB t (y 0) (y 1))

theorem final_v : (dats m 0 c).arrAt 7 (cfgs 0).N = arrV A D B := by
  refine (dats m 0 c).arrAt_eq_of_covers 7 _ (by decide +kernel) fun t _ y => ?_
  blk_simp
  rw [after0_7]
  have ey : (win0_7.blk t).view.emb y = ix2 (y 0) (col (hn t) (y 1)) := by blk_ext [places t, col]
  rw [ey]
  exact (congrArg _ (eq_ix2 y)).trans (point_v m c hA hD hB t (y 0) (y 1))

theorem final_t : (dats m 0 c).arrAt 8 (cfgs 0).N = arrT A D B := by
  refine (dats m 0 c).arrAt_eq_of_covers 8 _ (by decide +kernel) fun t _ y => ?_
  blk_simp
  rw [after0_8]
  have ey : (win0_8.blk t).view.emb y = ix3 (hn t) (y 1) (y 2) := by blk_ext [places t]
  rw [ey]
  refine (congrArg _ (?_ : y = ix3 0 (y 1) (y 2))).trans (point_t m c hA hD hB t (y 1) (y 2))
  refine (eq_ix3 y).trans ?_
  congr 1
  exact Subsingleton.elim (α := Fin 1) _ _

/-- The biases' gradient the host folds from the heads' sums. -/
theorem final_b : Pipeline.afterTail₀ cfgs (dats m) 0 (V0 m) sfx c main_v96 = arrB A D B := by
  funext i
  rw [eq_ix2 i]
  refine (folded _ (diag A D B) (i 0) (i 1) ?_).trans ?_
  · intro r k
    exact congrFun ((Dat.withArrays_arrAt (dats m 0 c) (by decide) (V0 m c) (fun w => A_eq m c w) 8).trans (final_t m c hA hD hB)) (ix3 (i 0) r k)
  · exact congrArg _ (fold_blocks _ _ _ _ _ _)

end

/-- The kernel's run from arguments that are real numbers: its results are the gradient arrays, and its arguments end unchanged. -/
theorem run_arrays (g : Dev nD → PrngReg) : θ_run (defs (F := Ideal)) (onTc (τ := τ) (main (F := Ideal))) ⟨m, fun _ => 0, g⟩ fun r => ∀ c : Dev nD,
    (∀ (A : Fin 2048 → Fin 6144 → ℝ) (D : Fin 2048 → Fin 2048 → ℝ) (B : Fin 8 → Fin 513 → ℝ),
      (∀ r k, argA m c (ix2 r k) = (A r k : EReal)) → (∀ r k, argD m c (ix2 r k) = (D r k : EReal)) → (∀ h b, argB m c (ix2 h b) = (B h b : EReal)) →
      r.2.mem ((c : Thread nD τ).loc main_v47_0) = arrQ A D B ∧ r.2.mem ((c : Thread nD τ).loc main_v47_1) = arrK A D B
        ∧ r.2.mem ((c : Thread nD τ).loc main_v47_2) = arrV A D B ∧ r.2.mem ((c : Thread nD τ).loc main_v96) = arrB A D B)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨fun A D B hA hD hB =>
    ⟨((h.1 c).1 5).trans (final_q m c hA hD hB), ((h.1 c).1 6).trans (final_k m c hA hD hB), ((h.1 c).1 7).trans (final_v m c hA hD hB),
      ((h.1 c).2 main_v96 (Pipeline.mem_restRefs_of main_v96 (by decide) (by decide))).trans (final_b m c hA hD hB)⟩, h.2 c⟩)
    (θ_run_and (run_main m g) (unchanged m g))

end Cert.AttnBwdIdeal.Hand
end
-- ==== Proof.AttnFwdArrays.lean ====
/-
  The attention forward kernel's result is the attention, over the real numbers.
-/
module

public import proofs.«01_k».proof.Proof.AttnFwdBlock
public import proofs.«01_k».proof.Proof.AttnFwdTable
public import proofs.«01_k».proof.Proof.AttnArrays

@[expose] public section

set_option maxRecDepth 16384
noncomputable section
open Idealize.ShloMosaic Idealize.ShloMosaic.TcCoe Idealize.SL.Sem
open Idealize.ShloMosaic.Pipeline (Dat)

namespace Cert.AttnFwdIdeal.Hand
open Cert.AttnFwdIdeal Cert.AttnFwdIdeal.Gen Cert.Attn Cert.Reals
open Cert.AttnBwdIdeal.Hand (InBand IsTable col hd_col co_col)

variable (m : (ℓ : Loc nD τ sig) → Buf (Elt Ideal) ℓ)

/-- Where every window's block sits at each head. -/
theorem places : ∀ t : Fin cfg0.N, win0_0.index t = ![0, t.val] ∧ win0_1.index t = ![0, 8 + t.val] ∧ win0_2.index t = ![0, 16 + t.val]
    ∧ win0_3.index t = ![t.val, 0, 0] ∧ win0_4.index t = ![0, t.val] :=
  (by decide +kernel : ∀ t : Fin grid0.N, _)

/-- The projections and the relative biases as the run starts. -/
abbrev argA (c : Dev nD) : FVec Ideal S2048x6144 .bf16 := m ((c : Thread nD τ).loc main_arg0)
abbrev argB (c : Dev nD) : FVec Ideal S8x513 .f32 := m ((c : Thread nD τ).loc main_arg1)

/-- The head of a grid point. -/
abbrev hn (t : Fin cfg0.N) : Fin 8 := ⟨t.val, lt_of_lt_of_eq t.isLt N_0⟩

theorem read0 (c : Dev nD) (t : Fin cfg0.N) (s : Fin 2048) (l : Fin 128) :
    (iblk m c 0 t : Vec Ideal S2048x128 .bf16) (ix2 s l) = argA m c (ix2 s ⟨1024 * 0 + 128 * (hn t).val + l.val, col_lt 0 _ l (by norm_num)⟩) := by
  show (V m c main_arg0 : FVec Ideal S2048x6144 .bf16) _ = _
  rw [V_main_arg0]
  blk_ext [places t]

theorem read1 (c : Dev nD) (t : Fin cfg0.N) (s : Fin 2048) (l : Fin 128) :
    (iblk m c 1 t : Vec Ideal S2048x128 .bf16) (ix2 s l) = argA m c (ix2 s ⟨1024 * 1 + 128 * (hn t).val + l.val, col_lt 1 _ l (by norm_num)⟩) := by
  show (V m c main_arg0 : FVec Ideal S2048x6144 .bf16) _ = _
  rw [V_main_arg0]
  blk_ext [places t]

theorem read2 (c : Dev nD) (t : Fin cfg0.N) (s : Fin 2048) (l : Fin 128) :
    (iblk m c 2 t : Vec Ideal S2048x128 .bf16) (ix2 s l) = argA m c (ix2 s ⟨1024 * 2 + 128 * (hn t).val + l.val, col_lt 2 _ l (by norm_num)⟩) := by
  show (V m c main_arg0 : FVec Ideal S2048x6144 .bf16) _ = _
  rw [V_main_arg0]
  blk_ext [places t]

theorem read3 (c : Dev nD) (t : Fin cfg0.N) (r : Fin 128) (k : Fin 640) :
    (iblk m c 3 t : Vec Ideal S1x128x640 .f32) (ix3 0 r k)
      = if InBand r k then (argB m c (ix2 (hn t) ⟨rel r k, by unfold rel; omega⟩) : EReal) else ⊥ := by
  refine Eq.trans ?_ (table_apply m c (hn t) r k)
  show (V m c main_v46 : FVec Ideal S8x128x640 .f32) _ = (V m c main_v46 : FVec Ideal S8x128x640 .f32) _
  blk_ext [places t]

/-- The result array. -/
def arrO (A : Fin 2048 → Fin 6144 → ℝ) (B : Fin 8 → Fin 513 → ℝ) : FVec Ideal S2048x1024 .bf16 := fun i => ((resO A B (i 0) (i 1) : ℝ) : EReal)

section
variable (c : Dev nD) {A : Fin 2048 → Fin 6144 → ℝ} {B : Fin 8 → Fin 513 → ℝ}
  (hA : ∀ r k, argA m c (ix2 r k) = (A r k : EReal)) (hB : ∀ h b, argB m c (ix2 h b) = (B h b : EReal))

include hB in
theorem table_real (t : Fin cfg0.N) : IsTable (iblk m c 3 t) (biases (B (hn t))) := by
  intro r k
  rw [read3]
  by_cases hb : InBand r k
  · rw [if_pos hb, if_pos hb, hB]
    unfold biases
    rw [dif_pos (by unfold rel; omega)]
  · rw [if_neg hb, if_neg hb]

include hA hB

/-- What a head's block holds. -/
theorem point (t : Fin cfg0.N) (s : Fin 2048) (l : Fin 128) : outsAt0 m c t (ix2 s l) = ((resO A B s (col (hn t) l) : ℝ) : EReal) := by
  unfold resO
  rw [hd_col, co_col]
  unfold outsAt0
  exact out_val _ _ _ _ _ _ _ _ _ _ _ _ _ _ _ _ _ _ _ _ (headQ A (hn t)) (headK A (hn t)) (headV A (hn t)) (B (hn t)) (fun s l => (read0 m c t s l).trans (hA _ _))
    (fun s l => (read1 m c t s l).trans (hA _ _)) (fun s l => (read2 m c t s l).trans (hA _ _)) (table_real m c hB t) s l

/-- The columns the heads write. -/
theorem written (s : Fin 2048) (j : Fin 1024) :
    ((dats m 0 c).arrAt 4 (cfgs 0).N : FVec Ideal S2048x2048 .bf16) (ix2 s ⟨j.val, by omega⟩) = ((resO A B s j : ℝ) : EReal) := by
  refine ((dats m 0 c).arrAt_apply_of_coversWhere 4 (fun i : S2048x2048.Idx => ((resO A B (i 0) (Fin.ofNat 1024 (i 1).val) : ℝ) : EReal))
    (P := fun i : S2048x2048.Idx => (i 1).val / 128 < 8) (fun β => β (1 : Fin 2) < 8) (by decide +kernel) (fun t _ y => ?_) (fun j => Iff.rfl) _).trans ?_
  · blk_simp
    rw [after0_4]
    have hl : (y 1).val < 128 := (y 1).isLt
    have hi : win0_4.index t 1 = t.val := by rw [(places t).2.2.2.2]; rfl
    have hc : Fin.ofNat 1024 (win0_4.index t 1 * 128 + (y 1).val) = col (hn t) (y 1) := by
      refine Fin.ext ?_
      have := (hn t).isLt
      show (win0_4.index t 1 * 128 + (y 1).val) % 1024 = 128 * t.val + (y 1).val
      rw [hi, Nat.mod_eq_of_lt (by dsimp only at this; omega), Nat.mul_comm]
    refine (congrArg _ (eq_ix2 y)).trans ((point m c hA hB t (y 0) (y 1)).trans ?_)
    rw [← hc]
    refine congrArg (fun s => ((resO A B s _ : ℝ) : EReal)) ?_
    refine Fin.ext ?_
    blk_simp [places t]
  · rw [if_pos (by show j.val / 128 < 8; omega)]
    exact congrArg (fun k => ((resO A B s k : ℝ) : EReal)) (Fin.ext (Nat.mod_eq_of_lt j.isLt))

/-- The slice the host keeps of them. -/
theorem final : Pipeline.afterTail₀ cfgs (dats m) 0 (V0 m) [hostOps1] c main_v48 = arrO A B := by
  funext i
  rw [eq_ix2 i]
  have e := (Dat.withArrays_arrAt (dats m 0 c) (by decide) (V0 m c) (fun w => A_eq m c w) 4)
  refine Eq.trans ?_ (written m c hA hB (i 0) (i 1))
  rw [← e]
  show (StableHlo.after ([hostOps1] : List (List (HloOp τ sig (Elt Ideal)))).flatten _ (Proc.devRef .tc main_v48) : FVec Ideal S2048x1024 .bf16) _ = _
  simp only [List.flatten_cons, List.flatten_nil, List.append_nil]
  unfold hostOps1
  after_reads_simp
  pointwise []

end

/-- The kernel's run from arguments that are real numbers: its result is the attention, and its arguments end unchanged. -/
theorem run_arrays (g : Dev nD → PrngReg) : θ_run (defs (F := Ideal)) (onTc (τ := τ) (main (F := Ideal))) ⟨m, fun _ => 0, g⟩ fun r => ∀ c : Dev nD,
    (∀ (A : Fin 2048 → Fin 6144 → ℝ) (B : Fin 8 → Fin 513 → ℝ),
      (∀ r k, argA m c (ix2 r k) = (A r k : EReal)) → (∀ h b, argB m c (ix2 h b) = (B h b : EReal)) →
      r.2.mem ((c : Thread nD τ).loc main_v48) = arrO A B)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨fun A B hA hB =>
    ((h.1 c).2 main_v48 (Pipeline.mem_restRefs_of main_v48 (by decide) (by decide))).trans (final m c hA hB), h.2 c⟩)
    (θ_run_and (run_main m g) (unchanged m g))

end Cert.AttnFwdIdeal.Hand
end
-- ==== Proof.AttnFwdRefValue.lean ====
/-
  The attention forward reference, second part: the softmax of a band, and the run's result, the attention.
-/
module

public import proofs.«01_k».proof.Proof.AttnFwdRefRows
public import proofs.«01_k».proof.Proof.AttnFwdArrays

@[expose] public section

set_option maxRecDepth 16384
noncomputable section
open Idealize.ShloMosaic Idealize.ShloMosaic.TcCoe Idealize.SL.Sem

namespace Cert.AttnFwdRefIdeal.Value
open Cert.AttnFwdRefIdeal Cert.AttnFwdRefIdeal.Gen Cert.AttnFwdRefIdeal.Read Cert.Attn Cert.Reals
open Cert.AttnRefIdeal.Value (at_congr sees_iff rel_shift ofBits_bot max_bot max_band)

section
variable {x0 : FVec Ideal S2048x6144 .bf16} {x1 : FVec Ideal S8x513 .f32}
variable {A : Fin 2048 → Fin 6144 → ℝ} {B : Fin 8 → Fin 513 → ℝ}
  (hA : ∀ r k, x0 (ix2 r k) = (A r k : EReal)) (hB : ∀ h b, x1 (ix2 h b) = (B h b : EReal))

include hA hB in
/-- A score. -/
theorem raw_score (h : Fin 8) (n : Fin 32) (r : Fin 64) (k : Fin 576) : val_main_v63 (F := Ideal) x0 x1 (ix5 0 h n r k)
    = ((score (rows (headQ A h)) (padRows (headK A h)) (biases (B h)) (64 * n.val + r.val) (64 * n.val + k.val) : ℝ) : EReal) := by
  pointwise [val_main_v63, val_main_v62, val_main_v61, val_main_v60, val_main_v40, val_main_v39, val_main_cst_3, val_main_v38]
  unfold score
  rw [bias hB, ofBits_scale, rel_shift, Finset.sum_congr (M := EReal) rfl fun d _ => by rw [query hA, band_k hA, ← EReal.coe_mul], coe_sum, ← EReal.coe_mul, ← EReal.coe_add]

include hA hB in
/-- A masked score. -/
theorem masked (h : Fin 8) (n : Fin 32) (r : Fin 64) (k : Fin 576) : val_main_v69 (F := Ideal) x0 x1 (ix5 0 h n r k)
    = if Sees (64 * n.val + r.val) (64 * n.val + k.val) then (score (rows (headQ A h)) (padRows (headK A h)) (biases (B h)) (64 * n.val + r.val) (64 * n.val + k.val) : EReal) else ⊥ := by
  have e : val_main_call1_v0 (F := Ideal) ix0 = (⊥ : EReal) := ofBits_bot
  pointwise [val_main_v69, val_main_call1_v1, val_main_call1_v2]
  rw [e, visible, raw_score hA hB]
  by_cases hs : 8 ≤ n.val + k.val / 64
  · rw [if_pos hs, if_pos ((sees_iff n r k).2 hs)]
    rfl
  · rw [if_neg hs, if_neg (fun e => hs ((sees_iff n r k).1 e))]
    rfl

theorem greatest (h : Fin 8) (n : Fin 32) (r : Fin 64) : val_main_v72 (F := Ideal) x0 x1 (ix4 0 h n r)
    = Finset.fold max (⊥ : EReal) (fun k => val_main_v69 (F := Ideal) x0 x1 (ix5 0 h n r k)) Finset.univ := by
  have e : val_main_v71 (F := Ideal) (ix4 0 h n r) = (⊥ : EReal) := by
    unfold val_main_v71
    refine Eq.trans ?_ (show val_main_cst_13 (F := Ideal) ix0 = (⊥ : EReal) from ofBits_bot)
    generalize val_main_cst_13 (F := Ideal) = y
    pointwise []
  rw [val_main_v72_apply, e]
  refine (max_bot _).trans ?_
  unfold val_main_v70
  exact max_band _ _ (fun _ => ofBits_bot) h n r

theorem greatest_row (h : Fin 8) (n : Fin 32) (r : Fin 64) (k : Fin 576) : val_main_v74 (F := Ideal) x0 x1 (ix5 0 h n r k) = val_main_v72 (F := Ideal) x0 x1 (ix4 0 h n r) := by
  unfold val_main_v74 val_main_v73
  generalize val_main_v72 (F := Ideal) x0 x1 = y
  pointwise []

theorem shifted_sub (i : S1x8x32x64x576.Idx) : val_main_v76 (F := Ideal) x0 x1 i = Ideal.exp ((val_main_v69 (F := Ideal) x0 x1 i : EReal) - (val_main_v74 (F := Ideal) x0 x1 i : EReal)) := by
  rw [val_main_v76_apply, val_main_v75_apply]
  generalize val_main_v69 (F := Ideal) x0 x1 i = y
  generalize val_main_v74 (F := Ideal) x0 x1 i = w
  rfl

theorem shifted (h : Fin 8) (n : Fin 32) (r : Fin 64) (k : Fin 576) : val_main_v76 (F := Ideal) x0 x1 (ix5 0 h n r k)
    = Ideal.exp (val_main_v69 (F := Ideal) x0 x1 (ix5 0 h n r k) - Finset.fold max (⊥ : EReal) (fun k => val_main_v69 (F := Ideal) x0 x1 (ix5 0 h n r k)) Finset.univ) := by
  rw [shifted_sub, greatest_row, greatest]

theorem shifted_sum (h : Fin 8) (n : Fin 32) (r : Fin 64) : val_main_v77 (F := Ideal) x0 x1 (ix4 0 h n r)
    = ∑ k : Fin 576, (val_main_v76 (F := Ideal) x0 x1 (ix5 0 h n r k) : EReal) := by
  pointwise [val_main_v77, val_main_cst_14]

theorem quotient (h : Fin 8) (n : Fin 32) (r : Fin 64) (k : Fin 576) : val_main_v80 (F := Ideal) x0 x1 (ix5 0 h n r k)
    = Ideal.div (val_main_v76 (F := Ideal) x0 x1 (ix5 0 h n r k)) (val_main_v77 (F := Ideal) x0 x1 (ix4 0 h n r)) := by
  pointwise [val_main_v80, val_main_v79, val_main_v78]

include hA hB in
/-- A probability. -/
theorem probability (h : Fin 8) (n : Fin 32) (r : Fin 64) (k : Fin 576) : val_main_v80 (F := Ideal) x0 x1 (ix5 0 h n r k)
    = ((pr (rows (headQ A h)) (padRows (headK A h)) (biases (B h)) (64 * n.val + r.val) (64 * n.val + k.val) : ℝ) : EReal) := by
  rw [quotient, shifted_sum, shifted, Finset.sum_congr (M := EReal) rfl fun k _ => shifted h n r k]
  refine (softmax_row _ (fun k : Fin 576 => Sees (64 * n.val + r.val) (64 * n.val + k.val)) (fun k : Fin 576 => score (rows (headQ A h)) (padRows (headK A h)) (biases (B h)) (64 * n.val + r.val) (64 * n.val + k.val))
    (fun k => masked hA hB h n r k) ⟨r.val + 512, by omega⟩ (by unfold Sees; dsimp only; omega) k).trans ?_
  unfold pr total
  rw [← sum_window _ (64 * n.val) 576 (by omega) fun p hp => if_neg (by unfold Sees; omega)]

include hA hB in
/-- The weighted values. -/
theorem weighted (n : Fin 32) (h : Fin 8) (d : Fin 128) (r : Fin 64) : val_main_v81 (F := Ideal) x0 x1 (ix5 0 n h d r)
    = ((attend (rows (headQ A h)) (padRows (headK A h)) (padRows (headV A h)) (biases (B h)) (64 * n.val + r.val) d : ℝ) : EReal) := by
  pointwise [val_main_v81]
  rw [Finset.sum_congr (M := EReal) rfl fun k _ => by rw [probability hA hB, band_v hA, ← EReal.coe_mul], coe_sum]
  unfold attend
  rw [← sum_window _ (64 * n.val) 576 (by omega)]
  · exact congrArg _ (Finset.sum_congr rfl fun k _ => mul_comm _ _)
  · intro p hp
    rw [pr_of_not _ _ _ (by unfold Sees; omega), zero_mul]

include hA hB in
theorem value : val_main_v85 (F := Ideal) x0 x1 = Cert.AttnFwdIdeal.Hand.arrO A B := by
  funext i
  rw [eq_ix2 i]
  have hl : (i 0).val < 2048 := (i 0).isLt
  have hj : (i 1).val < 1024 := (i 1).isLt
  refine Eq.trans ?_ ((weighted hA hB ⟨(i 0).val / 64, by omega⟩ ⟨(i 1).val / 128, by omega⟩ ⟨(i 1).val % 128, by omega⟩ ⟨(i 0).val % 64, by omega⟩).trans ?_)
  · unfold val_main_v85 val_main_v84 val_main_v83 val_main_v82
    generalize val_main_v81 (F := Ideal) x0 x1 = y
    pointwise []
  · show _ = ((resO A B (i 0) (i 1) : ℝ) : EReal)
    unfold resO
    refine congrArg (fun s => ((attend _ _ _ _ s _ : ℝ) : EReal)) ?_
    dsimp only
    omega

end

variable (m : (ℓ : Loc nD τ sig) → Buf (Elt Ideal) ℓ)

/-- The projections and the relative biases as the run starts. -/
abbrev argA (c : Dev nD) : FVec Ideal S2048x6144 .bf16 := m ((c : Thread nD τ).loc main_arg0)
abbrev argB (c : Dev nD) : FVec Ideal S8x513 .f32 := m ((c : Thread nD τ).loc main_arg1)

/-- The reference's run, its result under its name. -/
theorem run_named (g : Dev nD → PrngReg) : θ_run (defs (F := Ideal)) (onTc (τ := τ) (main (F := Ideal))) ⟨m, fun _ => 0, g⟩ fun r => ∀ c : Dev nD,
    r.2.mem ((c : Thread nD τ).loc main_v85) = val_main_v85 (F := Ideal) (argA m c) (argB m c)
      ∧ r.2.mem ((c : Thread nD τ).loc main_arg0) = m ((c : Thread nD τ).loc main_arg0)
      ∧ r.2.mem ((c : Thread nD τ).loc main_arg1) = m ((c : Thread nD τ).loc main_arg1) :=
  run m g

end Cert.AttnFwdRefIdeal.Value
end
-- ==== Proof.SguFwdMath.lean ====
/- The gated spatial mixing, over the extended reals, for the 128 positions of one block: nothing here needs a finite argument. -/
module

public import proofs.«01_k».proof.Proof.SguMath

@[expose] public section

set_option maxRecDepth 16384
noncomputable section
open Idealize.ShloMosaic Idealize.ShloMosaic.TcCoe Idealize.SL.Sem

namespace Cert.SguFwd
open Cert.Sgu

/-- The Gaussian error linear unit. -/
def unit (x : EReal) : EReal := Ideal.ofBits FTy.f32 1056964608#32 * x * (1 + Ideal.erf (x * (((Real.sqrt 2)⁻¹ : ℝ) : EReal)))

/-- The average over the 2048 channels. -/
def avg (f : Fin 2048 → EReal) : EReal := Ideal.div (∑ k, f k) (Ideal.ofBits FTy.f32 1157627904#32)

section
variable (A : Fin 128 → Fin 4096 → EReal) (lg lb : Fin 2048 → EReal) (W : Fin 8 → Fin 128 → Fin 128 → EReal) (B : Fin 8 → Fin 128 → EReal)

/-- The centred mixed half, the inverse of its length, and the half normalised with its gain and offset. -/
def centred (r : Fin 128) (d : Fin 2048) : EReal := unit (A r (hi d)) - avg fun k => unit (A r (hi k))
def scale (r : Fin 128) : EReal := Ideal.rsqrt ((avg fun d => centred A r d * centred A r d) + Ideal.ofBits FTy.f32 897988541#32)
def normed (r : Fin 128) (d : Fin 2048) : EReal := centred A r d * scale A r * lg d + lb d
/-- The weights that a position may use: those of the chunks that aren't later. -/
def allowed (g : Fin 8) (r s : Fin 128) : EReal := if s.val / 64 ≤ r.val / 64 then W g r s else 0
/-- The result: the gating half by the mixed half. -/
def mixed (r : Fin 128) (d : Fin 2048) : EReal :=
  unit (A r (lo d)) * ((∑ s, allowed W (grp d) r s * normed A lg lb s d) + B (grp d) r)
end

/-- Choosing the product where the weight is allowed is the product with the allowed weight. -/
theorem select_allowed (W : Fin 8 → Fin 128 → Fin 128 → EReal) (g : Fin 8) (r s : Fin 128) (z : EReal) :
    Scalar.select (if s.val / 64 ≤ r.val / 64 then 1#1 else 0#1) (W g r s * z) 0 = allowed W g r s * z := by
  unfold allowed
  split
  · rfl
  · rw [zero_mul]; rfl

/-- The unit written with the complementary error function of the negated argument. -/
theorem unit_erfc (x : EReal) : Ideal.ofBits FTy.f32 1056964608#32 * x * Ideal.erfc (Ideal.div (-x) (Ideal.sqrt (Ideal.ofBits FTy.f32 1073741824#32))) = unit x := by
  have two : Ideal.ofBits FTy.f32 1073741824#32 = ((2 : ℝ) : EReal) := by
    simp [Ideal.ofBits, Ideal.ieee]
    rw [← EReal.coe_mul]; norm_num
  rw [two, Ideal.sqrt_coe, if_neg (by norm_num), Ideal.div_coe (by positivity), one_div, EReal.neg_mul, Ideal.erfc_neg]
  rfl

/-- The 128 rows of a block. -/
def rows (A : FVec Ideal ⟨2, ![2048, 4096]⟩ .f32) (n : Fin 16) : Fin 128 → Fin 4096 → EReal := fun r k => A (ix2 (pos n r) k)

/-- The whole result, from the arguments. -/
def arr (A : FVec Ideal ⟨2, ![2048, 4096]⟩ .f32) (G L : FVec Ideal ⟨1, ![2048]⟩ .f32) (W : FVec Ideal ⟨3, ![8, 128, 128]⟩ .f32) (B : FVec Ideal ⟨2, ![8, 128]⟩ .f32) :
    FVec Ideal ⟨2, ![2048, 2048]⟩ .bf16 := fun i =>
  mixed (rows A ⟨(i 0).val / 128, by have : (i 0).val < 2048 := (i 0).isLt; omega⟩) (fun d => G (ix1 d)) (fun d => L (ix1 d)) (fun g r s => W (ix3 g r s)) (fun g r => B (ix2 g r))
    ⟨(i 0).val % 128, by omega⟩ (i 1)

theorem arr_at (A : FVec Ideal ⟨2, ![2048, 4096]⟩ .f32) (G L : FVec Ideal ⟨1, ![2048]⟩ .f32) (W : FVec Ideal ⟨3, ![8, 128, 128]⟩ .f32) (B : FVec Ideal ⟨2, ![8, 128]⟩ .f32)
    (n : Fin 16) (r : Fin 128) (d : Fin 2048) : arr A G L W B (ix2 (pos n r) d)
      = mixed (rows A n) (fun d => G (ix1 d)) (fun d => L (ix1 d)) (fun g r s => W (ix3 g r s)) (fun g r => B (ix2 g r)) r d := by
  have h1 : ∀ h, (⟨(n.val * 128 + r.val) / 128, h⟩ : Fin 16) = n := fun h => Fin.ext (by dsimp only; omega)
  have h2 : ∀ h, (⟨(n.val * 128 + r.val) % 128, h⟩ : Fin 128) = r := fun h => Fin.ext (by dsimp only; omega)
  exact congrArg₂ (fun n r => mixed (rows A n) (fun d => G (ix1 d)) (fun d => L (ix1 d)) (fun g r s => W (ix3 g r s)) (fun g r => B (ix2 g r)) r d) (h1 _) (h2 _)

end Cert.SguFwd
-- ==== Proof.SguFwdArrays.lean ====
/- The gated spatial mixing's kernel: its result array, over the extended reals. -/
module

public import proofs.«01_k».proof.Proof.Gen.SguFwdIdeal.Value
public import Idealize.ShloMosaic.Lib.Pipeline.ValueKit
public import Idealize.ShloMosaic.Lib.Pointwise
public import proofs.«01_k».proof.Proof.SguFwdMath

@[expose] public section

set_option maxRecDepth 16384
noncomputable section
open Idealize.ShloMosaic Idealize.ShloMosaic.TcCoe Idealize.SL.Sem
open Idealize.ShloMosaic.Pipeline (Dat)

namespace Cert.SguFwdIdeal.Value
open Cert.SguFwdIdeal Cert.SguFwdIdeal.Gen Cert.SguFwd
open Cert.Sgu (lo hi grp pos)

/-- The constant of the unit. -/
theorem root_eq : (Named.named κ "rsqrt2" 1060439283#32 : Ideal .f32) = (((Real.sqrt 2)⁻¹ : ℝ) : EReal) := by
  simp [Named.named, κ]

section
variable (A : Vec Ideal S128x4096 .f32) (G L : Vec Ideal S1x2048 .f32) (W : Vec Ideal S8x128x128 .f32) (B : Vec Ideal S128x8 .f32)

/-- The gating half. -/
theorem p20 (r : Fin 128) (d : Fin 2048) : k0_pay20 (F := Ideal) A G L W B (ix2 r d) = unit (A (ix2 r (lo d))) := by
  pointwise [k0_pay20, k0_pay2]
  rw [root_eq]
  rfl
/-- The normalised half with its gain and offset. -/
theorem p21 (r : Fin 128) (d : Fin 2048) : k0_pay21 (F := Ideal) A G L W B (ix2 r d) = normed (fun r k => A (ix2 r k)) (fun d => G (ix2 0 d)) (fun d => L (ix2 0 d)) r d := by
  pointwise [k0_pay21, k0_pay3, k0_pay4, k0_pay5]
  rw [root_eq]
  rfl
theorem p27 (r : Fin 128) (d : Fin 2048) : k0_pay27 (F := Ideal) A G L W B (ix2 r d) = normed (fun r k => A (ix2 r k)) (fun d => G (ix2 0 d)) (fun d => L (ix2 0 d)) r d := by
  pointwise [k0_pay27, k0_pay11]
  exact p21 A G L W B r d
/-- The mask: position `s` is seen from position `r` when its chunk is not later. -/
theorem p26 (r s : Fin 128) : k0_pay26 (F := Ideal) A G L W B (ix2 r s) = if s.val / 64 ≤ r.val / 64 then 1#1 else 0#1 := by
  pointwise [k0_pay26, k0_pay22, k0_pay23, k0_pay24, k0_pay25, k0_pay6, k0_pay7, k0_pay8, k0_pay9, k0_pay10]
  revert r s
  decide +kernel

/-- One group's part of the result, at a channel of the group. -/
theorem close (r : Fin 128) (d q : Fin 2048) (g : Fin 8) (hq : q = d) (hg : grp d = g) :
    k0_pay20 (F := Ideal) A G L W B (ix2 r q)
      * ((∑ s : Fin 128, Scalar.select (k0_pay26 (F := Ideal) A G L W B (ix2 r s)) (W (ix3 g r s) * k0_pay27 (F := Ideal) A G L W B (ix2 s q)) (0 : EReal)) + B (ix2 r g))
    = mixed (fun r k => A (ix2 r k)) (fun d => G (ix2 0 d)) (fun d => L (ix2 0 d)) (fun g r s => W (ix3 g r s)) (fun g r => B (ix2 r g)) r d := by
  subst hq hg
  simp only [p20, p26, p27]
  exact congrArg (fun z : EReal => unit (A (ix2 r (lo q))) * (z + B (ix2 r (grp q))))
    (Finset.sum_congr (M := EReal) rfl fun s _ => select_allowed (fun g r s => W (ix3 g r s)) (grp q) r s _)

/-- What one grid point writes. -/
theorem point (r : Fin 128) (d : Fin 2048) : out0_5 (F := Ideal) A G L W B (ix2 r d)
    = mixed (fun r k => A (ix2 r k)) (fun d => G (ix2 0 d)) (fun d => L (ix2 0 d)) (fun g r s => W (ix3 g r s)) (fun g r => B (ix2 r g)) r d := by
  have h26 : k0_pay10 (k0_pay22 (F := Ideal) A G L W B) (k0_pay23 (F := Ideal) A G L W B) (k0_pay24 (F := Ideal) A G L W B) (k0_pay25 (F := Ideal) A G L W B)
      = k0_pay26 (F := Ideal) A G L W B := rfl
  have h27 : k0_pay11 (k0_pay21 (F := Ideal) A G L W B) = k0_pay27 (F := Ideal) A G L W B := rfl
  unfold out0_5
  canon_tiles x hx using View.cover_of_tiledBy _ ![128, 256] (by sl_kernel_rfl) _
  all_goals
    change r.val = (x 0).val at hx0
    change d.val = _ at hx1
    try simp only [h26, h27, k0_pay12, k0_pay13]
    pointwise [k0_pay1, k0_pay14, k0_pay15, k0_pay16, k0_pay17, k0_pay18, k0_pay19]
    obtain rfl : x 0 = r := Fin.ext hx0.symm
    refine close A G L W B (x 0) d _ _ (Fin.ext (by first | exact hx1.symm | (dsimp only; omega))) (Fin.ext ?_)
    first | (simp only [Fin.val_ofNat]; omega) | (change _ = 1; dsimp only; omega) | (change _ = 0; dsimp only; omega)
end

variable (m : (ℓ : Loc nD τ sig) → Buf (Elt Ideal) ℓ)

/-- Where every window's block sits at each grid point. -/
theorem places : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] :=
  (by decide +kernel : ∀ t : Fin grid0.N, _)

/-- The projections, the norm's gain and offset, the mixing weights and biases as the run starts. -/
abbrev argA (c : Dev nD) : FVec Ideal S2048x4096 .f32 := m ((c : Thread nD τ).loc main_arg0)
abbrev argG (c : Dev nD) : FVec Ideal S2048 .f32 := m ((c : Thread nD τ).loc main_arg1)
abbrev argL (c : Dev nD) : FVec Ideal S2048 .f32 := m ((c : Thread nD τ).loc main_arg2)
abbrev argW (c : Dev nD) : FVec Ideal S8x128x128 .f32 := m ((c : Thread nD τ).loc main_arg3)
abbrev argB (c : Dev nD) : FVec Ideal S8x128 .f32 := m ((c : Thread nD τ).loc main_arg4)

/-- The block of a grid point. -/
abbrev bn (t : Fin cfg0.N) : Fin 16 := ⟨t.val, lt_of_lt_of_eq t.isLt N_0⟩

/-! What the blocks of a grid point read. -/

theorem readA (c : Dev nD) (t : Fin cfg0.N) (r : Fin 128) (k : Fin 4096) : (iblk m c 0 t : Vec Ideal S128x4096 .f32) (ix2 r k) = argA m c (ix2 (pos (bn t) r) k) := by
  show (V m c main_arg0 : FVec Ideal S2048x4096 .f32) _ = _
  rw [V_main_arg0]
  blk_ext [places t]

theorem prepG (c : Dev nD) (k : Fin 2048) : (V m c main_v1 : FVec Ideal S1x2048 .f32) (ix2 0 k) = argG m c (ix1 k) := by
  unfold V
  after_results
  pointwise []

theorem readG (c : Dev nD) (t : Fin cfg0.N) (k : Fin 2048) : (iblk m c 1 t : Vec Ideal S1x2048 .f32) (ix2 0 k) = argG m c (ix1 k) := by
  rw [← prepG]
  show (V m c main_v1 : FVec Ideal S1x2048 .f32) _ = (V m c main_v1 : FVec Ideal S1x2048 .f32) _
  blk_ext [places t]

theorem prepL (c : Dev nD) (k : Fin 2048) : (V m c main_v2 : FVec Ideal S1x2048 .f32) (ix2 0 k) = argL m c (ix1 k) := by
  unfold V
  after_results
  pointwise []

theorem readL (c : Dev nD) (t : Fin cfg0.N) (k : Fin 2048) : (iblk m c 2 t : Vec Ideal S1x2048 .f32) (ix2 0 k) = argL m c (ix1 k) := by
  rw [← prepL]
  show (V m c main_v2 : FVec Ideal S1x2048 .f32) _ = (V m c main_v2 : FVec Ideal S1x2048 .f32) _
  blk_ext [places t]

theorem readW (c : Dev nD) (t : Fin cfg0.N) (g : Fin 8) (r k : Fin 128) : (iblk m c 3 t : Vec Ideal S8x128x128 .f32) (ix3 g r k) = argW m c (ix3 g r k) := by
  show (V m c main_arg3 : FVec Ideal S8x128x128 .f32) _ = _
  rw [V_main_arg3]
  blk_ext [places t]

theorem prepB (c : Dev nD) (r : Fin 128) (g : Fin 8) : (V m c main_v0 : FVec Ideal S128x8 .f32) (ix2 r g) = argB m c (ix2 g r) := by
  unfold V
  after_results
  pointwise []

theorem readB (c : Dev nD) (t : Fin cfg0.N) (g : Fin 8) (r : Fin 128) : (iblk m c 4 t : Vec Ideal S128x8 .f32) (ix2 r g) = argB m c (ix2 g r) := by
  rw [← prepB]
  show (V m c main_v0 : FVec Ideal S128x8 .f32) _ = (V m c main_v0 : FVec Ideal S128x8 .f32) _
  blk_ext [places t]

/-- The result array when the kernel ends. -/
theorem final (c : Dev nD) : (dats m 0 c).arrAt 5 (cfgs 0).N = arr (argA m c) (argG m c) (argL m c) (argW m c) (argB m c) := by
  have step : ∀ (t : Fin cfg0.N) (r : Fin 128) (d : Fin 2048), out0_5 (F := Ideal) (iblk m c 0 t) (iblk m c 1 t) (iblk m c 2 t) (iblk m c 3 t) (iblk m c 4 t) (ix2 r d)
      = arr (argA m c) (argG m c) (argL m c) (argW m c) (argB m c) (ix2 (pos (bn t) r) d) := by
    intro t r d
    rw [arr_at]
    refine (point _ _ _ _ _ r d).trans ?_
    simp only [readA, readG, readL, readW, readB]
    rfl
  refine (dats m 0 c).arrAt_eq_of_covers 5 _ (by decide +kernel) fun t _ y => ?_
  blk_simp
  rw [after0_5]
  have ey : (win0_5.blk t).view.emb y = ix2 (pos (bn t) (y 0)) (y 1) := by blk_ext [places t]
  rw [ey, eq_ix2 y]
  exact step t (y 0) (y 1)

/-- The kernel's run: its result is this array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v3) = arr (argA m c) (argG m c) (argL m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ h c => ⟨(h c).1.trans (final m c), (h c).2⟩) (run_blocks m g)

end Cert.SguFwdIdeal.Value
-- ==== Proof.SguFwdRefValue.lean ====
/- What the gated mixing's reference computes: the same array, over the extended reals. -/
module

public import proofs.«01_k».proof.Proof.Gen.SguFwdRefIdeal.Run
public import proofs.«01_k».proof.Proof.Gen.SguFwdRefIdeal.Read
public import Idealize.ShloMosaic.Lib.Pipeline.ValueKit
public import Idealize.ShloMosaic.Lib.Pointwise
public import proofs.«01_k».proof.Proof.SguFwdMath

@[expose] public section

set_option maxRecDepth 16384
noncomputable section
open Idealize.ShloMosaic Idealize.ShloMosaic.TcCoe Idealize.SL.Sem

namespace Cert.SguFwdRefIdeal.Value
open Cert.SguFwdRefIdeal Cert.SguFwdRefIdeal.Gen Cert.SguFwdRefIdeal.Read Cert.SguFwd
open Cert.Sgu (lo hi grp chan pos)

variable (A : FVec Ideal S2048x4096 .f32) (G L : FVec Ideal S2048 .f32) (W : FVec Ideal S8x128x128 .f32) (B : FVec Ideal S8x128 .f32)

/-- The linear unit. -/
theorem r8 (r : Fin 2048) (k : Fin 4096) : val_main_v8 (F := Ideal) A (ix3 0 r k) = unit (A (ix2 r k)) := by
  pointwise [val_main_v8, val_main_v7, val_main_v6, val_main_v5, val_main_v4, val_main_cst_0, val_main_v3, val_main_v2, val_main_v1, val_main_cst, val_main_v0]
  exact unit_erfc _

/-- The centred mixed half. -/
theorem r16 (n : Fin 16) (r : Fin 128) (d : Fin 2048) : val_main_v16 (F := Ideal) A (ix3 0 (pos n r) d) = centred (rows A n) r d := by
  pointwise [val_main_v16, val_main_v15, val_main_v14, val_main_v13, val_main_cst_2, val_main_v12, val_main_v11, val_main_cst_1, val_main_v10]
  simp only [r8]
  rfl

/-- The inverse of its length. -/
theorem r24 (n : Fin 16) (r : Fin 128) (z : Fin 1) : val_main_v24 (F := Ideal) A (ix3 0 (pos n r) z) = scale (rows A n) r := by
  pointwise [val_main_v24, val_main_v23, val_main_v22, val_main_cst_5, val_main_v21, val_main_v20, val_main_cst_4, val_main_v19, val_main_v18, val_main_cst_3, val_main_v17]
  simp only [r16]
  rfl

/-- The normalised half with its gain and offset. -/
theorem r32 (n : Fin 16) (r : Fin 128) (d : Fin 2048) : val_main_v32 (F := Ideal) A G L (ix3 0 (pos n r) d) = normed (rows A n) (fun d => G (ix1 d)) (fun d => L (ix1 d)) r d := by
  pointwise [val_main_v32, val_main_v31, val_main_v30, val_main_v29, val_main_v28, val_main_v27, val_main_v26, val_main_v25]
  rw [r16, r24]
  rfl

theorem r44 (n : Fin 16) (r : Fin 128) (g : Fin 8) (l : Fin 256) : val_main_v44 (F := Ideal) A G L (ix5 0 n r g l) = normed (rows A n) (fun d => G (ix1 d)) (fun d => L (ix1 d)) r (chan g l) := by
  pointwise [val_main_v44]
  exact r32 A G L n r (chan g l)

/-- The mask. -/
theorem r40 (r s : Fin 128) : val_main_v40 (F := Ideal) (ix2 r s) = if s.val / 64 ≤ r.val / 64 then 1#1 else 0#1 := by
  pointwise [val_main_v40, val_main_v38, val_main_v35, val_main_call0_v11, val_main_call0_v6, val_main_call0_v3, val_main_v34, val_main_v33, val_main_call0_v5, val_main_call0_v4, val_main_call0_v0, val_main_c, val_main_call0_v10, val_main_call0_v8, val_main_call0_v7, val_main_call0_v9, val_main_call0_c, val_main_call0_v13, val_main_call0_v2, val_main_call0_v1, val_main_call0_v12, val_main_call0_c_0, val_main_v39, val_main_v37, val_main_call1_v11, val_main_call1_v6, val_main_call1_v3, val_main_v36, val_main_call1_v5, val_main_call1_v4, val_main_call1_v0, val_main_c_6, val_main_call1_v10, val_main_call1_v8, val_main_call1_v7, val_main_call1_v9, val_main_call1_c, val_main_call1_v13, val_main_call1_v2, val_main_call1_v1, val_main_call1_v12, val_main_call1_c_0]
  revert r s
  decide +kernel

/-- The masked weights. -/
theorem r43 (g : Fin 8) (r s : Fin 128) : val_main_v43 (F := Ideal) W (ix3 g r s) = allowed (fun g r s => W (ix3 g r s)) g r s := by
  pointwise [val_main_v43, val_main_v42, val_main_cst_7, val_main_call2_v0, val_main_v41]
  rw [r40]
  unfold allowed
  split <;> simp [Scalar.select]

/-- Each position's sum over the positions it may use. -/
theorem r46 (n : Fin 16) (r : Fin 128) (g : Fin 8) (l : Fin 256) : val_main_v46 (F := Ideal) A G L W (ix5 0 n r g l)
    = ∑ s, allowed (fun g r s => W (ix3 g r s)) g r s * normed (rows A n) (fun d => G (ix1 d)) (fun d => L (ix1 d)) s (chan g l) := by
  pointwise [val_main_v46, val_main_v45]
  exact Finset.sum_congr (M := EReal) rfl fun s _ => by rw [r44, r43, mul_comm]

theorem pos_div (n : Fin 16) (r : Fin 128) (h) : (⟨(n.val * 128 + r.val) / 128, h⟩ : Fin 16) = n := Fin.ext (by dsimp only; omega)
theorem pos_mod (n : Fin 16) (r : Fin 128) (h) : (⟨(n.val * 128 + r.val) % 128, h⟩ : Fin 128) = r := Fin.ext (by dsimp only; omega)
theorem chan_eq (d : Fin 2048) (h h' h'') : (⟨(⟨d.val / 256, h⟩ : Fin 8).val * 256 + (⟨d.val % 256, h'⟩ : Fin 256).val, h''⟩ : Fin 2048) = d := Fin.ext (by dsimp only; omega)

/-- The mixed half. -/
theorem r52 (n : Fin 16) (r : Fin 128) (d : Fin 2048) : val_main_v52 (F := Ideal) A G L W B (ix3 0 (pos n r) d)
    = (∑ s, allowed (fun g r s => W (ix3 g r s)) (grp d) r s * normed (rows A n) (fun d => G (ix1 d)) (fun d => L (ix1 d)) s d) + B (ix2 (grp d) r) := by
  pointwise [val_main_v52, val_main_v51, val_main_v50, val_main_v49, val_main_v48, val_main_v47]
  simp only [pos_div, pos_mod]
  rw [r46]
  simp only [chan_eq]

/-- The result. -/
theorem ref_arr : (val_main_v55 (F := Ideal) A G L W B : FVec Ideal S2048x2048 .bf16) = arr A G L W B := by
  have point : ∀ (n : Fin 16) (r : Fin 128) (d : Fin 2048), (val_main_v55 (F := Ideal) A G L W B : FVec Ideal S2048x2048 .bf16) (ix2 (pos n r) d) = arr A G L W B (ix2 (pos n r) d) := by
    intro n r d
    rw [arr_at]
    pointwise [val_main_v55, val_main_v54, val_main_v53, val_main_v9]
    rw [r52, r8]
    rfl
  funext i
  have hi : (i 0).val < 2048 := (i 0).isLt
  rw [eq_ix2 i, show i 0 = pos ⟨(i 0).val / 128, by omega⟩ ⟨(i 0).val % 128, by omega⟩ from Fin.ext (by dsimp only; omega)]
  exact point _ _ (i 1)

variable (m : (ℓ : Loc nD τ sig) → Buf (Elt Ideal) ℓ)

abbrev argA (c : Dev nD) : FVec Ideal S2048x4096 .f32 := m ((c : Thread nD τ).loc main_arg0)
abbrev argG (c : Dev nD) : FVec Ideal S2048 .f32 := m ((c : Thread nD τ).loc main_arg1)
abbrev argL (c : Dev nD) : FVec Ideal S2048 .f32 := m ((c : Thread nD τ).loc main_arg2)
abbrev argW (c : Dev nD) : FVec Ideal S8x128x128 .f32 := m ((c : Thread nD τ).loc main_arg3)
abbrev argB (c : Dev nD) : FVec Ideal S8x128 .f32 := m ((c : Thread nD τ).loc main_arg4)

/-- The reference's run: its result is the same array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v55) = arr (argA m c) (argG m c) (argL m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ h c => ⟨(h c).1.trans (ref_arr _ _ _ _ _), (h c).2⟩) (run m g)

end Cert.SguFwdRefIdeal.Value
-- ==== Proof.NormFwdMath.lean ====
/- Root-mean-square normalisation of the rows of an array, alone and after a residual sum, over the extended reals. -/
module

public import proofs.«01_k».proof.Proof.NormMath

@[expose] public section

set_option maxRecDepth 16384
noncomputable section
open Idealize.ShloMosaic Idealize.ShloMosaic.TcCoe Idealize.SL.Sem

namespace Cert.NormFwd
open Cert.Norm (recip Rows Chans)

/-- A row over its root mean square, with its gain. -/
def normed (x g : Fin 2048 → EReal) (d : Fin 2048) : EReal := x d * recip (∑ k, x k * x k) * g d

/-- The residual with a product of rows by weights added, for `n` inner channels. -/
def residual (n : Nat) (A : FVec Ideal ⟨2, ![2048, n]⟩ .bf16) (W : FVec Ideal ⟨2, ![n, 2048]⟩ .f32) (R : FVec Ideal Rows .f32) : FVec Ideal Rows .f32 := fun i =>
  R (ix2 (i 0) (i 1)) + ∑ k : Fin n, A (ix2 (i 0) k) * W (ix2 k (i 1))

/-- The array normalised row by row. -/
def normArr (X : FVec Ideal Rows .f32) (G : FVec Ideal Chans .f32) : FVec Ideal Rows .bf16 := fun i =>
  normed (fun k => X (ix2 (i 0) k)) (fun d => G (ix1 d)) (i 1)

end Cert.NormFwd
-- ==== Proof.MixOutArrays.lean ====
/- The mixer's output kernel: its two result arrays. -/
module

public import proofs.«01_k».proof.Proof.Gen.MixOutIdeal.Value
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem
open Idealize.ShloMosaic.Pipeline (Dat)

namespace Cert.MixOutIdeal.Value
open Cert.MixOutIdeal Cert.MixOutIdeal.Gen Cert.NormFwd

/-- What one grid point writes of the residual sum. -/
theorem point_x (A : Vec Ideal S512x2048 .bf16) (W : Vec Ideal S2048x2048 .bf16) (R : Vec Ideal S512x2048 .f32) (G : Vec Ideal S1x2048 .f32) (r : Fin 512) (d : Fin 2048) :
    out0_4 (F := Ideal) A W R G (ix2 r d) = R (ix2 r d) + ∑ k : Fin 2048, A (ix2 r k) * W (ix2 k d) := by
  unfold out0_4
  canon_tiles x hx using View.cover_of_tiledBy _ ![512, 2048] (by sl_kernel_rfl) _
  pointwise [k0_pay1]
  obtain rfl : x 0 = r := Fin.ext hx0.symm
  obtain rfl : x 1 = d := Fin.ext hx1.symm
  rw [show R x = R (ix2 (x 0) (x 1)) from congrArg R (eq_ix2 x)]

/-- What one grid point writes of the normalised sum. -/
theorem point_h (A : Vec Ideal S512x2048 .bf16) (W : Vec Ideal S2048x2048 .bf16) (R : Vec Ideal S512x2048 .f32) (G : Vec Ideal S1x2048 .f32) (r : Fin 512) (d : Fin 2048) :
    out0_5 (F := Ideal) A W R G (ix2 r d) = normed (fun q => R (ix2 r q) + ∑ k : Fin 2048, A (ix2 r k) * W (ix2 k q)) (fun d => G (ix2 0 d)) d := by
  unfold out0_5
  canon_tiles x hx using View.cover_of_tiledBy _ ![512, 2048] (by sl_kernel_rfl) _
  pointwise [k0_pay2, k0_pay1]
  obtain rfl : x 0 = r := Fin.ext hx0.symm
  obtain rfl : x 1 = d := Fin.ext hx1.symm
  rw [show R x = R (ix2 (x 0) (x 1)) from congrArg R (eq_ix2 x)]
  rfl

variable (m : (ℓ : Loc nD τ sig) → Buf (Elt Ideal) ℓ)

/-- Where every window's block sits at each grid point. -/
theorem places : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The mixer's values, the weights, the residual and the gain as the run starts. -/
abbrev argA (c : Dev nD) : FVec Ideal S2048x2048 .bf16 := m ((c : Thread nD τ).loc main_arg0)
abbrev argW (c : Dev nD) : FVec Ideal S2048x2048 .f32 := m ((c : Thread nD τ).loc main_arg1)
abbrev argR (c : Dev nD) : FVec Ideal S2048x2048 .f32 := m ((c : Thread nD τ).loc main_arg2)
abbrev argG (c : Dev nD) : FVec Ideal S2048 .f32 := m ((c : Thread nD τ).loc main_arg3)

/-- A row of a grid point's block. -/
abbrev row (t : Fin cfg0.N) (r : Fin 512) : Fin 2048 := ⟨t.val * 512 + r.val, by have := lt_of_lt_of_eq t.isLt N_0; omega⟩

theorem readA (c : Dev nD) (t : Fin cfg0.N) (r : Fin 512) (k : Fin 2048) : (iblk m c 0 t : Vec Ideal S512x2048 .bf16) (ix2 r k) = argA m c (ix2 (row t r) k) := by
  show (V m c main_arg0 : FVec Ideal S2048x2048 .bf16) _ = _
  rw [V_main_arg0]
  blk_ext [places t]

theorem prepW (c : Dev nD) (k d : Fin 2048) : (V m c main_v0 : FVec Ideal S2048x2048 .bf16) (ix2 k d) = argW m c (ix2 k d) := by
  unfold V
  after_results
  pointwise []

theorem readW (c : Dev nD) (t : Fin cfg0.N) (k d : Fin 2048) : (iblk m c 1 t : Vec Ideal S2048x2048 .bf16) (ix2 k d) = argW m c (ix2 k d) := by
  rw [← prepW]
  show (V m c main_v0 : FVec Ideal S2048x2048 .bf16) _ = (V m c main_v0 : FVec Ideal S2048x2048 .bf16) _
  blk_ext [places t]

theorem readR (c : Dev nD) (t : Fin cfg0.N) (r : Fin 512) (k : Fin 2048) : (iblk m c 2 t : Vec Ideal S512x2048 .f32) (ix2 r k) = argR m c (ix2 (row t r) k) := by
  show (V m c main_arg2 : FVec Ideal S2048x2048 .f32) _ = _
  rw [V_main_arg2]
  blk_ext [places t]

theorem prepG (c : Dev nD) (k : Fin 2048) : (V m c main_v1 : FVec Ideal S1x2048 .f32) (ix2 0 k) = argG m c (ix1 k) := by
  unfold V
  after_results
  pointwise []

theorem readG (c : Dev nD) (t : Fin cfg0.N) (k : Fin 2048) : (iblk m c 3 t : Vec Ideal S1x2048 .f32) (ix2 0 k) = argG m c (ix1 k) := by
  rw [← prepG]
  show (V m c main_v1 : FVec Ideal S1x2048 .f32) _ = (V m c main_v1 : FVec Ideal S1x2048 .f32) _
  blk_ext [places t]

/-- The residual sum when the kernel ends. -/
theorem final_x (c : Dev nD) : (dats m 0 c).arrAt 4 (cfgs 0).N = residual 2048 (argA m c) (argW m c) (argR m c) := by
  have step : ∀ (t : Fin cfg0.N) (r : Fin 512) (d : Fin 2048), out0_4 (F := Ideal) (iblk m c 0 t) (iblk m c 1 t) (iblk m c 2 t) (iblk m c 3 t) (ix2 r d)
      = residual 2048 (argA m c) (argW m c) (argR m c) (ix2 (row t r) d) := by
    intro t r d
    refine (point_x _ _ _ _ r d).trans ?_
    simp only [readA, readW, readR]
    rfl
  refine (dats m 0 c).arrAt_eq_of_covers 4 _ (by decide +kernel) fun t _ y => ?_
  blk_simp
  rw [after0_4]
  have ey : (win0_4.blk t).view.emb y = ix2 (row t (y 0)) (y 1) := by blk_ext [places t]
  rw [ey, eq_ix2 y]
  exact step t (y 0) (y 1)

/-- The normalised sum when the kernel ends. -/
theorem final_h (c : Dev nD) : (dats m 0 c).arrAt 5 (cfgs 0).N = normArr (residual 2048 (argA m c) (argW m c) (argR m c)) (argG m c) := by
  have step : ∀ (t : Fin cfg0.N) (r : Fin 512) (d : Fin 2048), out0_5 (F := Ideal) (iblk m c 0 t) (iblk m c 1 t) (iblk m c 2 t) (iblk m c 3 t) (ix2 r d)
      = normArr (residual 2048 (argA m c) (argW m c) (argR m c)) (argG m c) (ix2 (row t r) d) := by
    intro t r d
    refine (point_h _ _ _ _ r d).trans ?_
    simp only [readA, readW, readR, readG]
    rfl
  refine (dats m 0 c).arrAt_eq_of_covers 5 _ (by decide +kernel) fun t _ y => ?_
  blk_simp
  rw [after0_5]
  have ey : (win0_5.blk t).view.emb y = ix2 (row t (y 0)) (y 1) := by blk_ext [places t]
  rw [ey, eq_ix2 y]
  exact step t (y 0) (y 1)

/-- The kernel's run: its results are these arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v2_0) = residual 2048 (argA m c) (argW m c) (argR m c)
      ∧ r.2.mem ((c : Thread nD τ).loc main_v2_1) = normArr (residual 2048 (argA m c) (argW m c) (argR m c)) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final_x m c), (h c).2.1.trans (final_h m c), (h c).2.2⟩) (run_blocks m g)

end Cert.MixOutIdeal.Value
-- ==== Proof.MixOutRefValue.lean ====
/- What the mixer's output reference computes: the same two arrays. -/
module

public import proofs.«01_k».proof.Proof.Gen.MixOutRefIdeal.Run
public import proofs.«01_k».proof.Proof.Gen.MixOutRefIdeal.Read
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem

namespace Cert.MixOutRefIdeal.Value
open Cert.MixOutRefIdeal Cert.MixOutRefIdeal.Gen Cert.MixOutRefIdeal.Read Cert.NormFwd

variable (A : FVec Ideal S2048x2048 .bf16) (W : FVec Ideal S2048x2048 .f32) (R : FVec Ideal S2048x2048 .f32) (G : FVec Ideal S2048 .f32)

/-- The residual sum. -/
theorem ref_x : (val_main_v2 (F := Ideal) A W R : FVec Ideal S2048x2048 .f32) = residual 2048 A W R := by
  have point : ∀ r d : Fin 2048, (val_main_v2 (F := Ideal) A W R : FVec Ideal S2048x2048 .f32) (ix2 r d) = residual 2048 A W R (ix2 r d) := by
    intro r d
    pointwise [val_main_v2, val_main_v1, val_main_v0]
    rfl
  funext i
  rw [eq_ix2 i]
  exact point (i 0) (i 1)

/-- The normalised sum. -/
theorem ref_h : (val_main_v16 (F := Ideal) A W R G : FVec Ideal S2048x2048 .bf16) = normArr (residual 2048 A W R) G := by
  have point : ∀ r d : Fin 2048, (val_main_v16 (F := Ideal) A W R G : FVec Ideal S2048x2048 .bf16) (ix2 r d) = normArr (residual 2048 A W R) G (ix2 r d) := by
    intro r d
    pointwise [val_main_v16, val_main_v15, val_main_v14, val_main_v13, val_main_v12, val_main_v11, val_main_v10, val_main_v9, val_main_v8, val_main_cst_1, val_main_v7, val_main_v6, val_main_cst_0, val_main_v5, val_main_v4, val_main_cst, val_main_v3]
    simp only [ref_x]
    rfl
  funext i
  rw [eq_ix2 i]
  exact point (i 0) (i 1)

variable (m : (ℓ : Loc nD τ sig) → Buf (Elt Ideal) ℓ)

abbrev argA (c : Dev nD) : FVec Ideal S2048x2048 .bf16 := m ((c : Thread nD τ).loc main_arg0)
abbrev argW (c : Dev nD) : FVec Ideal S2048x2048 .f32 := m ((c : Thread nD τ).loc main_arg1)
abbrev argR (c : Dev nD) : FVec Ideal S2048x2048 .f32 := m ((c : Thread nD τ).loc main_arg2)
abbrev argG (c : Dev nD) : FVec Ideal S2048 .f32 := m ((c : Thread nD τ).loc main_arg3)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v2) = residual 2048 (argA m c) (argW m c) (argR m c)
      ∧ r.2.mem ((c : Thread nD τ).loc main_v16) = normArr (residual 2048 (argA m c) (argW m c) (argR m c)) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (ref_x _ _ _), (h c).2.1.trans (ref_h _ _ _ _), (h c).2.2⟩) (run m g)

end Cert.MixOutRefIdeal.Value
-- ==== Proof.FfnDownArrays.lean ====
/- The feed-forward layer's output kernel: its two result arrays. -/
module

public import proofs.«01_k».proof.Proof.Gen.FfnDownIdeal.Value
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem
open Idealize.ShloMosaic.Pipeline (Dat)

namespace Cert.FfnDownIdeal.Value
open Cert.FfnDownIdeal Cert.FfnDownIdeal.Gen Cert.NormFwd

variable (m : (ℓ : Loc nD τ sig) → Buf (Elt Ideal) ℓ)

/-- What one grid point adds to the running sum, and the sum's start. -/
theorem add_point (acc : Vec Ideal S512x2048 .f32) (A : Vec Ideal S1x512x704 .bf16) (W : Vec Ideal S1x704x2048 .bf16) (r : Fin 512) (d : Fin 2048) :
    k0_pay2 (F := Ideal) acc A W (ix2 r d) = acc (ix2 r d) + ∑ l : Fin 704, A (ix3 0 r l) * W (ix3 0 l d) := by
  pointwise [k0_pay2]

theorem zero_point (r : Fin 512) (d : Fin 2048) : k0_pay1 (F := Ideal) (ix2 r d) = 0 := by
  pointwise [k0_pay1]

/-- Where every window's block sits at each grid point: four blocks of rows, and for each the eight blocks of inner channels. -/
theorem places : ∀ t : Fin cfg0.N, win0_0.index t = ![t.val % 8, t.val / 8, 0] ∧ win0_1.index t = ![t.val % 8, 0, 0] ∧ win0_2.index t = ![t.val / 8, 0] ∧ win0_3.index t = ![0, 0]
    ∧ win0_4.index t = ![t.val / 8, 0] ∧ win0_5.index t = ![t.val / 8, 0] :=
  (by decide +kernel : ∀ t : Fin grid0.N, _)

/-- The hidden units, the weights, the residual and the gain as the run starts. -/
abbrev argA (c : Dev nD) : FVec Ideal S2048x5632 .bf16 := m ((c : Thread nD τ).loc main_arg0)
abbrev argW (c : Dev nD) : FVec Ideal S5632x2048 .f32 := m ((c : Thread nD τ).loc main_arg1)
abbrev argR (c : Dev nD) : FVec Ideal S2048x2048 .f32 := m ((c : Thread nD τ).loc main_arg2)
abbrev argG (c : Dev nD) : FVec Ideal S2048 .f32 := m ((c : Thread nD τ).loc main_arg3)

/-- A row of a grid point's block, and an inner channel of a block. -/
abbrev row (t : Fin cfg0.N) (r : Fin 512) : Fin 2048 := ⟨t.val / 8 * 512 + r.val, by have := lt_of_lt_of_eq t.isLt N_0; omega⟩
abbrev unit (k : Nat) (l : Fin 704) : Fin 5632 := ⟨k % 8 * 704 + l.val, by omega⟩

theorem prepA (c : Dev nD) (k : Fin 8) (r : Fin 2048) (l : Fin 704) : (V m c main_v1 : FVec Ideal S8x2048x704 .bf16) (ix3 k r l) = argA m c (ix2 r (unit k l)) := by
  unfold V
  after_results
  pointwise []
  exact congrArg (fun z => argA m c (ix2 r z)) (Fin.ext (by dsimp only; omega))

theorem readA (c : Dev nD) (t : Fin cfg0.N) (r : Fin 512) (l : Fin 704) : (iblk m c 0 t : Vec Ideal S1x512x704 .bf16) (ix3 0 r l) = argA m c (ix2 (row t r) (unit t.val l)) := by
  have h := prepA m c ⟨t.val % 8, by omega⟩ (row t r) l
  rw [show unit (t.val % 8) l = unit t.val l from Fin.ext (by dsimp only; omega)] at h
  rw [← h]
  show (V m c main_v1 : FVec Ideal S8x2048x704 .bf16) _ = (V m c main_v1 : FVec Ideal S8x2048x704 .bf16) _
  blk_ext [places t]

theorem prepW (c : Dev nD) (k : Fin 8) (l : Fin 704) (d : Fin 2048) : (V m c main_v3 : FVec Ideal S8x704x2048 .bf16) (ix3 k l d) = argW m c (ix2 (unit k l) d) := by
  unfold V
  after_results
  pointwise []
  exact congrArg (fun z => argW m c (ix2 z d)) (Fin.ext (by dsimp only; omega))

theorem readW (c : Dev nD) (t : Fin cfg0.N) (l : Fin 704) (d : Fin 2048) : (iblk m c 1 t : Vec Ideal S1x704x2048 .bf16) (ix3 0 l d) = argW m c (ix2 (unit t.val l) d) := by
  have h := prepW m c ⟨t.val % 8, by omega⟩ l d
  rw [show unit (t.val % 8) l = unit t.val l from Fin.ext (by dsimp only; omega)] at h
  rw [← h]
  show (V m c main_v3 : FVec Ideal S8x704x2048 .bf16) _ = (V m c main_v3 : FVec Ideal S8x704x2048 .bf16) _
  blk_ext [places t]

theorem readR (c : Dev nD) (t : Fin cfg0.N) (r : Fin 512) (k : Fin 2048) : (iblk m c 2 t : Vec Ideal S512x2048 .f32) (ix2 r k) = argR m c (ix2 (row t r) k) := by
  show (V m c main_arg2 : FVec Ideal S2048x2048 .f32) _ = _
  rw [V_main_arg2]
  blk_ext [places t]

theorem prepG (c : Dev nD) (k : Fin 2048) : (V m c main_v4 : FVec Ideal S1x2048 .f32) (ix2 0 k) = argG m c (ix1 k) := by
  unfold V
  after_results
  pointwise []

theorem readG (c : Dev nD) (t : Fin cfg0.N) (k : Fin 2048) : (iblk m c 3 t : Vec Ideal S1x2048 .f32) (ix2 0 k) = argG m c (ix1 k) := by
  rw [← prepG]
  show (V m c main_v4 : FVec Ideal S1x2048 .f32) _ = (V m c main_v4 : FVec Ideal S1x2048 .f32) _
  blk_ext [places t]

/-- The two results are written back at the last of a block's grid points. -/
theorem flush4 : ∀ t : Fin cfg0.N, (cfg0.win 4).flush t = true ↔ t.val % 8 = 7 := by decide +kernel
theorem flush5 : ∀ t : Fin cfg0.N, (cfg0.win 5).flush t = true ↔ t.val % 8 = 7 := by decide +kernel

/-- The part of a row's product that one block of inner channels gives. -/
def part (A : FVec Ideal S2048x5632 .bf16) (W : FVec Ideal S5632x2048 .f32) (r : Fin 512) (d : Fin 2048) (i k : Nat) : EReal :=
  ∑ l : Fin 704, A (ix2 ⟨(i * 512 + r.val) % 2048, by omega⟩ (unit k l)) * W (ix2 (unit k l) d)

theorem part_point (c : Dev nD) (t : Fin cfg0.N) (r : Fin 512) (d : Fin 2048) :
    ∑ l : Fin 704, HMul.hMul (α := EReal) (β := EReal) (γ := EReal) ((iblk m c 0 t : Vec Ideal S1x512x704 .bf16) (ix3 0 r l)) ((iblk m c 1 t : Vec Ideal S1x704x2048 .bf16) (ix3 0 l d))
      = part (argA m c) (argW m c) r d (t.val / 8) (t.val % 8) := by
  simp only [readA, readW]
  unfold part
  have hr : (⟨(t.val / 8 * 512 + r.val) % 2048, by omega⟩ : Fin 2048) = row t r := Fin.ext (by have := lt_of_lt_of_eq t.isLt N_0; dsimp only; omega)
  have hu : ∀ l, unit (t.val % 8) l = unit t.val l := fun l => Fin.ext (by dsimp only; omega)
  simp only [hr, hu]

/-- The running sum after each grid point. -/
theorem running (c : Dev nD) (t : Fin cfg0.N) (r : Fin 512) (d : Fin 2048) : ((outsAt0 m c t.val t.isLt).2.2 : Vec Ideal S512x2048 .f32) (ix2 r d)
    = 0 + ∑ k ∈ Finset.range (t.val % 8 + 1), part (argA m c) (argW m c) r d (t.val / 8) k := by
  refine Pipeline.eq_sum_of_reset_step_divmod (M := EReal) (fun n h => ((outsAt0 m c n h).2.2 : Vec Ideal S512x2048 .f32) (ix2 r d)) 8 0 (part (argA m c) (argW m c) r d) (fun t h => ?_) (fun t h => ?_) t
  · rw [← part_point, outsAt0_A m c t h (by omega)]
    frame_out
    rw [add_point, zero_point]
  · rw [← part_point]
    by_cases h1 : t.val % 8 = 7
    · rw [outsAt0_C m c t h h1]
      frame_out
      rw [add_point, (Memref.isWhole_whole cc0_scratch0).read_unread]
    · rw [outsAt0_B m c t h h1]
      frame_out
      rw [add_point, (Memref.isWhole_whole cc0_scratch0).read_unread]

/-- The whole sum, at the last of a block's grid points. -/
theorem total (A : FVec Ideal S2048x5632 .bf16) (W : FVec Ideal S5632x2048 .f32) (t : Fin cfg0.N) (r : Fin 512) (d : Fin 2048) :
    ∑ k ∈ Finset.range 8, part A W r d (t.val / 8) k = ∑ k : Fin 5632, A (ix2 (row t r) k) * W (ix2 k d) := by
  rw [Finset.sum_range]
  refine Fin.sum_mul_add_congr (S := 8) (n := 704) fun k l hl => ?_
  have hr : (⟨(t.val / 8 * 512 + r.val) % 2048, by omega⟩ : Fin 2048) = row t r := Fin.ext (by have := lt_of_lt_of_eq t.isLt N_0; dsimp only; omega)
  have hu : unit k l = ⟨k.val * 704 + l.val, hl⟩ := Fin.ext (by dsimp only; omega)
  rw [hr, hu]

/-- What the last of a block's grid points leaves of the residual sum: the finished running sum added to the residual. -/
theorem last_x (c : Dev nD) (t : Fin cfg0.N) (h : t.val % 8 = 7) (r : Fin 512) (d : Fin 2048) :
    ((outsAt0 m c t.val t.isLt).1 : Vec Ideal S512x2048 .f32) (ix2 r d) = residual 5632 (argA m c) (argW m c) (argR m c) (ix2 (row t r) d) := by
  have hs : ((outsAt0 m c t.val t.isLt).1 : Vec Ideal S512x2048 .f32) = k0_pay3 (F := Ideal) (outsAt0 m c t.val t.isLt).2.2 (iblk m c 2 t) := by
    rw [outsAt0_C m c t (by omega) h]
    frame_out
  rw [hs]
  pointwise [k0_pay3]
  rw [running, h, total, zero_add, readR]
  rfl

/-- What it leaves of the normalised sum. -/
theorem last_h (c : Dev nD) (t : Fin cfg0.N) (h : t.val % 8 = 7) (r : Fin 512) (d : Fin 2048) :
    ((outsAt0 m c t.val t.isLt).2.1 : Vec Ideal S512x2048 .bf16) (ix2 r d) = normArr (residual 5632 (argA m c) (argW m c) (argR m c)) (argG m c) (ix2 (row t r) d) := by
  have hs : ((outsAt0 m c t.val t.isLt).2.1 : Vec Ideal S512x2048 .bf16) = k0_pay4 (F := Ideal) (outsAt0 m c t.val t.isLt).2.2 (iblk m c 2 t) (iblk m c 3 t) := by
    rw [outsAt0_C m c t (by omega) h]
    frame_out
  have hx : ∀ q : Fin 2048, k0_pay3 (F := Ideal) (outsAt0 m c t.val t.isLt).2.2 (iblk m c 2 t) (ix2 r q) = residual 5632 (argA m c) (argW m c) (argR m c) (ix2 (row t r) q) := fun q => by
    pointwise [k0_pay3]
    rw [running, h, total, zero_add, readR]
    rfl
  rw [hs]
  pointwise [k0_pay4]
  simp only [hx, readG]
  rfl

/-- The residual sum when the kernel ends. -/
theorem final_x (c : Dev nD) : (dats m 0 c).arrAt 4 (cfgs 0).N = residual 5632 (argA m c) (argW m c) (argR m c) := by
  refine (dats m 0 c).arrAt_eq_of_covers 4 _ (by decide +kernel) fun t hf y => ?_
  have h : t.val % 8 = 7 := (flush4 t).mp hf
  blk_simp
  rw [after0_4]
  have ey : (win0_4.blk t).view.emb y = ix2 (row t (y 0)) (y 1) := by blk_ext [places t]
  rw [ey, eq_ix2 y]
  exact last_x m c t h (y 0) (y 1)

/-- The normalised sum when the kernel ends. -/
theorem final_h (c : Dev nD) : (dats m 0 c).arrAt 5 (cfgs 0).N = normArr (residual 5632 (argA m c) (argW m c) (argR m c)) (argG m c) := by
  refine (dats m 0 c).arrAt_eq_of_covers 5 _ (by decide +kernel) fun t hf y => ?_
  have h : t.val % 8 = 7 := (flush5 t).mp hf
  blk_simp
  rw [after0_5]
  have ey : (win0_5.blk t).view.emb y = ix2 (row t (y 0)) (y 1) := by blk_ext [places t]
  rw [ey, eq_ix2 y]
  exact last_h m c t h (y 0) (y 1)

/-- The kernel's run: its results are these arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v5_0) = residual 5632 (argA m c) (argW m c) (argR m c)
      ∧ r.2.mem ((c : Thread nD τ).loc main_v5_1) = normArr (residual 5632 (argA m c) (argW m c) (argR m c)) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final_x m c), (h c).2.1.trans (final_h m c), (h c).2.2⟩) (run_blocks m g)

end Cert.FfnDownIdeal.Value
-- ==== Proof.FfnDownRefValue.lean ====
/- What the feed-forward layer's output reference computes: the same two arrays. -/
module

public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem

namespace Cert.FfnDownRefIdeal.Value
open Cert.FfnDownRefIdeal Cert.FfnDownRefIdeal.Gen Cert.FfnDownRefIdeal.Read Cert.NormFwd

variable (A : FVec Ideal S2048x5632 .bf16) (W : FVec Ideal S5632x2048 .f32) (R : FVec Ideal S2048x2048 .f32) (G : FVec Ideal S2048 .f32)

/-- The residual sum. -/
theorem ref_x : (val_main_v2 (F := Ideal) A W R : FVec Ideal S2048x2048 .f32) = residual 5632 A W R := by
  have point : ∀ r d : Fin 2048, (val_main_v2 (F := Ideal) A W R : FVec Ideal S2048x2048 .f32) (ix2 r d) = residual 5632 A W R (ix2 r d) := by
    intro r d
    pointwise [val_main_v2, val_main_v1, val_main_v0]
    rfl
  funext i
  rw [eq_ix2 i]
  exact point (i 0) (i 1)

/-- The normalised sum. -/
theorem ref_h : (val_main_v16 (F := Ideal) A W R G : FVec Ideal S2048x2048 .bf16) = normArr (residual 5632 A W R) G := by
  have point : ∀ r d : Fin 2048, (val_main_v16 (F := Ideal) A W R G : FVec Ideal S2048x2048 .bf16) (ix2 r d) = normArr (residual 5632 A W R) G (ix2 r d) := by
    intro r d
    pointwise [val_main_v16, val_main_v15, val_main_v14, val_main_v13, val_main_v12, val_main_v11, val_main_v10, val_main_v9, val_main_v8, val_main_cst_1, val_main_v7, val_main_v6, val_main_cst_0, val_main_v5, val_main_v4, val_main_cst, val_main_v3]
    simp only [ref_x]
    rfl
  funext i
  rw [eq_ix2 i]
  exact point (i 0) (i 1)

variable (m : (ℓ : Loc nD τ sig) → Buf (Elt Ideal) ℓ)

abbrev argA (c : Dev nD) : FVec Ideal S2048x5632 .bf16 := m ((c : Thread nD τ).loc main_arg0)
abbrev argW (c : Dev nD) : FVec Ideal S5632x2048 .f32 := m ((c : Thread nD τ).loc main_arg1)
abbrev argR (c : Dev nD) : FVec Ideal S2048x2048 .f32 := m ((c : Thread nD τ).loc main_arg2)
abbrev argG (c : Dev nD) : FVec Ideal S2048 .f32 := m ((c : Thread nD τ).loc main_arg3)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v2) = residual 5632 (argA m c) (argW m c) (argR m c)
      ∧ r.2.mem ((c : Thread nD τ).loc main_v16) = normArr (residual 5632 (argA m c) (argW m c) (argR m c)) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (ref_x _ _ _), (h c).2.1.trans (ref_h _ _ _ _), (h c).2.2⟩) (run m g)

end Cert.FfnDownRefIdeal.Value
-- ==== Proof.RmsFwdArrays.lean ====
/- The forward norm's kernel: its result array. -/
module

public import proofs.«01_k».proof.Proof.Gen.RmsFwdIdeal.Value
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem
open Idealize.ShloMosaic.Pipeline (Dat)

namespace Cert.RmsFwdIdeal.Value
open Cert.RmsFwdIdeal Cert.RmsFwdIdeal.Gen Cert.NormFwd

/-- What one grid point writes. -/
theorem point (X : Vec Ideal S256x2048 .f32) (G : Vec Ideal S1x2048 .f32) (r : Fin 256) (d : Fin 2048) : out0_2 (F := Ideal) X G (ix2 r d)
    = normed (fun k => X (ix2 r k)) (fun d => G (ix2 0 d)) d := by
  unfold out0_2
  canon_tiles x hx using View.cover_of_tiledBy _ ![256, 2048] (by sl_kernel_rfl) _
  pointwise [k0_pay1]
  obtain rfl : x 0 = r := Fin.ext hx0.symm
  obtain rfl : x 1 = d := Fin.ext hx1.symm
  rw [show X x = X (ix2 (x 0) (x 1)) from congrArg X (eq_ix2 x)]
  rfl

variable (m : (ℓ : Loc nD τ sig) → Buf (Elt Ideal) ℓ)

/-- Where every window's block sits at each grid point. -/
theorem places : ∀ t : Fin cfg0.N, win0_0.index t = ![t.val, 0] ∧ win0_1.index t = ![0, 0] ∧ win0_2.index t = ![t.val, 0] :=
  (by decide +kernel : ∀ t : Fin grid0.N, _)

/-- The rows and the gain as the run starts. -/
abbrev argX (c : Dev nD) : FVec Ideal S2048x2048 .f32 := m ((c : Thread nD τ).loc main_arg0)
abbrev argG (c : Dev nD) : FVec Ideal S2048 .f32 := m ((c : Thread nD τ).loc main_arg1)

/-- A row of a grid point's block. -/
abbrev row (t : Fin cfg0.N) (r : Fin 256) : Fin 2048 := ⟨t.val * 256 + r.val, by have := lt_of_lt_of_eq t.isLt N_0; omega⟩

theorem readX (c : Dev nD) (t : Fin cfg0.N) (r : Fin 256) (k : Fin 2048) : (iblk m c 0 t : Vec Ideal S256x2048 .f32) (ix2 r k) = argX m c (ix2 (row t r) k) := by
  show (V m c main_arg0 : FVec Ideal S2048x2048 .f32) _ = _
  rw [V_main_arg0]
  blk_ext [places t]

theorem prepG (c : Dev nD) (k : Fin 2048) : (V m c main_v0 : FVec Ideal S1x2048 .f32) (ix2 0 k) = argG m c (ix1 k) := by
  unfold V
  after_results
  pointwise []

theorem readG (c : Dev nD) (t : Fin cfg0.N) (k : Fin 2048) : (iblk m c 1 t : Vec Ideal S1x2048 .f32) (ix2 0 k) = argG m c (ix1 k) := by
  rw [← prepG]
  show (V m c main_v0 : FVec Ideal S1x2048 .f32) _ = (V m c main_v0 : FVec Ideal S1x2048 .f32) _
  blk_ext [places t]

/-- The result array when the kernel ends. -/
theorem final (c : Dev nD) : (dats m 0 c).arrAt 2 (cfgs 0).N = normArr (argX m c) (argG m c) := by
  have step : ∀ (t : Fin cfg0.N) (r : Fin 256) (d : Fin 2048), out0_2 (F := Ideal) (iblk m c 0 t) (iblk m c 1 t) (ix2 r d) = normArr (argX m c) (argG m c) (ix2 (row t r) d) := by
    intro t r d
    refine (point _ _ r d).trans ?_
    simp only [readX, readG]
    rfl
  refine (dats m 0 c).arrAt_eq_of_covers 2 _ (by decide +kernel) fun t _ y => ?_
  blk_simp
  rw [after0_2]
  have ey : (win0_2.blk t).view.emb y = ix2 (row t (y 0)) (y 1) := by blk_ext [places t]
  rw [ey, eq_ix2 y]
  exact step t (y 0) (y 1)

/-- The kernel's run: its result is this array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v1) = normArr (argX m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.RmsFwdIdeal.Value
-- ==== Proof.RmsFwdRefValue.lean ====
/- What the forward norm's reference computes: the same array. -/
module

public import proofs.«01_k».proof.Proof.Gen.RmsFwdRefIdeal.Run
public import proofs.«01_k».proof.Proof.Gen.RmsFwdRefIdeal.Read
public import Idealize.ShloMosaic.Lib.Pipeline.ValueKit
public import Idealize.ShloMosaic.Lib.Pointwise
public import proofs.«01_k».proof.Proof.NormFwdMath

@[expose] public section

set_option maxRecDepth 16384
noncomputable section
open Idealize.ShloMosaic Idealize.ShloMosaic.TcCoe Idealize.SL.Sem

namespace Cert.RmsFwdRefIdeal.Value
open Cert.RmsFwdRefIdeal Cert.RmsFwdRefIdeal.Gen Cert.RmsFwdRefIdeal.Read Cert.NormFwd

/-- The result. -/
theorem ref_arr (X : FVec Ideal S2048x2048 .f32) (G : FVec Ideal S2048 .f32) : (val_main_v13 (F := Ideal) X G : FVec Ideal S2048x2048 .bf16) = normArr X G := by
  have point : ∀ r d : Fin 2048, (val_main_v13 (F := Ideal) X G : FVec Ideal S2048x2048 .bf16) (ix2 r d) = normArr X G (ix2 r d) := by
    intro r d
    pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
    rfl
  funext i
  rw [eq_ix2 i]
  exact point (i 0) (i 1)

variable (m : (ℓ : Loc nD τ sig) → Buf (Elt Ideal) ℓ)

abbrev argX (c : Dev nD) : FVec Ideal S2048x2048 .f32 := m ((c : Thread nD τ).loc main_arg0)
abbrev argG (c : Dev nD) : FVec Ideal S2048 .f32 := m ((c : Thread nD τ).loc main_arg1)

/-- The reference's run: its result is the same array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v13) = normArr (argX m c) (argG m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.RmsFwdRefIdeal.Value
-- ==== Proof.ConvFwdArrays.lean ====
/- The gated convolution's forward kernel: what a grid point writes, and the result array — the attention's columns
   kept, the convolution's columns written. -/
module

public import proofs.«01_k».proof.Proof.Gen.ConvFwdIdeal.Value
public import Idealize.ShloMosaic.Lib.Pipeline.ValueKit
public import Idealize.ShloMosaic.Lib.Pointwise
public import proofs.«01_k».proof.Proof.ConvMath

@[expose] public section

set_option maxRecDepth 16384
noncomputable section
open Idealize.ShloMosaic Idealize.ShloMosaic.TcCoe Idealize.SL.Sem
open Idealize.ShloMosaic.Pipeline (Dat)

namespace Cert.ConvFwdIdeal.Value
open Cert.ConvFwdIdeal Cert.ConvFwdIdeal.Gen Cert.Conv

/-- A column of a block. -/
abbrev colOf {n : Nat} {φ : FTy} (x : FVec Ideal ⟨2, ![2048, n]⟩ φ) (l : Fin n) : Col := fun r => x (ix2 r l)

/-- A tap's product with the rotated column, under the row test, is the tap times the column moved `k` positions later. -/
theorem select_later (k : Nat) (hk : k < 2048) (r : Fin 2048) (z : Col) (w : EReal) (p : ((r.val + 2048 - k) % 2048) < 2048) :
    Scalar.select (IntOp.cmpi CmpIPredicate.sge (BitVec.ofNat 32 r.val) (BitVec.ofNat 32 k)) (w * z ⟨(r.val + 2048 - k) % 2048, p⟩) (0 : EReal) = w * later k z r := by
  have hr := r.isLt
  unfold later
  by_cases hlt : r.val < k
  · have e : IntOp.cmpi CmpIPredicate.sge (BitVec.ofNat 32 r.val) (BitVec.ofNat 32 k) = 0#1 := by word_cmp
    rw [e]; simp [Scalar.select, hlt]
  · have e : IntOp.cmpi CmpIPredicate.sge (BitVec.ofNat 32 r.val) (BitVec.ofNat 32 k) = 1#1 := by word_cmp
    have ei : (r.val + 2048 - k) % 2048 = r.val - k := by omega
    rw [e]; simp [Scalar.select, hlt, ei]

/-- The block a grid point writes. -/
theorem block (b c h : FVec Ideal S2048x128 .bf16) (w : FVec Ideal S3x128 .f32) (r : Fin 2048) (l : Fin 128) :
    k0_pay1 (F := Ideal) c h w b (ix2 r l) = gated (w (ix2 0 l)) (w (ix2 1 l)) (w (ix2 2 l)) (colOf b l) (colOf c l) (colOf h l) r := by
  pointwise [k0_pay1]
  have h1 := select_later 1 (by omega) r (prod (colOf c l) (colOf h l)) (w (ix2 1 l)) (Nat.mod_lt _ (by omega))
  have h2 := select_later 2 (by omega) r (prod (colOf c l) (colOf h l)) (w (ix2 0 l)) (Nat.mod_lt _ (by omega))
  unfold gated
  rw [← h1, ← h2]
  rfl

variable (m : (ℓ : Loc nD τ sig) → Buf (Elt Ideal) ℓ)

/-- Where every window's block sits at each grid point. -/
theorem places : ∀ t : Fin cfg0.N, win0_0.index t = ![0, 24 + t.val] ∧ win0_1.index t = ![0, 32 + t.val]
    ∧ win0_2.index t = ![0, 40 + t.val] ∧ win0_3.index t = ![0, t.val] ∧ win0_4.index t = ![0, 8 + t.val] :=
  (by decide +kernel : ∀ t : Fin grid0.N, _)

/-- The projections, the filter and the attention's output as the run starts. -/
abbrev argP (c : Dev nD) : FVec Ideal S2048x6144 .bf16 := m ((c : Thread nD τ).loc main_arg0)
abbrev argW (c : Dev nD) : FVec Ideal S3x1024 .f32 := m ((c : Thread nD τ).loc main_arg1)
abbrev argT (c : Dev nD) : FVec Ideal S2048x2048 .bf16 := m ((c : Thread nD τ).loc main_arg2)

/-- A channel of this grid point's 128. -/
abbrev ch (t : Fin cfg0.N) (l : Fin 128) : Fin 1024 := ⟨t.val * 128 + l.val, by have := t.isLt; have := lt_of_lt_of_eq t.isLt N_0; omega⟩

/-! The blocks of a grid point, and what they read: channels of the arguments. -/

abbrev blk_b (c : Dev nD) (t : Fin cfg0.N) : FVec Ideal S2048x128 .bf16 := iblk m c 0 t
abbrev blk_c (c : Dev nD) (t : Fin cfg0.N) : FVec Ideal S2048x128 .bf16 := iblk m c 1 t
abbrev blk_h (c : Dev nD) (t : Fin cfg0.N) : FVec Ideal S2048x128 .bf16 := iblk m c 2 t
abbrev blk_w (c : Dev nD) (t : Fin cfg0.N) : FVec Ideal S3x128 .f32 := iblk m c 3 t

theorem read_b (c : Dev nD) (t : Fin cfg0.N) (l : Fin 128) : colOf (blk_b m c t) l = chan 3072 (by omega) (argP m c) (ch t l) := by
  funext r
  show (iblk m c 0 t : FVec Ideal S2048x128 .bf16) (ix2 r l) = m ((c : Thread nD τ).loc main_arg0) (ix2 r ⟨3072 + (t.val * 128 + l.val), _⟩)
  blk_ext [iblk, V, places t]

theorem read_c (c : Dev nD) (t : Fin cfg0.N) (l : Fin 128) : colOf (blk_c m c t) l = chan 4096 (by omega) (argP m c) (ch t l) := by
  funext r
  show (iblk m c 1 t : FVec Ideal S2048x128 .bf16) (ix2 r l) = m ((c : Thread nD τ).loc main_arg0) (ix2 r ⟨4096 + (t.val * 128 + l.val), _⟩)
  blk_ext [iblk, V, places t]

theorem read_h (c : Dev nD) (t : Fin cfg0.N) (l : Fin 128) : colOf (blk_h m c t) l = chan 5120 (by omega) (argP m c) (ch t l) := by
  funext r
  show (iblk m c 2 t : FVec Ideal S2048x128 .bf16) (ix2 r l) = m ((c : Thread nD τ).loc main_arg0) (ix2 r ⟨5120 + (t.val * 128 + l.val), _⟩)
  blk_ext [iblk, V, places t]

theorem read_w (c : Dev nD) (t : Fin cfg0.N) (k : Fin 3) (l : Fin 128) : blk_w m c t (ix2 k l) = argW m c (ix2 k (ch t l)) := by
  show (iblk m c 3 t : FVec Ideal S3x128 .f32) (ix2 k l) = m ((c : Thread nD τ).loc main_arg1) (ix2 k ⟨t.val * 128 + l.val, _⟩)
  blk_ext [iblk, V, places t]

/-- What a grid point leaves, as columns of the result. -/
theorem point (c : Dev nD) (t : Fin cfg0.N) (r : Fin 2048) (l : Fin 128) : (outsAt0 m c t : Vec Ideal S2048x128 .bf16) (ix2 r l)
    = arrMix (argP m c) (argW m c) (argT m c) (ix2 r ⟨1024 + (ch t l).val, by omega⟩) := by
  have hs : (outsAt0 m c t : Vec Ideal S2048x128 .bf16) = k0_pay1 (F := Ideal) (blk_c m c t) (blk_h m c t) (blk_w m c t) (blk_b m c t) := by
    unfold outsAt0
    frame_out
  rw [hs, block, arrMix_right _ _ _ _ _ (ch t l) rfl, read_w, read_w, read_w, read_b, read_c, read_h]

/-- The columns below the written ones hold the attention's output as the region starts. -/
theorem kept (c : Dev nD) (r k : Fin 2048) (h : ¬8 ≤ k.val / 128) : (V m c main_v0 : FVec Ideal S2048x2048 .bf16) (ix2 r k) = arrMix (argP m c) (argW m c) (argT m c) (ix2 r k) := by
  rw [arrMix_left _ _ _ _ _ (by omega)]
  unfold V
  after_results
  rfl

/-- The result array, at an index. -/
theorem final_at (c : Dev nD) (r k : Fin 2048) : ((dats m 0 c).arrAt 4 (cfgs 0).N : FVec Ideal S2048x2048 .bf16) (ix2 r k) = arrMix (argP m c) (argW m c) (argT m c) (ix2 r k) := by
  refine ((dats m 0 c).arrAt_apply_of_coversWhere 4 (arrMix (argP m c) (argW m c) (argT m c))
    (P := fun i : S2048x2048.Idx => 8 ≤ (i 1).val / 128) (fun β => 8 ≤ β (1 : Fin 2)) (by decide +kernel) (fun t _ y => ?_) (fun j => Iff.rfl) _).trans ?_
  · blk_simp
    rw [after0_4]
    have ey : (win0_4.blk t).view.emb y = ix2 (y 0) ⟨1024 + (ch t (y 1)).val, by omega⟩ := by blk_ext [places t]
    rw [ey, eq_ix2 y]
    exact point m c t (y 0) (y 1)
  · by_cases h : 8 ≤ k.val / 128
    · exact if_pos h
    · exact (if_neg h).trans ((congrFun (A_eq m c 4) _).trans (kept m c r k h))

/-- The result array. -/
theorem final (c : Dev nD) : (dats m 0 c).arrAt 4 (cfgs 0).N = arrMix (argP m c) (argW m c) (argT m c) :=
  funext fun i : S2048x2048.Idx => by
    rw [eq_ix2 i]
    exact final_at m c (i 0) (i 1)

/-- The kernel's run: its result is the joined output, and its arguments end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = arrMix (argP m c) (argW m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final m c), (h c).2⟩) (run_blocks m g)

end Cert.ConvFwdIdeal.Value
-- ==== Proof.ConvFwdRefValue.lean ====
/- What the convolution's forward reference computes, one channel at a time. -/
module

public import proofs.«01_k».proof.Proof.Gen.ConvFwdRefIdeal.Run
public import proofs.«01_k».proof.Proof.Gen.ConvFwdRefIdeal.Read
public import Idealize.ShloMosaic.Lib.Pointwise
public import proofs.«01_k».proof.Proof.ConvMath

@[expose] public section

set_option maxRecDepth 16384
noncomputable section
open Idealize.ShloMosaic Idealize.ShloMosaic.TcCoe Idealize.SL.Sem

namespace Cert.ConvFwdRefIdeal.Value
open Cert.ConvFwdRefIdeal Cert.ConvFwdRefIdeal.Gen Cert.ConvFwdRefIdeal.Read Cert.Conv

variable (P : FVec Ideal S2048x6144 .bf16) (W : FVec Ideal S3x1024 .f32) (T : FVec Ideal S2048x2048 .bf16)

/-- The gated convolution. -/
theorem ref_conv (r : Fin 2048) (l : Fin 1024) : (val_main_v34 (F := Ideal) P W : FVec Ideal S2048x1024 .bf16) (ix2 r l)
    = gated (W (ix2 0 l)) (W (ix2 1 l)) (W (ix2 2 l)) (chan 3072 (by omega) P l) (chan 4096 (by omega) P l) (chan 5120 (by omega) P l) r := by
  have e : (val_main_cst (F := Ideal) ix0 : EReal) = 0 := by pointwise [val_main_cst]
  pointwise [val_main_v34, val_main_v33, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v1, val_main_v0, val_main_cst]
  simp only [gated, prod, later, e, show ∀ r : Nat, (1 + r < 2) = (r < 1) from fun r => by simp <;> omega,
     show ∀ r : Nat, 1 + r - 2 = r - 1 from fun r => by omega]

/-- The joined output, at an index. -/
theorem ref_at (r k : Fin 2048) : (val_main_v35 (F := Ideal) P W T : FVec Ideal S2048x2048 .bf16) (ix2 r k) = arrMix P W T (ix2 r k) := by
  by_cases h : k.val < 1024
  · rw [arrMix_left P W T r k h]
    pointwise [val_main_v35, val_main_v32]
    simp [h]
  · have hk : k.val < 2048 := k.isLt
    obtain ⟨l, hl⟩ : ∃ l : Fin 1024, k.val = 1024 + l.val := ⟨⟨k.val - 1024, by omega⟩, by dsimp only; omega⟩
    refine Eq.trans ?_ ((ref_conv P W r l).trans (arrMix_right P W T r k l hl).symm)
    rw [show k = ⟨1024 + l.val, by omega⟩ from Fin.ext hl]
    unfold val_main_v35
    generalize val_main_v34 (F := Ideal) P W = v
    pointwise []

/-- The joined output. -/
theorem ref_arr : (val_main_v35 (F := Ideal) P W T : FVec Ideal S2048x2048 .bf16) = arrMix P W T := by
  funext i
  rw [eq_ix2 i]
  exact ref_at P W T (i 0) (i 1)

variable (m : (ℓ : Loc nD τ sig) → Buf (Elt Ideal) ℓ)

/-- The projections, the filter and the attention's output as the run starts. -/
abbrev argP (c : Dev nD) : FVec Ideal S2048x6144 .bf16 := m ((c : Thread nD τ).loc main_arg0)
abbrev argW (c : Dev nD) : FVec Ideal S3x1024 .f32 := m ((c : Thread nD τ).loc main_arg1)
abbrev argT (c : Dev nD) : FVec Ideal S2048x2048 .bf16 := m ((c : Thread nD τ).loc main_arg2)

/-- The reference's run: its result is the joined output of its arguments, which end unchanged; and its frame (it has
    no semaphore). -/
theorem run_arrays (g : Dev nD → PrngReg) :
    (θ_run (defs (F := Ideal)) (onTc (τ := τ) (main (F := Ideal))) ⟨m, fun _ => 0, g⟩ fun r => ∀ c : Dev nD,
    r.2.mem ((c : Thread nD τ).loc main_v35) = arrMix (argP m c) (argW m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ θ_run (defs (F := Ideal)) (onTc (τ := τ) (main (F := Ideal))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  ⟨(θ_run _ _ _).mono (fun _ h c => ⟨(h c).1.trans (ref_arr (argP m c) (argW m c) (argT m c)), (h c).2⟩) (run m g),
    (θ_run _ _ _).mono (fun _ h => ⟨fun c => (h c).2, funext fun x => by rcases x with ⟨_, s | s⟩ <;> exact s.elim0⟩) (run m g)⟩

end Cert.ConvFwdRefIdeal.Value
-- ==== Proof.ProductMath.lean ====
/- Plain products of two matrices over the extended reals, whole or in the eight devices' blocks. -/
module

public import Idealize.ShloMosaic.Lib.ValueIdx
public import Idealize.ShloMosaic.Lib.Pipeline.ValueKit

@[expose] public section

noncomputable section
open Idealize.ShloMosaic Idealize.ShloMosaic.TcCoe Idealize.SL.Sem

namespace Cert.Product

abbrev Mat (p q : Nat) : Shape := ⟨2, ![p, q]⟩
abbrev Cube (a b c : Nat) : Shape := ⟨3, ![a, b, c]⟩

/-- Row `r` of a matrix times column `d` of another. -/
def rowCol {p n q : Nat} (A : FVec Ideal (Mat p n) .bf16) (W : FVec Ideal (Mat n q) .f32) (r : Fin p) (d : Fin q) : EReal :=
  ∑ k : Fin n, A (ix2 r k) * W (ix2 k d)

/-- Row `r` of a matrix times row `d` of another. -/
def rowRow {p n q : Nat} (A : FVec Ideal (Mat p n) .bf16) (W : FVec Ideal (Mat q n) .f32) (r : Fin p) (d : Fin q) : EReal :=
  ∑ k : Fin n, A (ix2 r k) * W (ix2 d k)

/-- Column `r` of a matrix times column `d` of another. -/
def colCol {p n q : Nat} (A : FVec Ideal (Mat n p) .bf16) (B : FVec Ideal (Mat n q) .bf16) (r : Fin p) (d : Fin q) : EReal :=
  ∑ k : Fin n, A (ix2 k r) * B (ix2 k d)

/-- Position `l` of block `j`, of eight blocks of `b`. -/
abbrev unit {w : Nat} (b : Nat) (h : w = 8 * b) (j : Fin 8) (l : Fin b) : Fin w :=
  ⟨j.val * b + l.val, by have := Nat.mul_le_mul_right b (show j.val ≤ 7 by omega); omega⟩

/-- The device whose block stands at place `j`: first the four devices of core 0, then those of core 1. -/
abbrev dev (j : Fin 8) : Fin 8 := ⟨j.val % 4 * 2 + j.val / 4, by omega⟩

/-- The place of a device's block. -/
abbrev spot (j : Fin 8) : Fin 8 := ⟨j.val % 2 * 4 + j.val / 2, by omega⟩

theorem dev_spot (j : Fin 8) : dev (spot j) = j := Fin.ext (by dsimp only; omega)

/-- The whole product. -/
def product {p n q : Nat} (A : FVec Ideal (Mat p n) .bf16) (W : FVec Ideal (Mat n q) .f32) : FVec Ideal (Mat p q) .bf16 := fun i => rowCol A W (i 0) (i 1)

/-- The whole product by the second matrix turned over. -/
def productT {p n q : Nat} (A : FVec Ideal (Mat p n) .bf16) (W : FVec Ideal (Mat q n) .f32) : FVec Ideal (Mat p q) .bf16 := fun i => rowRow A W (i 0) (i 1)

/-- The sum of two such products. -/
def productsT {p n q : Nat} (A B : FVec Ideal (Mat p n) .bf16) (W U : FVec Ideal (Mat q n) .f32) : FVec Ideal (Mat p q) .bf16 := fun i =>
  rowRow A W (i 0) (i 1) + rowRow B U (i 0) (i 1)

/-- The product of the first matrix, turned over, with the second, in blocks of rows. -/
def rowBlocks {w n q : Nat} (b : Nat) (h : w = 8 * b) (A : FVec Ideal (Mat n w) .bf16) (B : FVec Ideal (Mat n q) .bf16) : FVec Ideal (Cube 8 b q) .bf16 := fun i =>
  colCol A B (unit b h (dev (i 0)) (i 1)) (i 2)

/-- The same product in blocks of columns. -/
def colBlocks {w n p : Nat} (b : Nat) (h : w = 8 * b) (A : FVec Ideal (Mat n p) .bf16) (B : FVec Ideal (Mat n w) .bf16) : FVec Ideal (Cube 8 p b) .bf16 := fun i =>
  colCol A B (i 1) (unit b h (dev (i 0)) (i 2))

theorem rowBlocks_apply {w n q : Nat} (b : Nat) (h : w = 8 * b) (A : FVec Ideal (Mat n w) .bf16) (B : FVec Ideal (Mat n q) .bf16) (j : Fin 8) (r : Fin b) (d : Fin q) :
    rowBlocks b h A B (ix3 j r d) = colCol A B (unit b h (dev j) r) d := rfl

theorem colBlocks_apply {w n p : Nat} (b : Nat) (h : w = 8 * b) (A : FVec Ideal (Mat n p) .bf16) (B : FVec Ideal (Mat n w) .bf16) (j : Fin 8) (r : Fin p) (d : Fin b) :
    colBlocks b h A B (ix3 j r d) = colCol A B r (unit b h (dev j) d) := rfl

/-- The product's terms may be multiplied in either order. -/
theorem colCol_comm {p n q : Nat} (A : FVec Ideal (Mat n p) .bf16) (B : FVec Ideal (Mat n q) .bf16) (r : Fin p) (d : Fin q) :
    colCol A B r d = colCol B A d r := Finset.sum_congr rfl fun k _ => mul_comm (A (ix2 k r) : EReal) (B (ix2 k d))

end Cert.Product
-- ==== Proof.MmColsArrays.lean ====
/- The projections' product: the kernel's result array. -/
module

public import proofs.«01_k».proof.Proof.Gen.MmColsIdeal.Value
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem
open Idealize.ShloMosaic.Pipeline (Dat)

namespace Cert.MmColsIdeal.Value
open Cert.MmColsIdeal Cert.MmColsIdeal.Gen Cert.Product

variable (m : (ℓ : Loc nD τ sig) → Buf (Elt Ideal) ℓ)

/-- What one grid point writes: the rows times one block of columns. -/
theorem point (A : Vec Ideal S2048x2048 .bf16) (B : Vec Ideal S1x2048x768 .bf16) (r : Fin 2048) (l : Fin 768) :
    out0_2 (F := Ideal) A B (ix2 r l) = ∑ k : Fin 2048, A (ix2 r k) * B (ix3 0 k l) := by
  unfold out0_2
  canon_tiles x hx using View.cover_of_tiledBy _ ![2048, 256] (by sl_kernel_rfl) _
  all_goals
    pointwise [k0_pay1, k0_pay2, k0_pay3]
    obtain rfl : x 0 = r := Fin.ext hx0.symm
    first
      | (have hl : l.val = 512 + (x 1).val := hx1; simp only [← hl])
      | (have hl : l.val = 256 + (x 1).val := hx1; simp only [← hl])
      | (have hl : l.val = (x 1).val := hx1; simp only [← hl])

/-- Where every window's block sits at each grid point. -/
theorem places : ∀ t : Fin cfg0.N, win0_0.index t = ![0, 0] ∧ win0_1.index t = ![t.val, 0, 0] ∧ win0_2.index t = ![0, t.val] :=
  (by decide +kernel : ∀ t : Fin grid0.N, _)

/-- The normed rows and the weights as the run starts. -/
abbrev argH (c : Dev nD) : FVec Ideal S2048x2048 .bf16 := m ((c : Thread nD τ).loc main_arg0)
abbrev argW (c : Dev nD) : FVec Ideal S2048x6144 .f32 := m ((c : Thread nD τ).loc main_arg1)

/-- The device whose columns a grid point computes. -/
abbrev device (t : Fin cfg0.N) : Fin 8 := ⟨t.val, lt_of_lt_of_eq t.isLt N_0⟩

theorem readH (c : Dev nD) (t : Fin cfg0.N) (r k : Fin 2048) : (iblk m c 0 t : Vec Ideal S2048x2048 .bf16) (ix2 r k) = argH m c (ix2 r k) := by
  show (V m c main_arg0 : FVec Ideal S2048x2048 .bf16) _ = _
  rw [V_main_arg0]
  blk_ext [places t]

theorem prepW (c : Dev nD) (j : Fin 8) (k : Fin 2048) (l : Fin 768) : (V m c main_v2 : FVec Ideal S8x2048x768 .bf16) (ix3 j k l) = argW m c (ix2 k (unit 768 rfl j l)) := by
  unfold V
  after_results
  pointwise []

theorem readW (c : Dev nD) (t : Fin cfg0.N) (k : Fin 2048) (l : Fin 768) : (iblk m c 1 t : Vec Ideal S1x2048x768 .bf16) (ix3 0 k l) = argW m c (ix2 k (unit 768 rfl (device t) l)) := by
  rw [← prepW]
  show (V m c main_v2 : FVec Ideal S8x2048x768 .bf16) _ = (V m c main_v2 : FVec Ideal S8x2048x768 .bf16) _
  blk_ext [places t]

/-- The product when the kernel ends. -/
theorem final (c : Dev nD) : (dats m 0 c).arrAt 2 (cfgs 0).N = product (argH m c) (argW m c) := by
  have step : ∀ (t : Fin cfg0.N) (r : Fin 2048) (l : Fin 768), out0_2 (F := Ideal) (iblk m c 0 t) (iblk m c 1 t) (ix2 r l)
      = product (argH m c) (argW m c) (ix2 r (unit 768 rfl (device t) l)) := by
    intro t r l
    refine (point _ _ r l).trans ?_
    simp only [readH, readW]
    rfl
  refine (dats m 0 c).arrAt_eq_of_covers 2 _ (by decide +kernel) fun t _ y => ?_
  blk_simp
  rw [after0_2]
  have ey : (win0_2.blk t).view.emb y = ix2 (y 0) (unit 768 rfl (device t) (y 1)) := by blk_ext [places t]
  rw [ey, eq_ix2 y]
  exact step t (y 0) (y 1)

/-- The kernel's run: its result is the product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v3) = product (argH m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.MmColsIdeal.Value
-- ==== Proof.MmColsRefValue.lean ====
/- The projections' product: the reference's result array. -/
module

public import proofs.«01_k».proof.Proof.Gen.MmColsRefIdeal.Run
public import proofs.«01_k».proof.Proof.Gen.MmColsRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.MmColsRefIdeal.Value
open Cert.MmColsRefIdeal Cert.MmColsRefIdeal.Gen Cert.MmColsRefIdeal.Read Cert.Product

variable (H : FVec Ideal S2048x2048 .bf16) (W : FVec Ideal S2048x6144 .f32)

/-- The result. -/
theorem ref_arr : (val_main_v2 (F := Ideal) H W : FVec Ideal S2048x6144 .bf16) = product H W := by
  have point : ∀ (r : Fin 2048) (d : Fin 6144), (val_main_v2 (F := Ideal) H W : FVec Ideal S2048x6144 .bf16) (ix2 r d) = product H W (ix2 r d) := by
    intro r d
    pointwise [val_main_v2, val_main_v1, val_main_v0]
    rfl
  funext i
  rw [eq_ix2 i]
  exact point (i 0) (i 1)

variable (m : (ℓ : Loc nD τ sig) → Buf (Elt Ideal) ℓ)

abbrev argH (c : Dev nD) : FVec Ideal S2048x2048 .bf16 := m ((c : Thread nD τ).loc main_arg0)
abbrev argW (c : Dev nD) : FVec Ideal S2048x6144 .f32 := m ((c : Thread nD τ).loc main_arg1)

/-- The reference's run: its result is the same product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v2) = product (argH m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.MmColsRefIdeal.Value
-- ==== Proof.MmNtArrays.lean ====
/- The output projection's product with the incoming gradient: the kernel's result array. -/
module

public import proofs.«01_k».proof.Proof.Gen.MmNtIdeal.Value
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem
open Idealize.ShloMosaic.Pipeline (Dat)

namespace Cert.MmNtIdeal.Value
open Cert.MmNtIdeal Cert.MmNtIdeal.Gen Cert.Product

variable (m : (ℓ : Loc nD τ sig) → Buf (Elt Ideal) ℓ)

/-- What one grid point writes: the rows of the gradient times one half of the rows of the weights. -/
theorem point (A : Vec Ideal S2048x2048 .bf16) (B : Vec Ideal S1024x2048 .bf16) (r : Fin 2048) (l : Fin 1024) :
    out0_2 (F := Ideal) A B (ix2 r l) = ∑ k : Fin 2048, A (ix2 r k) * B (ix2 l k) := by
  unfold out0_2
  canon_tiles x hx using View.cover_of_tiledBy _ ![2048, 256] (by sl_kernel_rfl) _
  all_goals
    pointwise [k0_pay1, k0_pay2, k0_pay3, k0_pay4]
    obtain rfl : x 0 = r := Fin.ext hx0.symm
    first
      | (have hl : l.val = 768 + (x 1).val := hx1; simp only [← hl])
      | (have hl : l.val = 512 + (x 1).val := hx1; simp only [← hl])
      | (have hl : l.val = 256 + (x 1).val := hx1; simp only [← hl])
      | (have hl : l.val = (x 1).val := hx1; simp only [← hl])

/-- Where every window's block sits at each grid point. -/
theorem places : ∀ t : Fin cfg0.N, win0_0.index t = ![0, 0] ∧ win0_1.index t = ![t.val, 0] ∧ win0_2.index t = ![0, t.val] :=
  (by decide +kernel : ∀ t : Fin grid0.N, _)

/-- The incoming gradient and the weights as the run starts. -/
abbrev argD (c : Dev nD) : FVec Ideal S2048x2048 .bf16 := m ((c : Thread nD τ).loc main_arg0)
abbrev argW (c : Dev nD) : FVec Ideal S2048x2048 .f32 := m ((c : Thread nD τ).loc main_arg1)

/-- A row of the weights that a grid point reads. -/
abbrev row (t : Fin cfg0.N) (l : Fin 1024) : Fin 2048 := ⟨t.val * 1024 + l.val, by have := lt_of_lt_of_eq t.isLt N_0; omega⟩

theorem readD (c : Dev nD) (t : Fin cfg0.N) (r k : Fin 2048) : (iblk m c 0 t : Vec Ideal S2048x2048 .bf16) (ix2 r k) = argD m c (ix2 r k) := by
  show (V m c main_arg0 : FVec Ideal S2048x2048 .bf16) _ = _
  rw [V_main_arg0]
  blk_ext [places t]

theorem prepW (c : Dev nD) (d k : Fin 2048) : (V m c main_v0 : FVec Ideal S2048x2048 .bf16) (ix2 d k) = argW m c (ix2 d k) := by
  unfold V
  after_results
  pointwise []

theorem readW (c : Dev nD) (t : Fin cfg0.N) (l : Fin 1024) (k : Fin 2048) : (iblk m c 1 t : Vec Ideal S1024x2048 .bf16) (ix2 l k) = argW m c (ix2 (row t l) k) := by
  rw [← prepW]
  show (V m c main_v0 : FVec Ideal S2048x2048 .bf16) _ = (V m c main_v0 : FVec Ideal S2048x2048 .bf16) _
  blk_ext [places t]

/-- The product when the kernel ends. -/
theorem final (c : Dev nD) : (dats m 0 c).arrAt 2 (cfgs 0).N = productT (argD m c) (argW m c) := by
  have step : ∀ (t : Fin cfg0.N) (r : Fin 2048) (l : Fin 1024), out0_2 (F := Ideal) (iblk m c 0 t) (iblk m c 1 t) (ix2 r l)
      = productT (argD m c) (argW m c) (ix2 r (row t l)) := by
    intro t r l
    refine (point _ _ r l).trans ?_
    simp only [readD, readW]
    rfl
  refine (dats m 0 c).arrAt_eq_of_covers 2 _ (by decide +kernel) fun t _ y => ?_
  blk_simp
  rw [after0_2]
  have ey : (win0_2.blk t).view.emb y = ix2 (y 0) (row t (y 1)) := by blk_ext [places t]
  rw [ey, eq_ix2 y]
  exact step t (y 0) (y 1)

/-- The kernel's run: its result is the product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v1) = productT (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.MmNtIdeal.Value
-- ==== Proof.MmNtRefValue.lean ====
/- The output projection's product with the incoming gradient: the reference's result array. -/
module

public import proofs.«01_k».proof.Proof.Gen.MmNtRefIdeal.Run
public import proofs.«01_k».proof.Proof.Gen.MmNtRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.MmNtRefIdeal.Value
open Cert.MmNtRefIdeal Cert.MmNtRefIdeal.Gen Cert.MmNtRefIdeal.Read Cert.Product

variable (D : FVec Ideal S2048x2048 .bf16) (W : FVec Ideal S2048x2048 .f32)

/-- The result. -/
theorem ref_arr : (val_main_v4 (F := Ideal) D W : FVec Ideal S2048x2048 .bf16) = productT D W := by
  have point : ∀ (r d : Fin 2048), (val_main_v4 (F := Ideal) D W : FVec Ideal S2048x2048 .bf16) (ix2 r d) = productT D W (ix2 r d) := by
    intro r d
    pointwise [val_main_v4, val_main_v3, val_main_v2]
    rfl
  funext i
  rw [eq_ix2 i]
  exact point (i 0) (i 1)

variable (m : (ℓ : Loc nD τ sig) → Buf (Elt Ideal) ℓ)

abbrev argD (c : Dev nD) : FVec Ideal S2048x2048 .bf16 := m ((c : Thread nD τ).loc main_arg0)
abbrev argW (c : Dev nD) : FVec Ideal S2048x2048 .f32 := m ((c : Thread nD τ).loc main_arg1)

/-- The reference's run: its result is the same product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v4) = productT (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.MmNtRefIdeal.Value
-- ==== Proof.MmNtColsArrays.lean ====
/- The projections' product with the incoming gradient: the kernel's result array. -/
module

public import proofs.«01_k».proof.Proof.Gen.MmNtColsIdeal.Value
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem
open Idealize.ShloMosaic.Pipeline (Dat)

namespace Cert.MmNtColsIdeal.Value
open Cert.MmNtColsIdeal Cert.MmNtColsIdeal.Gen Cert.Product

variable (m : (ℓ : Loc nD τ sig) → Buf (Elt Ideal) ℓ)

/-- What one grid point adds to the running sum, and the sum's start. -/
theorem add_point (acc : Vec Ideal S1024x2048 .f32) (A : Vec Ideal S1024x768 .bf16) (B : Vec Ideal S1x2048x768 .bf16) (r : Fin 1024) (d : Fin 2048) :
    k0_pay2 (F := Ideal) acc A B (ix2 r d) = acc (ix2 r d) + ∑ l : Fin 768, A (ix2 r l) * B (ix3 0 d l) := by
  pointwise [k0_pay2]

theorem zero_point (r : Fin 1024) (d : Fin 2048) : k0_pay1 (F := Ideal) (ix2 r d) = 0 := by
  pointwise [k0_pay1]

/-- Where every window's block sits at each grid point: two blocks of rows, and for each the eight blocks of columns. -/
theorem places : ∀ t : Fin cfg0.N, win0_0.index t = ![t.val / 8, t.val % 8] ∧ win0_1.index t = ![t.val % 8, 0, 0] ∧ win0_2.index t = ![t.val / 8, 0] :=
  (by decide +kernel : ∀ t : Fin grid0.N, _)

/-- The incoming gradient and the weights as the run starts. -/
abbrev argD (c : Dev nD) : FVec Ideal S2048x6144 .bf16 := m ((c : Thread nD τ).loc main_arg0)
abbrev argW (c : Dev nD) : FVec Ideal S2048x6144 .f32 := m ((c : Thread nD τ).loc main_arg1)

/-- A row of a grid point's block, and a column of a block. -/
abbrev row (t : Fin cfg0.N) (r : Fin 1024) : Fin 2048 := ⟨t.val / 8 * 1024 + r.val, by have := lt_of_lt_of_eq t.isLt N_0; omega⟩
abbrev column (k : Nat) (l : Fin 768) : Fin 6144 := ⟨k % 8 * 768 + l.val, by omega⟩

theorem readD (c : Dev nD) (t : Fin cfg0.N) (r : Fin 1024) (l : Fin 768) : (iblk m c 0 t : Vec Ideal S1024x768 .bf16) (ix2 r l) = argD m c (ix2 (row t r) (column t.val l)) := by
  show (V m c main_arg0 : FVec Ideal S2048x6144 .bf16) _ = _
  rw [V_main_arg0]
  blk_ext [places t]

theorem prepW (c : Dev nD) (k : Fin 8) (d : Fin 2048) (l : Fin 768) : (V m c main_v2 : FVec Ideal S8x2048x768 .bf16) (ix3 k d l) = argW m c (ix2 d (column k l)) := by
  unfold V
  after_results
  pointwise []
  exact congrArg (fun z => argW m c (ix2 d z)) (Fin.ext (by dsimp only; omega))

theorem readW (c : Dev nD) (t : Fin cfg0.N) (d : Fin 2048) (l : Fin 768) : (iblk m c 1 t : Vec Ideal S1x2048x768 .bf16) (ix3 0 d l) = argW m c (ix2 d (column t.val l)) := by
  have h := prepW m c ⟨t.val % 8, by omega⟩ d l
  rw [show column (t.val % 8) l = column t.val l from Fin.ext (by dsimp only; omega)] at h
  rw [← h]
  show (V m c main_v2 : FVec Ideal S8x2048x768 .bf16) _ = (V m c main_v2 : FVec Ideal S8x2048x768 .bf16) _
  blk_ext [places t]

/-- The result is written back at the last of a block's grid points. -/
theorem flush2 : ∀ t : Fin cfg0.N, (cfg0.win 2).flush t = true ↔ t.val % 8 = 7 := by decide +kernel

/-- The part of a row's product that one block of columns gives. -/
def part (D : FVec Ideal S2048x6144 .bf16) (W : FVec Ideal S2048x6144 .f32) (r : Fin 1024) (d : Fin 2048) (i k : Nat) : EReal :=
  ∑ l : Fin 768, D (ix2 ⟨(i * 1024 + r.val) % 2048, by omega⟩ (column k l)) * W (ix2 d (column k l))

theorem part_point (c : Dev nD) (t : Fin cfg0.N) (r : Fin 1024) (d : Fin 2048) :
    ∑ l : Fin 768, HMul.hMul (α := EReal) (β := EReal) (γ := EReal) ((iblk m c 0 t : Vec Ideal S1024x768 .bf16) (ix2 r l)) ((iblk m c 1 t : Vec Ideal S1x2048x768 .bf16) (ix3 0 d l))
      = part (argD m c) (argW m c) r d (t.val / 8) (t.val % 8) := by
  simp only [readD, readW]
  unfold part
  have hr : (⟨(t.val / 8 * 1024 + r.val) % 2048, by omega⟩ : Fin 2048) = row t r := Fin.ext (by have := lt_of_lt_of_eq t.isLt N_0; dsimp only; omega)
  have hu : ∀ l, column (t.val % 8) l = column t.val l := fun l => Fin.ext (by dsimp only; omega)
  simp only [hr, hu]

/-- The running sum after each grid point. -/
theorem running (c : Dev nD) (t : Fin cfg0.N) (r : Fin 1024) (d : Fin 2048) : ((outsAt0 m c t.val t.isLt).2 : Vec Ideal S1024x2048 .f32) (ix2 r d)
    = 0 + ∑ k ∈ Finset.range (t.val % 8 + 1), part (argD m c) (argW m c) r d (t.val / 8) k := by
  refine Pipeline.eq_sum_of_reset_step_divmod (M := EReal) (fun n h => ((outsAt0 m c n h).2 : Vec Ideal S1024x2048 .f32) (ix2 r d)) 8 0 (part (argD m c) (argW m c) r d) (fun t h => ?_) (fun t h => ?_) t
  · rw [← part_point, outsAt0_A m c t h (by omega)]
    frame_out
    rw [add_point, zero_point]
  · rw [← part_point]
    by_cases h1 : t.val % 8 = 7
    · rw [outsAt0_C m c t h h1]
      frame_out
      rw [add_point, (Memref.isWhole_whole cc0_scratch0).read_unread]
    · rw [outsAt0_B m c t h h1]
      frame_out
      rw [add_point, (Memref.isWhole_whole cc0_scratch0).read_unread]

/-- The whole sum, at the last of a block's grid points. -/
theorem total (D : FVec Ideal S2048x6144 .bf16) (W : FVec Ideal S2048x6144 .f32) (t : Fin cfg0.N) (r : Fin 1024) (d : Fin 2048) :
    ∑ k ∈ Finset.range 8, part D W r d (t.val / 8) k = rowRow D W (row t r) d := by
  rw [Finset.sum_range]
  refine Fin.sum_mul_add_congr (S := 8) (n := 768) fun k l hl => ?_
  have hr : (⟨(t.val / 8 * 1024 + r.val) % 2048, by omega⟩ : Fin 2048) = row t r := Fin.ext (by have := lt_of_lt_of_eq t.isLt N_0; dsimp only; omega)
  have hu : column k l = ⟨k.val * 768 + l.val, hl⟩ := Fin.ext (by dsimp only; omega)
  rw [hr, hu]

/-- What the last of a block's grid points writes: the finished running sum. -/
theorem last (c : Dev nD) (t : Fin cfg0.N) (h : t.val % 8 = 7) (r : Fin 1024) (d : Fin 2048) :
    ((outsAt0 m c t.val t.isLt).1 : Vec Ideal S1024x2048 .bf16) (ix2 r d) = productT (argD m c) (argW m c) (ix2 (row t r) d) := by
  have hs : ((outsAt0 m c t.val t.isLt).1 : Vec Ideal S1024x2048 .bf16) = k0_pay3 (F := Ideal) (outsAt0 m c t.val t.isLt).2 := by
    rw [outsAt0_C m c t (by omega) h]
    frame_out
  rw [hs]
  pointwise [k0_pay3]
  rw [running, h, total, zero_add]
  rfl

/-- The product when the kernel ends. -/
theorem final (c : Dev nD) : (dats m 0 c).arrAt 2 (cfgs 0).N = productT (argD m c) (argW m c) := by
  refine (dats m 0 c).arrAt_eq_of_covers 2 _ (by decide +kernel) fun t hf y => ?_
  have h : t.val % 8 = 7 := (flush2 t).mp hf
  blk_simp
  rw [after0_2]
  have ey : (win0_2.blk t).view.emb y = ix2 (row t (y 0)) (y 1) := by blk_ext [places t]
  rw [ey, eq_ix2 y]
  exact last m c t h (y 0) (y 1)

/-- The kernel's run: its result is the product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v3) = productT (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.MmNtColsIdeal.Value
-- ==== Proof.MmNtColsRefValue.lean ====
/- The projections' product with the incoming gradient: the reference's result array. -/
module

public import proofs.«01_k».proof.Proof.Gen.MmNtColsRefIdeal.Run
public import proofs.«01_k».proof.Proof.Gen.MmNtColsRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.MmNtColsRefIdeal.Value
open Cert.MmNtColsRefIdeal Cert.MmNtColsRefIdeal.Gen Cert.MmNtColsRefIdeal.Read Cert.Product

variable (D : FVec Ideal S2048x6144 .bf16) (W : FVec Ideal S2048x6144 .f32)

/-- The result. -/
theorem ref_arr : (val_main_v4 (F := Ideal) D W : FVec Ideal S2048x2048 .bf16) = productT D W := by
  have point : ∀ (r d : Fin 2048), (val_main_v4 (F := Ideal) D W : FVec Ideal S2048x2048 .bf16) (ix2 r d) = productT D W (ix2 r d) := by
    intro r d
    pointwise [val_main_v4, val_main_v3, val_main_v2]
    rfl
  funext i
  rw [eq_ix2 i]
  exact point (i 0) (i 1)

variable (m : (ℓ : Loc nD τ sig) → Buf (Elt Ideal) ℓ)

abbrev argD (c : Dev nD) : FVec Ideal S2048x6144 .bf16 := m ((c : Thread nD τ).loc main_arg0)
abbrev argW (c : Dev nD) : FVec Ideal S2048x6144 .f32 := m ((c : Thread nD τ).loc main_arg1)

/-- The reference's run: its result is the same product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v4) = productT (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.MmNtColsRefIdeal.Value
-- ==== Proof.MmTnColsArrays.lean ====
/- The gradient of the projections' weights: the kernel's result array. -/
module

public import proofs.«01_k».proof.Proof.Gen.MmTnColsIdeal.Value
public import Idealize.ShloMosaic.Lib.Pipeline.ValueKit
public import Idealize.ShloMosaic.Lib.Pointwise
public import proofs.«01_k».proof.Proof.ProductMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.MmTnColsIdeal.Value
open Cert.MmTnColsIdeal Cert.MmTnColsIdeal.Gen Cert.Product Cert.Reals

variable (m : (ℓ : Loc nD τ sig) → Buf (Elt Ideal) ℓ)

/-- What one grid point writes: half of the columns of the rows' array times one block of the gradient's columns. -/
theorem point (A : Vec Ideal S2048x1024 .bf16) (B : Vec Ideal S2048x768 .bf16) (r : Fin 1024) (l : Fin 768) :
    out0_2 (F := Ideal) A B (ix3 0 r l) = ∑ k : Fin 2048, A (ix2 k r) * B (ix2 k l) := by
  unfold out0_2
  canon_tiles x hx using View.cover_of_tiledBy _ ![1, 1024, 768] (by sl_kernel_rfl) _
  pointwise [k0_pay1]
  obtain rfl : x 1 = r := Fin.ext hx1.symm
  obtain rfl : x 2 = l := Fin.ext hx2.symm
  rfl

/-- Where every window's block sits at each grid point. -/
theorem places : ∀ t : Fin cfg0.N, win0_0.index t = ![0, t.val / 8] ∧ win0_1.index t = ![0, t.val % 8] ∧ win0_2.index t = ![t.val % 8 % 2 * 4 + t.val % 8 / 2, t.val / 8, 0] :=
  (by decide +kernel : ∀ t : Fin grid0.N, _)

/-- The normed rows and the incoming gradient as the run starts. -/
abbrev argH (c : Dev nD) : FVec Ideal S2048x2048 .bf16 := m ((c : Thread nD τ).loc main_arg0)
abbrev argD (c : Dev nD) : FVec Ideal S2048x6144 .bf16 := m ((c : Thread nD τ).loc main_arg1)

/-- The channel and the device of a grid point. -/
abbrev chan (t : Fin cfg0.N) (r : Fin 1024) : Fin 2048 := ⟨t.val / 8 * 1024 + r.val, by have := lt_of_lt_of_eq t.isLt N_0; omega⟩
abbrev device (t : Fin cfg0.N) : Fin 8 := ⟨t.val % 8, by omega⟩

theorem readH (c : Dev nD) (t : Fin cfg0.N) (k : Fin 2048) (r : Fin 1024) : (iblk m c 0 t : Vec Ideal S2048x1024 .bf16) (ix2 k r) = argH m c (ix2 k (chan t r)) := by
  show (V m c main_arg0 : FVec Ideal S2048x2048 .bf16) _ = _
  rw [V_main_arg0]
  blk_ext [places t]

theorem readD (c : Dev nD) (t : Fin cfg0.N) (k : Fin 2048) (l : Fin 768) : (iblk m c 1 t : Vec Ideal S2048x768 .bf16) (ix2 k l) = argD m c (ix2 k (unit 768 rfl (device t) l)) := by
  show (V m c main_arg1 : FVec Ideal S2048x6144 .bf16) _ = _
  rw [V_main_arg1]
  blk_ext [places t]

/-- The gradient when the kernel ends. -/
theorem final (c : Dev nD) : (dats m 0 c).arrAt 2 (cfgs 0).N = colBlocks 768 rfl (argH m c) (argD m c) := by
  have step : ∀ (t : Fin cfg0.N) (r : Fin 1024) (l : Fin 768), out0_2 (F := Ideal) (iblk m c 0 t) (iblk m c 1 t) (ix3 0 r l)
      = colBlocks 768 rfl (argH m c) (argD m c) (ix3 (spot (device t)) (chan t r) l) := by
    intro t r l
    refine (point _ _ r l).trans ?_
    simp only [readH, readD]
    show _ = colCol _ _ (chan t r) (unit 768 rfl (dev (spot (device t))) l)
    rw [dev_spot]
    rfl
  refine (dats m 0 c).arrAt_eq_of_covers 2 _ (by decide +kernel) fun t _ y => ?_
  blk_simp
  rw [after0_2]
  have ey : (win0_2.blk t).view.emb y = ix3 (spot (device t)) (chan t (y 1)) (y 2) := by blk_ext [places t]
  rw [ey, show y = ix3 0 (y 1) (y 2) from eq_ix3_zero y]
  exact step t (y 1) (y 2)

/-- The kernel's run: its result is the product in blocks of columns of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = colBlocks 768 rfl (argH m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.MmTnColsIdeal.Value
-- ==== Proof.MmTnColsRefValue.lean ====
/- The gradient of the projections' weights: the reference's result array. -/
module

public import proofs.«01_k».proof.Proof.Gen.MmTnColsRefIdeal.Run
public import proofs.«01_k».proof.Proof.Gen.MmTnColsRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.MmTnColsRefIdeal.Value
open Cert.MmTnColsRefIdeal Cert.MmTnColsRefIdeal.Gen Cert.MmTnColsRefIdeal.Read Cert.Product

variable (H : FVec Ideal S2048x2048 .bf16) (D : FVec Ideal S2048x6144 .bf16)

/-- The blocks of the two cores change places with those of the four chips. -/
theorem swap (a : Fin 2) (b : Fin 4) (r : Fin 2048) (d : Fin 768) : val_main_v9 (F := Ideal) H D (ix4 a b r d) = val_main_v8 (F := Ideal) H D (ix4 b a r d) := by
  rw [val_main_v9_apply]
  generalize val_main_v8 (F := Ideal) H D = y
  exact congrArg y (eq_ix4 _)

/-- The result. -/
theorem ref_arr : (val_main_v11 (F := Ideal) H D : FVec Ideal S8x2048x768 .bf16) = colBlocks 768 rfl H D := by
  have point : ∀ (j : Fin 8) (r : Fin 2048) (d : Fin 768), (val_main_v11 (F := Ideal) H D : FVec Ideal S8x2048x768 .bf16) (ix3 j r d) = colBlocks 768 rfl H D (ix3 j r d) := by
    intro j r d
    pointwise [val_main_v11, val_main_v10]
    rw [swap]
    pointwise [val_main_v8, val_main_v7, val_main_v6, val_main_v5, val_main_v4, val_main_v3, val_main_v1]
    rw [colBlocks_apply, colCol_comm]
    exact Finset.sum_congr rfl fun k _ => rfl
  funext i
  rw [eq_ix3 i]
  exact point (i 0) (i 1) (i 2)

variable (m : (ℓ : Loc nD τ sig) → Buf (Elt Ideal) ℓ)

abbrev argH (c : Dev nD) : FVec Ideal S2048x2048 .bf16 := m ((c : Thread nD τ).loc main_arg0)
abbrev argD (c : Dev nD) : FVec Ideal S2048x6144 .bf16 := m ((c : Thread nD τ).loc main_arg1)

/-- The reference's run: its result is the same array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v11) = colBlocks 768 rfl (argH m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.MmTnColsRefIdeal.Value
-- ==== Proof.MmTnRowsArrays.lean ====
/- The gradient of the output projection's weights: the kernel's result array. -/
module

public import proofs.«01_k».proof.Proof.Gen.MmTnRowsIdeal.Value
public import Idealize.ShloMosaic.Lib.Pipeline.ValueKit
public import Idealize.ShloMosaic.Lib.Pointwise
public import proofs.«01_k».proof.Proof.ProductMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.MmTnRowsIdeal.Value
open Cert.MmTnRowsIdeal Cert.MmTnRowsIdeal.Gen Cert.Product Cert.Reals

variable (m : (ℓ : Loc nD τ sig) → Buf (Elt Ideal) ℓ)

/-- What one grid point writes: one block of the mixed columns times the incoming gradient. -/
theorem point (A : Vec Ideal S2048x256 .bf16) (B : Vec Ideal S2048x2048 .bf16) (l : Fin 256) (d : Fin 2048) :
    out0_2 (F := Ideal) A B (ix3 0 l d) = ∑ k : Fin 2048, A (ix2 k l) * B (ix2 k d) := by
  unfold out0_2
  canon_tiles x hx using View.cover_of_tiledBy _ ![1, 256, 2048] (by sl_kernel_rfl) _
  pointwise [k0_pay1]
  obtain rfl : x 1 = l := Fin.ext hx1.symm
  obtain rfl : x 2 = d := Fin.ext hx2.symm
  rfl

/-- Where every window's block sits at each grid point. -/
theorem places : ∀ t : Fin cfg0.N, win0_0.index t = ![0, t.val] ∧ win0_1.index t = ![0, 0] ∧ win0_2.index t = ![t.val % 2 * 4 + t.val / 2, 0, 0] :=
  (by decide +kernel : ∀ t : Fin grid0.N, _)

/-- The mixers' values and the incoming gradient as the run starts. -/
abbrev argA (c : Dev nD) : FVec Ideal S2048x2048 .bf16 := m ((c : Thread nD τ).loc main_arg0)
abbrev argD (c : Dev nD) : FVec Ideal S2048x2048 .bf16 := m ((c : Thread nD τ).loc main_arg1)

/-- The device whose rows a grid point computes. -/
abbrev device (t : Fin cfg0.N) : Fin 8 := ⟨t.val, lt_of_lt_of_eq t.isLt N_0⟩

theorem readA (c : Dev nD) (t : Fin cfg0.N) (k : Fin 2048) (l : Fin 256) : (iblk m c 0 t : Vec Ideal S2048x256 .bf16) (ix2 k l) = argA m c (ix2 k (unit 256 rfl (device t) l)) := by
  show (V m c main_arg0 : FVec Ideal S2048x2048 .bf16) _ = _
  rw [V_main_arg0]
  blk_ext [places t]

theorem readD (c : Dev nD) (t : Fin cfg0.N) (k d : Fin 2048) : (iblk m c 1 t : Vec Ideal S2048x2048 .bf16) (ix2 k d) = argD m c (ix2 k d) := by
  show (V m c main_arg1 : FVec Ideal S2048x2048 .bf16) _ = _
  rw [V_main_arg1]
  blk_ext [places t]

/-- The gradient when the kernel ends. -/
theorem final (c : Dev nD) : (dats m 0 c).arrAt 2 (cfgs 0).N = rowBlocks 256 rfl (argA m c) (argD m c) := by
  have step : ∀ (t : Fin cfg0.N) (l : Fin 256) (d : Fin 2048), out0_2 (F := Ideal) (iblk m c 0 t) (iblk m c 1 t) (ix3 0 l d)
      = rowBlocks 256 rfl (argA m c) (argD m c) (ix3 (spot (device t)) l d) := by
    intro t l d
    refine (point _ _ l d).trans ?_
    simp only [readA, readD]
    show _ = colCol _ _ (unit 256 rfl (dev (spot (device t))) l) d
    rw [dev_spot]
    rfl
  refine (dats m 0 c).arrAt_eq_of_covers 2 _ (by decide +kernel) fun t _ y => ?_
  blk_simp
  rw [after0_2]
  have ey : (win0_2.blk t).view.emb y = ix3 (spot (device t)) (y 1) (y 2) := by blk_ext [places t]
  rw [ey, show y = ix3 0 (y 1) (y 2) from eq_ix3_zero y]
  exact step t (y 1) (y 2)

/-- The kernel's run: its result is the product in blocks of rows of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = rowBlocks 256 rfl (argA m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.MmTnRowsIdeal.Value
-- ==== Proof.MmTnRowsRefValue.lean ====
/- The gradient of the output projection's weights: the reference's result array. -/
module

public import proofs.«01_k».proof.Proof.Gen.MmTnRowsRefIdeal.Run
public import proofs.«01_k».proof.Proof.Gen.MmTnRowsRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.MmTnRowsRefIdeal.Value
open Cert.MmTnRowsRefIdeal Cert.MmTnRowsRefIdeal.Gen Cert.MmTnRowsRefIdeal.Read Cert.Product

variable (A : FVec Ideal S2048x2048 .bf16) (D : FVec Ideal S2048x2048 .bf16)

/-- The result. -/
theorem ref_arr : (val_main_v10 (F := Ideal) A D : FVec Ideal S8x256x2048 .bf16) = rowBlocks 256 rfl A D := by
  have point : ∀ (j : Fin 8) (r : Fin 256) (d : Fin 2048), (val_main_v10 (F := Ideal) A D : FVec Ideal S8x256x2048 .bf16) (ix3 j r d) = rowBlocks 256 rfl A D (ix3 j r d) := by
    intro j r d
    pointwise [val_main_v10, val_main_v9, val_main_v8, val_main_v7, val_main_v6, val_main_v5, val_main_v4, val_main_v3, val_main_v1]
    have hu : unit 256 rfl (dev j) r = ⟨j.val % 4 * 512 + j.val / 4 * 256 + r.val, by omega⟩ := Fin.ext (by dsimp only; omega)
    rw [rowBlocks_apply, colCol_comm, hu]
    exact Finset.sum_congr rfl fun k _ => rfl
  funext i
  rw [eq_ix3 i]
  exact point (i 0) (i 1) (i 2)

variable (m : (ℓ : Loc nD τ sig) → Buf (Elt Ideal) ℓ)

abbrev argA (c : Dev nD) : FVec Ideal S2048x2048 .bf16 := m ((c : Thread nD τ).loc main_arg0)
abbrev argD (c : Dev nD) : FVec Ideal S2048x2048 .bf16 := m ((c : Thread nD τ).loc main_arg1)

/-- The reference's run: its result is the same array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v10) = rowBlocks 256 rfl (argA m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.MmTnRowsRefIdeal.Value
-- ==== Proof.FfnDwdArrays.lean ====
/- The gradient of the down projection: the kernel's result array. -/
module

public import proofs.«01_k».proof.Proof.Gen.FfnDwdIdeal.Value
public import Idealize.ShloMosaic.Lib.Pipeline.ValueKit
public import Idealize.ShloMosaic.Lib.Pointwise
public import proofs.«01_k».proof.Proof.ProductMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.FfnDwdIdeal.Value
open Cert.FfnDwdIdeal Cert.FfnDwdIdeal.Gen Cert.Product Cert.Reals

variable (m : (ℓ : Loc nD τ sig) → Buf (Elt Ideal) ℓ)

/-- What one grid point writes: one block of the hidden units times the incoming gradient. -/
theorem point (A : Vec Ideal S1x2048x704 .bf16) (B : Vec Ideal S2048x2048 .bf16) (l : Fin 704) (d : Fin 2048) :
    out0_2 (F := Ideal) A B (ix3 0 l d) = ∑ k : Fin 2048, A (ix3 0 k l) * B (ix2 k d) := by
  unfold out0_2
  canon_tiles x hx using View.cover_of_tiledBy _ ![1, 704, 2048] (by sl_kernel_rfl) _
  pointwise [k0_pay1]
  obtain rfl : x 1 = l := Fin.ext hx1.symm
  obtain rfl : x 2 = d := Fin.ext hx2.symm
  rfl

/-- Where every window's block sits at each grid point. -/
theorem places : ∀ t : Fin cfg0.N, win0_0.index t = ![t.val, 0, 0] ∧ win0_1.index t = ![0, 0] ∧ win0_2.index t = ![t.val % 2 * 4 + t.val / 2, 0, 0] :=
  (by decide +kernel : ∀ t : Fin grid0.N, _)

/-- The hidden units' values and the incoming gradient as the run starts. -/
abbrev argA (c : Dev nD) : FVec Ideal S2048x5632 .bf16 := m ((c : Thread nD τ).loc main_arg0)
abbrev argD (c : Dev nD) : FVec Ideal S2048x2048 .bf16 := m ((c : Thread nD τ).loc main_arg1)

/-- The device whose rows a grid point computes. -/
abbrev device (t : Fin cfg0.N) : Fin 8 := ⟨t.val, lt_of_lt_of_eq t.isLt N_0⟩

theorem prepA (c : Dev nD) (j : Fin 8) (k : Fin 2048) (l : Fin 704) : (V m c main_v1 : FVec Ideal S8x2048x704 .bf16) (ix3 j k l) = argA m c (ix2 k (unit 704 rfl j l)) := by
  unfold V
  after_results
  pointwise []

theorem readA (c : Dev nD) (t : Fin cfg0.N) (k : Fin 2048) (l : Fin 704) : (iblk m c 0 t : Vec Ideal S1x2048x704 .bf16) (ix3 0 k l) = argA m c (ix2 k (unit 704 rfl (device t) l)) := by
  rw [← prepA]
  show (V m c main_v1 : FVec Ideal S8x2048x704 .bf16) _ = (V m c main_v1 : FVec Ideal S8x2048x704 .bf16) _
  blk_ext [places t]

theorem readD (c : Dev nD) (t : Fin cfg0.N) (k d : Fin 2048) : (iblk m c 1 t : Vec Ideal S2048x2048 .bf16) (ix2 k d) = argD m c (ix2 k d) := by
  show (V m c main_arg1 : FVec Ideal S2048x2048 .bf16) _ = _
  rw [V_main_arg1]
  blk_ext [places t]

/-- The gradient when the kernel ends. -/
theorem final (c : Dev nD) : (dats m 0 c).arrAt 2 (cfgs 0).N = rowBlocks 704 rfl (argA m c) (argD m c) := by
  have step : ∀ (t : Fin cfg0.N) (l : Fin 704) (d : Fin 2048), out0_2 (F := Ideal) (iblk m c 0 t) (iblk m c 1 t) (ix3 0 l d)
      = rowBlocks 704 rfl (argA m c) (argD m c) (ix3 (spot (device t)) l d) := by
    intro t l d
    refine (point _ _ l d).trans ?_
    simp only [readA, readD]
    show _ = colCol _ _ (unit 704 rfl (dev (spot (device t))) l) d
    rw [dev_spot]
    rfl
  refine (dats m 0 c).arrAt_eq_of_covers 2 _ (by decide +kernel) fun t _ y => ?_
  blk_simp
  rw [after0_2]
  have ey : (win0_2.blk t).view.emb y = ix3 (spot (device t)) (y 1) (y 2) := by blk_ext [places t]
  rw [ey, show y = ix3 0 (y 1) (y 2) from eq_ix3_zero y]
  exact step t (y 1) (y 2)

/-- The kernel's run: its result is the product in blocks of rows of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v2) = rowBlocks 704 rfl (argA m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.FfnDwdIdeal.Value
-- ==== Proof.FfnDwdRefValue.lean ====
/- The gradient of the down projection: the reference's result array. -/
module

public import proofs.«01_k».proof.Proof.Gen.FfnDwdRefIdeal.Run
public import proofs.«01_k».proof.Proof.Gen.FfnDwdRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.FfnDwdRefIdeal.Value
open Cert.FfnDwdRefIdeal Cert.FfnDwdRefIdeal.Gen Cert.FfnDwdRefIdeal.Read Cert.Product

variable (A : FVec Ideal S2048x5632 .bf16) (D : FVec Ideal S2048x2048 .bf16)

/-- The result. -/
theorem ref_arr : (val_main_v10 (F := Ideal) A D : FVec Ideal S8x704x2048 .bf16) = rowBlocks 704 rfl A D := by
  have point : ∀ (j : Fin 8) (r : Fin 704) (d : Fin 2048), (val_main_v10 (F := Ideal) A D : FVec Ideal S8x704x2048 .bf16) (ix3 j r d) = rowBlocks 704 rfl A D (ix3 j r d) := by
    intro j r d
    pointwise [val_main_v10, val_main_v9, val_main_v8, val_main_v7, val_main_v6, val_main_v5, val_main_v4, val_main_v3, val_main_v1]
    have hu : unit 704 rfl (dev j) r = ⟨j.val % 4 * 1408 + j.val / 4 * 704 + r.val, by omega⟩ := Fin.ext (by dsimp only; omega)
    rw [rowBlocks_apply, colCol_comm, hu]
    exact Finset.sum_congr rfl fun k _ => rfl
  funext i
  rw [eq_ix3 i]
  exact point (i 0) (i 1) (i 2)

variable (m : (ℓ : Loc nD τ sig) → Buf (Elt Ideal) ℓ)

abbrev argA (c : Dev nD) : FVec Ideal S2048x5632 .bf16 := m ((c : Thread nD τ).loc main_arg0)
abbrev argD (c : Dev nD) : FVec Ideal S2048x2048 .bf16 := m ((c : Thread nD τ).loc main_arg1)

/-- The reference's run: its result is the same array of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v10) = rowBlocks 704 rfl (argA m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_arr _ _), (h c).2⟩) (run m g)

end Cert.FfnDwdRefIdeal.Value
-- ==== Proof.FfnDwguArrays.lean ====
/- The gradients of the gate's and the other branch's projections: the kernel's two result arrays. -/
module

public import proofs.«01_k».proof.Proof.Gen.FfnDwguIdeal.Value
public import Idealize.ShloMosaic.Lib.Pipeline.ValueKit
public import Idealize.ShloMosaic.Lib.Pointwise
public import proofs.«01_k».proof.Proof.ProductMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.FfnDwguIdeal.Value
open Cert.FfnDwguIdeal Cert.FfnDwguIdeal.Gen Cert.Product Cert.Reals

variable (m : (ℓ : Loc nD τ sig) → Buf (Elt Ideal) ℓ)

/-- What one grid point writes of the gradient of the gate's projection. -/
theorem point_g (A B : Vec Ideal S1x2048x704 .bf16) (H : Vec Ideal S2048x1024 .bf16) (l : Fin 704) (d : Fin 1024) :
    out0_3 (F := Ideal) A B H (ix3 0 l d) = ∑ k : Fin 2048, A (ix3 0 k l) * H (ix2 k d) := by
  unfold out0_3
  canon_tiles x hx using View.cover_of_tiledBy _ ![1, 704, 1024] (by sl_kernel_rfl) _
  pointwise [k0_pay1]
  obtain rfl : x 1 = l := Fin.ext hx1.symm
  obtain rfl : x 2 = d := Fin.ext hx2.symm
  rfl

/-- What one grid point writes of the gradient of the other branch's projection. -/
theorem point_u (A B : Vec Ideal S1x2048x704 .bf16) (H : Vec Ideal S2048x1024 .bf16) (l : Fin 704) (d : Fin 1024) :
    out0_4 (F := Ideal) A B H (ix3 0 l d) = ∑ k : Fin 2048, B (ix3 0 k l) * H (ix2 k d) := by
  unfold out0_4
  canon_tiles x hx using View.cover_of_tiledBy _ ![1, 704, 1024] (by sl_kernel_rfl) _
  pointwise [k0_pay2]
  obtain rfl : x 1 = l := Fin.ext hx1.symm
  obtain rfl : x 2 = d := Fin.ext hx2.symm
  rfl

/-- Where every window's block sits at each grid point. -/
theorem places : ∀ t : Fin cfg0.N, win0_0.index t = ![t.val / 2, 0, 0] ∧ win0_1.index t = ![t.val / 2, 0, 0] ∧ win0_2.index t = ![0, t.val % 2]
    ∧ win0_3.index t = ![t.val / 2 % 2 * 4 + t.val / 2 / 2, 0, t.val % 2] ∧ win0_4.index t = ![t.val / 2 % 2 * 4 + t.val / 2 / 2, 0, t.val % 2] :=
  (by decide +kernel : ∀ t : Fin grid0.N, _)

/-- The normed rows and the gradients of the gate and of the other branch as the run starts. -/
abbrev argH (c : Dev nD) : FVec Ideal S2048x2048 .bf16 := m ((c : Thread nD τ).loc main_arg0)
abbrev argG (c : Dev nD) : FVec Ideal S2048x5632 .bf16 := m ((c : Thread nD τ).loc main_arg1)
abbrev argU (c : Dev nD) : FVec Ideal S2048x5632 .bf16 := m ((c : Thread nD τ).loc main_arg2)

/-- The device and the channel of a grid point. -/
abbrev device (t : Fin cfg0.N) : Fin 8 := ⟨t.val / 2, by have := lt_of_lt_of_eq t.isLt N_0; omega⟩
abbrev chan (t : Fin cfg0.N) (d : Fin 1024) : Fin 2048 := ⟨t.val % 2 * 1024 + d.val, by omega⟩

theorem readH (c : Dev nD) (t : Fin cfg0.N) (k : Fin 2048) (d : Fin 1024) : (iblk m c 2 t : Vec Ideal S2048x1024 .bf16) (ix2 k d) = argH m c (ix2 k (chan t d)) := by
  show (V m c main_arg0 : FVec Ideal S2048x2048 .bf16) _ = _
  rw [V_main_arg0]
  blk_ext [places t]

theorem prepG (c : Dev nD) (j : Fin 8) (k : Fin 2048) (l : Fin 704) : (V m c main_v1 : FVec Ideal S8x2048x704 .bf16) (ix3 j k l) = argG m c (ix2 k (unit 704 rfl j l)) := by
  unfold V
  after_results
  pointwise []

theorem readG (c : Dev nD) (t : Fin cfg0.N) (k : Fin 2048) (l : Fin 704) : (iblk m c 0 t : Vec Ideal S1x2048x704 .bf16) (ix3 0 k l) = argG m c (ix2 k (unit 704 rfl (device t) l)) := by
  rw [← prepG]
  show (V m c main_v1 : FVec Ideal S8x2048x704 .bf16) _ = (V m c main_v1 : FVec Ideal S8x2048x704 .bf16) _
  blk_ext [places t]

theorem prepU (c : Dev nD) (j : Fin 8) (k : Fin 2048) (l : Fin 704) : (V m c main_v3 : FVec Ideal S8x2048x704 .bf16) (ix3 j k l) = argU m c (ix2 k (unit 704 rfl j l)) := by
  unfold V
  after_results
  pointwise []

theorem readU (c : Dev nD) (t : Fin cfg0.N) (k : Fin 2048) (l : Fin 704) : (iblk m c 1 t : Vec Ideal S1x2048x704 .bf16) (ix3 0 k l) = argU m c (ix2 k (unit 704 rfl (device t) l)) := by
  rw [← prepU]
  show (V m c main_v3 : FVec Ideal S8x2048x704 .bf16) _ = (V m c main_v3 : FVec Ideal S8x2048x704 .bf16) _
  blk_ext [places t]

/-- The gradient of the gate's projection when the kernel ends. -/
theorem final_g (c : Dev nD) : (dats m 0 c).arrAt 3 (cfgs 0).N = rowBlocks 704 rfl (argG m c) (argH m c) := by
  have step : ∀ (t : Fin cfg0.N) (l : Fin 704) (d : Fin 1024), out0_3 (F := Ideal) (iblk m c 0 t) (iblk m c 1 t) (iblk m c 2 t) (ix3 0 l d)
      = rowBlocks 704 rfl (argG m c) (argH m c) (ix3 (spot (device t)) l (chan t d)) := by
    intro t l d
    refine (point_g _ _ _ l d).trans ?_
    simp only [readG, readH]
    show _ = colCol _ _ (unit 704 rfl (dev (spot (device t))) l) (chan t d)
    rw [dev_spot]
    rfl
  refine (dats m 0 c).arrAt_eq_of_covers 3 _ (by decide +kernel) fun t _ y => ?_
  blk_simp
  rw [after0_3]
  have ey : (win0_3.blk t).view.emb y = ix3 (spot (device t)) (y 1) (chan t (y 2)) := by blk_ext [places t]
  rw [ey, show y = ix3 0 (y 1) (y 2) from eq_ix3_zero y]
  exact step t (y 1) (y 2)

/-- The gradient of the other branch's projection when the kernel ends. -/
theorem final_u (c : Dev nD) : (dats m 0 c).arrAt 4 (cfgs 0).N = rowBlocks 704 rfl (argU m c) (argH m c) := by
  have step : ∀ (t : Fin cfg0.N) (l : Fin 704) (d : Fin 1024), out0_4 (F := Ideal) (iblk m c 0 t) (iblk m c 1 t) (iblk m c 2 t) (ix3 0 l d)
      = rowBlocks 704 rfl (argU m c) (argH m c) (ix3 (spot (device t)) l (chan t d)) := by
    intro t l d
    refine (point_u _ _ _ l d).trans ?_
    simp only [readU, readH]
    show _ = colCol _ _ (unit 704 rfl (dev (spot (device t))) l) (chan t d)
    rw [dev_spot]
    rfl
  refine (dats m 0 c).arrAt_eq_of_covers 4 _ (by decide +kernel) fun t _ y => ?_
  blk_simp
  rw [after0_4]
  have ey : (win0_4.blk t).view.emb y = ix3 (spot (device t)) (y 1) (chan t (y 2)) := by blk_ext [places t]
  rw [ey, show y = ix3 0 (y 1) (y 2) from eq_ix3_zero y]
  exact step t (y 1) (y 2)

/-- The kernel's run: its results are the two products in blocks of rows of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v4_0) = rowBlocks 704 rfl (argG m c) (argH m c)
      ∧ r.2.mem ((c : Thread nD τ).loc main_v4_1) = rowBlocks 704 rfl (argU m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (final_g m c), (h c).2.1.trans (final_u m c), (h c).2.2⟩) (run_blocks m g)

end Cert.FfnDwguIdeal.Value
-- ==== Proof.FfnDwguRefValue.lean ====
/- The gradients of the gate's and the other branch's projections: the reference's two result arrays. -/
module

public import proofs.«01_k».proof.Proof.Gen.FfnDwguRefIdeal.Run
public import proofs.«01_k».proof.Proof.Gen.FfnDwguRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.FfnDwguRefIdeal.Value
open Cert.FfnDwguRefIdeal Cert.FfnDwguRefIdeal.Gen Cert.FfnDwguRefIdeal.Read Cert.Product

variable (H : FVec Ideal S2048x2048 .bf16) (G U : FVec Ideal S2048x5632 .bf16)

/-- The gradient of the gate's projection. -/
theorem ref_g : (val_main_v15 (F := Ideal) H G : FVec Ideal S8x704x2048 .bf16) = rowBlocks 704 rfl G H := by
  have point : ∀ (j : Fin 8) (r : Fin 704) (d : Fin 2048), (val_main_v15 (F := Ideal) H G : FVec Ideal S8x704x2048 .bf16) (ix3 j r d) = rowBlocks 704 rfl G H (ix3 j r d) := by
    intro j r d
    pointwise [val_main_v15, val_main_v14, val_main_v13, val_main_v12, val_main_v11, val_main_v10, val_main_v9, val_main_v8, val_main_v4, val_main_v1]
    have hu : unit 704 rfl (dev j) r = ⟨j.val % 4 * 1408 + j.val / 4 * 704 + r.val, by omega⟩ := Fin.ext (by dsimp only; omega)
    rw [rowBlocks_apply, hu]
    exact Finset.sum_congr rfl fun k _ => rfl
  funext i
  rw [eq_ix3 i]
  exact point (i 0) (i 1) (i 2)

/-- The gradient of the other branch's projection. -/
theorem ref_u : (val_main_v21 (F := Ideal) H U : FVec Ideal S8x704x2048 .bf16) = rowBlocks 704 rfl U H := by
  have point : ∀ (j : Fin 8) (r : Fin 704) (d : Fin 2048), (val_main_v21 (F := Ideal) H U : FVec Ideal S8x704x2048 .bf16) (ix3 j r d) = rowBlocks 704 rfl U H (ix3 j r d) := by
    intro j r d
    pointwise [val_main_v21, val_main_v20, val_main_v19, val_main_v18, val_main_v17, val_main_v16, val_main_v7, val_main_v6, val_main_v5, val_main_v1]
    have hu : unit 704 rfl (dev j) r = ⟨j.val % 4 * 1408 + j.val / 4 * 704 + r.val, by omega⟩ := Fin.ext (by dsimp only; omega)
    rw [rowBlocks_apply, hu]
    exact Finset.sum_congr rfl fun k _ => rfl
  funext i
  rw [eq_ix3 i]
  exact point (i 0) (i 1) (i 2)

variable (m : (ℓ : Loc nD τ sig) → Buf (Elt Ideal) ℓ)

abbrev argH (c : Dev nD) : FVec Ideal S2048x2048 .bf16 := m ((c : Thread nD τ).loc main_arg0)
abbrev argG (c : Dev nD) : FVec Ideal S2048x5632 .bf16 := m ((c : Thread nD τ).loc main_arg1)
abbrev argU (c : Dev nD) : FVec Ideal S2048x5632 .bf16 := m ((c : Thread nD τ).loc main_arg2)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v15) = rowBlocks 704 rfl (argG m c) (argH m c)
      ∧ r.2.mem ((c : Thread nD τ).loc main_v21) = rowBlocks 704 rfl (argU m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1.trans (ref_g _ _), (h c).2.1.trans (ref_u _ _), (h c).2.2⟩) (run m g)

end Cert.FfnDwguRefIdeal.Value
-- ==== Proof.FfnDhArrays.lean ====
/- The gradient of the feed-forward layer's input: the kernel's result array. -/
module

public import proofs.«01_k».proof.Proof.Gen.FfnDhIdeal.Value
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem
open Idealize.ShloMosaic.Pipeline (Dat)

namespace Cert.FfnDhIdeal.Value
open Cert.FfnDhIdeal Cert.FfnDhIdeal.Gen Cert.Product

variable (m : (ℓ : Loc nD τ sig) → Buf (Elt Ideal) ℓ)

/-- What one grid point adds to the running sum for the gate and for the other branch, and the sum's start. -/
theorem add_gate (acc : Vec Ideal S1024x2048 .f32) (A : Vec Ideal S1x1024x704 .bf16) (W : Vec Ideal S1x704x2048 .bf16) (r : Fin 1024) (d : Fin 2048) :
    k0_pay2 (F := Ideal) acc A W (ix2 r d) = acc (ix2 r d) + ∑ l : Fin 704, A (ix3 0 r l) * W (ix3 0 l d) := by
  pointwise [k0_pay2]

theorem add_up (acc : Vec Ideal S1024x2048 .f32) (A : Vec Ideal S1x1024x704 .bf16) (W : Vec Ideal S1x704x2048 .bf16) (r : Fin 1024) (d : Fin 2048) :
    k0_pay3 (F := Ideal) acc A W (ix2 r d) = acc (ix2 r d) + ∑ l : Fin 704, A (ix3 0 r l) * W (ix3 0 l d) := by
  pointwise [k0_pay3]

theorem zero_point (r : Fin 1024) (d : Fin 2048) : k0_pay1 (F := Ideal) (ix2 r d) = 0 := by
  pointwise [k0_pay1]

/-- Where every window's block sits at each grid point: two blocks of rows, and for each the eight blocks of hidden units. -/
theorem places : ∀ t : Fin cfg0.N, win0_0.index t = ![t.val % 8, t.val / 8, 0] ∧ win0_1.index t = ![t.val % 8, t.val / 8, 0] ∧ win0_2.index t = ![t.val % 8, 0, 0]
    ∧ win0_3.index t = ![t.val % 8, 0, 0] ∧ win0_4.index t = ![t.val / 8, 0] :=
  (by decide +kernel : ∀ t : Fin grid0.N, _)

/-- The gradients of the gate and of the other branch, and the two weights, as the run starts. -/
abbrev argA (c : Dev nD) : FVec Ideal S2048x5632 .bf16 := m ((c : Thread nD τ).loc main_arg0)
abbrev argB (c : Dev nD) : FVec Ideal S2048x5632 .bf16 := m ((c : Thread nD τ).loc main_arg1)
abbrev argG (c : Dev nD) : FVec Ideal S2048x5632 .f32 := m ((c : Thread nD τ).loc main_arg2)
abbrev argU (c : Dev nD) : FVec Ideal S2048x5632 .f32 := m ((c : Thread nD τ).loc main_arg3)

/-- A row of a grid point's block, and a hidden unit of a block. -/
abbrev row (t : Fin cfg0.N) (r : Fin 1024) : Fin 2048 := ⟨t.val / 8 * 1024 + r.val, by have := lt_of_lt_of_eq t.isLt N_0; omega⟩
abbrev hidden (k : Nat) (l : Fin 704) : Fin 5632 := ⟨k % 8 * 704 + l.val, by omega⟩

theorem prepA (c : Dev nD) (k : Fin 8) (r : Fin 2048) (l : Fin 704) : (V m c main_v1 : FVec Ideal S8x2048x704 .bf16) (ix3 k r l) = argA m c (ix2 r (hidden k l)) := by
  unfold V
  after_results
  pointwise []
  exact congrArg (fun z => argA m c (ix2 r z)) (Fin.ext (by dsimp only; omega))

theorem readA (c : Dev nD) (t : Fin cfg0.N) (r : Fin 1024) (l : Fin 704) : (iblk m c 0 t : Vec Ideal S1x1024x704 .bf16) (ix3 0 r l) = argA m c (ix2 (row t r) (hidden t.val l)) := by
  have h := prepA m c ⟨t.val % 8, by omega⟩ (row t r) l
  rw [show hidden (t.val % 8) l = hidden t.val l from Fin.ext (by dsimp only; omega)] at h
  rw [← h]
  show (V m c main_v1 : FVec Ideal S8x2048x704 .bf16) _ = (V m c main_v1 : FVec Ideal S8x2048x704 .bf16) _
  blk_ext [places t]

theorem prepB (c : Dev nD) (k : Fin 8) (r : Fin 2048) (l : Fin 704) : (V m c main_v3 : FVec Ideal S8x2048x704 .bf16) (ix3 k r l) = argB m c (ix2 r (hidden k l)) := by
  unfold V
  after_results
  pointwise []
  exact congrArg (fun z => argB m c (ix2 r z)) (Fin.ext (by dsimp only; omega))

theorem readB (c : Dev nD) (t : Fin cfg0.N) (r : Fin 1024) (l : Fin 704) : (iblk m c 1 t : Vec Ideal S1x1024x704 .bf16) (ix3 0 r l) = argB m c (ix2 (row t r) (hidden t.val l)) := by
  have h := prepB m c ⟨t.val % 8, by omega⟩ (row t r) l
  rw [show hidden (t.val % 8) l = hidden t.val l from Fin.ext (by dsimp only; omega)] at h
  rw [← h]
  show (V m c main_v3 : FVec Ideal S8x2048x704 .bf16) _ = (V m c main_v3 : FVec Ideal S8x2048x704 .bf16) _
  blk_ext [places t]

theorem prepG (c : Dev nD) (k : Fin 8) (l : Fin 704) (d : Fin 2048) : (V m c main_v6 : FVec Ideal S8x704x2048 .bf16) (ix3 k l d) = argG m c (ix2 d (hidden k l)) := by
  unfold V
  after_results
  pointwise []
  exact congrArg (fun z => argG m c (ix2 d z)) (Fin.ext (by dsimp only; omega))

theorem readG (c : Dev nD) (t : Fin cfg0.N) (l : Fin 704) (d : Fin 2048) : (iblk m c 2 t : Vec Ideal S1x704x2048 .bf16) (ix3 0 l d) = argG m c (ix2 d (hidden t.val l)) := by
  have h := prepG m c ⟨t.val % 8, by omega⟩ l d
  rw [show hidden (t.val % 8) l = hidden t.val l from Fin.ext (by dsimp only; omega)] at h
  rw [← h]
  show (V m c main_v6 : FVec Ideal S8x704x2048 .bf16) _ = (V m c main_v6 : FVec Ideal S8x704x2048 .bf16) _
  blk_ext [places t]

theorem prepU (c : Dev nD) (k : Fin 8) (l : Fin 704) (d : Fin 2048) : (V m c main_v9 : FVec Ideal S8x704x2048 .bf16) (ix3 k l d) = argU m c (ix2 d (hidden k l)) := by
  unfold V
  after_results
  pointwise []
  exact congrArg (fun z => argU m c (ix2 d z)) (Fin.ext (by dsimp only; omega))

theorem readU (c : Dev nD) (t : Fin cfg0.N) (l : Fin 704) (d : Fin 2048) : (iblk m c 3 t : Vec Ideal S1x704x2048 .bf16) (ix3 0 l d) = argU m c (ix2 d (hidden t.val l)) := by
  have h := prepU m c ⟨t.val % 8, by omega⟩ l d
  rw [show hidden (t.val % 8) l = hidden t.val l from Fin.ext (by dsimp only; omega)] at h
  rw [← h]
  show (V m c main_v9 : FVec Ideal S8x704x2048 .bf16) _ = (V m c main_v9 : FVec Ideal S8x704x2048 .bf16) _
  blk_ext [places t]

/-- The result is written back at the last of a block's grid points. -/
theorem flush4 : ∀ t : Fin cfg0.N, (cfg0.win 4).flush t = true ↔ t.val % 8 = 7 := by decide +kernel

/-- The part of a row's product that one block of hidden units gives. -/
def part (A : FVec Ideal S2048x5632 .bf16) (W : FVec Ideal S2048x5632 .f32) (r : Fin 1024) (d : Fin 2048) (i k : Nat) : EReal :=
  ∑ l : Fin 704, A (ix2 ⟨(i * 1024 + r.val) % 2048, by omega⟩ (hidden k l)) * W (ix2 d (hidden k l))

theorem same_row (t : Fin cfg0.N) (r : Fin 1024) : (⟨(t.val / 8 * 1024 + r.val) % 2048, by omega⟩ : Fin 2048) = row t r :=
  Fin.ext (by have := lt_of_lt_of_eq t.isLt N_0; dsimp only; omega)

theorem same_hidden (k : Nat) (l : Fin 704) : hidden (k % 8) l = hidden k l := Fin.ext (by dsimp only; omega)

theorem part_gate (c : Dev nD) (t : Fin cfg0.N) (r : Fin 1024) (d : Fin 2048) :
    ∑ l : Fin 704, HMul.hMul (α := EReal) (β := EReal) (γ := EReal) ((iblk m c 0 t : Vec Ideal S1x1024x704 .bf16) (ix3 0 r l)) ((iblk m c 2 t : Vec Ideal S1x704x2048 .bf16) (ix3 0 l d))
      = part (argA m c) (argG m c) r d (t.val / 8) (t.val % 8) := by
  simp only [readA, readG]
  unfold part
  simp only [same_row, same_hidden]

theorem part_up (c : Dev nD) (t : Fin cfg0.N) (r : Fin 1024) (d : Fin 2048) :
    ∑ l : Fin 704, HMul.hMul (α := EReal) (β := EReal) (γ := EReal) ((iblk m c 1 t : Vec Ideal S1x1024x704 .bf16) (ix3 0 r l)) ((iblk m c 3 t : Vec Ideal S1x704x2048 .bf16) (ix3 0 l d))
      = part (argB m c) (argU m c) r d (t.val / 8) (t.val % 8) := by
  simp only [readB, readU]
  unfold part
  simp only [same_row, same_hidden]

/-- The running sum after each grid point. -/
theorem running (c : Dev nD) (t : Fin cfg0.N) (r : Fin 1024) (d : Fin 2048) : ((outsAt0 m c t.val t.isLt).2 : Vec Ideal S1024x2048 .f32) (ix2 r d)
    = 0 + ∑ k ∈ Finset.range (t.val % 8 + 1), (part (argA m c) (argG m c) r d (t.val / 8) k + part (argB m c) (argU m c) r d (t.val / 8) k) := by
  refine Pipeline.eq_sum_of_reset_step_divmod (M := EReal) (fun n h => ((outsAt0 m c n h).2 : Vec Ideal S1024x2048 .f32) (ix2 r d)) 8 0
    (fun i k => part (argA m c) (argG m c) r d i k + part (argB m c) (argU m c) r d i k) (fun t h => ?_) (fun t h => ?_) t
  · rw [← part_gate, ← part_up, outsAt0_A m c t h (by omega), ← add_assoc]
    frame_out
    rw [add_up, add_gate, zero_point]
  · rw [← part_gate, ← part_up, ← add_assoc]
    by_cases h1 : t.val % 8 = 7
    · rw [outsAt0_C m c t h h1]
      frame_out
      rw [add_up, add_gate, (Memref.isWhole_whole cc0_scratch0).read_unread]
    · rw [outsAt0_B m c t h h1]
      frame_out
      rw [add_up, add_gate, (Memref.isWhole_whole cc0_scratch0).read_unread]

/-- The parts of the eight blocks are the whole product. -/
theorem total (A : FVec Ideal S2048x5632 .bf16) (W : FVec Ideal S2048x5632 .f32) (t : Fin cfg0.N) (r : Fin 1024) (d : Fin 2048) :
    ∑ k ∈ Finset.range 8, part A W r d (t.val / 8) k = rowRow A W (row t r) d := by
  rw [Finset.sum_range]
  refine Fin.sum_mul_add_congr (S := 8) (n := 704) fun k l hl => ?_
  have hu : hidden k l = ⟨k.val * 704 + l.val, hl⟩ := Fin.ext (by dsimp only; omega)
  rw [same_row, hu]

/-- What the last of a block's grid points writes: the finished running sum. -/
theorem last (c : Dev nD) (t : Fin cfg0.N) (h : t.val % 8 = 7) (r : Fin 1024) (d : Fin 2048) :
    ((outsAt0 m c t.val t.isLt).1 : Vec Ideal S1024x2048 .bf16) (ix2 r d) = productsT (argA m c) (argB m c) (argG m c) (argU m c) (ix2 (row t r) d) := by
  have hs : ((outsAt0 m c t.val t.isLt).1 : Vec Ideal S1024x2048 .bf16) = k0_pay4 (F := Ideal) (outsAt0 m c t.val t.isLt).2 := by
    rw [outsAt0_C m c t (by omega) h]
    frame_out
  rw [hs]
  pointwise [k0_pay4]
  rw [running, h, Finset.sum_add_distrib, total, total, zero_add]
  rfl

/-- The sum of the two products when the kernel ends. -/
theorem final (c : Dev nD) : (dats m 0 c).arrAt 4 (cfgs 0).N = productsT (argA m c) (argB m c) (argG m c) (argU m c) := by
  refine (dats m 0 c).arrAt_eq_of_covers 4 _ (by decide +kernel) fun t hf y => ?_
  have h : t.val % 8 = 7 := (flush4 t).mp hf
  blk_simp
  rw [after0_4]
  have ey : (win0_4.blk t).view.emb y = ix2 (row t (y 0)) (y 1) := by blk_ext [places t]
  rw [ey, eq_ix2 y]
  exact last m c t h (y 0) (y 1)

/-- The kernel's run: its result is the sum of the two products of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v10) = productsT (argA m c) (argB m c) (argG m c) (argU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final m c), (h c).2⟩) (run_blocks m g)

end Cert.FfnDhIdeal.Value
-- ==== Proof.FfnDhRefValue.lean ====
/- The gradient of the feed-forward layer's input: the reference's result array. -/
module

public import proofs.«01_k».proof.Proof.Gen.FfnDhRefIdeal.Run
public import proofs.«01_k».proof.Proof.Gen.FfnDhRefIdeal.Read
public import Idealize.ShloMosaic.Lib.Pipeline.ValueKit
public import Idealize.ShloMosaic.Lib.Pointwise
public import proofs.«01_k».proof.Proof.ProductMath

@[expose] public section

set_option maxRecDepth 16384
noncomputable section
open Idealize.ShloMosaic Idealize.ShloMosaic.TcCoe Idealize.SL.Sem

namespace Cert.FfnDhRefIdeal.Value
open Cert.FfnDhRefIdeal Cert.FfnDhRefIdeal.Gen Cert.FfnDhRefIdeal.Read Cert.Product

variable (A : FVec Ideal S2048x5632 .bf16) (B : FVec Ideal S2048x5632 .bf16) (G : FVec Ideal S2048x5632 .f32) (U : FVec Ideal S2048x5632 .f32)

/-- The result. -/
theorem ref_arr : (val_main_v8 (F := Ideal) A B G U : FVec Ideal S2048x2048 .bf16) = productsT A B G U := by
  have point : ∀ (r d : Fin 2048), (val_main_v8 (F := Ideal) A B G U : FVec Ideal S2048x2048 .bf16) (ix2 r d) = productsT A B G U (ix2 r d) := by
    intro r d
    pointwise [val_main_v8, val_main_v7, val_main_v6, val_main_v5, val_main_v4, val_main_v3]
    exact add_comm _ _
  funext i
  rw [eq_ix2 i]
  exact point (i 0) (i 1)

variable (m : (ℓ : Loc nD τ sig) → Buf (Elt Ideal) ℓ)

abbrev argA (c : Dev nD) : FVec Ideal S2048x5632 .bf16 := m ((c : Thread nD τ).loc main_arg0)
abbrev argB (c : Dev nD) : FVec Ideal S2048x5632 .bf16 := m ((c : Thread nD τ).loc main_arg1)
abbrev argG (c : Dev nD) : FVec Ideal S2048x5632 .f32 := m ((c : Thread nD τ).loc main_arg2)
abbrev argU (c : Dev nD) : FVec Ideal S2048x5632 .f32 := m ((c : Thread nD τ).loc main_arg3)

/-- The reference's run: its result is the same product of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v8) = productsT (argA m c) (argB m c) (argG m c) (argU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (ref_arr _ _ _ _), (h c).2⟩) (run m g)

end Cert.FfnDhRefIdeal.Value
-- ==== Proof.AdamMath.lean ====
/- The optimiser's step, entry by entry, and the sums of parts before it, over the extended reals. -/
module

public import Idealize.ShloMosaic.Lib.ValueIdx
public import Idealize.ShloMosaic.Lib.Pipeline.ValueKit

@[expose] public section

noncomputable section
open Idealize.ShloMosaic Idealize.ShloMosaic.TcCoe Idealize.SL.Sem

namespace Cert.Adam

/-- The value of a literal. -/
abbrev lit (b : BitVec 32) : EReal := Ideal.ofBits FTy.f32 b

/-- The moving mean of the gradients: 0.9 of the old one and 0.1 of the gradient. -/
def mean (m g : EReal) : EReal := lit 0x3F666666#32 * m + lit 0x3DCCCCCD#32 * g

/-- The moving mean of the squared gradients: 0.999 of the old one and 0.001 of the square. -/
def meanSq (v g : EReal) : EReal := lit 0x3F7FBE77#32 * v + lit 0x3A83126F#32 * (g * g)

/-- The weight's change: the corrected mean over the root of the corrected mean square, with the weight's decay. -/
def change (w g m v : EReal) : EReal :=
  lit 0xBA83126F#32 * (Ideal.div (Ideal.div (mean m g) (lit 0x3F26BD02#32)) (Ideal.sqrt (Ideal.div (meanSq v g) (lit 0x3C231ACC#32)) + lit 0x322BCC77#32)
    + lit 0x3C23D70A#32 * w)

def meanArr {s : Shape} (M G : FVec Ideal s .f32) : FVec Ideal s .f32 := fun i => mean (M i) (G i)
def meanSqArr {s : Shape} (V G : FVec Ideal s .f32) : FVec Ideal s .f32 := fun i => meanSq (V i) (G i)
def changeArr {s : Shape} (W G M V : FVec Ideal s .f32) : FVec Ideal s .f32 := fun i => change (W i) (G i) (M i) (V i)

abbrev Cube (a b c : Nat) : Shape := ⟨3, ![a, b, c]⟩

/-- The sum of eight slots. -/
def slotSum {p q : Nat} (B : FVec Ideal (Cube 8 p q) .f32) : FVec Ideal ⟨2, ![p, q]⟩ .f32 := fun i => ∑ j : Fin 8, B (ix3 j (i 0) (i 1))

/-- The first four of eight blocks, each with the block that arrived for it. -/
def pairSum {p q : Nat} (A : FVec Ideal (Cube 8 p q) .bf16) (B : FVec Ideal (Cube 4 p q) .bf16) : FVec Ideal (Cube 4 p q) .bf16 := fun i =>
  HAdd.hAdd (α := EReal) (β := EReal) (γ := EReal) (A (ix3 ⟨(i 0).val, lt_trans (show (i 0).val < 4 from (i 0).isLt) (by decide)⟩ (i 1) (i 2))) (B (ix3 (i 0) (i 1) (i 2)))

/-- A layer's gradient at one place: the device's own part and the three that arrived. -/
def partSum {p q : Nat} (A B : FVec Ideal (Cube 4 p q) .bf16) (r : Fin p) (d : Fin q) : EReal :=
  HAdd.hAdd (α := EReal) (β := EReal) (γ := EReal) (A (ix3 0 r d)) (B (ix3 1 r d)) + B (ix3 2 r d) + B (ix3 3 r d)

/-- The gradients of two layers. -/
def gradArr {p q : Nat} (A B C D : FVec Ideal (Cube 4 p q) .bf16) : FVec Ideal (Cube 2 p q) .f32 := fun i =>
  if (i 0).val < 1 then partSum A B (i 1) (i 2) else partSum C D (i 1) (i 2)

end Cert.Adam
-- ==== Proof.AdamSmallArrays.lean ====
/- The optimiser's step of the small gradients: the kernel's three result arrays. -/
module

public import proofs.«01_k».proof.Proof.Gen.AdamSmallIdeal.Value
public import Idealize.ShloMosaic.Lib.Pipeline.ValueKit
public import Idealize.ShloMosaic.Lib.Pointwise
public import proofs.«01_k».proof.Proof.AdamMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.AdamSmallIdeal.Value
open Cert.AdamSmallIdeal Cert.AdamSmallIdeal.Gen Cert.Adam Cert.Reals

variable (m : (ℓ : Loc nD τ sig) → Buf (Elt Ideal) ℓ)

/-- The weights, the gradient and the two moments as the run starts. -/
abbrev argW (c : Dev nD) : FVec Ideal S2288x128 .f32 := m ((c : Thread nD τ).loc main_arg0)
abbrev argG (c : Dev nD) : FVec Ideal S2288x128 .f32 := m ((c : Thread nD τ).loc main_arg1)
abbrev argM (c : Dev nD) : FVec Ideal S2288x128 .f32 := m ((c : Thread nD τ).loc main_arg2)
abbrev argV (c : Dev nD) : FVec Ideal S2288x128 .f32 := m ((c : Thread nD τ).loc main_arg3)

/-- The kernel's run: its results are the weights' changes and the two new moments, entry by entry, of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0_0) = changeArr (argW m c) (argG m c) (argM m c) (argV m c)
      ∧ r.2.mem ((c : Thread nD τ).loc main_v0_1) = meanArr (argM m c) (argG m c)
      ∧ r.2.mem ((c : Thread nD τ).loc main_v0_2) = meanSqArr (argV m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1, (h c).2.1, (h c).2.2.1, (h c).2.2.2⟩) (run m g)

end Cert.AdamSmallIdeal.Value
-- ==== Proof.AdamSmallRefValue.lean ====
/- The optimiser's step of the small gradients: the reference's three result arrays. -/
module

public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Pointwise
public import proofs.«01_k».proof.Proof.AdamMath

@[expose] public section

set_option maxRecDepth 16384
noncomputable section
open Idealize.ShloMosaic Idealize.ShloMosaic.TcCoe Idealize.SL.Sem

namespace Cert.AdamSmallRefIdeal.Value
open Cert.AdamSmallRefIdeal Cert.AdamSmallRefIdeal.Gen Cert.AdamSmallRefIdeal.Read Cert.Adam

variable (m : (ℓ : Loc nD τ sig) → Buf (Elt Ideal) ℓ)

/-- The weights, the gradient and the two moments as the run starts. -/
abbrev argW (c : Dev nD) : FVec Ideal S2288x128 .f32 := m ((c : Thread nD τ).loc main_arg0)
abbrev argG (c : Dev nD) : FVec Ideal S2288x128 .f32 := m ((c : Thread nD τ).loc main_arg1)
abbrev argM (c : Dev nD) : FVec Ideal S2288x128 .f32 := m ((c : Thread nD τ).loc main_arg2)
abbrev argV (c : Dev nD) : FVec Ideal S2288x128 .f32 := m ((c : Thread nD τ).loc main_arg3)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v23) = changeArr (argW m c) (argG m c) (argM m c) (argV m c)
      ∧ r.2.mem ((c : Thread nD τ).loc main_v4) = meanArr (argM m c) (argG m c)
      ∧ r.2.mem ((c : Thread nD τ).loc main_v10) = meanSqArr (argV m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1, (h c).2.1, (h c).2.2.1, (h c).2.2.2⟩) (run m g)

end Cert.AdamSmallRefIdeal.Value
-- ==== Proof.AdamBigArrays.lean ====
/- The optimiser's step of two layers' gradients, summed of their parts: the kernel's four result arrays. -/
module

public import proofs.«01_k».proof.Proof.Gen.AdamBigIdeal.Value
public import Idealize.ShloMosaic.Lib.Pipeline.ValueKit
public import Idealize.ShloMosaic.Lib.Pointwise
public import proofs.«01_k».proof.Proof.AdamMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.AdamBigIdeal.Value
open Cert.AdamBigIdeal Cert.AdamBigIdeal.Gen Cert.Adam Cert.Reals

variable (m : (ℓ : Loc nD τ sig) → Buf (Elt Ideal) ℓ)

/-- The weights and the two moments of two layers, and for either layer the device's own parts of the gradient and those that arrived, as the run starts. -/
abbrev argW (c : Dev nD) : FVec Ideal S2x2048x768 .f32 := m ((c : Thread nD τ).loc main_arg0)
abbrev argM (c : Dev nD) : FVec Ideal S2x2048x768 .f32 := m ((c : Thread nD τ).loc main_arg1)
abbrev argV (c : Dev nD) : FVec Ideal S2x2048x768 .f32 := m ((c : Thread nD τ).loc main_arg2)
abbrev argA (c : Dev nD) : FVec Ideal S4x2048x768 .bf16 := m ((c : Thread nD τ).loc main_arg3)
abbrev argB (c : Dev nD) : FVec Ideal S4x2048x768 .bf16 := m ((c : Thread nD τ).loc main_arg4)
abbrev argC (c : Dev nD) : FVec Ideal S4x2048x768 .bf16 := m ((c : Thread nD τ).loc main_arg5)
abbrev argD (c : Dev nD) : FVec Ideal S4x2048x768 .bf16 := m ((c : Thread nD τ).loc main_arg6)

/-- The gradients of both layers. -/
abbrev grads (c : Dev nD) : FVec Ideal S2x2048x768 .f32 := gradArr (argA m c) (argB m c) (argC m c) (argD m c)

/-- Four blocks' entries added one by one. -/
def blockSum (a b c e : Vec Ideal S1x512x768 .bf16) (r : Fin 512) (d : Fin 768) : EReal :=
  HAdd.hAdd (α := EReal) (β := EReal) (γ := EReal) (a (ix3 0 r d)) (b (ix3 0 r d)) + c (ix3 0 r d) + e (ix3 0 r d)

/-- The gradient that a grid point sums: of the first layer at the first four points, of the second after. -/
def total (c : Dev nD) (t : Fin cfg0.N) (r : Fin 512) (d : Fin 768) : EReal :=
  if t.val < 4 then blockSum (iblk m c 3 t) (iblk m c 4 t) (iblk m c 5 t) (iblk m c 6 t) r d else blockSum (iblk m c 7 t) (iblk m c 8 t) (iblk m c 9 t) (iblk m c 10 t) r d

set_option maxHeartbeats 4000000 in
/-- What one grid point writes of the four results. -/
theorem outs (c : Dev nD) (t : Fin cfg0.N) (r : Fin 512) (d : Fin 768) :
    ((outsAt0 m c t.val t.isLt).1 : Vec Ideal S1x512x768 .f32) (ix3 0 r d) = total m c t r d
    ∧ ((outsAt0 m c t.val t.isLt).2.1 : Vec Ideal S1x512x768 .f32) (ix3 0 r d) = change ((iblk m c 0 t : Vec Ideal S1x512x768 .f32) (ix3 0 r d)) (total m c t r d) ((iblk m c 1 t : Vec Ideal S1x512x768 .f32) (ix3 0 r d)) ((iblk m c 2 t : Vec Ideal S1x512x768 .f32) (ix3 0 r d))
    ∧ ((outsAt0 m c t.val t.isLt).2.2.1 : Vec Ideal S1x512x768 .f32) (ix3 0 r d) = mean ((iblk m c 1 t : Vec Ideal S1x512x768 .f32) (ix3 0 r d)) (total m c t r d)
    ∧ ((outsAt0 m c t.val t.isLt).2.2.2 : Vec Ideal S1x512x768 .f32) (ix3 0 r d) = meanSq ((iblk m c 2 t : Vec Ideal S1x512x768 .f32) (ix3 0 r d)) (total m c t r d) := by
  by_cases h : t.val < 4
  · have ht : total m c t r d = blockSum (iblk m c 3 t) (iblk m c 4 t) (iblk m c 5 t) (iblk m c 6 t) r d := if_pos h
    rw [ht]
    rw [outsAt0_A m c t h (by omega)]
    refine ⟨?_, ?_, ?_, ?_⟩
    all_goals
      frame_out
      pointwise [k0_pay1, k0_pay2, k0_pay3, k0_pay4, k0_pay9, k0_pay10, k0_pay11, k0_pay12, k0_pay13]
      rfl
  · have ht : total m c t r d = blockSum (iblk m c 7 t) (iblk m c 8 t) (iblk m c 9 t) (iblk m c 10 t) r d := if_neg h
    rw [ht]
    rw [outsAt0_B m c t h (by omega)]
    refine ⟨?_, ?_, ?_, ?_⟩
    all_goals
      frame_out
      pointwise [k0_pay5, k0_pay6, k0_pay7, k0_pay8, k0_pay14, k0_pay15, k0_pay16, k0_pay17, k0_pay18]
      rfl

/-- Where every window's block sits at each grid point; the parts of a layer move only at that layer's points. -/
theorem places : ∀ t : Fin cfg0.N, win0_0.index t = ![t.val / 4, t.val % 4, 0] ∧ win0_1.index t = ![t.val / 4, t.val % 4, 0] ∧ win0_2.index t = ![t.val / 4, t.val % 4, 0] ∧ win0_11.index t = ![t.val / 4, t.val % 4, 0] ∧ win0_12.index t = ![t.val / 4, t.val % 4, 0] ∧ win0_13.index t = ![t.val / 4, t.val % 4, 0] ∧ win0_14.index t = ![t.val / 4, t.val % 4, 0] :=
  (by decide +kernel : ∀ t : Fin grid0.N, _)
theorem first : ∀ t : Fin cfg0.N, t.val < 4 → win0_3.index t = ![0, t.val % 4, 0] ∧ win0_4.index t = ![1, t.val % 4, 0] ∧ win0_5.index t = ![2, t.val % 4, 0] ∧ win0_6.index t = ![3, t.val % 4, 0] :=
  (by decide +kernel : ∀ t : Fin grid0.N, _)
theorem second : ∀ t : Fin cfg0.N, ¬t.val < 4 → win0_7.index t = ![0, t.val % 4, 0] ∧ win0_8.index t = ![1, t.val % 4, 0] ∧ win0_9.index t = ![2, t.val % 4, 0] ∧ win0_10.index t = ![3, t.val % 4, 0] :=
  (by decide +kernel : ∀ t : Fin grid0.N, _)

/-- The layer and the row of a grid point. -/
abbrev layer (t : Fin cfg0.N) : Fin 2 := ⟨t.val / 4, by have := lt_of_lt_of_eq t.isLt N_0; omega⟩
abbrev row (t : Fin cfg0.N) (r : Fin 512) : Fin 2048 := ⟨t.val % 4 * 512 + r.val, by omega⟩

theorem readW (c : Dev nD) (t : Fin cfg0.N) (r : Fin 512) (d : Fin 768) : (iblk m c 0 t : Vec Ideal S1x512x768 .f32) (ix3 0 r d) = argW m c (ix3 (layer t) (row t r) d) := by
  show (V m c main_arg0 : FVec Ideal S2x2048x768 .f32) _ = _
  rw [V_main_arg0]
  blk_ext [places t]

theorem readM (c : Dev nD) (t : Fin cfg0.N) (r : Fin 512) (d : Fin 768) : (iblk m c 1 t : Vec Ideal S1x512x768 .f32) (ix3 0 r d) = argM m c (ix3 (layer t) (row t r) d) := by
  show (V m c main_arg1 : FVec Ideal S2x2048x768 .f32) _ = _
  rw [V_main_arg1]
  blk_ext [places t]

theorem readV (c : Dev nD) (t : Fin cfg0.N) (r : Fin 512) (d : Fin 768) : (iblk m c 2 t : Vec Ideal S1x512x768 .f32) (ix3 0 r d) = argV m c (ix3 (layer t) (row t r) d) := by
  show (V m c main_arg2 : FVec Ideal S2x2048x768 .f32) _ = _
  rw [V_main_arg2]
  blk_ext [places t]

theorem sum_first (c : Dev nD) (t : Fin cfg0.N) (h : t.val < 4) (r : Fin 512) (d : Fin 768) :
    blockSum (iblk m c 3 t) (iblk m c 4 t) (iblk m c 5 t) (iblk m c 6 t) r d = partSum (argA m c) (argB m c) (row t r) d := by
  have e0 : (iblk m c 3 t : Vec Ideal S1x512x768 .bf16) (ix3 0 r d) = argA m c (ix3 0 (row t r) d) := by
    show (V m c main_arg3 : FVec Ideal S4x2048x768 .bf16) _ = _
    rw [V_main_arg3]
    blk_ext [first t h]
  have e1 : (iblk m c 4 t : Vec Ideal S1x512x768 .bf16) (ix3 0 r d) = argB m c (ix3 1 (row t r) d) := by
    show (V m c main_arg4 : FVec Ideal S4x2048x768 .bf16) _ = _
    rw [V_main_arg4]
    blk_ext [first t h]
  have e2 : (iblk m c 5 t : Vec Ideal S1x512x768 .bf16) (ix3 0 r d) = argB m c (ix3 2 (row t r) d) := by
    show (V m c main_arg4 : FVec Ideal S4x2048x768 .bf16) _ = _
    rw [V_main_arg4]
    blk_ext [first t h]
  have e3 : (iblk m c 6 t : Vec Ideal S1x512x768 .bf16) (ix3 0 r d) = argB m c (ix3 3 (row t r) d) := by
    show (V m c main_arg4 : FVec Ideal S4x2048x768 .bf16) _ = _
    rw [V_main_arg4]
    blk_ext [first t h]
  unfold blockSum
  rw [e0, e1, e2, e3]
  rfl

theorem sum_second (c : Dev nD) (t : Fin cfg0.N) (h : ¬t.val < 4) (r : Fin 512) (d : Fin 768) :
    blockSum (iblk m c 7 t) (iblk m c 8 t) (iblk m c 9 t) (iblk m c 10 t) r d = partSum (argC m c) (argD m c) (row t r) d := by
  have e0 : (iblk m c 7 t : Vec Ideal S1x512x768 .bf16) (ix3 0 r d) = argC m c (ix3 0 (row t r) d) := by
    show (V m c main_arg5 : FVec Ideal S4x2048x768 .bf16) _ = _
    rw [V_main_arg5]
    blk_ext [second t h]
  have e1 : (iblk m c 8 t : Vec Ideal S1x512x768 .bf16) (ix3 0 r d) = argD m c (ix3 1 (row t r) d) := by
    show (V m c main_arg6 : FVec Ideal S4x2048x768 .bf16) _ = _
    rw [V_main_arg6]
    blk_ext [second t h]
  have e2 : (iblk m c 9 t : Vec Ideal S1x512x768 .bf16) (ix3 0 r d) = argD m c (ix3 2 (row t r) d) := by
    show (V m c main_arg6 : FVec Ideal S4x2048x768 .bf16) _ = _
    rw [V_main_arg6]
    blk_ext [second t h]
  have e3 : (iblk m c 10 t : Vec Ideal S1x512x768 .bf16) (ix3 0 r d) = argD m c (ix3 3 (row t r) d) := by
    show (V m c main_arg6 : FVec Ideal S4x2048x768 .bf16) _ = _
    rw [V_main_arg6]
    blk_ext [second t h]
  unfold blockSum
  rw [e0, e1, e2, e3]
  rfl

theorem total_eq (c : Dev nD) (t : Fin cfg0.N) (r : Fin 512) (d : Fin 768) : total m c t r d = grads m c (ix3 (layer t) (row t r) d) := by
  have hN := lt_of_lt_of_eq t.isLt N_0
  by_cases h : t.val < 4
  · exact (if_pos h).trans ((sum_first m c t h r d).trans (if_pos (show t.val / 4 < 1 by omega)).symm)
  · exact (if_neg h).trans ((sum_second m c t h r d).trans (if_neg (show ¬t.val / 4 < 1 by omega)).symm)

/-- The gradients when the kernel ends. -/
theorem final_grad (c : Dev nD) : (dats m 0 c).arrAt 11 (cfgs 0).N = grads m c := by
  have step : ∀ (t : Fin cfg0.N) (r : Fin 512) (d : Fin 768), ((outsAt0 m c t.val t.isLt).1 : Vec Ideal S1x512x768 .f32) (ix3 0 r d) = (grads m c) (ix3 (layer t) (row t r) d) := by
    intro t r d
    refine (outs m c t r d).1.trans ?_
    exact total_eq m c t r d
  refine (dats m 0 c).arrAt_eq_of_covers 11 _ (by decide +kernel) fun t _ y => ?_
  blk_simp
  rw [after0_11]
  have ey : (win0_11.blk t).view.emb y = ix3 (layer t) (row t (y 1)) (y 2) := by blk_ext [places t]
  rw [ey, show y = ix3 0 (y 1) (y 2) from eq_ix3_zero y]
  exact step t (y 1) (y 2)

/-- The weights' changes when the kernel ends. -/
theorem final_change (c : Dev nD) : (dats m 0 c).arrAt 12 (cfgs 0).N = changeArr (argW m c) (grads m c) (argM m c) (argV m c) := by
  have step : ∀ (t : Fin cfg0.N) (r : Fin 512) (d : Fin 768), ((outsAt0 m c t.val t.isLt).2.1 : Vec Ideal S1x512x768 .f32) (ix3 0 r d) = (changeArr (argW m c) (grads m c) (argM m c) (argV m c)) (ix3 (layer t) (row t r) d) := by
    intro t r d
    refine (outs m c t r d).2.1.trans ?_
    rw [total_eq, readW, readM, readV]
    rfl
  refine (dats m 0 c).arrAt_eq_of_covers 12 _ (by decide +kernel) fun t _ y => ?_
  blk_simp
  rw [after0_12]
  have ey : (win0_12.blk t).view.emb y = ix3 (layer t) (row t (y 1)) (y 2) := by blk_ext [places t]
  rw [ey, show y = ix3 0 (y 1) (y 2) from eq_ix3_zero y]
  exact step t (y 1) (y 2)

/-- The new moving means when the kernel ends. -/
theorem final_mean (c : Dev nD) : (dats m 0 c).arrAt 13 (cfgs 0).N = meanArr (argM m c) (grads m c) := by
  have step : ∀ (t : Fin cfg0.N) (r : Fin 512) (d : Fin 768), ((outsAt0 m c t.val t.isLt).2.2.1 : Vec Ideal S1x512x768 .f32) (ix3 0 r d) = (meanArr (argM m c) (grads m c)) (ix3 (layer t) (row t r) d) := by
    intro t r d
    refine (outs m c t r d).2.2.1.trans ?_
    rw [total_eq, readM]
    rfl
  refine (dats m 0 c).arrAt_eq_of_covers 13 _ (by decide +kernel) fun t _ y => ?_
  blk_simp
  rw [after0_13]
  have ey : (win0_13.blk t).view.emb y = ix3 (layer t) (row t (y 1)) (y 2) := by blk_ext [places t]
  rw [ey, show y = ix3 0 (y 1) (y 2) from eq_ix3_zero y]
  exact step t (y 1) (y 2)

/-- The new moving mean squares when the kernel ends. -/
theorem final_meanSq (c : Dev nD) : (dats m 0 c).arrAt 14 (cfgs 0).N = meanSqArr (argV m c) (grads m c) := by
  have step : ∀ (t : Fin cfg0.N) (r : Fin 512) (d : Fin 768), ((outsAt0 m c t.val t.isLt).2.2.2 : Vec Ideal S1x512x768 .f32) (ix3 0 r d) = (meanSqArr (argV m c) (grads m c)) (ix3 (layer t) (row t r) d) := by
    intro t r d
    refine (outs m c t r d).2.2.2.trans ?_
    rw [total_eq, readV]
    rfl
  refine (dats m 0 c).arrAt_eq_of_covers 14 _ (by decide +kernel) fun t _ y => ?_
  blk_simp
  rw [after0_14]
  have ey : (win0_14.blk t).view.emb y = ix3 (layer t) (row t (y 1)) (y 2) := by blk_ext [places t]
  rw [ey, show y = ix3 0 (y 1) (y 2) from eq_ix3_zero y]
  exact step t (y 1) (y 2)

/-- The kernel's run: its results are the gradients, the weights' changes and the two new moments of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v1_0) = grads m c
      ∧ r.2.mem ((c : Thread nD τ).loc main_v1_1) = changeArr (argW m c) (grads m c) (argM m c) (argV m c)
      ∧ r.2.mem ((c : Thread nD τ).loc main_v1_2) = meanArr (argM m c) (grads m c)
      ∧ r.2.mem ((c : Thread nD τ).loc main_v1_3) = meanSqArr (argV m c) (grads m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c => ⟨(h c).1.trans (final_grad m c), (h c).2.1.trans (final_change m c), (h c).2.2.1.trans (final_mean m c), (h c).2.2.2.1.trans (final_meanSq m c), (h c).2.2.2.2⟩) (run_blocks m g)

end Cert.AdamBigIdeal.Value
-- ==== Proof.AdamBigRefValue.lean ====
/- The optimiser's step of two layers' gradients: the reference's four result arrays. -/
module

public import proofs.«01_k».proof.Proof.Gen.AdamBigRefIdeal.Run
public import proofs.«01_k».proof.Proof.Gen.AdamBigRefIdeal.Read
public import Idealize.ShloMosaic.Lib.Pipeline.ValueKit
public import Idealize.ShloMosaic.Lib.Pointwise
public import proofs.«01_k».proof.Proof.AdamMath

@[expose] public section

set_option maxRecDepth 16384
noncomputable section
open Idealize.ShloMosaic Idealize.ShloMosaic.TcCoe Idealize.SL.Sem

namespace Cert.AdamBigRefIdeal.Value
open Cert.AdamBigRefIdeal Cert.AdamBigRefIdeal.Gen Cert.AdamBigRefIdeal.Read Cert.Adam

variable (W M V : FVec Ideal S2x2048x768 .f32) (A B C D : FVec Ideal S4x2048x768 .bf16)

/-- One layer's parts added. -/
theorem sum_A (r : Fin 2048) (d : Fin 768) : (val_main_v6 (F := Ideal) A B : FVec Ideal S2048x768 .f32) (ix2 r d) = partSum A B r d := by
  pointwise [val_main_v6, val_main_v5, val_main_v4, val_main_v3, val_main_v2, val_main_v1, val_main_v0, val_main_cst]
  rw [Fin.sum_univ_three]
  simp only [partSum, zero_add, add_assoc]
  rfl

theorem sum_C (r : Fin 2048) (d : Fin 768) : (val_main_v13 (F := Ideal) C D : FVec Ideal S2048x768 .f32) (ix2 r d) = partSum C D r d := sum_A C D r d

/-- The gradients of both layers. -/
theorem ref_grad : (val_main_v16 (F := Ideal) A B C D : FVec Ideal S2x2048x768 .f32) = gradArr A B C D := by
  have point : ∀ (j : Fin 2) (r : Fin 2048) (d : Fin 768), (val_main_v16 (F := Ideal) A B C D : FVec Ideal S2x2048x768 .f32) (ix3 j r d) = gradArr A B C D (ix3 j r d) := by
    intro j r d
    pointwise [val_main_v16, val_main_v15, val_main_v14]
    simp only [sum_A, sum_C]
    rfl
  funext i
  rw [eq_ix3 i]
  exact point (i 0) (i 1) (i 2)

theorem ref_mean : (val_main_v21 (F := Ideal) M A B C D : FVec Ideal S2x2048x768 .f32) = meanArr M (gradArr A B C D) := by
  rw [← ref_grad]
  rfl

theorem ref_meanSq : (val_main_v27 (F := Ideal) V A B C D : FVec Ideal S2x2048x768 .f32) = meanSqArr V (gradArr A B C D) := by
  rw [← ref_grad]
  rfl

theorem ref_change : (val_main_v40 (F := Ideal) W M V A B C D : FVec Ideal S2x2048x768 .f32) = changeArr W (gradArr A B C D) M V := by
  rw [← ref_grad]
  rfl

variable (m : (ℓ : Loc nD τ sig) → Buf (Elt Ideal) ℓ)

/-- The weights and the two moments of two layers, and for either layer the device's own parts of the gradient and those that arrived, as the run starts. -/
abbrev argW (c : Dev nD) : FVec Ideal S2x2048x768 .f32 := m ((c : Thread nD τ).loc main_arg0)
abbrev argM (c : Dev nD) : FVec Ideal S2x2048x768 .f32 := m ((c : Thread nD τ).loc main_arg1)
abbrev argV (c : Dev nD) : FVec Ideal S2x2048x768 .f32 := m ((c : Thread nD τ).loc main_arg2)
abbrev argA (c : Dev nD) : FVec Ideal S4x2048x768 .bf16 := m ((c : Thread nD τ).loc main_arg3)
abbrev argB (c : Dev nD) : FVec Ideal S4x2048x768 .bf16 := m ((c : Thread nD τ).loc main_arg4)
abbrev argC (c : Dev nD) : FVec Ideal S4x2048x768 .bf16 := m ((c : Thread nD τ).loc main_arg5)
abbrev argD (c : Dev nD) : FVec Ideal S4x2048x768 .bf16 := m ((c : Thread nD τ).loc main_arg6)

/-- The reference's run: its results are the same arrays of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v16) = gradArr (argA m c) (argB m c) (argC m c) (argD m c)
      ∧ r.2.mem ((c : Thread nD τ).loc main_v40) = changeArr (argW m c) (gradArr (argA m c) (argB m c) (argC m c) (argD m c)) (argM m c) (argV m c)
      ∧ r.2.mem ((c : Thread nD τ).loc main_v21) = meanArr (argM m c) (gradArr (argA m c) (argB m c) (argC m c) (argD m c))
      ∧ r.2.mem ((c : Thread nD τ).loc main_v27) = meanSqArr (argV m c) (gradArr (argA m c) (argB m c) (argC m c) (argD m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c => ⟨(h c).1.trans (ref_grad _ _ _ _), (h c).2.1.trans (ref_change _ _ _ _ _ _ _), (h c).2.2.1.trans (ref_mean _ _ _ _ _), (h c).2.2.2.1.trans (ref_meanSq _ _ _ _ _), (h c).2.2.2.2⟩) (run m g)

end Cert.AdamBigRefIdeal.Value
-- ==== Proof.SumSlotsArrays.lean ====
/- The sum of eight slots: the kernel's result array. -/
module

public import proofs.«01_k».proof.Proof.Gen.SumSlotsIdeal.Value
public import Idealize.ShloMosaic.Lib.Pipeline.ValueKit
public import Idealize.ShloMosaic.Lib.Pointwise
public import proofs.«01_k».proof.Proof.AdamMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.SumSlotsIdeal.Value
open Cert.SumSlotsIdeal Cert.SumSlotsIdeal.Gen Cert.Adam Cert.Reals

variable (m : (ℓ : Loc nD τ sig) → Buf (Elt Ideal) ℓ)

/-- What the body writes: its eight loads added one by one. -/
theorem body_sum (B : FVec Ideal S8x2392x128 .f32) : (G1 (F := Ideal) B : FVec Ideal S2392x128 .f32) = slotSum B := by
  have point : ∀ (r : Fin 2392) (d : Fin 128), (G1 (F := Ideal) B : FVec Ideal S2392x128 .f32) (ix2 r d) = slotSum B (ix2 r d) := by
    intro r d
    refine Eq.trans ?_ (Fin.sum_univ_eight fun j => B (ix3 j r d)).symm
    pointwise [k0_pay1]
  funext i
  rw [eq_ix2 i]
  exact point (i 0) (i 1)

/-- The eight slots as the run starts. -/
abbrev argB (c : Dev nD) : FVec Ideal S8x2392x128 .f32 := m ((c : Thread nD τ).loc main_arg0)

/-- The kernel's run: its result is the sum of its argument's slots, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = slotSum (argB m c)
      ∧ r.2.mem ((c : Thread nD τ).loc main_arg0) = m ((c : Thread nD τ).loc main_arg0) :=
  (θ_run _ _ _).mono (fun _ h c => ⟨(h c).1.trans (body_sum _), (h c).2⟩) (run m g)

end Cert.SumSlotsIdeal.Value
-- ==== Proof.SumSlotsRefValue.lean ====
/- The sum of eight slots: the reference's result array. -/
module

public import proofs.«01_k».proof.Proof.Gen.SumSlotsRefIdeal.Run
public import proofs.«01_k».proof.Proof.Gen.SumSlotsRefIdeal.Read
public import Idealize.ShloMosaic.Lib.Pipeline.ValueKit
public import Idealize.ShloMosaic.Lib.Pointwise
public import proofs.«01_k».proof.Proof.AdamMath

@[expose] public section

set_option maxRecDepth 16384
noncomputable section
open Idealize.ShloMosaic Idealize.ShloMosaic.TcCoe Idealize.SL.Sem

namespace Cert.SumSlotsRefIdeal.Value
open Cert.SumSlotsRefIdeal Cert.SumSlotsRefIdeal.Gen Cert.SumSlotsRefIdeal.Read Cert.Adam

theorem ref_sum (B : FVec Ideal S8x2392x128 .f32) : (val_main_v0 (F := Ideal) B : FVec Ideal S2392x128 .f32) = slotSum B := by
  have point : ∀ (r : Fin 2392) (d : Fin 128), (val_main_v0 (F := Ideal) B : FVec Ideal S2392x128 .f32) (ix2 r d) = slotSum B (ix2 r d) := by
    intro r d
    pointwise [val_main_v0, val_main_cst]
    rfl
  funext i
  rw [eq_ix2 i]
  exact point (i 0) (i 1)

variable (m : (ℓ : Loc nD τ sig) → Buf (Elt Ideal) ℓ)

/-- The eight slots as the run starts. -/
abbrev argB (c : Dev nD) : FVec Ideal S8x2392x128 .f32 := m ((c : Thread nD τ).loc main_arg0)

/-- The reference's run: its result is the same sum of its argument, which ends unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = slotSum (argB m c)
      ∧ r.2.mem ((c : Thread nD τ).loc main_arg0) = m ((c : Thread nD τ).loc main_arg0) :=
  (θ_run _ _ _).mono (fun _ h c => ⟨(h c).1.trans (ref_sum _), (h c).2⟩) (run m g)

end Cert.SumSlotsRefIdeal.Value
-- ==== Proof.PairSumArrays.lean ====
/- The sums of a device's parts with those that arrived: the kernel's result array. -/
module

public import proofs.«01_k».proof.Proof.Gen.PairSumIdeal.Value
public import Idealize.ShloMosaic.Lib.Pipeline.ValueKit
public import Idealize.ShloMosaic.Lib.Pointwise
public import proofs.«01_k».proof.Proof.AdamMath
public import proofs.«01_k».proof.Proof.Reals

@[expose] public section

set_option maxRecDepth 16384
noncomputable section
open Idealize.ShloMosaic Idealize.ShloMosaic.TcCoe Idealize.SL.Sem
open Idealize.ShloMosaic.Pipeline (Dat)

namespace Cert.PairSumIdeal.Value
open Cert.PairSumIdeal Cert.PairSumIdeal.Gen Cert.Adam Cert.Reals

variable (m : (ℓ : Loc nD τ sig) → Buf (Elt Ideal) ℓ)

/-- The device's own eight parts and the four that arrived, as the run starts. -/
abbrev argA (c : Dev nD) : FVec Ideal S8x2048x768 .bf16 := m ((c : Thread nD τ).loc main_arg0)
abbrev argB (c : Dev nD) : FVec Ideal S4x2048x768 .bf16 := m ((c : Thread nD τ).loc main_arg1)

/-- What one grid point writes. -/
theorem point (A B : Vec Ideal S1x2048x768 .bf16) (r : Fin 2048) (d : Fin 768) :
    out0_2 (F := Ideal) A B (ix3 0 r d) = HAdd.hAdd (α := EReal) (β := EReal) (γ := EReal) (A (ix3 0 r d)) (B (ix3 0 r d)) := by
  unfold out0_2
  canon_tiles x hx using View.cover_of_tiledBy _ ![1, 2048, 768] (by sl_kernel_rfl) _
  pointwise [k0_pay1]
  obtain rfl : x 1 = r := Fin.ext hx1.symm
  obtain rfl : x 2 = d := Fin.ext hx2.symm
  rfl

/-- Where every window's block sits at each grid point. -/
theorem places : ∀ t : Fin cfg0.N, win0_0.index t = ![t.val, 0, 0] ∧ win0_1.index t = ![t.val, 0, 0] ∧ win0_2.index t = ![t.val, 0, 0] :=
  (by decide +kernel : ∀ t : Fin grid0.N, _)

/-- The part a grid point sums. -/
abbrev part (t : Fin cfg0.N) : Fin 4 := ⟨t.val, lt_of_lt_of_eq t.isLt N_0⟩
abbrev own (t : Fin cfg0.N) : Fin 8 := ⟨t.val, by have := lt_of_lt_of_eq t.isLt N_0; omega⟩

theorem readA (c : Dev nD) (t : Fin cfg0.N) (r : Fin 2048) (d : Fin 768) : (iblk m c 0 t : Vec Ideal S1x2048x768 .bf16) (ix3 0 r d) = argA m c (ix3 (own t) r d) := by
  show (V m c main_arg0 : FVec Ideal S8x2048x768 .bf16) _ = _
  rw [V_main_arg0]
  blk_ext [places t]

theorem readB (c : Dev nD) (t : Fin cfg0.N) (r : Fin 2048) (d : Fin 768) : (iblk m c 1 t : Vec Ideal S1x2048x768 .bf16) (ix3 0 r d) = argB m c (ix3 (part t) r d) := by
  show (V m c main_arg1 : FVec Ideal S4x2048x768 .bf16) _ = _
  rw [V_main_arg1]
  blk_ext [places t]

/-- The result array when the kernel ends. -/
theorem final (c : Dev nD) : (dats m 0 c).arrAt 2 (cfgs 0).N = pairSum (argA m c) (argB m c) := by
  have step : ∀ (t : Fin cfg0.N) (r : Fin 2048) (d : Fin 768), out0_2 (F := Ideal) (iblk m c 0 t) (iblk m c 1 t) (ix3 0 r d)
      = pairSum (argA m c) (argB m c) (ix3 (part t) r d) := by
    intro t r d
    refine (point _ _ r d).trans ?_
    rw [readA, readB]
    rfl
  refine (dats m 0 c).arrAt_eq_of_covers 2 _ (by decide +kernel) fun t _ y => ?_
  blk_simp
  rw [after0_2]
  have ey : (win0_2.blk t).view.emb y = ix3 (part t) (y 1) (y 2) := by blk_ext [places t]
  rw [ey, show y = ix3 0 (y 1) (y 2) from eq_ix3_zero y]
  exact step t (y 1) (y 2)

/-- The kernel's run: its result is the sums of its arguments' parts, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v0) = pairSum (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final m c), (h c).2⟩) (run_blocks m g)

end Cert.PairSumIdeal.Value
-- ==== Proof.PairSumRefValue.lean ====
/- The sums of a device's parts with those that arrived: the reference's result array. -/
module

public import proofs.«01_k».proof.Proof.Gen.PairSumRefIdeal.Run
public import proofs.«01_k».proof.Proof.Gen.PairSumRefIdeal.Read
public import Idealize.ShloMosaic.Lib.Pipeline.ValueKit
public import Idealize.ShloMosaic.Lib.Pointwise
public import proofs.«01_k».proof.Proof.AdamMath

@[expose] public section

set_option maxRecDepth 16384
noncomputable section
open Idealize.ShloMosaic Idealize.ShloMosaic.TcCoe Idealize.SL.Sem

namespace Cert.PairSumRefIdeal.Value
open Cert.PairSumRefIdeal Cert.PairSumRefIdeal.Gen Cert.PairSumRefIdeal.Read Cert.Adam

theorem ref_sum (A : FVec Ideal S8x2048x768 .bf16) (B : FVec Ideal S4x2048x768 .bf16) : (val_main_v4 (F := Ideal) A B : FVec Ideal S4x2048x768 .bf16) = pairSum A B := by
  have point : ∀ (j : Fin 4) (r : Fin 2048) (d : Fin 768), (val_main_v4 (F := Ideal) A B : FVec Ideal S4x2048x768 .bf16) (ix3 j r d) = pairSum A B (ix3 j r d) := by
    intro j r d
    pointwise [val_main_v4, val_main_v3, val_main_v2, val_main_v1, val_main_v0]
    rfl
  funext i
  rw [eq_ix3 i]
  exact point (i 0) (i 1) (i 2)

variable (m : (ℓ : Loc nD τ sig) → Buf (Elt Ideal) ℓ)

/-- The device's own eight parts and the four that arrived, as the run starts. -/
abbrev argA (c : Dev nD) : FVec Ideal S8x2048x768 .bf16 := m ((c : Thread nD τ).loc main_arg0)
abbrev argB (c : Dev nD) : FVec Ideal S4x2048x768 .bf16 := m ((c : Thread nD τ).loc main_arg1)

/-- The reference's run: its result is the same sums of its arguments, which end unchanged. -/
theorem run_arrays (g : Dev nD → PrngReg) : θ_run (defs (F := Ideal)) (onTc (τ := τ) (main (F := Ideal))) ⟨m, fun _ => 0, g⟩ fun r => ∀ c : Dev nD,
    r.2.mem ((c : Thread nD τ).loc main_v4) = pairSum (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (ref_sum _ _), (h c).2⟩) (run m g)

end Cert.PairSumRefIdeal.Value
-- ==== Proof.lean ====
module

public import proofs.«01_k».proof.Defs
public import proofs.«01_k».proof.Proof.Gen.ConvBwd.Frame
public import proofs.«01_k».proof.Proof.Gen.SguBwd.Frame
public import proofs.«01_k».proof.Proof.Gen.FfnBwd.Frame
public import proofs.«01_k».proof.Proof.Gen.RmsBwd.Frame
public import proofs.«01_k».proof.Proof.Gen.LossHead.Frame
public import proofs.«01_k».proof.Proof.Gen.FfnIn.Frame
public import proofs.«01_k».proof.Proof.Gen.AttnFwd.Frame
public import proofs.«01_k».proof.Proof.Gen.SguFwd.Frame
public import proofs.«01_k».proof.Proof.Gen.MixOut.Frame
public import proofs.«01_k».proof.Proof.Gen.FfnDown.Frame
public import proofs.«01_k».proof.Proof.Gen.RmsFwd.Frame
public import proofs.«01_k».proof.Proof.Gen.ConvFwd.Frame
public import proofs.«01_k».proof.Proof.Gen.MmCols.Frame
public import proofs.«01_k».proof.Proof.Gen.MmNt.Frame
public import proofs.«01_k».proof.Proof.Gen.MmNtCols.Frame
public import proofs.«01_k».proof.Proof.Gen.MmTnCols.Frame
public import proofs.«01_k».proof.Proof.Gen.MmTnRows.Frame
public import proofs.«01_k».proof.Proof.Gen.FfnDwd.Frame
public import proofs.«01_k».proof.Proof.Gen.FfnDwgu.Frame
public import proofs.«01_k».proof.Proof.Gen.FfnDh.Frame
public import proofs.«01_k».proof.Proof.Gen.AdamSmall.Frame
public import proofs.«01_k».proof.Proof.Gen.AdamBig.Frame
public import proofs.«01_k».proof.Proof.Gen.SumSlots.Frame
public import proofs.«01_k».proof.Proof.Gen.PairSum.Frame
public import proofs.«01_k».proof.Proof.Gen.Pre_finite_attn
public import proofs.«01_k».proof.Proof.Gen.Pre_finite_sgu
public import proofs.«01_k».proof.Proof.Gen.Pre_finite_ffn
public import proofs.«01_k».proof.Proof.Gen.Pre_finite_attnf
public import proofs.«01_k».proof.Proof.ConvArrays
public import proofs.«01_k».proof.Proof.ConvRefValue
public import proofs.«01_k».proof.Proof.AttnBits
public import proofs.«01_k».proof.Proof.AttnRefGrads
public import proofs.«01_k».proof.Proof.SguArrays
public import proofs.«01_k».proof.Proof.SguRefValue
public import proofs.«01_k».proof.Proof.FfnArrays
public import proofs.«01_k».proof.Proof.FfnRefValue
public import proofs.«01_k».proof.Proof.RmsArrays
public import proofs.«01_k».proof.Proof.RmsRefValue
public import proofs.«01_k».proof.Proof.LossArrays
public import proofs.«01_k».proof.Proof.LossRefValue
public import proofs.«01_k».proof.Proof.FfnInArrays
public import proofs.«01_k».proof.Proof.FfnInRefValue
public import proofs.«01_k».proof.Proof.AttnFwdRefValue
public import proofs.«01_k».proof.Proof.SguFwdArrays
public import proofs.«01_k».proof.Proof.SguFwdRefValue
public import proofs.«01_k».proof.Proof.MixOutArrays
public import proofs.«01_k».proof.Proof.MixOutRefValue
public import proofs.«01_k».proof.Proof.FfnDownArrays
public import proofs.«01_k».proof.Proof.FfnDownRefValue
public import proofs.«01_k».proof.Proof.RmsFwdArrays
public import proofs.«01_k».proof.Proof.RmsFwdRefValue
public import proofs.«01_k».proof.Proof.ConvFwdArrays
public import proofs.«01_k».proof.Proof.ConvFwdRefValue
public import proofs.«01_k».proof.Proof.MmColsArrays
public import proofs.«01_k».proof.Proof.MmColsRefValue
public import proofs.«01_k».proof.Proof.MmNtArrays
public import proofs.«01_k».proof.Proof.MmNtRefValue
public import proofs.«01_k».proof.Proof.MmNtColsArrays
public import proofs.«01_k».proof.Proof.MmNtColsRefValue
public import proofs.«01_k».proof.Proof.MmTnColsArrays
public import proofs.«01_k».proof.Proof.MmTnColsRefValue
public import proofs.«01_k».proof.Proof.MmTnRowsArrays
public import proofs.«01_k».proof.Proof.MmTnRowsRefValue
public import proofs.«01_k».proof.Proof.FfnDwdArrays
public import proofs.«01_k».proof.Proof.FfnDwdRefValue
public import proofs.«01_k».proof.Proof.FfnDwguArrays
public import proofs.«01_k».proof.Proof.FfnDwguRefValue
public import proofs.«01_k».proof.Proof.FfnDhArrays
public import proofs.«01_k».proof.Proof.FfnDhRefValue
public import proofs.«01_k».proof.Proof.AdamSmallArrays
public import proofs.«01_k».proof.Proof.AdamSmallRefValue
public import proofs.«01_k».proof.Proof.AdamBigArrays
public import proofs.«01_k».proof.Proof.AdamBigRefValue
public import proofs.«01_k».proof.Proof.SumSlotsArrays
public import proofs.«01_k».proof.Proof.SumSlotsRefValue
public import proofs.«01_k».proof.Proof.PairSumArrays
public import proofs.«01_k».proof.Proof.PairSumRefValue
public import Idealize.ShloMosaic.Adequacy
public import Idealize.ShloMosaic.Init

@[expose] public section

noncomputable section

namespace Cert.Proof
open Idealize.ShloMosaic Idealize.SL.Sem

/-- The convolution: the kernel's four results are the reference's, at equal arguments. -/
theorem conv_value : algebraic_ConvBwdIdeal_ConvRefIdeal := by
  intro m g m' g' _ hag
  refine ⟨_, _, _, _, ConvBwdIdeal.Value.run_arrays m g, (θ_run _ _ _).mono (fun _ h c => ?_) (ConvRefIdeal.Value.run_arrays m' g').1⟩
  have hc := h c
  rw [show ConvRefIdeal.Value.argP m' c = ConvBwdIdeal.Value.argP m c from (hag c).1,
    show ConvRefIdeal.Value.argD m' c = ConvBwdIdeal.Value.argD m c from (hag c).2.1,
    show ConvRefIdeal.Value.argW m' c = ConvBwdIdeal.Value.argW m c from (hag c).2.2] at hc
  exact hc

/-- The attention: the kernel's four results are the reference's, at equal finite arguments. -/
theorem attn_value : algebraic_AttnBwdIdeal_AttnRefIdeal_pre_finite_attn := by
  intro m g m' g' hpre hag
  refine ⟨fun c => AttnRefIdeal.Read.val_main_v153 (F := Ideal) (AttnBwdIdeal.Hand.argA m c) (AttnBwdIdeal.Hand.argD m c) (AttnBwdIdeal.Hand.argB m c),
    fun c => AttnRefIdeal.Read.val_main_v155 (F := Ideal) (AttnBwdIdeal.Hand.argA m c) (AttnBwdIdeal.Hand.argD m c) (AttnBwdIdeal.Hand.argB m c),
    fun c => AttnRefIdeal.Read.val_main_v157 (F := Ideal) (AttnBwdIdeal.Hand.argA m c) (AttnBwdIdeal.Hand.argD m c) (AttnBwdIdeal.Hand.argB m c),
    fun c => AttnRefIdeal.Read.val_main_v132 (F := Ideal) (AttnBwdIdeal.Hand.argA m c) (AttnBwdIdeal.Hand.argD m c) (AttnBwdIdeal.Hand.argB m c),
    (θ_run _ _ _).mono (fun _ h c => ?_) (AttnBwdIdeal.Hand.run_arrays m g), (θ_run _ _ _).mono (fun _ h c => ?_) (AttnRefIdeal.Value.run_named m' g')⟩
  · obtain ⟨fA, hA⟩ := Reals.lift (f := AttnBwdIdeal.Hand.argA m c) (Reals.isReal_of_test _ _ (hpre c).1)
    obtain ⟨fD, hD⟩ := Reals.lift (f := AttnBwdIdeal.Hand.argD m c) (Reals.isReal_of_test _ _ (hpre c).2.1)
    obtain ⟨fB, hB⟩ := Reals.lift (f := AttnBwdIdeal.Hand.argB m c) (Reals.isReal_of_test _ _ (hpre c).2.2)
    have kA : ∀ r k, AttnBwdIdeal.Hand.argA m c (ix2 r k) = ((fun r k => fA (ix2 r k)) r k : ℝ) := fun r k => congrFun hA _
    have kD : ∀ r k, AttnBwdIdeal.Hand.argD m c (ix2 r k) = ((fun r k => fD (ix2 r k)) r k : ℝ) := fun r k => congrFun hD _
    have kB : ∀ h b, AttnBwdIdeal.Hand.argB m c (ix2 h b) = ((fun h b => fB (ix2 h b)) h b : ℝ) := fun h b => congrFun hB _
    have hr := (h c).1 _ _ _ kA kD kB
    exact ⟨hr.1.trans (AttnRefIdeal.Value.arr153 kA kD kB).symm, hr.2.1.trans (AttnRefIdeal.Value.arr155 kA kD kB).symm,
      hr.2.2.1.trans (AttnRefIdeal.Value.arr157 kA kD kB).symm, hr.2.2.2.trans (AttnRefIdeal.Value.arr132 kA kD kB).symm, (h c).2⟩
  · have hc := h c
    rw [show AttnRefIdeal.Value.argA m' c = AttnBwdIdeal.Hand.argA m c from (hag c).1,
      show AttnRefIdeal.Value.argD m' c = AttnBwdIdeal.Hand.argD m c from (hag c).2.1,
      show AttnRefIdeal.Value.argB m' c = AttnBwdIdeal.Hand.argB m c from (hag c).2.2] at hc
    exact hc

/-- The attention's reference runs, keeps its arguments, and leaves no semaphore raised. -/
theorem attn_ref_frame : quiescent_AttnRefIdeal := fun m g _ =>
  (θ_run _ _ _).mono (fun _ h => ⟨fun c => (h c).2.2.2.2, funext fun x => by rcases x with ⟨_, s | s⟩ <;> exact s.elim0⟩) (AttnRefIdeal.Value.run_named m g)

/-- The attention's mask is minus infinity, which rounds to the literal the kernel has. -/
theorem attn_preserves : preserves_AttnBwd_AttnBwdIdeal :=
  IdealRules.named_const.statement AttnBwdIdeal.κ "mask" .f32 0xF149F2CA#32 ⊥ rfl

/-- The gated mixing: the kernel's five results are the reference's, at equal finite arguments. -/
theorem sgu_value : algebraic_SguBwdIdeal_SguRefIdeal_pre_finite_sgu := by
  intro m g m' g' hpre hag
  refine ⟨fun c => SguRefIdeal.Read.val_main_v127 (F := Ideal) (SguBwdIdeal.Value.argA m c) (SguBwdIdeal.Value.argD m c) (SguBwdIdeal.Value.argG m c) (SguBwdIdeal.Value.argL m c) (SguBwdIdeal.Value.argW m c) (SguBwdIdeal.Value.argB m c),
    fun c => SguRefIdeal.Read.val_main_v82 (F := Ideal) (SguBwdIdeal.Value.argA m c) (SguBwdIdeal.Value.argD m c) (SguBwdIdeal.Value.argG m c) (SguBwdIdeal.Value.argL m c),
    fun c => SguRefIdeal.Read.val_main_v128 (F := Ideal) (SguBwdIdeal.Value.argA m c) (SguBwdIdeal.Value.argD m c),
    fun c => SguRefIdeal.Read.val_main_v129 (F := Ideal) (SguBwdIdeal.Value.argA m c) (SguBwdIdeal.Value.argD m c) (SguBwdIdeal.Value.argW m c),
    fun c => SguRefIdeal.Read.val_main_v130 (F := Ideal) (SguBwdIdeal.Value.argA m c) (SguBwdIdeal.Value.argD m c) (SguBwdIdeal.Value.argW m c),
    (θ_run _ _ _).mono (fun _ h c => ?_) (SguBwdIdeal.Value.run_arrays m g), (θ_run _ _ _).mono (fun _ h c => ?_) (SguRefIdeal.Value.run_named m' g')⟩
  · obtain ⟨fA, hA⟩ := Reals.lift (f := SguBwdIdeal.Value.argA m c) (Reals.isReal_of_test _ _ (hpre c).1)
    obtain ⟨fD, hD⟩ := Reals.lift (f := SguBwdIdeal.Value.argD m c) (Reals.isReal_of_test _ _ (hpre c).2.1)
    obtain ⟨fG, hG⟩ := Reals.lift (f := SguBwdIdeal.Value.argG m c) (Reals.isReal_of_test _ _ (hpre c).2.2.1)
    obtain ⟨fL, hL⟩ := Reals.lift (f := SguBwdIdeal.Value.argL m c) (Reals.isReal_of_test _ _ (hpre c).2.2.2.1)
    obtain ⟨fW, hW⟩ := Reals.lift (f := SguBwdIdeal.Value.argW m c) (Reals.isReal_of_test _ _ (hpre c).2.2.2.2.1)
    obtain ⟨fB, hB⟩ := Reals.lift (f := SguBwdIdeal.Value.argB m c) (Reals.isReal_of_test _ _ (hpre c).2.2.2.2.2)
    have kA : ∀ r k, SguBwdIdeal.Value.argA m c (ix2 r k) = ((fun r k => fA (ix2 r k)) r k : ℝ) := fun r k => congrFun hA _
    have kD : ∀ r k, SguBwdIdeal.Value.argD m c (ix2 r k) = ((fun r k => fD (ix2 r k)) r k : ℝ) := fun r k => congrFun hD _
    have kG : ∀ d, SguBwdIdeal.Value.argG m c (ix1 d) = ((fun d => fG (ix1 d)) d : ℝ) := fun d => congrFun hG _
    have kL : ∀ d, SguBwdIdeal.Value.argL m c (ix1 d) = ((fun d => fL (ix1 d)) d : ℝ) := fun d => congrFun hL _
    have kW : ∀ g r k, SguBwdIdeal.Value.argW m c (ix3 g r k) = ((fun g r k => fW (ix3 g r k)) g r k : ℝ) := fun g r k => congrFun hW _
    have kB : ∀ g r, SguBwdIdeal.Value.argB m c (ix2 g r) = ((fun g r => fB (ix2 g r)) g r : ℝ) := fun g r => congrFun hB _
    have hr := (h c).1 _ _ _ _ _ _ kA kD kG kL kW kB
    exact ⟨hr.1.trans (SguRefIdeal.Value.v127 kA kD kG kL kW kB).symm, hr.2.1.trans (SguRefIdeal.Value.v82 kA kD kG kL).symm, hr.2.2.1.trans (SguRefIdeal.Value.v128 kA kD).symm, hr.2.2.2.1.trans (SguRefIdeal.Value.v129 kA kD kW).symm, hr.2.2.2.2.trans (SguRefIdeal.Value.v130 kA kD kW).symm, (h c).2⟩
  · have hc := h c
    rw [show SguRefIdeal.Value.argA m' c = SguBwdIdeal.Value.argA m c from (hag c).1,
    show SguRefIdeal.Value.argD m' c = SguBwdIdeal.Value.argD m c from (hag c).2.1,
    show SguRefIdeal.Value.argG m' c = SguBwdIdeal.Value.argG m c from (hag c).2.2.1,
    show SguRefIdeal.Value.argL m' c = SguBwdIdeal.Value.argL m c from (hag c).2.2.2.1,
    show SguRefIdeal.Value.argW m' c = SguBwdIdeal.Value.argW m c from (hag c).2.2.2.2.1,
    show SguRefIdeal.Value.argB m' c = SguBwdIdeal.Value.argB m c from (hag c).2.2.2.2.2] at hc
    exact hc

/-- The gated mixing's reference runs, keeps its arguments, and leaves no semaphore raised. -/
theorem sgu_ref_frame : quiescent_SguRefIdeal := fun m g _ =>
  (θ_run _ _ _).mono (fun _ h => ⟨fun c => (h c).2.2.2.2.2, funext fun x => by rcases x with ⟨_, s | s⟩ <;> exact s.elim0⟩) (SguRefIdeal.Value.run_named m g)

/-- The two named constants of the gated mixing round to the literals the kernel has. -/
theorem sgu_preserves : preserves_SguBwd_SguBwdIdeal :=
  ⟨IdealRules.named_const.statement SguBwdIdeal.κ "rsqrt2" .f32 0x3F3504F3#32 _ rfl, IdealRules.named_const.statement SguBwdIdeal.κ "rsqrt2pi" .f32 0x3ECC422A#32 _ rfl⟩

/-- The gated feed-forward product: the kernel's two results are the reference's, at equal arguments, where the incoming
    gradient, the weights and the other branch are finite. -/
theorem ffn_value : algebraic_FfnBwdIdeal_FfnRefIdeal_pre_finite_ffn := by
  intro m g m' g' hpre hag
  refine ⟨_, _, FfnBwdIdeal.Value.run_arrays m g, (θ_run _ _ _).mono (fun _ h c => ?_) (FfnRefIdeal.Value.run_named m' g')⟩
  have hc := h c
  rw [show FfnRefIdeal.Value.argD m' c = FfnBwdIdeal.Value.argD m c from (hag c).1,
    show FfnRefIdeal.Value.argW m' c = FfnBwdIdeal.Value.argW m c from (hag c).2.1,
    show FfnRefIdeal.Value.argG m' c = FfnBwdIdeal.Value.argG m c from (hag c).2.2.1,
    show FfnRefIdeal.Value.argU m' c = FfnBwdIdeal.Value.argU m c from (hag c).2.2.2] at hc
  exact ⟨hc.1.trans (FfnRefIdeal.Value.ref_g _ _ _ _ (Reals.isReal_of_test _ _ (hpre c).1) (Reals.isReal_of_test _ _ (hpre c).2.1)
    (Reals.isReal_of_test _ _ (hpre c).2.2)), hc.2.1.trans (FfnRefIdeal.Value.ref_u _ _ _), hc.2.2⟩

/-- The feed-forward reference runs, keeps its arguments, and leaves no semaphore raised. -/
theorem ffn_ref_frame : quiescent_FfnRefIdeal := fun m g _ =>
  (θ_run _ _ _).mono (fun _ h => ⟨fun c => (h c).2.2, funext fun x => by rcases x with ⟨_, s | s⟩ <;> exact s.elim0⟩) (FfnRefIdeal.Value.run_named m g)

/-- The norm: the kernel's three results are the reference's, at equal arguments. -/
theorem rms_value : algebraic_RmsBwdIdeal_RmsRefIdeal := by
  intro m g m' g' _ hag
  refine ⟨_, _, _, RmsBwdIdeal.Value.run_arrays m g, (θ_run _ _ _).mono (fun _ h c => ?_) (RmsRefIdeal.Value.run_arrays m' g')⟩
  have hc := h c
  rw [show RmsRefIdeal.Value.argX m' c = RmsBwdIdeal.Value.argX m c from (hag c).1,
    show RmsRefIdeal.Value.argG m' c = RmsBwdIdeal.Value.argG m c from (hag c).2.1,
    show RmsRefIdeal.Value.argD m' c = RmsBwdIdeal.Value.argD m c from (hag c).2.2.1,
    show RmsRefIdeal.Value.argR m' c = RmsBwdIdeal.Value.argR m c from (hag c).2.2.2] at hc
  exact hc

/-- The loss head: the kernel's four results are the reference's, at equal arguments. -/
theorem loss_value : algebraic_LossHeadIdeal_LossRefIdeal := by
  intro m g m' g' _ hag
  refine ⟨_, _, _, _, LossHeadIdeal.Value.run_arrays m g, (θ_run _ _ _).mono (fun _ h c => ?_) (LossRefIdeal.Value.run_arrays m' g')⟩
  have hc := h c
  rw [show LossRefIdeal.Value.argX m' c = LossHeadIdeal.Value.argX m c from (hag c).1,
    show LossRefIdeal.Value.argG m' c = LossHeadIdeal.Value.argG m c from (hag c).2.1,
    show LossRefIdeal.Value.argT m' c = LossHeadIdeal.Value.argT m c from (hag c).2.2] at hc
  exact hc

/-- The feed-forward layer's first call: the kernel's three results are the reference's, at equal arguments. -/
theorem ffnin_value : algebraic_FfnInIdeal_FfnInRefIdeal := by
  intro m g m' g' _ hag
  refine ⟨_, _, _, FfnInIdeal.Value.run_arrays m g, (θ_run _ _ _).mono (fun _ h c => ?_) (FfnInRefIdeal.Value.run_arrays m' g')⟩
  have hc := h c
  rw [show FfnInRefIdeal.Value.argH m' c = FfnInIdeal.Value.argH m c from (hag c).1,
    show FfnInRefIdeal.Value.argG m' c = FfnInIdeal.Value.argG m c from (hag c).2.1,
    show FfnInRefIdeal.Value.argU m' c = FfnInIdeal.Value.argU m c from (hag c).2.2] at hc
  exact hc

/-- The attention: the kernel's result is the reference's, at equal finite arguments. -/
theorem attnf_value : algebraic_AttnFwdIdeal_AttnFwdRefIdeal_pre_finite_attnf := by
  intro m g m' g' hpre hag
  refine ⟨fun c => AttnFwdRefIdeal.Read.val_main_v85 (F := Ideal) (AttnFwdIdeal.Hand.argA m c) (AttnFwdIdeal.Hand.argB m c),
    (θ_run _ _ _).mono (fun _ h c => ?_) (AttnFwdIdeal.Hand.run_arrays m g), (θ_run _ _ _).mono (fun _ h c => ?_) (AttnFwdRefIdeal.Value.run_named m' g')⟩
  · obtain ⟨fA, hA⟩ := Reals.lift (f := AttnFwdIdeal.Hand.argA m c) (Reals.isReal_of_test _ _ (hpre c).1)
    obtain ⟨fB, hB⟩ := Reals.lift (f := AttnFwdIdeal.Hand.argB m c) (Reals.isReal_of_test _ _ (hpre c).2)
    have kA : ∀ r k, AttnFwdIdeal.Hand.argA m c (ix2 r k) = ((fun r k => fA (ix2 r k)) r k : ℝ) := fun r k => congrFun hA _
    have kB : ∀ h b, AttnFwdIdeal.Hand.argB m c (ix2 h b) = ((fun h b => fB (ix2 h b)) h b : ℝ) := fun h b => congrFun hB _
    exact ⟨((h c).1 _ _ kA kB).trans (AttnFwdRefIdeal.Value.value kA kB).symm, (h c).2⟩
  · have hc := h c
    rw [show AttnFwdRefIdeal.Value.argA m' c = AttnFwdIdeal.Hand.argA m c from (hag c).1,
      show AttnFwdRefIdeal.Value.argB m' c = AttnFwdIdeal.Hand.argB m c from (hag c).2] at hc
    exact hc

/-- The attention's reference runs, keeps its arguments, and leaves no semaphore raised. -/
theorem attnf_ref_frame : quiescent_AttnFwdRefIdeal := fun m g _ =>
  (θ_run _ _ _).mono (fun _ h => ⟨fun c => (h c).2, funext fun x => by rcases x with ⟨_, s | s⟩ <;> exact s.elim0⟩) (AttnFwdRefIdeal.Value.run_named m g)

/-- The attention's mask is minus infinity, which rounds to the literal the kernel has. -/
theorem attnf_preserves : preserves_AttnFwd_AttnFwdIdeal :=
  IdealRules.named_const.statement AttnFwdIdeal.κ "mask" .f32 0xF149F2CA#32 ⊥ rfl

/-- The gated mixing, forward: the kernel's result is the reference's, at equal arguments. -/
theorem sguf_value : algebraic_SguFwdIdeal_SguFwdRefIdeal := by
  intro m g m' g' _ hag
  refine ⟨_, SguFwdIdeal.Value.run_arrays m g, (θ_run _ _ _).mono (fun _ h c => ?_) (SguFwdRefIdeal.Value.run_arrays m' g')⟩
  have hc := h c
  rw [show SguFwdRefIdeal.Value.argA m' c = SguFwdIdeal.Value.argA m c from (hag c).1,
    show SguFwdRefIdeal.Value.argG m' c = SguFwdIdeal.Value.argG m c from (hag c).2.1,
    show SguFwdRefIdeal.Value.argL m' c = SguFwdIdeal.Value.argL m c from (hag c).2.2.1,
    show SguFwdRefIdeal.Value.argW m' c = SguFwdIdeal.Value.argW m c from (hag c).2.2.2.1,
    show SguFwdRefIdeal.Value.argB m' c = SguFwdIdeal.Value.argB m c from (hag c).2.2.2.2] at hc
  exact hc

/-- The mixers' output with the norm after it: the kernel's two results are the reference's, at equal arguments. -/
theorem mixout_value : algebraic_MixOutIdeal_MixOutRefIdeal := by
  intro m g m' g' _ hag
  refine ⟨_, _, MixOutIdeal.Value.run_arrays m g, (θ_run _ _ _).mono (fun _ h c => ?_) (MixOutRefIdeal.Value.run_arrays m' g')⟩
  have hc := h c
  rw [show MixOutRefIdeal.Value.argA m' c = MixOutIdeal.Value.argA m c from (hag c).1,
    show MixOutRefIdeal.Value.argW m' c = MixOutIdeal.Value.argW m c from (hag c).2.1,
    show MixOutRefIdeal.Value.argR m' c = MixOutIdeal.Value.argR m c from (hag c).2.2.1,
    show MixOutRefIdeal.Value.argG m' c = MixOutIdeal.Value.argG m c from (hag c).2.2.2] at hc
  exact hc

/-- The feed-forward layer's output with the norm after it: the kernel's two results are the reference's, at equal arguments. -/
theorem ffndown_value : algebraic_FfnDownIdeal_FfnDownRefIdeal := by
  intro m g m' g' _ hag
  refine ⟨_, _, FfnDownIdeal.Value.run_arrays m g, (θ_run _ _ _).mono (fun _ h c => ?_) (FfnDownRefIdeal.Value.run_arrays m' g')⟩
  have hc := h c
  rw [show FfnDownRefIdeal.Value.argA m' c = FfnDownIdeal.Value.argA m c from (hag c).1,
    show FfnDownRefIdeal.Value.argW m' c = FfnDownIdeal.Value.argW m c from (hag c).2.1,
    show FfnDownRefIdeal.Value.argR m' c = FfnDownIdeal.Value.argR m c from (hag c).2.2.1,
    show FfnDownRefIdeal.Value.argG m' c = FfnDownIdeal.Value.argG m c from (hag c).2.2.2] at hc
  exact hc

/-- The norm, forward: the kernel's result is the reference's, at equal arguments. -/
theorem rmsf_value : algebraic_RmsFwdIdeal_RmsFwdRefIdeal := by
  intro m g m' g' _ hag
  refine ⟨_, RmsFwdIdeal.Value.run_arrays m g, (θ_run _ _ _).mono (fun _ h c => ?_) (RmsFwdRefIdeal.Value.run_arrays m' g')⟩
  have hc := h c
  rw [show RmsFwdRefIdeal.Value.argX m' c = RmsFwdIdeal.Value.argX m c from (hag c).1,
    show RmsFwdRefIdeal.Value.argG m' c = RmsFwdIdeal.Value.argG m c from (hag c).2] at hc
  exact hc

/-- The convolution, forward: the kernel's result is the reference's, at equal arguments. -/
theorem convf_value : algebraic_ConvFwdIdeal_ConvFwdRefIdeal := by
  intro m g m' g' _ hag
  refine ⟨_, ConvFwdIdeal.Value.run_arrays m g, (θ_run _ _ _).mono (fun _ h c => ?_) (ConvFwdRefIdeal.Value.run_arrays m' g').1⟩
  have hc := h c
  rw [show ConvFwdRefIdeal.Value.argP m' c = ConvFwdIdeal.Value.argP m c from (hag c).1,
    show ConvFwdRefIdeal.Value.argW m' c = ConvFwdIdeal.Value.argW m c from (hag c).2.1,
    show ConvFwdRefIdeal.Value.argT m' c = ConvFwdIdeal.Value.argT m c from (hag c).2.2] at hc
  exact hc

/-- The projections' product: the kernel's result is the reference's, at equal arguments. -/
theorem mmcols_value : algebraic_MmColsIdeal_MmColsRefIdeal := by
  intro m g m' g' _ hag
  refine ⟨_, MmColsIdeal.Value.run_arrays m g, (θ_run _ _ _).mono (fun _ h c => ?_) (MmColsRefIdeal.Value.run_arrays m' g')⟩
  have hc := h c
  rw [show MmColsRefIdeal.Value.argH m' c = MmColsIdeal.Value.argH m c from (hag c).1,
    show MmColsRefIdeal.Value.argW m' c = MmColsIdeal.Value.argW m c from (hag c).2] at hc
  exact hc

/-- The output projection's product with the incoming gradient: the kernel's result is the reference's, at equal arguments. -/
theorem mmnt_value : algebraic_MmNtIdeal_MmNtRefIdeal := by
  intro m g m' g' _ hag
  refine ⟨_, MmNtIdeal.Value.run_arrays m g, (θ_run _ _ _).mono (fun _ h c => ?_) (MmNtRefIdeal.Value.run_arrays m' g')⟩
  have hc := h c
  rw [show MmNtRefIdeal.Value.argD m' c = MmNtIdeal.Value.argD m c from (hag c).1,
    show MmNtRefIdeal.Value.argW m' c = MmNtIdeal.Value.argW m c from (hag c).2] at hc
  exact hc

/-- The projections' product with the incoming gradient: the kernel's result is the reference's, at equal arguments. -/
theorem mmntcols_value : algebraic_MmNtColsIdeal_MmNtColsRefIdeal := by
  intro m g m' g' _ hag
  refine ⟨_, MmNtColsIdeal.Value.run_arrays m g, (θ_run _ _ _).mono (fun _ h c => ?_) (MmNtColsRefIdeal.Value.run_arrays m' g')⟩
  have hc := h c
  rw [show MmNtColsRefIdeal.Value.argD m' c = MmNtColsIdeal.Value.argD m c from (hag c).1,
    show MmNtColsRefIdeal.Value.argW m' c = MmNtColsIdeal.Value.argW m c from (hag c).2] at hc
  exact hc

/-- The gradient of the projections' weights: the kernel's result is the reference's, at equal arguments. -/
theorem mmtncols_value : algebraic_MmTnColsIdeal_MmTnColsRefIdeal := by
  intro m g m' g' _ hag
  refine ⟨_, MmTnColsIdeal.Value.run_arrays m g, (θ_run _ _ _).mono (fun _ h c => ?_) (MmTnColsRefIdeal.Value.run_arrays m' g')⟩
  have hc := h c
  rw [show MmTnColsRefIdeal.Value.argH m' c = MmTnColsIdeal.Value.argH m c from (hag c).1,
    show MmTnColsRefIdeal.Value.argD m' c = MmTnColsIdeal.Value.argD m c from (hag c).2] at hc
  exact hc

/-- The gradient of the output projection's weights: the kernel's result is the reference's, at equal arguments. -/
theorem mmtnrows_value : algebraic_MmTnRowsIdeal_MmTnRowsRefIdeal := by
  intro m g m' g' _ hag
  refine ⟨_, MmTnRowsIdeal.Value.run_arrays m g, (θ_run _ _ _).mono (fun _ h c => ?_) (MmTnRowsRefIdeal.Value.run_arrays m' g')⟩
  have hc := h c
  rw [show MmTnRowsRefIdeal.Value.argA m' c = MmTnRowsIdeal.Value.argA m c from (hag c).1,
    show MmTnRowsRefIdeal.Value.argD m' c = MmTnRowsIdeal.Value.argD m c from (hag c).2] at hc
  exact hc

/-- The gradient of the down projection: the kernel's result is the reference's, at equal arguments. -/
theorem dwd_value : algebraic_FfnDwdIdeal_FfnDwdRefIdeal := by
  intro m g m' g' _ hag
  refine ⟨_, FfnDwdIdeal.Value.run_arrays m g, (θ_run _ _ _).mono (fun _ h c => ?_) (FfnDwdRefIdeal.Value.run_arrays m' g')⟩
  have hc := h c
  rw [show FfnDwdRefIdeal.Value.argA m' c = FfnDwdIdeal.Value.argA m c from (hag c).1,
    show FfnDwdRefIdeal.Value.argD m' c = FfnDwdIdeal.Value.argD m c from (hag c).2] at hc
  exact hc

/-- The gradients of the gate's and the other branch's projections: the kernel's two results are the reference's, at equal arguments. -/
theorem dwgu_value : algebraic_FfnDwguIdeal_FfnDwguRefIdeal := by
  intro m g m' g' _ hag
  refine ⟨_, _, FfnDwguIdeal.Value.run_arrays m g, (θ_run _ _ _).mono (fun _ h c => ?_) (FfnDwguRefIdeal.Value.run_arrays m' g')⟩
  have hc := h c
  rw [show FfnDwguRefIdeal.Value.argH m' c = FfnDwguIdeal.Value.argH m c from (hag c).1,
    show FfnDwguRefIdeal.Value.argG m' c = FfnDwguIdeal.Value.argG m c from (hag c).2.1,
    show FfnDwguRefIdeal.Value.argU m' c = FfnDwguIdeal.Value.argU m c from (hag c).2.2] at hc
  exact hc

/-- The gradient of the feed-forward layer's input: the kernel's result is the reference's, at equal arguments. -/
theorem dh_value : algebraic_FfnDhIdeal_FfnDhRefIdeal := by
  intro m g m' g' _ hag
  refine ⟨_, FfnDhIdeal.Value.run_arrays m g, (θ_run _ _ _).mono (fun _ h c => ?_) (FfnDhRefIdeal.Value.run_arrays m' g')⟩
  have hc := h c
  rw [show FfnDhRefIdeal.Value.argA m' c = FfnDhIdeal.Value.argA m c from (hag c).1,
    show FfnDhRefIdeal.Value.argB m' c = FfnDhIdeal.Value.argB m c from (hag c).2.1,
    show FfnDhRefIdeal.Value.argG m' c = FfnDhIdeal.Value.argG m c from (hag c).2.2.1,
    show FfnDhRefIdeal.Value.argU m' c = FfnDhIdeal.Value.argU m c from (hag c).2.2.2] at hc
  exact hc

/-- The optimiser of the small weights: the kernel's three results are the reference's, at equal arguments. -/
theorem adams_value : algebraic_AdamSmallIdeal_AdamSmallRefIdeal := by
  intro m g m' g' _ hag
  refine ⟨_, _, _, AdamSmallIdeal.Value.run_arrays m g, (θ_run _ _ _).mono (fun _ h c => ?_) (AdamSmallRefIdeal.Value.run_arrays m' g')⟩
  have hc := h c
  rw [show AdamSmallRefIdeal.Value.argW m' c = AdamSmallIdeal.Value.argW m c from (hag c).1,
    show AdamSmallRefIdeal.Value.argG m' c = AdamSmallIdeal.Value.argG m c from (hag c).2.1,
    show AdamSmallRefIdeal.Value.argM m' c = AdamSmallIdeal.Value.argM m c from (hag c).2.2.1,
    show AdamSmallRefIdeal.Value.argV m' c = AdamSmallIdeal.Value.argV m c from (hag c).2.2.2] at hc
  exact hc

/-- The optimiser of a weight: the kernel's four results are the reference's, at equal arguments. -/
theorem adam_value : algebraic_AdamBigIdeal_AdamBigRefIdeal := by
  intro m g m' g' _ hag
  refine ⟨_, _, _, _, AdamBigIdeal.Value.run_arrays m g, (θ_run _ _ _).mono (fun _ h c => ?_) (AdamBigRefIdeal.Value.run_arrays m' g')⟩
  have hc := h c
  rw [show AdamBigRefIdeal.Value.argW m' c = AdamBigIdeal.Value.argW m c from (hag c).1,
    show AdamBigRefIdeal.Value.argM m' c = AdamBigIdeal.Value.argM m c from (hag c).2.1,
    show AdamBigRefIdeal.Value.argV m' c = AdamBigIdeal.Value.argV m c from (hag c).2.2.1,
    show AdamBigRefIdeal.Value.argA m' c = AdamBigIdeal.Value.argA m c from (hag c).2.2.2.1,
    show AdamBigRefIdeal.Value.argB m' c = AdamBigIdeal.Value.argB m c from (hag c).2.2.2.2.1,
    show AdamBigRefIdeal.Value.argC m' c = AdamBigIdeal.Value.argC m c from (hag c).2.2.2.2.2.1,
    show AdamBigRefIdeal.Value.argD m' c = AdamBigIdeal.Value.argD m c from (hag c).2.2.2.2.2.2] at hc
  exact hc

/-- The sum of the eight devices' parts: the kernel's result is the reference's, at equal arguments. -/
theorem sums_value : algebraic_SumSlotsIdeal_SumSlotsRefIdeal := by
  intro m g m' g' _ hag
  refine ⟨_, SumSlotsIdeal.Value.run_arrays m g, (θ_run _ _ _).mono (fun _ h c => ?_) (SumSlotsRefIdeal.Value.run_arrays m' g')⟩
  have hc := h c
  rw [show SumSlotsRefIdeal.Value.argB m' c = SumSlotsIdeal.Value.argB m c from (hag c)] at hc
  exact hc

/-- The sum of a pair of parts: the kernel's result is the reference's, at equal arguments. -/
theorem pair_value : algebraic_PairSumIdeal_PairSumRefIdeal := by
  intro m g m' g' _ hag
  refine ⟨_, PairSumIdeal.Value.run_arrays m g, (θ_run _ _ _).mono (fun _ h c => ?_) (PairSumRefIdeal.Value.run_arrays m' g')⟩
  have hc := h c
  rw [show PairSumRefIdeal.Value.argA m' c = PairSumIdeal.Value.argA m c from (hag c).1,
    show PairSumRefIdeal.Value.argB m' c = PairSumIdeal.Value.argB m c from (hag c).2] at hc
  exact hc

/-- The rms reference runs, keeps its arguments, and leaves no semaphore raised. -/
theorem rms_ref_frame : quiescent_RmsRefIdeal := fun m g _ =>
  (θ_run _ _ _).mono (fun _ h => ⟨fun c => (h c).2.2.2, funext fun x => by rcases x with ⟨_, s | s⟩ <;> exact s.elim0⟩) (RmsRefIdeal.Value.run_arrays m g)

/-- The loss reference runs, keeps its arguments, and leaves no semaphore raised. -/
theorem loss_ref_frame : quiescent_LossRefIdeal := fun m g _ =>
  (θ_run _ _ _).mono (fun _ h => ⟨fun c => (h c).2.2.2.2, funext fun x => by rcases x with ⟨_, s | s⟩ <;> exact s.elim0⟩) (LossRefIdeal.Value.run_arrays m g)

/-- The ffnin reference runs, keeps its arguments, and leaves no semaphore raised. -/
theorem ffnin_ref_frame : quiescent_FfnInRefIdeal := fun m g _ =>
  (θ_run _ _ _).mono (fun _ h => ⟨fun c => (h c).2.2.2, funext fun x => by rcases x with ⟨_, s | s⟩ <;> exact s.elim0⟩) (FfnInRefIdeal.Value.run_arrays m g)

/-- The sguf reference runs, keeps its arguments, and leaves no semaphore raised. -/
theorem sguf_ref_frame : quiescent_SguFwdRefIdeal := fun m g _ =>
  (θ_run _ _ _).mono (fun _ h => ⟨fun c => (h c).2, funext fun x => by rcases x with ⟨_, s | s⟩ <;> exact s.elim0⟩) (SguFwdRefIdeal.Value.run_arrays m g)

/-- The named constant of the gated mixing's forward kernel rounds to the literal the kernel has. -/
theorem sguf_preserves : preserves_SguFwd_SguFwdIdeal :=
  IdealRules.named_const.statement SguFwdIdeal.κ "rsqrt2" .f32 0x3F3504F3#32 _ rfl

/-- The mixout reference runs, keeps its arguments, and leaves no semaphore raised. -/
theorem mixout_ref_frame : quiescent_MixOutRefIdeal := fun m g _ =>
  (θ_run _ _ _).mono (fun _ h => ⟨fun c => (h c).2.2, funext fun x => by rcases x with ⟨_, s | s⟩ <;> exact s.elim0⟩) (MixOutRefIdeal.Value.run_arrays m g)

/-- The ffndown reference runs, keeps its arguments, and leaves no semaphore raised. -/
theorem ffndown_ref_frame : quiescent_FfnDownRefIdeal := fun m g _ =>
  (θ_run _ _ _).mono (fun _ h => ⟨fun c => (h c).2.2, funext fun x => by rcases x with ⟨_, s | s⟩ <;> exact s.elim0⟩) (FfnDownRefIdeal.Value.run_arrays m g)

/-- The rmsf reference runs, keeps its arguments, and leaves no semaphore raised. -/
theorem rmsf_ref_frame : quiescent_RmsFwdRefIdeal := fun m g _ =>
  (θ_run _ _ _).mono (fun _ h => ⟨fun c => (h c).2, funext fun x => by rcases x with ⟨_, s | s⟩ <;> exact s.elim0⟩) (RmsFwdRefIdeal.Value.run_arrays m g)

/-- The mmcols reference runs, keeps its arguments, and leaves no semaphore raised. -/
theorem mmcols_ref_frame : quiescent_MmColsRefIdeal := fun m g _ =>
  (θ_run _ _ _).mono (fun _ h => ⟨fun c => (h c).2, funext fun x => by rcases x with ⟨_, s | s⟩ <;> exact s.elim0⟩) (MmColsRefIdeal.Value.run_arrays m g)

/-- The mmnt reference runs, keeps its arguments, and leaves no semaphore raised. -/
theorem mmnt_ref_frame : quiescent_MmNtRefIdeal := fun m g _ =>
  (θ_run _ _ _).mono (fun _ h => ⟨fun c => (h c).2, funext fun x => by rcases x with ⟨_, s | s⟩ <;> exact s.elim0⟩) (MmNtRefIdeal.Value.run_arrays m g)

/-- The mmntcols reference runs, keeps its arguments, and leaves no semaphore raised. -/
theorem mmntcols_ref_frame : quiescent_MmNtColsRefIdeal := fun m g _ =>
  (θ_run _ _ _).mono (fun _ h => ⟨fun c => (h c).2, funext fun x => by rcases x with ⟨_, s | s⟩ <;> exact s.elim0⟩) (MmNtColsRefIdeal.Value.run_arrays m g)

/-- The mmtncols reference runs, keeps its arguments, and leaves no semaphore raised. -/
theorem mmtncols_ref_frame : quiescent_MmTnColsRefIdeal := fun m g _ =>
  (θ_run _ _ _).mono (fun _ h => ⟨fun c => (h c).2, funext fun x => by rcases x with ⟨_, s | s⟩ <;> exact s.elim0⟩) (MmTnColsRefIdeal.Value.run_arrays m g)

/-- The mmtnrows reference runs, keeps its arguments, and leaves no semaphore raised. -/
theorem mmtnrows_ref_frame : quiescent_MmTnRowsRefIdeal := fun m g _ =>
  (θ_run _ _ _).mono (fun _ h => ⟨fun c => (h c).2, funext fun x => by rcases x with ⟨_, s | s⟩ <;> exact s.elim0⟩) (MmTnRowsRefIdeal.Value.run_arrays m g)

/-- The dwd reference runs, keeps its arguments, and leaves no semaphore raised. -/
theorem dwd_ref_frame : quiescent_FfnDwdRefIdeal := fun m g _ =>
  (θ_run _ _ _).mono (fun _ h => ⟨fun c => (h c).2, funext fun x => by rcases x with ⟨_, s | s⟩ <;> exact s.elim0⟩) (FfnDwdRefIdeal.Value.run_arrays m g)

/-- The dwgu reference runs, keeps its arguments, and leaves no semaphore raised. -/
theorem dwgu_ref_frame : quiescent_FfnDwguRefIdeal := fun m g _ =>
  (θ_run _ _ _).mono (fun _ h => ⟨fun c => (h c).2.2, funext fun x => by rcases x with ⟨_, s | s⟩ <;> exact s.elim0⟩) (FfnDwguRefIdeal.Value.run_arrays m g)

/-- The dh reference runs, keeps its arguments, and leaves no semaphore raised. -/
theorem dh_ref_frame : quiescent_FfnDhRefIdeal := fun m g _ =>
  (θ_run _ _ _).mono (fun _ h => ⟨fun c => (h c).2, funext fun x => by rcases x with ⟨_, s | s⟩ <;> exact s.elim0⟩) (FfnDhRefIdeal.Value.run_arrays m g)

/-- The adams reference runs, keeps its arguments, and leaves no semaphore raised. -/
theorem adams_ref_frame : quiescent_AdamSmallRefIdeal := fun m g _ =>
  (θ_run _ _ _).mono (fun _ h => ⟨fun c => (h c).2.2.2, funext fun x => by rcases x with ⟨_, s | s⟩ <;> exact s.elim0⟩) (AdamSmallRefIdeal.Value.run_arrays m g)

/-- The adam reference runs, keeps its arguments, and leaves no semaphore raised. -/
theorem adam_ref_frame : quiescent_AdamBigRefIdeal := fun m g _ =>
  (θ_run _ _ _).mono (fun _ h => ⟨fun c => (h c).2.2.2.2, funext fun x => by rcases x with ⟨_, s | s⟩ <;> exact s.elim0⟩) (AdamBigRefIdeal.Value.run_arrays m g)

/-- The sums reference runs, keeps its arguments, and leaves no semaphore raised. -/
theorem sums_ref_frame : quiescent_SumSlotsRefIdeal := fun m g _ =>
  (θ_run _ _ _).mono (fun _ h => ⟨fun c => (h c).2, funext fun x => by rcases x with ⟨_, s | s⟩ <;> exact s.elim0⟩) (SumSlotsRefIdeal.Value.run_arrays m g)

/-- The pair reference runs, keeps its arguments, and leaves no semaphore raised. -/
theorem pair_ref_frame : quiescent_PairSumRefIdeal := fun m g _ =>
  (θ_run _ _ _).mono (fun _ h => ⟨fun c => (h c).2, funext fun x => by rcases x with ⟨_, s | s⟩ <;> exact s.elim0⟩) (PairSumRefIdeal.Value.run_arrays m g)

theorem claim : Claim :=
  ⟨ConvBwd.Gen.facts, ConvBwdIdeal.Gen.facts, ConvRefIdeal.Gen.facts,
    AttnBwd.Gen.facts, AttnBwdIdeal.Gen.facts, AttnRefIdeal.Gen.facts,
    SguBwd.Gen.facts, SguBwdIdeal.Gen.facts, SguRefIdeal.Gen.facts,
    FfnBwd.Gen.facts, FfnBwdIdeal.Gen.facts, FfnRefIdeal.Gen.facts,
    RmsBwd.Gen.facts, RmsBwdIdeal.Gen.facts, RmsRefIdeal.Gen.facts,
    LossHead.Gen.facts, LossHeadIdeal.Gen.facts, LossRefIdeal.Gen.facts,
    FfnIn.Gen.facts, FfnInIdeal.Gen.facts, FfnInRefIdeal.Gen.facts,
    AttnFwd.Gen.facts, AttnFwdIdeal.Gen.facts, AttnFwdRefIdeal.Gen.facts,
    SguFwd.Gen.facts, SguFwdIdeal.Gen.facts, SguFwdRefIdeal.Gen.facts,
    MixOut.Gen.facts, MixOutIdeal.Gen.facts, MixOutRefIdeal.Gen.facts,
    FfnDown.Gen.facts, FfnDownIdeal.Gen.facts, FfnDownRefIdeal.Gen.facts,
    RmsFwd.Gen.facts, RmsFwdIdeal.Gen.facts, RmsFwdRefIdeal.Gen.facts,
    ConvFwd.Gen.facts, ConvFwdIdeal.Gen.facts, ConvFwdRefIdeal.Gen.facts,
    MmCols.Gen.facts, MmColsIdeal.Gen.facts, MmColsRefIdeal.Gen.facts,
    MmNt.Gen.facts, MmNtIdeal.Gen.facts, MmNtRefIdeal.Gen.facts,
    MmNtCols.Gen.facts, MmNtColsIdeal.Gen.facts, MmNtColsRefIdeal.Gen.facts,
    MmTnCols.Gen.facts, MmTnColsIdeal.Gen.facts, MmTnColsRefIdeal.Gen.facts,
    MmTnRows.Gen.facts, MmTnRowsIdeal.Gen.facts, MmTnRowsRefIdeal.Gen.facts,
    FfnDwd.Gen.facts, FfnDwdIdeal.Gen.facts, FfnDwdRefIdeal.Gen.facts,
    FfnDwgu.Gen.facts, FfnDwguIdeal.Gen.facts, FfnDwguRefIdeal.Gen.facts,
    FfnDh.Gen.facts, FfnDhIdeal.Gen.facts, FfnDhRefIdeal.Gen.facts,
    AdamSmall.Gen.facts, AdamSmallIdeal.Gen.facts, AdamSmallRefIdeal.Gen.facts,
    AdamBig.Gen.facts, AdamBigIdeal.Gen.facts, AdamBigRefIdeal.Gen.facts,
    SumSlots.Gen.facts, SumSlotsIdeal.Gen.facts, SumSlotsRefIdeal.Gen.facts,
    PairSum.Gen.facts, PairSumIdeal.Gen.facts, PairSumRefIdeal.Gen.facts, Pre_finite_attn.Gen.facts, Pre_finite_sgu.Gen.facts, Pre_finite_ffn.Gen.facts, Pre_finite_attnf.Gen.facts,
    fun m ρ _ => ConvBwd.Gen.frame m ρ,
    fun m ρ _ => ConvBwdIdeal.Gen.frame m ρ,
    fun m ρ _ => (ConvRefIdeal.Value.run_arrays m ρ).2,
    fun m ρ _ => AttnBwd.Hand.frame m ρ,
    fun m ρ _ => AttnBwdIdeal.Hand.frame m ρ,
    fun m ρ _ => AttnBwdIdeal.Hand.frame m ρ,
    attn_ref_frame,
    fun m ρ _ => attn_ref_frame m ρ trivial,
    fun m ρ _ => SguBwd.Gen.frame m ρ,
    fun m ρ _ => SguBwdIdeal.Gen.frame m ρ,
    fun m ρ _ => SguBwdIdeal.Gen.frame m ρ,
    sgu_ref_frame,
    fun m ρ _ => sgu_ref_frame m ρ trivial,
    fun m ρ _ => FfnBwd.Gen.frame m ρ,
    fun m ρ _ => FfnBwdIdeal.Gen.frame m ρ,
    fun m ρ _ => FfnBwdIdeal.Gen.frame m ρ,
    ffn_ref_frame,
    fun m ρ _ => ffn_ref_frame m ρ trivial,
    fun m ρ _ => RmsBwd.Gen.frame m ρ,
    fun m ρ _ => RmsBwdIdeal.Gen.frame m ρ,
    rms_ref_frame,
    fun m ρ _ => LossHead.Gen.frame m ρ,
    fun m ρ _ => LossHeadIdeal.Gen.frame m ρ,
    loss_ref_frame,
    fun m ρ _ => FfnIn.Gen.frame m ρ,
    fun m ρ _ => FfnInIdeal.Gen.frame m ρ,
    ffnin_ref_frame,
    fun m ρ _ => AttnFwd.Gen.frame m ρ,
    fun m ρ _ => AttnFwdIdeal.Gen.frame m ρ,
    fun m ρ _ => AttnFwdIdeal.Gen.frame m ρ,
    attnf_ref_frame,
    fun m ρ _ => attnf_ref_frame m ρ trivial,
    fun m ρ _ => SguFwd.Gen.frame m ρ,
    fun m ρ _ => SguFwdIdeal.Gen.frame m ρ,
    sguf_ref_frame,
    fun m ρ _ => MixOut.Gen.frame m ρ,
    fun m ρ _ => MixOutIdeal.Gen.frame m ρ,
    mixout_ref_frame,
    fun m ρ _ => FfnDown.Gen.frame m ρ,
    fun m ρ _ => FfnDownIdeal.Gen.frame m ρ,
    ffndown_ref_frame,
    fun m ρ _ => RmsFwd.Gen.frame m ρ,
    fun m ρ _ => RmsFwdIdeal.Gen.frame m ρ,
    rmsf_ref_frame,
    fun m ρ _ => ConvFwd.Gen.frame m ρ,
    fun m ρ _ => ConvFwdIdeal.Gen.frame m ρ,
    fun m ρ _ => (ConvFwdRefIdeal.Value.run_arrays m ρ).2,
    fun m ρ _ => MmCols.Gen.frame m ρ,
    fun m ρ _ => MmColsIdeal.Gen.frame m ρ,
    mmcols_ref_frame,
    fun m ρ _ => MmNt.Gen.frame m ρ,
    fun m ρ _ => MmNtIdeal.Gen.frame m ρ,
    mmnt_ref_frame,
    fun m ρ _ => MmNtCols.Gen.frame m ρ,
    fun m ρ _ => MmNtColsIdeal.Gen.frame m ρ,
    mmntcols_ref_frame,
    fun m ρ _ => MmTnCols.Gen.frame m ρ,
    fun m ρ _ => MmTnColsIdeal.Gen.frame m ρ,
    mmtncols_ref_frame,
    fun m ρ _ => MmTnRows.Gen.frame m ρ,
    fun m ρ _ => MmTnRowsIdeal.Gen.frame m ρ,
    mmtnrows_ref_frame,
    fun m ρ _ => FfnDwd.Gen.frame m ρ,
    fun m ρ _ => FfnDwdIdeal.Gen.frame m ρ,
    dwd_ref_frame,
    fun m ρ _ => FfnDwgu.Gen.frame m ρ,
    fun m ρ _ => FfnDwguIdeal.Gen.frame m ρ,
    dwgu_ref_frame,
    fun m ρ _ => FfnDh.Gen.frame m ρ,
    fun m ρ _ => FfnDhIdeal.Gen.frame m ρ,
    dh_ref_frame,
    fun m ρ _ => AdamSmall.Gen.frame m ρ,
    fun m ρ _ => AdamSmallIdeal.Gen.frame m ρ,
    adams_ref_frame,
    fun m ρ _ => AdamBig.Gen.frame m ρ,
    fun m ρ _ => AdamBigIdeal.Gen.frame m ρ,
    adam_ref_frame,
    fun m ρ _ => SumSlots.Gen.frame m ρ,
    fun m ρ _ => SumSlotsIdeal.Gen.frame m ρ,
    sums_ref_frame,
    fun m ρ _ => PairSum.Gen.frame m ρ,
    fun m ρ _ => PairSumIdeal.Gen.frame m ρ,
    pair_ref_frame,
    trivial, conv_value, attn_preserves, attn_value, sgu_preserves, sgu_value, trivial, ffn_value, trivial, rms_value, trivial, loss_value, trivial, ffnin_value, attnf_preserves, attnf_value, sguf_preserves, sguf_value, trivial, mixout_value, trivial, ffndown_value, trivial, rmsf_value, trivial, convf_value, trivial, mmcols_value, trivial, mmnt_value, trivial, mmntcols_value, trivial, mmtncols_value, trivial, mmtnrows_value, trivial, dwd_value, trivial, dwgu_value, trivial, dh_value, trivial, adams_value, trivial, adam_value, trivial, sums_value, trivial, pair_value⟩

end Cert.Proof
